-- ==== Defs.lean ====
def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActIdeal_ffn_act_finite [hPre_ffn_act_finite : Cert.Pre_ffn_act_finite.Facts] (m : (ℓ : Loc Cert.FfnActIdeal.nD Cert.FfnActIdeal.τ Cert.FfnActIdeal.sig) → Buf (Elt Ideal) ℓ) : Prop :=
  ∀ c : Dev Cert.FfnActIdeal.nD,
    (Cert.Pre_ffn_act_finite.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2)) (m ((c.tc : Thread Cert.FfnActIdeal.nD Cert.FfnActIdeal.τ).loc Cert.FfnActIdeal.main_arg3))).1 = (fun _ => 1#1)
    ∧ (Cert.Pre_ffn_act_finite.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2)) (m ((c.tc : Thread Cert.FfnActIdeal.nD Cert.FfnActIdeal.τ).loc Cert.FfnActIdeal.main_arg3))).2.1 = (fun _ => 1#1)
    ∧ (Cert.Pre_ffn_act_finite.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2)) (m ((c.tc : Thread Cert.FfnActIdeal.nD Cert.FfnActIdeal.τ).loc Cert.FfnActIdeal.main_arg3))).2.2.1 = (fun _ => 1#1)
    ∧ (Cert.Pre_ffn_act_finite.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2)) (m ((c.tc : Thread Cert.FfnActIdeal.nD Cert.FfnActIdeal.τ).loc Cert.FfnActIdeal.main_arg3))).2.2.2 = (fun _ => 1#1)

def Pre_FfnActRefIdeal (m : (ℓ : Loc Cert.FfnActRefIdeal.nD Cert.FfnActRefIdeal.τ Cert.FfnActRefIdeal.sig) → Buf (Elt Ideal) ℓ) : Prop :=
  True

def Pre_FfnActRefIdeal_ffn_act_finite [hPre_ffn_act_finite : Cert.Pre_ffn_act_finite.Facts] (m : (ℓ : Loc Cert.FfnActRefIdeal.nD Cert.FfnActRefIdeal.τ Cert.FfnActRefIdeal.sig) → Buf (Elt Ideal) ℓ) : Prop :=
  ∀ c : Dev Cert.FfnActRefIdeal.nD,
    (Cert.Pre_ffn_act_finite.fn (F := Ideal) (m ((c.tc : Thread Cert.FfnActRefIdeal.nD Cert.FfnActRefIdeal.τ).loc Cert.FfnActRefIdeal.main_arg0)) (m ((c.tc : Thread Cert.FfnActRefIdeal.nD Cert.FfnActRefIdeal.τ).loc Cert.FfnActRefIdeal.main_arg1)) (m ((c.tc : Thread Cert.FfnActRefIdeal.nD Cert.FfnActRefIdeal.τ).loc Cert.FfnActRefIdeal.main_arg2)) (m ((c.tc : Thread Cert.FfnActRefIdeal.nD Cert.FfnActRefIdeal.τ).loc Cert.FfnActRefIdeal.main_arg3))).1 = (fun _ => 1#1)
    ∧ (Cert.Pre_ffn_act_finite.fn (F := Ideal) (m ((c.tc : Thread Cert.FfnActRefIdeal.nD Cert.FfnActRefIdeal.τ).loc Cert.FfnActRefIdeal.main_arg0)) (m ((c.tc : Thread Cert.FfnActRefIdeal.nD Cert.FfnActRefIdeal.τ).loc Cert.FfnActRefIdeal.main_arg1)) (m ((c.tc : Thread Cert.FfnActRefIdeal.nD Cert.FfnActRefIdeal.τ).loc Cert.FfnActRefIdeal.main_arg2)) (m ((c.tc : Thread Cert.FfnActRefIdeal.nD Cert.FfnActRefIdeal.τ).loc Cert.FfnActRefIdeal.main_arg3))).2.1 = (fun _ => 1#1)
    ∧ (Cert.Pre_ffn_act_finite.fn (F := Ideal) (m ((c.tc : Thread Cert.FfnActRefIdeal.nD Cert.FfnActRefIdeal.τ).loc Cert.FfnActRefIdeal.main_arg0)) (m ((c.tc : Thread Cert.FfnActRefIdeal.nD Cert.FfnActRefIdeal.τ).loc Cert.FfnActRefIdeal.main_arg1)) (m ((c.tc : Thread Cert.FfnActRefIdeal.nD Cert.FfnActRefIdeal.τ).loc Cert.FfnActRefIdeal.main_arg2)) (m ((c.tc : Thread Cert.FfnActRefIdeal.nD Cert.FfnActRefIdeal.τ).loc Cert.FfnActRefIdeal.main_arg3))).2.2.1 = (fun _ => 1#1)
    ∧ (Cert.Pre_ffn_act_finite.fn (F := Ideal) (m ((c.tc : Thread Cert.FfnActRefIdeal.nD Cert.FfnActRefIdeal.τ).loc Cert.FfnActRefIdeal.main_arg0)) (m ((c.tc : Thread Cert.FfnActRefIdeal.nD Cert.FfnActRefIdeal.τ).loc Cert.FfnActRefIdeal.main_arg1)) (m ((c.tc : Thread Cert.FfnActRefIdeal.nD Cert.FfnActRefIdeal.τ).loc Cert.FfnActRefIdeal.main_arg2)) (m ((c.tc : Thread Cert.FfnActRefIdeal.nD Cert.FfnActRefIdeal.τ).loc Cert.FfnActRefIdeal.main_arg3))).2.2.2 = (fun _ => 1#1)

def Pre_FfnDwd (m : (ℓ : Loc Cert.FfnDwd.nD Cert.FfnDwd.τ Cert.FfnDwd.sig) → Buf (Elt Bits) ℓ) : Prop :=
  True

def Pre_FfnDwdIdeal (m : (ℓ : Loc Cert.FfnDwdIdeal.nD Cert.FfnDwdIdeal.τ Cert.FfnDwdIdeal.sig) → Buf (Elt Ideal) ℓ) : Prop :=
  True

def Pre_FfnDwdRefIdeal (m : (ℓ : Loc Cert.FfnDwdRefIdeal.nD Cert.FfnDwdRefIdeal.τ Cert.FfnDwdRefIdeal.sig) → Buf (Elt Ideal) ℓ) : Prop :=
  True

def Pre_FfnDwg (m : (ℓ : Loc Cert.FfnDwg.nD Cert.FfnDwg.τ Cert.FfnDwg.sig) → Buf (Elt Bits) ℓ) : Prop :=
  True

def Pre_FfnDwgIdeal (m : (ℓ : Loc Cert.FfnDwgIdeal.nD Cert.FfnDwgIdeal.τ Cert.FfnDwgIdeal.sig) → Buf (Elt Ideal) ℓ) : Prop :=
  True

def Pre_FfnDwgRefIdeal (m : (ℓ : Loc Cert.FfnDwgRefIdeal.nD Cert.FfnDwgRefIdeal.τ Cert.FfnDwgRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdIdeal_ln_bwd_finite [hPre_ln_bwd_finite : Cert.Pre_ln_bwd_finite.Facts] (m : (ℓ : Loc Cert.LnBwdIdeal.nD Cert.LnBwdIdeal.τ Cert.LnBwdIdeal.sig) → Buf (Elt Ideal) ℓ) : Prop :=
  ∀ c : Dev Cert.LnBwdIdeal.nD,
    (Cert.Pre_ln_bwd_finite.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4)) (m ((c.tc : Thread Cert.LnBwdIdeal.nD Cert.LnBwdIdeal.τ).loc Cert.LnBwdIdeal.main_arg5)) (m ((c.tc : Thread Cert.LnBwdIdeal.nD Cert.LnBwdIdeal.τ).loc Cert.LnBwdIdeal.main_arg6)) (m ((c.tc : Thread Cert.LnBwdIdeal.nD Cert.LnBwdIdeal.τ).loc Cert.LnBwdIdeal.main_arg7))).1 = (fun _ => 1#1)
    ∧ (Cert.Pre_ln_bwd_finite.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4)) (m ((c.tc : Thread Cert.LnBwdIdeal.nD Cert.LnBwdIdeal.τ).loc Cert.LnBwdIdeal.main_arg5)) (m ((c.tc : Thread Cert.LnBwdIdeal.nD Cert.LnBwdIdeal.τ).loc Cert.LnBwdIdeal.main_arg6)) (m ((c.tc : Thread Cert.LnBwdIdeal.nD Cert.LnBwdIdeal.τ).loc Cert.LnBwdIdeal.main_arg7))).2.1 = (fun _ => 1#1)
    ∧ (Cert.Pre_ln_bwd_finite.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4)) (m ((c.tc : Thread Cert.LnBwdIdeal.nD Cert.LnBwdIdeal.τ).loc Cert.LnBwdIdeal.main_arg5)) (m ((c.tc : Thread Cert.LnBwdIdeal.nD Cert.LnBwdIdeal.τ).loc Cert.LnBwdIdeal.main_arg6)) (m ((c.tc : Thread Cert.LnBwdIdeal.nD Cert.LnBwdIdeal.τ).loc Cert.LnBwdIdeal.main_arg7))).2.2.1 = (fun _ => 1#1)
    ∧ (Cert.Pre_ln_bwd_finite.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4)) (m ((c.tc : Thread Cert.LnBwdIdeal.nD Cert.LnBwdIdeal.τ).loc Cert.LnBwdIdeal.main_arg5)) (m ((c.tc : Thread Cert.LnBwdIdeal.nD Cert.LnBwdIdeal.τ).loc Cert.LnBwdIdeal.main_arg6)) (m ((c.tc : Thread Cert.LnBwdIdeal.nD Cert.LnBwdIdeal.τ).loc Cert.LnBwdIdeal.main_arg7))).2.2.2.1 = (fun _ => 1#1)
    ∧ (Cert.Pre_ln_bwd_finite.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4)) (m ((c.tc : Thread Cert.LnBwdIdeal.nD Cert.LnBwdIdeal.τ).loc Cert.LnBwdIdeal.main_arg5)) (m ((c.tc : Thread Cert.LnBwdIdeal.nD Cert.LnBwdIdeal.τ).loc Cert.LnBwdIdeal.main_arg6)) (m ((c.tc : Thread Cert.LnBwdIdeal.nD Cert.LnBwdIdeal.τ).loc Cert.LnBwdIdeal.main_arg7))).2.2.2.2.1 = (fun _ => 1#1)
    ∧ (Cert.Pre_ln_bwd_finite.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4)) (m ((c.tc : Thread Cert.LnBwdIdeal.nD Cert.LnBwdIdeal.τ).loc Cert.LnBwdIdeal.main_arg5)) (m ((c.tc : Thread Cert.LnBwdIdeal.nD Cert.LnBwdIdeal.τ).loc Cert.LnBwdIdeal.main_arg6)) (m ((c.tc : Thread Cert.LnBwdIdeal.nD Cert.LnBwdIdeal.τ).loc Cert.LnBwdIdeal.main_arg7))).2.2.2.2.2.1 = (fun _ => 1#1)
    ∧ (Cert.Pre_ln_bwd_finite.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4)) (m ((c.tc : Thread Cert.LnBwdIdeal.nD Cert.LnBwdIdeal.τ).loc Cert.LnBwdIdeal.main_arg5)) (m ((c.tc : Thread Cert.LnBwdIdeal.nD Cert.LnBwdIdeal.τ).loc Cert.LnBwdIdeal.main_arg6)) (m ((c.tc : Thread Cert.LnBwdIdeal.nD Cert.LnBwdIdeal.τ).loc Cert.LnBwdIdeal.main_arg7))).2.2.2.2.2.2 = (fun _ => 1#1)

def Pre_LnBwdRefIdeal (m : (ℓ : Loc Cert.LnBwdRefIdeal.nD Cert.LnBwdRefIdeal.τ Cert.LnBwdRefIdeal.sig) → Buf (Elt Ideal) ℓ) : Prop :=
  True

def Pre_LnBwdRefIdeal_ln_bwd_finite [hPre_ln_bwd_finite : Cert.Pre_ln_bwd_finite.Facts] (m : (ℓ : Loc Cert.LnBwdRefIdeal.nD Cert.LnBwdRefIdeal.τ Cert.LnBwdRefIdeal.sig) → Buf (Elt Ideal) ℓ) : Prop :=
  ∀ c : Dev Cert.LnBwdRefIdeal.nD,
    (Cert.Pre_ln_bwd_finite.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3)) (m ((c.tc : Thread Cert.LnBwdRefIdeal.nD Cert.LnBwdRefIdeal.τ).loc Cert.LnBwdRefIdeal.main_arg4)) (m ((c.tc : Thread Cert.LnBwdRefIdeal.nD Cert.LnBwdRefIdeal.τ).loc Cert.LnBwdRefIdeal.main_arg5)) (m ((c.tc : Thread Cert.LnBwdRefIdeal.nD Cert.LnBwdRefIdeal.τ).loc Cert.LnBwdRefIdeal.main_arg6)) (m ((c.tc : Thread Cert.LnBwdRefIdeal.nD Cert.LnBwdRefIdeal.τ).loc Cert.LnBwdRefIdeal.main_arg7))).1 = (fun _ => 1#1)
    ∧ (Cert.Pre_ln_bwd_finite.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3)) (m ((c.tc : Thread Cert.LnBwdRefIdeal.nD Cert.LnBwdRefIdeal.τ).loc Cert.LnBwdRefIdeal.main_arg4)) (m ((c.tc : Thread Cert.LnBwdRefIdeal.nD Cert.LnBwdRefIdeal.τ).loc Cert.LnBwdRefIdeal.main_arg5)) (m ((c.tc : Thread Cert.LnBwdRefIdeal.nD Cert.LnBwdRefIdeal.τ).loc Cert.LnBwdRefIdeal.main_arg6)) (m ((c.tc : Thread Cert.LnBwdRefIdeal.nD Cert.LnBwdRefIdeal.τ).loc Cert.LnBwdRefIdeal.main_arg7))).2.1 = (fun _ => 1#1)
    ∧ (Cert.Pre_ln_bwd_finite.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3)) (m ((c.tc : Thread Cert.LnBwdRefIdeal.nD Cert.LnBwdRefIdeal.τ).loc Cert.LnBwdRefIdeal.main_arg4)) (m ((c.tc : Thread Cert.LnBwdRefIdeal.nD Cert.LnBwdRefIdeal.τ).loc Cert.LnBwdRefIdeal.main_arg5)) (m ((c.tc : Thread Cert.LnBwdRefIdeal.nD Cert.LnBwdRefIdeal.τ).loc Cert.LnBwdRefIdeal.main_arg6)) (m ((c.tc : Thread Cert.LnBwdRefIdeal.nD Cert.LnBwdRefIdeal.τ).loc Cert.LnBwdRefIdeal.main_arg7))).2.2.1 = (fun _ => 1#1)
    ∧ (Cert.Pre_ln_bwd_finite.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3)) (m ((c.tc : Thread Cert.LnBwdRefIdeal.nD Cert.LnBwdRefIdeal.τ).loc Cert.LnBwdRefIdeal.main_arg4)) (m ((c.tc : Thread Cert.LnBwdRefIdeal.nD Cert.LnBwdRefIdeal.τ).loc Cert.LnBwdRefIdeal.main_arg5)) (m ((c.tc : Thread Cert.LnBwdRefIdeal.nD Cert.LnBwdRefIdeal.τ).loc Cert.LnBwdRefIdeal.main_arg6)) (m ((c.tc : Thread Cert.LnBwdRefIdeal.nD Cert.LnBwdRefIdeal.τ).loc Cert.LnBwdRefIdeal.main_arg7))).2.2.2.1 = (fun _ => 1#1)
    ∧ (Cert.Pre_ln_bwd_finite.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3)) (m ((c.tc : Thread Cert.LnBwdRefIdeal.nD Cert.LnBwdRefIdeal.τ).loc Cert.LnBwdRefIdeal.main_arg4)) (m ((c.tc : Thread Cert.LnBwdRefIdeal.nD Cert.LnBwdRefIdeal.τ).loc Cert.LnBwdRefIdeal.main_arg5)) (m ((c.tc : Thread Cert.LnBwdRefIdeal.nD Cert.LnBwdRefIdeal.τ).loc Cert.LnBwdRefIdeal.main_arg6)) (m ((c.tc : Thread Cert.LnBwdRefIdeal.nD Cert.LnBwdRefIdeal.τ).loc Cert.LnBwdRefIdeal.main_arg7))).2.2.2.2.1 = (fun _ => 1#1)
    ∧ (Cert.Pre_ln_bwd_finite.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3)) (m ((c.tc : Thread Cert.LnBwdRefIdeal.nD Cert.LnBwdRefIdeal.τ).loc Cert.LnBwdRefIdeal.main_arg4)) (m ((c.tc : Thread Cert.LnBwdRefIdeal.nD Cert.LnBwdRefIdeal.τ).loc Cert.LnBwdRefIdeal.main_arg5)) (m ((c.tc : Thread Cert.LnBwdRefIdeal.nD Cert.LnBwdRefIdeal.τ).loc Cert.LnBwdRefIdeal.main_arg6)) (m ((c.tc : Thread Cert.LnBwdRefIdeal.nD Cert.LnBwdRefIdeal.τ).loc Cert.LnBwdRefIdeal.main_arg7))).2.2.2.2.2.1 = (fun _ => 1#1)
    ∧ (Cert.Pre_ln_bwd_finite.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3)) (m ((c.tc : Thread Cert.LnBwdRefIdeal.nD Cert.LnBwdRefIdeal.τ).loc Cert.LnBwdRefIdeal.main_arg4)) (m ((c.tc : Thread Cert.LnBwdRefIdeal.nD Cert.LnBwdRefIdeal.τ).loc Cert.LnBwdRefIdeal.main_arg5)) (m ((c.tc : Thread Cert.LnBwdRefIdeal.nD Cert.LnBwdRefIdeal.τ).loc Cert.LnBwdRefIdeal.main_arg6)) (m ((c.tc : Thread Cert.LnBwdRefIdeal.nD Cert.LnBwdRefIdeal.τ).loc Cert.LnBwdRefIdeal.main_arg7))).2.2.2.2.2.2 = (fun _ => 1#1)

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdRefIdeal (m : (ℓ : Loc Cert.InBwdRefIdeal.nD Cert.InBwdRefIdeal.τ Cert.InBwdRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_Ln1Bwd (m : (ℓ : Loc Cert.Ln1Bwd.nD Cert.Ln1Bwd.τ Cert.Ln1Bwd.sig) → Buf (Elt Bits) ℓ) : Prop :=
  True

def Pre_Ln1BwdIdeal (m : (ℓ : Loc Cert.Ln1BwdIdeal.nD Cert.Ln1BwdIdeal.τ Cert.Ln1BwdIdeal.sig) → Buf (Elt Ideal) ℓ) : Prop :=
  True

def Pre_Ln1BwdIdeal_ln1_bwd_finite [hPre_ln1_bwd_finite : Cert.Pre_ln1_bwd_finite.Facts] (m : (ℓ : Loc Cert.Ln1BwdIdeal.nD Cert.Ln1BwdIdeal.τ Cert.Ln1BwdIdeal.sig) → Buf (Elt Ideal) ℓ) : Prop :=
  ∀ c : Dev Cert.Ln1BwdIdeal.nD,
    (Cert.Pre_ln1_bwd_finite.fn (F := Ideal) (m ((c.tc : Thread Cert.Ln1BwdIdeal.nD Cert.Ln1BwdIdeal.τ).loc Cert.Ln1BwdIdeal.main_arg0)) (m ((c.tc : Thread Cert.Ln1BwdIdeal.nD Cert.Ln1BwdIdeal.τ).loc Cert.Ln1BwdIdeal.main_arg1)) (m ((c.tc : Thread Cert.Ln1BwdIdeal.nD Cert.Ln1BwdIdeal.τ).loc Cert.Ln1BwdIdeal.main_arg2)) (m ((c.tc : Thread Cert.Ln1BwdIdeal.nD Cert.Ln1BwdIdeal.τ).loc Cert.Ln1BwdIdeal.main_arg3)) (m ((c.tc : Thread Cert.Ln1BwdIdeal.nD Cert.Ln1BwdIdeal.τ).loc Cert.Ln1BwdIdeal.main_arg4)) (m ((c.tc : Thread Cert.Ln1BwdIdeal.nD Cert.Ln1BwdIdeal.τ).loc Cert.Ln1BwdIdeal.main_arg5))).1 = (fun _ => 1#1)
    ∧ (Cert.Pre_ln1_bwd_finite.fn (F := Ideal) (m ((c.tc : Thread Cert.Ln1BwdIdeal.nD Cert.Ln1BwdIdeal.τ).loc Cert.Ln1BwdIdeal.main_arg0)) (m ((c.tc : Thread Cert.Ln1BwdIdeal.nD Cert.Ln1BwdIdeal.τ).loc Cert.Ln1BwdIdeal.main_arg1)) (m ((c.tc : Thread Cert.Ln1BwdIdeal.nD Cert.Ln1BwdIdeal.τ).loc Cert.Ln1BwdIdeal.main_arg2)) (m ((c.tc : Thread Cert.Ln1BwdIdeal.nD Cert.Ln1BwdIdeal.τ).loc Cert.Ln1BwdIdeal.main_arg3)) (m ((c.tc : Thread Cert.Ln1BwdIdeal.nD Cert.Ln1BwdIdeal.τ).loc Cert.Ln1BwdIdeal.main_arg4)) (m ((c.tc : Thread Cert.Ln1BwdIdeal.nD Cert.Ln1BwdIdeal.τ).loc Cert.Ln1BwdIdeal.main_arg5))).2.1 = (fun _ => 1#1)
    ∧ (Cert.Pre_ln1_bwd_finite.fn (F := Ideal) (m ((c.tc : Thread Cert.Ln1BwdIdeal.nD Cert.Ln1BwdIdeal.τ).loc Cert.Ln1BwdIdeal.main_arg0)) (m ((c.tc : Thread Cert.Ln1BwdIdeal.nD Cert.Ln1BwdIdeal.τ).loc Cert.Ln1BwdIdeal.main_arg1)) (m ((c.tc : Thread Cert.Ln1BwdIdeal.nD Cert.Ln1BwdIdeal.τ).loc Cert.Ln1BwdIdeal.main_arg2)) (m ((c.tc : Thread Cert.Ln1BwdIdeal.nD Cert.Ln1BwdIdeal.τ).loc Cert.Ln1BwdIdeal.main_arg3)) (m ((c.tc : Thread Cert.Ln1BwdIdeal.nD Cert.Ln1BwdIdeal.τ).loc Cert.Ln1BwdIdeal.main_arg4)) (m ((c.tc : Thread Cert.Ln1BwdIdeal.nD Cert.Ln1BwdIdeal.τ).loc Cert.Ln1BwdIdeal.main_arg5))).2.2.1 = (fun _ => 1#1)
    ∧ (Cert.Pre_ln1_bwd_finite.fn (F := Ideal) (m ((c.tc : Thread Cert.Ln1BwdIdeal.nD Cert.Ln1BwdIdeal.τ).loc Cert.Ln1BwdIdeal.main_arg0)) (m ((c.tc : Thread Cert.Ln1BwdIdeal.nD Cert.Ln1BwdIdeal.τ).loc Cert.Ln1BwdIdeal.main_arg1)) (m ((c.tc : Thread Cert.Ln1BwdIdeal.nD Cert.Ln1BwdIdeal.τ).loc Cert.Ln1BwdIdeal.main_arg2)) (m ((c.tc : Thread Cert.Ln1BwdIdeal.nD Cert.Ln1BwdIdeal.τ).loc Cert.Ln1BwdIdeal.main_arg3)) (m ((c.tc : Thread Cert.Ln1BwdIdeal.nD Cert.Ln1BwdIdeal.τ).loc Cert.Ln1BwdIdeal.main_arg4)) (m ((c.tc : Thread Cert.Ln1BwdIdeal.nD Cert.Ln1BwdIdeal.τ).loc Cert.Ln1BwdIdeal.main_arg5))).2.2.2.1 = (fun _ => 1#1)
    ∧ (Cert.Pre_ln1_bwd_finite.fn (F := Ideal) (m ((c.tc : Thread Cert.Ln1BwdIdeal.nD Cert.Ln1BwdIdeal.τ).loc Cert.Ln1BwdIdeal.main_arg0)) (m ((c.tc : Thread Cert.Ln1BwdIdeal.nD Cert.Ln1BwdIdeal.τ).loc Cert.Ln1BwdIdeal.main_arg1)) (m ((c.tc : Thread Cert.Ln1BwdIdeal.nD Cert.Ln1BwdIdeal.τ).loc Cert.Ln1BwdIdeal.main_arg2)) (m ((c.tc : Thread Cert.Ln1BwdIdeal.nD Cert.Ln1BwdIdeal.τ).loc Cert.Ln1BwdIdeal.main_arg3)) (m ((c.tc : Thread Cert.Ln1BwdIdeal.nD Cert.Ln1BwdIdeal.τ).loc Cert.Ln1BwdIdeal.main_arg4)) (m ((c.tc : Thread Cert.Ln1BwdIdeal.nD Cert.Ln1BwdIdeal.τ).loc Cert.Ln1BwdIdeal.main_arg5))).2.2.2.2 = (fun _ => 1#1)

def Pre_Ln1BwdRefIdeal (m : (ℓ : Loc Cert.Ln1BwdRefIdeal.nD Cert.Ln1BwdRefIdeal.τ Cert.Ln1BwdRefIdeal.sig) → Buf (Elt Ideal) ℓ) : Prop :=
  True

def Pre_Ln1BwdRefIdeal_ln1_bwd_finite [hPre_ln1_bwd_finite : Cert.Pre_ln1_bwd_finite.Facts] (m : (ℓ : Loc Cert.Ln1BwdRefIdeal.nD Cert.Ln1BwdRefIdeal.τ Cert.Ln1BwdRefIdeal.sig) → Buf (Elt Ideal) ℓ) : Prop :=
  ∀ c : Dev Cert.Ln1BwdRefIdeal.nD,
    (Cert.Pre_ln1_bwd_finite.fn (F := Ideal) (m ((c.tc : Thread Cert.Ln1BwdRefIdeal.nD Cert.Ln1BwdRefIdeal.τ).loc Cert.Ln1BwdRefIdeal.main_arg0)) (m ((c.tc : Thread Cert.Ln1BwdRefIdeal.nD Cert.Ln1BwdRefIdeal.τ).loc Cert.Ln1BwdRefIdeal.main_arg1)) (m ((c.tc : Thread Cert.Ln1BwdRefIdeal.nD Cert.Ln1BwdRefIdeal.τ).loc Cert.Ln1BwdRefIdeal.main_arg2)) (m ((c.tc : Thread Cert.Ln1BwdRefIdeal.nD Cert.Ln1BwdRefIdeal.τ).loc Cert.Ln1BwdRefIdeal.main_arg3)) (m ((c.tc : Thread Cert.Ln1BwdRefIdeal.nD Cert.Ln1BwdRefIdeal.τ).loc Cert.Ln1BwdRefIdeal.main_arg4)) (m ((c.tc : Thread Cert.Ln1BwdRefIdeal.nD Cert.Ln1BwdRefIdeal.τ).loc Cert.Ln1BwdRefIdeal.main_arg5))).1 = (fun _ => 1#1)
    ∧ (Cert.Pre_ln1_bwd_finite.fn (F := Ideal) (m ((c.tc : Thread Cert.Ln1BwdRefIdeal.nD Cert.Ln1BwdRefIdeal.τ).loc Cert.Ln1BwdRefIdeal.main_arg0)) (m ((c.tc : Thread Cert.Ln1BwdRefIdeal.nD Cert.Ln1BwdRefIdeal.τ).loc Cert.Ln1BwdRefIdeal.main_arg1)) (m ((c.tc : Thread Cert.Ln1BwdRefIdeal.nD Cert.Ln1BwdRefIdeal.τ).loc Cert.Ln1BwdRefIdeal.main_arg2)) (m ((c.tc : Thread Cert.Ln1BwdRefIdeal.nD Cert.Ln1BwdRefIdeal.τ).loc Cert.Ln1BwdRefIdeal.main_arg3)) (m ((c.tc : Thread Cert.Ln1BwdRefIdeal.nD Cert.Ln1BwdRefIdeal.τ).loc Cert.Ln1BwdRefIdeal.main_arg4)) (m ((c.tc : Thread Cert.Ln1BwdRefIdeal.nD Cert.Ln1BwdRefIdeal.τ).loc Cert.Ln1BwdRefIdeal.main_arg5))).2.1 = (fun _ => 1#1)
    ∧ (Cert.Pre_ln1_bwd_finite.fn (F := Ideal) (m ((c.tc : Thread Cert.Ln1BwdRefIdeal.nD Cert.Ln1BwdRefIdeal.τ).loc Cert.Ln1BwdRefIdeal.main_arg0)) (m ((c.tc : Thread Cert.Ln1BwdRefIdeal.nD Cert.Ln1BwdRefIdeal.τ).loc Cert.Ln1BwdRefIdeal.main_arg1)) (m ((c.tc : Thread Cert.Ln1BwdRefIdeal.nD Cert.Ln1BwdRefIdeal.τ).loc Cert.Ln1BwdRefIdeal.main_arg2)) (m ((c.tc : Thread Cert.Ln1BwdRefIdeal.nD Cert.Ln1BwdRefIdeal.τ).loc Cert.Ln1BwdRefIdeal.main_arg3)) (m ((c.tc : Thread Cert.Ln1BwdRefIdeal.nD Cert.Ln1BwdRefIdeal.τ).loc Cert.Ln1BwdRefIdeal.main_arg4)) (m ((c.tc : Thread Cert.Ln1BwdRefIdeal.nD Cert.Ln1BwdRefIdeal.τ).loc Cert.Ln1BwdRefIdeal.main_arg5))).2.2.1 = (fun _ => 1#1)
    ∧ (Cert.Pre_ln1_bwd_finite.fn (F := Ideal) (m ((c.tc : Thread Cert.Ln1BwdRefIdeal.nD Cert.Ln1BwdRefIdeal.τ).loc Cert.Ln1BwdRefIdeal.main_arg0)) (m ((c.tc : Thread Cert.Ln1BwdRefIdeal.nD Cert.Ln1BwdRefIdeal.τ).loc Cert.Ln1BwdRefIdeal.main_arg1)) (m ((c.tc : Thread Cert.Ln1BwdRefIdeal.nD Cert.Ln1BwdRefIdeal.τ).loc Cert.Ln1BwdRefIdeal.main_arg2)) (m ((c.tc : Thread Cert.Ln1BwdRefIdeal.nD Cert.Ln1BwdRefIdeal.τ).loc Cert.Ln1BwdRefIdeal.main_arg3)) (m ((c.tc : Thread Cert.Ln1BwdRefIdeal.nD Cert.Ln1BwdRefIdeal.τ).loc Cert.Ln1BwdRefIdeal.main_arg4)) (m ((c.tc : Thread Cert.Ln1BwdRefIdeal.nD Cert.Ln1BwdRefIdeal.τ).loc Cert.Ln1BwdRefIdeal.main_arg5))).2.2.2.1 = (fun _ => 1#1)
    ∧ (Cert.Pre_ln1_bwd_finite.fn (F := Ideal) (m ((c.tc : Thread Cert.Ln1BwdRefIdeal.nD Cert.Ln1BwdRefIdeal.τ).loc Cert.Ln1BwdRefIdeal.main_arg0)) (m ((c.tc : Thread Cert.Ln1BwdRefIdeal.nD Cert.Ln1BwdRefIdeal.τ).loc Cert.Ln1BwdRefIdeal.main_arg1)) (m ((c.tc : Thread Cert.Ln1BwdRefIdeal.nD Cert.Ln1BwdRefIdeal.τ).loc Cert.Ln1BwdRefIdeal.main_arg2)) (m ((c.tc : Thread Cert.Ln1BwdRefIdeal.nD Cert.Ln1BwdRefIdeal.τ).loc Cert.Ln1BwdRefIdeal.main_arg3)) (m ((c.tc : Thread Cert.Ln1BwdRefIdeal.nD Cert.Ln1BwdRefIdeal.τ).loc Cert.Ln1BwdRefIdeal.main_arg4)) (m ((c.tc : Thread Cert.Ln1BwdRefIdeal.nD Cert.Ln1BwdRefIdeal.τ).loc Cert.Ln1BwdRefIdeal.main_arg5))).2.2.2.2 = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdRefIdeal (m : (ℓ : Loc Cert.MixBwdRefIdeal.nD Cert.MixBwdRefIdeal.τ Cert.MixBwdRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdRefIdeal (m : (ℓ : Loc Cert.GateBwdRefIdeal.nD Cert.GateBwdRefIdeal.τ Cert.GateBwdRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_Ln3Bwd (m : (ℓ : Loc Cert.Ln3Bwd.nD Cert.Ln3Bwd.τ Cert.Ln3Bwd.sig) → Buf (Elt Bits) ℓ) : Prop :=
  True

def Pre_Ln3BwdIdeal (m : (ℓ : Loc Cert.Ln3BwdIdeal.nD Cert.Ln3BwdIdeal.τ Cert.Ln3BwdIdeal.sig) → Buf (Elt Ideal) ℓ) : Prop :=
  True

def Pre_Ln3BwdIdeal_ln3_bwd_finite [hPre_ln3_bwd_finite : Cert.Pre_ln3_bwd_finite.Facts] (m : (ℓ : Loc Cert.Ln3BwdIdeal.nD Cert.Ln3BwdIdeal.τ Cert.Ln3BwdIdeal.sig) → Buf (Elt Ideal) ℓ) : Prop :=
  ∀ c : Dev Cert.Ln3BwdIdeal.nD,
    (Cert.Pre_ln3_bwd_finite.fn (F := Ideal) (m ((c.tc : Thread Cert.Ln3BwdIdeal.nD Cert.Ln3BwdIdeal.τ).loc Cert.Ln3BwdIdeal.main_arg0)) (m ((c.tc : Thread Cert.Ln3BwdIdeal.nD Cert.Ln3BwdIdeal.τ).loc Cert.Ln3BwdIdeal.main_arg1)) (m ((c.tc : Thread Cert.Ln3BwdIdeal.nD Cert.Ln3BwdIdeal.τ).loc Cert.Ln3BwdIdeal.main_arg2)) (m ((c.tc : Thread Cert.Ln3BwdIdeal.nD Cert.Ln3BwdIdeal.τ).loc Cert.Ln3BwdIdeal.main_arg3)) (m ((c.tc : Thread Cert.Ln3BwdIdeal.nD Cert.Ln3BwdIdeal.τ).loc Cert.Ln3BwdIdeal.main_arg4)) (m ((c.tc : Thread Cert.Ln3BwdIdeal.nD Cert.Ln3BwdIdeal.τ).loc Cert.Ln3BwdIdeal.main_arg5))).1 = (fun _ => 1#1)
    ∧ (Cert.Pre_ln3_bwd_finite.fn (F := Ideal) (m ((c.tc : Thread Cert.Ln3BwdIdeal.nD Cert.Ln3BwdIdeal.τ).loc Cert.Ln3BwdIdeal.main_arg0)) (m ((c.tc : Thread Cert.Ln3BwdIdeal.nD Cert.Ln3BwdIdeal.τ).loc Cert.Ln3BwdIdeal.main_arg1)) (m ((c.tc : Thread Cert.Ln3BwdIdeal.nD Cert.Ln3BwdIdeal.τ).loc Cert.Ln3BwdIdeal.main_arg2)) (m ((c.tc : Thread Cert.Ln3BwdIdeal.nD Cert.Ln3BwdIdeal.τ).loc Cert.Ln3BwdIdeal.main_arg3)) (m ((c.tc : Thread Cert.Ln3BwdIdeal.nD Cert.Ln3BwdIdeal.τ).loc Cert.Ln3BwdIdeal.main_arg4)) (m ((c.tc : Thread Cert.Ln3BwdIdeal.nD Cert.Ln3BwdIdeal.τ).loc Cert.Ln3BwdIdeal.main_arg5))).2.1 = (fun _ => 1#1)
    ∧ (Cert.Pre_ln3_bwd_finite.fn (F := Ideal) (m ((c.tc : Thread Cert.Ln3BwdIdeal.nD Cert.Ln3BwdIdeal.τ).loc Cert.Ln3BwdIdeal.main_arg0)) (m ((c.tc : Thread Cert.Ln3BwdIdeal.nD Cert.Ln3BwdIdeal.τ).loc Cert.Ln3BwdIdeal.main_arg1)) (m ((c.tc : Thread Cert.Ln3BwdIdeal.nD Cert.Ln3BwdIdeal.τ).loc Cert.Ln3BwdIdeal.main_arg2)) (m ((c.tc : Thread Cert.Ln3BwdIdeal.nD Cert.Ln3BwdIdeal.τ).loc Cert.Ln3BwdIdeal.main_arg3)) (m ((c.tc : Thread Cert.Ln3BwdIdeal.nD Cert.Ln3BwdIdeal.τ).loc Cert.Ln3BwdIdeal.main_arg4)) (m ((c.tc : Thread Cert.Ln3BwdIdeal.nD Cert.Ln3BwdIdeal.τ).loc Cert.Ln3BwdIdeal.main_arg5))).2.2.1 = (fun _ => 1#1)
    ∧ (Cert.Pre_ln3_bwd_finite.fn (F := Ideal) (m ((c.tc : Thread Cert.Ln3BwdIdeal.nD Cert.Ln3BwdIdeal.τ).loc Cert.Ln3BwdIdeal.main_arg0)) (m ((c.tc : Thread Cert.Ln3BwdIdeal.nD Cert.Ln3BwdIdeal.τ).loc Cert.Ln3BwdIdeal.main_arg1)) (m ((c.tc : Thread Cert.Ln3BwdIdeal.nD Cert.Ln3BwdIdeal.τ).loc Cert.Ln3BwdIdeal.main_arg2)) (m ((c.tc : Thread Cert.Ln3BwdIdeal.nD Cert.Ln3BwdIdeal.τ).loc Cert.Ln3BwdIdeal.main_arg3)) (m ((c.tc : Thread Cert.Ln3BwdIdeal.nD Cert.Ln3BwdIdeal.τ).loc Cert.Ln3BwdIdeal.main_arg4)) (m ((c.tc : Thread Cert.Ln3BwdIdeal.nD Cert.Ln3BwdIdeal.τ).loc Cert.Ln3BwdIdeal.main_arg5))).2.2.2.1 = (fun _ => 1#1)
    ∧ (Cert.Pre_ln3_bwd_finite.fn (F := Ideal) (m ((c.tc : Thread Cert.Ln3BwdIdeal.nD Cert.Ln3BwdIdeal.τ).loc Cert.Ln3BwdIdeal.main_arg0)) (m ((c.tc : Thread Cert.Ln3BwdIdeal.nD Cert.Ln3BwdIdeal.τ).loc Cert.Ln3BwdIdeal.main_arg1)) (m ((c.tc : Thread Cert.Ln3BwdIdeal.nD Cert.Ln3BwdIdeal.τ).loc Cert.Ln3BwdIdeal.main_arg2)) (m ((c.tc : Thread Cert.Ln3BwdIdeal.nD Cert.Ln3BwdIdeal.τ).loc Cert.Ln3BwdIdeal.main_arg3)) (m ((c.tc : Thread Cert.Ln3BwdIdeal.nD Cert.Ln3BwdIdeal.τ).loc Cert.Ln3BwdIdeal.main_arg4)) (m ((c.tc : Thread Cert.Ln3BwdIdeal.nD Cert.Ln3BwdIdeal.τ).loc Cert.Ln3BwdIdeal.main_arg5))).2.2.2.2 = (fun _ => 1#1)

def Pre_Ln3BwdRefIdeal (m : (ℓ : Loc Cert.Ln3BwdRefIdeal.nD Cert.Ln3BwdRefIdeal.τ Cert.Ln3BwdRefIdeal.sig) → Buf (Elt Ideal) ℓ) : Prop :=
  True

def Pre_Ln3BwdRefIdeal_ln3_bwd_finite [hPre_ln3_bwd_finite : Cert.Pre_ln3_bwd_finite.Facts] (m : (ℓ : Loc Cert.Ln3BwdRefIdeal.nD Cert.Ln3BwdRefIdeal.τ Cert.Ln3BwdRefIdeal.sig) → Buf (Elt Ideal) ℓ) : Prop :=
  ∀ c : Dev Cert.Ln3BwdRefIdeal.nD,
    (Cert.Pre_ln3_bwd_finite.fn (F := Ideal) (m ((c.tc : Thread Cert.Ln3BwdRefIdeal.nD Cert.Ln3BwdRefIdeal.τ).loc Cert.Ln3BwdRefIdeal.main_arg0)) (m ((c.tc : Thread Cert.Ln3BwdRefIdeal.nD Cert.Ln3BwdRefIdeal.τ).loc Cert.Ln3BwdRefIdeal.main_arg1)) (m ((c.tc : Thread Cert.Ln3BwdRefIdeal.nD Cert.Ln3BwdRefIdeal.τ).loc Cert.Ln3BwdRefIdeal.main_arg2)) (m ((c.tc : Thread Cert.Ln3BwdRefIdeal.nD Cert.Ln3BwdRefIdeal.τ).loc Cert.Ln3BwdRefIdeal.main_arg3)) (m ((c.tc : Thread Cert.Ln3BwdRefIdeal.nD Cert.Ln3BwdRefIdeal.τ).loc Cert.Ln3BwdRefIdeal.main_arg4)) (m ((c.tc : Thread Cert.Ln3BwdRefIdeal.nD Cert.Ln3BwdRefIdeal.τ).loc Cert.Ln3BwdRefIdeal.main_arg5))).1 = (fun _ => 1#1)
    ∧ (Cert.Pre_ln3_bwd_finite.fn (F := Ideal) (m ((c.tc : Thread Cert.Ln3BwdRefIdeal.nD Cert.Ln3BwdRefIdeal.τ).loc Cert.Ln3BwdRefIdeal.main_arg0)) (m ((c.tc : Thread Cert.Ln3BwdRefIdeal.nD Cert.Ln3BwdRefIdeal.τ).loc Cert.Ln3BwdRefIdeal.main_arg1)) (m ((c.tc : Thread Cert.Ln3BwdRefIdeal.nD Cert.Ln3BwdRefIdeal.τ).loc Cert.Ln3BwdRefIdeal.main_arg2)) (m ((c.tc : Thread Cert.Ln3BwdRefIdeal.nD Cert.Ln3BwdRefIdeal.τ).loc Cert.Ln3BwdRefIdeal.main_arg3)) (m ((c.tc : Thread Cert.Ln3BwdRefIdeal.nD Cert.Ln3BwdRefIdeal.τ).loc Cert.Ln3BwdRefIdeal.main_arg4)) (m ((c.tc : Thread Cert.Ln3BwdRefIdeal.nD Cert.Ln3BwdRefIdeal.τ).loc Cert.Ln3BwdRefIdeal.main_arg5))).2.1 = (fun _ => 1#1)
    ∧ (Cert.Pre_ln3_bwd_finite.fn (F := Ideal) (m ((c.tc : Thread Cert.Ln3BwdRefIdeal.nD Cert.Ln3BwdRefIdeal.τ).loc Cert.Ln3BwdRefIdeal.main_arg0)) (m ((c.tc : Thread Cert.Ln3BwdRefIdeal.nD Cert.Ln3BwdRefIdeal.τ).loc Cert.Ln3BwdRefIdeal.main_arg1)) (m ((c.tc : Thread Cert.Ln3BwdRefIdeal.nD Cert.Ln3BwdRefIdeal.τ).loc Cert.Ln3BwdRefIdeal.main_arg2)) (m ((c.tc : Thread Cert.Ln3BwdRefIdeal.nD Cert.Ln3BwdRefIdeal.τ).loc Cert.Ln3BwdRefIdeal.main_arg3)) (m ((c.tc : Thread Cert.Ln3BwdRefIdeal.nD Cert.Ln3BwdRefIdeal.τ).loc Cert.Ln3BwdRefIdeal.main_arg4)) (m ((c.tc : Thread Cert.Ln3BwdRefIdeal.nD Cert.Ln3BwdRefIdeal.τ).loc Cert.Ln3BwdRefIdeal.main_arg5))).2.2.1 = (fun _ => 1#1)
    ∧ (Cert.Pre_ln3_bwd_finite.fn (F := Ideal) (m ((c.tc : Thread Cert.Ln3BwdRefIdeal.nD Cert.Ln3BwdRefIdeal.τ).loc Cert.Ln3BwdRefIdeal.main_arg0)) (m ((c.tc : Thread Cert.Ln3BwdRefIdeal.nD Cert.Ln3BwdRefIdeal.τ).loc Cert.Ln3BwdRefIdeal.main_arg1)) (m ((c.tc : Thread Cert.Ln3BwdRefIdeal.nD Cert.Ln3BwdRefIdeal.τ).loc Cert.Ln3BwdRefIdeal.main_arg2)) (m ((c.tc : Thread Cert.Ln3BwdRefIdeal.nD Cert.Ln3BwdRefIdeal.τ).loc Cert.Ln3BwdRefIdeal.main_arg3)) (m ((c.tc : Thread Cert.Ln3BwdRefIdeal.nD Cert.Ln3BwdRefIdeal.τ).loc Cert.Ln3BwdRefIdeal.main_arg4)) (m ((c.tc : Thread Cert.Ln3BwdRefIdeal.nD Cert.Ln3BwdRefIdeal.τ).loc Cert.Ln3BwdRefIdeal.main_arg5))).2.2.2.1 = (fun _ => 1#1)
    ∧ (Cert.Pre_ln3_bwd_finite.fn (F := Ideal) (m ((c.tc : Thread Cert.Ln3BwdRefIdeal.nD Cert.Ln3BwdRefIdeal.τ).loc Cert.Ln3BwdRefIdeal.main_arg0)) (m ((c.tc : Thread Cert.Ln3BwdRefIdeal.nD Cert.Ln3BwdRefIdeal.τ).loc Cert.Ln3BwdRefIdeal.main_arg1)) (m ((c.tc : Thread Cert.Ln3BwdRefIdeal.nD Cert.Ln3BwdRefIdeal.τ).loc Cert.Ln3BwdRefIdeal.main_arg2)) (m ((c.tc : Thread Cert.Ln3BwdRefIdeal.nD Cert.Ln3BwdRefIdeal.τ).loc Cert.Ln3BwdRefIdeal.main_arg3)) (m ((c.tc : Thread Cert.Ln3BwdRefIdeal.nD Cert.Ln3BwdRefIdeal.τ).loc Cert.Ln3BwdRefIdeal.main_arg4)) (m ((c.tc : Thread Cert.Ln3BwdRefIdeal.nD Cert.Ln3BwdRefIdeal.τ).loc Cert.Ln3BwdRefIdeal.main_arg5))).2.2.2.2 = (fun _ => 1#1)

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamProj (m : (ℓ : Loc Cert.AdamProj.nD Cert.AdamProj.τ Cert.AdamProj.sig) → Buf (Elt Bits) ℓ) : Prop :=
  True

def Pre_AdamProjIdeal (m : (ℓ : Loc Cert.AdamProjIdeal.nD Cert.AdamProjIdeal.τ Cert.AdamProjIdeal.sig) → Buf (Elt Ideal) ℓ) : Prop :=
  True

def Pre_AdamProjRefIdeal (m : (ℓ : Loc Cert.AdamProjRefIdeal.nD Cert.AdamProjRefIdeal.τ Cert.AdamProjRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_FoxPost (m : (ℓ : Loc Cert.FoxPost.nD Cert.FoxPost.τ Cert.FoxPost.sig) → Buf (Elt Bits) ℓ) : Prop :=
  True

def Pre_FoxPostIdeal (m : (ℓ : Loc Cert.FoxPostIdeal.nD Cert.FoxPostIdeal.τ Cert.FoxPostIdeal.sig) → Buf (Elt Ideal) ℓ) : Prop :=
  True

def Pre_FoxPostRefIdeal (m : (ℓ : Loc Cert.FoxPostRefIdeal.nD Cert.FoxPostRefIdeal.τ Cert.FoxPostRefIdeal.sig) → Buf (Elt Ideal) ℓ) : Prop :=
  True

def Pre_FoxDelta (m : (ℓ : Loc Cert.FoxDelta.nD Cert.FoxDelta.τ Cert.FoxDelta.sig) → Buf (Elt Bits) ℓ) : Prop :=
  True

def Pre_FoxDeltaIdeal (m : (ℓ : Loc Cert.FoxDeltaIdeal.nD Cert.FoxDeltaIdeal.τ Cert.FoxDeltaIdeal.sig) → Buf (Elt Ideal) ℓ) : Prop :=
  True

def Pre_FoxDeltaRefIdeal (m : (ℓ : Loc Cert.FoxDeltaRefIdeal.nD Cert.FoxDeltaRefIdeal.τ Cert.FoxDeltaRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_SumCoresUp (m : (ℓ : Loc Cert.SumCoresUp.nD Cert.SumCoresUp.τ Cert.SumCoresUp.sig) → Buf (Elt Bits) ℓ) : Prop :=
  True

def Pre_SumCoresUpIdeal (m : (ℓ : Loc Cert.SumCoresUpIdeal.nD Cert.SumCoresUpIdeal.τ Cert.SumCoresUpIdeal.sig) → Buf (Elt Ideal) ℓ) : Prop :=
  True

def Pre_SumCoresUpRefIdeal (m : (ℓ : Loc Cert.SumCoresUpRefIdeal.nD Cert.SumCoresUpRefIdeal.τ Cert.SumCoresUpRefIdeal.sig) → Buf (Elt Ideal) ℓ) : Prop :=
  True

def Pre_SumChipsUp (m : (ℓ : Loc Cert.SumChipsUp.nD Cert.SumChipsUp.τ Cert.SumChipsUp.sig) → Buf (Elt Bits) ℓ) : Prop :=
  True

def Pre_SumChipsUpIdeal (m : (ℓ : Loc Cert.SumChipsUpIdeal.nD Cert.SumChipsUpIdeal.τ Cert.SumChipsUpIdeal.sig) → Buf (Elt Ideal) ℓ) : Prop :=
  True

def Pre_SumChipsUpRefIdeal (m : (ℓ : Loc Cert.SumChipsUpRefIdeal.nD Cert.SumChipsUpRefIdeal.τ Cert.SumChipsUpRefIdeal.sig) → Buf (Elt Ideal) ℓ) : Prop :=
  True

def Pre_SumCoresDown (m : (ℓ : Loc Cert.SumCoresDown.nD Cert.SumCoresDown.τ Cert.SumCoresDown.sig) → Buf (Elt Bits) ℓ) : Prop :=
  True

def Pre_SumCoresDownIdeal (m : (ℓ : Loc Cert.SumCoresDownIdeal.nD Cert.SumCoresDownIdeal.τ Cert.SumCoresDownIdeal.sig) → Buf (Elt Ideal) ℓ) : Prop :=
  True

def Pre_SumCoresDownRefIdeal (m : (ℓ : Loc Cert.SumCoresDownRefIdeal.nD Cert.SumCoresDownRefIdeal.τ Cert.SumCoresDownRefIdeal.sig) → Buf (Elt Ideal) ℓ) : Prop :=
  True

def Pre_SumChipsDown (m : (ℓ : Loc Cert.SumChipsDown.nD Cert.SumChipsDown.τ Cert.SumChipsDown.sig) → Buf (Elt Bits) ℓ) : Prop :=
  True

def Pre_SumChipsDownIdeal (m : (ℓ : Loc Cert.SumChipsDownIdeal.nD Cert.SumChipsDownIdeal.τ Cert.SumChipsDownIdeal.sig) → Buf (Elt Ideal) ℓ) : Prop :=
  True

def Pre_SumChipsDownRefIdeal (m : (ℓ : Loc Cert.SumChipsDownRefIdeal.nD Cert.SumChipsDownRefIdeal.τ Cert.SumChipsDownRefIdeal.sig) → Buf (Elt Ideal) ℓ) : Prop :=
  True

def Pre_SumCoresOut (m : (ℓ : Loc Cert.SumCoresOut.nD Cert.SumCoresOut.τ Cert.SumCoresOut.sig) → Buf (Elt Bits) ℓ) : Prop :=
  True

def Pre_SumCoresOutIdeal (m : (ℓ : Loc Cert.SumCoresOutIdeal.nD Cert.SumCoresOutIdeal.τ Cert.SumCoresOutIdeal.sig) → Buf (Elt Ideal) ℓ) : Prop :=
  True

def Pre_SumCoresOutRefIdeal (m : (ℓ : Loc Cert.SumCoresOutRefIdeal.nD Cert.SumCoresOutRefIdeal.τ Cert.SumCoresOutRefIdeal.sig) → Buf (Elt Ideal) ℓ) : Prop :=
  True

def Pre_SumChipsOut (m : (ℓ : Loc Cert.SumChipsOut.nD Cert.SumChipsOut.τ Cert.SumChipsOut.sig) → Buf (Elt Bits) ℓ) : Prop :=
  True

def Pre_SumChipsOutIdeal (m : (ℓ : Loc Cert.SumChipsOutIdeal.nD Cert.SumChipsOutIdeal.τ Cert.SumChipsOutIdeal.sig) → Buf (Elt Ideal) ℓ) : Prop :=
  True

def Pre_SumChipsOutRefIdeal (m : (ℓ : Loc Cert.SumChipsOutRefIdeal.nD Cert.SumChipsOutRefIdeal.τ Cert.SumChipsOutRefIdeal.sig) → Buf (Elt Ideal) ℓ) : Prop :=
  True

def Pre_SumCoresProj (m : (ℓ : Loc Cert.SumCoresProj.nD Cert.SumCoresProj.τ Cert.SumCoresProj.sig) → Buf (Elt Bits) ℓ) : Prop :=
  True

def Pre_SumCoresProjIdeal (m : (ℓ : Loc Cert.SumCoresProjIdeal.nD Cert.SumCoresProjIdeal.τ Cert.SumCoresProjIdeal.sig) → Buf (Elt Ideal) ℓ) : Prop :=
  True

def Pre_SumCoresProjRefIdeal (m : (ℓ : Loc Cert.SumCoresProjRefIdeal.nD Cert.SumCoresProjRefIdeal.τ Cert.SumCoresProjRefIdeal.sig) → Buf (Elt Ideal) ℓ) : Prop :=
  True

def Pre_SumChipsProj (m : (ℓ : Loc Cert.SumChipsProj.nD Cert.SumChipsProj.τ Cert.SumChipsProj.sig) → Buf (Elt Bits) ℓ) : Prop :=
  True

def Pre_SumChipsProjIdeal (m : (ℓ : Loc Cert.SumChipsProjIdeal.nD Cert.SumChipsProjIdeal.τ Cert.SumChipsProjIdeal.sig) → Buf (Elt Ideal) ℓ) : Prop :=
  True

def Pre_SumChipsProjRefIdeal (m : (ℓ : Loc Cert.SumChipsProjRefIdeal.nD Cert.SumChipsProjRefIdeal.τ Cert.SumChipsProjRefIdeal.sig) → Buf (Elt Ideal) ℓ) : Prop :=
  True

def Pre_SumDevices (m : (ℓ : Loc Cert.SumDevices.nD Cert.SumDevices.τ Cert.SumDevices.sig) → Buf (Elt Bits) ℓ) : Prop :=
  True

def Pre_SumDevicesIdeal (m : (ℓ : Loc Cert.SumDevicesIdeal.nD Cert.SumDevicesIdeal.τ Cert.SumDevicesIdeal.sig) → Buf (Elt Ideal) ℓ) : Prop :=
  True

def Pre_SumDevicesRefIdeal (m : (ℓ : Loc Cert.SumDevicesRefIdeal.nD Cert.SumDevicesRefIdeal.τ Cert.SumDevicesRefIdeal.sig) → Buf (Elt Ideal) ℓ) : Prop :=
  True

def Pre_Assemble (m : (ℓ : Loc Cert.Assemble.nD Cert.Assemble.τ Cert.Assemble.sig) → Buf (Elt Bits) ℓ) : Prop :=
  True

def Pre_AssembleIdeal (m : (ℓ : Loc Cert.AssembleIdeal.nD Cert.AssembleIdeal.τ Cert.AssembleIdeal.sig) → Buf (Elt Ideal) ℓ) : Prop :=
  True

def Pre_AssembleRefIdeal (m : (ℓ : Loc Cert.AssembleRefIdeal.nD Cert.AssembleRefIdeal.τ Cert.AssembleRefIdeal.sig) → Buf (Elt Ideal) ℓ) : Prop :=
  True

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2)
      ∧ r.2.mem ((c.tc : Thread Cert.FfnAct.nD Cert.FfnAct.τ).loc Cert.FfnAct.main_arg3) = m ((c.tc : Thread Cert.FfnAct.nD Cert.FfnAct.τ).loc Cert.FfnAct.main_arg3))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ r.2.sem = fun _ => 0)

def quiescent_FfnActIdeal_pre_ffn_act_finite [hFfnActIdeal : Cert.FfnActIdeal.Facts] [hPre_ffn_act_finite : Cert.Pre_ffn_act_finite.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal_ffn_act_finite m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
      ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3))
      ∧ r.2.sem = fun _ => 0)

def quiescent_FfnActRefIdeal_pre_ffn_act_finite [hFfnActRefIdeal : Cert.FfnActRefIdeal.Facts] [hPre_ffn_act_finite : Cert.Pre_ffn_act_finite.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal_ffn_act_finite m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
      ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3))
      ∧ r.2.sem = fun _ => 0)

def quiescent_FfnDwd [hFfnDwd : Cert.FfnDwd.Facts] : Prop :=
  ∀ (m : (ℓ : Loc Cert.FfnDwd.nD Cert.FfnDwd.τ Cert.FfnDwd.sig) → Buf (Elt Bits) ℓ) (g : Dev Cert.FfnDwd.nD → PrngReg), Pre_FfnDwd m →
    θ_run (Cert.FfnDwd.defs (F := Bits)) (onTc (τ := Cert.FfnDwd.τ) (Cert.FfnDwd.main (F := Bits))) ⟨m, fun _ => 0, g⟩ (fun r => (∀ c : Dev Cert.FfnDwd.nD,
      r.2.mem ((c.tc : Thread Cert.FfnDwd.nD Cert.FfnDwd.τ).loc Cert.FfnDwd.main_arg0) = m ((c.tc : Thread Cert.FfnDwd.nD Cert.FfnDwd.τ).loc Cert.FfnDwd.main_arg0)
      ∧ r.2.mem ((c.tc : Thread Cert.FfnDwd.nD Cert.FfnDwd.τ).loc Cert.FfnDwd.main_arg1) = m ((c.tc : Thread Cert.FfnDwd.nD Cert.FfnDwd.τ).loc Cert.FfnDwd.main_arg1))
      ∧ r.2.sem = fun _ => 0)

def quiescent_FfnDwdIdeal [hFfnDwdIdeal : Cert.FfnDwdIdeal.Facts] : Prop :=
  ∀ (m : (ℓ : Loc Cert.FfnDwdIdeal.nD Cert.FfnDwdIdeal.τ Cert.FfnDwdIdeal.sig) → Buf (Elt Ideal) ℓ) (g : Dev Cert.FfnDwdIdeal.nD → PrngReg), Pre_FfnDwdIdeal m →
    θ_run (Cert.FfnDwdIdeal.defs (F := Ideal)) (onTc (τ := Cert.FfnDwdIdeal.τ) (Cert.FfnDwdIdeal.main (F := Ideal))) ⟨m, fun _ => 0, g⟩ (fun r => (∀ c : Dev Cert.FfnDwdIdeal.nD,
      r.2.mem ((c.tc : Thread Cert.FfnDwdIdeal.nD Cert.FfnDwdIdeal.τ).loc Cert.FfnDwdIdeal.main_arg0) = m ((c.tc : Thread Cert.FfnDwdIdeal.nD Cert.FfnDwdIdeal.τ).loc Cert.FfnDwdIdeal.main_arg0)
      ∧ r.2.mem ((c.tc : Thread Cert.FfnDwdIdeal.nD Cert.FfnDwdIdeal.τ).loc Cert.FfnDwdIdeal.main_arg1) = m ((c.tc : Thread Cert.FfnDwdIdeal.nD Cert.FfnDwdIdeal.τ).loc Cert.FfnDwdIdeal.main_arg1))
      ∧ r.2.sem = fun _ => 0)

def quiescent_FfnDwdRefIdeal [hFfnDwdRefIdeal : Cert.FfnDwdRefIdeal.Facts] : Prop :=
  ∀ (m : (ℓ : Loc Cert.FfnDwdRefIdeal.nD Cert.FfnDwdRefIdeal.τ Cert.FfnDwdRefIdeal.sig) → Buf (Elt Ideal) ℓ) (g : Dev Cert.FfnDwdRefIdeal.nD → PrngReg), Pre_FfnDwdRefIdeal m →
    θ_run (Cert.FfnDwdRefIdeal.defs (F := Ideal)) (onTc (τ := Cert.FfnDwdRefIdeal.τ) (Cert.FfnDwdRefIdeal.main (F := Ideal))) ⟨m, fun _ => 0, g⟩ (fun r => (∀ c : Dev Cert.FfnDwdRefIdeal.nD,
      r.2.mem ((c.tc : Thread Cert.FfnDwdRefIdeal.nD Cert.FfnDwdRefIdeal.τ).loc Cert.FfnDwdRefIdeal.main_arg0) = m ((c.tc : Thread Cert.FfnDwdRefIdeal.nD Cert.FfnDwdRefIdeal.τ).loc Cert.FfnDwdRefIdeal.main_arg0)
      ∧ r.2.mem ((c.tc : Thread Cert.FfnDwdRefIdeal.nD Cert.FfnDwdRefIdeal.τ).loc Cert.FfnDwdRefIdeal.main_arg1) = m ((c.tc : Thread Cert.FfnDwdRefIdeal.nD Cert.FfnDwdRefIdeal.τ).loc Cert.FfnDwdRefIdeal.main_arg1))
      ∧ r.2.sem = fun _ => 0)

def quiescent_FfnDwg [hFfnDwg : Cert.FfnDwg.Facts] : Prop :=
  ∀ (m : (ℓ : Loc Cert.FfnDwg.nD Cert.FfnDwg.τ Cert.FfnDwg.sig) → Buf (Elt Bits) ℓ) (g : Dev Cert.FfnDwg.nD → PrngReg), Pre_FfnDwg m →
    θ_run (Cert.FfnDwg.defs (F := Bits)) (onTc (τ := Cert.FfnDwg.τ) (Cert.FfnDwg.main (F := Bits))) ⟨m, fun _ => 0, g⟩ (fun r => (∀ c : Dev Cert.FfnDwg.nD,
      r.2.mem ((c.tc : Thread Cert.FfnDwg.nD Cert.FfnDwg.τ).loc Cert.FfnDwg.main_arg0) = m ((c.tc : Thread Cert.FfnDwg.nD Cert.FfnDwg.τ).loc Cert.FfnDwg.main_arg0)
      ∧ r.2.mem ((c.tc : Thread Cert.FfnDwg.nD Cert.FfnDwg.τ).loc Cert.FfnDwg.main_arg1) = m ((c.tc : Thread Cert.FfnDwg.nD Cert.FfnDwg.τ).loc Cert.FfnDwg.main_arg1))
      ∧ r.2.sem = fun _ => 0)

def quiescent_FfnDwgIdeal [hFfnDwgIdeal : Cert.FfnDwgIdeal.Facts] : Prop :=
  ∀ (m : (ℓ : Loc Cert.FfnDwgIdeal.nD Cert.FfnDwgIdeal.τ Cert.FfnDwgIdeal.sig) → Buf (Elt Ideal) ℓ) (g : Dev Cert.FfnDwgIdeal.nD → PrngReg), Pre_FfnDwgIdeal m →
    θ_run (Cert.FfnDwgIdeal.defs (F := Ideal)) (onTc (τ := Cert.FfnDwgIdeal.τ) (Cert.FfnDwgIdeal.main (F := Ideal))) ⟨m, fun _ => 0, g⟩ (fun r => (∀ c : Dev Cert.FfnDwgIdeal.nD,
      r.2.mem ((c.tc : Thread Cert.FfnDwgIdeal.nD Cert.FfnDwgIdeal.τ).loc Cert.FfnDwgIdeal.main_arg0) = m ((c.tc : Thread Cert.FfnDwgIdeal.nD Cert.FfnDwgIdeal.τ).loc Cert.FfnDwgIdeal.main_arg0)
      ∧ r.2.mem ((c.tc : Thread Cert.FfnDwgIdeal.nD Cert.FfnDwgIdeal.τ).loc Cert.FfnDwgIdeal.main_arg1) = m ((c.tc : Thread Cert.FfnDwgIdeal.nD Cert.FfnDwgIdeal.τ).loc Cert.FfnDwgIdeal.main_arg1))
      ∧ r.2.sem = fun _ => 0)

def quiescent_FfnDwgRefIdeal [hFfnDwgRefIdeal : Cert.FfnDwgRefIdeal.Facts] : Prop :=
  ∀ (m : (ℓ : Loc Cert.FfnDwgRefIdeal.nD Cert.FfnDwgRefIdeal.τ Cert.FfnDwgRefIdeal.sig) → Buf (Elt Ideal) ℓ) (g : Dev Cert.FfnDwgRefIdeal.nD → PrngReg), Pre_FfnDwgRefIdeal m →
    θ_run (Cert.FfnDwgRefIdeal.defs (F := Ideal)) (onTc (τ := Cert.FfnDwgRefIdeal.τ) (Cert.FfnDwgRefIdeal.main (F := Ideal))) ⟨m, fun _ => 0, g⟩ (fun r => (∀ c : Dev Cert.FfnDwgRefIdeal.nD,
      r.2.mem ((c.tc : Thread Cert.FfnDwgRefIdeal.nD Cert.FfnDwgRefIdeal.τ).loc Cert.FfnDwgRefIdeal.main_arg0) = m ((c.tc : Thread Cert.FfnDwgRefIdeal.nD Cert.FfnDwgRefIdeal.τ).loc Cert.FfnDwgRefIdeal.main_arg0)
      ∧ r.2.mem ((c.tc : Thread Cert.FfnDwgRefIdeal.nD Cert.FfnDwgRefIdeal.τ).loc Cert.FfnDwgRefIdeal.main_arg1) = m ((c.tc : Thread Cert.FfnDwgRefIdeal.nD Cert.FfnDwgRefIdeal.τ).loc Cert.FfnDwgRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3)
      ∧ r.2.mem ((c.tc : Thread Cert.FfnDown.nD Cert.FfnDown.τ).loc Cert.FfnDown.main_arg4) = m ((c.tc : Thread Cert.FfnDown.nD Cert.FfnDown.τ).loc Cert.FfnDown.main_arg4))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3)
      ∧ r.2.mem ((c.tc : Thread Cert.FfnDownRefIdeal.nD Cert.FfnDownRefIdeal.τ).loc Cert.FfnDownRefIdeal.main_arg4) = m ((c.tc : Thread Cert.FfnDownRefIdeal.nD Cert.FfnDownRefIdeal.τ).loc Cert.FfnDownRefIdeal.main_arg4))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3)
      ∧ r.2.mem ((c.tc : Thread Cert.LnBwd.nD Cert.LnBwd.τ).loc Cert.LnBwd.main_arg4) = m ((c.tc : Thread Cert.LnBwd.nD Cert.LnBwd.τ).loc Cert.LnBwd.main_arg4)
      ∧ r.2.mem ((c.tc : Thread Cert.LnBwd.nD Cert.LnBwd.τ).loc Cert.LnBwd.main_arg5) = m ((c.tc : Thread Cert.LnBwd.nD Cert.LnBwd.τ).loc Cert.LnBwd.main_arg5)
      ∧ r.2.mem ((c.tc : Thread Cert.LnBwd.nD Cert.LnBwd.τ).loc Cert.LnBwd.main_arg6) = m ((c.tc : Thread Cert.LnBwd.nD Cert.LnBwd.τ).loc Cert.LnBwd.main_arg6)
      ∧ r.2.mem ((c.tc : Thread Cert.LnBwd.nD Cert.LnBwd.τ).loc Cert.LnBwd.main_arg7) = m ((c.tc : Thread Cert.LnBwd.nD Cert.LnBwd.τ).loc Cert.LnBwd.main_arg7))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
      ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4)
      ∧ r.2.mem ((c.tc : Thread Cert.LnBwdIdeal.nD Cert.LnBwdIdeal.τ).loc Cert.LnBwdIdeal.main_arg5) = m ((c.tc : Thread Cert.LnBwdIdeal.nD Cert.LnBwdIdeal.τ).loc Cert.LnBwdIdeal.main_arg5)
      ∧ r.2.mem ((c.tc : Thread Cert.LnBwdIdeal.nD Cert.LnBwdIdeal.τ).loc Cert.LnBwdIdeal.main_arg6) = m ((c.tc : Thread Cert.LnBwdIdeal.nD Cert.LnBwdIdeal.τ).loc Cert.LnBwdIdeal.main_arg6)
      ∧ r.2.mem ((c.tc : Thread Cert.LnBwdIdeal.nD Cert.LnBwdIdeal.τ).loc Cert.LnBwdIdeal.main_arg7) = m ((c.tc : Thread Cert.LnBwdIdeal.nD Cert.LnBwdIdeal.τ).loc Cert.LnBwdIdeal.main_arg7))
      ∧ r.2.sem = fun _ => 0)

def quiescent_LnBwdIdeal_pre_ln_bwd_finite [hLnBwdIdeal : Cert.LnBwdIdeal.Facts] [hPre_ln_bwd_finite : Cert.Pre_ln_bwd_finite.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal_ln_bwd_finite m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
      ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4)
      ∧ r.2.mem ((c.tc : Thread Cert.LnBwdIdeal.nD Cert.LnBwdIdeal.τ).loc Cert.LnBwdIdeal.main_arg5) = m ((c.tc : Thread Cert.LnBwdIdeal.nD Cert.LnBwdIdeal.τ).loc Cert.LnBwdIdeal.main_arg5)
      ∧ r.2.mem ((c.tc : Thread Cert.LnBwdIdeal.nD Cert.LnBwdIdeal.τ).loc Cert.LnBwdIdeal.main_arg6) = m ((c.tc : Thread Cert.LnBwdIdeal.nD Cert.LnBwdIdeal.τ).loc Cert.LnBwdIdeal.main_arg6)
      ∧ r.2.mem ((c.tc : Thread Cert.LnBwdIdeal.nD Cert.LnBwdIdeal.τ).loc Cert.LnBwdIdeal.main_arg7) = m ((c.tc : Thread Cert.LnBwdIdeal.nD Cert.LnBwdIdeal.τ).loc Cert.LnBwdIdeal.main_arg7))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3)
      ∧ r.2.mem ((c.tc : Thread Cert.LnBwdRefIdeal.nD Cert.LnBwdRefIdeal.τ).loc Cert.LnBwdRefIdeal.main_arg4) = m ((c.tc : Thread Cert.LnBwdRefIdeal.nD Cert.LnBwdRefIdeal.τ).loc Cert.LnBwdRefIdeal.main_arg4)
      ∧ r.2.mem ((c.tc : Thread Cert.LnBwdRefIdeal.nD Cert.LnBwdRefIdeal.τ).loc Cert.LnBwdRefIdeal.main_arg5) = m ((c.tc : Thread Cert.LnBwdRefIdeal.nD Cert.LnBwdRefIdeal.τ).loc Cert.LnBwdRefIdeal.main_arg5)
      ∧ r.2.mem ((c.tc : Thread Cert.LnBwdRefIdeal.nD Cert.LnBwdRefIdeal.τ).loc Cert.LnBwdRefIdeal.main_arg6) = m ((c.tc : Thread Cert.LnBwdRefIdeal.nD Cert.LnBwdRefIdeal.τ).loc Cert.LnBwdRefIdeal.main_arg6)
      ∧ r.2.mem ((c.tc : Thread Cert.LnBwdRefIdeal.nD Cert.LnBwdRefIdeal.τ).loc Cert.LnBwdRefIdeal.main_arg7) = m ((c.tc : Thread Cert.LnBwdRefIdeal.nD Cert.LnBwdRefIdeal.τ).loc Cert.LnBwdRefIdeal.main_arg7))
      ∧ r.2.sem = fun _ => 0)

def quiescent_LnBwdRefIdeal_pre_ln_bwd_finite [hLnBwdRefIdeal : Cert.LnBwdRefIdeal.Facts] [hPre_ln_bwd_finite : Cert.Pre_ln_bwd_finite.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal_ln_bwd_finite m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3)
      ∧ r.2.mem ((c.tc : Thread Cert.LnBwdRefIdeal.nD Cert.LnBwdRefIdeal.τ).loc Cert.LnBwdRefIdeal.main_arg4) = m ((c.tc : Thread Cert.LnBwdRefIdeal.nD Cert.LnBwdRefIdeal.τ).loc Cert.LnBwdRefIdeal.main_arg4)
      ∧ r.2.mem ((c.tc : Thread Cert.LnBwdRefIdeal.nD Cert.LnBwdRefIdeal.τ).loc Cert.LnBwdRefIdeal.main_arg5) = m ((c.tc : Thread Cert.LnBwdRefIdeal.nD Cert.LnBwdRefIdeal.τ).loc Cert.LnBwdRefIdeal.main_arg5)
      ∧ r.2.mem ((c.tc : Thread Cert.LnBwdRefIdeal.nD Cert.LnBwdRefIdeal.τ).loc Cert.LnBwdRefIdeal.main_arg6) = m ((c.tc : Thread Cert.LnBwdRefIdeal.nD Cert.LnBwdRefIdeal.τ).loc Cert.LnBwdRefIdeal.main_arg6)
      ∧ r.2.mem ((c.tc : Thread Cert.LnBwdRefIdeal.nD Cert.LnBwdRefIdeal.τ).loc Cert.LnBwdRefIdeal.main_arg7) = m ((c.tc : Thread Cert.LnBwdRefIdeal.nD Cert.LnBwdRefIdeal.τ).loc Cert.LnBwdRefIdeal.main_arg7))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_Ln1Bwd [hLn1Bwd : Cert.Ln1Bwd.Facts] : Prop :=
  ∀ (m : (ℓ : Loc Cert.Ln1Bwd.nD Cert.Ln1Bwd.τ Cert.Ln1Bwd.sig) → Buf (Elt Bits) ℓ) (g : Dev Cert.Ln1Bwd.nD → PrngReg), Pre_Ln1Bwd m →
    θ_run (Cert.Ln1Bwd.defs (F := Bits)) (onTc (τ := Cert.Ln1Bwd.τ) (Cert.Ln1Bwd.main (F := Bits))) ⟨m, fun _ => 0, g⟩ (fun r => (∀ c : Dev Cert.Ln1Bwd.nD,
      r.2.mem ((c.tc : Thread Cert.Ln1Bwd.nD Cert.Ln1Bwd.τ).loc Cert.Ln1Bwd.main_arg0) = m ((c.tc : Thread Cert.Ln1Bwd.nD Cert.Ln1Bwd.τ).loc Cert.Ln1Bwd.main_arg0)
      ∧ r.2.mem ((c.tc : Thread Cert.Ln1Bwd.nD Cert.Ln1Bwd.τ).loc Cert.Ln1Bwd.main_arg1) = m ((c.tc : Thread Cert.Ln1Bwd.nD Cert.Ln1Bwd.τ).loc Cert.Ln1Bwd.main_arg1)
      ∧ r.2.mem ((c.tc : Thread Cert.Ln1Bwd.nD Cert.Ln1Bwd.τ).loc Cert.Ln1Bwd.main_arg2) = m ((c.tc : Thread Cert.Ln1Bwd.nD Cert.Ln1Bwd.τ).loc Cert.Ln1Bwd.main_arg2)
      ∧ r.2.mem ((c.tc : Thread Cert.Ln1Bwd.nD Cert.Ln1Bwd.τ).loc Cert.Ln1Bwd.main_arg3) = m ((c.tc : Thread Cert.Ln1Bwd.nD Cert.Ln1Bwd.τ).loc Cert.Ln1Bwd.main_arg3)
      ∧ r.2.mem ((c.tc : Thread Cert.Ln1Bwd.nD Cert.Ln1Bwd.τ).loc Cert.Ln1Bwd.main_arg4) = m ((c.tc : Thread Cert.Ln1Bwd.nD Cert.Ln1Bwd.τ).loc Cert.Ln1Bwd.main_arg4)
      ∧ r.2.mem ((c.tc : Thread Cert.Ln1Bwd.nD Cert.Ln1Bwd.τ).loc Cert.Ln1Bwd.main_arg5) = m ((c.tc : Thread Cert.Ln1Bwd.nD Cert.Ln1Bwd.τ).loc Cert.Ln1Bwd.main_arg5))
      ∧ r.2.sem = fun _ => 0)

def quiescent_Ln1BwdIdeal [hLn1BwdIdeal : Cert.Ln1BwdIdeal.Facts] : Prop :=
  ∀ (m : (ℓ : Loc Cert.Ln1BwdIdeal.nD Cert.Ln1BwdIdeal.τ Cert.Ln1BwdIdeal.sig) → Buf (Elt Ideal) ℓ) (g : Dev Cert.Ln1BwdIdeal.nD → PrngReg), Pre_Ln1BwdIdeal m →
    θ_run (Cert.Ln1BwdIdeal.defs (F := Ideal)) (onTc (τ := Cert.Ln1BwdIdeal.τ) (Cert.Ln1BwdIdeal.main (F := Ideal))) ⟨m, fun _ => 0, g⟩ (fun r => (∀ c : Dev Cert.Ln1BwdIdeal.nD,
      r.2.mem ((c.tc : Thread Cert.Ln1BwdIdeal.nD Cert.Ln1BwdIdeal.τ).loc Cert.Ln1BwdIdeal.main_arg0) = m ((c.tc : Thread Cert.Ln1BwdIdeal.nD Cert.Ln1BwdIdeal.τ).loc Cert.Ln1BwdIdeal.main_arg0)
      ∧ r.2.mem ((c.tc : Thread Cert.Ln1BwdIdeal.nD Cert.Ln1BwdIdeal.τ).loc Cert.Ln1BwdIdeal.main_arg1) = m ((c.tc : Thread Cert.Ln1BwdIdeal.nD Cert.Ln1BwdIdeal.τ).loc Cert.Ln1BwdIdeal.main_arg1)
      ∧ r.2.mem ((c.tc : Thread Cert.Ln1BwdIdeal.nD Cert.Ln1BwdIdeal.τ).loc Cert.Ln1BwdIdeal.main_arg2) = m ((c.tc : Thread Cert.Ln1BwdIdeal.nD Cert.Ln1BwdIdeal.τ).loc Cert.Ln1BwdIdeal.main_arg2)
      ∧ r.2.mem ((c.tc : Thread Cert.Ln1BwdIdeal.nD Cert.Ln1BwdIdeal.τ).loc Cert.Ln1BwdIdeal.main_arg3) = m ((c.tc : Thread Cert.Ln1BwdIdeal.nD Cert.Ln1BwdIdeal.τ).loc Cert.Ln1BwdIdeal.main_arg3)
      ∧ r.2.mem ((c.tc : Thread Cert.Ln1BwdIdeal.nD Cert.Ln1BwdIdeal.τ).loc Cert.Ln1BwdIdeal.main_arg4) = m ((c.tc : Thread Cert.Ln1BwdIdeal.nD Cert.Ln1BwdIdeal.τ).loc Cert.Ln1BwdIdeal.main_arg4)
      ∧ r.2.mem ((c.tc : Thread Cert.Ln1BwdIdeal.nD Cert.Ln1BwdIdeal.τ).loc Cert.Ln1BwdIdeal.main_arg5) = m ((c.tc : Thread Cert.Ln1BwdIdeal.nD Cert.Ln1BwdIdeal.τ).loc Cert.Ln1BwdIdeal.main_arg5))
      ∧ r.2.sem = fun _ => 0)

def quiescent_Ln1BwdIdeal_pre_ln1_bwd_finite [hLn1BwdIdeal : Cert.Ln1BwdIdeal.Facts] [hPre_ln1_bwd_finite : Cert.Pre_ln1_bwd_finite.Facts] : Prop :=
  ∀ (m : (ℓ : Loc Cert.Ln1BwdIdeal.nD Cert.Ln1BwdIdeal.τ Cert.Ln1BwdIdeal.sig) → Buf (Elt Ideal) ℓ) (g : Dev Cert.Ln1BwdIdeal.nD → PrngReg), Pre_Ln1BwdIdeal_ln1_bwd_finite m →
    θ_run (Cert.Ln1BwdIdeal.defs (F := Ideal)) (onTc (τ := Cert.Ln1BwdIdeal.τ) (Cert.Ln1BwdIdeal.main (F := Ideal))) ⟨m, fun _ => 0, g⟩ (fun r => (∀ c : Dev Cert.Ln1BwdIdeal.nD,
      r.2.mem ((c.tc : Thread Cert.Ln1BwdIdeal.nD Cert.Ln1BwdIdeal.τ).loc Cert.Ln1BwdIdeal.main_arg0) = m ((c.tc : Thread Cert.Ln1BwdIdeal.nD Cert.Ln1BwdIdeal.τ).loc Cert.Ln1BwdIdeal.main_arg0)
      ∧ r.2.mem ((c.tc : Thread Cert.Ln1BwdIdeal.nD Cert.Ln1BwdIdeal.τ).loc Cert.Ln1BwdIdeal.main_arg1) = m ((c.tc : Thread Cert.Ln1BwdIdeal.nD Cert.Ln1BwdIdeal.τ).loc Cert.Ln1BwdIdeal.main_arg1)
      ∧ r.2.mem ((c.tc : Thread Cert.Ln1BwdIdeal.nD Cert.Ln1BwdIdeal.τ).loc Cert.Ln1BwdIdeal.main_arg2) = m ((c.tc : Thread Cert.Ln1BwdIdeal.nD Cert.Ln1BwdIdeal.τ).loc Cert.Ln1BwdIdeal.main_arg2)
      ∧ r.2.mem ((c.tc : Thread Cert.Ln1BwdIdeal.nD Cert.Ln1BwdIdeal.τ).loc Cert.Ln1BwdIdeal.main_arg3) = m ((c.tc : Thread Cert.Ln1BwdIdeal.nD Cert.Ln1BwdIdeal.τ).loc Cert.Ln1BwdIdeal.main_arg3)
      ∧ r.2.mem ((c.tc : Thread Cert.Ln1BwdIdeal.nD Cert.Ln1BwdIdeal.τ).loc Cert.Ln1BwdIdeal.main_arg4) = m ((c.tc : Thread Cert.Ln1BwdIdeal.nD Cert.Ln1BwdIdeal.τ).loc Cert.Ln1BwdIdeal.main_arg4)
      ∧ r.2.mem ((c.tc : Thread Cert.Ln1BwdIdeal.nD Cert.Ln1BwdIdeal.τ).loc Cert.Ln1BwdIdeal.main_arg5) = m ((c.tc : Thread Cert.Ln1BwdIdeal.nD Cert.Ln1BwdIdeal.τ).loc Cert.Ln1BwdIdeal.main_arg5))
      ∧ r.2.sem = fun _ => 0)

def quiescent_Ln1BwdRefIdeal [hLn1BwdRefIdeal : Cert.Ln1BwdRefIdeal.Facts] : Prop :=
  ∀ (m : (ℓ : Loc Cert.Ln1BwdRefIdeal.nD Cert.Ln1BwdRefIdeal.τ Cert.Ln1BwdRefIdeal.sig) → Buf (Elt Ideal) ℓ) (g : Dev Cert.Ln1BwdRefIdeal.nD → PrngReg), Pre_Ln1BwdRefIdeal m →
    θ_run (Cert.Ln1BwdRefIdeal.defs (F := Ideal)) (onTc (τ := Cert.Ln1BwdRefIdeal.τ) (Cert.Ln1BwdRefIdeal.main (F := Ideal))) ⟨m, fun _ => 0, g⟩ (fun r => (∀ c : Dev Cert.Ln1BwdRefIdeal.nD,
      r.2.mem ((c.tc : Thread Cert.Ln1BwdRefIdeal.nD Cert.Ln1BwdRefIdeal.τ).loc Cert.Ln1BwdRefIdeal.main_arg0) = m ((c.tc : Thread Cert.Ln1BwdRefIdeal.nD Cert.Ln1BwdRefIdeal.τ).loc Cert.Ln1BwdRefIdeal.main_arg0)
      ∧ r.2.mem ((c.tc : Thread Cert.Ln1BwdRefIdeal.nD Cert.Ln1BwdRefIdeal.τ).loc Cert.Ln1BwdRefIdeal.main_arg1) = m ((c.tc : Thread Cert.Ln1BwdRefIdeal.nD Cert.Ln1BwdRefIdeal.τ).loc Cert.Ln1BwdRefIdeal.main_arg1)
      ∧ r.2.mem ((c.tc : Thread Cert.Ln1BwdRefIdeal.nD Cert.Ln1BwdRefIdeal.τ).loc Cert.Ln1BwdRefIdeal.main_arg2) = m ((c.tc : Thread Cert.Ln1BwdRefIdeal.nD Cert.Ln1BwdRefIdeal.τ).loc Cert.Ln1BwdRefIdeal.main_arg2)
      ∧ r.2.mem ((c.tc : Thread Cert.Ln1BwdRefIdeal.nD Cert.Ln1BwdRefIdeal.τ).loc Cert.Ln1BwdRefIdeal.main_arg3) = m ((c.tc : Thread Cert.Ln1BwdRefIdeal.nD Cert.Ln1BwdRefIdeal.τ).loc Cert.Ln1BwdRefIdeal.main_arg3)
      ∧ r.2.mem ((c.tc : Thread Cert.Ln1BwdRefIdeal.nD Cert.Ln1BwdRefIdeal.τ).loc Cert.Ln1BwdRefIdeal.main_arg4) = m ((c.tc : Thread Cert.Ln1BwdRefIdeal.nD Cert.Ln1BwdRefIdeal.τ).loc Cert.Ln1BwdRefIdeal.main_arg4)
      ∧ r.2.mem ((c.tc : Thread Cert.Ln1BwdRefIdeal.nD Cert.Ln1BwdRefIdeal.τ).loc Cert.Ln1BwdRefIdeal.main_arg5) = m ((c.tc : Thread Cert.Ln1BwdRefIdeal.nD Cert.Ln1BwdRefIdeal.τ).loc Cert.Ln1BwdRefIdeal.main_arg5))
      ∧ r.2.sem = fun _ => 0)

def quiescent_Ln1BwdRefIdeal_pre_ln1_bwd_finite [hLn1BwdRefIdeal : Cert.Ln1BwdRefIdeal.Facts] [hPre_ln1_bwd_finite : Cert.Pre_ln1_bwd_finite.Facts] : Prop :=
  ∀ (m : (ℓ : Loc Cert.Ln1BwdRefIdeal.nD Cert.Ln1BwdRefIdeal.τ Cert.Ln1BwdRefIdeal.sig) → Buf (Elt Ideal) ℓ) (g : Dev Cert.Ln1BwdRefIdeal.nD → PrngReg), Pre_Ln1BwdRefIdeal_ln1_bwd_finite m →
    θ_run (Cert.Ln1BwdRefIdeal.defs (F := Ideal)) (onTc (τ := Cert.Ln1BwdRefIdeal.τ) (Cert.Ln1BwdRefIdeal.main (F := Ideal))) ⟨m, fun _ => 0, g⟩ (fun r => (∀ c : Dev Cert.Ln1BwdRefIdeal.nD,
      r.2.mem ((c.tc : Thread Cert.Ln1BwdRefIdeal.nD Cert.Ln1BwdRefIdeal.τ).loc Cert.Ln1BwdRefIdeal.main_arg0) = m ((c.tc : Thread Cert.Ln1BwdRefIdeal.nD Cert.Ln1BwdRefIdeal.τ).loc Cert.Ln1BwdRefIdeal.main_arg0)
      ∧ r.2.mem ((c.tc : Thread Cert.Ln1BwdRefIdeal.nD Cert.Ln1BwdRefIdeal.τ).loc Cert.Ln1BwdRefIdeal.main_arg1) = m ((c.tc : Thread Cert.Ln1BwdRefIdeal.nD Cert.Ln1BwdRefIdeal.τ).loc Cert.Ln1BwdRefIdeal.main_arg1)
      ∧ r.2.mem ((c.tc : Thread Cert.Ln1BwdRefIdeal.nD Cert.Ln1BwdRefIdeal.τ).loc Cert.Ln1BwdRefIdeal.main_arg2) = m ((c.tc : Thread Cert.Ln1BwdRefIdeal.nD Cert.Ln1BwdRefIdeal.τ).loc Cert.Ln1BwdRefIdeal.main_arg2)
      ∧ r.2.mem ((c.tc : Thread Cert.Ln1BwdRefIdeal.nD Cert.Ln1BwdRefIdeal.τ).loc Cert.Ln1BwdRefIdeal.main_arg3) = m ((c.tc : Thread Cert.Ln1BwdRefIdeal.nD Cert.Ln1BwdRefIdeal.τ).loc Cert.Ln1BwdRefIdeal.main_arg3)
      ∧ r.2.mem ((c.tc : Thread Cert.Ln1BwdRefIdeal.nD Cert.Ln1BwdRefIdeal.τ).loc Cert.Ln1BwdRefIdeal.main_arg4) = m ((c.tc : Thread Cert.Ln1BwdRefIdeal.nD Cert.Ln1BwdRefIdeal.τ).loc Cert.Ln1BwdRefIdeal.main_arg4)
      ∧ r.2.mem ((c.tc : Thread Cert.Ln1BwdRefIdeal.nD Cert.Ln1BwdRefIdeal.τ).loc Cert.Ln1BwdRefIdeal.main_arg5) = m ((c.tc : Thread Cert.Ln1BwdRefIdeal.nD Cert.Ln1BwdRefIdeal.τ).loc Cert.Ln1BwdRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1))
      ∧ r.2.sem = fun _ => 0)

def quiescent_MixBwdRefIdeal [hMixBwdRefIdeal : Cert.MixBwdRefIdeal.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_Ln3Bwd [hLn3Bwd : Cert.Ln3Bwd.Facts] : Prop :=
  ∀ (m : (ℓ : Loc Cert.Ln3Bwd.nD Cert.Ln3Bwd.τ Cert.Ln3Bwd.sig) → Buf (Elt Bits) ℓ) (g : Dev Cert.Ln3Bwd.nD → PrngReg), Pre_Ln3Bwd m →
    θ_run (Cert.Ln3Bwd.defs (F := Bits)) (onTc (τ := Cert.Ln3Bwd.τ) (Cert.Ln3Bwd.main (F := Bits))) ⟨m, fun _ => 0, g⟩ (fun r => (∀ c : Dev Cert.Ln3Bwd.nD,
      r.2.mem ((c.tc : Thread Cert.Ln3Bwd.nD Cert.Ln3Bwd.τ).loc Cert.Ln3Bwd.main_arg0) = m ((c.tc : Thread Cert.Ln3Bwd.nD Cert.Ln3Bwd.τ).loc Cert.Ln3Bwd.main_arg0)
      ∧ r.2.mem ((c.tc : Thread Cert.Ln3Bwd.nD Cert.Ln3Bwd.τ).loc Cert.Ln3Bwd.main_arg1) = m ((c.tc : Thread Cert.Ln3Bwd.nD Cert.Ln3Bwd.τ).loc Cert.Ln3Bwd.main_arg1)
      ∧ r.2.mem ((c.tc : Thread Cert.Ln3Bwd.nD Cert.Ln3Bwd.τ).loc Cert.Ln3Bwd.main_arg2) = m ((c.tc : Thread Cert.Ln3Bwd.nD Cert.Ln3Bwd.τ).loc Cert.Ln3Bwd.main_arg2)
      ∧ r.2.mem ((c.tc : Thread Cert.Ln3Bwd.nD Cert.Ln3Bwd.τ).loc Cert.Ln3Bwd.main_arg3) = m ((c.tc : Thread Cert.Ln3Bwd.nD Cert.Ln3Bwd.τ).loc Cert.Ln3Bwd.main_arg3)
      ∧ r.2.mem ((c.tc : Thread Cert.Ln3Bwd.nD Cert.Ln3Bwd.τ).loc Cert.Ln3Bwd.main_arg4) = m ((c.tc : Thread Cert.Ln3Bwd.nD Cert.Ln3Bwd.τ).loc Cert.Ln3Bwd.main_arg4)
      ∧ r.2.mem ((c.tc : Thread Cert.Ln3Bwd.nD Cert.Ln3Bwd.τ).loc Cert.Ln3Bwd.main_arg5) = m ((c.tc : Thread Cert.Ln3Bwd.nD Cert.Ln3Bwd.τ).loc Cert.Ln3Bwd.main_arg5))
      ∧ r.2.sem = fun _ => 0)

def quiescent_Ln3BwdIdeal [hLn3BwdIdeal : Cert.Ln3BwdIdeal.Facts] : Prop :=
  ∀ (m : (ℓ : Loc Cert.Ln3BwdIdeal.nD Cert.Ln3BwdIdeal.τ Cert.Ln3BwdIdeal.sig) → Buf (Elt Ideal) ℓ) (g : Dev Cert.Ln3BwdIdeal.nD → PrngReg), Pre_Ln3BwdIdeal m →
    θ_run (Cert.Ln3BwdIdeal.defs (F := Ideal)) (onTc (τ := Cert.Ln3BwdIdeal.τ) (Cert.Ln3BwdIdeal.main (F := Ideal))) ⟨m, fun _ => 0, g⟩ (fun r => (∀ c : Dev Cert.Ln3BwdIdeal.nD,
      r.2.mem ((c.tc : Thread Cert.Ln3BwdIdeal.nD Cert.Ln3BwdIdeal.τ).loc Cert.Ln3BwdIdeal.main_arg0) = m ((c.tc : Thread Cert.Ln3BwdIdeal.nD Cert.Ln3BwdIdeal.τ).loc Cert.Ln3BwdIdeal.main_arg0)
      ∧ r.2.mem ((c.tc : Thread Cert.Ln3BwdIdeal.nD Cert.Ln3BwdIdeal.τ).loc Cert.Ln3BwdIdeal.main_arg1) = m ((c.tc : Thread Cert.Ln3BwdIdeal.nD Cert.Ln3BwdIdeal.τ).loc Cert.Ln3BwdIdeal.main_arg1)
      ∧ r.2.mem ((c.tc : Thread Cert.Ln3BwdIdeal.nD Cert.Ln3BwdIdeal.τ).loc Cert.Ln3BwdIdeal.main_arg2) = m ((c.tc : Thread Cert.Ln3BwdIdeal.nD Cert.Ln3BwdIdeal.τ).loc Cert.Ln3BwdIdeal.main_arg2)
      ∧ r.2.mem ((c.tc : Thread Cert.Ln3BwdIdeal.nD Cert.Ln3BwdIdeal.τ).loc Cert.Ln3BwdIdeal.main_arg3) = m ((c.tc : Thread Cert.Ln3BwdIdeal.nD Cert.Ln3BwdIdeal.τ).loc Cert.Ln3BwdIdeal.main_arg3)
      ∧ r.2.mem ((c.tc : Thread Cert.Ln3BwdIdeal.nD Cert.Ln3BwdIdeal.τ).loc Cert.Ln3BwdIdeal.main_arg4) = m ((c.tc : Thread Cert.Ln3BwdIdeal.nD Cert.Ln3BwdIdeal.τ).loc Cert.Ln3BwdIdeal.main_arg4)
      ∧ r.2.mem ((c.tc : Thread Cert.Ln3BwdIdeal.nD Cert.Ln3BwdIdeal.τ).loc Cert.Ln3BwdIdeal.main_arg5) = m ((c.tc : Thread Cert.Ln3BwdIdeal.nD Cert.Ln3BwdIdeal.τ).loc Cert.Ln3BwdIdeal.main_arg5))
      ∧ r.2.sem = fun _ => 0)

def quiescent_Ln3BwdIdeal_pre_ln3_bwd_finite [hLn3BwdIdeal : Cert.Ln3BwdIdeal.Facts] [hPre_ln3_bwd_finite : Cert.Pre_ln3_bwd_finite.Facts] : Prop :=
  ∀ (m : (ℓ : Loc Cert.Ln3BwdIdeal.nD Cert.Ln3BwdIdeal.τ Cert.Ln3BwdIdeal.sig) → Buf (Elt Ideal) ℓ) (g : Dev Cert.Ln3BwdIdeal.nD → PrngReg), Pre_Ln3BwdIdeal_ln3_bwd_finite m →
    θ_run (Cert.Ln3BwdIdeal.defs (F := Ideal)) (onTc (τ := Cert.Ln3BwdIdeal.τ) (Cert.Ln3BwdIdeal.main (F := Ideal))) ⟨m, fun _ => 0, g⟩ (fun r => (∀ c : Dev Cert.Ln3BwdIdeal.nD,
      r.2.mem ((c.tc : Thread Cert.Ln3BwdIdeal.nD Cert.Ln3BwdIdeal.τ).loc Cert.Ln3BwdIdeal.main_arg0) = m ((c.tc : Thread Cert.Ln3BwdIdeal.nD Cert.Ln3BwdIdeal.τ).loc Cert.Ln3BwdIdeal.main_arg0)
      ∧ r.2.mem ((c.tc : Thread Cert.Ln3BwdIdeal.nD Cert.Ln3BwdIdeal.τ).loc Cert.Ln3BwdIdeal.main_arg1) = m ((c.tc : Thread Cert.Ln3BwdIdeal.nD Cert.Ln3BwdIdeal.τ).loc Cert.Ln3BwdIdeal.main_arg1)
      ∧ r.2.mem ((c.tc : Thread Cert.Ln3BwdIdeal.nD Cert.Ln3BwdIdeal.τ).loc Cert.Ln3BwdIdeal.main_arg2) = m ((c.tc : Thread Cert.Ln3BwdIdeal.nD Cert.Ln3BwdIdeal.τ).loc Cert.Ln3BwdIdeal.main_arg2)
      ∧ r.2.mem ((c.tc : Thread Cert.Ln3BwdIdeal.nD Cert.Ln3BwdIdeal.τ).loc Cert.Ln3BwdIdeal.main_arg3) = m ((c.tc : Thread Cert.Ln3BwdIdeal.nD Cert.Ln3BwdIdeal.τ).loc Cert.Ln3BwdIdeal.main_arg3)
      ∧ r.2.mem ((c.tc : Thread Cert.Ln3BwdIdeal.nD Cert.Ln3BwdIdeal.τ).loc Cert.Ln3BwdIdeal.main_arg4) = m ((c.tc : Thread Cert.Ln3BwdIdeal.nD Cert.Ln3BwdIdeal.τ).loc Cert.Ln3BwdIdeal.main_arg4)
      ∧ r.2.mem ((c.tc : Thread Cert.Ln3BwdIdeal.nD Cert.Ln3BwdIdeal.τ).loc Cert.Ln3BwdIdeal.main_arg5) = m ((c.tc : Thread Cert.Ln3BwdIdeal.nD Cert.Ln3BwdIdeal.τ).loc Cert.Ln3BwdIdeal.main_arg5))
      ∧ r.2.sem = fun _ => 0)

def quiescent_Ln3BwdRefIdeal [hLn3BwdRefIdeal : Cert.Ln3BwdRefIdeal.Facts] : Prop :=
  ∀ (m : (ℓ : Loc Cert.Ln3BwdRefIdeal.nD Cert.Ln3BwdRefIdeal.τ Cert.Ln3BwdRefIdeal.sig) → Buf (Elt Ideal) ℓ) (g : Dev Cert.Ln3BwdRefIdeal.nD → PrngReg), Pre_Ln3BwdRefIdeal m →
    θ_run (Cert.Ln3BwdRefIdeal.defs (F := Ideal)) (onTc (τ := Cert.Ln3BwdRefIdeal.τ) (Cert.Ln3BwdRefIdeal.main (F := Ideal))) ⟨m, fun _ => 0, g⟩ (fun r => (∀ c : Dev Cert.Ln3BwdRefIdeal.nD,
      r.2.mem ((c.tc : Thread Cert.Ln3BwdRefIdeal.nD Cert.Ln3BwdRefIdeal.τ).loc Cert.Ln3BwdRefIdeal.main_arg0) = m ((c.tc : Thread Cert.Ln3BwdRefIdeal.nD Cert.Ln3BwdRefIdeal.τ).loc Cert.Ln3BwdRefIdeal.main_arg0)
      ∧ r.2.mem ((c.tc : Thread Cert.Ln3BwdRefIdeal.nD Cert.Ln3BwdRefIdeal.τ).loc Cert.Ln3BwdRefIdeal.main_arg1) = m ((c.tc : Thread Cert.Ln3BwdRefIdeal.nD Cert.Ln3BwdRefIdeal.τ).loc Cert.Ln3BwdRefIdeal.main_arg1)
      ∧ r.2.mem ((c.tc : Thread Cert.Ln3BwdRefIdeal.nD Cert.Ln3BwdRefIdeal.τ).loc Cert.Ln3BwdRefIdeal.main_arg2) = m ((c.tc : Thread Cert.Ln3BwdRefIdeal.nD Cert.Ln3BwdRefIdeal.τ).loc Cert.Ln3BwdRefIdeal.main_arg2)
      ∧ r.2.mem ((c.tc : Thread Cert.Ln3BwdRefIdeal.nD Cert.Ln3BwdRefIdeal.τ).loc Cert.Ln3BwdRefIdeal.main_arg3) = m ((c.tc : Thread Cert.Ln3BwdRefIdeal.nD Cert.Ln3BwdRefIdeal.τ).loc Cert.Ln3BwdRefIdeal.main_arg3)
      ∧ r.2.mem ((c.tc : Thread Cert.Ln3BwdRefIdeal.nD Cert.Ln3BwdRefIdeal.τ).loc Cert.Ln3BwdRefIdeal.main_arg4) = m ((c.tc : Thread Cert.Ln3BwdRefIdeal.nD Cert.Ln3BwdRefIdeal.τ).loc Cert.Ln3BwdRefIdeal.main_arg4)
      ∧ r.2.mem ((c.tc : Thread Cert.Ln3BwdRefIdeal.nD Cert.Ln3BwdRefIdeal.τ).loc Cert.Ln3BwdRefIdeal.main_arg5) = m ((c.tc : Thread Cert.Ln3BwdRefIdeal.nD Cert.Ln3BwdRefIdeal.τ).loc Cert.Ln3BwdRefIdeal.main_arg5))
      ∧ r.2.sem = fun _ => 0)

def quiescent_Ln3BwdRefIdeal_pre_ln3_bwd_finite [hLn3BwdRefIdeal : Cert.Ln3BwdRefIdeal.Facts] [hPre_ln3_bwd_finite : Cert.Pre_ln3_bwd_finite.Facts] : Prop :=
  ∀ (m : (ℓ : Loc Cert.Ln3BwdRefIdeal.nD Cert.Ln3BwdRefIdeal.τ Cert.Ln3BwdRefIdeal.sig) → Buf (Elt Ideal) ℓ) (g : Dev Cert.Ln3BwdRefIdeal.nD → PrngReg), Pre_Ln3BwdRefIdeal_ln3_bwd_finite m →
    θ_run (Cert.Ln3BwdRefIdeal.defs (F := Ideal)) (onTc (τ := Cert.Ln3BwdRefIdeal.τ) (Cert.Ln3BwdRefIdeal.main (F := Ideal))) ⟨m, fun _ => 0, g⟩ (fun r => (∀ c : Dev Cert.Ln3BwdRefIdeal.nD,
      r.2.mem ((c.tc : Thread Cert.Ln3BwdRefIdeal.nD Cert.Ln3BwdRefIdeal.τ).loc Cert.Ln3BwdRefIdeal.main_arg0) = m ((c.tc : Thread Cert.Ln3BwdRefIdeal.nD Cert.Ln3BwdRefIdeal.τ).loc Cert.Ln3BwdRefIdeal.main_arg0)
      ∧ r.2.mem ((c.tc : Thread Cert.Ln3BwdRefIdeal.nD Cert.Ln3BwdRefIdeal.τ).loc Cert.Ln3BwdRefIdeal.main_arg1) = m ((c.tc : Thread Cert.Ln3BwdRefIdeal.nD Cert.Ln3BwdRefIdeal.τ).loc Cert.Ln3BwdRefIdeal.main_arg1)
      ∧ r.2.mem ((c.tc : Thread Cert.Ln3BwdRefIdeal.nD Cert.Ln3BwdRefIdeal.τ).loc Cert.Ln3BwdRefIdeal.main_arg2) = m ((c.tc : Thread Cert.Ln3BwdRefIdeal.nD Cert.Ln3BwdRefIdeal.τ).loc Cert.Ln3BwdRefIdeal.main_arg2)
      ∧ r.2.mem ((c.tc : Thread Cert.Ln3BwdRefIdeal.nD Cert.Ln3BwdRefIdeal.τ).loc Cert.Ln3BwdRefIdeal.main_arg3) = m ((c.tc : Thread Cert.Ln3BwdRefIdeal.nD Cert.Ln3BwdRefIdeal.τ).loc Cert.Ln3BwdRefIdeal.main_arg3)
      ∧ r.2.mem ((c.tc : Thread Cert.Ln3BwdRefIdeal.nD Cert.Ln3BwdRefIdeal.τ).loc Cert.Ln3BwdRefIdeal.main_arg4) = m ((c.tc : Thread Cert.Ln3BwdRefIdeal.nD Cert.Ln3BwdRefIdeal.τ).loc Cert.Ln3BwdRefIdeal.main_arg4)
      ∧ r.2.mem ((c.tc : Thread Cert.Ln3BwdRefIdeal.nD Cert.Ln3BwdRefIdeal.τ).loc Cert.Ln3BwdRefIdeal.main_arg5) = m ((c.tc : Thread Cert.Ln3BwdRefIdeal.nD Cert.Ln3BwdRefIdeal.τ).loc Cert.Ln3BwdRefIdeal.main_arg5))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamProj [hAdamProj : Cert.AdamProj.Facts] : Prop :=
  ∀ (m : (ℓ : Loc Cert.AdamProj.nD Cert.AdamProj.τ Cert.AdamProj.sig) → Buf (Elt Bits) ℓ) (g : Dev Cert.AdamProj.nD → PrngReg), Pre_AdamProj m →
    θ_run (Cert.AdamProj.defs (F := Bits)) (onTc (τ := Cert.AdamProj.τ) (Cert.AdamProj.main (F := Bits))) ⟨m, fun _ => 0, g⟩ (fun r => (∀ c : Dev Cert.AdamProj.nD,
      r.2.mem ((c.tc : Thread Cert.AdamProj.nD Cert.AdamProj.τ).loc Cert.AdamProj.main_arg0) = m ((c.tc : Thread Cert.AdamProj.nD Cert.AdamProj.τ).loc Cert.AdamProj.main_arg0)
      ∧ r.2.mem ((c.tc : Thread Cert.AdamProj.nD Cert.AdamProj.τ).loc Cert.AdamProj.main_arg1) = m ((c.tc : Thread Cert.AdamProj.nD Cert.AdamProj.τ).loc Cert.AdamProj.main_arg1)
      ∧ r.2.mem ((c.tc : Thread Cert.AdamProj.nD Cert.AdamProj.τ).loc Cert.AdamProj.main_arg2) = m ((c.tc : Thread Cert.AdamProj.nD Cert.AdamProj.τ).loc Cert.AdamProj.main_arg2)
      ∧ r.2.mem ((c.tc : Thread Cert.AdamProj.nD Cert.AdamProj.τ).loc Cert.AdamProj.main_arg3) = m ((c.tc : Thread Cert.AdamProj.nD Cert.AdamProj.τ).loc Cert.AdamProj.main_arg3))
      ∧ r.2.sem = fun _ => 0)

def quiescent_AdamProjIdeal [hAdamProjIdeal : Cert.AdamProjIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg), Pre_AdamProjIdeal m →
    θ_run (Cert.AdamProjIdeal.defs (F := Ideal)) (onTc (τ := Cert.AdamProjIdeal.τ) (Cert.AdamProjIdeal.main (F := Ideal))) ⟨m, fun _ => 0, g⟩ (fun r => (∀ c : Dev Cert.AdamProjIdeal.nD,
      r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
      ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
      ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
      ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ r.2.sem = fun _ => 0)

def quiescent_AdamProjRefIdeal [hAdamProjRefIdeal : Cert.AdamProjRefIdeal.Facts] : Prop :=
  ∀ (m : (ℓ : Loc Cert.AdamProjRefIdeal.nD Cert.AdamProjRefIdeal.τ Cert.AdamProjRefIdeal.sig) → Buf (Elt Ideal) ℓ) (g : Dev Cert.AdamProjRefIdeal.nD → PrngReg), Pre_AdamProjRefIdeal m →
    θ_run (Cert.AdamProjRefIdeal.defs (F := Ideal)) (onTc (τ := Cert.AdamProjRefIdeal.τ) (Cert.AdamProjRefIdeal.main (F := Ideal))) ⟨m, fun _ => 0, g⟩ (fun r => (∀ c : Dev Cert.AdamProjRefIdeal.nD,
      r.2.mem ((c.tc : Thread Cert.AdamProjRefIdeal.nD Cert.AdamProjRefIdeal.τ).loc Cert.AdamProjRefIdeal.main_arg0) = m ((c.tc : Thread Cert.AdamProjRefIdeal.nD Cert.AdamProjRefIdeal.τ).loc Cert.AdamProjRefIdeal.main_arg0)
      ∧ r.2.mem ((c.tc : Thread Cert.AdamProjRefIdeal.nD Cert.AdamProjRefIdeal.τ).loc Cert.AdamProjRefIdeal.main_arg1) = m ((c.tc : Thread Cert.AdamProjRefIdeal.nD Cert.AdamProjRefIdeal.τ).loc Cert.AdamProjRefIdeal.main_arg1)
      ∧ r.2.mem ((c.tc : Thread Cert.AdamProjRefIdeal.nD Cert.AdamProjRefIdeal.τ).loc Cert.AdamProjRefIdeal.main_arg2) = m ((c.tc : Thread Cert.AdamProjRefIdeal.nD Cert.AdamProjRefIdeal.τ).loc Cert.AdamProjRefIdeal.main_arg2)
      ∧ r.2.mem ((c.tc : Thread Cert.AdamProjRefIdeal.nD Cert.AdamProjRefIdeal.τ).loc Cert.AdamProjRefIdeal.main_arg3) = m ((c.tc : Thread Cert.AdamProjRefIdeal.nD Cert.AdamProjRefIdeal.τ).loc Cert.AdamProjRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_FoxPost [hFoxPost : Cert.FoxPost.Facts] : Prop :=
  ∀ (m : (ℓ : Loc Cert.FoxPost.nD Cert.FoxPost.τ Cert.FoxPost.sig) → Buf (Elt Bits) ℓ) (g : Dev Cert.FoxPost.nD → PrngReg), Pre_FoxPost m →
    θ_run (Cert.FoxPost.defs (F := Bits)) (onTc (τ := Cert.FoxPost.τ) (Cert.FoxPost.main (F := Bits))) ⟨m, fun _ => 0, g⟩ (fun r => (∀ c : Dev Cert.FoxPost.nD,
      r.2.mem ((c.tc : Thread Cert.FoxPost.nD Cert.FoxPost.τ).loc Cert.FoxPost.main_arg0) = m ((c.tc : Thread Cert.FoxPost.nD Cert.FoxPost.τ).loc Cert.FoxPost.main_arg0)
      ∧ r.2.mem ((c.tc : Thread Cert.FoxPost.nD Cert.FoxPost.τ).loc Cert.FoxPost.main_arg1) = m ((c.tc : Thread Cert.FoxPost.nD Cert.FoxPost.τ).loc Cert.FoxPost.main_arg1)
      ∧ r.2.mem ((c.tc : Thread Cert.FoxPost.nD Cert.FoxPost.τ).loc Cert.FoxPost.main_arg2) = m ((c.tc : Thread Cert.FoxPost.nD Cert.FoxPost.τ).loc Cert.FoxPost.main_arg2))
      ∧ r.2.sem = fun _ => 0)

def quiescent_FoxPostIdeal [hFoxPostIdeal : Cert.FoxPostIdeal.Facts] : Prop :=
  ∀ (m : (ℓ : Loc Cert.FoxPostIdeal.nD Cert.FoxPostIdeal.τ Cert.FoxPostIdeal.sig) → Buf (Elt Ideal) ℓ) (g : Dev Cert.FoxPostIdeal.nD → PrngReg), Pre_FoxPostIdeal m →
    θ_run (Cert.FoxPostIdeal.defs (F := Ideal)) (onTc (τ := Cert.FoxPostIdeal.τ) (Cert.FoxPostIdeal.main (F := Ideal))) ⟨m, fun _ => 0, g⟩ (fun r => (∀ c : Dev Cert.FoxPostIdeal.nD,
      r.2.mem ((c.tc : Thread Cert.FoxPostIdeal.nD Cert.FoxPostIdeal.τ).loc Cert.FoxPostIdeal.main_arg0) = m ((c.tc : Thread Cert.FoxPostIdeal.nD Cert.FoxPostIdeal.τ).loc Cert.FoxPostIdeal.main_arg0)
      ∧ r.2.mem ((c.tc : Thread Cert.FoxPostIdeal.nD Cert.FoxPostIdeal.τ).loc Cert.FoxPostIdeal.main_arg1) = m ((c.tc : Thread Cert.FoxPostIdeal.nD Cert.FoxPostIdeal.τ).loc Cert.FoxPostIdeal.main_arg1)
      ∧ r.2.mem ((c.tc : Thread Cert.FoxPostIdeal.nD Cert.FoxPostIdeal.τ).loc Cert.FoxPostIdeal.main_arg2) = m ((c.tc : Thread Cert.FoxPostIdeal.nD Cert.FoxPostIdeal.τ).loc Cert.FoxPostIdeal.main_arg2))
      ∧ r.2.sem = fun _ => 0)

def quiescent_FoxPostRefIdeal [hFoxPostRefIdeal : Cert.FoxPostRefIdeal.Facts] : Prop :=
  ∀ (m : (ℓ : Loc Cert.FoxPostRefIdeal.nD Cert.FoxPostRefIdeal.τ Cert.FoxPostRefIdeal.sig) → Buf (Elt Ideal) ℓ) (g : Dev Cert.FoxPostRefIdeal.nD → PrngReg), Pre_FoxPostRefIdeal m →
    θ_run (Cert.FoxPostRefIdeal.defs (F := Ideal)) (onTc (τ := Cert.FoxPostRefIdeal.τ) (Cert.FoxPostRefIdeal.main (F := Ideal))) ⟨m, fun _ => 0, g⟩ (fun r => (∀ c : Dev Cert.FoxPostRefIdeal.nD,
      r.2.mem ((c.tc : Thread Cert.FoxPostRefIdeal.nD Cert.FoxPostRefIdeal.τ).loc Cert.FoxPostRefIdeal.main_arg0) = m ((c.tc : Thread Cert.FoxPostRefIdeal.nD Cert.FoxPostRefIdeal.τ).loc Cert.FoxPostRefIdeal.main_arg0)
      ∧ r.2.mem ((c.tc : Thread Cert.FoxPostRefIdeal.nD Cert.FoxPostRefIdeal.τ).loc Cert.FoxPostRefIdeal.main_arg1) = m ((c.tc : Thread Cert.FoxPostRefIdeal.nD Cert.FoxPostRefIdeal.τ).loc Cert.FoxPostRefIdeal.main_arg1)
      ∧ r.2.mem ((c.tc : Thread Cert.FoxPostRefIdeal.nD Cert.FoxPostRefIdeal.τ).loc Cert.FoxPostRefIdeal.main_arg2) = m ((c.tc : Thread Cert.FoxPostRefIdeal.nD Cert.FoxPostRefIdeal.τ).loc Cert.FoxPostRefIdeal.main_arg2))
      ∧ r.2.sem = fun _ => 0)

def quiescent_FoxDelta [hFoxDelta : Cert.FoxDelta.Facts] : Prop :=
  ∀ (m : (ℓ : Loc Cert.FoxDelta.nD Cert.FoxDelta.τ Cert.FoxDelta.sig) → Buf (Elt Bits) ℓ) (g : Dev Cert.FoxDelta.nD → PrngReg), Pre_FoxDelta m →
    θ_run (Cert.FoxDelta.defs (F := Bits)) (onTc (τ := Cert.FoxDelta.τ) (Cert.FoxDelta.main (F := Bits))) ⟨m, fun _ => 0, g⟩ (fun r => (∀ c : Dev Cert.FoxDelta.nD,
      r.2.mem ((c.tc : Thread Cert.FoxDelta.nD Cert.FoxDelta.τ).loc Cert.FoxDelta.main_arg0) = m ((c.tc : Thread Cert.FoxDelta.nD Cert.FoxDelta.τ).loc Cert.FoxDelta.main_arg0)
      ∧ r.2.mem ((c.tc : Thread Cert.FoxDelta.nD Cert.FoxDelta.τ).loc Cert.FoxDelta.main_arg1) = m ((c.tc : Thread Cert.FoxDelta.nD Cert.FoxDelta.τ).loc Cert.FoxDelta.main_arg1))
      ∧ r.2.sem = fun _ => 0)

def quiescent_FoxDeltaIdeal [hFoxDeltaIdeal : Cert.FoxDeltaIdeal.Facts] : Prop :=
  ∀ (m : (ℓ : Loc Cert.FoxDeltaIdeal.nD Cert.FoxDeltaIdeal.τ Cert.FoxDeltaIdeal.sig) → Buf (Elt Ideal) ℓ) (g : Dev Cert.FoxDeltaIdeal.nD → PrngReg), Pre_FoxDeltaIdeal m →
    θ_run (Cert.FoxDeltaIdeal.defs (F := Ideal)) (onTc (τ := Cert.FoxDeltaIdeal.τ) (Cert.FoxDeltaIdeal.main (F := Ideal))) ⟨m, fun _ => 0, g⟩ (fun r => (∀ c : Dev Cert.FoxDeltaIdeal.nD,
      r.2.mem ((c.tc : Thread Cert.FoxDeltaIdeal.nD Cert.FoxDeltaIdeal.τ).loc Cert.FoxDeltaIdeal.main_arg0) = m ((c.tc : Thread Cert.FoxDeltaIdeal.nD Cert.FoxDeltaIdeal.τ).loc Cert.FoxDeltaIdeal.main_arg0)
      ∧ r.2.mem ((c.tc : Thread Cert.FoxDeltaIdeal.nD Cert.FoxDeltaIdeal.τ).loc Cert.FoxDeltaIdeal.main_arg1) = m ((c.tc : Thread Cert.FoxDeltaIdeal.nD Cert.FoxDeltaIdeal.τ).loc Cert.FoxDeltaIdeal.main_arg1))
      ∧ r.2.sem = fun _ => 0)

def quiescent_FoxDeltaRefIdeal [hFoxDeltaRefIdeal : Cert.FoxDeltaRefIdeal.Facts] : Prop :=
  ∀ (m : (ℓ : Loc Cert.FoxDeltaRefIdeal.nD Cert.FoxDeltaRefIdeal.τ Cert.FoxDeltaRefIdeal.sig) → Buf (Elt Ideal) ℓ) (g : Dev Cert.FoxDeltaRefIdeal.nD → PrngReg), Pre_FoxDeltaRefIdeal m →
    θ_run (Cert.FoxDeltaRefIdeal.defs (F := Ideal)) (onTc (τ := Cert.FoxDeltaRefIdeal.τ) (Cert.FoxDeltaRefIdeal.main (F := Ideal))) ⟨m, fun _ => 0, g⟩ (fun r => (∀ c : Dev Cert.FoxDeltaRefIdeal.nD,
      r.2.mem ((c.tc : Thread Cert.FoxDeltaRefIdeal.nD Cert.FoxDeltaRefIdeal.τ).loc Cert.FoxDeltaRefIdeal.main_arg0) = m ((c.tc : Thread Cert.FoxDeltaRefIdeal.nD Cert.FoxDeltaRefIdeal.τ).loc Cert.FoxDeltaRefIdeal.main_arg0)
      ∧ r.2.mem ((c.tc : Thread Cert.FoxDeltaRefIdeal.nD Cert.FoxDeltaRefIdeal.τ).loc Cert.FoxDeltaRefIdeal.main_arg1) = m ((c.tc : Thread Cert.FoxDeltaRefIdeal.nD Cert.FoxDeltaRefIdeal.τ).loc Cert.FoxDeltaRefIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_SumCoresUp [hSumCoresUp : Cert.SumCoresUp.Facts] : Prop :=
  ∀ (m : (ℓ : Loc Cert.SumCoresUp.nD Cert.SumCoresUp.τ Cert.SumCoresUp.sig) → Buf (Elt Bits) ℓ) (g : Dev Cert.SumCoresUp.nD → PrngReg), Pre_SumCoresUp m →
    θ_run (Cert.SumCoresUp.defs (F := Bits)) (onTc (τ := Cert.SumCoresUp.τ) (Cert.SumCoresUp.main (F := Bits))) ⟨m, fun _ => 0, g⟩ (fun r => (∀ c : Dev Cert.SumCoresUp.nD,
      r.2.mem ((c.tc : Thread Cert.SumCoresUp.nD Cert.SumCoresUp.τ).loc Cert.SumCoresUp.main_arg0) = m ((c.tc : Thread Cert.SumCoresUp.nD Cert.SumCoresUp.τ).loc Cert.SumCoresUp.main_arg0)
      ∧ r.2.mem ((c.tc : Thread Cert.SumCoresUp.nD Cert.SumCoresUp.τ).loc Cert.SumCoresUp.main_arg1) = m ((c.tc : Thread Cert.SumCoresUp.nD Cert.SumCoresUp.τ).loc Cert.SumCoresUp.main_arg1))
      ∧ r.2.sem = fun _ => 0)

def quiescent_SumCoresUpIdeal [hSumCoresUpIdeal : Cert.SumCoresUpIdeal.Facts] : Prop :=
  ∀ (m : (ℓ : Loc Cert.SumCoresUpIdeal.nD Cert.SumCoresUpIdeal.τ Cert.SumCoresUpIdeal.sig) → Buf (Elt Ideal) ℓ) (g : Dev Cert.SumCoresUpIdeal.nD → PrngReg), Pre_SumCoresUpIdeal m →
    θ_run (Cert.SumCoresUpIdeal.defs (F := Ideal)) (onTc (τ := Cert.SumCoresUpIdeal.τ) (Cert.SumCoresUpIdeal.main (F := Ideal))) ⟨m, fun _ => 0, g⟩ (fun r => (∀ c : Dev Cert.SumCoresUpIdeal.nD,
      r.2.mem ((c.tc : Thread Cert.SumCoresUpIdeal.nD Cert.SumCoresUpIdeal.τ).loc Cert.SumCoresUpIdeal.main_arg0) = m ((c.tc : Thread Cert.SumCoresUpIdeal.nD Cert.SumCoresUpIdeal.τ).loc Cert.SumCoresUpIdeal.main_arg0)
      ∧ r.2.mem ((c.tc : Thread Cert.SumCoresUpIdeal.nD Cert.SumCoresUpIdeal.τ).loc Cert.SumCoresUpIdeal.main_arg1) = m ((c.tc : Thread Cert.SumCoresUpIdeal.nD Cert.SumCoresUpIdeal.τ).loc Cert.SumCoresUpIdeal.main_arg1))
      ∧ r.2.sem = fun _ => 0)

def quiescent_SumCoresUpRefIdeal [hSumCoresUpRefIdeal : Cert.SumCoresUpRefIdeal.Facts] : Prop :=
  ∀ (m : (ℓ : Loc Cert.SumCoresUpRefIdeal.nD Cert.SumCoresUpRefIdeal.τ Cert.SumCoresUpRefIdeal.sig) → Buf (Elt Ideal) ℓ) (g : Dev Cert.SumCoresUpRefIdeal.nD → PrngReg), Pre_SumCoresUpRefIdeal m →
    θ_run (Cert.SumCoresUpRefIdeal.defs (F := Ideal)) (onTc (τ := Cert.SumCoresUpRefIdeal.τ) (Cert.SumCoresUpRefIdeal.main (F := Ideal))) ⟨m, fun _ => 0, g⟩ (fun r => (∀ c : Dev Cert.SumCoresUpRefIdeal.nD,
      r.2.mem ((c.tc : Thread Cert.SumCoresUpRefIdeal.nD Cert.SumCoresUpRefIdeal.τ).loc Cert.SumCoresUpRefIdeal.main_arg0) = m ((c.tc : Thread Cert.SumCoresUpRefIdeal.nD Cert.SumCoresUpRefIdeal.τ).loc Cert.SumCoresUpRefIdeal.main_arg0)
      ∧ r.2.mem ((c.tc : Thread Cert.SumCoresUpRefIdeal.nD Cert.SumCoresUpRefIdeal.τ).loc Cert.SumCoresUpRefIdeal.main_arg1) = m ((c.tc : Thread Cert.SumCoresUpRefIdeal.nD Cert.SumCoresUpRefIdeal.τ).loc Cert.SumCoresUpRefIdeal.main_arg1))
      ∧ r.2.sem = fun _ => 0)

def quiescent_SumChipsUp [hSumChipsUp : Cert.SumChipsUp.Facts] : Prop :=
  ∀ (m : (ℓ : Loc Cert.SumChipsUp.nD Cert.SumChipsUp.τ Cert.SumChipsUp.sig) → Buf (Elt Bits) ℓ) (g : Dev Cert.SumChipsUp.nD → PrngReg), Pre_SumChipsUp m →
    θ_run (Cert.SumChipsUp.defs (F := Bits)) (onTc (τ := Cert.SumChipsUp.τ) (Cert.SumChipsUp.main (F := Bits))) ⟨m, fun _ => 0, g⟩ (fun r => (∀ c : Dev Cert.SumChipsUp.nD,
      r.2.mem ((c.tc : Thread Cert.SumChipsUp.nD Cert.SumChipsUp.τ).loc Cert.SumChipsUp.main_arg0) = m ((c.tc : Thread Cert.SumChipsUp.nD Cert.SumChipsUp.τ).loc Cert.SumChipsUp.main_arg0))
      ∧ r.2.sem = fun _ => 0)

def quiescent_SumChipsUpIdeal [hSumChipsUpIdeal : Cert.SumChipsUpIdeal.Facts] : Prop :=
  ∀ (m : (ℓ : Loc Cert.SumChipsUpIdeal.nD Cert.SumChipsUpIdeal.τ Cert.SumChipsUpIdeal.sig) → Buf (Elt Ideal) ℓ) (g : Dev Cert.SumChipsUpIdeal.nD → PrngReg), Pre_SumChipsUpIdeal m →
    θ_run (Cert.SumChipsUpIdeal.defs (F := Ideal)) (onTc (τ := Cert.SumChipsUpIdeal.τ) (Cert.SumChipsUpIdeal.main (F := Ideal))) ⟨m, fun _ => 0, g⟩ (fun r => (∀ c : Dev Cert.SumChipsUpIdeal.nD,
      r.2.mem ((c.tc : Thread Cert.SumChipsUpIdeal.nD Cert.SumChipsUpIdeal.τ).loc Cert.SumChipsUpIdeal.main_arg0) = m ((c.tc : Thread Cert.SumChipsUpIdeal.nD Cert.SumChipsUpIdeal.τ).loc Cert.SumChipsUpIdeal.main_arg0))
      ∧ r.2.sem = fun _ => 0)

def quiescent_SumChipsUpRefIdeal [hSumChipsUpRefIdeal : Cert.SumChipsUpRefIdeal.Facts] : Prop :=
  ∀ (m : (ℓ : Loc Cert.SumChipsUpRefIdeal.nD Cert.SumChipsUpRefIdeal.τ Cert.SumChipsUpRefIdeal.sig) → Buf (Elt Ideal) ℓ) (g : Dev Cert.SumChipsUpRefIdeal.nD → PrngReg), Pre_SumChipsUpRefIdeal m →
    θ_run (Cert.SumChipsUpRefIdeal.defs (F := Ideal)) (onTc (τ := Cert.SumChipsUpRefIdeal.τ) (Cert.SumChipsUpRefIdeal.main (F := Ideal))) ⟨m, fun _ => 0, g⟩ (fun r => (∀ c : Dev Cert.SumChipsUpRefIdeal.nD,
      r.2.mem ((c.tc : Thread Cert.SumChipsUpRefIdeal.nD Cert.SumChipsUpRefIdeal.τ).loc Cert.SumChipsUpRefIdeal.main_arg0) = m ((c.tc : Thread Cert.SumChipsUpRefIdeal.nD Cert.SumChipsUpRefIdeal.τ).loc Cert.SumChipsUpRefIdeal.main_arg0))
      ∧ r.2.sem = fun _ => 0)

def quiescent_SumCoresDown [hSumCoresDown : Cert.SumCoresDown.Facts] : Prop :=
  ∀ (m : (ℓ : Loc Cert.SumCoresDown.nD Cert.SumCoresDown.τ Cert.SumCoresDown.sig) → Buf (Elt Bits) ℓ) (g : Dev Cert.SumCoresDown.nD → PrngReg), Pre_SumCoresDown m →
    θ_run (Cert.SumCoresDown.defs (F := Bits)) (onTc (τ := Cert.SumCoresDown.τ) (Cert.SumCoresDown.main (F := Bits))) ⟨m, fun _ => 0, g⟩ (fun r => (∀ c : Dev Cert.SumCoresDown.nD,
      r.2.mem ((c.tc : Thread Cert.SumCoresDown.nD Cert.SumCoresDown.τ).loc Cert.SumCoresDown.main_arg0) = m ((c.tc : Thread Cert.SumCoresDown.nD Cert.SumCoresDown.τ).loc Cert.SumCoresDown.main_arg0)
      ∧ r.2.mem ((c.tc : Thread Cert.SumCoresDown.nD Cert.SumCoresDown.τ).loc Cert.SumCoresDown.main_arg1) = m ((c.tc : Thread Cert.SumCoresDown.nD Cert.SumCoresDown.τ).loc Cert.SumCoresDown.main_arg1))
      ∧ r.2.sem = fun _ => 0)

def quiescent_SumCoresDownIdeal [hSumCoresDownIdeal : Cert.SumCoresDownIdeal.Facts] : Prop :=
  ∀ (m : (ℓ : Loc Cert.SumCoresDownIdeal.nD Cert.SumCoresDownIdeal.τ Cert.SumCoresDownIdeal.sig) → Buf (Elt Ideal) ℓ) (g : Dev Cert.SumCoresDownIdeal.nD → PrngReg), Pre_SumCoresDownIdeal m →
    θ_run (Cert.SumCoresDownIdeal.defs (F := Ideal)) (onTc (τ := Cert.SumCoresDownIdeal.τ) (Cert.SumCoresDownIdeal.main (F := Ideal))) ⟨m, fun _ => 0, g⟩ (fun r => (∀ c : Dev Cert.SumCoresDownIdeal.nD,
      r.2.mem ((c.tc : Thread Cert.SumCoresDownIdeal.nD Cert.SumCoresDownIdeal.τ).loc Cert.SumCoresDownIdeal.main_arg0) = m ((c.tc : Thread Cert.SumCoresDownIdeal.nD Cert.SumCoresDownIdeal.τ).loc Cert.SumCoresDownIdeal.main_arg0)
      ∧ r.2.mem ((c.tc : Thread Cert.SumCoresDownIdeal.nD Cert.SumCoresDownIdeal.τ).loc Cert.SumCoresDownIdeal.main_arg1) = m ((c.tc : Thread Cert.SumCoresDownIdeal.nD Cert.SumCoresDownIdeal.τ).loc Cert.SumCoresDownIdeal.main_arg1))
      ∧ r.2.sem = fun _ => 0)

def quiescent_SumCoresDownRefIdeal [hSumCoresDownRefIdeal : Cert.SumCoresDownRefIdeal.Facts] : Prop :=
  ∀ (m : (ℓ : Loc Cert.SumCoresDownRefIdeal.nD Cert.SumCoresDownRefIdeal.τ Cert.SumCoresDownRefIdeal.sig) → Buf (Elt Ideal) ℓ) (g : Dev Cert.SumCoresDownRefIdeal.nD → PrngReg), Pre_SumCoresDownRefIdeal m →
    θ_run (Cert.SumCoresDownRefIdeal.defs (F := Ideal)) (onTc (τ := Cert.SumCoresDownRefIdeal.τ) (Cert.SumCoresDownRefIdeal.main (F := Ideal))) ⟨m, fun _ => 0, g⟩ (fun r => (∀ c : Dev Cert.SumCoresDownRefIdeal.nD,
      r.2.mem ((c.tc : Thread Cert.SumCoresDownRefIdeal.nD Cert.SumCoresDownRefIdeal.τ).loc Cert.SumCoresDownRefIdeal.main_arg0) = m ((c.tc : Thread Cert.SumCoresDownRefIdeal.nD Cert.SumCoresDownRefIdeal.τ).loc Cert.SumCoresDownRefIdeal.main_arg0)
      ∧ r.2.mem ((c.tc : Thread Cert.SumCoresDownRefIdeal.nD Cert.SumCoresDownRefIdeal.τ).loc Cert.SumCoresDownRefIdeal.main_arg1) = m ((c.tc : Thread Cert.SumCoresDownRefIdeal.nD Cert.SumCoresDownRefIdeal.τ).loc Cert.SumCoresDownRefIdeal.main_arg1))
      ∧ r.2.sem = fun _ => 0)

def quiescent_SumChipsDown [hSumChipsDown : Cert.SumChipsDown.Facts] : Prop :=
  ∀ (m : (ℓ : Loc Cert.SumChipsDown.nD Cert.SumChipsDown.τ Cert.SumChipsDown.sig) → Buf (Elt Bits) ℓ) (g : Dev Cert.SumChipsDown.nD → PrngReg), Pre_SumChipsDown m →
    θ_run (Cert.SumChipsDown.defs (F := Bits)) (onTc (τ := Cert.SumChipsDown.τ) (Cert.SumChipsDown.main (F := Bits))) ⟨m, fun _ => 0, g⟩ (fun r => (∀ c : Dev Cert.SumChipsDown.nD,
      r.2.mem ((c.tc : Thread Cert.SumChipsDown.nD Cert.SumChipsDown.τ).loc Cert.SumChipsDown.main_arg0) = m ((c.tc : Thread Cert.SumChipsDown.nD Cert.SumChipsDown.τ).loc Cert.SumChipsDown.main_arg0))
      ∧ r.2.sem = fun _ => 0)

def quiescent_SumChipsDownIdeal [hSumChipsDownIdeal : Cert.SumChipsDownIdeal.Facts] : Prop :=
  ∀ (m : (ℓ : Loc Cert.SumChipsDownIdeal.nD Cert.SumChipsDownIdeal.τ Cert.SumChipsDownIdeal.sig) → Buf (Elt Ideal) ℓ) (g : Dev Cert.SumChipsDownIdeal.nD → PrngReg), Pre_SumChipsDownIdeal m →
    θ_run (Cert.SumChipsDownIdeal.defs (F := Ideal)) (onTc (τ := Cert.SumChipsDownIdeal.τ) (Cert.SumChipsDownIdeal.main (F := Ideal))) ⟨m, fun _ => 0, g⟩ (fun r => (∀ c : Dev Cert.SumChipsDownIdeal.nD,
      r.2.mem ((c.tc : Thread Cert.SumChipsDownIdeal.nD Cert.SumChipsDownIdeal.τ).loc Cert.SumChipsDownIdeal.main_arg0) = m ((c.tc : Thread Cert.SumChipsDownIdeal.nD Cert.SumChipsDownIdeal.τ).loc Cert.SumChipsDownIdeal.main_arg0))
      ∧ r.2.sem = fun _ => 0)

def quiescent_SumChipsDownRefIdeal [hSumChipsDownRefIdeal : Cert.SumChipsDownRefIdeal.Facts] : Prop :=
  ∀ (m : (ℓ : Loc Cert.SumChipsDownRefIdeal.nD Cert.SumChipsDownRefIdeal.τ Cert.SumChipsDownRefIdeal.sig) → Buf (Elt Ideal) ℓ) (g : Dev Cert.SumChipsDownRefIdeal.nD → PrngReg), Pre_SumChipsDownRefIdeal m →
    θ_run (Cert.SumChipsDownRefIdeal.defs (F := Ideal)) (onTc (τ := Cert.SumChipsDownRefIdeal.τ) (Cert.SumChipsDownRefIdeal.main (F := Ideal))) ⟨m, fun _ => 0, g⟩ (fun r => (∀ c : Dev Cert.SumChipsDownRefIdeal.nD,
      r.2.mem ((c.tc : Thread Cert.SumChipsDownRefIdeal.nD Cert.SumChipsDownRefIdeal.τ).loc Cert.SumChipsDownRefIdeal.main_arg0) = m ((c.tc : Thread Cert.SumChipsDownRefIdeal.nD Cert.SumChipsDownRefIdeal.τ).loc Cert.SumChipsDownRefIdeal.main_arg0))
      ∧ r.2.sem = fun _ => 0)

def quiescent_SumCoresOut [hSumCoresOut : Cert.SumCoresOut.Facts] : Prop :=
  ∀ (m : (ℓ : Loc Cert.SumCoresOut.nD Cert.SumCoresOut.τ Cert.SumCoresOut.sig) → Buf (Elt Bits) ℓ) (g : Dev Cert.SumCoresOut.nD → PrngReg), Pre_SumCoresOut m →
    θ_run (Cert.SumCoresOut.defs (F := Bits)) (onTc (τ := Cert.SumCoresOut.τ) (Cert.SumCoresOut.main (F := Bits))) ⟨m, fun _ => 0, g⟩ (fun r => (∀ c : Dev Cert.SumCoresOut.nD,
      r.2.mem ((c.tc : Thread Cert.SumCoresOut.nD Cert.SumCoresOut.τ).loc Cert.SumCoresOut.main_arg0) = m ((c.tc : Thread Cert.SumCoresOut.nD Cert.SumCoresOut.τ).loc Cert.SumCoresOut.main_arg0)
      ∧ r.2.mem ((c.tc : Thread Cert.SumCoresOut.nD Cert.SumCoresOut.τ).loc Cert.SumCoresOut.main_arg1) = m ((c.tc : Thread Cert.SumCoresOut.nD Cert.SumCoresOut.τ).loc Cert.SumCoresOut.main_arg1))
      ∧ r.2.sem = fun _ => 0)

def quiescent_SumCoresOutIdeal [hSumCoresOutIdeal : Cert.SumCoresOutIdeal.Facts] : Prop :=
  ∀ (m : (ℓ : Loc Cert.SumCoresOutIdeal.nD Cert.SumCoresOutIdeal.τ Cert.SumCoresOutIdeal.sig) → Buf (Elt Ideal) ℓ) (g : Dev Cert.SumCoresOutIdeal.nD → PrngReg), Pre_SumCoresOutIdeal m →
    θ_run (Cert.SumCoresOutIdeal.defs (F := Ideal)) (onTc (τ := Cert.SumCoresOutIdeal.τ) (Cert.SumCoresOutIdeal.main (F := Ideal))) ⟨m, fun _ => 0, g⟩ (fun r => (∀ c : Dev Cert.SumCoresOutIdeal.nD,
      r.2.mem ((c.tc : Thread Cert.SumCoresOutIdeal.nD Cert.SumCoresOutIdeal.τ).loc Cert.SumCoresOutIdeal.main_arg0) = m ((c.tc : Thread Cert.SumCoresOutIdeal.nD Cert.SumCoresOutIdeal.τ).loc Cert.SumCoresOutIdeal.main_arg0)
      ∧ r.2.mem ((c.tc : Thread Cert.SumCoresOutIdeal.nD Cert.SumCoresOutIdeal.τ).loc Cert.SumCoresOutIdeal.main_arg1) = m ((c.tc : Thread Cert.SumCoresOutIdeal.nD Cert.SumCoresOutIdeal.τ).loc Cert.SumCoresOutIdeal.main_arg1))
      ∧ r.2.sem = fun _ => 0)

def quiescent_SumCoresOutRefIdeal [hSumCoresOutRefIdeal : Cert.SumCoresOutRefIdeal.Facts] : Prop :=
  ∀ (m : (ℓ : Loc Cert.SumCoresOutRefIdeal.nD Cert.SumCoresOutRefIdeal.τ Cert.SumCoresOutRefIdeal.sig) → Buf (Elt Ideal) ℓ) (g : Dev Cert.SumCoresOutRefIdeal.nD → PrngReg), Pre_SumCoresOutRefIdeal m →
    θ_run (Cert.SumCoresOutRefIdeal.defs (F := Ideal)) (onTc (τ := Cert.SumCoresOutRefIdeal.τ) (Cert.SumCoresOutRefIdeal.main (F := Ideal))) ⟨m, fun _ => 0, g⟩ (fun r => (∀ c : Dev Cert.SumCoresOutRefIdeal.nD,
      r.2.mem ((c.tc : Thread Cert.SumCoresOutRefIdeal.nD Cert.SumCoresOutRefIdeal.τ).loc Cert.SumCoresOutRefIdeal.main_arg0) = m ((c.tc : Thread Cert.SumCoresOutRefIdeal.nD Cert.SumCoresOutRefIdeal.τ).loc Cert.SumCoresOutRefIdeal.main_arg0)
      ∧ r.2.mem ((c.tc : Thread Cert.SumCoresOutRefIdeal.nD Cert.SumCoresOutRefIdeal.τ).loc Cert.SumCoresOutRefIdeal.main_arg1) = m ((c.tc : Thread Cert.SumCoresOutRefIdeal.nD Cert.SumCoresOutRefIdeal.τ).loc Cert.SumCoresOutRefIdeal.main_arg1))
      ∧ r.2.sem = fun _ => 0)

def quiescent_SumChipsOut [hSumChipsOut : Cert.SumChipsOut.Facts] : Prop :=
  ∀ (m : (ℓ : Loc Cert.SumChipsOut.nD Cert.SumChipsOut.τ Cert.SumChipsOut.sig) → Buf (Elt Bits) ℓ) (g : Dev Cert.SumChipsOut.nD → PrngReg), Pre_SumChipsOut m →
    θ_run (Cert.SumChipsOut.defs (F := Bits)) (onTc (τ := Cert.SumChipsOut.τ) (Cert.SumChipsOut.main (F := Bits))) ⟨m, fun _ => 0, g⟩ (fun r => (∀ c : Dev Cert.SumChipsOut.nD,
      r.2.mem ((c.tc : Thread Cert.SumChipsOut.nD Cert.SumChipsOut.τ).loc Cert.SumChipsOut.main_arg0) = m ((c.tc : Thread Cert.SumChipsOut.nD Cert.SumChipsOut.τ).loc Cert.SumChipsOut.main_arg0))
      ∧ r.2.sem = fun _ => 0)

def quiescent_SumChipsOutIdeal [hSumChipsOutIdeal : Cert.SumChipsOutIdeal.Facts] : Prop :=
  ∀ (m : (ℓ : Loc Cert.SumChipsOutIdeal.nD Cert.SumChipsOutIdeal.τ Cert.SumChipsOutIdeal.sig) → Buf (Elt Ideal) ℓ) (g : Dev Cert.SumChipsOutIdeal.nD → PrngReg), Pre_SumChipsOutIdeal m →
    θ_run (Cert.SumChipsOutIdeal.defs (F := Ideal)) (onTc (τ := Cert.SumChipsOutIdeal.τ) (Cert.SumChipsOutIdeal.main (F := Ideal))) ⟨m, fun _ => 0, g⟩ (fun r => (∀ c : Dev Cert.SumChipsOutIdeal.nD,
      r.2.mem ((c.tc : Thread Cert.SumChipsOutIdeal.nD Cert.SumChipsOutIdeal.τ).loc Cert.SumChipsOutIdeal.main_arg0) = m ((c.tc : Thread Cert.SumChipsOutIdeal.nD Cert.SumChipsOutIdeal.τ).loc Cert.SumChipsOutIdeal.main_arg0))
      ∧ r.2.sem = fun _ => 0)

def quiescent_SumChipsOutRefIdeal [hSumChipsOutRefIdeal : Cert.SumChipsOutRefIdeal.Facts] : Prop :=
  ∀ (m : (ℓ : Loc Cert.SumChipsOutRefIdeal.nD Cert.SumChipsOutRefIdeal.τ Cert.SumChipsOutRefIdeal.sig) → Buf (Elt Ideal) ℓ) (g : Dev Cert.SumChipsOutRefIdeal.nD → PrngReg), Pre_SumChipsOutRefIdeal m →
    θ_run (Cert.SumChipsOutRefIdeal.defs (F := Ideal)) (onTc (τ := Cert.SumChipsOutRefIdeal.τ) (Cert.SumChipsOutRefIdeal.main (F := Ideal))) ⟨m, fun _ => 0, g⟩ (fun r => (∀ c : Dev Cert.SumChipsOutRefIdeal.nD,
      r.2.mem ((c.tc : Thread Cert.SumChipsOutRefIdeal.nD Cert.SumChipsOutRefIdeal.τ).loc Cert.SumChipsOutRefIdeal.main_arg0) = m ((c.tc : Thread Cert.SumChipsOutRefIdeal.nD Cert.SumChipsOutRefIdeal.τ).loc Cert.SumChipsOutRefIdeal.main_arg0))
      ∧ r.2.sem = fun _ => 0)

def quiescent_SumCoresProj [hSumCoresProj : Cert.SumCoresProj.Facts] : Prop :=
  ∀ (m : (ℓ : Loc Cert.SumCoresProj.nD Cert.SumCoresProj.τ Cert.SumCoresProj.sig) → Buf (Elt Bits) ℓ) (g : Dev Cert.SumCoresProj.nD → PrngReg), Pre_SumCoresProj m →
    θ_run (Cert.SumCoresProj.defs (F := Bits)) (onTc (τ := Cert.SumCoresProj.τ) (Cert.SumCoresProj.main (F := Bits))) ⟨m, fun _ => 0, g⟩ (fun r => (∀ c : Dev Cert.SumCoresProj.nD,
      r.2.mem ((c.tc : Thread Cert.SumCoresProj.nD Cert.SumCoresProj.τ).loc Cert.SumCoresProj.main_arg0) = m ((c.tc : Thread Cert.SumCoresProj.nD Cert.SumCoresProj.τ).loc Cert.SumCoresProj.main_arg0)
      ∧ r.2.mem ((c.tc : Thread Cert.SumCoresProj.nD Cert.SumCoresProj.τ).loc Cert.SumCoresProj.main_arg1) = m ((c.tc : Thread Cert.SumCoresProj.nD Cert.SumCoresProj.τ).loc Cert.SumCoresProj.main_arg1))
      ∧ r.2.sem = fun _ => 0)

def quiescent_SumCoresProjIdeal [hSumCoresProjIdeal : Cert.SumCoresProjIdeal.Facts] : Prop :=
  ∀ (m : (ℓ : Loc Cert.SumCoresProjIdeal.nD Cert.SumCoresProjIdeal.τ Cert.SumCoresProjIdeal.sig) → Buf (Elt Ideal) ℓ) (g : Dev Cert.SumCoresProjIdeal.nD → PrngReg), Pre_SumCoresProjIdeal m →
    θ_run (Cert.SumCoresProjIdeal.defs (F := Ideal)) (onTc (τ := Cert.SumCoresProjIdeal.τ) (Cert.SumCoresProjIdeal.main (F := Ideal))) ⟨m, fun _ => 0, g⟩ (fun r => (∀ c : Dev Cert.SumCoresProjIdeal.nD,
      r.2.mem ((c.tc : Thread Cert.SumCoresProjIdeal.nD Cert.SumCoresProjIdeal.τ).loc Cert.SumCoresProjIdeal.main_arg0) = m ((c.tc : Thread Cert.SumCoresProjIdeal.nD Cert.SumCoresProjIdeal.τ).loc Cert.SumCoresProjIdeal.main_arg0)
      ∧ r.2.mem ((c.tc : Thread Cert.SumCoresProjIdeal.nD Cert.SumCoresProjIdeal.τ).loc Cert.SumCoresProjIdeal.main_arg1) = m ((c.tc : Thread Cert.SumCoresProjIdeal.nD Cert.SumCoresProjIdeal.τ).loc Cert.SumCoresProjIdeal.main_arg1))
      ∧ r.2.sem = fun _ => 0)

def quiescent_SumCoresProjRefIdeal [hSumCoresProjRefIdeal : Cert.SumCoresProjRefIdeal.Facts] : Prop :=
  ∀ (m : (ℓ : Loc Cert.SumCoresProjRefIdeal.nD Cert.SumCoresProjRefIdeal.τ Cert.SumCoresProjRefIdeal.sig) → Buf (Elt Ideal) ℓ) (g : Dev Cert.SumCoresProjRefIdeal.nD → PrngReg), Pre_SumCoresProjRefIdeal m →
    θ_run (Cert.SumCoresProjRefIdeal.defs (F := Ideal)) (onTc (τ := Cert.SumCoresProjRefIdeal.τ) (Cert.SumCoresProjRefIdeal.main (F := Ideal))) ⟨m, fun _ => 0, g⟩ (fun r => (∀ c : Dev Cert.SumCoresProjRefIdeal.nD,
      r.2.mem ((c.tc : Thread Cert.SumCoresProjRefIdeal.nD Cert.SumCoresProjRefIdeal.τ).loc Cert.SumCoresProjRefIdeal.main_arg0) = m ((c.tc : Thread Cert.SumCoresProjRefIdeal.nD Cert.SumCoresProjRefIdeal.τ).loc Cert.SumCoresProjRefIdeal.main_arg0)
      ∧ r.2.mem ((c.tc : Thread Cert.SumCoresProjRefIdeal.nD Cert.SumCoresProjRefIdeal.τ).loc Cert.SumCoresProjRefIdeal.main_arg1) = m ((c.tc : Thread Cert.SumCoresProjRefIdeal.nD Cert.SumCoresProjRefIdeal.τ).loc Cert.SumCoresProjRefIdeal.main_arg1))
      ∧ r.2.sem = fun _ => 0)

def quiescent_SumChipsProj [hSumChipsProj : Cert.SumChipsProj.Facts] : Prop :=
  ∀ (m : (ℓ : Loc Cert.SumChipsProj.nD Cert.SumChipsProj.τ Cert.SumChipsProj.sig) → Buf (Elt Bits) ℓ) (g : Dev Cert.SumChipsProj.nD → PrngReg), Pre_SumChipsProj m →
    θ_run (Cert.SumChipsProj.defs (F := Bits)) (onTc (τ := Cert.SumChipsProj.τ) (Cert.SumChipsProj.main (F := Bits))) ⟨m, fun _ => 0, g⟩ (fun r => (∀ c : Dev Cert.SumChipsProj.nD,
      r.2.mem ((c.tc : Thread Cert.SumChipsProj.nD Cert.SumChipsProj.τ).loc Cert.SumChipsProj.main_arg0) = m ((c.tc : Thread Cert.SumChipsProj.nD Cert.SumChipsProj.τ).loc Cert.SumChipsProj.main_arg0))
      ∧ r.2.sem = fun _ => 0)

def quiescent_SumChipsProjIdeal [hSumChipsProjIdeal : Cert.SumChipsProjIdeal.Facts] : Prop :=
  ∀ (m : (ℓ : Loc Cert.SumChipsProjIdeal.nD Cert.SumChipsProjIdeal.τ Cert.SumChipsProjIdeal.sig) → Buf (Elt Ideal) ℓ) (g : Dev Cert.SumChipsProjIdeal.nD → PrngReg), Pre_SumChipsProjIdeal m →
    θ_run (Cert.SumChipsProjIdeal.defs (F := Ideal)) (onTc (τ := Cert.SumChipsProjIdeal.τ) (Cert.SumChipsProjIdeal.main (F := Ideal))) ⟨m, fun _ => 0, g⟩ (fun r => (∀ c : Dev Cert.SumChipsProjIdeal.nD,
      r.2.mem ((c.tc : Thread Cert.SumChipsProjIdeal.nD Cert.SumChipsProjIdeal.τ).loc Cert.SumChipsProjIdeal.main_arg0) = m ((c.tc : Thread Cert.SumChipsProjIdeal.nD Cert.SumChipsProjIdeal.τ).loc Cert.SumChipsProjIdeal.main_arg0))
      ∧ r.2.sem = fun _ => 0)

def quiescent_SumChipsProjRefIdeal [hSumChipsProjRefIdeal : Cert.SumChipsProjRefIdeal.Facts] : Prop :=
  ∀ (m : (ℓ : Loc Cert.SumChipsProjRefIdeal.nD Cert.SumChipsProjRefIdeal.τ Cert.SumChipsProjRefIdeal.sig) → Buf (Elt Ideal) ℓ) (g : Dev Cert.SumChipsProjRefIdeal.nD → PrngReg), Pre_SumChipsProjRefIdeal m →
    θ_run (Cert.SumChipsProjRefIdeal.defs (F := Ideal)) (onTc (τ := Cert.SumChipsProjRefIdeal.τ) (Cert.SumChipsProjRefIdeal.main (F := Ideal))) ⟨m, fun _ => 0, g⟩ (fun r => (∀ c : Dev Cert.SumChipsProjRefIdeal.nD,
      r.2.mem ((c.tc : Thread Cert.SumChipsProjRefIdeal.nD Cert.SumChipsProjRefIdeal.τ).loc Cert.SumChipsProjRefIdeal.main_arg0) = m ((c.tc : Thread Cert.SumChipsProjRefIdeal.nD Cert.SumChipsProjRefIdeal.τ).loc Cert.SumChipsProjRefIdeal.main_arg0))
      ∧ r.2.sem = fun _ => 0)

def quiescent_SumDevices [hSumDevices : Cert.SumDevices.Facts] : Prop :=
  ∀ (m : (ℓ : Loc Cert.SumDevices.nD Cert.SumDevices.τ Cert.SumDevices.sig) → Buf (Elt Bits) ℓ) (g : Dev Cert.SumDevices.nD → PrngReg), Pre_SumDevices m →
    θ_run (Cert.SumDevices.defs (F := Bits)) (onTc (τ := Cert.SumDevices.τ) (Cert.SumDevices.main (F := Bits))) ⟨m, fun _ => 0, g⟩ (fun r => (∀ c : Dev Cert.SumDevices.nD,
      r.2.mem ((c.tc : Thread Cert.SumDevices.nD Cert.SumDevices.τ).loc Cert.SumDevices.main_arg0) = m ((c.tc : Thread Cert.SumDevices.nD Cert.SumDevices.τ).loc Cert.SumDevices.main_arg0))
      ∧ r.2.sem = fun _ => 0)

def quiescent_SumDevicesIdeal [hSumDevicesIdeal : Cert.SumDevicesIdeal.Facts] : Prop :=
  ∀ (m : (ℓ : Loc Cert.SumDevicesIdeal.nD Cert.SumDevicesIdeal.τ Cert.SumDevicesIdeal.sig) → Buf (Elt Ideal) ℓ) (g : Dev Cert.SumDevicesIdeal.nD → PrngReg), Pre_SumDevicesIdeal m →
    θ_run (Cert.SumDevicesIdeal.defs (F := Ideal)) (onTc (τ := Cert.SumDevicesIdeal.τ) (Cert.SumDevicesIdeal.main (F := Ideal))) ⟨m, fun _ => 0, g⟩ (fun r => (∀ c : Dev Cert.SumDevicesIdeal.nD,
      r.2.mem ((c.tc : Thread Cert.SumDevicesIdeal.nD Cert.SumDevicesIdeal.τ).loc Cert.SumDevicesIdeal.main_arg0) = m ((c.tc : Thread Cert.SumDevicesIdeal.nD Cert.SumDevicesIdeal.τ).loc Cert.SumDevicesIdeal.main_arg0))
      ∧ r.2.sem = fun _ => 0)

def quiescent_SumDevicesRefIdeal [hSumDevicesRefIdeal : Cert.SumDevicesRefIdeal.Facts] : Prop :=
  ∀ (m : (ℓ : Loc Cert.SumDevicesRefIdeal.nD Cert.SumDevicesRefIdeal.τ Cert.SumDevicesRefIdeal.sig) → Buf (Elt Ideal) ℓ) (g : Dev Cert.SumDevicesRefIdeal.nD → PrngReg), Pre_SumDevicesRefIdeal m →
    θ_run (Cert.SumDevicesRefIdeal.defs (F := Ideal)) (onTc (τ := Cert.SumDevicesRefIdeal.τ) (Cert.SumDevicesRefIdeal.main (F := Ideal))) ⟨m, fun _ => 0, g⟩ (fun r => (∀ c : Dev Cert.SumDevicesRefIdeal.nD,
      r.2.mem ((c.tc : Thread Cert.SumDevicesRefIdeal.nD Cert.SumDevicesRefIdeal.τ).loc Cert.SumDevicesRefIdeal.main_arg0) = m ((c.tc : Thread Cert.SumDevicesRefIdeal.nD Cert.SumDevicesRefIdeal.τ).loc Cert.SumDevicesRefIdeal.main_arg0))
      ∧ r.2.sem = fun _ => 0)

def quiescent_Assemble [hAssemble : Cert.Assemble.Facts] : Prop :=
  ∀ (m : (ℓ : Loc Cert.Assemble.nD Cert.Assemble.τ Cert.Assemble.sig) → Buf (Elt Bits) ℓ) (g : Dev Cert.Assemble.nD → PrngReg), Pre_Assemble m →
    θ_run (Cert.Assemble.defs (F := Bits)) (onTc (τ := Cert.Assemble.τ) (Cert.Assemble.main (F := Bits))) ⟨m, fun _ => 0, g⟩ (fun r => (∀ c : Dev Cert.Assemble.nD,
      r.2.mem ((c.tc : Thread Cert.Assemble.nD Cert.Assemble.τ).loc Cert.Assemble.main_arg0) = m ((c.tc : Thread Cert.Assemble.nD Cert.Assemble.τ).loc Cert.Assemble.main_arg0)
      ∧ r.2.mem ((c.tc : Thread Cert.Assemble.nD Cert.Assemble.τ).loc Cert.Assemble.main_arg1) = m ((c.tc : Thread Cert.Assemble.nD Cert.Assemble.τ).loc Cert.Assemble.main_arg1)
      ∧ r.2.mem ((c.tc : Thread Cert.Assemble.nD Cert.Assemble.τ).loc Cert.Assemble.main_arg2) = m ((c.tc : Thread Cert.Assemble.nD Cert.Assemble.τ).loc Cert.Assemble.main_arg2)
      ∧ r.2.mem ((c.tc : Thread Cert.Assemble.nD Cert.Assemble.τ).loc Cert.Assemble.main_arg3) = m ((c.tc : Thread Cert.Assemble.nD Cert.Assemble.τ).loc Cert.Assemble.main_arg3)
      ∧ r.2.mem ((c.tc : Thread Cert.Assemble.nD Cert.Assemble.τ).loc Cert.Assemble.main_arg4) = m ((c.tc : Thread Cert.Assemble.nD Cert.Assemble.τ).loc Cert.Assemble.main_arg4)
      ∧ r.2.mem ((c.tc : Thread Cert.Assemble.nD Cert.Assemble.τ).loc Cert.Assemble.main_arg5) = m ((c.tc : Thread Cert.Assemble.nD Cert.Assemble.τ).loc Cert.Assemble.main_arg5)
      ∧ r.2.mem ((c.tc : Thread Cert.Assemble.nD Cert.Assemble.τ).loc Cert.Assemble.main_arg6) = m ((c.tc : Thread Cert.Assemble.nD Cert.Assemble.τ).loc Cert.Assemble.main_arg6)
      ∧ r.2.mem ((c.tc : Thread Cert.Assemble.nD Cert.Assemble.τ).loc Cert.Assemble.main_arg7) = m ((c.tc : Thread Cert.Assemble.nD Cert.Assemble.τ).loc Cert.Assemble.main_arg7)
      ∧ r.2.mem ((c.tc : Thread Cert.Assemble.nD Cert.Assemble.τ).loc Cert.Assemble.main_arg8) = m ((c.tc : Thread Cert.Assemble.nD Cert.Assemble.τ).loc Cert.Assemble.main_arg8))
      ∧ r.2.sem = fun _ => 0)

def quiescent_AssembleIdeal [hAssembleIdeal : Cert.AssembleIdeal.Facts] : Prop :=
  ∀ (m : (ℓ : Loc Cert.AssembleIdeal.nD Cert.AssembleIdeal.τ Cert.AssembleIdeal.sig) → Buf (Elt Ideal) ℓ) (g : Dev Cert.AssembleIdeal.nD → PrngReg), Pre_AssembleIdeal m →
    θ_run (Cert.AssembleIdeal.defs (F := Ideal)) (onTc (τ := Cert.AssembleIdeal.τ) (Cert.AssembleIdeal.main (F := Ideal))) ⟨m, fun _ => 0, g⟩ (fun r => (∀ c : Dev Cert.AssembleIdeal.nD,
      r.2.mem ((c.tc : Thread Cert.AssembleIdeal.nD Cert.AssembleIdeal.τ).loc Cert.AssembleIdeal.main_arg0) = m ((c.tc : Thread Cert.AssembleIdeal.nD Cert.AssembleIdeal.τ).loc Cert.AssembleIdeal.main_arg0)
      ∧ r.2.mem ((c.tc : Thread Cert.AssembleIdeal.nD Cert.AssembleIdeal.τ).loc Cert.AssembleIdeal.main_arg1) = m ((c.tc : Thread Cert.AssembleIdeal.nD Cert.AssembleIdeal.τ).loc Cert.AssembleIdeal.main_arg1)
      ∧ r.2.mem ((c.tc : Thread Cert.AssembleIdeal.nD Cert.AssembleIdeal.τ).loc Cert.AssembleIdeal.main_arg2) = m ((c.tc : Thread Cert.AssembleIdeal.nD Cert.AssembleIdeal.τ).loc Cert.AssembleIdeal.main_arg2)
      ∧ r.2.mem ((c.tc : Thread Cert.AssembleIdeal.nD Cert.AssembleIdeal.τ).loc Cert.AssembleIdeal.main_arg3) = m ((c.tc : Thread Cert.AssembleIdeal.nD Cert.AssembleIdeal.τ).loc Cert.AssembleIdeal.main_arg3)
      ∧ r.2.mem ((c.tc : Thread Cert.AssembleIdeal.nD Cert.AssembleIdeal.τ).loc Cert.AssembleIdeal.main_arg4) = m ((c.tc : Thread Cert.AssembleIdeal.nD Cert.AssembleIdeal.τ).loc Cert.AssembleIdeal.main_arg4)
      ∧ r.2.mem ((c.tc : Thread Cert.AssembleIdeal.nD Cert.AssembleIdeal.τ).loc Cert.AssembleIdeal.main_arg5) = m ((c.tc : Thread Cert.AssembleIdeal.nD Cert.AssembleIdeal.τ).loc Cert.AssembleIdeal.main_arg5)
      ∧ r.2.mem ((c.tc : Thread Cert.AssembleIdeal.nD Cert.AssembleIdeal.τ).loc Cert.AssembleIdeal.main_arg6) = m ((c.tc : Thread Cert.AssembleIdeal.nD Cert.AssembleIdeal.τ).loc Cert.AssembleIdeal.main_arg6)
      ∧ r.2.mem ((c.tc : Thread Cert.AssembleIdeal.nD Cert.AssembleIdeal.τ).loc Cert.AssembleIdeal.main_arg7) = m ((c.tc : Thread Cert.AssembleIdeal.nD Cert.AssembleIdeal.τ).loc Cert.AssembleIdeal.main_arg7)
      ∧ r.2.mem ((c.tc : Thread Cert.AssembleIdeal.nD Cert.AssembleIdeal.τ).loc Cert.AssembleIdeal.main_arg8) = m ((c.tc : Thread Cert.AssembleIdeal.nD Cert.AssembleIdeal.τ).loc Cert.AssembleIdeal.main_arg8))
      ∧ r.2.sem = fun _ => 0)

def quiescent_AssembleRefIdeal [hAssembleRefIdeal : Cert.AssembleRefIdeal.Facts] : Prop :=
  ∀ (m : (ℓ : Loc Cert.AssembleRefIdeal.nD Cert.AssembleRefIdeal.τ Cert.AssembleRefIdeal.sig) → Buf (Elt Ideal) ℓ) (g : Dev Cert.AssembleRefIdeal.nD → PrngReg), Pre_AssembleRefIdeal m →
    θ_run (Cert.AssembleRefIdeal.defs (F := Ideal)) (onTc (τ := Cert.AssembleRefIdeal.τ) (Cert.AssembleRefIdeal.main (F := Ideal))) ⟨m, fun _ => 0, g⟩ (fun r => (∀ c : Dev Cert.AssembleRefIdeal.nD,
      r.2.mem ((c.tc : Thread Cert.AssembleRefIdeal.nD Cert.AssembleRefIdeal.τ).loc Cert.AssembleRefIdeal.main_arg0) = m ((c.tc : Thread Cert.AssembleRefIdeal.nD Cert.AssembleRefIdeal.τ).loc Cert.AssembleRefIdeal.main_arg0)
      ∧ r.2.mem ((c.tc : Thread Cert.AssembleRefIdeal.nD Cert.AssembleRefIdeal.τ).loc Cert.AssembleRefIdeal.main_arg1) = m ((c.tc : Thread Cert.AssembleRefIdeal.nD Cert.AssembleRefIdeal.τ).loc Cert.AssembleRefIdeal.main_arg1)
      ∧ r.2.mem ((c.tc : Thread Cert.AssembleRefIdeal.nD Cert.AssembleRefIdeal.τ).loc Cert.AssembleRefIdeal.main_arg2) = m ((c.tc : Thread Cert.AssembleRefIdeal.nD Cert.AssembleRefIdeal.τ).loc Cert.AssembleRefIdeal.main_arg2)
      ∧ r.2.mem ((c.tc : Thread Cert.AssembleRefIdeal.nD Cert.AssembleRefIdeal.τ).loc Cert.AssembleRefIdeal.main_arg3) = m ((c.tc : Thread Cert.AssembleRefIdeal.nD Cert.AssembleRefIdeal.τ).loc Cert.AssembleRefIdeal.main_arg3)
      ∧ r.2.mem ((c.tc : Thread Cert.AssembleRefIdeal.nD Cert.AssembleRefIdeal.τ).loc Cert.AssembleRefIdeal.main_arg4) = m ((c.tc : Thread Cert.AssembleRefIdeal.nD Cert.AssembleRefIdeal.τ).loc Cert.AssembleRefIdeal.main_arg4)
      ∧ r.2.mem ((c.tc : Thread Cert.AssembleRefIdeal.nD Cert.AssembleRefIdeal.τ).loc Cert.AssembleRefIdeal.main_arg5) = m ((c.tc : Thread Cert.AssembleRefIdeal.nD Cert.AssembleRefIdeal.τ).loc Cert.AssembleRefIdeal.main_arg5)
      ∧ r.2.mem ((c.tc : Thread Cert.AssembleRefIdeal.nD Cert.AssembleRefIdeal.τ).loc Cert.AssembleRefIdeal.main_arg6) = m ((c.tc : Thread Cert.AssembleRefIdeal.nD Cert.AssembleRefIdeal.τ).loc Cert.AssembleRefIdeal.main_arg6)
      ∧ r.2.mem ((c.tc : Thread Cert.AssembleRefIdeal.nD Cert.AssembleRefIdeal.τ).loc Cert.AssembleRefIdeal.main_arg7) = m ((c.tc : Thread Cert.AssembleRefIdeal.nD Cert.AssembleRefIdeal.τ).loc Cert.AssembleRefIdeal.main_arg7)
      ∧ r.2.mem ((c.tc : Thread Cert.AssembleRefIdeal.nD Cert.AssembleRefIdeal.τ).loc Cert.AssembleRefIdeal.main_arg8) = m ((c.tc : Thread Cert.AssembleRefIdeal.nD Cert.AssembleRefIdeal.τ).loc Cert.AssembleRefIdeal.main_arg8))
      ∧ r.2.sem = fun _ => 0)

def preserves_FfnAct_FfnActIdeal : Prop :=
  True

def algebraic_FfnActIdeal_FfnActRefIdeal_pre_ffn_act_finite [hFfnActIdeal : Cert.FfnActIdeal.Facts] [hFfnActRefIdeal : Cert.FfnActRefIdeal.Facts] [hPre_ffn_act_finite : Cert.Pre_ffn_act_finite.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal_ffn_act_finite m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)
      ∧ m' ((c.tc : Thread Cert.FfnActRefIdeal.nD Cert.FfnActRefIdeal.τ).loc Cert.FfnActRefIdeal.main_arg1) = m ((c.tc : Thread Cert.FfnActIdeal.nD Cert.FfnActIdeal.τ).loc Cert.FfnActIdeal.main_arg1)
      ∧ m' ((c.tc : Thread Cert.FfnActRefIdeal.nD Cert.FfnActRefIdeal.τ).loc Cert.FfnActRefIdeal.main_arg2) = m ((c.tc : Thread Cert.FfnActIdeal.nD Cert.FfnActIdeal.τ).loc Cert.FfnActIdeal.main_arg2)
      ∧ m' ((c.tc : Thread Cert.FfnActRefIdeal.nD Cert.FfnActRefIdeal.τ).loc Cert.FfnActRefIdeal.main_arg3) = m ((c.tc : Thread Cert.FfnActIdeal.nD Cert.FfnActIdeal.τ).loc Cert.FfnActIdeal.main_arg3)) →
    ∃ (v0 : (c : Dev Cert.FfnActIdeal.nD) → Buf (Elt Ideal) ((c.tc : Thread Cert.FfnActIdeal.nD Cert.FfnActIdeal.τ).loc Cert.FfnActIdeal.main_v0_0)) (v1 : (c : Dev Cert.FfnActIdeal.nD) → Buf (Elt Ideal) ((c.tc : Thread Cert.FfnActIdeal.nD Cert.FfnActIdeal.τ).loc Cert.FfnActIdeal.main_v0_1)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v0_0) = v0 c
          ∧ r.2.mem ((c.tc : Thread Cert.FfnActIdeal.nD Cert.FfnActIdeal.τ).loc Cert.FfnActIdeal.main_v0_1) = v1 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
          ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
          ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v15) = v0 c
          ∧ r.2.mem ((c.tc : Thread Cert.FfnActRefIdeal.nD Cert.FfnActRefIdeal.τ).loc Cert.FfnActRefIdeal.main_v16) = v1 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0)
          ∧ r.2.mem ((c.tc : Thread Cert.FfnActRefIdeal.nD Cert.FfnActRefIdeal.τ).loc Cert.FfnActRefIdeal.main_arg1) = m' ((c.tc : Thread Cert.FfnActRefIdeal.nD Cert.FfnActRefIdeal.τ).loc Cert.FfnActRefIdeal.main_arg1)
          ∧ r.2.mem ((c.tc : Thread Cert.FfnActRefIdeal.nD Cert.FfnActRefIdeal.τ).loc Cert.FfnActRefIdeal.main_arg2) = m' ((c.tc : Thread Cert.FfnActRefIdeal.nD Cert.FfnActRefIdeal.τ).loc Cert.FfnActRefIdeal.main_arg2)
          ∧ r.2.mem ((c.tc : Thread Cert.FfnActRefIdeal.nD Cert.FfnActRefIdeal.τ).loc Cert.FfnActRefIdeal.main_arg3) = m' ((c.tc : Thread Cert.FfnActRefIdeal.nD Cert.FfnActRefIdeal.τ).loc Cert.FfnActRefIdeal.main_arg3))

def preserves_FfnDwd_FfnDwdIdeal : Prop :=
  True

def algebraic_FfnDwdIdeal_FfnDwdRefIdeal [hFfnDwdIdeal : Cert.FfnDwdIdeal.Facts] [hFfnDwdRefIdeal : Cert.FfnDwdRefIdeal.Facts] : Prop :=
  ∀ (m : (ℓ : Loc Cert.FfnDwdIdeal.nD Cert.FfnDwdIdeal.τ Cert.FfnDwdIdeal.sig) → Buf (Elt Ideal) ℓ) (g : Dev Cert.FfnDwdIdeal.nD → PrngReg)
    (m' : (ℓ : Loc Cert.FfnDwdRefIdeal.nD Cert.FfnDwdRefIdeal.τ Cert.FfnDwdRefIdeal.sig) → Buf (Elt Ideal) ℓ) (g' : Dev Cert.FfnDwdRefIdeal.nD → PrngReg), Pre_FfnDwdIdeal m →
    (∀ c : Dev Cert.FfnDwdIdeal.nD,
      m' ((c.tc : Thread Cert.FfnDwdRefIdeal.nD Cert.FfnDwdRefIdeal.τ).loc Cert.FfnDwdRefIdeal.main_arg0) = m ((c.tc : Thread Cert.FfnDwdIdeal.nD Cert.FfnDwdIdeal.τ).loc Cert.FfnDwdIdeal.main_arg0)
      ∧ m' ((c.tc : Thread Cert.FfnDwdRefIdeal.nD Cert.FfnDwdRefIdeal.τ).loc Cert.FfnDwdRefIdeal.main_arg1) = m ((c.tc : Thread Cert.FfnDwdIdeal.nD Cert.FfnDwdIdeal.τ).loc Cert.FfnDwdIdeal.main_arg1)) →
    ∃ (v0 : (c : Dev Cert.FfnDwdIdeal.nD) → Buf (Elt Ideal) ((c.tc : Thread Cert.FfnDwdIdeal.nD Cert.FfnDwdIdeal.τ).loc Cert.FfnDwdIdeal.main_v0)),
      θ_run (Cert.FfnDwdIdeal.defs (F := Ideal)) (onTc (τ := Cert.FfnDwdIdeal.τ) (Cert.FfnDwdIdeal.main (F := Ideal))) ⟨m, fun _ => 0, g⟩ (fun r => ∀ c : Dev Cert.FfnDwdIdeal.nD,
          r.2.mem ((c.tc : Thread Cert.FfnDwdIdeal.nD Cert.FfnDwdIdeal.τ).loc Cert.FfnDwdIdeal.main_v0) = v0 c
          ∧ r.2.mem ((c.tc : Thread Cert.FfnDwdIdeal.nD Cert.FfnDwdIdeal.τ).loc Cert.FfnDwdIdeal.main_arg0) = m ((c.tc : Thread Cert.FfnDwdIdeal.nD Cert.FfnDwdIdeal.τ).loc Cert.FfnDwdIdeal.main_arg0)
          ∧ r.2.mem ((c.tc : Thread Cert.FfnDwdIdeal.nD Cert.FfnDwdIdeal.τ).loc Cert.FfnDwdIdeal.main_arg1) = m ((c.tc : Thread Cert.FfnDwdIdeal.nD Cert.FfnDwdIdeal.τ).loc Cert.FfnDwdIdeal.main_arg1))
      ∧ θ_run (Cert.FfnDwdRefIdeal.defs (F := Ideal)) (onTc (τ := Cert.FfnDwdRefIdeal.τ) (Cert.FfnDwdRefIdeal.main (F := Ideal))) ⟨m', fun _ => 0, g'⟩ (fun r => ∀ c : Dev Cert.FfnDwdRefIdeal.nD,
          r.2.mem ((c.tc : Thread Cert.FfnDwdRefIdeal.nD Cert.FfnDwdRefIdeal.τ).loc Cert.FfnDwdRefIdeal.main_v10) = v0 c
          ∧ r.2.mem ((c.tc : Thread Cert.FfnDwdRefIdeal.nD Cert.FfnDwdRefIdeal.τ).loc Cert.FfnDwdRefIdeal.main_arg0) = m' ((c.tc : Thread Cert.FfnDwdRefIdeal.nD Cert.FfnDwdRefIdeal.τ).loc Cert.FfnDwdRefIdeal.main_arg0)
          ∧ r.2.mem ((c.tc : Thread Cert.FfnDwdRefIdeal.nD Cert.FfnDwdRefIdeal.τ).loc Cert.FfnDwdRefIdeal.main_arg1) = m' ((c.tc : Thread Cert.FfnDwdRefIdeal.nD Cert.FfnDwdRefIdeal.τ).loc Cert.FfnDwdRefIdeal.main_arg1))

def preserves_FfnDwg_FfnDwgIdeal : Prop :=
  True

def algebraic_FfnDwgIdeal_FfnDwgRefIdeal [hFfnDwgIdeal : Cert.FfnDwgIdeal.Facts] [hFfnDwgRefIdeal : Cert.FfnDwgRefIdeal.Facts] : Prop :=
  ∀ (m : (ℓ : Loc Cert.FfnDwgIdeal.nD Cert.FfnDwgIdeal.τ Cert.FfnDwgIdeal.sig) → Buf (Elt Ideal) ℓ) (g : Dev Cert.FfnDwgIdeal.nD → PrngReg)
    (m' : (ℓ : Loc Cert.FfnDwgRefIdeal.nD Cert.FfnDwgRefIdeal.τ Cert.FfnDwgRefIdeal.sig) → Buf (Elt Ideal) ℓ) (g' : Dev Cert.FfnDwgRefIdeal.nD → PrngReg), Pre_FfnDwgIdeal m →
    (∀ c : Dev Cert.FfnDwgIdeal.nD,
      m' ((c.tc : Thread Cert.FfnDwgRefIdeal.nD Cert.FfnDwgRefIdeal.τ).loc Cert.FfnDwgRefIdeal.main_arg0) = m ((c.tc : Thread Cert.FfnDwgIdeal.nD Cert.FfnDwgIdeal.τ).loc Cert.FfnDwgIdeal.main_arg0)
      ∧ m' ((c.tc : Thread Cert.FfnDwgRefIdeal.nD Cert.FfnDwgRefIdeal.τ).loc Cert.FfnDwgRefIdeal.main_arg1) = m ((c.tc : Thread Cert.FfnDwgIdeal.nD Cert.FfnDwgIdeal.τ).loc Cert.FfnDwgIdeal.main_arg1)) →
    ∃ (v0 : (c : Dev Cert.FfnDwgIdeal.nD) → Buf (Elt Ideal) ((c.tc : Thread Cert.FfnDwgIdeal.nD Cert.FfnDwgIdeal.τ).loc Cert.FfnDwgIdeal.main_v0)),
      θ_run (Cert.FfnDwgIdeal.defs (F := Ideal)) (onTc (τ := Cert.FfnDwgIdeal.τ) (Cert.FfnDwgIdeal.main (F := Ideal))) ⟨m, fun _ => 0, g⟩ (fun r => ∀ c : Dev Cert.FfnDwgIdeal.nD,
          r.2.mem ((c.tc : Thread Cert.FfnDwgIdeal.nD Cert.FfnDwgIdeal.τ).loc Cert.FfnDwgIdeal.main_v0) = v0 c
          ∧ r.2.mem ((c.tc : Thread Cert.FfnDwgIdeal.nD Cert.FfnDwgIdeal.τ).loc Cert.FfnDwgIdeal.main_arg0) = m ((c.tc : Thread Cert.FfnDwgIdeal.nD Cert.FfnDwgIdeal.τ).loc Cert.FfnDwgIdeal.main_arg0)
          ∧ r.2.mem ((c.tc : Thread Cert.FfnDwgIdeal.nD Cert.FfnDwgIdeal.τ).loc Cert.FfnDwgIdeal.main_arg1) = m ((c.tc : Thread Cert.FfnDwgIdeal.nD Cert.FfnDwgIdeal.τ).loc Cert.FfnDwgIdeal.main_arg1))
      ∧ θ_run (Cert.FfnDwgRefIdeal.defs (F := Ideal)) (onTc (τ := Cert.FfnDwgRefIdeal.τ) (Cert.FfnDwgRefIdeal.main (F := Ideal))) ⟨m', fun _ => 0, g'⟩ (fun r => ∀ c : Dev Cert.FfnDwgRefIdeal.nD,
          r.2.mem ((c.tc : Thread Cert.FfnDwgRefIdeal.nD Cert.FfnDwgRefIdeal.τ).loc Cert.FfnDwgRefIdeal.main_v8) = v0 c
          ∧ r.2.mem ((c.tc : Thread Cert.FfnDwgRefIdeal.nD Cert.FfnDwgRefIdeal.τ).loc Cert.FfnDwgRefIdeal.main_arg0) = m' ((c.tc : Thread Cert.FfnDwgRefIdeal.nD Cert.FfnDwgRefIdeal.τ).loc Cert.FfnDwgRefIdeal.main_arg0)
          ∧ r.2.mem ((c.tc : Thread Cert.FfnDwgRefIdeal.nD Cert.FfnDwgRefIdeal.τ).loc Cert.FfnDwgRefIdeal.main_arg1) = m' ((c.tc : Thread Cert.FfnDwgRefIdeal.nD Cert.FfnDwgRefIdeal.τ).loc Cert.FfnDwgRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v4_0)) (v1 : (c : Dev Cert.FfnUpIdeal.nD) → Buf (Elt Ideal) ((c.tc : Thread Cert.FfnUpIdeal.nD Cert.FfnUpIdeal.τ).loc Cert.FfnUpIdeal.main_v4_1)) (v2 : (c : Dev Cert.FfnUpIdeal.nD) → Buf (Elt Ideal) ((c.tc : Thread Cert.FfnUpIdeal.nD Cert.FfnUpIdeal.τ).loc Cert.FfnUpIdeal.main_v4_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v4_0) = v0 c
          ∧ r.2.mem ((c.tc : Thread Cert.FfnUpIdeal.nD Cert.FfnUpIdeal.τ).loc Cert.FfnUpIdeal.main_v4_1) = v1 c
          ∧ r.2.mem ((c.tc : Thread Cert.FfnUpIdeal.nD Cert.FfnUpIdeal.τ).loc Cert.FfnUpIdeal.main_v4_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v5) = v0 c
          ∧ r.2.mem ((c.tc : Thread Cert.FfnUpRefIdeal.nD Cert.FfnUpRefIdeal.τ).loc Cert.FfnUpRefIdeal.main_v6) = v1 c
          ∧ r.2.mem ((c.tc : Thread Cert.FfnUpRefIdeal.nD Cert.FfnUpRefIdeal.τ).loc Cert.FfnUpRefIdeal.main_v9) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)
      ∧ m' ((c.tc : Thread Cert.FfnDownRefIdeal.nD Cert.FfnDownRefIdeal.τ).loc Cert.FfnDownRefIdeal.main_arg4) = m ((c.tc : Thread Cert.FfnDownIdeal.nD Cert.FfnDownIdeal.τ).loc Cert.FfnDownIdeal.main_arg4)) →
    ∃ (v0 : (c : Dev Cert.FfnDownIdeal.nD) → Buf (Elt Ideal) ((c.tc : Thread Cert.FfnDownIdeal.nD Cert.FfnDownIdeal.τ).loc Cert.FfnDownIdeal.main_v2_0)) (v1 : (c : Dev Cert.FfnDownIdeal.nD) → Buf (Elt Ideal) ((c.tc : Thread Cert.FfnDownIdeal.nD Cert.FfnDownIdeal.τ).loc Cert.FfnDownIdeal.main_v2_1)) (v2 : (c : Dev Cert.FfnDownIdeal.nD) → Buf (Elt Ideal) ((c.tc : Thread Cert.FfnDownIdeal.nD Cert.FfnDownIdeal.τ).loc Cert.FfnDownIdeal.main_v2_2)) (v3 : (c : Dev Cert.FfnDownIdeal.nD) → Buf (Elt Ideal) ((c.tc : Thread Cert.FfnDownIdeal.nD Cert.FfnDownIdeal.τ).loc Cert.FfnDownIdeal.main_v2_3)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v2_0) = v0 c
          ∧ r.2.mem ((c.tc : Thread Cert.FfnDownIdeal.nD Cert.FfnDownIdeal.τ).loc Cert.FfnDownIdeal.main_v2_1) = v1 c
          ∧ r.2.mem ((c.tc : Thread Cert.FfnDownIdeal.nD Cert.FfnDownIdeal.τ).loc Cert.FfnDownIdeal.main_v2_2) = v2 c
          ∧ r.2.mem ((c.tc : Thread Cert.FfnDownIdeal.nD Cert.FfnDownIdeal.τ).loc Cert.FfnDownIdeal.main_v2_3) = v3 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
          ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v31) = v0 c
          ∧ r.2.mem ((c.tc : Thread Cert.FfnDownRefIdeal.nD Cert.FfnDownRefIdeal.τ).loc Cert.FfnDownRefIdeal.main_v32) = v1 c
          ∧ r.2.mem ((c.tc : Thread Cert.FfnDownRefIdeal.nD Cert.FfnDownRefIdeal.τ).loc Cert.FfnDownRefIdeal.main_v50) = v2 c
          ∧ r.2.mem ((c.tc : Thread Cert.FfnDownRefIdeal.nD Cert.FfnDownRefIdeal.τ).loc Cert.FfnDownRefIdeal.main_v46) = v3 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3)
          ∧ r.2.mem ((c.tc : Thread Cert.FfnDownRefIdeal.nD Cert.FfnDownRefIdeal.τ).loc Cert.FfnDownRefIdeal.main_arg4) = m' ((c.tc : Thread Cert.FfnDownRefIdeal.nD Cert.FfnDownRefIdeal.τ).loc Cert.FfnDownRefIdeal.main_arg4))

def preserves_LnBwd_LnBwdIdeal : Prop :=
  True

def algebraic_LnBwdIdeal_LnBwdRefIdeal_pre_ln_bwd_finite [hLnBwdIdeal : Cert.LnBwdIdeal.Facts] [hLnBwdRefIdeal : Cert.LnBwdRefIdeal.Facts] [hPre_ln_bwd_finite : Cert.Pre_ln_bwd_finite.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal_ln_bwd_finite m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)
      ∧ m' ((c.tc : Thread Cert.LnBwdRefIdeal.nD Cert.LnBwdRefIdeal.τ).loc Cert.LnBwdRefIdeal.main_arg3) = m ((c.tc : Thread Cert.LnBwdIdeal.nD Cert.LnBwdIdeal.τ).loc Cert.LnBwdIdeal.main_arg3)
      ∧ m' ((c.tc : Thread Cert.LnBwdRefIdeal.nD Cert.LnBwdRefIdeal.τ).loc Cert.LnBwdRefIdeal.main_arg4) = m ((c.tc : Thread Cert.LnBwdIdeal.nD Cert.LnBwdIdeal.τ).loc Cert.LnBwdIdeal.main_arg4)
      ∧ m' ((c.tc : Thread Cert.LnBwdRefIdeal.nD Cert.LnBwdRefIdeal.τ).loc Cert.LnBwdRefIdeal.main_arg5) = m ((c.tc : Thread Cert.LnBwdIdeal.nD Cert.LnBwdIdeal.τ).loc Cert.LnBwdIdeal.main_arg5)
      ∧ m' ((c.tc : Thread Cert.LnBwdRefIdeal.nD Cert.LnBwdRefIdeal.τ).loc Cert.LnBwdRefIdeal.main_arg6) = m ((c.tc : Thread Cert.LnBwdIdeal.nD Cert.LnBwdIdeal.τ).loc Cert.LnBwdIdeal.main_arg6)
      ∧ m' ((c.tc : Thread Cert.LnBwdRefIdeal.nD Cert.LnBwdRefIdeal.τ).loc Cert.LnBwdRefIdeal.main_arg7) = m ((c.tc : Thread Cert.LnBwdIdeal.nD Cert.LnBwdIdeal.τ).loc Cert.LnBwdIdeal.main_arg7)) →
    ∃ (v0 : (c : Dev Cert.LnBwdIdeal.nD) → Buf (Elt Ideal) ((c.tc : Thread Cert.LnBwdIdeal.nD Cert.LnBwdIdeal.τ).loc Cert.LnBwdIdeal.main_v23_0)) (v1 : (c : Dev Cert.LnBwdIdeal.nD) → Buf (Elt Ideal) ((c.tc : Thread Cert.LnBwdIdeal.nD Cert.LnBwdIdeal.τ).loc Cert.LnBwdIdeal.main_v23_1)) (v2 : (c : Dev Cert.LnBwdIdeal.nD) → Buf (Elt Ideal) ((c.tc : Thread Cert.LnBwdIdeal.nD Cert.LnBwdIdeal.τ).loc Cert.LnBwdIdeal.main_v23_2)) (v3 : (c : Dev Cert.LnBwdIdeal.nD) → Buf (Elt Ideal) ((c.tc : Thread Cert.LnBwdIdeal.nD Cert.LnBwdIdeal.τ).loc Cert.LnBwdIdeal.main_v23_3)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v23_0) = v0 c
          ∧ r.2.mem ((c.tc : Thread Cert.LnBwdIdeal.nD Cert.LnBwdIdeal.τ).loc Cert.LnBwdIdeal.main_v23_1) = v1 c
          ∧ r.2.mem ((c.tc : Thread Cert.LnBwdIdeal.nD Cert.LnBwdIdeal.τ).loc Cert.LnBwdIdeal.main_v23_2) = v2 c
          ∧ r.2.mem ((c.tc : Thread Cert.LnBwdIdeal.nD Cert.LnBwdIdeal.τ).loc Cert.LnBwdIdeal.main_v23_3) = v3 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
          ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4)
          ∧ r.2.mem ((c.tc : Thread Cert.LnBwdIdeal.nD Cert.LnBwdIdeal.τ).loc Cert.LnBwdIdeal.main_arg5) = m ((c.tc : Thread Cert.LnBwdIdeal.nD Cert.LnBwdIdeal.τ).loc Cert.LnBwdIdeal.main_arg5)
          ∧ r.2.mem ((c.tc : Thread Cert.LnBwdIdeal.nD Cert.LnBwdIdeal.τ).loc Cert.LnBwdIdeal.main_arg6) = m ((c.tc : Thread Cert.LnBwdIdeal.nD Cert.LnBwdIdeal.τ).loc Cert.LnBwdIdeal.main_arg6)
          ∧ r.2.mem ((c.tc : Thread Cert.LnBwdIdeal.nD Cert.LnBwdIdeal.τ).loc Cert.LnBwdIdeal.main_arg7) = m ((c.tc : Thread Cert.LnBwdIdeal.nD Cert.LnBwdIdeal.τ).loc Cert.LnBwdIdeal.main_arg7))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v75) = v0 c
          ∧ r.2.mem ((c.tc : Thread Cert.LnBwdRefIdeal.nD Cert.LnBwdRefIdeal.τ).loc Cert.LnBwdRefIdeal.main_v76) = v1 c
          ∧ r.2.mem ((c.tc : Thread Cert.LnBwdRefIdeal.nD Cert.LnBwdRefIdeal.τ).loc Cert.LnBwdRefIdeal.main_v77) = v2 c
          ∧ r.2.mem ((c.tc : Thread Cert.LnBwdRefIdeal.nD Cert.LnBwdRefIdeal.τ).loc Cert.LnBwdRefIdeal.main_v78) = v3 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2)
          ∧ r.2.mem ((c.tc : Thread Cert.LnBwdRefIdeal.nD Cert.LnBwdRefIdeal.τ).loc Cert.LnBwdRefIdeal.main_arg3) = m' ((c.tc : Thread Cert.LnBwdRefIdeal.nD Cert.LnBwdRefIdeal.τ).loc Cert.LnBwdRefIdeal.main_arg3)
          ∧ r.2.mem ((c.tc : Thread Cert.LnBwdRefIdeal.nD Cert.LnBwdRefIdeal.τ).loc Cert.LnBwdRefIdeal.main_arg4) = m' ((c.tc : Thread Cert.LnBwdRefIdeal.nD Cert.LnBwdRefIdeal.τ).loc Cert.LnBwdRefIdeal.main_arg4)
          ∧ r.2.mem ((c.tc : Thread Cert.LnBwdRefIdeal.nD Cert.LnBwdRefIdeal.τ).loc Cert.LnBwdRefIdeal.main_arg5) = m' ((c.tc : Thread Cert.LnBwdRefIdeal.nD Cert.LnBwdRefIdeal.τ).loc Cert.LnBwdRefIdeal.main_arg5)
          ∧ r.2.mem ((c.tc : Thread Cert.LnBwdRefIdeal.nD Cert.LnBwdRefIdeal.τ).loc Cert.LnBwdRefIdeal.main_arg6) = m' ((c.tc : Thread Cert.LnBwdRefIdeal.nD Cert.LnBwdRefIdeal.τ).loc Cert.LnBwdRefIdeal.main_arg6)
          ∧ r.2.mem ((c.tc : Thread Cert.LnBwdRefIdeal.nD Cert.LnBwdRefIdeal.τ).loc Cert.LnBwdRefIdeal.main_arg7) = m' ((c.tc : Thread Cert.LnBwdRefIdeal.nD Cert.LnBwdRefIdeal.τ).loc Cert.LnBwdRefIdeal.main_arg7))

def preserves_InBwd_InBwdIdeal : Prop :=
  True

def algebraic_InBwdIdeal_InBwdRefIdeal [hInBwdIdeal : Cert.InBwdIdeal.Facts] [hInBwdRefIdeal : Cert.InBwdRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)
      ∧ m' ((c.tc : Thread Cert.InBwdRefIdeal.nD Cert.InBwdRefIdeal.τ).loc Cert.InBwdRefIdeal.main_arg5) = m ((c.tc : Thread Cert.InBwdIdeal.nD Cert.InBwdIdeal.τ).loc Cert.InBwdIdeal.main_arg5)) →
    ∃ (v0 : (c : Dev Cert.InBwdIdeal.nD) → Buf (Elt Ideal) ((c.tc : Thread Cert.InBwdIdeal.nD Cert.InBwdIdeal.τ).loc Cert.InBwdIdeal.main_v4)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v4) = v0 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v13) = v0 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4)
          ∧ r.2.mem ((c.tc : Thread Cert.InBwdRefIdeal.nD Cert.InBwdRefIdeal.τ).loc Cert.InBwdRefIdeal.main_arg5) = m' ((c.tc : Thread Cert.InBwdRefIdeal.nD Cert.InBwdRefIdeal.τ).loc Cert.InBwdRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v5) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_Ln1Bwd_Ln1BwdIdeal : Prop :=
  True

def algebraic_Ln1BwdIdeal_Ln1BwdRefIdeal_pre_ln1_bwd_finite [hLn1BwdIdeal : Cert.Ln1BwdIdeal.Facts] [hLn1BwdRefIdeal : Cert.Ln1BwdRefIdeal.Facts] [hPre_ln1_bwd_finite : Cert.Pre_ln1_bwd_finite.Facts] : Prop :=
  ∀ (m : (ℓ : Loc Cert.Ln1BwdIdeal.nD Cert.Ln1BwdIdeal.τ Cert.Ln1BwdIdeal.sig) → Buf (Elt Ideal) ℓ) (g : Dev Cert.Ln1BwdIdeal.nD → PrngReg)
    (m' : (ℓ : Loc Cert.Ln1BwdRefIdeal.nD Cert.Ln1BwdRefIdeal.τ Cert.Ln1BwdRefIdeal.sig) → Buf (Elt Ideal) ℓ) (g' : Dev Cert.Ln1BwdRefIdeal.nD → PrngReg), Pre_Ln1BwdIdeal_ln1_bwd_finite m →
    (∀ c : Dev Cert.Ln1BwdIdeal.nD,
      m' ((c.tc : Thread Cert.Ln1BwdRefIdeal.nD Cert.Ln1BwdRefIdeal.τ).loc Cert.Ln1BwdRefIdeal.main_arg0) = m ((c.tc : Thread Cert.Ln1BwdIdeal.nD Cert.Ln1BwdIdeal.τ).loc Cert.Ln1BwdIdeal.main_arg0)
      ∧ m' ((c.tc : Thread Cert.Ln1BwdRefIdeal.nD Cert.Ln1BwdRefIdeal.τ).loc Cert.Ln1BwdRefIdeal.main_arg1) = m ((c.tc : Thread Cert.Ln1BwdIdeal.nD Cert.Ln1BwdIdeal.τ).loc Cert.Ln1BwdIdeal.main_arg1)
      ∧ m' ((c.tc : Thread Cert.Ln1BwdRefIdeal.nD Cert.Ln1BwdRefIdeal.τ).loc Cert.Ln1BwdRefIdeal.main_arg2) = m ((c.tc : Thread Cert.Ln1BwdIdeal.nD Cert.Ln1BwdIdeal.τ).loc Cert.Ln1BwdIdeal.main_arg2)
      ∧ m' ((c.tc : Thread Cert.Ln1BwdRefIdeal.nD Cert.Ln1BwdRefIdeal.τ).loc Cert.Ln1BwdRefIdeal.main_arg3) = m ((c.tc : Thread Cert.Ln1BwdIdeal.nD Cert.Ln1BwdIdeal.τ).loc Cert.Ln1BwdIdeal.main_arg3)
      ∧ m' ((c.tc : Thread Cert.Ln1BwdRefIdeal.nD Cert.Ln1BwdRefIdeal.τ).loc Cert.Ln1BwdRefIdeal.main_arg4) = m ((c.tc : Thread Cert.Ln1BwdIdeal.nD Cert.Ln1BwdIdeal.τ).loc Cert.Ln1BwdIdeal.main_arg4)
      ∧ m' ((c.tc : Thread Cert.Ln1BwdRefIdeal.nD Cert.Ln1BwdRefIdeal.τ).loc Cert.Ln1BwdRefIdeal.main_arg5) = m ((c.tc : Thread Cert.Ln1BwdIdeal.nD Cert.Ln1BwdIdeal.τ).loc Cert.Ln1BwdIdeal.main_arg5)) →
    ∃ (v0 : (c : Dev Cert.Ln1BwdIdeal.nD) → Buf (Elt Ideal) ((c.tc : Thread Cert.Ln1BwdIdeal.nD Cert.Ln1BwdIdeal.τ).loc Cert.Ln1BwdIdeal.main_v19_0)) (v1 : (c : Dev Cert.Ln1BwdIdeal.nD) → Buf (Elt Ideal) ((c.tc : Thread Cert.Ln1BwdIdeal.nD Cert.Ln1BwdIdeal.τ).loc Cert.Ln1BwdIdeal.main_v19_1)) (v2 : (c : Dev Cert.Ln1BwdIdeal.nD) → Buf (Elt Ideal) ((c.tc : Thread Cert.Ln1BwdIdeal.nD Cert.Ln1BwdIdeal.τ).loc Cert.Ln1BwdIdeal.main_v19_2)) (v3 : (c : Dev Cert.Ln1BwdIdeal.nD) → Buf (Elt Ideal) ((c.tc : Thread Cert.Ln1BwdIdeal.nD Cert.Ln1BwdIdeal.τ).loc Cert.Ln1BwdIdeal.main_v19_3)),
      θ_run (Cert.Ln1BwdIdeal.defs (F := Ideal)) (onTc (τ := Cert.Ln1BwdIdeal.τ) (Cert.Ln1BwdIdeal.main (F := Ideal))) ⟨m, fun _ => 0, g⟩ (fun r => ∀ c : Dev Cert.Ln1BwdIdeal.nD,
          r.2.mem ((c.tc : Thread Cert.Ln1BwdIdeal.nD Cert.Ln1BwdIdeal.τ).loc Cert.Ln1BwdIdeal.main_v19_0) = v0 c
          ∧ r.2.mem ((c.tc : Thread Cert.Ln1BwdIdeal.nD Cert.Ln1BwdIdeal.τ).loc Cert.Ln1BwdIdeal.main_v19_1) = v1 c
          ∧ r.2.mem ((c.tc : Thread Cert.Ln1BwdIdeal.nD Cert.Ln1BwdIdeal.τ).loc Cert.Ln1BwdIdeal.main_v19_2) = v2 c
          ∧ r.2.mem ((c.tc : Thread Cert.Ln1BwdIdeal.nD Cert.Ln1BwdIdeal.τ).loc Cert.Ln1BwdIdeal.main_v19_3) = v3 c
          ∧ r.2.mem ((c.tc : Thread Cert.Ln1BwdIdeal.nD Cert.Ln1BwdIdeal.τ).loc Cert.Ln1BwdIdeal.main_arg0) = m ((c.tc : Thread Cert.Ln1BwdIdeal.nD Cert.Ln1BwdIdeal.τ).loc Cert.Ln1BwdIdeal.main_arg0)
          ∧ r.2.mem ((c.tc : Thread Cert.Ln1BwdIdeal.nD Cert.Ln1BwdIdeal.τ).loc Cert.Ln1BwdIdeal.main_arg1) = m ((c.tc : Thread Cert.Ln1BwdIdeal.nD Cert.Ln1BwdIdeal.τ).loc Cert.Ln1BwdIdeal.main_arg1)
          ∧ r.2.mem ((c.tc : Thread Cert.Ln1BwdIdeal.nD Cert.Ln1BwdIdeal.τ).loc Cert.Ln1BwdIdeal.main_arg2) = m ((c.tc : Thread Cert.Ln1BwdIdeal.nD Cert.Ln1BwdIdeal.τ).loc Cert.Ln1BwdIdeal.main_arg2)
          ∧ r.2.mem ((c.tc : Thread Cert.Ln1BwdIdeal.nD Cert.Ln1BwdIdeal.τ).loc Cert.Ln1BwdIdeal.main_arg3) = m ((c.tc : Thread Cert.Ln1BwdIdeal.nD Cert.Ln1BwdIdeal.τ).loc Cert.Ln1BwdIdeal.main_arg3)
          ∧ r.2.mem ((c.tc : Thread Cert.Ln1BwdIdeal.nD Cert.Ln1BwdIdeal.τ).loc Cert.Ln1BwdIdeal.main_arg4) = m ((c.tc : Thread Cert.Ln1BwdIdeal.nD Cert.Ln1BwdIdeal.τ).loc Cert.Ln1BwdIdeal.main_arg4)
          ∧ r.2.mem ((c.tc : Thread Cert.Ln1BwdIdeal.nD Cert.Ln1BwdIdeal.τ).loc Cert.Ln1BwdIdeal.main_arg5) = m ((c.tc : Thread Cert.Ln1BwdIdeal.nD Cert.Ln1BwdIdeal.τ).loc Cert.Ln1BwdIdeal.main_arg5))
      ∧ θ_run (Cert.Ln1BwdRefIdeal.defs (F := Ideal)) (onTc (τ := Cert.Ln1BwdRefIdeal.τ) (Cert.Ln1BwdRefIdeal.main (F := Ideal))) ⟨m', fun _ => 0, g'⟩ (fun r => ∀ c : Dev Cert.Ln1BwdRefIdeal.nD,
          r.2.mem ((c.tc : Thread Cert.Ln1BwdRefIdeal.nD Cert.Ln1BwdRefIdeal.τ).loc Cert.Ln1BwdRefIdeal.main_v70) = v0 c
          ∧ r.2.mem ((c.tc : Thread Cert.Ln1BwdRefIdeal.nD Cert.Ln1BwdRefIdeal.τ).loc Cert.Ln1BwdRefIdeal.main_v71) = v1 c
          ∧ r.2.mem ((c.tc : Thread Cert.Ln1BwdRefIdeal.nD Cert.Ln1BwdRefIdeal.τ).loc Cert.Ln1BwdRefIdeal.main_v72) = v2 c
          ∧ r.2.mem ((c.tc : Thread Cert.Ln1BwdRefIdeal.nD Cert.Ln1BwdRefIdeal.τ).loc Cert.Ln1BwdRefIdeal.main_v73) = v3 c
          ∧ r.2.mem ((c.tc : Thread Cert.Ln1BwdRefIdeal.nD Cert.Ln1BwdRefIdeal.τ).loc Cert.Ln1BwdRefIdeal.main_arg0) = m' ((c.tc : Thread Cert.Ln1BwdRefIdeal.nD Cert.Ln1BwdRefIdeal.τ).loc Cert.Ln1BwdRefIdeal.main_arg0)
          ∧ r.2.mem ((c.tc : Thread Cert.Ln1BwdRefIdeal.nD Cert.Ln1BwdRefIdeal.τ).loc Cert.Ln1BwdRefIdeal.main_arg1) = m' ((c.tc : Thread Cert.Ln1BwdRefIdeal.nD Cert.Ln1BwdRefIdeal.τ).loc Cert.Ln1BwdRefIdeal.main_arg1)
          ∧ r.2.mem ((c.tc : Thread Cert.Ln1BwdRefIdeal.nD Cert.Ln1BwdRefIdeal.τ).loc Cert.Ln1BwdRefIdeal.main_arg2) = m' ((c.tc : Thread Cert.Ln1BwdRefIdeal.nD Cert.Ln1BwdRefIdeal.τ).loc Cert.Ln1BwdRefIdeal.main_arg2)
          ∧ r.2.mem ((c.tc : Thread Cert.Ln1BwdRefIdeal.nD Cert.Ln1BwdRefIdeal.τ).loc Cert.Ln1BwdRefIdeal.main_arg3) = m' ((c.tc : Thread Cert.Ln1BwdRefIdeal.nD Cert.Ln1BwdRefIdeal.τ).loc Cert.Ln1BwdRefIdeal.main_arg3)
          ∧ r.2.mem ((c.tc : Thread Cert.Ln1BwdRefIdeal.nD Cert.Ln1BwdRefIdeal.τ).loc Cert.Ln1BwdRefIdeal.main_arg4) = m' ((c.tc : Thread Cert.Ln1BwdRefIdeal.nD Cert.Ln1BwdRefIdeal.τ).loc Cert.Ln1BwdRefIdeal.main_arg4)
          ∧ r.2.mem ((c.tc : Thread Cert.Ln1BwdRefIdeal.nD Cert.Ln1BwdRefIdeal.τ).loc Cert.Ln1BwdRefIdeal.main_arg5) = m' ((c.tc : Thread Cert.Ln1BwdRefIdeal.nD Cert.Ln1BwdRefIdeal.τ).loc Cert.Ln1BwdRefIdeal.main_arg5))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v2_0)) (v1 : (c : Dev Cert.OutProjIdeal.nD) → Buf (Elt Ideal) ((c.tc : Thread Cert.OutProjIdeal.nD Cert.OutProjIdeal.τ).loc Cert.OutProjIdeal.main_v2_1)) (v2 : (c : Dev Cert.OutProjIdeal.nD) → Buf (Elt Ideal) ((c.tc : Thread Cert.OutProjIdeal.nD Cert.OutProjIdeal.τ).loc Cert.OutProjIdeal.main_v2_2)) (v3 : (c : Dev Cert.OutProjIdeal.nD) → Buf (Elt Ideal) ((c.tc : Thread Cert.OutProjIdeal.nD Cert.OutProjIdeal.τ).loc Cert.OutProjIdeal.main_v2_3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2_0) = v0 c
          ∧ r.2.mem ((c.tc : Thread Cert.OutProjIdeal.nD Cert.OutProjIdeal.τ).loc Cert.OutProjIdeal.main_v2_1) = v1 c
          ∧ r.2.mem ((c.tc : Thread Cert.OutProjIdeal.nD Cert.OutProjIdeal.τ).loc Cert.OutProjIdeal.main_v2_2) = v2 c
          ∧ r.2.mem ((c.tc : Thread Cert.OutProjIdeal.nD Cert.OutProjIdeal.τ).loc Cert.OutProjIdeal.main_v2_3) = v3 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v29) = v0 c
          ∧ r.2.mem ((c.tc : Thread Cert.OutProjRefIdeal.nD Cert.OutProjRefIdeal.τ).loc Cert.OutProjRefIdeal.main_v30) = v1 c
          ∧ r.2.mem ((c.tc : Thread Cert.OutProjRefIdeal.nD Cert.OutProjRefIdeal.τ).loc Cert.OutProjRefIdeal.main_v48) = v2 c
          ∧ r.2.mem ((c.tc : Thread Cert.OutProjRefIdeal.nD Cert.OutProjRefIdeal.τ).loc Cert.OutProjRefIdeal.main_v44) = v3 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_MixBwd_MixBwdIdeal : Prop :=
  True

def algebraic_MixBwdIdeal_MixBwdRefIdeal [hMixBwdIdeal : Cert.MixBwdIdeal.Facts] [hMixBwdRefIdeal : Cert.MixBwdRefIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixBwdRefIdeal.nD Cert.MixBwdRefIdeal.τ Cert.MixBwdRefIdeal.sig) → Buf (Elt Ideal) ℓ) (g' : Dev Cert.MixBwdRefIdeal.nD → PrngReg), Pre_MixBwdIdeal m →
    (∀ c : Dev Cert.MixBwdIdeal.nD,
      m' ((c.tc : Thread Cert.MixBwdRefIdeal.nD Cert.MixBwdRefIdeal.τ).loc Cert.MixBwdRefIdeal.main_arg0) = m ((c.tc : Thread Cert.MixBwdIdeal.nD Cert.MixBwdIdeal.τ).loc Cert.MixBwdIdeal.main_arg0)
      ∧ m' ((c.tc : Thread Cert.MixBwdRefIdeal.nD Cert.MixBwdRefIdeal.τ).loc Cert.MixBwdRefIdeal.main_arg1) = m ((c.tc : Thread Cert.MixBwdIdeal.nD Cert.MixBwdIdeal.τ).loc Cert.MixBwdIdeal.main_arg1)) →
    ∃ (v0 : (c : Dev Cert.MixBwdIdeal.nD) → Buf (Elt Ideal) ((c.tc : Thread Cert.MixBwdIdeal.nD Cert.MixBwdIdeal.τ).loc Cert.MixBwdIdeal.main_v0)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v0) = v0 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1))
      ∧ θ_run (Cert.MixBwdRefIdeal.defs (F := Ideal)) (onTc (τ := Cert.MixBwdRefIdeal.τ) (Cert.MixBwdRefIdeal.main (F := Ideal))) ⟨m', fun _ => 0, g'⟩ (fun r => ∀ c : Dev Cert.MixBwdRefIdeal.nD,
          r.2.mem ((c.tc : Thread Cert.MixBwdRefIdeal.nD Cert.MixBwdRefIdeal.τ).loc Cert.MixBwdRefIdeal.main_v4) = v0 c
          ∧ r.2.mem ((c.tc : Thread Cert.MixBwdRefIdeal.nD Cert.MixBwdRefIdeal.τ).loc Cert.MixBwdRefIdeal.main_arg0) = m' ((c.tc : Thread Cert.MixBwdRefIdeal.nD Cert.MixBwdRefIdeal.τ).loc Cert.MixBwdRefIdeal.main_arg0)
          ∧ r.2.mem ((c.tc : Thread Cert.MixBwdRefIdeal.nD Cert.MixBwdRefIdeal.τ).loc Cert.MixBwdRefIdeal.main_arg1) = m' ((c.tc : Thread Cert.MixBwdRefIdeal.nD Cert.MixBwdRefIdeal.τ).loc Cert.MixBwdRefIdeal.main_arg1))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v2_0)) (v1 : (c : Dev Cert.PleIdeal.nD) → Buf (Elt Ideal) ((c.tc : Thread Cert.PleIdeal.nD Cert.PleIdeal.τ).loc Cert.PleIdeal.main_v2_1)) (v2 : (c : Dev Cert.PleIdeal.nD) → Buf (Elt Ideal) ((c.tc : Thread Cert.PleIdeal.nD Cert.PleIdeal.τ).loc Cert.PleIdeal.main_v2_2)) (v3 : (c : Dev Cert.PleIdeal.nD) → Buf (Elt Ideal) ((c.tc : Thread Cert.PleIdeal.nD Cert.PleIdeal.τ).loc Cert.PleIdeal.main_v2_3)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v2_0) = v0 c
          ∧ r.2.mem ((c.tc : Thread Cert.PleIdeal.nD Cert.PleIdeal.τ).loc Cert.PleIdeal.main_v2_1) = v1 c
          ∧ r.2.mem ((c.tc : Thread Cert.PleIdeal.nD Cert.PleIdeal.τ).loc Cert.PleIdeal.main_v2_2) = v2 c
          ∧ r.2.mem ((c.tc : Thread Cert.PleIdeal.nD Cert.PleIdeal.τ).loc Cert.PleIdeal.main_v2_3) = v3 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v17) = v0 c
          ∧ r.2.mem ((c.tc : Thread Cert.PleRefIdeal.nD Cert.PleRefIdeal.τ).loc Cert.PleRefIdeal.main_v18) = v1 c
          ∧ r.2.mem ((c.tc : Thread Cert.PleRefIdeal.nD Cert.PleRefIdeal.τ).loc Cert.PleRefIdeal.main_v19) = v2 c
          ∧ r.2.mem ((c.tc : Thread Cert.PleRefIdeal.nD Cert.PleRefIdeal.τ).loc Cert.PleRefIdeal.main_v20) = v3 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_GateBwd_GateBwdIdeal : Prop :=
  True

def algebraic_GateBwdIdeal_GateBwdRefIdeal [hGateBwdIdeal : Cert.GateBwdIdeal.Facts] [hGateBwdRefIdeal : Cert.GateBwdRefIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)
      ∧ m' ((c.tc : Thread Cert.GateBwdRefIdeal.nD Cert.GateBwdRefIdeal.τ).loc Cert.GateBwdRefIdeal.main_arg3) = m ((c.tc : Thread Cert.GateBwdIdeal.nD Cert.GateBwdIdeal.τ).loc Cert.GateBwdIdeal.main_arg3)) →
    ∃ (v0 : (c : Dev Cert.GateBwdIdeal.nD) → Buf (Elt Ideal) ((c.tc : Thread Cert.GateBwdIdeal.nD Cert.GateBwdIdeal.τ).loc Cert.GateBwdIdeal.main_v10_0)) (v1 : (c : Dev Cert.GateBwdIdeal.nD) → Buf (Elt Ideal) ((c.tc : Thread Cert.GateBwdIdeal.nD Cert.GateBwdIdeal.τ).loc Cert.GateBwdIdeal.main_v10_1)) (v2 : (c : Dev Cert.GateBwdIdeal.nD) → Buf (Elt Ideal) ((c.tc : Thread Cert.GateBwdIdeal.nD Cert.GateBwdIdeal.τ).loc Cert.GateBwdIdeal.main_v10_2)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v10_0) = v0 c
          ∧ r.2.mem ((c.tc : Thread Cert.GateBwdIdeal.nD Cert.GateBwdIdeal.τ).loc Cert.GateBwdIdeal.main_v10_1) = v1 c
          ∧ r.2.mem ((c.tc : Thread Cert.GateBwdIdeal.nD Cert.GateBwdIdeal.τ).loc Cert.GateBwdIdeal.main_v10_2) = v2 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          r.2.mem ((c.tc : Thread Cert.GateBwdRefIdeal.nD Cert.GateBwdRefIdeal.τ).loc Cert.GateBwdRefIdeal.main_v20) = v0 c
          ∧ r.2.mem ((c.tc : Thread Cert.GateBwdRefIdeal.nD Cert.GateBwdRefIdeal.τ).loc Cert.GateBwdRefIdeal.main_v21) = v1 c
          ∧ r.2.mem ((c.tc : Thread Cert.GateBwdRefIdeal.nD Cert.GateBwdRefIdeal.τ).loc Cert.GateBwdRefIdeal.main_v22) = v2 c
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2)
          ∧ r.2.mem ((c.tc : Thread Cert.GateBwdRefIdeal.nD Cert.GateBwdRefIdeal.τ).loc Cert.GateBwdRefIdeal.main_arg3) = m' ((c.tc : Thread Cert.GateBwdRefIdeal.nD Cert.GateBwdRefIdeal.τ).loc Cert.GateBwdRefIdeal.main_arg3))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v0)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v0) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v8) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_Ln3Bwd_Ln3BwdIdeal : Prop :=
  True

def algebraic_Ln3BwdIdeal_Ln3BwdRefIdeal_pre_ln3_bwd_finite [hLn3BwdIdeal : Cert.Ln3BwdIdeal.Facts] [hLn3BwdRefIdeal : Cert.Ln3BwdRefIdeal.Facts] [hPre_ln3_bwd_finite : Cert.Pre_ln3_bwd_finite.Facts] : Prop :=
  ∀ (m : (ℓ : Loc Cert.Ln3BwdIdeal.nD Cert.Ln3BwdIdeal.τ Cert.Ln3BwdIdeal.sig) → Buf (Elt Ideal) ℓ) (g : Dev Cert.Ln3BwdIdeal.nD → PrngReg)
    (m' : (ℓ : Loc Cert.Ln3BwdRefIdeal.nD Cert.Ln3BwdRefIdeal.τ Cert.Ln3BwdRefIdeal.sig) → Buf (Elt Ideal) ℓ) (g' : Dev Cert.Ln3BwdRefIdeal.nD → PrngReg), Pre_Ln3BwdIdeal_ln3_bwd_finite m →
    (∀ c : Dev Cert.Ln3BwdIdeal.nD,
      m' ((c.tc : Thread Cert.Ln3BwdRefIdeal.nD Cert.Ln3BwdRefIdeal.τ).loc Cert.Ln3BwdRefIdeal.main_arg0) = m ((c.tc : Thread Cert.Ln3BwdIdeal.nD Cert.Ln3BwdIdeal.τ).loc Cert.Ln3BwdIdeal.main_arg0)
      ∧ m' ((c.tc : Thread Cert.Ln3BwdRefIdeal.nD Cert.Ln3BwdRefIdeal.τ).loc Cert.Ln3BwdRefIdeal.main_arg1) = m ((c.tc : Thread Cert.Ln3BwdIdeal.nD Cert.Ln3BwdIdeal.τ).loc Cert.Ln3BwdIdeal.main_arg1)
      ∧ m' ((c.tc : Thread Cert.Ln3BwdRefIdeal.nD Cert.Ln3BwdRefIdeal.τ).loc Cert.Ln3BwdRefIdeal.main_arg2) = m ((c.tc : Thread Cert.Ln3BwdIdeal.nD Cert.Ln3BwdIdeal.τ).loc Cert.Ln3BwdIdeal.main_arg2)
      ∧ m' ((c.tc : Thread Cert.Ln3BwdRefIdeal.nD Cert.Ln3BwdRefIdeal.τ).loc Cert.Ln3BwdRefIdeal.main_arg3) = m ((c.tc : Thread Cert.Ln3BwdIdeal.nD Cert.Ln3BwdIdeal.τ).loc Cert.Ln3BwdIdeal.main_arg3)
      ∧ m' ((c.tc : Thread Cert.Ln3BwdRefIdeal.nD Cert.Ln3BwdRefIdeal.τ).loc Cert.Ln3BwdRefIdeal.main_arg4) = m ((c.tc : Thread Cert.Ln3BwdIdeal.nD Cert.Ln3BwdIdeal.τ).loc Cert.Ln3BwdIdeal.main_arg4)
      ∧ m' ((c.tc : Thread Cert.Ln3BwdRefIdeal.nD Cert.Ln3BwdRefIdeal.τ).loc Cert.Ln3BwdRefIdeal.main_arg5) = m ((c.tc : Thread Cert.Ln3BwdIdeal.nD Cert.Ln3BwdIdeal.τ).loc Cert.Ln3BwdIdeal.main_arg5)) →
    ∃ (v0 : (c : Dev Cert.Ln3BwdIdeal.nD) → Buf (Elt Ideal) ((c.tc : Thread Cert.Ln3BwdIdeal.nD Cert.Ln3BwdIdeal.τ).loc Cert.Ln3BwdIdeal.main_v19_0)) (v1 : (c : Dev Cert.Ln3BwdIdeal.nD) → Buf (Elt Ideal) ((c.tc : Thread Cert.Ln3BwdIdeal.nD Cert.Ln3BwdIdeal.τ).loc Cert.Ln3BwdIdeal.main_v19_1)) (v2 : (c : Dev Cert.Ln3BwdIdeal.nD) → Buf (Elt Ideal) ((c.tc : Thread Cert.Ln3BwdIdeal.nD Cert.Ln3BwdIdeal.τ).loc Cert.Ln3BwdIdeal.main_v19_2)) (v3 : (c : Dev Cert.Ln3BwdIdeal.nD) → Buf (Elt Ideal) ((c.tc : Thread Cert.Ln3BwdIdeal.nD Cert.Ln3BwdIdeal.τ).loc Cert.Ln3BwdIdeal.main_v19_3)),
      θ_run (Cert.Ln3BwdIdeal.defs (F := Ideal)) (onTc (τ := Cert.Ln3BwdIdeal.τ) (Cert.Ln3BwdIdeal.main (F := Ideal))) ⟨m, fun _ => 0, g⟩ (fun r => ∀ c : Dev Cert.Ln3BwdIdeal.nD,
          r.2.mem ((c.tc : Thread Cert.Ln3BwdIdeal.nD Cert.Ln3BwdIdeal.τ).loc Cert.Ln3BwdIdeal.main_v19_0) = v0 c
          ∧ r.2.mem ((c.tc : Thread Cert.Ln3BwdIdeal.nD Cert.Ln3BwdIdeal.τ).loc Cert.Ln3BwdIdeal.main_v19_1) = v1 c
          ∧ r.2.mem ((c.tc : Thread Cert.Ln3BwdIdeal.nD Cert.Ln3BwdIdeal.τ).loc Cert.Ln3BwdIdeal.main_v19_2) = v2 c
          ∧ r.2.mem ((c.tc : Thread Cert.Ln3BwdIdeal.nD Cert.Ln3BwdIdeal.τ).loc Cert.Ln3BwdIdeal.main_v19_3) = v3 c
          ∧ r.2.mem ((c.tc : Thread Cert.Ln3BwdIdeal.nD Cert.Ln3BwdIdeal.τ).loc Cert.Ln3BwdIdeal.main_arg0) = m ((c.tc : Thread Cert.Ln3BwdIdeal.nD Cert.Ln3BwdIdeal.τ).loc Cert.Ln3BwdIdeal.main_arg0)
          ∧ r.2.mem ((c.tc : Thread Cert.Ln3BwdIdeal.nD Cert.Ln3BwdIdeal.τ).loc Cert.Ln3BwdIdeal.main_arg1) = m ((c.tc : Thread Cert.Ln3BwdIdeal.nD Cert.Ln3BwdIdeal.τ).loc Cert.Ln3BwdIdeal.main_arg1)
          ∧ r.2.mem ((c.tc : Thread Cert.Ln3BwdIdeal.nD Cert.Ln3BwdIdeal.τ).loc Cert.Ln3BwdIdeal.main_arg2) = m ((c.tc : Thread Cert.Ln3BwdIdeal.nD Cert.Ln3BwdIdeal.τ).loc Cert.Ln3BwdIdeal.main_arg2)
          ∧ r.2.mem ((c.tc : Thread Cert.Ln3BwdIdeal.nD Cert.Ln3BwdIdeal.τ).loc Cert.Ln3BwdIdeal.main_arg3) = m ((c.tc : Thread Cert.Ln3BwdIdeal.nD Cert.Ln3BwdIdeal.τ).loc Cert.Ln3BwdIdeal.main_arg3)
          ∧ r.2.mem ((c.tc : Thread Cert.Ln3BwdIdeal.nD Cert.Ln3BwdIdeal.τ).loc Cert.Ln3BwdIdeal.main_arg4) = m ((c.tc : Thread Cert.Ln3BwdIdeal.nD Cert.Ln3BwdIdeal.τ).loc Cert.Ln3BwdIdeal.main_arg4)
          ∧ r.2.mem ((c.tc : Thread Cert.Ln3BwdIdeal.nD Cert.Ln3BwdIdeal.τ).loc Cert.Ln3BwdIdeal.main_arg5) = m ((c.tc : Thread Cert.Ln3BwdIdeal.nD Cert.Ln3BwdIdeal.τ).loc Cert.Ln3BwdIdeal.main_arg5))
      ∧ θ_run (Cert.Ln3BwdRefIdeal.defs (F := Ideal)) (onTc (τ := Cert.Ln3BwdRefIdeal.τ) (Cert.Ln3BwdRefIdeal.main (F := Ideal))) ⟨m', fun _ => 0, g'⟩ (fun r => ∀ c : Dev Cert.Ln3BwdRefIdeal.nD,
          r.2.mem ((c.tc : Thread Cert.Ln3BwdRefIdeal.nD Cert.Ln3BwdRefIdeal.τ).loc Cert.Ln3BwdRefIdeal.main_v67) = v0 c
          ∧ r.2.mem ((c.tc : Thread Cert.Ln3BwdRefIdeal.nD Cert.Ln3BwdRefIdeal.τ).loc Cert.Ln3BwdRefIdeal.main_v68) = v1 c
          ∧ r.2.mem ((c.tc : Thread Cert.Ln3BwdRefIdeal.nD Cert.Ln3BwdRefIdeal.τ).loc Cert.Ln3BwdRefIdeal.main_v69) = v2 c
          ∧ r.2.mem ((c.tc : Thread Cert.Ln3BwdRefIdeal.nD Cert.Ln3BwdRefIdeal.τ).loc Cert.Ln3BwdRefIdeal.main_v70) = v3 c
          ∧ r.2.mem ((c.tc : Thread Cert.Ln3BwdRefIdeal.nD Cert.Ln3BwdRefIdeal.τ).loc Cert.Ln3BwdRefIdeal.main_arg0) = m' ((c.tc : Thread Cert.Ln3BwdRefIdeal.nD Cert.Ln3BwdRefIdeal.τ).loc Cert.Ln3BwdRefIdeal.main_arg0)
          ∧ r.2.mem ((c.tc : Thread Cert.Ln3BwdRefIdeal.nD Cert.Ln3BwdRefIdeal.τ).loc Cert.Ln3BwdRefIdeal.main_arg1) = m' ((c.tc : Thread Cert.Ln3BwdRefIdeal.nD Cert.Ln3BwdRefIdeal.τ).loc Cert.Ln3BwdRefIdeal.main_arg1)
          ∧ r.2.mem ((c.tc : Thread Cert.Ln3BwdRefIdeal.nD Cert.Ln3BwdRefIdeal.τ).loc Cert.Ln3BwdRefIdeal.main_arg2) = m' ((c.tc : Thread Cert.Ln3BwdRefIdeal.nD Cert.Ln3BwdRefIdeal.τ).loc Cert.Ln3BwdRefIdeal.main_arg2)
          ∧ r.2.mem ((c.tc : Thread Cert.Ln3BwdRefIdeal.nD Cert.Ln3BwdRefIdeal.τ).loc Cert.Ln3BwdRefIdeal.main_arg3) = m' ((c.tc : Thread Cert.Ln3BwdRefIdeal.nD Cert.Ln3BwdRefIdeal.τ).loc Cert.Ln3BwdRefIdeal.main_arg3)
          ∧ r.2.mem ((c.tc : Thread Cert.Ln3BwdRefIdeal.nD Cert.Ln3BwdRefIdeal.τ).loc Cert.Ln3BwdRefIdeal.main_arg4) = m' ((c.tc : Thread Cert.Ln3BwdRefIdeal.nD Cert.Ln3BwdRefIdeal.τ).loc Cert.Ln3BwdRefIdeal.main_arg4)
          ∧ r.2.mem ((c.tc : Thread Cert.Ln3BwdRefIdeal.nD Cert.Ln3BwdRefIdeal.τ).loc Cert.Ln3BwdRefIdeal.main_arg5) = m' ((c.tc : Thread Cert.Ln3BwdRefIdeal.nD Cert.Ln3BwdRefIdeal.τ).loc Cert.Ln3BwdRefIdeal.main_arg5))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v4_0)) (v1 : (c : Dev Cert.AdamUpIdeal.nD) → Buf (Elt Ideal) ((c.tc : Thread Cert.AdamUpIdeal.nD Cert.AdamUpIdeal.τ).loc Cert.AdamUpIdeal.main_v4_1)) (v2 : (c : Dev Cert.AdamUpIdeal.nD) → Buf (Elt Ideal) ((c.tc : Thread Cert.AdamUpIdeal.nD Cert.AdamUpIdeal.τ).loc Cert.AdamUpIdeal.main_v4_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v4_0) = v0 c
          ∧ r.2.mem ((c.tc : Thread Cert.AdamUpIdeal.nD Cert.AdamUpIdeal.τ).loc Cert.AdamUpIdeal.main_v4_1) = v1 c
          ∧ r.2.mem ((c.tc : Thread Cert.AdamUpIdeal.nD Cert.AdamUpIdeal.τ).loc Cert.AdamUpIdeal.main_v4_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v24) = v0 c
          ∧ r.2.mem ((c.tc : Thread Cert.AdamUpRefIdeal.nD Cert.AdamUpRefIdeal.τ).loc Cert.AdamUpRefIdeal.main_v25) = v1 c
          ∧ r.2.mem ((c.tc : Thread Cert.AdamUpRefIdeal.nD Cert.AdamUpRefIdeal.τ).loc Cert.AdamUpRefIdeal.main_v26) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v4_0)) (v1 : (c : Dev Cert.AdamDownIdeal.nD) → Buf (Elt Ideal) ((c.tc : Thread Cert.AdamDownIdeal.nD Cert.AdamDownIdeal.τ).loc Cert.AdamDownIdeal.main_v4_1)) (v2 : (c : Dev Cert.AdamDownIdeal.nD) → Buf (Elt Ideal) ((c.tc : Thread Cert.AdamDownIdeal.nD Cert.AdamDownIdeal.τ).loc Cert.AdamDownIdeal.main_v4_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v4_0) = v0 c
          ∧ r.2.mem ((c.tc : Thread Cert.AdamDownIdeal.nD Cert.AdamDownIdeal.τ).loc Cert.AdamDownIdeal.main_v4_1) = v1 c
          ∧ r.2.mem ((c.tc : Thread Cert.AdamDownIdeal.nD Cert.AdamDownIdeal.τ).loc Cert.AdamDownIdeal.main_v4_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v24) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v26) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v4_0)) (v1 : (c : Dev Cert.AdamInIdeal.nD) → Buf (Elt Ideal) ((c.tc : Thread Cert.AdamInIdeal.nD Cert.AdamInIdeal.τ).loc Cert.AdamInIdeal.main_v4_1)) (v2 : (c : Dev Cert.AdamInIdeal.nD) → Buf (Elt Ideal) ((c.tc : Thread Cert.AdamInIdeal.nD Cert.AdamInIdeal.τ).loc Cert.AdamInIdeal.main_v4_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v4_0) = v0 c
          ∧ r.2.mem ((c.tc : Thread Cert.AdamInIdeal.nD Cert.AdamInIdeal.τ).loc Cert.AdamInIdeal.main_v4_1) = v1 c
          ∧ r.2.mem ((c.tc : Thread Cert.AdamInIdeal.nD Cert.AdamInIdeal.τ).loc Cert.AdamInIdeal.main_v4_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v24) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v26) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v4_0)) (v1 : (c : Dev Cert.AdamOutIdeal.nD) → Buf (Elt Ideal) ((c.tc : Thread Cert.AdamOutIdeal.nD Cert.AdamOutIdeal.τ).loc Cert.AdamOutIdeal.main_v4_1)) (v2 : (c : Dev Cert.AdamOutIdeal.nD) → Buf (Elt Ideal) ((c.tc : Thread Cert.AdamOutIdeal.nD Cert.AdamOutIdeal.τ).loc Cert.AdamOutIdeal.main_v4_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v4_0) = v0 c
          ∧ r.2.mem ((c.tc : Thread Cert.AdamOutIdeal.nD Cert.AdamOutIdeal.τ).loc Cert.AdamOutIdeal.main_v4_1) = v1 c
          ∧ r.2.mem ((c.tc : Thread Cert.AdamOutIdeal.nD Cert.AdamOutIdeal.τ).loc Cert.AdamOutIdeal.main_v4_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v24) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v26) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamProj_AdamProjIdeal : Prop :=
  True

def algebraic_AdamProjIdeal_AdamProjRefIdeal [hAdamProjIdeal : Cert.AdamProjIdeal.Facts] [hAdamProjRefIdeal : Cert.AdamProjRefIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg)
    (m' : (ℓ : Loc Cert.AdamProjRefIdeal.nD Cert.AdamProjRefIdeal.τ Cert.AdamProjRefIdeal.sig) → Buf (Elt Ideal) ℓ) (g' : Dev Cert.AdamProjRefIdeal.nD → PrngReg), Pre_AdamProjIdeal m →
    (∀ c : Dev Cert.AdamProjIdeal.nD,
      m' ((c.tc : Thread Cert.AdamProjRefIdeal.nD Cert.AdamProjRefIdeal.τ).loc Cert.AdamProjRefIdeal.main_arg0) = m ((c.tc : Thread Cert.AdamProjIdeal.nD Cert.AdamProjIdeal.τ).loc Cert.AdamProjIdeal.main_arg0)
      ∧ m' ((c.tc : Thread Cert.AdamProjRefIdeal.nD Cert.AdamProjRefIdeal.τ).loc Cert.AdamProjRefIdeal.main_arg1) = m ((c.tc : Thread Cert.AdamProjIdeal.nD Cert.AdamProjIdeal.τ).loc Cert.AdamProjIdeal.main_arg1)
      ∧ m' ((c.tc : Thread Cert.AdamProjRefIdeal.nD Cert.AdamProjRefIdeal.τ).loc Cert.AdamProjRefIdeal.main_arg2) = m ((c.tc : Thread Cert.AdamProjIdeal.nD Cert.AdamProjIdeal.τ).loc Cert.AdamProjIdeal.main_arg2)
      ∧ m' ((c.tc : Thread Cert.AdamProjRefIdeal.nD Cert.AdamProjRefIdeal.τ).loc Cert.AdamProjRefIdeal.main_arg3) = m ((c.tc : Thread Cert.AdamProjIdeal.nD Cert.AdamProjIdeal.τ).loc Cert.AdamProjIdeal.main_arg3)) →
    ∃ (v0 : (c : Dev Cert.AdamProjIdeal.nD) → Buf (Elt Ideal) ((c.tc : Thread Cert.AdamProjIdeal.nD Cert.AdamProjIdeal.τ).loc Cert.AdamProjIdeal.main_v4_0)) (v1 : (c : Dev Cert.AdamProjIdeal.nD) → Buf (Elt Ideal) ((c.tc : Thread Cert.AdamProjIdeal.nD Cert.AdamProjIdeal.τ).loc Cert.AdamProjIdeal.main_v4_1)) (v2 : (c : Dev Cert.AdamProjIdeal.nD) → Buf (Elt Ideal) ((c.tc : Thread Cert.AdamProjIdeal.nD Cert.AdamProjIdeal.τ).loc Cert.AdamProjIdeal.main_v4_2)),
      θ_run (Cert.AdamProjIdeal.defs (F := Ideal)) (onTc (τ := Cert.AdamProjIdeal.τ) (Cert.AdamProjIdeal.main (F := Ideal))) ⟨m, fun _ => 0, g⟩ (fun r => ∀ c : Dev Cert.AdamProjIdeal.nD,
          r.2.mem ((c.tc : Thread Cert.AdamProjIdeal.nD Cert.AdamProjIdeal.τ).loc Cert.AdamProjIdeal.main_v4_0) = v0 c
          ∧ r.2.mem ((c.tc : Thread Cert.AdamProjIdeal.nD Cert.AdamProjIdeal.τ).loc Cert.AdamProjIdeal.main_v4_1) = v1 c
          ∧ r.2.mem ((c.tc : Thread Cert.AdamProjIdeal.nD Cert.AdamProjIdeal.τ).loc Cert.AdamProjIdeal.main_v4_2) = v2 c
          ∧ r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
          ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
          ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
          ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ θ_run (Cert.AdamProjRefIdeal.defs (F := Ideal)) (onTc (τ := Cert.AdamProjRefIdeal.τ) (Cert.AdamProjRefIdeal.main (F := Ideal))) ⟨m', fun _ => 0, g'⟩ (fun r => ∀ c : Dev Cert.AdamProjRefIdeal.nD,
          r.2.mem ((c.tc : Thread Cert.AdamProjRefIdeal.nD Cert.AdamProjRefIdeal.τ).loc Cert.AdamProjRefIdeal.main_v24) = v0 c
          ∧ r.2.mem ((c.tc : Thread Cert.AdamProjRefIdeal.nD Cert.AdamProjRefIdeal.τ).loc Cert.AdamProjRefIdeal.main_v25) = v1 c
          ∧ r.2.mem ((c.tc : Thread Cert.AdamProjRefIdeal.nD Cert.AdamProjRefIdeal.τ).loc Cert.AdamProjRefIdeal.main_v26) = v2 c
          ∧ r.2.mem ((c.tc : Thread Cert.AdamProjRefIdeal.nD Cert.AdamProjRefIdeal.τ).loc Cert.AdamProjRefIdeal.main_arg0) = m' ((c.tc : Thread Cert.AdamProjRefIdeal.nD Cert.AdamProjRefIdeal.τ).loc Cert.AdamProjRefIdeal.main_arg0)
          ∧ r.2.mem ((c.tc : Thread Cert.AdamProjRefIdeal.nD Cert.AdamProjRefIdeal.τ).loc Cert.AdamProjRefIdeal.main_arg1) = m' ((c.tc : Thread Cert.AdamProjRefIdeal.nD Cert.AdamProjRefIdeal.τ).loc Cert.AdamProjRefIdeal.main_arg1)
          ∧ r.2.mem ((c.tc : Thread Cert.AdamProjRefIdeal.nD Cert.AdamProjRefIdeal.τ).loc Cert.AdamProjRefIdeal.main_arg2) = m' ((c.tc : Thread Cert.AdamProjRefIdeal.nD Cert.AdamProjRefIdeal.τ).loc Cert.AdamProjRefIdeal.main_arg2)
          ∧ r.2.mem ((c.tc : Thread Cert.AdamProjRefIdeal.nD Cert.AdamProjRefIdeal.τ).loc Cert.AdamProjRefIdeal.main_arg3) = m' ((c.tc : Thread Cert.AdamProjRefIdeal.nD Cert.AdamProjRefIdeal.τ).loc Cert.AdamProjRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_FoxPost_FoxPostIdeal : Prop :=
  True

def algebraic_FoxPostIdeal_FoxPostRefIdeal [hFoxPostIdeal : Cert.FoxPostIdeal.Facts] [hFoxPostRefIdeal : Cert.FoxPostRefIdeal.Facts] : Prop :=
  ∀ (m : (ℓ : Loc Cert.FoxPostIdeal.nD Cert.FoxPostIdeal.τ Cert.FoxPostIdeal.sig) → Buf (Elt Ideal) ℓ) (g : Dev Cert.FoxPostIdeal.nD → PrngReg)
    (m' : (ℓ : Loc Cert.FoxPostRefIdeal.nD Cert.FoxPostRefIdeal.τ Cert.FoxPostRefIdeal.sig) → Buf (Elt Ideal) ℓ) (g' : Dev Cert.FoxPostRefIdeal.nD → PrngReg), Pre_FoxPostIdeal m →
    (∀ c : Dev Cert.FoxPostIdeal.nD,
      m' ((c.tc : Thread Cert.FoxPostRefIdeal.nD Cert.FoxPostRefIdeal.τ).loc Cert.FoxPostRefIdeal.main_arg0) = m ((c.tc : Thread Cert.FoxPostIdeal.nD Cert.FoxPostIdeal.τ).loc Cert.FoxPostIdeal.main_arg0)
      ∧ m' ((c.tc : Thread Cert.FoxPostRefIdeal.nD Cert.FoxPostRefIdeal.τ).loc Cert.FoxPostRefIdeal.main_arg1) = m ((c.tc : Thread Cert.FoxPostIdeal.nD Cert.FoxPostIdeal.τ).loc Cert.FoxPostIdeal.main_arg1)
      ∧ m' ((c.tc : Thread Cert.FoxPostRefIdeal.nD Cert.FoxPostRefIdeal.τ).loc Cert.FoxPostRefIdeal.main_arg2) = m ((c.tc : Thread Cert.FoxPostIdeal.nD Cert.FoxPostIdeal.τ).loc Cert.FoxPostIdeal.main_arg2)) →
    ∃ (v0 : (c : Dev Cert.FoxPostIdeal.nD) → Buf (Elt Ideal) ((c.tc : Thread Cert.FoxPostIdeal.nD Cert.FoxPostIdeal.τ).loc Cert.FoxPostIdeal.main_v0_0)) (v1 : (c : Dev Cert.FoxPostIdeal.nD) → Buf (Elt Ideal) ((c.tc : Thread Cert.FoxPostIdeal.nD Cert.FoxPostIdeal.τ).loc Cert.FoxPostIdeal.main_v0_1)),
      θ_run (Cert.FoxPostIdeal.defs (F := Ideal)) (onTc (τ := Cert.FoxPostIdeal.τ) (Cert.FoxPostIdeal.main (F := Ideal))) ⟨m, fun _ => 0, g⟩ (fun r => ∀ c : Dev Cert.FoxPostIdeal.nD,
          r.2.mem ((c.tc : Thread Cert.FoxPostIdeal.nD Cert.FoxPostIdeal.τ).loc Cert.FoxPostIdeal.main_v0_0) = v0 c
          ∧ r.2.mem ((c.tc : Thread Cert.FoxPostIdeal.nD Cert.FoxPostIdeal.τ).loc Cert.FoxPostIdeal.main_v0_1) = v1 c
          ∧ r.2.mem ((c.tc : Thread Cert.FoxPostIdeal.nD Cert.FoxPostIdeal.τ).loc Cert.FoxPostIdeal.main_arg0) = m ((c.tc : Thread Cert.FoxPostIdeal.nD Cert.FoxPostIdeal.τ).loc Cert.FoxPostIdeal.main_arg0)
          ∧ r.2.mem ((c.tc : Thread Cert.FoxPostIdeal.nD Cert.FoxPostIdeal.τ).loc Cert.FoxPostIdeal.main_arg1) = m ((c.tc : Thread Cert.FoxPostIdeal.nD Cert.FoxPostIdeal.τ).loc Cert.FoxPostIdeal.main_arg1)
          ∧ r.2.mem ((c.tc : Thread Cert.FoxPostIdeal.nD Cert.FoxPostIdeal.τ).loc Cert.FoxPostIdeal.main_arg2) = m ((c.tc : Thread Cert.FoxPostIdeal.nD Cert.FoxPostIdeal.τ).loc Cert.FoxPostIdeal.main_arg2))
      ∧ θ_run (Cert.FoxPostRefIdeal.defs (F := Ideal)) (onTc (τ := Cert.FoxPostRefIdeal.τ) (Cert.FoxPostRefIdeal.main (F := Ideal))) ⟨m', fun _ => 0, g'⟩ (fun r => ∀ c : Dev Cert.FoxPostRefIdeal.nD,
          r.2.mem ((c.tc : Thread Cert.FoxPostRefIdeal.nD Cert.FoxPostRefIdeal.τ).loc Cert.FoxPostRefIdeal.main_v11) = v0 c
          ∧ r.2.mem ((c.tc : Thread Cert.FoxPostRefIdeal.nD Cert.FoxPostRefIdeal.τ).loc Cert.FoxPostRefIdeal.main_v12) = v1 c
          ∧ r.2.mem ((c.tc : Thread Cert.FoxPostRefIdeal.nD Cert.FoxPostRefIdeal.τ).loc Cert.FoxPostRefIdeal.main_arg0) = m' ((c.tc : Thread Cert.FoxPostRefIdeal.nD Cert.FoxPostRefIdeal.τ).loc Cert.FoxPostRefIdeal.main_arg0)
          ∧ r.2.mem ((c.tc : Thread Cert.FoxPostRefIdeal.nD Cert.FoxPostRefIdeal.τ).loc Cert.FoxPostRefIdeal.main_arg1) = m' ((c.tc : Thread Cert.FoxPostRefIdeal.nD Cert.FoxPostRefIdeal.τ).loc Cert.FoxPostRefIdeal.main_arg1)
          ∧ r.2.mem ((c.tc : Thread Cert.FoxPostRefIdeal.nD Cert.FoxPostRefIdeal.τ).loc Cert.FoxPostRefIdeal.main_arg2) = m' ((c.tc : Thread Cert.FoxPostRefIdeal.nD Cert.FoxPostRefIdeal.τ).loc Cert.FoxPostRefIdeal.main_arg2))

def preserves_FoxDelta_FoxDeltaIdeal : Prop :=
  True

def algebraic_FoxDeltaIdeal_FoxDeltaRefIdeal [hFoxDeltaIdeal : Cert.FoxDeltaIdeal.Facts] [hFoxDeltaRefIdeal : Cert.FoxDeltaRefIdeal.Facts] : Prop :=
  ∀ (m : (ℓ : Loc Cert.FoxDeltaIdeal.nD Cert.FoxDeltaIdeal.τ Cert.FoxDeltaIdeal.sig) → Buf (Elt Ideal) ℓ) (g : Dev Cert.FoxDeltaIdeal.nD → PrngReg)
    (m' : (ℓ : Loc Cert.FoxDeltaRefIdeal.nD Cert.FoxDeltaRefIdeal.τ Cert.FoxDeltaRefIdeal.sig) → Buf (Elt Ideal) ℓ) (g' : Dev Cert.FoxDeltaRefIdeal.nD → PrngReg), Pre_FoxDeltaIdeal m →
    (∀ c : Dev Cert.FoxDeltaIdeal.nD,
      m' ((c.tc : Thread Cert.FoxDeltaRefIdeal.nD Cert.FoxDeltaRefIdeal.τ).loc Cert.FoxDeltaRefIdeal.main_arg0) = m ((c.tc : Thread Cert.FoxDeltaIdeal.nD Cert.FoxDeltaIdeal.τ).loc Cert.FoxDeltaIdeal.main_arg0)
      ∧ m' ((c.tc : Thread Cert.FoxDeltaRefIdeal.nD Cert.FoxDeltaRefIdeal.τ).loc Cert.FoxDeltaRefIdeal.main_arg1) = m ((c.tc : Thread Cert.FoxDeltaIdeal.nD Cert.FoxDeltaIdeal.τ).loc Cert.FoxDeltaIdeal.main_arg1)) →
    ∃ (v0 : (c : Dev Cert.FoxDeltaIdeal.nD) → Buf (Elt Ideal) ((c.tc : Thread Cert.FoxDeltaIdeal.nD Cert.FoxDeltaIdeal.τ).loc Cert.FoxDeltaIdeal.main_v0)),
      θ_run (Cert.FoxDeltaIdeal.defs (F := Ideal)) (onTc (τ := Cert.FoxDeltaIdeal.τ) (Cert.FoxDeltaIdeal.main (F := Ideal))) ⟨m, fun _ => 0, g⟩ (fun r => ∀ c : Dev Cert.FoxDeltaIdeal.nD,
          r.2.mem ((c.tc : Thread Cert.FoxDeltaIdeal.nD Cert.FoxDeltaIdeal.τ).loc Cert.FoxDeltaIdeal.main_v0) = v0 c
          ∧ r.2.mem ((c.tc : Thread Cert.FoxDeltaIdeal.nD Cert.FoxDeltaIdeal.τ).loc Cert.FoxDeltaIdeal.main_arg0) = m ((c.tc : Thread Cert.FoxDeltaIdeal.nD Cert.FoxDeltaIdeal.τ).loc Cert.FoxDeltaIdeal.main_arg0)
          ∧ r.2.mem ((c.tc : Thread Cert.FoxDeltaIdeal.nD Cert.FoxDeltaIdeal.τ).loc Cert.FoxDeltaIdeal.main_arg1) = m ((c.tc : Thread Cert.FoxDeltaIdeal.nD Cert.FoxDeltaIdeal.τ).loc Cert.FoxDeltaIdeal.main_arg1))
      ∧ θ_run (Cert.FoxDeltaRefIdeal.defs (F := Ideal)) (onTc (τ := Cert.FoxDeltaRefIdeal.τ) (Cert.FoxDeltaRefIdeal.main (F := Ideal))) ⟨m', fun _ => 0, g'⟩ (fun r => ∀ c : Dev Cert.FoxDeltaRefIdeal.nD,
          r.2.mem ((c.tc : Thread Cert.FoxDeltaRefIdeal.nD Cert.FoxDeltaRefIdeal.τ).loc Cert.FoxDeltaRefIdeal.main_v5) = v0 c
          ∧ r.2.mem ((c.tc : Thread Cert.FoxDeltaRefIdeal.nD Cert.FoxDeltaRefIdeal.τ).loc Cert.FoxDeltaRefIdeal.main_arg0) = m' ((c.tc : Thread Cert.FoxDeltaRefIdeal.nD Cert.FoxDeltaRefIdeal.τ).loc Cert.FoxDeltaRefIdeal.main_arg0)
          ∧ r.2.mem ((c.tc : Thread Cert.FoxDeltaRefIdeal.nD Cert.FoxDeltaRefIdeal.τ).loc Cert.FoxDeltaRefIdeal.main_arg1) = m' ((c.tc : Thread Cert.FoxDeltaRefIdeal.nD Cert.FoxDeltaRefIdeal.τ).loc Cert.FoxDeltaRefIdeal.main_arg1))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_SumCoresUp_SumCoresUpIdeal : Prop :=
  True

def algebraic_SumCoresUpIdeal_SumCoresUpRefIdeal [hSumCoresUpIdeal : Cert.SumCoresUpIdeal.Facts] [hSumCoresUpRefIdeal : Cert.SumCoresUpRefIdeal.Facts] : Prop :=
  ∀ (m : (ℓ : Loc Cert.SumCoresUpIdeal.nD Cert.SumCoresUpIdeal.τ Cert.SumCoresUpIdeal.sig) → Buf (Elt Ideal) ℓ) (g : Dev Cert.SumCoresUpIdeal.nD → PrngReg)
    (m' : (ℓ : Loc Cert.SumCoresUpRefIdeal.nD Cert.SumCoresUpRefIdeal.τ Cert.SumCoresUpRefIdeal.sig) → Buf (Elt Ideal) ℓ) (g' : Dev Cert.SumCoresUpRefIdeal.nD → PrngReg), Pre_SumCoresUpIdeal m →
    (∀ c : Dev Cert.SumCoresUpIdeal.nD,
      m' ((c.tc : Thread Cert.SumCoresUpRefIdeal.nD Cert.SumCoresUpRefIdeal.τ).loc Cert.SumCoresUpRefIdeal.main_arg0) = m ((c.tc : Thread Cert.SumCoresUpIdeal.nD Cert.SumCoresUpIdeal.τ).loc Cert.SumCoresUpIdeal.main_arg0)
      ∧ m' ((c.tc : Thread Cert.SumCoresUpRefIdeal.nD Cert.SumCoresUpRefIdeal.τ).loc Cert.SumCoresUpRefIdeal.main_arg1) = m ((c.tc : Thread Cert.SumCoresUpIdeal.nD Cert.SumCoresUpIdeal.τ).loc Cert.SumCoresUpIdeal.main_arg1)) →
    ∃ (v0 : (c : Dev Cert.SumCoresUpIdeal.nD) → Buf (Elt Ideal) ((c.tc : Thread Cert.SumCoresUpIdeal.nD Cert.SumCoresUpIdeal.τ).loc Cert.SumCoresUpIdeal.main_v2)),
      θ_run (Cert.SumCoresUpIdeal.defs (F := Ideal)) (onTc (τ := Cert.SumCoresUpIdeal.τ) (Cert.SumCoresUpIdeal.main (F := Ideal))) ⟨m, fun _ => 0, g⟩ (fun r => ∀ c : Dev Cert.SumCoresUpIdeal.nD,
          r.2.mem ((c.tc : Thread Cert.SumCoresUpIdeal.nD Cert.SumCoresUpIdeal.τ).loc Cert.SumCoresUpIdeal.main_v2) = v0 c
          ∧ r.2.mem ((c.tc : Thread Cert.SumCoresUpIdeal.nD Cert.SumCoresUpIdeal.τ).loc Cert.SumCoresUpIdeal.main_arg0) = m ((c.tc : Thread Cert.SumCoresUpIdeal.nD Cert.SumCoresUpIdeal.τ).loc Cert.SumCoresUpIdeal.main_arg0)
          ∧ r.2.mem ((c.tc : Thread Cert.SumCoresUpIdeal.nD Cert.SumCoresUpIdeal.τ).loc Cert.SumCoresUpIdeal.main_arg1) = m ((c.tc : Thread Cert.SumCoresUpIdeal.nD Cert.SumCoresUpIdeal.τ).loc Cert.SumCoresUpIdeal.main_arg1))
      ∧ θ_run (Cert.SumCoresUpRefIdeal.defs (F := Ideal)) (onTc (τ := Cert.SumCoresUpRefIdeal.τ) (Cert.SumCoresUpRefIdeal.main (F := Ideal))) ⟨m', fun _ => 0, g'⟩ (fun r => ∀ c : Dev Cert.SumCoresUpRefIdeal.nD,
          r.2.mem ((c.tc : Thread Cert.SumCoresUpRefIdeal.nD Cert.SumCoresUpRefIdeal.τ).loc Cert.SumCoresUpRefIdeal.main_v4) = v0 c
          ∧ r.2.mem ((c.tc : Thread Cert.SumCoresUpRefIdeal.nD Cert.SumCoresUpRefIdeal.τ).loc Cert.SumCoresUpRefIdeal.main_arg0) = m' ((c.tc : Thread Cert.SumCoresUpRefIdeal.nD Cert.SumCoresUpRefIdeal.τ).loc Cert.SumCoresUpRefIdeal.main_arg0)
          ∧ r.2.mem ((c.tc : Thread Cert.SumCoresUpRefIdeal.nD Cert.SumCoresUpRefIdeal.τ).loc Cert.SumCoresUpRefIdeal.main_arg1) = m' ((c.tc : Thread Cert.SumCoresUpRefIdeal.nD Cert.SumCoresUpRefIdeal.τ).loc Cert.SumCoresUpRefIdeal.main_arg1))

def preserves_SumChipsUp_SumChipsUpIdeal : Prop :=
  True

def algebraic_SumChipsUpIdeal_SumChipsUpRefIdeal [hSumChipsUpIdeal : Cert.SumChipsUpIdeal.Facts] [hSumChipsUpRefIdeal : Cert.SumChipsUpRefIdeal.Facts] : Prop :=
  ∀ (m : (ℓ : Loc Cert.SumChipsUpIdeal.nD Cert.SumChipsUpIdeal.τ Cert.SumChipsUpIdeal.sig) → Buf (Elt Ideal) ℓ) (g : Dev Cert.SumChipsUpIdeal.nD → PrngReg)
    (m' : (ℓ : Loc Cert.SumChipsUpRefIdeal.nD Cert.SumChipsUpRefIdeal.τ Cert.SumChipsUpRefIdeal.sig) → Buf (Elt Ideal) ℓ) (g' : Dev Cert.SumChipsUpRefIdeal.nD → PrngReg), Pre_SumChipsUpIdeal m →
    (∀ c : Dev Cert.SumChipsUpIdeal.nD,
      m' ((c.tc : Thread Cert.SumChipsUpRefIdeal.nD Cert.SumChipsUpRefIdeal.τ).loc Cert.SumChipsUpRefIdeal.main_arg0) = m ((c.tc : Thread Cert.SumChipsUpIdeal.nD Cert.SumChipsUpIdeal.τ).loc Cert.SumChipsUpIdeal.main_arg0)) →
    ∃ (v0 : (c : Dev Cert.SumChipsUpIdeal.nD) → Buf (Elt Ideal) ((c.tc : Thread Cert.SumChipsUpIdeal.nD Cert.SumChipsUpIdeal.τ).loc Cert.SumChipsUpIdeal.main_v0)),
      θ_run (Cert.SumChipsUpIdeal.defs (F := Ideal)) (onTc (τ := Cert.SumChipsUpIdeal.τ) (Cert.SumChipsUpIdeal.main (F := Ideal))) ⟨m, fun _ => 0, g⟩ (fun r => ∀ c : Dev Cert.SumChipsUpIdeal.nD,
          r.2.mem ((c.tc : Thread Cert.SumChipsUpIdeal.nD Cert.SumChipsUpIdeal.τ).loc Cert.SumChipsUpIdeal.main_v0) = v0 c
          ∧ r.2.mem ((c.tc : Thread Cert.SumChipsUpIdeal.nD Cert.SumChipsUpIdeal.τ).loc Cert.SumChipsUpIdeal.main_arg0) = m ((c.tc : Thread Cert.SumChipsUpIdeal.nD Cert.SumChipsUpIdeal.τ).loc Cert.SumChipsUpIdeal.main_arg0))
      ∧ θ_run (Cert.SumChipsUpRefIdeal.defs (F := Ideal)) (onTc (τ := Cert.SumChipsUpRefIdeal.τ) (Cert.SumChipsUpRefIdeal.main (F := Ideal))) ⟨m', fun _ => 0, g'⟩ (fun r => ∀ c : Dev Cert.SumChipsUpRefIdeal.nD,
          r.2.mem ((c.tc : Thread Cert.SumChipsUpRefIdeal.nD Cert.SumChipsUpRefIdeal.τ).loc Cert.SumChipsUpRefIdeal.main_v1) = v0 c
          ∧ r.2.mem ((c.tc : Thread Cert.SumChipsUpRefIdeal.nD Cert.SumChipsUpRefIdeal.τ).loc Cert.SumChipsUpRefIdeal.main_arg0) = m' ((c.tc : Thread Cert.SumChipsUpRefIdeal.nD Cert.SumChipsUpRefIdeal.τ).loc Cert.SumChipsUpRefIdeal.main_arg0))

def preserves_SumCoresDown_SumCoresDownIdeal : Prop :=
  True

def algebraic_SumCoresDownIdeal_SumCoresDownRefIdeal [hSumCoresDownIdeal : Cert.SumCoresDownIdeal.Facts] [hSumCoresDownRefIdeal : Cert.SumCoresDownRefIdeal.Facts] : Prop :=
  ∀ (m : (ℓ : Loc Cert.SumCoresDownIdeal.nD Cert.SumCoresDownIdeal.τ Cert.SumCoresDownIdeal.sig) → Buf (Elt Ideal) ℓ) (g : Dev Cert.SumCoresDownIdeal.nD → PrngReg)
    (m' : (ℓ : Loc Cert.SumCoresDownRefIdeal.nD Cert.SumCoresDownRefIdeal.τ Cert.SumCoresDownRefIdeal.sig) → Buf (Elt Ideal) ℓ) (g' : Dev Cert.SumCoresDownRefIdeal.nD → PrngReg), Pre_SumCoresDownIdeal m →
    (∀ c : Dev Cert.SumCoresDownIdeal.nD,
      m' ((c.tc : Thread Cert.SumCoresDownRefIdeal.nD Cert.SumCoresDownRefIdeal.τ).loc Cert.SumCoresDownRefIdeal.main_arg0) = m ((c.tc : Thread Cert.SumCoresDownIdeal.nD Cert.SumCoresDownIdeal.τ).loc Cert.SumCoresDownIdeal.main_arg0)
      ∧ m' ((c.tc : Thread Cert.SumCoresDownRefIdeal.nD Cert.SumCoresDownRefIdeal.τ).loc Cert.SumCoresDownRefIdeal.main_arg1) = m ((c.tc : Thread Cert.SumCoresDownIdeal.nD Cert.SumCoresDownIdeal.τ).loc Cert.SumCoresDownIdeal.main_arg1)) →
    ∃ (v0 : (c : Dev Cert.SumCoresDownIdeal.nD) → Buf (Elt Ideal) ((c.tc : Thread Cert.SumCoresDownIdeal.nD Cert.SumCoresDownIdeal.τ).loc Cert.SumCoresDownIdeal.main_v2)),
      θ_run (Cert.SumCoresDownIdeal.defs (F := Ideal)) (onTc (τ := Cert.SumCoresDownIdeal.τ) (Cert.SumCoresDownIdeal.main (F := Ideal))) ⟨m, fun _ => 0, g⟩ (fun r => ∀ c : Dev Cert.SumCoresDownIdeal.nD,
          r.2.mem ((c.tc : Thread Cert.SumCoresDownIdeal.nD Cert.SumCoresDownIdeal.τ).loc Cert.SumCoresDownIdeal.main_v2) = v0 c
          ∧ r.2.mem ((c.tc : Thread Cert.SumCoresDownIdeal.nD Cert.SumCoresDownIdeal.τ).loc Cert.SumCoresDownIdeal.main_arg0) = m ((c.tc : Thread Cert.SumCoresDownIdeal.nD Cert.SumCoresDownIdeal.τ).loc Cert.SumCoresDownIdeal.main_arg0)
          ∧ r.2.mem ((c.tc : Thread Cert.SumCoresDownIdeal.nD Cert.SumCoresDownIdeal.τ).loc Cert.SumCoresDownIdeal.main_arg1) = m ((c.tc : Thread Cert.SumCoresDownIdeal.nD Cert.SumCoresDownIdeal.τ).loc Cert.SumCoresDownIdeal.main_arg1))
      ∧ θ_run (Cert.SumCoresDownRefIdeal.defs (F := Ideal)) (onTc (τ := Cert.SumCoresDownRefIdeal.τ) (Cert.SumCoresDownRefIdeal.main (F := Ideal))) ⟨m', fun _ => 0, g'⟩ (fun r => ∀ c : Dev Cert.SumCoresDownRefIdeal.nD,
          r.2.mem ((c.tc : Thread Cert.SumCoresDownRefIdeal.nD Cert.SumCoresDownRefIdeal.τ).loc Cert.SumCoresDownRefIdeal.main_v4) = v0 c
          ∧ r.2.mem ((c.tc : Thread Cert.SumCoresDownRefIdeal.nD Cert.SumCoresDownRefIdeal.τ).loc Cert.SumCoresDownRefIdeal.main_arg0) = m' ((c.tc : Thread Cert.SumCoresDownRefIdeal.nD Cert.SumCoresDownRefIdeal.τ).loc Cert.SumCoresDownRefIdeal.main_arg0)
          ∧ r.2.mem ((c.tc : Thread Cert.SumCoresDownRefIdeal.nD Cert.SumCoresDownRefIdeal.τ).loc Cert.SumCoresDownRefIdeal.main_arg1) = m' ((c.tc : Thread Cert.SumCoresDownRefIdeal.nD Cert.SumCoresDownRefIdeal.τ).loc Cert.SumCoresDownRefIdeal.main_arg1))

def preserves_SumChipsDown_SumChipsDownIdeal : Prop :=
  True

def algebraic_SumChipsDownIdeal_SumChipsDownRefIdeal [hSumChipsDownIdeal : Cert.SumChipsDownIdeal.Facts] [hSumChipsDownRefIdeal : Cert.SumChipsDownRefIdeal.Facts] : Prop :=
  ∀ (m : (ℓ : Loc Cert.SumChipsDownIdeal.nD Cert.SumChipsDownIdeal.τ Cert.SumChipsDownIdeal.sig) → Buf (Elt Ideal) ℓ) (g : Dev Cert.SumChipsDownIdeal.nD → PrngReg)
    (m' : (ℓ : Loc Cert.SumChipsDownRefIdeal.nD Cert.SumChipsDownRefIdeal.τ Cert.SumChipsDownRefIdeal.sig) → Buf (Elt Ideal) ℓ) (g' : Dev Cert.SumChipsDownRefIdeal.nD → PrngReg), Pre_SumChipsDownIdeal m →
    (∀ c : Dev Cert.SumChipsDownIdeal.nD,
      m' ((c.tc : Thread Cert.SumChipsDownRefIdeal.nD Cert.SumChipsDownRefIdeal.τ).loc Cert.SumChipsDownRefIdeal.main_arg0) = m ((c.tc : Thread Cert.SumChipsDownIdeal.nD Cert.SumChipsDownIdeal.τ).loc Cert.SumChipsDownIdeal.main_arg0)) →
    ∃ (v0 : (c : Dev Cert.SumChipsDownIdeal.nD) → Buf (Elt Ideal) ((c.tc : Thread Cert.SumChipsDownIdeal.nD Cert.SumChipsDownIdeal.τ).loc Cert.SumChipsDownIdeal.main_v0)),
      θ_run (Cert.SumChipsDownIdeal.defs (F := Ideal)) (onTc (τ := Cert.SumChipsDownIdeal.τ) (Cert.SumChipsDownIdeal.main (F := Ideal))) ⟨m, fun _ => 0, g⟩ (fun r => ∀ c : Dev Cert.SumChipsDownIdeal.nD,
          r.2.mem ((c.tc : Thread Cert.SumChipsDownIdeal.nD Cert.SumChipsDownIdeal.τ).loc Cert.SumChipsDownIdeal.main_v0) = v0 c
          ∧ r.2.mem ((c.tc : Thread Cert.SumChipsDownIdeal.nD Cert.SumChipsDownIdeal.τ).loc Cert.SumChipsDownIdeal.main_arg0) = m ((c.tc : Thread Cert.SumChipsDownIdeal.nD Cert.SumChipsDownIdeal.τ).loc Cert.SumChipsDownIdeal.main_arg0))
      ∧ θ_run (Cert.SumChipsDownRefIdeal.defs (F := Ideal)) (onTc (τ := Cert.SumChipsDownRefIdeal.τ) (Cert.SumChipsDownRefIdeal.main (F := Ideal))) ⟨m', fun _ => 0, g'⟩ (fun r => ∀ c : Dev Cert.SumChipsDownRefIdeal.nD,
          r.2.mem ((c.tc : Thread Cert.SumChipsDownRefIdeal.nD Cert.SumChipsDownRefIdeal.τ).loc Cert.SumChipsDownRefIdeal.main_v1) = v0 c
          ∧ r.2.mem ((c.tc : Thread Cert.SumChipsDownRefIdeal.nD Cert.SumChipsDownRefIdeal.τ).loc Cert.SumChipsDownRefIdeal.main_arg0) = m' ((c.tc : Thread Cert.SumChipsDownRefIdeal.nD Cert.SumChipsDownRefIdeal.τ).loc Cert.SumChipsDownRefIdeal.main_arg0))

def preserves_SumCoresOut_SumCoresOutIdeal : Prop :=
  True

def algebraic_SumCoresOutIdeal_SumCoresOutRefIdeal [hSumCoresOutIdeal : Cert.SumCoresOutIdeal.Facts] [hSumCoresOutRefIdeal : Cert.SumCoresOutRefIdeal.Facts] : Prop :=
  ∀ (m : (ℓ : Loc Cert.SumCoresOutIdeal.nD Cert.SumCoresOutIdeal.τ Cert.SumCoresOutIdeal.sig) → Buf (Elt Ideal) ℓ) (g : Dev Cert.SumCoresOutIdeal.nD → PrngReg)
    (m' : (ℓ : Loc Cert.SumCoresOutRefIdeal.nD Cert.SumCoresOutRefIdeal.τ Cert.SumCoresOutRefIdeal.sig) → Buf (Elt Ideal) ℓ) (g' : Dev Cert.SumCoresOutRefIdeal.nD → PrngReg), Pre_SumCoresOutIdeal m →
    (∀ c : Dev Cert.SumCoresOutIdeal.nD,
      m' ((c.tc : Thread Cert.SumCoresOutRefIdeal.nD Cert.SumCoresOutRefIdeal.τ).loc Cert.SumCoresOutRefIdeal.main_arg0) = m ((c.tc : Thread Cert.SumCoresOutIdeal.nD Cert.SumCoresOutIdeal.τ).loc Cert.SumCoresOutIdeal.main_arg0)
      ∧ m' ((c.tc : Thread Cert.SumCoresOutRefIdeal.nD Cert.SumCoresOutRefIdeal.τ).loc Cert.SumCoresOutRefIdeal.main_arg1) = m ((c.tc : Thread Cert.SumCoresOutIdeal.nD Cert.SumCoresOutIdeal.τ).loc Cert.SumCoresOutIdeal.main_arg1)) →
    ∃ (v0 : (c : Dev Cert.SumCoresOutIdeal.nD) → Buf (Elt Ideal) ((c.tc : Thread Cert.SumCoresOutIdeal.nD Cert.SumCoresOutIdeal.τ).loc Cert.SumCoresOutIdeal.main_v2)),
      θ_run (Cert.SumCoresOutIdeal.defs (F := Ideal)) (onTc (τ := Cert.SumCoresOutIdeal.τ) (Cert.SumCoresOutIdeal.main (F := Ideal))) ⟨m, fun _ => 0, g⟩ (fun r => ∀ c : Dev Cert.SumCoresOutIdeal.nD,
          r.2.mem ((c.tc : Thread Cert.SumCoresOutIdeal.nD Cert.SumCoresOutIdeal.τ).loc Cert.SumCoresOutIdeal.main_v2) = v0 c
          ∧ r.2.mem ((c.tc : Thread Cert.SumCoresOutIdeal.nD Cert.SumCoresOutIdeal.τ).loc Cert.SumCoresOutIdeal.main_arg0) = m ((c.tc : Thread Cert.SumCoresOutIdeal.nD Cert.SumCoresOutIdeal.τ).loc Cert.SumCoresOutIdeal.main_arg0)
          ∧ r.2.mem ((c.tc : Thread Cert.SumCoresOutIdeal.nD Cert.SumCoresOutIdeal.τ).loc Cert.SumCoresOutIdeal.main_arg1) = m ((c.tc : Thread Cert.SumCoresOutIdeal.nD Cert.SumCoresOutIdeal.τ).loc Cert.SumCoresOutIdeal.main_arg1))
      ∧ θ_run (Cert.SumCoresOutRefIdeal.defs (F := Ideal)) (onTc (τ := Cert.SumCoresOutRefIdeal.τ) (Cert.SumCoresOutRefIdeal.main (F := Ideal))) ⟨m', fun _ => 0, g'⟩ (fun r => ∀ c : Dev Cert.SumCoresOutRefIdeal.nD,
          r.2.mem ((c.tc : Thread Cert.SumCoresOutRefIdeal.nD Cert.SumCoresOutRefIdeal.τ).loc Cert.SumCoresOutRefIdeal.main_v4) = v0 c
          ∧ r.2.mem ((c.tc : Thread Cert.SumCoresOutRefIdeal.nD Cert.SumCoresOutRefIdeal.τ).loc Cert.SumCoresOutRefIdeal.main_arg0) = m' ((c.tc : Thread Cert.SumCoresOutRefIdeal.nD Cert.SumCoresOutRefIdeal.τ).loc Cert.SumCoresOutRefIdeal.main_arg0)
          ∧ r.2.mem ((c.tc : Thread Cert.SumCoresOutRefIdeal.nD Cert.SumCoresOutRefIdeal.τ).loc Cert.SumCoresOutRefIdeal.main_arg1) = m' ((c.tc : Thread Cert.SumCoresOutRefIdeal.nD Cert.SumCoresOutRefIdeal.τ).loc Cert.SumCoresOutRefIdeal.main_arg1))

def preserves_SumChipsOut_SumChipsOutIdeal : Prop :=
  True

def algebraic_SumChipsOutIdeal_SumChipsOutRefIdeal [hSumChipsOutIdeal : Cert.SumChipsOutIdeal.Facts] [hSumChipsOutRefIdeal : Cert.SumChipsOutRefIdeal.Facts] : Prop :=
  ∀ (m : (ℓ : Loc Cert.SumChipsOutIdeal.nD Cert.SumChipsOutIdeal.τ Cert.SumChipsOutIdeal.sig) → Buf (Elt Ideal) ℓ) (g : Dev Cert.SumChipsOutIdeal.nD → PrngReg)
    (m' : (ℓ : Loc Cert.SumChipsOutRefIdeal.nD Cert.SumChipsOutRefIdeal.τ Cert.SumChipsOutRefIdeal.sig) → Buf (Elt Ideal) ℓ) (g' : Dev Cert.SumChipsOutRefIdeal.nD → PrngReg), Pre_SumChipsOutIdeal m →
    (∀ c : Dev Cert.SumChipsOutIdeal.nD,
      m' ((c.tc : Thread Cert.SumChipsOutRefIdeal.nD Cert.SumChipsOutRefIdeal.τ).loc Cert.SumChipsOutRefIdeal.main_arg0) = m ((c.tc : Thread Cert.SumChipsOutIdeal.nD Cert.SumChipsOutIdeal.τ).loc Cert.SumChipsOutIdeal.main_arg0)) →
    ∃ (v0 : (c : Dev Cert.SumChipsOutIdeal.nD) → Buf (Elt Ideal) ((c.tc : Thread Cert.SumChipsOutIdeal.nD Cert.SumChipsOutIdeal.τ).loc Cert.SumChipsOutIdeal.main_v0)),
      θ_run (Cert.SumChipsOutIdeal.defs (F := Ideal)) (onTc (τ := Cert.SumChipsOutIdeal.τ) (Cert.SumChipsOutIdeal.main (F := Ideal))) ⟨m, fun _ => 0, g⟩ (fun r => ∀ c : Dev Cert.SumChipsOutIdeal.nD,
          r.2.mem ((c.tc : Thread Cert.SumChipsOutIdeal.nD Cert.SumChipsOutIdeal.τ).loc Cert.SumChipsOutIdeal.main_v0) = v0 c
          ∧ r.2.mem ((c.tc : Thread Cert.SumChipsOutIdeal.nD Cert.SumChipsOutIdeal.τ).loc Cert.SumChipsOutIdeal.main_arg0) = m ((c.tc : Thread Cert.SumChipsOutIdeal.nD Cert.SumChipsOutIdeal.τ).loc Cert.SumChipsOutIdeal.main_arg0))
      ∧ θ_run (Cert.SumChipsOutRefIdeal.defs (F := Ideal)) (onTc (τ := Cert.SumChipsOutRefIdeal.τ) (Cert.SumChipsOutRefIdeal.main (F := Ideal))) ⟨m', fun _ => 0, g'⟩ (fun r => ∀ c : Dev Cert.SumChipsOutRefIdeal.nD,
          r.2.mem ((c.tc : Thread Cert.SumChipsOutRefIdeal.nD Cert.SumChipsOutRefIdeal.τ).loc Cert.SumChipsOutRefIdeal.main_v1) = v0 c
          ∧ r.2.mem ((c.tc : Thread Cert.SumChipsOutRefIdeal.nD Cert.SumChipsOutRefIdeal.τ).loc Cert.SumChipsOutRefIdeal.main_arg0) = m' ((c.tc : Thread Cert.SumChipsOutRefIdeal.nD Cert.SumChipsOutRefIdeal.τ).loc Cert.SumChipsOutRefIdeal.main_arg0))

def preserves_SumCoresProj_SumCoresProjIdeal : Prop :=
  True

def algebraic_SumCoresProjIdeal_SumCoresProjRefIdeal [hSumCoresProjIdeal : Cert.SumCoresProjIdeal.Facts] [hSumCoresProjRefIdeal : Cert.SumCoresProjRefIdeal.Facts] : Prop :=
  ∀ (m : (ℓ : Loc Cert.SumCoresProjIdeal.nD Cert.SumCoresProjIdeal.τ Cert.SumCoresProjIdeal.sig) → Buf (Elt Ideal) ℓ) (g : Dev Cert.SumCoresProjIdeal.nD → PrngReg)
    (m' : (ℓ : Loc Cert.SumCoresProjRefIdeal.nD Cert.SumCoresProjRefIdeal.τ Cert.SumCoresProjRefIdeal.sig) → Buf (Elt Ideal) ℓ) (g' : Dev Cert.SumCoresProjRefIdeal.nD → PrngReg), Pre_SumCoresProjIdeal m →
    (∀ c : Dev Cert.SumCoresProjIdeal.nD,
      m' ((c.tc : Thread Cert.SumCoresProjRefIdeal.nD Cert.SumCoresProjRefIdeal.τ).loc Cert.SumCoresProjRefIdeal.main_arg0) = m ((c.tc : Thread Cert.SumCoresProjIdeal.nD Cert.SumCoresProjIdeal.τ).loc Cert.SumCoresProjIdeal.main_arg0)
      ∧ m' ((c.tc : Thread Cert.SumCoresProjRefIdeal.nD Cert.SumCoresProjRefIdeal.τ).loc Cert.SumCoresProjRefIdeal.main_arg1) = m ((c.tc : Thread Cert.SumCoresProjIdeal.nD Cert.SumCoresProjIdeal.τ).loc Cert.SumCoresProjIdeal.main_arg1)) →
    ∃ (v0 : (c : Dev Cert.SumCoresProjIdeal.nD) → Buf (Elt Ideal) ((c.tc : Thread Cert.SumCoresProjIdeal.nD Cert.SumCoresProjIdeal.τ).loc Cert.SumCoresProjIdeal.main_v2)),
      θ_run (Cert.SumCoresProjIdeal.defs (F := Ideal)) (onTc (τ := Cert.SumCoresProjIdeal.τ) (Cert.SumCoresProjIdeal.main (F := Ideal))) ⟨m, fun _ => 0, g⟩ (fun r => ∀ c : Dev Cert.SumCoresProjIdeal.nD,
          r.2.mem ((c.tc : Thread Cert.SumCoresProjIdeal.nD Cert.SumCoresProjIdeal.τ).loc Cert.SumCoresProjIdeal.main_v2) = v0 c
          ∧ r.2.mem ((c.tc : Thread Cert.SumCoresProjIdeal.nD Cert.SumCoresProjIdeal.τ).loc Cert.SumCoresProjIdeal.main_arg0) = m ((c.tc : Thread Cert.SumCoresProjIdeal.nD Cert.SumCoresProjIdeal.τ).loc Cert.SumCoresProjIdeal.main_arg0)
          ∧ r.2.mem ((c.tc : Thread Cert.SumCoresProjIdeal.nD Cert.SumCoresProjIdeal.τ).loc Cert.SumCoresProjIdeal.main_arg1) = m ((c.tc : Thread Cert.SumCoresProjIdeal.nD Cert.SumCoresProjIdeal.τ).loc Cert.SumCoresProjIdeal.main_arg1))
      ∧ θ_run (Cert.SumCoresProjRefIdeal.defs (F := Ideal)) (onTc (τ := Cert.SumCoresProjRefIdeal.τ) (Cert.SumCoresProjRefIdeal.main (F := Ideal))) ⟨m', fun _ => 0, g'⟩ (fun r => ∀ c : Dev Cert.SumCoresProjRefIdeal.nD,
          r.2.mem ((c.tc : Thread Cert.SumCoresProjRefIdeal.nD Cert.SumCoresProjRefIdeal.τ).loc Cert.SumCoresProjRefIdeal.main_v4) = v0 c
          ∧ r.2.mem ((c.tc : Thread Cert.SumCoresProjRefIdeal.nD Cert.SumCoresProjRefIdeal.τ).loc Cert.SumCoresProjRefIdeal.main_arg0) = m' ((c.tc : Thread Cert.SumCoresProjRefIdeal.nD Cert.SumCoresProjRefIdeal.τ).loc Cert.SumCoresProjRefIdeal.main_arg0)
          ∧ r.2.mem ((c.tc : Thread Cert.SumCoresProjRefIdeal.nD Cert.SumCoresProjRefIdeal.τ).loc Cert.SumCoresProjRefIdeal.main_arg1) = m' ((c.tc : Thread Cert.SumCoresProjRefIdeal.nD Cert.SumCoresProjRefIdeal.τ).loc Cert.SumCoresProjRefIdeal.main_arg1))

def preserves_SumChipsProj_SumChipsProjIdeal : Prop :=
  True

def algebraic_SumChipsProjIdeal_SumChipsProjRefIdeal [hSumChipsProjIdeal : Cert.SumChipsProjIdeal.Facts] [hSumChipsProjRefIdeal : Cert.SumChipsProjRefIdeal.Facts] : Prop :=
  ∀ (m : (ℓ : Loc Cert.SumChipsProjIdeal.nD Cert.SumChipsProjIdeal.τ Cert.SumChipsProjIdeal.sig) → Buf (Elt Ideal) ℓ) (g : Dev Cert.SumChipsProjIdeal.nD → PrngReg)
    (m' : (ℓ : Loc Cert.SumChipsProjRefIdeal.nD Cert.SumChipsProjRefIdeal.τ Cert.SumChipsProjRefIdeal.sig) → Buf (Elt Ideal) ℓ) (g' : Dev Cert.SumChipsProjRefIdeal.nD → PrngReg), Pre_SumChipsProjIdeal m →
    (∀ c : Dev Cert.SumChipsProjIdeal.nD,
      m' ((c.tc : Thread Cert.SumChipsProjRefIdeal.nD Cert.SumChipsProjRefIdeal.τ).loc Cert.SumChipsProjRefIdeal.main_arg0) = m ((c.tc : Thread Cert.SumChipsProjIdeal.nD Cert.SumChipsProjIdeal.τ).loc Cert.SumChipsProjIdeal.main_arg0)) →
    ∃ (v0 : (c : Dev Cert.SumChipsProjIdeal.nD) → Buf (Elt Ideal) ((c.tc : Thread Cert.SumChipsProjIdeal.nD Cert.SumChipsProjIdeal.τ).loc Cert.SumChipsProjIdeal.main_v0)),
      θ_run (Cert.SumChipsProjIdeal.defs (F := Ideal)) (onTc (τ := Cert.SumChipsProjIdeal.τ) (Cert.SumChipsProjIdeal.main (F := Ideal))) ⟨m, fun _ => 0, g⟩ (fun r => ∀ c : Dev Cert.SumChipsProjIdeal.nD,
          r.2.mem ((c.tc : Thread Cert.SumChipsProjIdeal.nD Cert.SumChipsProjIdeal.τ).loc Cert.SumChipsProjIdeal.main_v0) = v0 c
          ∧ r.2.mem ((c.tc : Thread Cert.SumChipsProjIdeal.nD Cert.SumChipsProjIdeal.τ).loc Cert.SumChipsProjIdeal.main_arg0) = m ((c.tc : Thread Cert.SumChipsProjIdeal.nD Cert.SumChipsProjIdeal.τ).loc Cert.SumChipsProjIdeal.main_arg0))
      ∧ θ_run (Cert.SumChipsProjRefIdeal.defs (F := Ideal)) (onTc (τ := Cert.SumChipsProjRefIdeal.τ) (Cert.SumChipsProjRefIdeal.main (F := Ideal))) ⟨m', fun _ => 0, g'⟩ (fun r => ∀ c : Dev Cert.SumChipsProjRefIdeal.nD,
          r.2.mem ((c.tc : Thread Cert.SumChipsProjRefIdeal.nD Cert.SumChipsProjRefIdeal.τ).loc Cert.SumChipsProjRefIdeal.main_v1) = v0 c
          ∧ r.2.mem ((c.tc : Thread Cert.SumChipsProjRefIdeal.nD Cert.SumChipsProjRefIdeal.τ).loc Cert.SumChipsProjRefIdeal.main_arg0) = m' ((c.tc : Thread Cert.SumChipsProjRefIdeal.nD Cert.SumChipsProjRefIdeal.τ).loc Cert.SumChipsProjRefIdeal.main_arg0))

def preserves_SumDevices_SumDevicesIdeal : Prop :=
  True

def algebraic_SumDevicesIdeal_SumDevicesRefIdeal [hSumDevicesIdeal : Cert.SumDevicesIdeal.Facts] [hSumDevicesRefIdeal : Cert.SumDevicesRefIdeal.Facts] : Prop :=
  ∀ (m : (ℓ : Loc Cert.SumDevicesIdeal.nD Cert.SumDevicesIdeal.τ Cert.SumDevicesIdeal.sig) → Buf (Elt Ideal) ℓ) (g : Dev Cert.SumDevicesIdeal.nD → PrngReg)
    (m' : (ℓ : Loc Cert.SumDevicesRefIdeal.nD Cert.SumDevicesRefIdeal.τ Cert.SumDevicesRefIdeal.sig) → Buf (Elt Ideal) ℓ) (g' : Dev Cert.SumDevicesRefIdeal.nD → PrngReg), Pre_SumDevicesIdeal m →
    (∀ c : Dev Cert.SumDevicesIdeal.nD,
      m' ((c.tc : Thread Cert.SumDevicesRefIdeal.nD Cert.SumDevicesRefIdeal.τ).loc Cert.SumDevicesRefIdeal.main_arg0) = m ((c.tc : Thread Cert.SumDevicesIdeal.nD Cert.SumDevicesIdeal.τ).loc Cert.SumDevicesIdeal.main_arg0)) →
    ∃ (v0 : (c : Dev Cert.SumDevicesIdeal.nD) → Buf (Elt Ideal) ((c.tc : Thread Cert.SumDevicesIdeal.nD Cert.SumDevicesIdeal.τ).loc Cert.SumDevicesIdeal.main_v0)),
      θ_run (Cert.SumDevicesIdeal.defs (F := Ideal)) (onTc (τ := Cert.SumDevicesIdeal.τ) (Cert.SumDevicesIdeal.main (F := Ideal))) ⟨m, fun _ => 0, g⟩ (fun r => ∀ c : Dev Cert.SumDevicesIdeal.nD,
          r.2.mem ((c.tc : Thread Cert.SumDevicesIdeal.nD Cert.SumDevicesIdeal.τ).loc Cert.SumDevicesIdeal.main_v0) = v0 c
          ∧ r.2.mem ((c.tc : Thread Cert.SumDevicesIdeal.nD Cert.SumDevicesIdeal.τ).loc Cert.SumDevicesIdeal.main_arg0) = m ((c.tc : Thread Cert.SumDevicesIdeal.nD Cert.SumDevicesIdeal.τ).loc Cert.SumDevicesIdeal.main_arg0))
      ∧ θ_run (Cert.SumDevicesRefIdeal.defs (F := Ideal)) (onTc (τ := Cert.SumDevicesRefIdeal.τ) (Cert.SumDevicesRefIdeal.main (F := Ideal))) ⟨m', fun _ => 0, g'⟩ (fun r => ∀ c : Dev Cert.SumDevicesRefIdeal.nD,
          r.2.mem ((c.tc : Thread Cert.SumDevicesRefIdeal.nD Cert.SumDevicesRefIdeal.τ).loc Cert.SumDevicesRefIdeal.main_v0) = v0 c
          ∧ r.2.mem ((c.tc : Thread Cert.SumDevicesRefIdeal.nD Cert.SumDevicesRefIdeal.τ).loc Cert.SumDevicesRefIdeal.main_arg0) = m' ((c.tc : Thread Cert.SumDevicesRefIdeal.nD Cert.SumDevicesRefIdeal.τ).loc Cert.SumDevicesRefIdeal.main_arg0))

def preserves_Assemble_AssembleIdeal : Prop :=
  True

def algebraic_AssembleIdeal_AssembleRefIdeal [hAssembleIdeal : Cert.AssembleIdeal.Facts] [hAssembleRefIdeal : Cert.AssembleRefIdeal.Facts] : Prop :=
  ∀ (m : (ℓ : Loc Cert.AssembleIdeal.nD Cert.AssembleIdeal.τ Cert.AssembleIdeal.sig) → Buf (Elt Ideal) ℓ) (g : Dev Cert.AssembleIdeal.nD → PrngReg)
    (m' : (ℓ : Loc Cert.AssembleRefIdeal.nD Cert.AssembleRefIdeal.τ Cert.AssembleRefIdeal.sig) → Buf (Elt Ideal) ℓ) (g' : Dev Cert.AssembleRefIdeal.nD → PrngReg), Pre_AssembleIdeal m →
    (∀ c : Dev Cert.AssembleIdeal.nD,
      m' ((c.tc : Thread Cert.AssembleRefIdeal.nD Cert.AssembleRefIdeal.τ).loc Cert.AssembleRefIdeal.main_arg0) = m ((c.tc : Thread Cert.AssembleIdeal.nD Cert.AssembleIdeal.τ).loc Cert.AssembleIdeal.main_arg0)
      ∧ m' ((c.tc : Thread Cert.AssembleRefIdeal.nD Cert.AssembleRefIdeal.τ).loc Cert.AssembleRefIdeal.main_arg1) = m ((c.tc : Thread Cert.AssembleIdeal.nD Cert.AssembleIdeal.τ).loc Cert.AssembleIdeal.main_arg1)
      ∧ m' ((c.tc : Thread Cert.AssembleRefIdeal.nD Cert.AssembleRefIdeal.τ).loc Cert.AssembleRefIdeal.main_arg2) = m ((c.tc : Thread Cert.AssembleIdeal.nD Cert.AssembleIdeal.τ).loc Cert.AssembleIdeal.main_arg2)
      ∧ m' ((c.tc : Thread Cert.AssembleRefIdeal.nD Cert.AssembleRefIdeal.τ).loc Cert.AssembleRefIdeal.main_arg3) = m ((c.tc : Thread Cert.AssembleIdeal.nD Cert.AssembleIdeal.τ).loc Cert.AssembleIdeal.main_arg3)
      ∧ m' ((c.tc : Thread Cert.AssembleRefIdeal.nD Cert.AssembleRefIdeal.τ).loc Cert.AssembleRefIdeal.main_arg4) = m ((c.tc : Thread Cert.AssembleIdeal.nD Cert.AssembleIdeal.τ).loc Cert.AssembleIdeal.main_arg4)
      ∧ m' ((c.tc : Thread Cert.AssembleRefIdeal.nD Cert.AssembleRefIdeal.τ).loc Cert.AssembleRefIdeal.main_arg5) = m ((c.tc : Thread Cert.AssembleIdeal.nD Cert.AssembleIdeal.τ).loc Cert.AssembleIdeal.main_arg5)
      ∧ m' ((c.tc : Thread Cert.AssembleRefIdeal.nD Cert.AssembleRefIdeal.τ).loc Cert.AssembleRefIdeal.main_arg6) = m ((c.tc : Thread Cert.AssembleIdeal.nD Cert.AssembleIdeal.τ).loc Cert.AssembleIdeal.main_arg6)
      ∧ m' ((c.tc : Thread Cert.AssembleRefIdeal.nD Cert.AssembleRefIdeal.τ).loc Cert.AssembleRefIdeal.main_arg7) = m ((c.tc : Thread Cert.AssembleIdeal.nD Cert.AssembleIdeal.τ).loc Cert.AssembleIdeal.main_arg7)
      ∧ m' ((c.tc : Thread Cert.AssembleRefIdeal.nD Cert.AssembleRefIdeal.τ).loc Cert.AssembleRefIdeal.main_arg8) = m ((c.tc : Thread Cert.AssembleIdeal.nD Cert.AssembleIdeal.τ).loc Cert.AssembleIdeal.main_arg8)) →
    ∃ (v0 : (c : Dev Cert.AssembleIdeal.nD) → Buf (Elt Ideal) ((c.tc : Thread Cert.AssembleIdeal.nD Cert.AssembleIdeal.τ).loc Cert.AssembleIdeal.main_v2)),
      θ_run (Cert.AssembleIdeal.defs (F := Ideal)) (onTc (τ := Cert.AssembleIdeal.τ) (Cert.AssembleIdeal.main (F := Ideal))) ⟨m, fun _ => 0, g⟩ (fun r => ∀ c : Dev Cert.AssembleIdeal.nD,
          r.2.mem ((c.tc : Thread Cert.AssembleIdeal.nD Cert.AssembleIdeal.τ).loc Cert.AssembleIdeal.main_v2) = v0 c
          ∧ r.2.mem ((c.tc : Thread Cert.AssembleIdeal.nD Cert.AssembleIdeal.τ).loc Cert.AssembleIdeal.main_arg0) = m ((c.tc : Thread Cert.AssembleIdeal.nD Cert.AssembleIdeal.τ).loc Cert.AssembleIdeal.main_arg0)
          ∧ r.2.mem ((c.tc : Thread Cert.AssembleIdeal.nD Cert.AssembleIdeal.τ).loc Cert.AssembleIdeal.main_arg1) = m ((c.tc : Thread Cert.AssembleIdeal.nD Cert.AssembleIdeal.τ).loc Cert.AssembleIdeal.main_arg1)
          ∧ r.2.mem ((c.tc : Thread Cert.AssembleIdeal.nD Cert.AssembleIdeal.τ).loc Cert.AssembleIdeal.main_arg2) = m ((c.tc : Thread Cert.AssembleIdeal.nD Cert.AssembleIdeal.τ).loc Cert.AssembleIdeal.main_arg2)
          ∧ r.2.mem ((c.tc : Thread Cert.AssembleIdeal.nD Cert.AssembleIdeal.τ).loc Cert.AssembleIdeal.main_arg3) = m ((c.tc : Thread Cert.AssembleIdeal.nD Cert.AssembleIdeal.τ).loc Cert.AssembleIdeal.main_arg3)
          ∧ r.2.mem ((c.tc : Thread Cert.AssembleIdeal.nD Cert.AssembleIdeal.τ).loc Cert.AssembleIdeal.main_arg4) = m ((c.tc : Thread Cert.AssembleIdeal.nD Cert.AssembleIdeal.τ).loc Cert.AssembleIdeal.main_arg4)
          ∧ r.2.mem ((c.tc : Thread Cert.AssembleIdeal.nD Cert.AssembleIdeal.τ).loc Cert.AssembleIdeal.main_arg5) = m ((c.tc : Thread Cert.AssembleIdeal.nD Cert.AssembleIdeal.τ).loc Cert.AssembleIdeal.main_arg5)
          ∧ r.2.mem ((c.tc : Thread Cert.AssembleIdeal.nD Cert.AssembleIdeal.τ).loc Cert.AssembleIdeal.main_arg6) = m ((c.tc : Thread Cert.AssembleIdeal.nD Cert.AssembleIdeal.τ).loc Cert.AssembleIdeal.main_arg6)
          ∧ r.2.mem ((c.tc : Thread Cert.AssembleIdeal.nD Cert.AssembleIdeal.τ).loc Cert.AssembleIdeal.main_arg7) = m ((c.tc : Thread Cert.AssembleIdeal.nD Cert.AssembleIdeal.τ).loc Cert.AssembleIdeal.main_arg7)
          ∧ r.2.mem ((c.tc : Thread Cert.AssembleIdeal.nD Cert.AssembleIdeal.τ).loc Cert.AssembleIdeal.main_arg8) = m ((c.tc : Thread Cert.AssembleIdeal.nD Cert.AssembleIdeal.τ).loc Cert.AssembleIdeal.main_arg8))
      ∧ θ_run (Cert.AssembleRefIdeal.defs (F := Ideal)) (onTc (τ := Cert.AssembleRefIdeal.τ) (Cert.AssembleRefIdeal.main (F := Ideal))) ⟨m', fun _ => 0, g'⟩ (fun r => ∀ c : Dev Cert.AssembleRefIdeal.nD,
          r.2.mem ((c.tc : Thread Cert.AssembleRefIdeal.nD Cert.AssembleRefIdeal.τ).loc Cert.AssembleRefIdeal.main_v10) = v0 c
          ∧ r.2.mem ((c.tc : Thread Cert.AssembleRefIdeal.nD Cert.AssembleRefIdeal.τ).loc Cert.AssembleRefIdeal.main_arg0) = m' ((c.tc : Thread Cert.AssembleRefIdeal.nD Cert.AssembleRefIdeal.τ).loc Cert.AssembleRefIdeal.main_arg0)
          ∧ r.2.mem ((c.tc : Thread Cert.AssembleRefIdeal.nD Cert.AssembleRefIdeal.τ).loc Cert.AssembleRefIdeal.main_arg1) = m' ((c.tc : Thread Cert.AssembleRefIdeal.nD Cert.AssembleRefIdeal.τ).loc Cert.AssembleRefIdeal.main_arg1)
          ∧ r.2.mem ((c.tc : Thread Cert.AssembleRefIdeal.nD Cert.AssembleRefIdeal.τ).loc Cert.AssembleRefIdeal.main_arg2) = m' ((c.tc : Thread Cert.AssembleRefIdeal.nD Cert.AssembleRefIdeal.τ).loc Cert.AssembleRefIdeal.main_arg2)
          ∧ r.2.mem ((c.tc : Thread Cert.AssembleRefIdeal.nD Cert.AssembleRefIdeal.τ).loc Cert.AssembleRefIdeal.main_arg3) = m' ((c.tc : Thread Cert.AssembleRefIdeal.nD Cert.AssembleRefIdeal.τ).loc Cert.AssembleRefIdeal.main_arg3)
          ∧ r.2.mem ((c.tc : Thread Cert.AssembleRefIdeal.nD Cert.AssembleRefIdeal.τ).loc Cert.AssembleRefIdeal.main_arg4) = m' ((c.tc : Thread Cert.AssembleRefIdeal.nD Cert.AssembleRefIdeal.τ).loc Cert.AssembleRefIdeal.main_arg4)
          ∧ r.2.mem ((c.tc : Thread Cert.AssembleRefIdeal.nD Cert.AssembleRefIdeal.τ).loc Cert.AssembleRefIdeal.main_arg5) = m' ((c.tc : Thread Cert.AssembleRefIdeal.nD Cert.AssembleRefIdeal.τ).loc Cert.AssembleRefIdeal.main_arg5)
          ∧ r.2.mem ((c.tc : Thread Cert.AssembleRefIdeal.nD Cert.AssembleRefIdeal.τ).loc Cert.AssembleRefIdeal.main_arg6) = m' ((c.tc : Thread Cert.AssembleRefIdeal.nD Cert.AssembleRefIdeal.τ).loc Cert.AssembleRefIdeal.main_arg6)
          ∧ r.2.mem ((c.tc : Thread Cert.AssembleRefIdeal.nD Cert.AssembleRefIdeal.τ).loc Cert.AssembleRefIdeal.main_arg7) = m' ((c.tc : Thread Cert.AssembleRefIdeal.nD Cert.AssembleRefIdeal.τ).loc Cert.AssembleRefIdeal.main_arg7)
          ∧ r.2.mem ((c.tc : Thread Cert.AssembleRefIdeal.nD Cert.AssembleRefIdeal.τ).loc Cert.AssembleRefIdeal.main_arg8) = m' ((c.tc : Thread Cert.AssembleRefIdeal.nD Cert.AssembleRefIdeal.τ).loc Cert.AssembleRefIdeal.main_arg8))

def Claim : Prop :=
  ∃ (hFfnAct : Cert.FfnAct.Facts) (hFfnActIdeal : Cert.FfnActIdeal.Facts) (hFfnActRefIdeal : Cert.FfnActRefIdeal.Facts) (hFfnDwd : Cert.FfnDwd.Facts) (hFfnDwdIdeal : Cert.FfnDwdIdeal.Facts) (hFfnDwdRefIdeal : Cert.FfnDwdRefIdeal.Facts) (hFfnDwg : Cert.FfnDwg.Facts) (hFfnDwgIdeal : Cert.FfnDwgIdeal.Facts) (hFfnDwgRefIdeal : Cert.FfnDwgRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hLnBwd : Cert.LnBwd.Facts) (hLnBwdIdeal : Cert.LnBwdIdeal.Facts) (hLnBwdRefIdeal : Cert.LnBwdRefIdeal.Facts) (hInBwd : Cert.InBwd.Facts) (hInBwdIdeal : Cert.InBwdIdeal.Facts) (hInBwdRefIdeal : Cert.InBwdRefIdeal.Facts) (hInProj : Cert.InProj.Facts) (hInProjIdeal : Cert.InProjIdeal.Facts) (hInProjRefIdeal : Cert.InProjRefIdeal.Facts) (hInDw : Cert.InDw.Facts) (hInDwIdeal : Cert.InDwIdeal.Facts) (hInDwRefIdeal : Cert.InDwRefIdeal.Facts) (hLn1Bwd : Cert.Ln1Bwd.Facts) (hLn1BwdIdeal : Cert.Ln1BwdIdeal.Facts) (hLn1BwdRefIdeal : Cert.Ln1BwdRefIdeal.Facts) (hOutProj : Cert.OutProj.Facts) (hOutProjIdeal : Cert.OutProjIdeal.Facts) (hOutProjRefIdeal : Cert.OutProjRefIdeal.Facts) (hOutDw : Cert.OutDw.Facts) (hOutDwIdeal : Cert.OutDwIdeal.Facts) (hOutDwRefIdeal : Cert.OutDwRefIdeal.Facts) (hMixBwd : Cert.MixBwd.Facts) (hMixBwdIdeal : Cert.MixBwdIdeal.Facts) (hMixBwdRefIdeal : Cert.MixBwdRefIdeal.Facts) (hPle : Cert.Ple.Facts) (hPleIdeal : Cert.PleIdeal.Facts) (hPleRefIdeal : Cert.PleRefIdeal.Facts) (hGateBwd : Cert.GateBwd.Facts) (hGateBwdIdeal : Cert.GateBwdIdeal.Facts) (hGateBwdRefIdeal : Cert.GateBwdRefIdeal.Facts) (hProjDw : Cert.ProjDw.Facts) (hProjDwIdeal : Cert.ProjDwIdeal.Facts) (hProjDwRefIdeal : Cert.ProjDwRefIdeal.Facts) (hLn3Bwd : Cert.Ln3Bwd.Facts) (hLn3BwdIdeal : Cert.Ln3BwdIdeal.Facts) (hLn3BwdRefIdeal : Cert.Ln3BwdRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamProj : Cert.AdamProj.Facts) (hAdamProjIdeal : Cert.AdamProjIdeal.Facts) (hAdamProjRefIdeal : Cert.AdamProjRefIdeal.Facts) (hAdamSmall : Cert.AdamSmall.Facts) (hAdamSmallIdeal : Cert.AdamSmallIdeal.Facts) (hAdamSmallRefIdeal : Cert.AdamSmallRefIdeal.Facts) (hFoxPost : Cert.FoxPost.Facts) (hFoxPostIdeal : Cert.FoxPostIdeal.Facts) (hFoxPostRefIdeal : Cert.FoxPostRefIdeal.Facts) (hFoxDelta : Cert.FoxDelta.Facts) (hFoxDeltaIdeal : Cert.FoxDeltaIdeal.Facts) (hFoxDeltaRefIdeal : Cert.FoxDeltaRefIdeal.Facts) (hLoss : Cert.Loss.Facts) (hLossIdeal : Cert.LossIdeal.Facts) (hLossRefIdeal : Cert.LossRefIdeal.Facts) (hSumCoresUp : Cert.SumCoresUp.Facts) (hSumCoresUpIdeal : Cert.SumCoresUpIdeal.Facts) (hSumCoresUpRefIdeal : Cert.SumCoresUpRefIdeal.Facts) (hSumChipsUp : Cert.SumChipsUp.Facts) (hSumChipsUpIdeal : Cert.SumChipsUpIdeal.Facts) (hSumChipsUpRefIdeal : Cert.SumChipsUpRefIdeal.Facts) (hSumCoresDown : Cert.SumCoresDown.Facts) (hSumCoresDownIdeal : Cert.SumCoresDownIdeal.Facts) (hSumCoresDownRefIdeal : Cert.SumCoresDownRefIdeal.Facts) (hSumChipsDown : Cert.SumChipsDown.Facts) (hSumChipsDownIdeal : Cert.SumChipsDownIdeal.Facts) (hSumChipsDownRefIdeal : Cert.SumChipsDownRefIdeal.Facts) (hSumCoresOut : Cert.SumCoresOut.Facts) (hSumCoresOutIdeal : Cert.SumCoresOutIdeal.Facts) (hSumCoresOutRefIdeal : Cert.SumCoresOutRefIdeal.Facts) (hSumChipsOut : Cert.SumChipsOut.Facts) (hSumChipsOutIdeal : Cert.SumChipsOutIdeal.Facts) (hSumChipsOutRefIdeal : Cert.SumChipsOutRefIdeal.Facts) (hSumCoresProj : Cert.SumCoresProj.Facts) (hSumCoresProjIdeal : Cert.SumCoresProjIdeal.Facts) (hSumCoresProjRefIdeal : Cert.SumCoresProjRefIdeal.Facts) (hSumChipsProj : Cert.SumChipsProj.Facts) (hSumChipsProjIdeal : Cert.SumChipsProjIdeal.Facts) (hSumChipsProjRefIdeal : Cert.SumChipsProjRefIdeal.Facts) (hSumDevices : Cert.SumDevices.Facts) (hSumDevicesIdeal : Cert.SumDevicesIdeal.Facts) (hSumDevicesRefIdeal : Cert.SumDevicesRefIdeal.Facts) (hAssemble : Cert.Assemble.Facts) (hAssembleIdeal : Cert.AssembleIdeal.Facts) (hAssembleRefIdeal : Cert.AssembleRefIdeal.Facts) (hPre_ffn_act_finite : Cert.Pre_ffn_act_finite.Facts) (hPre_ln_bwd_finite : Cert.Pre_ln_bwd_finite.Facts) (hPre_ln1_bwd_finite : Cert.Pre_ln1_bwd_finite.Facts) (hPre_ln3_bwd_finite : Cert.Pre_ln3_bwd_finite.Facts),
    quiescent_FfnAct (hFfnAct := hFfnAct)
    ∧ quiescent_FfnActIdeal (hFfnActIdeal := hFfnActIdeal)
    ∧ quiescent_FfnActIdeal_pre_ffn_act_finite (hFfnActIdeal := hFfnActIdeal) (hPre_ffn_act_finite := hPre_ffn_act_finite)
    ∧ quiescent_FfnActRefIdeal (hFfnActRefIdeal := hFfnActRefIdeal)
    ∧ quiescent_FfnActRefIdeal_pre_ffn_act_finite (hFfnActRefIdeal := hFfnActRefIdeal) (hPre_ffn_act_finite := hPre_ffn_act_finite)
    ∧ quiescent_FfnDwd (hFfnDwd := hFfnDwd)
    ∧ quiescent_FfnDwdIdeal (hFfnDwdIdeal := hFfnDwdIdeal)
    ∧ quiescent_FfnDwdRefIdeal (hFfnDwdRefIdeal := hFfnDwdRefIdeal)
    ∧ quiescent_FfnDwg (hFfnDwg := hFfnDwg)
    ∧ quiescent_FfnDwgIdeal (hFfnDwgIdeal := hFfnDwgIdeal)
    ∧ quiescent_FfnDwgRefIdeal (hFfnDwgRefIdeal := hFfnDwgRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_LnBwd (hLnBwd := hLnBwd)
    ∧ quiescent_LnBwdIdeal (hLnBwdIdeal := hLnBwdIdeal)
    ∧ quiescent_LnBwdIdeal_pre_ln_bwd_finite (hLnBwdIdeal := hLnBwdIdeal) (hPre_ln_bwd_finite := hPre_ln_bwd_finite)
    ∧ quiescent_LnBwdRefIdeal (hLnBwdRefIdeal := hLnBwdRefIdeal)
    ∧ quiescent_LnBwdRefIdeal_pre_ln_bwd_finite (hLnBwdRefIdeal := hLnBwdRefIdeal) (hPre_ln_bwd_finite := hPre_ln_bwd_finite)
    ∧ quiescent_InBwd (hInBwd := hInBwd)
    ∧ quiescent_InBwdIdeal (hInBwdIdeal := hInBwdIdeal)
    ∧ quiescent_InBwdRefIdeal (hInBwdRefIdeal := hInBwdRefIdeal)
    ∧ quiescent_InProj (hInProj := hInProj)
    ∧ quiescent_InProjIdeal (hInProjIdeal := hInProjIdeal)
    ∧ quiescent_InProjRefIdeal (hInProjRefIdeal := hInProjRefIdeal)
    ∧ quiescent_InDw (hInDw := hInDw)
    ∧ quiescent_InDwIdeal (hInDwIdeal := hInDwIdeal)
    ∧ quiescent_InDwRefIdeal (hInDwRefIdeal := hInDwRefIdeal)
    ∧ quiescent_Ln1Bwd (hLn1Bwd := hLn1Bwd)
    ∧ quiescent_Ln1BwdIdeal (hLn1BwdIdeal := hLn1BwdIdeal)
    ∧ quiescent_Ln1BwdIdeal_pre_ln1_bwd_finite (hLn1BwdIdeal := hLn1BwdIdeal) (hPre_ln1_bwd_finite := hPre_ln1_bwd_finite)
    ∧ quiescent_Ln1BwdRefIdeal (hLn1BwdRefIdeal := hLn1BwdRefIdeal)
    ∧ quiescent_Ln1BwdRefIdeal_pre_ln1_bwd_finite (hLn1BwdRefIdeal := hLn1BwdRefIdeal) (hPre_ln1_bwd_finite := hPre_ln1_bwd_finite)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_MixBwd (hMixBwd := hMixBwd)
    ∧ quiescent_MixBwdIdeal (hMixBwdIdeal := hMixBwdIdeal)
    ∧ quiescent_MixBwdRefIdeal (hMixBwdRefIdeal := hMixBwdRefIdeal)
    ∧ quiescent_Ple (hPle := hPle)
    ∧ quiescent_PleIdeal (hPleIdeal := hPleIdeal)
    ∧ quiescent_PleRefIdeal (hPleRefIdeal := hPleRefIdeal)
    ∧ quiescent_GateBwd (hGateBwd := hGateBwd)
    ∧ quiescent_GateBwdIdeal (hGateBwdIdeal := hGateBwdIdeal)
    ∧ quiescent_GateBwdRefIdeal (hGateBwdRefIdeal := hGateBwdRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_Ln3Bwd (hLn3Bwd := hLn3Bwd)
    ∧ quiescent_Ln3BwdIdeal (hLn3BwdIdeal := hLn3BwdIdeal)
    ∧ quiescent_Ln3BwdIdeal_pre_ln3_bwd_finite (hLn3BwdIdeal := hLn3BwdIdeal) (hPre_ln3_bwd_finite := hPre_ln3_bwd_finite)
    ∧ quiescent_Ln3BwdRefIdeal (hLn3BwdRefIdeal := hLn3BwdRefIdeal)
    ∧ quiescent_Ln3BwdRefIdeal_pre_ln3_bwd_finite (hLn3BwdRefIdeal := hLn3BwdRefIdeal) (hPre_ln3_bwd_finite := hPre_ln3_bwd_finite)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamProj (hAdamProj := hAdamProj)
    ∧ quiescent_AdamProjIdeal (hAdamProjIdeal := hAdamProjIdeal)
    ∧ quiescent_AdamProjRefIdeal (hAdamProjRefIdeal := hAdamProjRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_FoxPost (hFoxPost := hFoxPost)
    ∧ quiescent_FoxPostIdeal (hFoxPostIdeal := hFoxPostIdeal)
    ∧ quiescent_FoxPostRefIdeal (hFoxPostRefIdeal := hFoxPostRefIdeal)
    ∧ quiescent_FoxDelta (hFoxDelta := hFoxDelta)
    ∧ quiescent_FoxDeltaIdeal (hFoxDeltaIdeal := hFoxDeltaIdeal)
    ∧ quiescent_FoxDeltaRefIdeal (hFoxDeltaRefIdeal := hFoxDeltaRefIdeal)
    ∧ quiescent_Loss (hLoss := hLoss)
    ∧ quiescent_LossIdeal (hLossIdeal := hLossIdeal)
    ∧ quiescent_LossRefIdeal (hLossRefIdeal := hLossRefIdeal)
    ∧ quiescent_SumCoresUp (hSumCoresUp := hSumCoresUp)
    ∧ quiescent_SumCoresUpIdeal (hSumCoresUpIdeal := hSumCoresUpIdeal)
    ∧ quiescent_SumCoresUpRefIdeal (hSumCoresUpRefIdeal := hSumCoresUpRefIdeal)
    ∧ quiescent_SumChipsUp (hSumChipsUp := hSumChipsUp)
    ∧ quiescent_SumChipsUpIdeal (hSumChipsUpIdeal := hSumChipsUpIdeal)
    ∧ quiescent_SumChipsUpRefIdeal (hSumChipsUpRefIdeal := hSumChipsUpRefIdeal)
    ∧ quiescent_SumCoresDown (hSumCoresDown := hSumCoresDown)
    ∧ quiescent_SumCoresDownIdeal (hSumCoresDownIdeal := hSumCoresDownIdeal)
    ∧ quiescent_SumCoresDownRefIdeal (hSumCoresDownRefIdeal := hSumCoresDownRefIdeal)
    ∧ quiescent_SumChipsDown (hSumChipsDown := hSumChipsDown)
    ∧ quiescent_SumChipsDownIdeal (hSumChipsDownIdeal := hSumChipsDownIdeal)
    ∧ quiescent_SumChipsDownRefIdeal (hSumChipsDownRefIdeal := hSumChipsDownRefIdeal)
    ∧ quiescent_SumCoresOut (hSumCoresOut := hSumCoresOut)
    ∧ quiescent_SumCoresOutIdeal (hSumCoresOutIdeal := hSumCoresOutIdeal)
    ∧ quiescent_SumCoresOutRefIdeal (hSumCoresOutRefIdeal := hSumCoresOutRefIdeal)
    ∧ quiescent_SumChipsOut (hSumChipsOut := hSumChipsOut)
    ∧ quiescent_SumChipsOutIdeal (hSumChipsOutIdeal := hSumChipsOutIdeal)
    ∧ quiescent_SumChipsOutRefIdeal (hSumChipsOutRefIdeal := hSumChipsOutRefIdeal)
    ∧ quiescent_SumCoresProj (hSumCoresProj := hSumCoresProj)
    ∧ quiescent_SumCoresProjIdeal (hSumCoresProjIdeal := hSumCoresProjIdeal)
    ∧ quiescent_SumCoresProjRefIdeal (hSumCoresProjRefIdeal := hSumCoresProjRefIdeal)
    ∧ quiescent_SumChipsProj (hSumChipsProj := hSumChipsProj)
    ∧ quiescent_SumChipsProjIdeal (hSumChipsProjIdeal := hSumChipsProjIdeal)
    ∧ quiescent_SumChipsProjRefIdeal (hSumChipsProjRefIdeal := hSumChipsProjRefIdeal)
    ∧ quiescent_SumDevices (hSumDevices := hSumDevices)
    ∧ quiescent_SumDevicesIdeal (hSumDevicesIdeal := hSumDevicesIdeal)
    ∧ quiescent_SumDevicesRefIdeal (hSumDevicesRefIdeal := hSumDevicesRefIdeal)
    ∧ quiescent_Assemble (hAssemble := hAssemble)
    ∧ quiescent_AssembleIdeal (hAssembleIdeal := hAssembleIdeal)
    ∧ quiescent_AssembleRefIdeal (hAssembleRefIdeal := hAssembleRefIdeal)
    ∧ preserves_FfnAct_FfnActIdeal
    ∧ algebraic_FfnActIdeal_FfnActRefIdeal_pre_ffn_act_finite (hFfnActIdeal := hFfnActIdeal) (hFfnActRefIdeal := hFfnActRefIdeal) (hPre_ffn_act_finite := hPre_ffn_act_finite)
    ∧ preserves_FfnDwd_FfnDwdIdeal
    ∧ algebraic_FfnDwdIdeal_FfnDwdRefIdeal (hFfnDwdIdeal := hFfnDwdIdeal) (hFfnDwdRefIdeal := hFfnDwdRefIdeal)
    ∧ preserves_FfnDwg_FfnDwgIdeal
    ∧ algebraic_FfnDwgIdeal_FfnDwgRefIdeal (hFfnDwgIdeal := hFfnDwgIdeal) (hFfnDwgRefIdeal := hFfnDwgRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_LnBwd_LnBwdIdeal
    ∧ algebraic_LnBwdIdeal_LnBwdRefIdeal_pre_ln_bwd_finite (hLnBwdIdeal := hLnBwdIdeal) (hLnBwdRefIdeal := hLnBwdRefIdeal) (hPre_ln_bwd_finite := hPre_ln_bwd_finite)
    ∧ preserves_InBwd_InBwdIdeal
    ∧ algebraic_InBwdIdeal_InBwdRefIdeal (hInBwdIdeal := hInBwdIdeal) (hInBwdRefIdeal := hInBwdRefIdeal)
    ∧ preserves_InProj_InProjIdeal
    ∧ algebraic_InProjIdeal_InProjRefIdeal (hInProjIdeal := hInProjIdeal) (hInProjRefIdeal := hInProjRefIdeal)
    ∧ preserves_InDw_InDwIdeal
    ∧ algebraic_InDwIdeal_InDwRefIdeal (hInDwIdeal := hInDwIdeal) (hInDwRefIdeal := hInDwRefIdeal)
    ∧ preserves_Ln1Bwd_Ln1BwdIdeal
    ∧ algebraic_Ln1BwdIdeal_Ln1BwdRefIdeal_pre_ln1_bwd_finite (hLn1BwdIdeal := hLn1BwdIdeal) (hLn1BwdRefIdeal := hLn1BwdRefIdeal) (hPre_ln1_bwd_finite := hPre_ln1_bwd_finite)
    ∧ preserves_OutProj_OutProjIdeal
    ∧ algebraic_OutProjIdeal_OutProjRefIdeal (hOutProjIdeal := hOutProjIdeal) (hOutProjRefIdeal := hOutProjRefIdeal)
    ∧ preserves_OutDw_OutDwIdeal
    ∧ algebraic_OutDwIdeal_OutDwRefIdeal (hOutDwIdeal := hOutDwIdeal) (hOutDwRefIdeal := hOutDwRefIdeal)
    ∧ preserves_MixBwd_MixBwdIdeal
    ∧ algebraic_MixBwdIdeal_MixBwdRefIdeal (hMixBwdIdeal := hMixBwdIdeal) (hMixBwdRefIdeal := hMixBwdRefIdeal)
    ∧ preserves_Ple_PleIdeal
    ∧ algebraic_PleIdeal_PleRefIdeal (hPleIdeal := hPleIdeal) (hPleRefIdeal := hPleRefIdeal)
    ∧ preserves_GateBwd_GateBwdIdeal
    ∧ algebraic_GateBwdIdeal_GateBwdRefIdeal (hGateBwdIdeal := hGateBwdIdeal) (hGateBwdRefIdeal := hGateBwdRefIdeal)
    ∧ preserves_ProjDw_ProjDwIdeal
    ∧ algebraic_ProjDwIdeal_ProjDwRefIdeal (hProjDwIdeal := hProjDwIdeal) (hProjDwRefIdeal := hProjDwRefIdeal)
    ∧ preserves_Ln3Bwd_Ln3BwdIdeal
    ∧ algebraic_Ln3BwdIdeal_Ln3BwdRefIdeal_pre_ln3_bwd_finite (hLn3BwdIdeal := hLn3BwdIdeal) (hLn3BwdRefIdeal := hLn3BwdRefIdeal) (hPre_ln3_bwd_finite := hPre_ln3_bwd_finite)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamProj_AdamProjIdeal
    ∧ algebraic_AdamProjIdeal_AdamProjRefIdeal (hAdamProjIdeal := hAdamProjIdeal) (hAdamProjRefIdeal := hAdamProjRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_FoxPost_FoxPostIdeal
    ∧ algebraic_FoxPostIdeal_FoxPostRefIdeal (hFoxPostIdeal := hFoxPostIdeal) (hFoxPostRefIdeal := hFoxPostRefIdeal)
    ∧ preserves_FoxDelta_FoxDeltaIdeal
    ∧ algebraic_FoxDeltaIdeal_FoxDeltaRefIdeal (hFoxDeltaIdeal := hFoxDeltaIdeal) (hFoxDeltaRefIdeal := hFoxDeltaRefIdeal)
    ∧ preserves_Loss_LossIdeal
    ∧ algebraic_LossIdeal_LossRefIdeal (hLossIdeal := hLossIdeal) (hLossRefIdeal := hLossRefIdeal)
    ∧ preserves_SumCoresUp_SumCoresUpIdeal
    ∧ algebraic_SumCoresUpIdeal_SumCoresUpRefIdeal (hSumCoresUpIdeal := hSumCoresUpIdeal) (hSumCoresUpRefIdeal := hSumCoresUpRefIdeal)
    ∧ preserves_SumChipsUp_SumChipsUpIdeal
    ∧ algebraic_SumChipsUpIdeal_SumChipsUpRefIdeal (hSumChipsUpIdeal := hSumChipsUpIdeal) (hSumChipsUpRefIdeal := hSumChipsUpRefIdeal)
    ∧ preserves_SumCoresDown_SumCoresDownIdeal
    ∧ algebraic_SumCoresDownIdeal_SumCoresDownRefIdeal (hSumCoresDownIdeal := hSumCoresDownIdeal) (hSumCoresDownRefIdeal := hSumCoresDownRefIdeal)
    ∧ preserves_SumChipsDown_SumChipsDownIdeal
    ∧ algebraic_SumChipsDownIdeal_SumChipsDownRefIdeal (hSumChipsDownIdeal := hSumChipsDownIdeal) (hSumChipsDownRefIdeal := hSumChipsDownRefIdeal)
    ∧ preserves_SumCoresOut_SumCoresOutIdeal
    ∧ algebraic_SumCoresOutIdeal_SumCoresOutRefIdeal (hSumCoresOutIdeal := hSumCoresOutIdeal) (hSumCoresOutRefIdeal := hSumCoresOutRefIdeal)
    ∧ preserves_SumChipsOut_SumChipsOutIdeal
    ∧ algebraic_SumChipsOutIdeal_SumChipsOutRefIdeal (hSumChipsOutIdeal := hSumChipsOutIdeal) (hSumChipsOutRefIdeal := hSumChipsOutRefIdeal)
    ∧ preserves_SumCoresProj_SumCoresProjIdeal
    ∧ algebraic_SumCoresProjIdeal_SumCoresProjRefIdeal (hSumCoresProjIdeal := hSumCoresProjIdeal) (hSumCoresProjRefIdeal := hSumCoresProjRefIdeal)
    ∧ preserves_SumChipsProj_SumChipsProjIdeal
    ∧ algebraic_SumChipsProjIdeal_SumChipsProjRefIdeal (hSumChipsProjIdeal := hSumChipsProjIdeal) (hSumChipsProjRefIdeal := hSumChipsProjRefIdeal)
    ∧ preserves_SumDevices_SumDevicesIdeal
    ∧ algebraic_SumDevicesIdeal_SumDevicesRefIdeal (hSumDevicesIdeal := hSumDevicesIdeal) (hSumDevicesRefIdeal := hSumDevicesRefIdeal)
    ∧ preserves_Assemble_AssembleIdeal
    ∧ algebraic_AssembleIdeal_AssembleRefIdeal (hAssembleIdeal := hAssembleIdeal) (hAssembleRefIdeal := hAssembleRefIdeal)
-- ==== Pre_ffn_act_finite.lean ====
abbrev S8192x1024 : Shape := ⟨2, ![8192, 1024]⟩
abbrev S3072x1024 : Shape := ⟨2, ![3072, 1024]⟩
abbrev S8192x3072 : Shape := ⟨2, ![8192, 3072]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S3072x1024 : S_.BroadcastsInDim S3072x1024 (![] : Fin 0 → Fin S3072x1024.rank)
  bcast_S_S8192x3072 : S_.BroadcastsInDim S8192x3072 (![] : Fin 0 → Fin S8192x3072.rank)

variable [Facts]

def fn {F : FTy → Type} [FloatOps F] (main_arg0 : FVec F S8192x1024 .bf16) (main_arg1 : FVec F S3072x1024 .bf16) (main_arg2 : FVec F S8192x3072 .bf16) (main_arg3 : FVec F S8192x3072 .bf16) : IVec S8192x1024 1 × IVec S3072x1024 1 × IVec S8192x3072 1 × IVec S8192x3072 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S3072x1024 .f32 := (extf .f32 · bitsLt_bf16_f32) main_arg1
  let main_v5 : FVec F S3072x1024 .f32 := Host.absf main_v4
  let main_cst_0 : FVec F S_ .f32 := constant S_ .f32 0x7F800000#32
  let main_v6 : FVec F S3072x1024 .f32 := broadcastInDim S3072x1024 ![] bcast_S_S3072x1024 main_cst_0
  let main_v7 : IVec S3072x1024 1 := cmpf .olt main_v5 main_v6
  let main_v8 : FVec F S8192x3072 .f32 := (extf .f32 · bitsLt_bf16_f32) main_arg2
  let main_v9 : FVec F S8192x3072 .f32 := Host.absf main_v8
  let main_cst_1 : FVec F S_ .f32 := constant S_ .f32 0x7F800000#32
  let main_v10 : FVec F S8192x3072 .f32 := broadcastInDim S8192x3072 ![] bcast_S_S8192x3072 main_cst_1
  let main_v11 : IVec S8192x3072 1 := cmpf .olt main_v9 main_v10
  let main_v12 : FVec F S8192x3072 .f32 := (extf .f32 · bitsLt_bf16_f32) main_arg3
  let main_v13 : FVec F S8192x3072 .f32 := Host.absf main_v12
  let main_cst_2 : FVec F S_ .f32 := constant S_ .f32 0x7F800000#32
  let main_v14 : FVec F S8192x3072 .f32 := broadcastInDim S8192x3072 ![] bcast_S_S8192x3072 main_cst_2
  let main_v15 : IVec S8192x3072 1 := cmpf .olt main_v13 main_v14
  (main_v3, main_v7, main_v11, main_v15)
-- ==== Pre_ln1_bwd_finite.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bitsLt_bf16_f32 : FTy.bits .bf16 < FTy.bits .f32
  bcast_S_S1024x3072 : S_.BroadcastsInDim S1024x3072 (![] : Fin 0 → Fin S1024x3072.rank)
  bcast_S_S8192x3072 : S_.BroadcastsInDim S8192x3072 (![] : Fin 0 → Fin S8192x3072.rank)

variable [Facts]

def fn {F : FTy → Type} [FloatOps F] (main_arg0 : FVec F S8192x1024 .f32) (main_arg1 : FVec F S1024 .f32) (main_arg2 : FVec F S1024 .f32) (main_arg3 : FVec F S1024x3072 .bf16) (main_arg4 : FVec F S8192x1024 .f32) (main_arg5 : FVec F S8192x3072 .bf16) : IVec S8192x1024 1 × IVec S1024 1 × IVec S1024x3072 1 × IVec S8192x1024 1 × IVec S8192x3072 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x3072 .f32 := (extf .f32 · bitsLt_bf16_f32) main_arg3
  let main_v7 : FVec F S1024x3072 .f32 := Host.absf main_v6
  let main_cst_1 : FVec F S_ .f32 := constant S_ .f32 0x7F800000#32
  let main_v8 : FVec F S1024x3072 .f32 := broadcastInDim S1024x3072 ![] bcast_S_S1024x3072 main_cst_1
  let main_v9 : IVec S1024x3072 1 := cmpf .olt main_v7 main_v8
  let main_v10 : FVec F S8192x1024 .f32 := Host.absf main_arg4
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_v13 : FVec F S8192x3072 .f32 := (extf .f32 · bitsLt_bf16_f32) main_arg5
  let main_v14 : FVec F S8192x3072 .f32 := Host.absf main_v13
  let main_cst_3 : FVec F S_ .f32 := constant S_ .f32 0x7F800000#32
  let main_v15 : FVec F S8192x3072 .f32 := broadcastInDim S8192x3072 ![] bcast_S_S8192x3072 main_cst_3
  let main_v16 : IVec S8192x3072 1 := cmpf .olt main_v14 main_v15
  (main_v2, main_v5, main_v9, main_v12, main_v16)
-- ==== Pre_ln3_bwd_finite.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bitsLt_bf16_f32 : FTy.bits .bf16 < FTy.bits .f32
  bcast_S_S1024x1024 : S_.BroadcastsInDim S1024x1024 (![] : Fin 0 → Fin S1024x1024.rank)

variable [Facts]

def fn {F : FTy → Type} [FloatOps F] (main_arg0 : FVec F S8192x1024 .f32) (main_arg1 : FVec F S1024 .f32) (main_arg2 : FVec F S1024 .f32) (main_arg3 : FVec F S1024x1024 .bf16) (main_arg4 : FVec F S8192x1024 .f32) (main_arg5 : FVec F S8192x1024 .bf16) : IVec S8192x1024 1 × IVec S1024 1 × IVec S1024x1024 1 × IVec S8192x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1024 .f32 := (extf .f32 · bitsLt_bf16_f32) main_arg3
  let main_v7 : FVec F S1024x1024 .f32 := Host.absf main_v6
  let main_cst_1 : FVec F S_ .f32 := constant S_ .f32 0x7F800000#32
  let main_v8 : FVec F S1024x1024 .f32 := broadcastInDim S1024x1024 ![] bcast_S_S1024x1024 main_cst_1
  let main_v9 : IVec S1024x1024 1 := cmpf .olt main_v7 main_v8
  let main_v10 : FVec F S8192x1024 .f32 := Host.absf main_arg4
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_v13 : FVec F S8192x1024 .f32 := (extf .f32 · bitsLt_bf16_f32) main_arg5
  let main_v14 : FVec F S8192x1024 .f32 := Host.absf main_v13
  let main_cst_3 : FVec F S_ .f32 := constant S_ .f32 0x7F800000#32
  let main_v15 : FVec F S8192x1024 .f32 := broadcastInDim S8192x1024 ![] bcast_S_S8192x1024 main_cst_3
  let main_v16 : IVec S8192x1024 1 := cmpf .olt main_v14 main_v15
  (main_v2, main_v5, main_v9, main_v12, main_v16)
-- ==== Pre_ln_bwd_finite.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bitsLt_bf16_f32 : FTy.bits .bf16 < FTy.bits .f32
  bcast_S_S1024x3072 : S_.BroadcastsInDim S1024x3072 (![] : Fin 0 → Fin S1024x3072.rank)
  bcast_S_S8192x3072 : S_.BroadcastsInDim S8192x3072 (![] : Fin 0 → Fin S8192x3072.rank)

variable [Facts]

def fn_part1 {F : FTy → Type} [FloatOps F] (main_arg7 : FVec F S8192x3072 .bf16) (main_v2 : IVec S8192x1024 1) (main_v5 : IVec S1024 1) (main_v9 : IVec S1024x3072 1) (main_v13 : IVec S1024x3072 1) (main_v16 : IVec S8192x1024 1) (main_v18 : FVec F S8192x3072 .f32) : IVec S8192x1024 1 × IVec S1024 1 × IVec S1024x3072 1 × IVec S1024x3072 1 × IVec S8192x1024 1 × IVec S8192x3072 1 × IVec S8192x3072 1 :=
  let main_cst_4 : FVec F S_ .f32 := constant S_ .f32 0x7F800000#32
  let main_v19 : FVec F S8192x3072 .f32 := broadcastInDim S8192x3072 ![] bcast_S_S8192x3072 main_cst_4
  let main_v20 : IVec S8192x3072 1 := cmpf .olt main_v18 main_v19
  let main_v21 : FVec F S8192x3072 .f32 := (extf .f32 · bitsLt_bf16_f32) main_arg7
  let main_v22 : FVec F S8192x3072 .f32 := Host.absf main_v21
  let main_cst_5 : FVec F S_ .f32 := constant S_ .f32 0x7F800000#32
  let main_v23 : FVec F S8192x3072 .f32 := broadcastInDim S8192x3072 ![] bcast_S_S8192x3072 main_cst_5
  let main_v24 : IVec S8192x3072 1 := cmpf .olt main_v22 main_v23
  (main_v2, main_v5, main_v9, main_v13, main_v16, main_v20, main_v24)

def fn {F : FTy → Type} [FloatOps F] (main_arg0 : FVec F S8192x1024 .f32) (main_arg1 : FVec F S1024 .f32) (main_arg2 : FVec F S1024 .f32) (main_arg3 : FVec F S1024x3072 .bf16) (main_arg4 : FVec F S1024x3072 .bf16) (main_arg5 : FVec F S8192x1024 .f32) (main_arg6 : FVec F S8192x3072 .bf16) (main_arg7 : FVec F S8192x3072 .bf16) : IVec S8192x1024 1 × IVec S1024 1 × IVec S1024x3072 1 × IVec S1024x3072 1 × IVec S8192x1024 1 × IVec S8192x3072 1 × IVec S8192x3072 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x3072 .f32 := (extf .f32 · bitsLt_bf16_f32) main_arg3
  let main_v7 : FVec F S1024x3072 .f32 := Host.absf main_v6
  let main_cst_1 : FVec F S_ .f32 := constant S_ .f32 0x7F800000#32
  let main_v8 : FVec F S1024x3072 .f32 := broadcastInDim S1024x3072 ![] bcast_S_S1024x3072 main_cst_1
  let main_v9 : IVec S1024x3072 1 := cmpf .olt main_v7 main_v8
  let main_v10 : FVec F S1024x3072 .f32 := (extf .f32 · bitsLt_bf16_f32) main_arg4
  let main_v11 : FVec F S1024x3072 .f32 := Host.absf main_v10
  let main_cst_2 : FVec F S_ .f32 := constant S_ .f32 0x7F800000#32
  let main_v12 : FVec F S1024x3072 .f32 := broadcastInDim S1024x3072 ![] bcast_S_S1024x3072 main_cst_2
  let main_v13 : IVec S1024x3072 1 := cmpf .olt main_v11 main_v12
  let main_v14 : FVec F S8192x1024 .f32 := Host.absf main_arg5
  let main_cst_3 : FVec F S_ .f32 := constant S_ .f32 0x7F800000#32
  let main_v15 : FVec F S8192x1024 .f32 := broadcastInDim S8192x1024 ![] bcast_S_S8192x1024 main_cst_3
  let main_v16 : IVec S8192x1024 1 := cmpf .olt main_v14 main_v15
  let main_v17 : FVec F S8192x3072 .f32 := (extf .f32 · bitsLt_bf16_f32) main_arg6
  let main_v18 : FVec F S8192x3072 .f32 := Host.absf main_v17
  fn_part1 (F := F) main_arg7 main_v2 main_v5 main_v9 main_v13 main_v16 main_v18
-- ==== FfnAct.lean ====
abbrev S8192x1024 : Shape := ⟨2, ![8192, 1024]⟩
abbrev S3072x1024 : Shape := ⟨2, ![3072, 1024]⟩
abbrev S8192x3072 : Shape := ⟨2, ![8192, 3072]⟩
abbrev S768x1024 : Shape := ⟨2, ![768, 1024]⟩
abbrev S512x768 : Shape := ⟨2, ![512, 768]⟩
abbrev S512x1024 : Shape := ⟨2, ![512, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S8192x3072, .bf16⟩
  | .hbm, ⟨3, _⟩ => ⟨S8192x3072, .bf16⟩
  | .hbm, ⟨4, _⟩ => ⟨S8192x3072, .bf16⟩
  | .hbm, ⟨5, _⟩ => ⟨S8192x3072, .bf16⟩
  | .local _ .vmem, ⟨0, _⟩ => ⟨S8192x1024, .bf16⟩
  | .local _ .vmem, ⟨1, _⟩ => ⟨S768x1024, .bf16⟩
  | .local _ .vmem, ⟨2, _⟩ => ⟨S768x1024, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S512x768, .bf16⟩
  | .local _ .vmem, ⟨7, _⟩ => ⟨S512x768, .bf16⟩
  | .local _ .vmem, ⟨8, _⟩ => ⟨S512x768, .bf16⟩
  | .local _ .vmem, ⟨9, _⟩ => ⟨S512x768, .bf16⟩
  | .local _ .vmem, ⟨10, _⟩ => ⟨S512x768, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnActRefIdeal.lean ====
abbrev S8192x1024 : Shape := ⟨2, ![8192, 1024]⟩
abbrev S3072x1024 : Shape := ⟨2, ![3072, 1024]⟩
abbrev S8192x3072 : Shape := ⟨2, ![8192, 3072]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S8192x3072, .bf16⟩
  | .hbm, ⟨3, _⟩ => ⟨S8192x3072, .bf16⟩
  | .hbm, ⟨4, _⟩ => ⟨S8192x1024, .f32⟩
  | .hbm, ⟨5, _⟩ => ⟨S3072x1024, .f32⟩
  | .hbm, ⟨6, _⟩ => ⟨S8192x3072, .f32⟩
  | .hbm, ⟨7, _⟩ => ⟨S8192x3072, .f32⟩
  | .hbm, ⟨8, _⟩ => ⟨S8192x3072, .f32⟩
  | .hbm, ⟨9, _⟩ => ⟨S8192x3072, .f32⟩
  | .hbm, ⟨10, _⟩ => ⟨S_, .f32⟩
  | .hbm, ⟨11, _⟩ => ⟨S8192x3072, .f32⟩
  | .hbm, ⟨12, _⟩ => ⟨S8192x3072, .f32⟩
  | .hbm, ⟨13, _⟩ => ⟨S_, .f32⟩
  | .hbm, ⟨14, _⟩ => ⟨S8192x3072, .f32⟩
  | .hbm, ⟨15, _⟩ => ⟨S8192x3072, .f32⟩
  | .hbm, ⟨16, _⟩ => ⟨S_, .f32⟩
  | .hbm, ⟨17, _⟩ => ⟨S8192x3072, .f32⟩
  | .hbm, ⟨18, _⟩ => ⟨S8192x3072, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x3072, .f32⟩
  | .hbm, ⟨30, _⟩ => ⟨S8192x3072, .f32⟩
  | .hbm, ⟨31, _⟩ => ⟨S8192x3072, .f32⟩
  | .hbm, ⟨32, _⟩ => ⟨S8192x3072, .f32⟩
  | .hbm, ⟨33, _⟩ => ⟨S8192x3072, .f32⟩
  | .hbm, ⟨34, _⟩ => ⟨S8192x3072, .f32⟩
  | .hbm, ⟨35, _⟩ => ⟨S8192x3072, .f32⟩
  | .hbm, ⟨36, _⟩ => ⟨S8192x3072, .bf16⟩
  | .hbm, ⟨37, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩

abbrev nD : Nat := 1
abbrev τ : Topo := Topo.v7x

variable {F : FTy → Type} [FloatOps F]
-- ==== FfnDwd.lean ====
abbrev S8192x3072 : Shape := ⟨2, ![8192, 3072]⟩
abbrev S8192x1024 : Shape := ⟨2, ![8192, 1024]⟩
abbrev S3072x1024 : Shape := ⟨2, ![3072, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3072x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwdRefIdeal.lean ====
abbrev S8192x3072 : Shape := ⟨2, ![8192, 3072]⟩
abbrev S8192x1024 : Shape := ⟨2, ![8192, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 16
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x3072, .f32⟩
  | .hbm, ⟨3, _⟩ => ⟨S8192x1024, .f32⟩
  | .hbm, ⟨4, _⟩ => ⟨S_, .f32⟩
  | .hbm, ⟨5, _⟩ => ⟨S3072x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S1024x3072, .f32⟩
  | .hbm, ⟨14, _⟩ => ⟨S3072x1024, .f32⟩
  | .hbm, ⟨15, _⟩ => ⟨S3072x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== FfnDwg.lean ====
abbrev S8192x1024 : Shape := ⟨2, ![8192, 1024]⟩
abbrev S8192x3072 : Shape := ⟨2, ![8192, 3072]⟩
abbrev S4x1024x768 : Shape := ⟨3, ![4, 1024, 768]⟩
abbrev S1024x1024 : Shape := ⟨2, ![1024, 1024]⟩
abbrev S1024x3072 : Shape := ⟨2, ![1024, 3072]⟩
abbrev S1024x768 : Shape := ⟨2, ![1024, 768]⟩
abbrev S1x1024x768 : Shape := ⟨3, ![1, 1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S4x1024x768, .bf16⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S1024x3072, .bf16⟩
  | .local _ .vmem, ⟨4, _⟩ => ⟨S4x1024x768, .bf16⟩
  | .local _ .vmem, ⟨5, _⟩ => ⟨S1024x3072, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== FfnDwgRefIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x1024, .f32⟩
  | .hbm, ⟨3, _⟩ => ⟨S8192x3072, .f32⟩
  | .hbm, ⟨4, _⟩ => ⟨S_, .f32⟩
  | .hbm, ⟨5, _⟩ => ⟨S1024x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x4x768, .f32⟩
  | .hbm, ⟨10, _⟩ => ⟨S4x1024x768, .f32⟩
  | .hbm, ⟨11, _⟩ => ⟨S4x1024x768, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== FfnUp.lean ====
abbrev S8192x1024 : Shape := ⟨2, ![8192, 1024]⟩
abbrev S1024x3072 : Shape := ⟨2, ![1024, 3072]⟩
abbrev S1024x4x768 : Shape := ⟨3, ![1024, 4, 768]⟩
abbrev S4x1024x768 : Shape := ⟨3, ![4, 1024, 768]⟩
abbrev S8192x3072 : Shape := ⟨2, ![8192, 3072]⟩
abbrev S1x1024x768 : Shape := ⟨3, ![1, 1024, 768]⟩
abbrev S512x768 : Shape := ⟨2, ![512, 768]⟩
abbrev S512x1024 : Shape := ⟨2, ![512, 1024]⟩
abbrev S1024x768 : Shape := ⟨2, ![1024, 768]⟩

abbrev nBuf : Space → Nat
  | .hbm => 10
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S1024x3072, .bf16⟩
  | .hbm, ⟨3, _⟩ => ⟨S1024x4x768, .bf16⟩
  | .hbm, ⟨4, _⟩ => ⟨S4x1024x768, .bf16⟩
  | .hbm, ⟨5, _⟩ => ⟨S1024x4x768, .bf16⟩
  | .hbm, ⟨6, _⟩ => ⟨S4x1024x768, .bf16⟩
  | .hbm, ⟨7, _⟩ => ⟨S8192x3072, .bf16⟩
  | .hbm, ⟨8, _⟩ => ⟨S8192x3072, .bf16⟩
  | .hbm, ⟨9, _⟩ => ⟨S8192x3072, .bf16⟩
  | .local _ .vmem, ⟨0, _⟩ => ⟨S8192x1024, .bf16⟩
  | .local _ .vmem, ⟨1, _⟩ => ⟨S1x1024x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S1x1024x768, .bf16⟩
  | .local _ .vmem, ⟨5, _⟩ => ⟨S512x768, .bf16⟩
  | .local _ .vmem, ⟨6, _⟩ => ⟨S512x768, .bf16⟩
  | .local _ .vmem, ⟨7, _⟩ => ⟨S512x768, .bf16⟩
  | .local _ .vmem, ⟨8, _⟩ => ⟨S512x768, .bf16⟩
  | .local _ .vmem, ⟨9, _⟩ => ⟨S512x768, .bf16⟩
  | .local _ .vmem, ⟨10, _⟩ => ⟨S512x768, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S8192x1024 : Shape := ⟨2, ![8192, 1024]⟩
abbrev S1024x3072 : Shape := ⟨2, ![1024, 3072]⟩
abbrev S8192x3072 : Shape := ⟨2, ![8192, 3072]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S1024x3072, .bf16⟩
  | .hbm, ⟨3, _⟩ => ⟨S8192x1024, .f32⟩
  | .hbm, ⟨4, _⟩ => ⟨S1024x3072, .f32⟩
  | .hbm, ⟨5, _⟩ => ⟨S1024x3072, .f32⟩
  | .hbm, ⟨6, _⟩ => ⟨S8192x3072, .f32⟩
  | .hbm, ⟨7, _⟩ => ⟨S8192x3072, .f32⟩
  | .hbm, ⟨8, _⟩ => ⟨S8192x3072, .bf16⟩
  | .hbm, ⟨9, _⟩ => ⟨S8192x3072, .bf16⟩
  | .hbm, ⟨10, _⟩ => ⟨S8192x3072, .f32⟩
  | .hbm, ⟨11, _⟩ => ⟨S8192x3072, .f32⟩
  | .hbm, ⟨12, _⟩ => ⟨S_, .f32⟩
  | .hbm, ⟨13, _⟩ => ⟨S8192x3072, .f32⟩
  | .hbm, ⟨14, _⟩ => ⟨S8192x3072, .f32⟩
  | .hbm, ⟨15, _⟩ => ⟨S_, .f32⟩
  | .hbm, ⟨16, _⟩ => ⟨S8192x3072, .f32⟩
  | .hbm, ⟨17, _⟩ => ⟨S8192x3072, .f32⟩
  | .hbm, ⟨18, _⟩ => ⟨S8192x3072, .f32⟩
  | .hbm, ⟨19, _⟩ => ⟨S8192x3072, .f32⟩
  | .hbm, ⟨20, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== FfnDown.lean ====
abbrev S8192x3072 : Shape := ⟨2, ![8192, 3072]⟩
abbrev S3072x1024 : Shape := ⟨2, ![3072, 1024]⟩
abbrev S8192x1024 : Shape := ⟨2, ![8192, 1024]⟩
abbrev S1024 : Shape := ⟨1, ![1024]⟩
abbrev S1x1024 : Shape := ⟨2, ![1, 1024]⟩
abbrev S8192x1 : Shape := ⟨2, ![8192, 1]⟩
abbrev S512x3072 : Shape := ⟨2, ![512, 3072]⟩
abbrev S512x1024 : Shape := ⟨2, ![512, 1024]⟩
abbrev S512x1 : Shape := ⟨2, ![512, 1]⟩
abbrev S512 : Shape := ⟨1, ![512]⟩

abbrev nBuf : Space → Nat
  | .hbm => 11
  | .vmem => 16
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .hbm, ⟨9, _⟩ => ⟨S8192x1024, .f32⟩
  | .hbm, ⟨10, _⟩ => ⟨S8192x1, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | .local _ .vmem, ⟨15, _⟩ => ⟨S512x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnDownRefIdeal.lean ====
abbrev S8192x3072 : Shape := ⟨2, ![8192, 3072]⟩
abbrev S3072x1024 : Shape := ⟨2, ![3072, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x3072, .f32⟩
  | .hbm, ⟨9, _⟩ => ⟨S3072x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x1024, .bf16⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]
-- ==== LnBwd.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1024x4x768 : Shape := ⟨3, ![1024, 4, 768]⟩
abbrev S4x1024x768 : Shape := ⟨3, ![4, 1024, 768]⟩
abbrev S1x1024 : Shape := ⟨2, ![1, 1024]⟩
abbrev S256x3072 : Shape := ⟨2, ![256, 3072]⟩
abbrev S256x1024 : Shape := ⟨2, ![256, 1024]⟩
abbrev S256x1 : Shape := ⟨2, ![256, 1]⟩
abbrev S256x768 : Shape := ⟨2, ![256, 768]⟩
abbrev S1x1024x768 : Shape := ⟨3, ![1, 1024, 768]⟩
abbrev S1024x768 : Shape := ⟨2, ![1024, 768]⟩
abbrev S256 : Shape := ⟨1, ![256]⟩

abbrev nBuf : Space → Nat
  | .hbm => 40
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x3072, .bf16⟩
  | .hbm, ⟨4, _⟩ => ⟨S1024x3072, .bf16⟩
  | .hbm, ⟨5, _⟩ => ⟨S8192x1024, .f32⟩
  | .hbm, ⟨6, _⟩ => ⟨S8192x3072, .bf16⟩
  | .hbm, ⟨7, _⟩ => ⟨S8192x3072, .bf16⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1024x4x768, .bf16⟩
  | .hbm, ⟨32, _⟩ => ⟨S4x1024x768, .bf16⟩
  | .hbm, ⟨33, _⟩ => ⟨S1024x4x768, .bf16⟩
  | .hbm, ⟨34, _⟩ => ⟨S4x1024x768, .bf16⟩
  | .hbm, ⟨35, _⟩ => ⟨S1x1024, .f32⟩
  | .hbm, ⟨36, _⟩ => ⟨S8192x1024, .f32⟩
  | .hbm, ⟨37, _⟩ => ⟨S8192x1024, .bf16⟩
  | .hbm, ⟨38, _⟩ => ⟨S1x1024, .f32⟩
  | .hbm, ⟨39, _⟩ => ⟨S1x1024, .f32⟩
  | .local _ .vmem, ⟨0, _⟩ => ⟨S256x3072, .bf16⟩
  | .local _ .vmem, ⟨1, _⟩ => ⟨S256x3072, .bf16⟩
  | .local _ .vmem, ⟨2, _⟩ => ⟨S4x1024x768, .bf16⟩
  | .local _ .vmem, ⟨3, _⟩ => ⟨S256x3072, .bf16⟩
  | .local _ .vmem, ⟨4, _⟩ => ⟨S256x3072, .bf16⟩
  | .local _ .vmem, ⟨5, _⟩ => ⟨S4x1024x768, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1, .f32⟩
  | .local _ .vmem, ⟨11, _⟩ => ⟨S256x1, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23_0 : Ref sig .tc := ⟨.hbm, 36, rfl⟩
abbrev main_v23_1 : Ref sig .tc := ⟨.hbm, 37, rfl⟩
abbrev main_v23_2 : Ref sig .tc := ⟨.hbm, 38, rfl⟩
abbrev main_v23_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== LnBwdRefIdeal.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 107
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x3072, .bf16⟩
  | .hbm, ⟨4, _⟩ => ⟨S1024x3072, .bf16⟩
  | .hbm, ⟨5, _⟩ => ⟨S8192x1024, .f32⟩
  | .hbm, ⟨6, _⟩ => ⟨S8192x3072, .bf16⟩
  | .hbm, ⟨7, _⟩ => ⟨S8192x3072, .bf16⟩
  | .hbm, ⟨8, _⟩ => ⟨S1024x3072, .f32⟩
  | .hbm, ⟨9, _⟩ => ⟨S1024x3072, .f32⟩
  | .hbm, ⟨10, _⟩ => ⟨S8192x3072, .f32⟩
  | .hbm, ⟨11, _⟩ => ⟨S8192x3072, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x3072, .f32⟩
  | .hbm, ⟨52, _⟩ => ⟨S8192x3072, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S_, .f32⟩
  | .hbm, ⟨64, _⟩ => ⟨S1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192x1, .f32⟩
  | .hbm, ⟨86, _⟩ => ⟨S8192x1, .f32⟩
  | .hbm, ⟨87, _⟩ => ⟨S_, .f32⟩
  | .hbm, ⟨88, _⟩ => ⟨S8192, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S_, .f32⟩
  | .hbm, ⟨93, _⟩ => ⟨S8192, .f32⟩
  | .hbm, ⟨94, _⟩ => ⟨S8192x1, .f32⟩
  | .hbm, ⟨95, _⟩ => ⟨S8192x1024, .f32⟩
  | .hbm, ⟨96, _⟩ => ⟨S8192x1, .f32⟩
  | .hbm, ⟨97, _⟩ => ⟨S_, .f32⟩
  | .hbm, ⟨98, _⟩ => ⟨S8192x1, .f32⟩
  | .hbm, ⟨99, _⟩ => ⟨S8192x1, .f32⟩
  | .hbm, ⟨100, _⟩ => ⟨S_, .f32⟩
  | .hbm, ⟨101, _⟩ => ⟨S8192, .f32⟩
  | .hbm, ⟨102, _⟩ => ⟨S8192x1024, .f32⟩
  | .hbm, ⟨103, _⟩ => ⟨S8192x1024, .f32⟩
  | .hbm, ⟨104, _⟩ => ⟨S8192x1024, .bf16⟩
  | .hbm, ⟨105, _⟩ => ⟨S1x1024, .f32⟩
  | .hbm, ⟨106, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_13 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_14 : Ref sig .tc := ⟨.hbm, 84, rfl⟩
abbrev main_v61 : Ref sig .tc := ⟨.hbm, 85, rfl⟩
abbrev main_v62 : Ref sig .tc := ⟨.hbm, 86, rfl⟩
abbrev main_cst_15 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_16 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_17 : Ref sig .tc := ⟨.hbm, 97, rfl⟩
abbrev main_v71 : Ref sig .tc := ⟨.hbm, 98, rfl⟩
abbrev main_v72 : Ref sig .tc := ⟨.hbm, 99, rfl⟩
abbrev main_cst_18 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩

abbrev nD : Nat := 1
abbrev τ : Topo := Topo.v7x

variable {F : FTy → Type} [FloatOps F]
-- ==== InBwd.lean ====
abbrev S8192x1024 : Shape := ⟨2, ![8192, 1024]⟩
abbrev S1024x3072 : Shape := ⟨2, ![1024, 3072]⟩
abbrev S8192x3072 : Shape := ⟨2, ![8192, 3072]⟩
abbrev S1024x4x768 : Shape := ⟨3, ![1024, 4, 768]⟩
abbrev S4x1024x768 : Shape := ⟨3, ![4, 1024, 768]⟩
abbrev S512x3072 : Shape := ⟨2, ![512, 3072]⟩
abbrev S512x1024 : Shape := ⟨2, ![512, 1024]⟩
abbrev S512x768 : Shape := ⟨2, ![512, 768]⟩
abbrev S1x1024x768 : Shape := ⟨3, ![1, 1024, 768]⟩
abbrev S1024x768 : Shape := ⟨2, ![1024, 768]⟩

abbrev nBuf : Space → Nat
  | .hbm => 11
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x3072, .bf16⟩
  | .hbm, ⟨2, _⟩ => ⟨S1024x3072, .bf16⟩
  | .hbm, ⟨3, _⟩ => ⟨S8192x1024, .f32⟩
  | .hbm, ⟨4, _⟩ => ⟨S8192x3072, .bf16⟩
  | .hbm, ⟨5, _⟩ => ⟨S8192x3072, .bf16⟩
  | .hbm, ⟨6, _⟩ => ⟨S1024x4x768, .bf16⟩
  | .hbm, ⟨7, _⟩ => ⟨S4x1024x768, .bf16⟩
  | .hbm, ⟨8, _⟩ => ⟨S1024x4x768, .bf16⟩
  | .hbm, ⟨9, _⟩ => ⟨S4x1024x768, .bf16⟩
  | .hbm, ⟨10, _⟩ => ⟨S8192x1024, .f32⟩
  | .local _ .vmem, ⟨0, _⟩ => ⟨S512x3072, .bf16⟩
  | .local _ .vmem, ⟨1, _⟩ => ⟨S512x3072, .bf16⟩
  | .local _ .vmem, ⟨2, _⟩ => ⟨S4x1024x768, .bf16⟩
  | .local _ .vmem, ⟨3, _⟩ => ⟨S512x3072, .bf16⟩
  | .local _ .vmem, ⟨4, _⟩ => ⟨S512x3072, .bf16⟩
  | .local _ .vmem, ⟨5, _⟩ => ⟨S4x1024x768, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InBwdRefIdeal.lean ====
abbrev S8192x1024 : Shape := ⟨2, ![8192, 1024]⟩
abbrev S1024x3072 : Shape := ⟨2, ![1024, 3072]⟩
abbrev S8192x3072 : Shape := ⟨2, ![8192, 3072]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .bf16⟩
  | .hbm, ⟨2, _⟩ => ⟨S1024x3072, .bf16⟩
  | .hbm, ⟨3, _⟩ => ⟨S8192x1024, .f32⟩
  | .hbm, ⟨4, _⟩ => ⟨S8192x3072, .bf16⟩
  | .hbm, ⟨5, _⟩ => ⟨S8192x3072, .bf16⟩
  | .hbm, ⟨6, _⟩ => ⟨S1024x3072, .f32⟩
  | .hbm, ⟨7, _⟩ => ⟨S1024x3072, .f32⟩
  | .hbm, ⟨8, _⟩ => ⟨S8192x3072, .f32⟩
  | .hbm, ⟨9, _⟩ => ⟨S8192x3072, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x3072, .f32⟩
  | .hbm, ⟨14, _⟩ => ⟨S8192x3072, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== InProj.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InDw.lean ====
abbrev S8192x1024 : Shape := ⟨2, ![8192, 1024]⟩
abbrev S8192x3072 : Shape := ⟨2, ![8192, 3072]⟩
abbrev S1024x3072 : Shape := ⟨2, ![1024, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Ln1Bwd.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S512x3072 : Shape := ⟨2, ![512, 3072]⟩
abbrev S512x1024 : Shape := ⟨2, ![512, 1024]⟩
abbrev S512x1 : Shape := ⟨2, ![512, 1]⟩
abbrev S512 : Shape := ⟨1, ![512]⟩

abbrev nBuf : Space → Nat
  | .hbm => 34
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x3072, .bf16⟩
  | .hbm, ⟨4, _⟩ => ⟨S8192x1024, .f32⟩
  | .hbm, ⟨5, _⟩ => ⟨S8192x3072, .bf16⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .bf16⟩
  | .hbm, ⟨32, _⟩ => ⟨S1x1024, .f32⟩
  | .hbm, ⟨33, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1, .f32⟩
  | .local _ .vmem, ⟨8, _⟩ => ⟨S512x1, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Ln1BwdRefIdeal.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 100
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x3072, .bf16⟩
  | .hbm, ⟨4, _⟩ => ⟨S8192x1024, .f32⟩
  | .hbm, ⟨5, _⟩ => ⟨S8192x3072, .bf16⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S1024x3072, .f32⟩
  | .hbm, ⟨46, _⟩ => ⟨S8192x3072, .f32⟩
  | .hbm, ⟨47, _⟩ => ⟨S8192x3072, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S1024, .f32⟩
  | .hbm, ⟨66, _⟩ => ⟨S8192x1024, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S8192x1024, .f32⟩
  | .hbm, ⟨89, _⟩ => ⟨S8192x1, .f32⟩
  | .hbm, ⟨90, _⟩ => ⟨S_, .f32⟩
  | .hbm, ⟨91, _⟩ => ⟨S8192x1, .f32⟩
  | .hbm, ⟨92, _⟩ => ⟨S8192x1, .f32⟩
  | .hbm, ⟨93, _⟩ => ⟨S_, .f32⟩
  | .hbm, ⟨94, _⟩ => ⟨S8192, .f32⟩
  | .hbm, ⟨95, _⟩ => ⟨S8192x1024, .f32⟩
  | .hbm, ⟨96, _⟩ => ⟨S8192x1024, .f32⟩
  | .hbm, ⟨97, _⟩ => ⟨S8192x1024, .bf16⟩
  | .hbm, ⟨98, _⟩ => ⟨S1x1024, .f32⟩
  | .hbm, ⟨99, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_13 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_16 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_17 : Ref sig .tc := ⟨.hbm, 90, rfl⟩
abbrev main_v66 : Ref sig .tc := ⟨.hbm, 91, rfl⟩
abbrev main_v67 : Ref sig .tc := ⟨.hbm, 92, rfl⟩
abbrev main_cst_18 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]
-- ==== OutProj.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S8192x1 : Shape := ⟨2, ![8192, 1]⟩
abbrev S512x1024 : Shape := ⟨2, ![512, 1024]⟩
abbrev S512x1 : Shape := ⟨2, ![512, 1]⟩
abbrev S512 : Shape := ⟨1, ![512]⟩

abbrev nBuf : Space → Nat
  | .hbm => 11
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .hbm, ⟨9, _⟩ => ⟨S8192x1024, .f32⟩
  | .hbm, ⟨10, _⟩ => ⟨S8192x1, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | .local _ .vmem, ⟨15, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== OutProjRefIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== OutDw.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixBwd.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixBwdRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Ple.lean ====
abbrev S8192x1024 : Shape := ⟨2, ![8192, 1024]⟩
abbrev S8192x256 : Shape := ⟨2, ![8192, 256]⟩
abbrev S1024x1024 : Shape := ⟨2, ![1024, 1024]⟩
abbrev S1024 : Shape := ⟨1, ![1024]⟩
abbrev S256x1024 : Shape := ⟨2, ![256, 1024]⟩
abbrev S1x1024 : Shape := ⟨2, ![1, 1024]⟩
abbrev S512x512 : Shape := ⟨2, ![512, 512]⟩
abbrev S512x1024 : Shape := ⟨2, ![512, 1024]⟩
abbrev S512x256 : Shape := ⟨2, ![512, 256]⟩
abbrev S1024x512 : Shape := ⟨2, ![1024, 512]⟩
abbrev S1x512 : Shape := ⟨2, ![1, 512]⟩
abbrev S256x512 : Shape := ⟨2, ![256, 512]⟩

abbrev nBuf : Space → Nat
  | .hbm => 11
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x256, .bf16⟩
  | .hbm, ⟨2, _⟩ => ⟨S1024x1024, .bf16⟩
  | .hbm, ⟨3, _⟩ => ⟨S1024, .f32⟩
  | .hbm, ⟨4, _⟩ => ⟨S256x1024, .bf16⟩
  | .hbm, ⟨5, _⟩ => ⟨S8192x1024, .bf16⟩
  | .hbm, ⟨6, _⟩ => ⟨S1x1024, .f32⟩
  | .hbm, ⟨7, _⟩ => ⟨S8192x1024, .f32⟩
  | .hbm, ⟨8, _⟩ => ⟨S8192x1024, .bf16⟩
  | .hbm, ⟨9, _⟩ => ⟨S8192x1024, .bf16⟩
  | .hbm, ⟨10, _⟩ => ⟨S8192x1024, .bf16⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S512x1024, .bf16⟩
  | .local _ .vmem, ⟨4, _⟩ => ⟨S512x256, .bf16⟩
  | .local _ .vmem, ⟨5, _⟩ => ⟨S512x256, .bf16⟩
  | .local _ .vmem, ⟨6, _⟩ => ⟨S1024x512, .bf16⟩
  | .local _ .vmem, ⟨7, _⟩ => ⟨S1024x512, .bf16⟩
  | .local _ .vmem, ⟨8, _⟩ => ⟨S1x512, .f32⟩
  | .local _ .vmem, ⟨9, _⟩ => ⟨S1x512, .f32⟩
  | .local _ .vmem, ⟨10, _⟩ => ⟨S256x512, .bf16⟩
  | .local _ .vmem, ⟨11, _⟩ => ⟨S256x512, .bf16⟩
  | .local _ .vmem, ⟨12, _⟩ => ⟨S512x512, .f32⟩
  | .local _ .vmem, ⟨13, _⟩ => ⟨S512x512, .f32⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== PleRefIdeal.lean ====
abbrev S8192x1024 : Shape := ⟨2, ![8192, 1024]⟩
abbrev S8192x256 : Shape := ⟨2, ![8192, 256]⟩
abbrev S1024x1024 : Shape := ⟨2, ![1024, 1024]⟩
abbrev S1024 : Shape := ⟨1, ![1024]⟩
abbrev S256x1024 : Shape := ⟨2, ![256, 1024]⟩
abbrev S1x1024 : Shape := ⟨2, ![1, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .bf16⟩
  | .hbm, ⟨2, _⟩ => ⟨S1024x1024, .bf16⟩
  | .hbm, ⟨3, _⟩ => ⟨S1024, .f32⟩
  | .hbm, ⟨4, _⟩ => ⟨S256x1024, .bf16⟩
  | .hbm, ⟨5, _⟩ => ⟨S8192x256, .f32⟩
  | .hbm, ⟨6, _⟩ => ⟨S1024x1024, .f32⟩
  | .hbm, ⟨7, _⟩ => ⟨S256x1024, .f32⟩
  | .hbm, ⟨8, _⟩ => ⟨S8192x1024, .bf16⟩
  | .hbm, ⟨9, _⟩ => ⟨S8192x1024, .f32⟩
  | .hbm, ⟨10, _⟩ => ⟨S8192x1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | .hbm, ⟨26, _⟩ => ⟨S8192x1024, .bf16⟩
  | .hbm, ⟨27, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== GateBwd.lean ====
abbrev S8192x1024 : Shape := ⟨2, ![8192, 1024]⟩
abbrev S1024 : Shape := ⟨1, ![1024]⟩
abbrev S1x1024 : Shape := ⟨2, ![1, 1024]⟩
abbrev S_ : Shape := ⟨0, ![]⟩
abbrev S512x1024 : Shape := ⟨2, ![512, 1024]⟩

abbrev nBuf : Space → Nat
  | .hbm => 19
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .bf16⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .bf16⟩
  | .hbm, ⟨16, _⟩ => ⟨S8192x1024, .bf16⟩
  | .hbm, ⟨17, _⟩ => ⟨S8192x1024, .bf16⟩
  | .hbm, ⟨18, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== GateBwdRefIdeal.lean ====
abbrev S8192x1024 : Shape := ⟨2, ![8192, 1024]⟩
abbrev S1024 : Shape := ⟨1, ![1024]⟩
abbrev S1x1024 : Shape := ⟨2, ![1, 1024]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .bf16⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S_, .f32⟩
  | .hbm, ⟨28, _⟩ => ⟨S1024, .f32⟩
  | .hbm, ⟨29, _⟩ => ⟨S8192x1024, .bf16⟩
  | .hbm, ⟨30, _⟩ => ⟨S8192x1024, .bf16⟩
  | .hbm, ⟨31, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== ProjDw.lean ====
abbrev S8192x256 : Shape := ⟨2, ![8192, 256]⟩
abbrev S8192x1024 : Shape := ⟨2, ![8192, 1024]⟩
abbrev S4x256x256 : Shape := ⟨3, ![4, 256, 256]⟩
abbrev S1024x256 : Shape := ⟨2, ![1024, 256]⟩
abbrev S1024x1024 : Shape := ⟨2, ![1024, 1024]⟩
abbrev S256x1024 : Shape := ⟨2, ![256, 1024]⟩
abbrev S256x256 : Shape := ⟨2, ![256, 256]⟩
abbrev S1x256x256 : Shape := ⟨3, ![1, 256, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S4x256x256, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S4x256x256, .bf16⟩
  | .local _ .vmem, ⟨5, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== ProjDwRefIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩
abbrev S256x4x256 : Shape := ⟨3, ![256, 4, 256]⟩
abbrev S4x256x256 : Shape := ⟨3, ![4, 256, 256]⟩

abbrev nBuf : Space → Nat
  | .hbm => 12
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S_, .f32⟩
  | .hbm, ⟨3, _⟩ => ⟨S256x1024, .f32⟩
  | .hbm, ⟨4, _⟩ => ⟨S8192x256, .f32⟩
  | .hbm, ⟨5, _⟩ => ⟨S8192x1024, .f32⟩
  | .hbm, ⟨6, _⟩ => ⟨S8192x1024, .f32⟩
  | .hbm, ⟨7, _⟩ => ⟨S1024x256, .f32⟩
  | .hbm, ⟨8, _⟩ => ⟨S256x1024, .f32⟩
  | .hbm, ⟨9, _⟩ => ⟨S256x4x256, .f32⟩
  | .hbm, ⟨10, _⟩ => ⟨S4x256x256, .f32⟩
  | .hbm, ⟨11, _⟩ => ⟨S4x256x256, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Ln3Bwd.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S512x1024 : Shape := ⟨2, ![512, 1024]⟩
abbrev S512x1 : Shape := ⟨2, ![512, 1]⟩
abbrev S512 : Shape := ⟨1, ![512]⟩

abbrev nBuf : Space → Nat
  | .hbm => 34
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x1024, .bf16⟩
  | .hbm, ⟨4, _⟩ => ⟨S8192x1024, .f32⟩
  | .hbm, ⟨5, _⟩ => ⟨S8192x1024, .bf16⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .bf16⟩
  | .hbm, ⟨32, _⟩ => ⟨S1x1024, .f32⟩
  | .hbm, ⟨33, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1, .f32⟩
  | .local _ .vmem, ⟨8, _⟩ => ⟨S512x1, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Ln3BwdRefIdeal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 95
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x1024, .bf16⟩
  | .hbm, ⟨4, _⟩ => ⟨S8192x1024, .f32⟩
  | .hbm, ⟨5, _⟩ => ⟨S8192x1024, .bf16⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S1024x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S_, .f32⟩
  | .hbm, ⟨52, _⟩ => ⟨S1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x1024, .f32⟩
  | .hbm, ⟨84, _⟩ => ⟨S8192x1, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S_, .f32⟩
  | .hbm, ⟨89, _⟩ => ⟨S8192, .f32⟩
  | .hbm, ⟨90, _⟩ => ⟨S8192x1024, .f32⟩
  | .hbm, ⟨91, _⟩ => ⟨S8192x1024, .f32⟩
  | .hbm, ⟨92, _⟩ => ⟨S8192x1024, .bf16⟩
  | .hbm, ⟨93, _⟩ => ⟨S1x1024, .f32⟩
  | .hbm, ⟨94, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_14 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_15 : Ref sig .tc := ⟨.hbm, 85, rfl⟩
abbrev main_v63 : Ref sig .tc := ⟨.hbm, 86, rfl⟩
abbrev main_v64 : Ref sig .tc := ⟨.hbm, 87, rfl⟩
abbrev main_cst_16 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩

abbrev nD : Nat := 1
abbrev τ : Topo := Topo.v7x

variable {F : FTy → Type} [FloatOps F]
-- ==== AdamUp.lean ====
abbrev S2x1024x704 : Shape := ⟨3, ![2, 1024, 704]⟩
abbrev S2048x704 : Shape := ⟨2, ![2048, 704]⟩
abbrev S512x704 : Shape := ⟨2, ![512, 704]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S2048x704, .f32⟩
  | .hbm, ⟨9, _⟩ => ⟨S2048x704, .f32⟩
  | .hbm, ⟨10, _⟩ => ⟨S2048x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpIdeal.lean ====
abbrev S2x1024x704 : Shape := ⟨3, ![2, 1024, 704]⟩
abbrev S2048x704 : Shape := ⟨2, ![2048, 704]⟩
abbrev S512x704 : Shape := ⟨2, ![512, 704]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S2048x704, .f32⟩
  | .hbm, ⟨9, _⟩ => ⟨S2048x704, .f32⟩
  | .hbm, ⟨10, _⟩ => ⟨S2048x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S2x1024x704 : Shape := ⟨3, ![2, 1024, 704]⟩
abbrev S_ : Shape := ⟨0, ![]⟩
abbrev S2048x704 : Shape := ⟨2, ![2048, 704]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S_, .f32⟩
  | .hbm, ⟨5, _⟩ => ⟨S2x1024x704, .f32⟩
  | .hbm, ⟨6, _⟩ => ⟨S2x1024x704, .f32⟩
  | .hbm, ⟨7, _⟩ => ⟨S_, .f32⟩
  | .hbm, ⟨8, _⟩ => ⟨S2x1024x704, .f32⟩
  | .hbm, ⟨9, _⟩ => ⟨S2x1024x704, .f32⟩
  | .hbm, ⟨10, _⟩ => ⟨S2x1024x704, .f32⟩
  | .hbm, ⟨11, _⟩ => ⟨S_, .f32⟩
  | .hbm, ⟨12, _⟩ => ⟨S2x1024x704, .f32⟩
  | .hbm, ⟨13, _⟩ => ⟨S2x1024x704, .f32⟩
  | .hbm, ⟨14, _⟩ => ⟨S2x1024x704, .f32⟩
  | .hbm, ⟨15, _⟩ => ⟨S_, .f32⟩
  | .hbm, ⟨16, _⟩ => ⟨S2x1024x704, .f32⟩
  | .hbm, ⟨17, _⟩ => ⟨S2x1024x704, .f32⟩
  | .hbm, ⟨18, _⟩ => ⟨S2x1024x704, .f32⟩
  | .hbm, ⟨19, _⟩ => ⟨S_, .f32⟩
  | .hbm, ⟨20, _⟩ => ⟨S2x1024x704, .f32⟩
  | .hbm, ⟨21, _⟩ => ⟨S2x1024x704, .f32⟩
  | .hbm, ⟨22, _⟩ => ⟨S_, .f32⟩
  | .hbm, ⟨23, _⟩ => ⟨S2x1024x704, .f32⟩
  | .hbm, ⟨24, _⟩ => ⟨S2x1024x704, .f32⟩
  | .hbm, ⟨25, _⟩ => ⟨S2x1024x704, .f32⟩
  | .hbm, ⟨26, _⟩ => ⟨S_, .f32⟩
  | .hbm, ⟨27, _⟩ => ⟨S2x1024x704, .f32⟩
  | .hbm, ⟨28, _⟩ => ⟨S2x1024x704, .f32⟩
  | .hbm, ⟨29, _⟩ => ⟨S2x1024x704, .f32⟩
  | .hbm, ⟨30, _⟩ => ⟨S_, .f32⟩
  | .hbm, ⟨31, _⟩ => ⟨S2x1024x704, .f32⟩
  | .hbm, ⟨32, _⟩ => ⟨S2x1024x704, .f32⟩
  | .hbm, ⟨33, _⟩ => ⟨S2x1024x704, .f32⟩
  | .hbm, ⟨34, _⟩ => ⟨S_, .f32⟩
  | .hbm, ⟨35, _⟩ => ⟨S2x1024x704, .f32⟩
  | .hbm, ⟨36, _⟩ => ⟨S2x1024x704, .f32⟩
  | .hbm, ⟨37, _⟩ => ⟨S2048x704, .f32⟩
  | .hbm, ⟨38, _⟩ => ⟨S2048x704, .f32⟩
  | .hbm, ⟨39, _⟩ => ⟨S2048x704, .f32⟩
  | _, _ => ⟨S2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamDown.lean ====
abbrev S2x704x1024 : Shape := ⟨3, ![2, 704, 1024]⟩
abbrev S1408x1024 : Shape := ⟨2, ![1408, 1024]⟩
abbrev S128x1024 : Shape := ⟨2, ![128, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownIdeal.lean ====
abbrev S2x704x1024 : Shape := ⟨3, ![2, 704, 1024]⟩
abbrev S1408x1024 : Shape := ⟨2, ![1408, 1024]⟩
abbrev S128x1024 : Shape := ⟨2, ![128, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S2x704x1024 : Shape := ⟨3, ![2, 704, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamIn.lean ====
abbrev S2x1024x707 : Shape := ⟨3, ![2, 1024, 707]⟩
abbrev S2048x707 : Shape := ⟨2, ![2048, 707]⟩
abbrev S512x707 : Shape := ⟨2, ![512, 707]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x707, .f32⟩
  | .hbm, ⟨1, _⟩ => ⟨S2x1024x707, .f32⟩
  | .hbm, ⟨2, _⟩ => ⟨S2x1024x707, .f32⟩
  | .hbm, ⟨3, _⟩ => ⟨S2x1024x707, .f32⟩
  | .hbm, ⟨4, _⟩ => ⟨S2048x707, .f32⟩
  | .hbm, ⟨5, _⟩ => ⟨S2048x707, .f32⟩
  | .hbm, ⟨6, _⟩ => ⟨S2048x707, .f32⟩
  | .hbm, ⟨7, _⟩ => ⟨S2048x707, .f32⟩
  | .hbm, ⟨8, _⟩ => ⟨S2048x707, .f32⟩
  | .hbm, ⟨9, _⟩ => ⟨S2048x707, .f32⟩
  | .hbm, ⟨10, _⟩ => ⟨S2048x707, .f32⟩
  | .local _ .vmem, ⟨0, _⟩ => ⟨S512x707, .f32⟩
  | .local _ .vmem, ⟨1, _⟩ => ⟨S512x707, .f32⟩
  | .local _ .vmem, ⟨2, _⟩ => ⟨S512x707, .f32⟩
  | .local _ .vmem, ⟨3, _⟩ => ⟨S512x707, .f32⟩
  | .local _ .vmem, ⟨4, _⟩ => ⟨S512x707, .f32⟩
  | .local _ .vmem, ⟨5, _⟩ => ⟨S512x707, .f32⟩
  | .local _ .vmem, ⟨6, _⟩ => ⟨S512x707, .f32⟩
  | .local _ .vmem, ⟨7, _⟩ => ⟨S512x707, .f32⟩
  | .local _ .vmem, ⟨8, _⟩ => ⟨S512x707, .f32⟩
  | .local _ .vmem, ⟨9, _⟩ => ⟨S512x707, .f32⟩
  | .local _ .vmem, ⟨10, _⟩ => ⟨S512x707, .f32⟩
  | .local _ .vmem, ⟨11, _⟩ => ⟨S512x707, .f32⟩
  | .local _ .vmem, ⟨12, _⟩ => ⟨S512x707, .f32⟩
  | .local _ .vmem, ⟨13, _⟩ => ⟨S512x707, .f32⟩
  | _, _ => ⟨S2x1024x707, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x707 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x707 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x707 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x707 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x707 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x707 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x707 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S2x1024x707 : Shape := ⟨3, ![2, 1024, 707]⟩
abbrev S2048x707 : Shape := ⟨2, ![2048, 707]⟩
abbrev S512x707 : Shape := ⟨2, ![512, 707]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x707, .f32⟩
  | .hbm, ⟨1, _⟩ => ⟨S2x1024x707, .f32⟩
  | .hbm, ⟨2, _⟩ => ⟨S2x1024x707, .f32⟩
  | .hbm, ⟨3, _⟩ => ⟨S2x1024x707, .f32⟩
  | .hbm, ⟨4, _⟩ => ⟨S2048x707, .f32⟩
  | .hbm, ⟨5, _⟩ => ⟨S2048x707, .f32⟩
  | .hbm, ⟨6, _⟩ => ⟨S2048x707, .f32⟩
  | .hbm, ⟨7, _⟩ => ⟨S2048x707, .f32⟩
  | .hbm, ⟨8, _⟩ => ⟨S2048x707, .f32⟩
  | .hbm, ⟨9, _⟩ => ⟨S2048x707, .f32⟩
  | .hbm, ⟨10, _⟩ => ⟨S2048x707, .f32⟩
  | .local _ .vmem, ⟨0, _⟩ => ⟨S512x707, .f32⟩
  | .local _ .vmem, ⟨1, _⟩ => ⟨S512x707, .f32⟩
  | .local _ .vmem, ⟨2, _⟩ => ⟨S512x707, .f32⟩
  | .local _ .vmem, ⟨3, _⟩ => ⟨S512x707, .f32⟩
  | .local _ .vmem, ⟨4, _⟩ => ⟨S512x707, .f32⟩
  | .local _ .vmem, ⟨5, _⟩ => ⟨S512x707, .f32⟩
  | .local _ .vmem, ⟨6, _⟩ => ⟨S512x707, .f32⟩
  | .local _ .vmem, ⟨7, _⟩ => ⟨S512x707, .f32⟩
  | .local _ .vmem, ⟨8, _⟩ => ⟨S512x707, .f32⟩
  | .local _ .vmem, ⟨9, _⟩ => ⟨S512x707, .f32⟩
  | .local _ .vmem, ⟨10, _⟩ => ⟨S512x707, .f32⟩
  | .local _ .vmem, ⟨11, _⟩ => ⟨S512x707, .f32⟩
  | .local _ .vmem, ⟨12, _⟩ => ⟨S512x707, .f32⟩
  | .local _ .vmem, ⟨13, _⟩ => ⟨S512x707, .f32⟩
  | _, _ => ⟨S2x1024x707, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x707 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x707 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x707 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x707 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x707 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x707 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x707 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S2x1024x707 : Shape := ⟨3, ![2, 1024, 707]⟩
abbrev S_ : Shape := ⟨0, ![]⟩
abbrev S2048x707 : Shape := ⟨2, ![2048, 707]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x707, .f32⟩
  | .hbm, ⟨1, _⟩ => ⟨S2x1024x707, .f32⟩
  | .hbm, ⟨2, _⟩ => ⟨S2x1024x707, .f32⟩
  | .hbm, ⟨3, _⟩ => ⟨S2x1024x707, .f32⟩
  | .hbm, ⟨4, _⟩ => ⟨S_, .f32⟩
  | .hbm, ⟨5, _⟩ => ⟨S2x1024x707, .f32⟩
  | .hbm, ⟨6, _⟩ => ⟨S2x1024x707, .f32⟩
  | .hbm, ⟨7, _⟩ => ⟨S_, .f32⟩
  | .hbm, ⟨8, _⟩ => ⟨S2x1024x707, .f32⟩
  | .hbm, ⟨9, _⟩ => ⟨S2x1024x707, .f32⟩
  | .hbm, ⟨10, _⟩ => ⟨S2x1024x707, .f32⟩
  | .hbm, ⟨11, _⟩ => ⟨S_, .f32⟩
  | .hbm, ⟨12, _⟩ => ⟨S2x1024x707, .f32⟩
  | .hbm, ⟨13, _⟩ => ⟨S2x1024x707, .f32⟩
  | .hbm, ⟨14, _⟩ => ⟨S2x1024x707, .f32⟩
  | .hbm, ⟨15, _⟩ => ⟨S_, .f32⟩
  | .hbm, ⟨16, _⟩ => ⟨S2x1024x707, .f32⟩
  | .hbm, ⟨17, _⟩ => ⟨S2x1024x707, .f32⟩
  | .hbm, ⟨18, _⟩ => ⟨S2x1024x707, .f32⟩
  | .hbm, ⟨19, _⟩ => ⟨S_, .f32⟩
  | .hbm, ⟨20, _⟩ => ⟨S2x1024x707, .f32⟩
  | .hbm, ⟨21, _⟩ => ⟨S2x1024x707, .f32⟩
  | .hbm, ⟨22, _⟩ => ⟨S_, .f32⟩
  | .hbm, ⟨23, _⟩ => ⟨S2x1024x707, .f32⟩
  | .hbm, ⟨24, _⟩ => ⟨S2x1024x707, .f32⟩
  | .hbm, ⟨25, _⟩ => ⟨S2x1024x707, .f32⟩
  | .hbm, ⟨26, _⟩ => ⟨S_, .f32⟩
  | .hbm, ⟨27, _⟩ => ⟨S2x1024x707, .f32⟩
  | .hbm, ⟨28, _⟩ => ⟨S2x1024x707, .f32⟩
  | .hbm, ⟨29, _⟩ => ⟨S2x1024x707, .f32⟩
  | .hbm, ⟨30, _⟩ => ⟨S_, .f32⟩
  | .hbm, ⟨31, _⟩ => ⟨S2x1024x707, .f32⟩
  | .hbm, ⟨32, _⟩ => ⟨S2x1024x707, .f32⟩
  | .hbm, ⟨33, _⟩ => ⟨S2x1024x707, .f32⟩
  | .hbm, ⟨34, _⟩ => ⟨S_, .f32⟩
  | .hbm, ⟨35, _⟩ => ⟨S2x1024x707, .f32⟩
  | .hbm, ⟨36, _⟩ => ⟨S2x1024x707, .f32⟩
  | .hbm, ⟨37, _⟩ => ⟨S2048x707, .f32⟩
  | .hbm, ⟨38, _⟩ => ⟨S2048x707, .f32⟩
  | .hbm, ⟨39, _⟩ => ⟨S2048x707, .f32⟩
  | _, _ => ⟨S2x1024x707, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamOut.lean ====
abbrev S2x256x1024 : Shape := ⟨3, ![2, 256, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutIdeal.lean ====
abbrev S2x256x1024 : Shape := ⟨3, ![2, 256, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutRefIdeal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamProj.lean ====
abbrev S2x256x256 : Shape := ⟨3, ![2, 256, 256]⟩
abbrev S512x256 : Shape := ⟨2, ![512, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamProjRefIdeal.lean ====
abbrev S2x256x256 : Shape := ⟨3, ![2, 256, 256]⟩
abbrev S_ : Shape := ⟨0, ![]⟩
abbrev S512x256 : Shape := ⟨2, ![512, 256]⟩

abbrev nBuf : Space → Nat
  | .hbm => 40
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S_, .f32⟩
  | .hbm, ⟨5, _⟩ => ⟨S2x256x256, .f32⟩
  | .hbm, ⟨6, _⟩ => ⟨S2x256x256, .f32⟩
  | .hbm, ⟨7, _⟩ => ⟨S_, .f32⟩
  | .hbm, ⟨8, _⟩ => ⟨S2x256x256, .f32⟩
  | .hbm, ⟨9, _⟩ => ⟨S2x256x256, .f32⟩
  | .hbm, ⟨10, _⟩ => ⟨S2x256x256, .f32⟩
  | .hbm, ⟨11, _⟩ => ⟨S_, .f32⟩
  | .hbm, ⟨12, _⟩ => ⟨S2x256x256, .f32⟩
  | .hbm, ⟨13, _⟩ => ⟨S2x256x256, .f32⟩
  | .hbm, ⟨14, _⟩ => ⟨S2x256x256, .f32⟩
  | .hbm, ⟨15, _⟩ => ⟨S_, .f32⟩
  | .hbm, ⟨16, _⟩ => ⟨S2x256x256, .f32⟩
  | .hbm, ⟨17, _⟩ => ⟨S2x256x256, .f32⟩
  | .hbm, ⟨18, _⟩ => ⟨S2x256x256, .f32⟩
  | .hbm, ⟨19, _⟩ => ⟨S_, .f32⟩
  | .hbm, ⟨20, _⟩ => ⟨S2x256x256, .f32⟩
  | .hbm, ⟨21, _⟩ => ⟨S2x256x256, .f32⟩
  | .hbm, ⟨22, _⟩ => ⟨S_, .f32⟩
  | .hbm, ⟨23, _⟩ => ⟨S2x256x256, .f32⟩
  | .hbm, ⟨24, _⟩ => ⟨S2x256x256, .f32⟩
  | .hbm, ⟨25, _⟩ => ⟨S2x256x256, .f32⟩
  | .hbm, ⟨26, _⟩ => ⟨S_, .f32⟩
  | .hbm, ⟨27, _⟩ => ⟨S2x256x256, .f32⟩
  | .hbm, ⟨28, _⟩ => ⟨S2x256x256, .f32⟩
  | .hbm, ⟨29, _⟩ => ⟨S2x256x256, .f32⟩
  | .hbm, ⟨30, _⟩ => ⟨S_, .f32⟩
  | .hbm, ⟨31, _⟩ => ⟨S2x256x256, .f32⟩
  | .hbm, ⟨32, _⟩ => ⟨S2x256x256, .f32⟩
  | .hbm, ⟨33, _⟩ => ⟨S2x256x256, .f32⟩
  | .hbm, ⟨34, _⟩ => ⟨S_, .f32⟩
  | .hbm, ⟨35, _⟩ => ⟨S2x256x256, .f32⟩
  | .hbm, ⟨36, _⟩ => ⟨S2x256x256, .f32⟩
  | .hbm, ⟨37, _⟩ => ⟨S512x256, .f32⟩
  | .hbm, ⟨38, _⟩ => ⟨S512x256, .f32⟩
  | .hbm, ⟨39, _⟩ => ⟨S512x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamSmall.lean ====
abbrev S736x128 : Shape := ⟨2, ![736, 128]⟩
abbrev S32x128 : Shape := ⟨2, ![32, 128]⟩

abbrev nBuf : Space → Nat
  | .hbm => 7
  | .vmem => 14
  | .smem => 0
  | _ => 0

abbrev bufTy : (tb : Table) → Fin (tcTables nBuf tb) → BufTy
  | .hbm, ⟨0, _⟩ => ⟨S736x128, .f32⟩
  | .hbm, ⟨1, _⟩ => ⟨S736x128, .f32⟩
  | .hbm, ⟨2, _⟩ => ⟨S736x128, .f32⟩
  | .hbm, ⟨3, _⟩ => ⟨S736x128, .f32⟩
  | .hbm, ⟨4, _⟩ => ⟨S736x128, .f32⟩
  | .hbm, ⟨5, _⟩ => ⟨S736x128, .f32⟩
  | .hbm, ⟨6, _⟩ => ⟨S736x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | _, _ => ⟨S736x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![23], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S736x128 : Shape := ⟨2, ![736, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S736x128, .f32⟩
  | .hbm, ⟨1, _⟩ => ⟨S736x128, .f32⟩
  | .hbm, ⟨2, _⟩ => ⟨S736x128, .f32⟩
  | .hbm, ⟨3, _⟩ => ⟨S736x128, .f32⟩
  | .hbm, ⟨4, _⟩ => ⟨S_, .f32⟩
  | .hbm, ⟨5, _⟩ => ⟨S736x128, .f32⟩
  | .hbm, ⟨6, _⟩ => ⟨S736x128, .f32⟩
  | .hbm, ⟨7, _⟩ => ⟨S_, .f32⟩
  | .hbm, ⟨8, _⟩ => ⟨S736x128, .f32⟩
  | .hbm, ⟨9, _⟩ => ⟨S736x128, .f32⟩
  | .hbm, ⟨10, _⟩ => ⟨S736x128, .f32⟩
  | .hbm, ⟨11, _⟩ => ⟨S_, .f32⟩
  | .hbm, ⟨12, _⟩ => ⟨S736x128, .f32⟩
  | .hbm, ⟨13, _⟩ => ⟨S736x128, .f32⟩
  | .hbm, ⟨14, _⟩ => ⟨S736x128, .f32⟩
  | .hbm, ⟨15, _⟩ => ⟨S_, .f32⟩
  | .hbm, ⟨16, _⟩ => ⟨S736x128, .f32⟩
  | .hbm, ⟨17, _⟩ => ⟨S736x128, .f32⟩
  | .hbm, ⟨18, _⟩ => ⟨S736x128, .f32⟩
  | .hbm, ⟨19, _⟩ => ⟨S_, .f32⟩
  | .hbm, ⟨20, _⟩ => ⟨S736x128, .f32⟩
  | .hbm, ⟨21, _⟩ => ⟨S736x128, .f32⟩
  | .hbm, ⟨22, _⟩ => ⟨S_, .f32⟩
  | .hbm, ⟨23, _⟩ => ⟨S736x128, .f32⟩
  | .hbm, ⟨24, _⟩ => ⟨S736x128, .f32⟩
  | .hbm, ⟨25, _⟩ => ⟨S736x128, .f32⟩
  | .hbm, ⟨26, _⟩ => ⟨S_, .f32⟩
  | .hbm, ⟨27, _⟩ => ⟨S736x128, .f32⟩
  | .hbm, ⟨28, _⟩ => ⟨S736x128, .f32⟩
  | .hbm, ⟨29, _⟩ => ⟨S736x128, .f32⟩
  | .hbm, ⟨30, _⟩ => ⟨S_, .f32⟩
  | .hbm, ⟨31, _⟩ => ⟨S736x128, .f32⟩
  | .hbm, ⟨32, _⟩ => ⟨S736x128, .f32⟩
  | .hbm, ⟨33, _⟩ => ⟨S736x128, .f32⟩
  | .hbm, ⟨34, _⟩ => ⟨S_, .f32⟩
  | .hbm, ⟨35, _⟩ => ⟨S736x128, .f32⟩
  | .hbm, ⟨36, _⟩ => ⟨S736x128, .f32⟩
  | _, _ => ⟨S736x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== FoxPost.lean ====
abbrev S8192x128 : Shape := ⟨2, ![8192, 128]⟩
abbrev S8192x3072 : Shape := ⟨2, ![8192, 3072]⟩
abbrev S1x128 : Shape := ⟨2, ![1, 128]⟩
abbrev S256x128 : Shape := ⟨2, ![256, 128]⟩
abbrev S8x128 : Shape := ⟨2, ![8, 128]⟩
abbrev S128 : Shape := ⟨1, ![128]⟩

abbrev nBuf : Space → Nat
  | .hbm => 5
  | .vmem => 9
  | .smem => 0
  | _ => 0

abbrev bufTy : (tb : Table) → Fin (tcTables nBuf tb) → BufTy
  | .hbm, ⟨0, _⟩ => ⟨S8192x128, .f32⟩
  | .hbm, ⟨1, _⟩ => ⟨S8192x3072, .f32⟩
  | .hbm, ⟨2, _⟩ => ⟨S1x128, .f32⟩
  | .hbm, ⟨3, _⟩ => ⟨S8192x128, .f32⟩
  | .hbm, ⟨4, _⟩ => ⟨S1x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S1x128, .f32⟩
  | .local _ .vmem, ⟨5, _⟩ => ⟨S256x128, .f32⟩
  | .local _ .vmem, ⟨6, _⟩ => ⟨S256x128, .f32⟩
  | .local _ .vmem, ⟨7, _⟩ => ⟨S1x128, .f32⟩
  | .local _ .vmem, ⟨8, _⟩ => ⟨S8x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c22_i32 : BitVec 32 := 22#32
  let c0_i32 : BitVec 32 := 0#32
  ![v0.toNat, c22_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== FoxPostRefIdeal.lean ====
abbrev S8192x128 : Shape := ⟨2, ![8192, 128]⟩
abbrev S8192x3072 : Shape := ⟨2, ![8192, 3072]⟩
abbrev S1x128 : Shape := ⟨2, ![1, 128]⟩
abbrev S8192x4 : Shape := ⟨2, ![8192, 4]⟩
abbrev S1x4 : Shape := ⟨2, ![1, 4]⟩
abbrev S_ : Shape := ⟨0, ![]⟩
abbrev S4 : Shape := ⟨1, ![4]⟩

abbrev nBuf : Space → Nat
  | .hbm => 74
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x3072, .f32⟩
  | .hbm, ⟨2, _⟩ => ⟨S1x128, .f32⟩
  | .hbm, ⟨3, _⟩ => ⟨S8192x4, .f32⟩
  | .hbm, ⟨4, _⟩ => ⟨S1x4, .f32⟩
  | .hbm, ⟨5, _⟩ => ⟨S8192x4, .f32⟩
  | .hbm, ⟨6, _⟩ => ⟨S8192x4, .f32⟩
  | .hbm, ⟨7, _⟩ => ⟨S8192x4, .f32⟩
  | .hbm, ⟨8, _⟩ => ⟨S_, .f32⟩
  | .hbm, ⟨9, _⟩ => ⟨S8192x4, .f32⟩
  | .hbm, ⟨10, _⟩ => ⟨S8192x4, .f32⟩
  | .hbm, ⟨11, _⟩ => ⟨S8192x4, .f32⟩
  | .hbm, ⟨12, _⟩ => ⟨S8192x4, .f32⟩
  | .hbm, ⟨13, _⟩ => ⟨S8192x4, .i1⟩
  | .hbm, ⟨14, _⟩ => ⟨S8192x4, .f32⟩
  | .hbm, ⟨15, _⟩ => ⟨S8192x4, .f32⟩
  | .hbm, ⟨16, _⟩ => ⟨S8192x4, .f32⟩
  | .hbm, ⟨17, _⟩ => ⟨S8192x4, .f32⟩
  | .hbm, ⟨18, _⟩ => ⟨S8192x4, .f32⟩
  | .hbm, ⟨19, _⟩ => ⟨S8192x4, .f32⟩
  | .hbm, ⟨20, _⟩ => ⟨S8192x4, .f32⟩
  | .hbm, ⟨21, _⟩ => ⟨S8192x4, .f32⟩
  | .hbm, ⟨22, _⟩ => ⟨S_, .f32⟩
  | .hbm, ⟨23, _⟩ => ⟨S8192x4, .f32⟩
  | .hbm, ⟨24, _⟩ => ⟨S8192x4, .i1⟩
  | .hbm, ⟨25, _⟩ => ⟨S_, .f32⟩
  | .hbm, ⟨26, _⟩ => ⟨S8192x4, .f32⟩
  | .hbm, ⟨27, _⟩ => ⟨S8192x4, .f32⟩
  | .hbm, ⟨28, _⟩ => ⟨S_, .f32⟩
  | .hbm, ⟨29, _⟩ => ⟨S8192x4, .f32⟩
  | .hbm, ⟨30, _⟩ => ⟨S8192x4, .i1⟩
  | .hbm, ⟨31, _⟩ => ⟨S_, .f32⟩
  | .hbm, ⟨32, _⟩ => ⟨S8192x4, .f32⟩
  | .hbm, ⟨33, _⟩ => ⟨S8192x4, .f32⟩
  | .hbm, ⟨34, _⟩ => ⟨S8192x4, .f32⟩
  | .hbm, ⟨35, _⟩ => ⟨S8192x4, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8192x4, .f32⟩
  | .hbm, ⟨44, _⟩ => ⟨S8192x4, .i1⟩
  | .hbm, ⟨45, _⟩ => ⟨S_, .f32⟩
  | .hbm, ⟨46, _⟩ => ⟨S8192x4, .f32⟩
  | .hbm, ⟨47, _⟩ => ⟨S8192x4, .f32⟩
  | .hbm, ⟨48, _⟩ => ⟨S8192x4, .f32⟩
  | .hbm, ⟨49, _⟩ => ⟨S8192x4, .f32⟩
  | .hbm, ⟨50, _⟩ => ⟨S8192x4, .f32⟩
  | .hbm, ⟨51, _⟩ => ⟨S_, .f32⟩
  | .hbm, ⟨52, _⟩ => ⟨S8192x4, .f32⟩
  | .hbm, ⟨53, _⟩ => ⟨S8192x4, .f32⟩
  | .hbm, ⟨54, _⟩ => ⟨S8192x4, .f32⟩
  | .hbm, ⟨55, _⟩ => ⟨S_, .f32⟩
  | .hbm, ⟨56, _⟩ => ⟨S_, .f32⟩
  | .hbm, ⟨57, _⟩ => ⟨S8192x4, .f32⟩
  | .hbm, ⟨58, _⟩ => ⟨S8192x4, .f32⟩
  | .hbm, ⟨59, _⟩ => ⟨S_, .f32⟩
  | .hbm, ⟨60, _⟩ => ⟨S_, .f32⟩
  | .hbm, ⟨61, _⟩ => ⟨S8192x4, .f32⟩
  | .hbm, ⟨62, _⟩ => ⟨S8192x4, .f32⟩
  | .hbm, ⟨63, _⟩ => ⟨S8192x4, .f32⟩
  | .hbm, ⟨64, _⟩ => ⟨S8192x4, .f32⟩
  | .hbm, ⟨65, _⟩ => ⟨S_, .f32⟩
  | .hbm, ⟨66, _⟩ => ⟨S4, .f32⟩
  | .hbm, ⟨67, _⟩ => ⟨S1x4, .f32⟩
  | .hbm, ⟨68, _⟩ => ⟨S_, .i32⟩
  | .hbm, ⟨69, _⟩ => ⟨S_, .f32⟩
  | .hbm, ⟨70, _⟩ => ⟨S8192x128, .f32⟩
  | .hbm, ⟨71, _⟩ => ⟨S_, .i32⟩
  | .hbm, ⟨72, _⟩ => ⟨S_, .f32⟩
  | .hbm, ⟨73, _⟩ => ⟨S1x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1_0 : Ref sig .tc := ⟨.hbm, 21, rfl⟩
abbrev main_call0_call0_cst_0 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst_1 : Ref sig .tc := ⟨.hbm, 25, rfl⟩
abbrev main_call0_call0_v15 : Ref sig .tc := ⟨.hbm, 26, rfl⟩
abbrev main_call0_call0_v16 : Ref sig .tc := ⟨.hbm, 27, rfl⟩
abbrev main_call0_call0_cst_2 : Ref sig .tc := ⟨.hbm, 28, rfl⟩
abbrev main_call0_call0_v17 : Ref sig .tc := ⟨.hbm, 29, rfl⟩
abbrev main_call0_call0_v18 : Ref sig .tc := ⟨.hbm, 30, rfl⟩
abbrev main_call0_call0_cst_3 : Ref sig .tc := ⟨.hbm, 31, rfl⟩
abbrev main_call0_call0_v19 : Ref sig .tc := ⟨.hbm, 32, rfl⟩
abbrev main_call0_call0_v20 : Ref sig .tc := ⟨.hbm, 33, rfl⟩
abbrev main_call0_call0_v21 : Ref sig .tc := ⟨.hbm, 34, rfl⟩
abbrev main_v4_1 : Ref sig .tc := ⟨.hbm, 35, rfl⟩
abbrev main_call0_call0_cst_4 : Ref sig .tc := ⟨.hbm, 36, rfl⟩
abbrev main_call0_call0_cst_5 : Ref sig .tc := ⟨.hbm, 37, rfl⟩
abbrev main_call0_call0_v23 : Ref sig .tc := ⟨.hbm, 38, rfl⟩
abbrev main_call0_call0_cst_6 : Ref sig .tc := ⟨.hbm, 39, rfl⟩
abbrev main_call0_call0_cst_7 : Ref sig .tc := ⟨.hbm, 40, rfl⟩
abbrev main_call0_call0_v24 : Ref sig .tc := ⟨.hbm, 41, rfl⟩
abbrev main_call0_call0_cst_8 : Ref sig .tc := ⟨.hbm, 42, rfl⟩
abbrev main_call0_call0_v25 : Ref sig .tc := ⟨.hbm, 43, rfl⟩
abbrev main_call0_call0_v26 : Ref sig .tc := ⟨.hbm, 44, rfl⟩
abbrev main_call0_call0_cst_9 : Ref sig .tc := ⟨.hbm, 45, rfl⟩
abbrev main_call0_call0_v27 : Ref sig .tc := ⟨.hbm, 46, rfl⟩
abbrev main_call0_call0_v28 : Ref sig .tc := ⟨.hbm, 47, rfl⟩
abbrev main_call0_call0_v29 : Ref sig .tc := ⟨.hbm, 48, rfl⟩
abbrev main_call0_call0_v30 : Ref sig .tc := ⟨.hbm, 49, rfl⟩
abbrev main_call0_call0_v31 : Ref sig .tc := ⟨.hbm, 50, rfl⟩
abbrev main_call0_call0_cst_10 : Ref sig .tc := ⟨.hbm, 51, rfl⟩
abbrev main_call0_call0_v32 : Ref sig .tc := ⟨.hbm, 52, rfl⟩
abbrev main_v4_2 : Ref sig .tc := ⟨.hbm, 53, rfl⟩
abbrev main_v4_0 : Ref sig .tc := ⟨.hbm, 54, rfl⟩
abbrev main_call1_call0_cst : Ref sig .tc := ⟨.hbm, 55, rfl⟩
abbrev main_call1_call0_v0 : Ref sig .tc := ⟨.hbm, 56, rfl⟩
abbrev main_v5 : Ref sig .tc := ⟨.hbm, 57, rfl⟩
abbrev main_v6 : Ref sig .tc := ⟨.hbm, 58, rfl⟩
abbrev main_call2_call0_cst : Ref sig .tc := ⟨.hbm, 59, rfl⟩
abbrev main_call2_call0_v0 : Ref sig .tc := ⟨.hbm, 60, rfl⟩
abbrev main_v7 : Ref sig .tc := ⟨.hbm, 61, rfl⟩
abbrev main_call3_v0 : Ref sig .tc := ⟨.hbm, 62, rfl⟩
abbrev main_call3_v1 : Ref sig .tc := ⟨.hbm, 63, rfl⟩
abbrev main_v8 : Ref sig .tc := ⟨.hbm, 64, rfl⟩
abbrev main_cst : Ref sig .tc := ⟨.hbm, 65, rfl⟩
abbrev main_v9 : Ref sig .tc := ⟨.hbm, 66, rfl⟩
abbrev main_v10 : Ref sig .tc := ⟨.hbm, 67, rfl⟩
abbrev main_c : Ref sig .tc := ⟨.hbm, 68, rfl⟩
abbrev main_call4_v0 : Ref sig .tc := ⟨.hbm, 69, rfl⟩
abbrev main_v11 : Ref sig .tc := ⟨.hbm, 70, rfl⟩
abbrev main_c_0 : Ref sig .tc := ⟨.hbm, 71, rfl⟩
abbrev main_call5_v0 : Ref sig .tc := ⟨.hbm, 72, rfl⟩
abbrev main_v12 : Ref sig .tc := ⟨.hbm, 73, rfl⟩

abbrev nD : Nat := 1
abbrev τ : Topo := Topo.v7x

variable {F : FTy → Type} [FloatOps F]
-- ==== FoxDelta.lean ====
abbrev S8192x1024 : Shape := ⟨2, ![8192, 1024]⟩
abbrev S8192x256 : Shape := ⟨2, ![8192, 256]⟩
abbrev S8192x128 : Shape := ⟨2, ![8192, 128]⟩
abbrev S512x256 : Shape := ⟨2, ![512, 256]⟩
abbrev S512x128 : Shape := ⟨2, ![512, 128]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x128, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x128, .f32⟩
  | .local _ .vmem, ⟨5, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FoxDeltaRefIdeal.lean ====
abbrev S8192x1024 : Shape := ⟨2, ![8192, 1024]⟩
abbrev S8192x256 : Shape := ⟨2, ![8192, 256]⟩
abbrev S8192x4x64 : Shape := ⟨3, ![8192, 4, 64]⟩
abbrev S_ : Shape := ⟨0, ![]⟩
abbrev S8192x4 : Shape := ⟨2, ![8192, 4]⟩
abbrev S8192x128 : Shape := ⟨2, ![8192, 128]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S8192x4x64, .f32⟩
  | .hbm, ⟨4, _⟩ => ⟨S8192x4x64, .f32⟩
  | .hbm, ⟨5, _⟩ => ⟨S8192x4x64, .f32⟩
  | .hbm, ⟨6, _⟩ => ⟨S_, .f32⟩
  | .hbm, ⟨7, _⟩ => ⟨S8192x4, .f32⟩
  | .hbm, ⟨8, _⟩ => ⟨S_, .i32⟩
  | .hbm, ⟨9, _⟩ => ⟨S_, .f32⟩
  | .hbm, ⟨10, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Loss.lean ====
abbrev S8192x1024 : Shape := ⟨2, ![8192, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S8192x1024 : Shape := ⟨2, ![8192, 1024]⟩
abbrev S_ : Shape := ⟨0, ![]⟩
abbrev S8192 : Shape := ⟨1, ![8192]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S1x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== SumCoresUp.lean ====
abbrev S4x1024x768 : Shape := ⟨3, ![4, 1024, 768]⟩
abbrev S4096x768 : Shape := ⟨2, ![4096, 768]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S4x1024x768, .bf16⟩
  | .hbm, ⟨1, _⟩ => ⟨S4x1024x768, .bf16⟩
  | .hbm, ⟨2, _⟩ => ⟨S4096x768, .bf16⟩
  | .hbm, ⟨3, _⟩ => ⟨S4096x768, .bf16⟩
  | .hbm, ⟨4, _⟩ => ⟨S4096x768, .bf16⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | _, _ => ⟨S4x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumCoresUpIdeal.lean ====
abbrev S4x1024x768 : Shape := ⟨3, ![4, 1024, 768]⟩
abbrev S4096x768 : Shape := ⟨2, ![4096, 768]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S4x1024x768, .bf16⟩
  | .hbm, ⟨1, _⟩ => ⟨S4x1024x768, .bf16⟩
  | .hbm, ⟨2, _⟩ => ⟨S4096x768, .bf16⟩
  | .hbm, ⟨3, _⟩ => ⟨S4096x768, .bf16⟩
  | .hbm, ⟨4, _⟩ => ⟨S4096x768, .bf16⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | _, _ => ⟨S4x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumCoresUpRefIdeal.lean ====
abbrev S4x1024x768 : Shape := ⟨3, ![4, 1024, 768]⟩
abbrev S4096x768 : Shape := ⟨2, ![4096, 768]⟩

abbrev nBuf : Space → Nat
  | .hbm => 7
  | .vmem => 0
  | .smem => 0
  | _ => 0

abbrev bufTy : (tb : Table) → Fin (tcTables nBuf tb) → BufTy
  | .hbm, ⟨0, _⟩ => ⟨S4x1024x768, .bf16⟩
  | .hbm, ⟨1, _⟩ => ⟨S4x1024x768, .bf16⟩
  | .hbm, ⟨2, _⟩ => ⟨S4x1024x768, .f32⟩
  | .hbm, ⟨3, _⟩ => ⟨S4x1024x768, .f32⟩
  | .hbm, ⟨4, _⟩ => ⟨S4x1024x768, .f32⟩
  | .hbm, ⟨5, _⟩ => ⟨S4x1024x768, .bf16⟩
  | .hbm, ⟨6, _⟩ => ⟨S4096x768, .bf16⟩
  | _, _ => ⟨S4x1024x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== SumChipsUp.lean ====
abbrev S4x1024x768 : Shape := ⟨3, ![4, 1024, 768]⟩
abbrev S1024x768 : Shape := ⟨2, ![1024, 768]⟩
abbrev S1x1024x768 : Shape := ⟨3, ![1, 1024, 768]⟩

abbrev nBuf : Space → Nat
  | .hbm => 2
  | .vmem => 2
  | .smem => 0
  | _ => 0

abbrev bufTy : (tb : Table) → Fin (tcTables nBuf tb) → BufTy
  | .hbm, ⟨0, _⟩ => ⟨S4x1024x768, .bf16⟩
  | .hbm, ⟨1, _⟩ => ⟨S1024x768, .f32⟩
  | .local _ .vmem, ⟨0, _⟩ => ⟨S4x1024x768, .bf16⟩
  | .local _ .vmem, ⟨1, _⟩ => ⟨S1024x768, .f32⟩
  | _, _ => ⟨S4x1024x768, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumChipsUpIdeal.lean ====
abbrev S4x1024x768 : Shape := ⟨3, ![4, 1024, 768]⟩
abbrev S1024x768 : Shape := ⟨2, ![1024, 768]⟩
abbrev S1x1024x768 : Shape := ⟨3, ![1, 1024, 768]⟩

abbrev nBuf : Space → Nat
  | .hbm => 2
  | .vmem => 2
  | .smem => 0
  | _ => 0

abbrev bufTy : (tb : Table) → Fin (tcTables nBuf tb) → BufTy
  | .hbm, ⟨0, _⟩ => ⟨S4x1024x768, .bf16⟩
  | .hbm, ⟨1, _⟩ => ⟨S1024x768, .f32⟩
  | .local _ .vmem, ⟨0, _⟩ => ⟨S4x1024x768, .bf16⟩
  | .local _ .vmem, ⟨1, _⟩ => ⟨S1024x768, .f32⟩
  | _, _ => ⟨S4x1024x768, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumChipsUpRefIdeal.lean ====
abbrev S4x1024x768 : Shape := ⟨3, ![4, 1024, 768]⟩
abbrev S_ : Shape := ⟨0, ![]⟩
abbrev S1024x768 : Shape := ⟨2, ![1024, 768]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x768, .bf16⟩
  | .hbm, ⟨1, _⟩ => ⟨S4x1024x768, .f32⟩
  | .hbm, ⟨2, _⟩ => ⟨S_, .f32⟩
  | .hbm, ⟨3, _⟩ => ⟨S1024x768, .f32⟩
  | _, _ => ⟨S4x1024x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumCoresDown.lean ====
abbrev S4x768x1024 : Shape := ⟨3, ![4, 768, 1024]⟩
abbrev S3072x1024 : Shape := ⟨2, ![3072, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4x768x1024, .bf16⟩
  | .hbm, ⟨1, _⟩ => ⟨S4x768x1024, .bf16⟩
  | .hbm, ⟨2, _⟩ => ⟨S3072x1024, .bf16⟩
  | .hbm, ⟨3, _⟩ => ⟨S3072x1024, .bf16⟩
  | .hbm, ⟨4, _⟩ => ⟨S3072x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4x768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumCoresDownIdeal.lean ====
abbrev S4x768x1024 : Shape := ⟨3, ![4, 768, 1024]⟩
abbrev S3072x1024 : Shape := ⟨2, ![3072, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4x768x1024, .bf16⟩
  | .hbm, ⟨1, _⟩ => ⟨S4x768x1024, .bf16⟩
  | .hbm, ⟨2, _⟩ => ⟨S3072x1024, .bf16⟩
  | .hbm, ⟨3, _⟩ => ⟨S3072x1024, .bf16⟩
  | .hbm, ⟨4, _⟩ => ⟨S3072x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4x768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumCoresDownRefIdeal.lean ====
abbrev S4x768x1024 : Shape := ⟨3, ![4, 768, 1024]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x768x1024, .bf16⟩
  | .hbm, ⟨1, _⟩ => ⟨S4x768x1024, .bf16⟩
  | .hbm, ⟨2, _⟩ => ⟨S4x768x1024, .f32⟩
  | .hbm, ⟨3, _⟩ => ⟨S4x768x1024, .f32⟩
  | .hbm, ⟨4, _⟩ => ⟨S4x768x1024, .f32⟩
  | .hbm, ⟨5, _⟩ => ⟨S4x768x1024, .bf16⟩
  | .hbm, ⟨6, _⟩ => ⟨S3072x1024, .bf16⟩
  | _, _ => ⟨S4x768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== SumChipsDown.lean ====
abbrev S4x768x1024 : Shape := ⟨3, ![4, 768, 1024]⟩
abbrev S768x1024 : Shape := ⟨2, ![768, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x768x1024, .bf16⟩
  | .hbm, ⟨1, _⟩ => ⟨S768x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S256x1024, .f32⟩
  | .local _ .vmem, ⟨3, _⟩ => ⟨S256x1024, .f32⟩
  | _, _ => ⟨S4x768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumChipsDownIdeal.lean ====
abbrev S4x768x1024 : Shape := ⟨3, ![4, 768, 1024]⟩
abbrev S768x1024 : Shape := ⟨2, ![768, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x768x1024, .bf16⟩
  | .hbm, ⟨1, _⟩ => ⟨S768x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S256x1024, .f32⟩
  | .local _ .vmem, ⟨3, _⟩ => ⟨S256x1024, .f32⟩
  | _, _ => ⟨S4x768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumChipsDownRefIdeal.lean ====
abbrev S4x768x1024 : Shape := ⟨3, ![4, 768, 1024]⟩
abbrev S_ : Shape := ⟨0, ![]⟩
abbrev S768x1024 : Shape := ⟨2, ![768, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x768x1024, .bf16⟩
  | .hbm, ⟨1, _⟩ => ⟨S4x768x1024, .f32⟩
  | .hbm, ⟨2, _⟩ => ⟨S_, .f32⟩
  | .hbm, ⟨3, _⟩ => ⟨S768x1024, .f32⟩
  | _, _ => ⟨S4x768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumCoresOut.lean ====
abbrev S4x256x1024 : Shape := ⟨3, ![4, 256, 1024]⟩
abbrev S1024x1024 : Shape := ⟨2, ![1024, 1024]⟩

abbrev nBuf : Space → Nat
  | .hbm => 5
  | .vmem => 3
  | .smem => 0
  | _ => 0

abbrev bufTy : (tb : Table) → Fin (tcTables nBuf tb) → BufTy
  | .hbm, ⟨0, _⟩ => ⟨S4x256x1024, .bf16⟩
  | .hbm, ⟨1, _⟩ => ⟨S4x256x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumCoresOutIdeal.lean ====
abbrev S4x256x1024 : Shape := ⟨3, ![4, 256, 1024]⟩
abbrev S1024x1024 : Shape := ⟨2, ![1024, 1024]⟩

abbrev nBuf : Space → Nat
  | .hbm => 5
  | .vmem => 3
  | .smem => 0
  | _ => 0

abbrev bufTy : (tb : Table) → Fin (tcTables nBuf tb) → BufTy
  | .hbm, ⟨0, _⟩ => ⟨S4x256x1024, .bf16⟩
  | .hbm, ⟨1, _⟩ => ⟨S4x256x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumCoresOutRefIdeal.lean ====
abbrev S4x256x1024 : Shape := ⟨3, ![4, 256, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S4x256x1024, .bf16⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .bf16⟩
  | .hbm, ⟨6, _⟩ => ⟨S1024x1024, .bf16⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== SumChipsOut.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x256x1024, .bf16⟩
  | .hbm, ⟨1, _⟩ => ⟨S256x1024, .f32⟩
  | .local _ .vmem, ⟨0, _⟩ => ⟨S4x256x1024, .bf16⟩
  | .local _ .vmem, ⟨1, _⟩ => ⟨S256x1024, .f32⟩
  | _, _ => ⟨S4x256x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumChipsOutIdeal.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x256x1024, .bf16⟩
  | .hbm, ⟨1, _⟩ => ⟨S256x1024, .f32⟩
  | .local _ .vmem, ⟨0, _⟩ => ⟨S4x256x1024, .bf16⟩
  | .local _ .vmem, ⟨1, _⟩ => ⟨S256x1024, .f32⟩
  | _, _ => ⟨S4x256x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumChipsOutRefIdeal.lean ====
abbrev S4x256x1024 : Shape := ⟨3, ![4, 256, 1024]⟩
abbrev S_ : Shape := ⟨0, ![]⟩
abbrev S256x1024 : Shape := ⟨2, ![256, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S4x256x1024, .f32⟩
  | .hbm, ⟨2, _⟩ => ⟨S_, .f32⟩
  | .hbm, ⟨3, _⟩ => ⟨S256x1024, .f32⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumCoresProj.lean ====
abbrev S4x256x256 : Shape := ⟨3, ![4, 256, 256]⟩
abbrev S1024x256 : Shape := ⟨2, ![1024, 256]⟩

abbrev nBuf : Space → Nat
  | .hbm => 5
  | .vmem => 3
  | .smem => 0
  | _ => 0

abbrev bufTy : (tb : Table) → Fin (tcTables nBuf tb) → BufTy
  | .hbm, ⟨0, _⟩ => ⟨S4x256x256, .bf16⟩
  | .hbm, ⟨1, _⟩ => ⟨S4x256x256, .bf16⟩
  | .hbm, ⟨2, _⟩ => ⟨S1024x256, .bf16⟩
  | .hbm, ⟨3, _⟩ => ⟨S1024x256, .bf16⟩
  | .hbm, ⟨4, _⟩ => ⟨S1024x256, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | _, _ => ⟨S4x256x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumCoresProjRefIdeal.lean ====
abbrev S4x256x256 : Shape := ⟨3, ![4, 256, 256]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S4x256x256, .bf16⟩
  | .hbm, ⟨1, _⟩ => ⟨S4x256x256, .bf16⟩
  | .hbm, ⟨2, _⟩ => ⟨S4x256x256, .f32⟩
  | .hbm, ⟨3, _⟩ => ⟨S4x256x256, .f32⟩
  | .hbm, ⟨4, _⟩ => ⟨S4x256x256, .f32⟩
  | .hbm, ⟨5, _⟩ => ⟨S4x256x256, .bf16⟩
  | .hbm, ⟨6, _⟩ => ⟨S1024x256, .bf16⟩
  | _, _ => ⟨S4x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== SumChipsProj.lean ====
abbrev S4x256x256 : Shape := ⟨3, ![4, 256, 256]⟩
abbrev S256x256 : Shape := ⟨2, ![256, 256]⟩
abbrev S1x256x256 : Shape := ⟨3, ![1, 256, 256]⟩

abbrev nBuf : Space → Nat
  | .hbm => 2
  | .vmem => 2
  | .smem => 0
  | _ => 0

abbrev bufTy : (tb : Table) → Fin (tcTables nBuf tb) → BufTy
  | .hbm, ⟨0, _⟩ => ⟨S4x256x256, .bf16⟩
  | .hbm, ⟨1, _⟩ => ⟨S256x256, .f32⟩
  | .local _ .vmem, ⟨0, _⟩ => ⟨S4x256x256, .bf16⟩
  | .local _ .vmem, ⟨1, _⟩ => ⟨S256x256, .f32⟩
  | _, _ => ⟨S4x256x256, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumChipsProjRefIdeal.lean ====
abbrev S4x256x256 : Shape := ⟨3, ![4, 256, 256]⟩
abbrev S_ : Shape := ⟨0, ![]⟩
abbrev S256x256 : Shape := ⟨2, ![256, 256]⟩

abbrev nBuf : Space → Nat
  | .hbm => 4
  | .vmem => 0
  | .smem => 0
  | _ => 0

abbrev bufTy : (tb : Table) → Fin (tcTables nBuf tb) → BufTy
  | .hbm, ⟨0, _⟩ => ⟨S4x256x256, .bf16⟩
  | .hbm, ⟨1, _⟩ => ⟨S4x256x256, .f32⟩
  | .hbm, ⟨2, _⟩ => ⟨S_, .f32⟩
  | .hbm, ⟨3, _⟩ => ⟨S256x256, .f32⟩
  | _, _ => ⟨S4x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumDevices.lean ====
abbrev S8x792x128 : Shape := ⟨3, ![8, 792, 128]⟩
abbrev S792x128 : Shape := ⟨2, ![792, 128]⟩
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x792x128, .f32⟩
  | .hbm, ⟨1, _⟩ => ⟨S792x128, .f32⟩
  | .local _ .vmem, ⟨0, _⟩ => ⟨S8x8x128, .f32⟩
  | .local _ .vmem, ⟨1, _⟩ => ⟨S8x8x128, .f32⟩
  | .local _ .vmem, ⟨2, _⟩ => ⟨S8x128, .f32⟩
  | .local _ .vmem, ⟨3, _⟩ => ⟨S8x128, .f32⟩
  | _, _ => ⟨S8x792x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![99], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumDevicesRefIdeal.lean ====
abbrev S8x792x128 : Shape := ⟨3, ![8, 792, 128]⟩
abbrev S_ : Shape := ⟨0, ![]⟩
abbrev S792x128 : Shape := ⟨2, ![792, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x792x128, .f32⟩
  | .hbm, ⟨1, _⟩ => ⟨S_, .f32⟩
  | .hbm, ⟨2, _⟩ => ⟨S792x128, .f32⟩
  | _, _ => ⟨S8x792x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Assemble.lean ====
abbrev S8192x1024 : Shape := ⟨2, ![8192, 1024]⟩
abbrev S8192x512 : Shape := ⟨2, ![8192, 512]⟩
abbrev S8192x256 : Shape := ⟨2, ![8192, 256]⟩
abbrev S256x8192 : Shape := ⟨2, ![256, 8192]⟩
abbrev S8192x128 : Shape := ⟨2, ![8192, 128]⟩
abbrev S8192x3072 : Shape := ⟨2, ![8192, 3072]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S512x3072 : Shape := ⟨2, ![512, 3072]⟩

abbrev nBuf : Space → Nat
  | .hbm => 12
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x256, .bf16⟩
  | .hbm, ⟨3, _⟩ => ⟨S8192x256, .bf16⟩
  | .hbm, ⟨4, _⟩ => ⟨S256x8192, .f32⟩
  | .hbm, ⟨5, _⟩ => ⟨S8192x256, .bf16⟩
  | .hbm, ⟨6, _⟩ => ⟨S8192x256, .bf16⟩
  | .hbm, ⟨7, _⟩ => ⟨S8192x128, .f32⟩
  | .hbm, ⟨8, _⟩ => ⟨S8192x128, .f32⟩
  | .hbm, ⟨9, _⟩ => ⟨S8192x256, .f32⟩
  | .hbm, ⟨10, _⟩ => ⟨S8192x128, .f32⟩
  | .hbm, ⟨11, _⟩ => ⟨S8192x3072, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .f32⟩
  | .local _ .vmem, ⟨9, _⟩ => ⟨S512x256, .f32⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x128, .f32⟩
  | .local _ .vmem, ⟨15, _⟩ => ⟨S512x128, .f32⟩
  | .local _ .vmem, ⟨16, _⟩ => ⟨S512x3072, .bf16⟩
  | .local _ .vmem, ⟨17, _⟩ => ⟨S512x3072, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AssembleRefIdeal.lean ====
abbrev S8192x1024 : Shape := ⟨2, ![8192, 1024]⟩
abbrev S8192x512 : Shape := ⟨2, ![8192, 512]⟩
abbrev S8192x256 : Shape := ⟨2, ![8192, 256]⟩
abbrev S256x8192 : Shape := ⟨2, ![256, 8192]⟩
abbrev S8192x128 : Shape := ⟨2, ![8192, 128]⟩
abbrev S8192x2944 : Shape := ⟨2, ![8192, 2944]⟩
abbrev S_ : Shape := ⟨0, ![]⟩
abbrev S8192x3072 : Shape := ⟨2, ![8192, 3072]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x256, .bf16⟩
  | .hbm, ⟨3, _⟩ => ⟨S8192x256, .bf16⟩
  | .hbm, ⟨4, _⟩ => ⟨S256x8192, .f32⟩
  | .hbm, ⟨5, _⟩ => ⟨S8192x256, .bf16⟩
  | .hbm, ⟨6, _⟩ => ⟨S8192x256, .bf16⟩
  | .hbm, ⟨7, _⟩ => ⟨S8192x128, .f32⟩
  | .hbm, ⟨8, _⟩ => ⟨S8192x128, .f32⟩
  | .hbm, ⟨9, _⟩ => ⟨S8192x256, .f32⟩
  | .hbm, ⟨10, _⟩ => ⟨S8192x128, .f32⟩
  | .hbm, ⟨11, _⟩ => ⟨S8192x1024, .f32⟩
  | .hbm, ⟨12, _⟩ => ⟨S8192x512, .f32⟩
  | .hbm, ⟨13, _⟩ => ⟨S8192x256, .f32⟩
  | .hbm, ⟨14, _⟩ => ⟨S8192x256, .f32⟩
  | .hbm, ⟨15, _⟩ => ⟨S8192x256, .f32⟩
  | .hbm, ⟨16, _⟩ => ⟨S8192x256, .f32⟩
  | .hbm, ⟨17, _⟩ => ⟨S8192x2944, .f32⟩
  | .hbm, ⟨18, _⟩ => ⟨S_, .i32⟩
  | .hbm, ⟨19, _⟩ => ⟨S_, .f32⟩
  | .hbm, ⟨20, _⟩ => ⟨S8192x3072, .f32⟩
  | .hbm, ⟨21, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== Proof.Finite.lean ====
/-
  Finite extended reals. The value claims assume that the argument arrays hold no infinity; here that
  assumption is read off the printed predicate (`|x| < ∞` element by element), and the operations that the
  kernels and the references share are shown to be the real ones at finite operands.
-/
module

public import Idealize.ShloMosaic.PureOps.Ideal
public import Idealize.ShloMosaic.Lib.Pointwise

@[expose] public section

noncomputable section

namespace Cert.Proof

open Idealize.ShloMosaic
open scoped BigOperators

/-- Every element of an array is a real number. -/
def AllReal {ι : Type} (f : ι → EReal) : Prop := ∃ r : ι → ℝ, f = fun i => (r i : EReal)

/-- The f32 pattern of positive infinity is the top element. -/
theorem ofBits_inf : Ideal.ofBits .f32 0x7F800000#32 = ⊤ := by simp [Ideal.ofBits, Ideal.ieee]
/-- The f32 pattern of one half. -/
theorem ofBits_half : Ideal.ofBits .f32 0x3F000000#32 = ((1 / 2 : ℝ) : EReal) := by
  simp [Ideal.ofBits, Ideal.ieee, -EReal.coe_mul]; norm_num
/-- The f32 pattern of one. -/
theorem ofBits_one : Ideal.ofBits .f32 0x3F800000#32 = ((1 : ℝ) : EReal) := by
  simp [Ideal.ofBits, Ideal.ieee, -EReal.coe_mul]; norm_num
/-- The f32 pattern of zero. -/
theorem ofBits_zero : Ideal.ofBits .f32 0x00000000#32 = ((0 : ℝ) : EReal) := by
  simp [Ideal.ofBits, Ideal.ieee]

/-- An element whose magnitude is below infinity is a real number. -/
theorem real_of_abs_lt {x : EReal} (h : max x (-x) < ⊤) : ∃ r : ℝ, x = r := by
  induction x using EReal.rec with
  | bot => simp at h
  | top => simp at h
  | coe r => exact ⟨r, rfl⟩

/-- The same, from the comparison's bit. -/
theorem real_of_bit {x : EReal} (h : Ideal.cmp .olt (max x (-x)) (Ideal.ofBits .f32 0x7F800000#32) = 1#1) :
    ∃ r : ℝ, x = r := by
  rw [ofBits_inf] at h
  refine real_of_abs_lt ?_
  by_contra hn
  simp [Ideal.cmp, hn] at h

/-- An array each of whose comparison bits is set holds reals. -/
theorem allReal_of_bits {ι : Type} {f : ι → EReal} {b : ι → BitVec 1}
    (hb : ∀ i, b i = Ideal.cmp .olt (max (f i) (-(f i))) (Ideal.ofBits .f32 0x7F800000#32)) (h : b = fun _ => 1#1) :
    AllReal f := by
  have hr : ∀ i, ∃ r : ℝ, f i = r := fun i => real_of_bit ((hb i).symm.trans (congrFun h i))
  choose r hr using hr
  exact ⟨r, funext hr⟩

/-- A sum of reals is the real sum. -/
theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A real quotient with a divisor other than zero. -/
theorem div_coe (a : ℝ) {b : ℝ} (hb : b ≠ 0) : Ideal.div (a : EReal) (b : EReal) = ((a / b : ℝ) : EReal) := by
  rw [Ideal.div, if_neg (by simpa using hb), ← EReal.coe_inv, ← EReal.coe_mul, div_eq_mul_inv]

end Cert.Proof

end
-- ==== Proof.FfnAct.lean ====
/-
  The gradient of the feed-forward block's activation: from the cotangent `dr` of the block's output, the second
  weight `wd` and the two input products `g` and `u` that the forward pass saved, the cotangents `dg` and `du`.
  Here: what each grid point of the kernel writes is its block of one function of the arrays (`arr4`, `arr5`), and
  on finite arrays that function is the vector-Jacobian product of `(silu g * u) wd / 2` (`ref15`, `ref16`).
-/
module

public import proofs.«01_k».proof.Defs
public import proofs.«01_k».proof.Proof.Gen.FfnActIdeal.Value
public import proofs.«01_k».proof.Proof.Gen.FfnActRefIdeal.Run
public import proofs.«01_k».proof.Proof.Gen.FfnActRefIdeal.Read
public import Idealize.ShloMosaic.Lib.Pipeline.ValueKit
public import Idealize.ShloMosaic.Lib.Pointwise
public import Idealize.ShloMosaic.Lib.Quiescent
public import proofs.«01_k».proof.Proof.Finite
public import proofs.«01_k».proof.Proof.Gen.Pre_ffn_act_finite

@[expose] public section
noncomputable section

namespace Cert.Proof.FfnAct
open Cert.FfnActIdeal Cert.FfnActIdeal.Gen Idealize.ShloMosaic Idealize.ShloMosaic.TcCoe Idealize.SL.Sem
open scoped BigOperators
variable (m : (ℓ : Loc nD τ sig) → Buf (Elt Ideal) ℓ)

/-- Window 0 holds the whole array of `dr` at every point. -/
theorem index0 : ∀ t : Fin cfg0.N, win0_0.index t = ![0, 0] := (by decide +kernel : ∀ t : Fin grid0.N, _)
/-- Window 1 walks down the rows of `wd` with the grid's first coordinate. -/
theorem index1 : ∀ t : Fin cfg0.N, win0_1.index t = ![(grid0.coords t 0).val, 0] :=
  (by decide +kernel : ∀ t : Fin grid0.N, _)
/-- The other windows hold the block at (second coordinate, first coordinate). -/
theorem index2 : ∀ t : Fin cfg0.N, win0_2.index t = ![(grid0.coords t 1).val, (grid0.coords t 0).val] :=
  (by decide +kernel : ∀ t : Fin grid0.N, _)
/-- The window of `u`. -/
theorem index3 : ∀ t : Fin cfg0.N, win0_3.index t = ![(grid0.coords t 1).val, (grid0.coords t 0).val] :=
  (by decide +kernel : ∀ t : Fin grid0.N, _)
/-- The window of the gradient of `g`. -/
theorem index4 : ∀ t : Fin cfg0.N, win0_4.index t = ![(grid0.coords t 1).val, (grid0.coords t 0).val] :=
  (by decide +kernel : ∀ t : Fin grid0.N, _)
/-- The window of the gradient of `u`. -/
theorem index5 : ∀ t : Fin cfg0.N, win0_5.index t = ![(grid0.coords t 1).val, (grid0.coords t 0).val] :=
  (by decide +kernel : ∀ t : Fin grid0.N, _)

variable (dr : S8192x1024.Idx → EReal) (wd : S3072x1024.Idx → EReal) (g u : S8192x3072.Idx → EReal)

/-- The cotangent of the hidden activation: half of `dr · wdᵀ`, at an index. -/
def dh (i : S8192x3072.Idx) : EReal :=
  (∑ k : Fin 1024, dr (ix2 (i 0) k) * wd (ix2 (i 1) k)) * Ideal.ofBits .f32 0x3F000000#32

/-- What the kernel leaves in the gradient of `u`. -/
def du (i : S8192x3072.Idx) : EReal := dh dr wd i * g i * Ideal.logistic (g i)

/-- What the kernel leaves in the gradient of `g`. -/
def dg (i : S8192x3072.Idx) : EReal :=
  dh dr wd i * u i * (Ideal.logistic (g i) * (1 + g i * (1 - Ideal.logistic (g i))))

/-- The array of the gradient of `u` after the run. -/
theorem arr5 (c : Dev nD) : (dats m 0 c).arrAt 5 cfg0.N
    = du (V m c main_arg0) (V m c main_arg1) (V m c main_arg2) := by
  refine (dats m 0 c).arrAt_eq_of_covers 5 _ (by decide +kernel) fun t hf y => ?_
  blk_simp
  rw [after0_5]; simp only [outsAt0]; unfold out0_A_5; frame_out
  unfold_payloads
  pointwise
  simp only [k0_off1_eq]
  blk_simp [iblk]
  have e2 : (win0_2.blk t).view.emb y = (win0_5.blk t).view.emb y := by blk_ext [index2, index5]
  rw [e2]
  refine congrArg₂ (· * ·) (congrArg₂ (· * ·) (congrArg (· * _) (Finset.sum_congr rfl fun k _ => ?_)) rfl) rfl
  refine congrArg₂ (fun (a : S8192x1024.Idx) (b : S3072x1024.Idx) => (HMul.hMul (α := EReal) (β := EReal) (V m c main_arg0 a) (V m c main_arg1 b))) ?_ ?_
  · blk_ext [index0, index5]
  · blk_ext [index1, index5]

/-- The array of the gradient of `g` after the run. -/
theorem arr4 (c : Dev nD) : (dats m 0 c).arrAt 4 cfg0.N
    = dg (V m c main_arg0) (V m c main_arg1) (V m c main_arg2) (V m c main_arg3) := by
  refine (dats m 0 c).arrAt_eq_of_covers 4 _ (by decide +kernel) fun t hf y => ?_
  blk_simp
  rw [after0_4]; simp only [outsAt0]; unfold out0_A_4; frame_out
  unfold_payloads
  pointwise
  simp only [k0_off1_eq]
  blk_simp [iblk]
  have e2 : (win0_2.blk t).view.emb y = (win0_4.blk t).view.emb y := by blk_ext [index2, index4]
  have e3 : (win0_3.blk t).view.emb y = (win0_4.blk t).view.emb y := by blk_ext [index3, index4]
  rw [e2, e3]
  refine congrArg₂ (· * ·) (congrArg₂ (· * ·) (congrArg (· * _) (Finset.sum_congr rfl fun k _ => ?_)) rfl) rfl
  refine congrArg₂ (fun (a : S8192x1024.Idx) (b : S3072x1024.Idx) => (HMul.hMul (α := EReal) (β := EReal) (V m c main_arg0 a) (V m c main_arg1 b))) ?_ ?_
  · blk_ext [index0, index4]
  · blk_ext [index1, index4]

/-- The reference scales `dr` before the product, the kernel the product. -/
theorem dh_eq (hr : AllReal dr) (hw : AllReal wd) (i : S8192x3072.Idx) :
    ∃ x : ℝ, dh dr wd i = x
      ∧ (∑ k : Fin 1024, Ideal.ofBits .f32 0x3F000000#32 * dr (ix2 (i 0) k) * wd (ix2 (i 1) k)) = x := by
  obtain ⟨r, rfl⟩ := hr
  obtain ⟨w, rfl⟩ := hw
  refine ⟨(∑ k : Fin 1024, r (ix2 (i 0) k) * w (ix2 (i 1) k)) * (1 / 2), ?_, ?_⟩
  · simp only [dh, ofBits_half, ← EReal.coe_mul, sum_coe]
  · simp only [ofBits_half, ← EReal.coe_mul, sum_coe]
    rw [Finset.sum_mul]
    exact congrArg _ (Finset.sum_congr rfl fun k _ => by ring)

/-- The reference's gradient of `u`. -/
theorem ref16 (hr : AllReal dr) (hw : AllReal wd) :
    Cert.FfnActRefIdeal.Read.val_main_v16 (F := Ideal) dr wd g = du dr wd g := by
  funext i
  rw [← Cert.FfnActRefIdeal.Read.val_main_v16_eq]
  pointwise
  obtain ⟨x, h1, h2⟩ := dh_eq dr wd hr hw i
  rw [h2, du, h1, mul_comm, ← mul_assoc]
  rfl

/-- The reference's gradient of `g`. -/
theorem ref15 (hr : AllReal dr) (hw : AllReal wd) (hg : AllReal g) (hu : AllReal u) :
    Cert.FfnActRefIdeal.Read.val_main_v15 (F := Ideal) dr wd g u = dg dr wd g u := by
  funext i
  rw [← Cert.FfnActRefIdeal.Read.val_main_v15_eq]
  pointwise
  obtain ⟨x, h1, h2⟩ := dh_eq dr wd hr hw i
  rw [h2, dg, h1]
  obtain ⟨g, rfl⟩ := hg
  obtain ⟨u, rfl⟩ := hu
  change (x : EReal) * _ * Ideal.logistic _ + _ * (Ideal.logistic _ * (1 - Ideal.logistic _)) = _
  simp only [Ideal.logistic_coe, ← EReal.coe_one, ← EReal.coe_mul, ← EReal.coe_sub, ← EReal.coe_add]
  congr 1
  ring
/-- The precondition makes every argument array an array of reals. -/
theorem finite (h : Cert.Pre_FfnActIdeal_ffn_act_finite m) (c : Dev nD) :
    AllReal (m (c.tc.loc main_arg0)) ∧ AllReal (m (c.tc.loc main_arg1)) ∧ AllReal (m (c.tc.loc main_arg2))
      ∧ AllReal (m (c.tc.loc main_arg3)) := by
  refine ⟨allReal_of_bits (fun i => ?_) (h c).1, allReal_of_bits (fun i => ?_) (h c).2.1,
    allReal_of_bits (fun i => ?_) (h c).2.2.1, allReal_of_bits (fun i => ?_) (h c).2.2.2⟩ <;>
  · dsimp only [Cert.Pre_ffn_act_finite.fn]
    pointwise
    rfl

/-- The reference changes no argument and leaves no semaphore raised. -/
theorem frame_ref : Cert.quiescent_FfnActRefIdeal := fun m ρ _ =>
  (θ_run Cert.FfnActRefIdeal.defs _ _).mono (fun r h => ⟨fun c => (h c).2.2, sem_eq_zero_of_no_sems (by decide) r.2⟩)
    (Cert.FfnActRefIdeal.Value.run (F := Ideal) m ρ)

/-- On finite arguments the kernel's two gradients are the reference's. -/
theorem algebraic : Cert.algebraic_FfnActIdeal_FfnActRefIdeal_pre_ffn_act_finite := by
  intro m ρ m' ρ' hpre hagree
  refine ⟨fun c => dg (m (c.tc.loc main_arg0)) (m (c.tc.loc main_arg1)) (m (c.tc.loc main_arg2)) (m (c.tc.loc main_arg3)),
    fun c => du (m (c.tc.loc main_arg0)) (m (c.tc.loc main_arg1)) (m (c.tc.loc main_arg2)), ?_, ?_⟩
  · refine (θ_run Cert.FfnActIdeal.defs _ _).mono (fun _ h c => ⟨(h c).1.trans ?_, (h c).2.1.trans ?_, (h c).2.2⟩)
      (Cert.FfnActIdeal.Value.run_blocks (F := Ideal) m ρ)
    · rw [arr4, V_main_arg0, V_main_arg1, V_main_arg2, V_main_arg3]
    · rw [arr5, V_main_arg0, V_main_arg1, V_main_arg2]
  · refine (θ_run Cert.FfnActRefIdeal.defs _ _).mono (fun _ h c => ⟨(h c).1.trans ?_, (h c).2.1.trans ?_, (h c).2.2⟩)
      (Cert.FfnActRefIdeal.Value.run (F := Ideal) m' ρ')
    · obtain ⟨f0, f1, f2, f3⟩ := finite m hpre c
      rw [Cert.FfnActRefIdeal.Read.val_main_v15_eq, (hagree c).1, (hagree c).2.1, (hagree c).2.2.1, (hagree c).2.2.2]
      exact ref15 _ _ _ _ f0 f1 f2 f3
    · obtain ⟨f0, f1, f2, f3⟩ := finite m hpre c
      rw [Cert.FfnActRefIdeal.Read.val_main_v16_eq, (hagree c).1, (hagree c).2.1, (hagree c).2.2.1]
      exact ref16 _ _ _ f0 f1

end Cert.Proof.FfnAct

end
-- ==== Proof.Sums.lean ====
/-
  Sums of extended reals: the shapes in which the kernels' block products and the references' products meet.
-/
module

public import Idealize.ShloMosaic.PureOps.Ideal
public import Idealize.ShloMosaic.Lib.Pointwise
public import proofs.«01_k».proof.Proof.Finite

@[expose] public section

noncomputable section

namespace Cert.Proof

open Idealize.ShloMosaic
open scoped BigOperators

/-- Two sums over the same range, equal term by term. -/
theorem sum_ext {n : ℕ} {f g : Fin n → EReal} (h : ∀ k, f k = g k) : ∑ k, f k = ∑ k, g k :=
  Finset.sum_congr rfl fun k _ => h k

/-- Two products of array elements at equal indices. -/
theorem mul_at {ι κ : Type} (X : ι → EReal) (Y : κ → EReal) {a a' : ι} {b b' : κ} (ha : a = a') (hb : b = b') :
    X a * Y b = X a' * Y b' := by rw [ha, hb]

/-- Two sums of products of array elements at equal indices. -/
theorem dot_at {n : ℕ} {ι κ : Type} (X : ι → EReal) (Y : κ → EReal) {a a' : Fin n → ι} {b b' : Fin n → κ}
    (ha : ∀ k, a k = a' k) (hb : ∀ k, b k = b' k) : ∑ k, X (a k) * Y (b k) = ∑ k, X (a' k) * Y (b' k) :=
  sum_ext fun k => mul_at X Y (ha k) (hb k)

/-- A sum over `p * q` indices, cut into `p` runs of `q`. -/
theorem sum_runs {p q n : ℕ} (hn : n = p * q) (f : Fin n → EReal) :
    ∑ k, f k = ∑ s : Fin p, ∑ k : Fin q,
      f ⟨q * s.val + k.val, by
        have := s.isLt; have := k.isLt; subst hn
        calc q * s.val + k.val < q * s.val + q := by omega
          _ = q * (s.val + 1) := by ring
          _ ≤ q * p := Nat.mul_le_mul_left _ (by omega)
          _ = p * q := mul_comm _ _⟩ := by
  subst hn
  rw [← (finProdFinEquiv (m := p) (n := q)).sum_comp, Fintype.sum_prod_type]
  refine Finset.sum_congr rfl fun s _ => Finset.sum_congr rfl fun k _ => congrArg f (Fin.ext ?_)
  simp [finProdFinEquiv]; ring

/-- A real factor that is not negative goes inside a sum, whatever the terms. -/
theorem mul_sum_of_nonneg {ι : Type} (s : Finset ι) (f : ι → EReal) {r : ℝ} (hr : 0 ≤ r) :
    (r : EReal) * ∑ k ∈ s, f k = ∑ k ∈ s, (r : EReal) * f k := by
  classical
  induction s using Finset.induction_on with
  | empty => simp
  | insert a s ha ih =>
    rw [Finset.sum_insert ha, Finset.sum_insert ha, EReal.left_distrib_of_nonneg_of_ne_top (by exact_mod_cast hr) (EReal.coe_ne_top r), ih]

/-- A sum over 3072 indices, cut into the four chips' runs of 768. -/
theorem four_runs (a : Fin 3072 → EReal) (r : Fin 4 → Fin 768 → EReal)
    (h : ∀ s x, r s x = a ⟨768 * s.val + x.val, by have := s.isLt; have := x.isLt; omega⟩) :
    ∑ k, a k = ∑ x, r 0 x + ∑ x, r 1 x + ∑ x, r 2 x + ∑ x, r 3 x := by
  rw [sum_runs (p := 4) (q := 768) rfl a, Fin.sum_univ_four]
  simp only [← h]

/-- A term and two sums over 3072 indices, each added run by run, are the two sums and the term. -/
theorem two_sums_by_runs (d : EReal) (a b : Fin 3072 → EReal) (r r' : Fin 4 → Fin 768 → EReal)
    (h : ∀ s x, r s x = a ⟨768 * s.val + x.val, by have := s.isLt; have := x.isLt; omega⟩)
    (h' : ∀ s x, r' s x = b ⟨768 * s.val + x.val, by have := s.isLt; have := x.isLt; omega⟩) :
    d + ∑ x, r 0 x + ∑ x, r 1 x + ∑ x, r 2 x + ∑ x, r 3 x + ∑ x, r' 0 x + ∑ x, r' 1 x + ∑ x, r' 2 x + ∑ x, r' 3 x
      = ∑ k, b k + ∑ k, a k + d := by
  rw [four_runs a r h, four_runs b r' h']
  ac_rfl

end Cert.Proof

end
-- ==== Proof.FfnDwd.lean ====
/-
  The gradient of the feed-forward block's last weight: `0.5 (a^T dr)`, a product over the 8192 rows. The kernel adds
  eight runs of 1024 rows into a scratch block and scales the sum by one half at the last.
-/
module

public import proofs.«01_k».proof.Defs
public import proofs.«01_k».proof.Proof.Gen.FfnDwdIdeal.Value
public import proofs.«01_k».proof.Proof.Gen.FfnDwdRefIdeal.Run
public import proofs.«01_k».proof.Proof.Gen.FfnDwdRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt
public import proofs.«01_k».proof.Proof.Finite
public import proofs.«01_k».proof.Proof.Sums

@[expose] public section
noncomputable section

namespace Cert.Proof.FfnDwd
open Cert.FfnDwdIdeal Cert.FfnDwdIdeal.Gen Idealize.ShloMosaic Idealize.ShloMosaic.TcCoe Idealize.SL.Sem
open scoped BigOperators
variable (m : (ℓ : Loc nD τ sig) → Buf (Elt Ideal) ℓ)

/-- Window 0, a block of `a`: rows of the third coordinate, columns of the first. -/
theorem index0 : ∀ t : Fin cfg0.N, win0_0.index t = ![t.val % 8, t.val / 8] :=
  (by decide +kernel : ∀ t : Fin grid0.N, _)
/-- Window 1, a block of `dr`. -/
theorem index1 : ∀ t : Fin cfg0.N, win0_1.index t = ![t.val % 8, 0] :=
  (by decide +kernel : ∀ t : Fin grid0.N, _)
/-- Window 2, a block of the result. -/
theorem index2 : ∀ t : Fin cfg0.N, win0_2.index t = ![t.val / 8, 0] :=
  (by decide +kernel : ∀ t : Fin grid0.N, _)

/-- What point `t` adds to the scratch block. -/
def addend (c : Dev nD) (t : Fin cfg0.N) (y : S1024x1024.Idx) : EReal :=
  ∑ k : Fin 1024, HMul.hMul (α := EReal) (β := EReal) (iblk m c 0 t (ix2 k (y 0))) (iblk m c 1 t (ix2 k (y 1)))

/-- A run's first point leaves its own addend. -/
theorem first (c : Dev nD) (t : Fin cfg0.N) (h0 : t.val % 8 = 0) (acc : Vec Ideal S1024x1024 .f32) (y : S1024x1024.Idx) :
    Value.scAt0_0 m c t.val t.isLt acc y = addend m c t y := by
  unfold Value.scAt0_0
  rw [dif_pos h0, dif_neg (by omega)]
  unfold sout0_A_0; frame_out
  unfold_payloads
  pointwise
  rfl

/-- Every later point adds its own to what the point before left. -/
theorem step (c : Dev nD) (t : Fin cfg0.N) (h0 : ¬ t.val % 8 = 0) (acc : Vec Ideal S1024x1024 .f32) (y : S1024x1024.Idx) :
    Value.scAt0_0 m c t.val t.isLt acc y = HAdd.hAdd (α := EReal) (β := EReal) (acc y) (addend m c t y) := by
  unfold Value.scAt0_0
  rw [dif_neg h0]
  by_cases h1 : t.val % 8 = 7
  · rw [dif_pos h1]
    unfold sout0_C_0; frame_out
    unfold_payloads
    pointwise
    rw [read_unread_whole]
    rfl
  · rw [dif_neg h1]
    unfold sout0_B_0; frame_out
    unfold_payloads
    pointwise
    rw [read_unread_whole]
    rfl

/-- The addend of every natural: nothing past the grid. -/
def addendN (c : Dev nD) (n : ℕ) (y : S1024x1024.Idx) : EReal := if h : n < cfg0.N then addend m c ⟨n, h⟩ y else 0

/-- At a run's last point the scratch block holds the sum of the run's addends. -/
theorem scratch (c : Dev nD) (t : Fin cfg0.N) (h1 : t.val % 8 = 7) (y : S1024x1024.Idx) :
    (outsAt0 m c t.val t.isLt).2 y = ∑ s : Fin 8, addendN m c (8 * (t.val / 8) + s.val) y := by
  rw [Value.soutsAt0_0_eq]
  rw [Pipeline.accAt_add_apply (β := EReal) _ _ (fun _ => 0) (addendN m c) (8 * (t.val / 8)) 7 ?_ ?_ (t.val % 8) (by omega) _ y]
  · rw [h1, Finset.sum_range, zero_add]
  · intro h i
    rw [zero_add, addendN, dif_pos h]
    exact first m c ⟨_, h⟩ (by show (8 * (t.val / 8)) % 8 = 0; omega) _ i
  · intro n h acc i hb hn
    rw [addendN, dif_pos h]
    exact step m c ⟨n, h⟩ (by show ¬ n % 8 = 0; omega) acc i

/-- At a run's last point the output block is the scratch block, scaled. -/
theorem scaled (c : Dev nD) (t : Fin cfg0.N) (h1 : t.val % 8 = 7) (y : S1024x1024.Idx) :
    (outsAt0 m c t.val t.isLt).1 y
      = HMul.hMul (α := EReal) (β := EReal) ((outsAt0 m c t.val t.isLt).2 y) (Ideal.ofBits FTy.f32 1056964608#32) := by
  rw [outsAt0_C m c t (by omega) h1]; dsimp only; unfold out0_C_2 sout0_C_0; frame_out
  unfold_payloads
  pointwise

variable (a : S8192x3072.Idx → EReal) (dr : S8192x1024.Idx → EReal)
/-- A row's term of the product. -/
def term (i : S3072x1024.Idx) (k : Fin 8192) : EReal := a (ix2 k (i 0)) * dr (ix2 k (i 1))

/-- The gradient at an index. -/
def grad (i : S3072x1024.Idx) : EReal :=
  ∑ k : Fin 8192, Ideal.ofBits FTy.f32 1056964608#32 * dr (ix2 k (i 1)) * a (ix2 k (i 0))

/-- The factor outside the sum. -/
theorem grad_eq (i : S3072x1024.Idx) : grad a dr i = (∑ k, term a dr i k) * Ideal.ofBits FTy.f32 1056964608#32 := by
  rw [grad, ofBits_half, mul_comm, mul_sum_of_nonneg _ _ (by norm_num)]
  exact sum_ext fun k => by rw [term, mul_comm (a _), mul_assoc]

/-- A run's addend, read off the arrays. -/
theorem addend_eq (c : Dev nD) (t : Fin cfg0.N) (s : Fin 8) (y : S1024x1024.Idx) :
    addendN m c (8 * (t.val / 8) + s.val) y = ∑ k : Fin 1024,
      term (m (c.tc.loc main_arg0)) (m (c.tc.loc main_arg1)) ((win0_2.blk t).view.emb y)
        ⟨1024 * s.val + k.val, by have := s.isLt; have := k.isLt; omega⟩ := by
  have ht : t.val < 24 := lt_of_lt_of_eq t.isLt (show cfg0.N = 24 from N_0)
  have hs := s.isLt
  have hb : 8 * (t.val / 8) + s.val < cfg0.N := lt_of_lt_of_eq (by omega) (show 24 = cfg0.N from N_0.symm)
  have e1 : (8 * (t.val / 8) + s.val) % 8 = s.val := by omega
  have e2 : (8 * (t.val / 8) + s.val) / 8 = t.val / 8 := by omega
  rw [addendN, dif_pos hb, addend]
  blk_simp [iblk]
  rw [V_main_arg0, V_main_arg1]
  refine dot_at (m (c.tc.loc main_arg0)) (m (c.tc.loc main_arg1)) (fun k => ?_) (fun k => ?_)
  · blk_ext [index0, index2, e1, e2]
  · blk_ext [index1, index2, e1, e2]

/-- The array after the run. -/
theorem arr2 (c : Dev nD) : (dats m 0 c).arrAt 2 cfg0.N = grad (m (c.tc.loc main_arg0)) (m (c.tc.loc main_arg1)) := by
  refine (dats m 0 c).arrAt_eq_of_covers 2 _ (by decide +kernel) fun t hf y => ?_
  have h1 : t.val % 8 = 7 := (flush0_2 t).mp hf
  blk_simp
  rw [after0_2, scaled m c t h1, scratch m c t h1, Finset.sum_congr rfl fun s _ => addend_eq m c t s y,
    ← sum_runs (p := 8) (q := 1024) rfl (term (m (c.tc.loc main_arg0)) (m (c.tc.loc main_arg1)) ((win0_2.blk t).view.emb y)),
    grad_eq]

/-- The reference. -/
theorem ref : Cert.FfnDwdRefIdeal.Read.val_main_v10 (F := Ideal) a dr = grad a dr := by
  funext i
  rw [← Cert.FfnDwdRefIdeal.Read.val_main_v10_eq]
  pointwise
  rfl

/-- The reference changes no argument and leaves no semaphore raised. -/
theorem frame_ref : Cert.quiescent_FfnDwdRefIdeal := fun m ρ _ =>
  (θ_run Cert.FfnDwdRefIdeal.defs _ _).mono (fun r h => ⟨fun c => (h c).2, sem_eq_zero_of_no_sems (by decide) r.2⟩)
    (Cert.FfnDwdRefIdeal.Value.run (F := Ideal) m ρ)

/-- The kernel's array is the reference's. -/
theorem algebraic : Cert.algebraic_FfnDwdIdeal_FfnDwdRefIdeal := by
  intro m ρ m' ρ' hpre hagree
  refine ⟨fun c => grad (m (c.tc.loc main_arg0)) (m (c.tc.loc main_arg1)), ?_, ?_⟩
  · exact (θ_run Cert.FfnDwdIdeal.defs _ _).mono (fun _ h c => ⟨(h c).1.trans (arr2 m c), (h c).2⟩)
      (Cert.FfnDwdIdeal.Value.run_blocks (F := Ideal) m ρ)
  · refine (θ_run Cert.FfnDwdRefIdeal.defs _ _).mono (fun _ h c => ⟨(h c).1.trans ?_, (h c).2⟩)
      (Cert.FfnDwdRefIdeal.Value.run (F := Ideal) m' ρ')
    obtain ⟨h0, h1⟩ := hagree c
    rw [Cert.FfnDwdRefIdeal.Read.val_main_v10_eq, h0, h1]
    exact ref _ _

end Cert.Proof.FfnDwd

end
-- ==== Proof.FfnDwg.lean ====
/-
  The gradient of one of the feed-forward block's first two weights: `x^T dg`, a product over the 8192 rows. The kernel
  adds eight runs of 1024 rows into a scratch block and writes its columns out in the chips' four blocks.
-/
module

public import proofs.«01_k».proof.Defs
public import proofs.«01_k».proof.Proof.Gen.FfnDwgIdeal.Value
public import proofs.«01_k».proof.Proof.Gen.FfnDwgRefIdeal.Run
public import proofs.«01_k».proof.Proof.Gen.FfnDwgRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt
public import proofs.«01_k».proof.Proof.Finite
public import proofs.«01_k».proof.Proof.Sums

@[expose] public section
noncomputable section

namespace Cert.Proof.FfnDwg
open Cert.FfnDwgIdeal Cert.FfnDwgIdeal.Gen Idealize.ShloMosaic Idealize.ShloMosaic.TcCoe Idealize.SL.Sem
open scoped BigOperators
variable (m : (ℓ : Loc nD τ sig) → Buf (Elt Ideal) ℓ)

/-- Window 0, the rows of `x`. -/
theorem index0 : ∀ t : Fin cfg0.N, win0_0.index t = ![t.val, 0] := (by decide +kernel : ∀ t : Fin grid0.N, _)
/-- Window 1, the rows of `dg`. -/
theorem index1 : ∀ t : Fin cfg0.N, win0_1.index t = ![t.val, 0] := (by decide +kernel : ∀ t : Fin grid0.N, _)
/-- Window 2 is the whole result. -/
theorem index2 : ∀ t : Fin cfg0.N, win0_2.index t = ![0, 0, 0] := (by decide +kernel : ∀ t : Fin grid0.N, _)

/-- What point `t` adds to the scratch block. -/
def addend (c : Dev nD) (t : Fin cfg0.N) (y : S1024x3072.Idx) : EReal :=
  ∑ k : Fin 1024, HMul.hMul (α := EReal) (β := EReal) (iblk m c 0 t (ix2 k (y 0))) (iblk m c 1 t (ix2 k (y 1)))

/-- A run's first point leaves its own addend. -/
theorem first (c : Dev nD) (t : Fin cfg0.N) (h0 : t.val % 8 = 0) (acc : Vec Ideal S1024x3072 .f32) (y : S1024x3072.Idx) :
    Value.scAt0_0 m c t.val t.isLt acc y = addend m c t y := by
  unfold Value.scAt0_0
  rw [dif_pos h0, dif_neg (by omega)]
  unfold sout0_A_0; frame_out
  unfold_payloads
  pointwise
  rfl

/-- Every later point adds its own to what the point before left. -/
theorem step (c : Dev nD) (t : Fin cfg0.N) (h0 : ¬ t.val % 8 = 0) (acc : Vec Ideal S1024x3072 .f32) (y : S1024x3072.Idx) :
    Value.scAt0_0 m c t.val t.isLt acc y = HAdd.hAdd (α := EReal) (β := EReal) (acc y) (addend m c t y) := by
  unfold Value.scAt0_0
  rw [dif_neg h0]
  by_cases h1 : t.val % 8 = 7
  · rw [dif_pos h1]
    unfold sout0_C_0; frame_out
    unfold_payloads
    pointwise
    rw [read_unread_whole]
    rfl
  · rw [dif_neg h1]
    unfold sout0_B_0; frame_out
    unfold_payloads
    pointwise
    rw [read_unread_whole]
    rfl

/-- The addend of every natural: nothing past the grid. -/
def addendN (c : Dev nD) (n : ℕ) (y : S1024x3072.Idx) : EReal := if h : n < cfg0.N then addend m c ⟨n, h⟩ y else 0

/-- At a run's last point the scratch block holds the sum of the run's addends. -/
theorem scratch (c : Dev nD) (t : Fin cfg0.N) (h1 : t.val % 8 = 7) (y : S1024x3072.Idx) :
    (outsAt0 m c t.val t.isLt).2 y = ∑ s : Fin 8, addendN m c (8 * (t.val / 8) + s.val) y := by
  rw [Value.soutsAt0_0_eq]
  rw [Pipeline.accAt_add_apply (β := EReal) _ _ (fun _ => 0) (addendN m c) (8 * (t.val / 8)) 7 ?_ ?_ (t.val % 8) (by omega) _ y]
  · rw [h1, Finset.sum_range, zero_add]
  · intro h i
    rw [zero_add, addendN, dif_pos h]
    exact first m c ⟨_, h⟩ (by show (8 * (t.val / 8)) % 8 = 0; omega) _ i
  · intro n h acc i hb hn
    rw [addendN, dif_pos h]
    exact step m c ⟨n, h⟩ (by show ¬ n % 8 = 0; omega) acc i

/-- The scratch's index of a result's index: the chips' column blocks side by side. -/
def place (y : S4x1024x768.Idx) : S1024x3072.Idx :=
  ix2 (y 1) ⟨768 * (y 0).val + (y 2).val, by
    have h0 : (y 0).val < 4 := (y 0).isLt
    have h2 : (y 2).val < 768 := (y 2).isLt
    omega⟩

/-- Loading a box of the scratch block after one store of the whole reads the stored array. -/
theorem readback (W : Vec Ideal S1024x3072 .f32) (off : Fin 2 → ℕ)
    (inb : ∀ a, off a + (![1024, 768] : Fin 2 → ℕ) a ≤ S1024x3072.size a)
    (z : (Rect.unit (s := S1024x3072) off ![1024, 768] inb).shape.Idx) (j : S1024x3072.Idx)
    (h : (Rect.unit (s := S1024x3072) off ![1024, 768] inb).toLoadRect.idx z = j) :
    (View.whole cc0_scratch0).readCov (Val := Elt Ideal)
      [⟨Rect.unit (s := S1024x3072) ![0, 0] S1024x3072.size inb_S1024x3072_S1024x3072_0_0, W⟩]
      (Rect.unit (s := S1024x3072) off ![1024, 768] inb).toLoadRect z = W j := by
  refine (congrFun (View.readCov_eq_canon' _ _ _) z).trans ?_
  exact (congrFun (View.canon_cons_unit_lit' (S := S1024x3072) inb_S1024x3072_S1024x3072_0_0 W [] (by intro a; fin_cases a <;> rfl)) _).trans
    (congrArg W h)

/-- At a run's last point the output block is the scratch block, its columns cut into four. -/
theorem placed (c : Dev nD) (t : Fin cfg0.N) (h1 : t.val % 8 = 7) (y : S4x1024x768.Idx) :
    (outsAt0 m c t.val t.isLt).1 y = (outsAt0 m c t.val t.isLt).2 (place y) := by
  rw [outsAt0_C m c t (by omega) h1]; dsimp only; unfold out0_C_2 sout0_C_0; frame_out
  unfold_payloads
  canon_tiles x h
  all_goals
    pointwise
    refine (readback _ _ _ _ (place y) (by funext a; apply Fin.ext; fin_cases a <;> simp [place, Rect.toLoadRect] <;> omega)).trans ?_
    pointwise

variable (a : S8192x1024.Idx → EReal) (dr : S8192x3072.Idx → EReal)

/-- A row's term of the product. -/
def term (i : S4x1024x768.Idx) (k : Fin 8192) : EReal :=
  dr (ix2 k ⟨(i 0).val * 768 + (i 2).val, by
    have h0 : (i 0).val < 4 := (i 0).isLt
    have h2 : (i 2).val < 768 := (i 2).isLt
    omega⟩) * a (ix2 k (i 1))

/-- The gradient at an index. -/
def grad (i : S4x1024x768.Idx) : EReal := ∑ k, term a dr i k

/-- A run's addend, read off the arrays. -/
theorem addend_eq (c : Dev nD) (t : Fin cfg0.N) (s : Fin 8) (y : S4x1024x768.Idx) :
    addendN m c (8 * (t.val / 8) + s.val) (place y) = ∑ k : Fin 1024,
      term (m (c.tc.loc main_arg0)) (m (c.tc.loc main_arg1)) ((win0_2.blk t).view.emb y)
        ⟨1024 * s.val + k.val, by have := s.isLt; have := k.isLt; omega⟩ := by
  have ht : t.val < 8 := lt_of_lt_of_eq t.isLt (show cfg0.N = 8 from N_0)
  have hs := s.isLt
  have hb : 8 * (t.val / 8) + s.val < cfg0.N := lt_of_lt_of_eq (by omega) (show 8 = cfg0.N from N_0.symm)
  have e1 : 8 * (t.val / 8) + s.val = s.val := by omega
  rw [addendN, dif_pos hb, addend]
  blk_simp [iblk]
  rw [V_main_arg0, V_main_arg1]
  refine (sum_ext fun k => EReal.mul_comm _ _).trans ?_
  refine dot_at (m (c.tc.loc main_arg1)) (m (c.tc.loc main_arg0)) (fun k => ?_) (fun k => ?_)
  · blk_ext [index1, index2, e1, place]
  · blk_ext [index0, index2, e1, place]

/-- The array after the run. -/
theorem arr2 (c : Dev nD) : (dats m 0 c).arrAt 2 cfg0.N = grad (m (c.tc.loc main_arg0)) (m (c.tc.loc main_arg1)) := by
  refine (dats m 0 c).arrAt_eq_of_covers 2 _ (by decide +kernel) fun t hf y => ?_
  have h1 : t.val % 8 = 7 := (flush0_2 t).mp hf
  blk_simp
  rw [after0_2, placed m c t h1, scratch m c t h1, Finset.sum_congr rfl fun s _ => addend_eq m c t s y,
    ← sum_runs (p := 8) (q := 1024) rfl (term (m (c.tc.loc main_arg0)) (m (c.tc.loc main_arg1)) ((win0_2.blk t).view.emb y)), grad]

/-- The reference. -/
theorem ref : Cert.FfnDwgRefIdeal.Read.val_main_v8 (F := Ideal) a dr = grad a dr := by
  funext i
  rw [← Cert.FfnDwgRefIdeal.Read.val_main_v8_eq]
  pointwise
  rfl

/-- The reference changes no argument and leaves no semaphore raised. -/
theorem frame_ref : Cert.quiescent_FfnDwgRefIdeal := fun m ρ _ =>
  (θ_run Cert.FfnDwgRefIdeal.defs _ _).mono (fun r h => ⟨fun c => (h c).2, sem_eq_zero_of_no_sems (by decide) r.2⟩)
    (Cert.FfnDwgRefIdeal.Value.run (F := Ideal) m ρ)

/-- The kernel's array is the reference's. -/
theorem algebraic : Cert.algebraic_FfnDwgIdeal_FfnDwgRefIdeal := by
  intro m ρ m' ρ' hpre hagree
  refine ⟨fun c => grad (m (c.tc.loc main_arg0)) (m (c.tc.loc main_arg1)), ?_, ?_⟩
  · exact (θ_run Cert.FfnDwgIdeal.defs _ _).mono (fun _ h c => ⟨(h c).1.trans (arr2 m c), (h c).2⟩)
      (Cert.FfnDwgIdeal.Value.run_blocks (F := Ideal) m ρ)
  · refine (θ_run Cert.FfnDwgRefIdeal.defs _ _).mono (fun _ h c => ⟨(h c).1.trans ?_, (h c).2⟩)
      (Cert.FfnDwgRefIdeal.Value.run (F := Ideal) m' ρ')
    obtain ⟨h0, h1⟩ := hagree c
    rw [Cert.FfnDwgRefIdeal.Read.val_main_v8_eq, h0, h1]
    exact ref _ _

end Cert.Proof.FfnDwg

end
-- ==== Proof.FfnUp.lean ====
/-
  The feed-forward block's two input products `g = x wg` and `u = x wu` and its activation `silu g * u`. The kernel
  takes the weights cut into the chips' column blocks; a grid point computes one block of rows and columns.
-/
module

public import proofs.«01_k».proof.Defs
public import proofs.«01_k».proof.Proof.Gen.FfnUpIdeal.Value
public import proofs.«01_k».proof.Proof.Gen.FfnUpRefIdeal.Run
public import proofs.«01_k».proof.Proof.Gen.FfnUpRefIdeal.Read
public import Idealize.ShloMosaic.Lib.Pipeline.ValueKit
public import Idealize.ShloMosaic.Lib.Pointwise
public import Idealize.ShloMosaic.Lib.Quiescent
public import Idealize.ShloMosaic.Lib.Claim
public import Idealize.ShloMosaic.Lib.StableHlo.ReadAt
public import proofs.«01_k».proof.Proof.Finite
public import proofs.«01_k».proof.Proof.Sums

@[expose] public section
noncomputable section

namespace Cert.Proof.FfnUp
open Cert.FfnUpIdeal Cert.FfnUpIdeal.Gen Idealize.ShloMosaic Idealize.ShloMosaic.TcCoe Idealize.SL.Sem
open scoped BigOperators
variable (m : (ℓ : Loc nD τ sig) → Buf (Elt Ideal) ℓ)

/-- Window 0 holds the whole array of `x` at every point. -/
theorem index0 : ∀ t : Fin cfg0.N, win0_0.index t = ![0, 0] := (by decide +kernel : ∀ t : Fin grid0.N, _)
/-- Window 1 holds the column block of the grid's first coordinate. -/
theorem index1 : ∀ t : Fin cfg0.N, win0_1.index t = ![(grid0.coords t 0).val, 0, 0] :=
  (by decide +kernel : ∀ t : Fin grid0.N, _)
/-- So does window 2. -/
theorem index2 : ∀ t : Fin cfg0.N, win0_2.index t = ![(grid0.coords t 0).val, 0, 0] :=
  (by decide +kernel : ∀ t : Fin grid0.N, _)
/-- The window of `g` holds the block at (second coordinate, first coordinate). -/
theorem index3 : ∀ t : Fin cfg0.N, win0_3.index t = ![(grid0.coords t 1).val, (grid0.coords t 0).val] :=
  (by decide +kernel : ∀ t : Fin grid0.N, _)
/-- The window of `u`. -/
theorem index4 : ∀ t : Fin cfg0.N, win0_4.index t = ![(grid0.coords t 1).val, (grid0.coords t 0).val] :=
  (by decide +kernel : ∀ t : Fin grid0.N, _)
/-- The window of the activation. -/
theorem index5 : ∀ t : Fin cfg0.N, win0_5.index t = ![(grid0.coords t 1).val, (grid0.coords t 0).val] :=
  (by decide +kernel : ∀ t : Fin grid0.N, _)

/-- A weight cut into four blocks of 768 columns. -/
def cut (w : S1024x3072.Idx → EReal) (j : S4x1024x768.Idx) : EReal :=
  w (ix2 (j 1) ⟨(j 0).val * 768 + (j 2).val, by
    have h0 : (j 0).val < 4 := (j 0).isLt
    have h2 : (j 2).val < 768 := (j 2).isLt
    omega⟩)

/-- What window 1 stages is the first weight, cut. -/
theorem V_v1 (c : Dev nD) : V m c main_v1 = cut (m (c.tc.loc main_arg1)) := by
  funext j
  unfold V cut
  after_reads_at

/-- What window 2 stages is the second weight, cut. -/
theorem V_v3 (c : Dev nD) : V m c main_v3 = cut (m (c.tc.loc main_arg2)) := by
  funext j
  unfold V cut
  after_reads_at

variable (x : S8192x1024.Idx → EReal) (wg wu : S1024x3072.Idx → EReal)

/-- A product of `x` with a weight, at an index. -/
def prod (w : S1024x3072.Idx → EReal) (i : S8192x3072.Idx) : EReal :=
  ∑ k : Fin 1024, x (ix2 (i 0) k) * w (ix2 k (i 1))

/-- The activation. -/
def act (i : S8192x3072.Idx) : EReal := prod x wg i * Ideal.logistic (prod x wg i) * prod x wu i

/-- Two activations of equal products. -/
theorem act_congr (g u : EReal) (i : S8192x3072.Idx) (w w' : S1024x3072.Idx → EReal) (hg : g = prod x w i)
    (hu : u = prod x w' i) : g * Ideal.logistic g * u = act x w w' i := by rw [hg, hu, act]

/-- The array of `g` after the run. -/
theorem arr3 (c : Dev nD) : (dats m 0 c).arrAt 3 cfg0.N
    = prod (m (c.tc.loc main_arg0)) (m (c.tc.loc main_arg1)) := by
  refine (dats m 0 c).arrAt_eq_of_covers 3 _ (by decide +kernel) fun t hf y => ?_
  blk_simp
  rw [after0_3]; simp only [outsAt0]; unfold out0_A_3; frame_out
  unfold_payloads
  pointwise
  simp only [k0_off1_eq]
  blk_simp [iblk]
  rw [V_main_arg0, V_v1]
  refine dot_at (m (c.tc.loc main_arg0)) (m (c.tc.loc main_arg1)) (fun k => ?_) (fun k => ?_)
  · blk_ext [index0, index3]
  · blk_ext [index1, index3]

/-- The array of `u` after the run. -/
theorem arr4 (c : Dev nD) : (dats m 0 c).arrAt 4 cfg0.N
    = prod (m (c.tc.loc main_arg0)) (m (c.tc.loc main_arg2)) := by
  refine (dats m 0 c).arrAt_eq_of_covers 4 _ (by decide +kernel) fun t hf y => ?_
  blk_simp
  rw [after0_4]; simp only [outsAt0]; unfold out0_A_4; frame_out
  unfold_payloads
  pointwise
  simp only [k0_off1_eq]
  blk_simp [iblk]
  rw [V_main_arg0, V_v3]
  refine dot_at (m (c.tc.loc main_arg0)) (m (c.tc.loc main_arg2)) (fun k => ?_) (fun k => ?_)
  · blk_ext [index0, index4]
  · blk_ext [index2, index4]

/-- The array of the activation after the run. -/
theorem arr5 (c : Dev nD) : (dats m 0 c).arrAt 5 cfg0.N
    = act (m (c.tc.loc main_arg0)) (m (c.tc.loc main_arg1)) (m (c.tc.loc main_arg2)) := by
  refine (dats m 0 c).arrAt_eq_of_covers 5 _ (by decide +kernel) fun t hf y => ?_
  blk_simp
  rw [after0_5]; simp only [outsAt0]; unfold out0_A_5; frame_out
  unfold_payloads
  pointwise
  simp only [k0_off1_eq]
  blk_simp [iblk]
  rw [V_main_arg0, V_v1, V_v3]
  refine act_congr (m (c.tc.loc main_arg0)) _ _ _ (m (c.tc.loc main_arg1)) (m (c.tc.loc main_arg2)) ?_ ?_
  · refine dot_at (m (c.tc.loc main_arg0)) (m (c.tc.loc main_arg1)) (fun k => ?_) (fun k => ?_)
    · blk_ext [index0, index5]
    · blk_ext [index1, index5]
  · refine dot_at (m (c.tc.loc main_arg0)) (m (c.tc.loc main_arg2)) (fun k => ?_) (fun k => ?_)
    · blk_ext [index0, index5]
    · blk_ext [index2, index5]

/-- The reference's `g`. -/
theorem ref5 : Cert.FfnUpRefIdeal.Read.val_main_v5 (F := Ideal) x wg = prod x wg := by
  funext i
  rw [← Cert.FfnUpRefIdeal.Read.val_main_v5_eq]
  pointwise
  rfl

/-- The reference's `u`. -/
theorem ref6 : Cert.FfnUpRefIdeal.Read.val_main_v6 (F := Ideal) x wu = prod x wu := by
  funext i
  rw [← Cert.FfnUpRefIdeal.Read.val_main_v6_eq]
  pointwise
  rfl

/-- The reference's activation. -/
theorem ref9 : Cert.FfnUpRefIdeal.Read.val_main_v9 (F := Ideal) x wg wu = act x wg wu := by
  funext i
  rw [← Cert.FfnUpRefIdeal.Read.val_main_v9_eq]
  pointwise
  rfl

/-- The reference changes no argument and leaves no semaphore raised. -/
theorem frame_ref : Cert.quiescent_FfnUpRefIdeal := fun m ρ _ =>
  (θ_run Cert.FfnUpRefIdeal.defs _ _).mono (fun r h => ⟨fun c => (h c).2.2.2, sem_eq_zero_of_no_sems (by decide) r.2⟩)
    (Cert.FfnUpRefIdeal.Value.run (F := Ideal) m ρ)

/-- The kernel's three arrays are the reference's. -/
theorem algebraic : Cert.algebraic_FfnUpIdeal_FfnUpRefIdeal := by
  intro m ρ m' ρ' hpre hagree
  refine ⟨fun c => prod (m (c.tc.loc main_arg0)) (m (c.tc.loc main_arg1)),
    fun c => prod (m (c.tc.loc main_arg0)) (m (c.tc.loc main_arg2)),
    fun c => act (m (c.tc.loc main_arg0)) (m (c.tc.loc main_arg1)) (m (c.tc.loc main_arg2)), ?_, ?_⟩
  · exact (θ_run Cert.FfnUpIdeal.defs _ _).mono (fun _ h c => ⟨(h c).1.trans (arr3 m c), (h c).2.1.trans (arr4 m c),
      (h c).2.2.1.trans (arr5 m c), (h c).2.2.2⟩) (Cert.FfnUpIdeal.Value.run_blocks (F := Ideal) m ρ)
  · refine (θ_run Cert.FfnUpRefIdeal.defs _ _).mono (fun _ h c => ⟨(h c).1.trans ?_, (h c).2.1.trans ?_,
      (h c).2.2.1.trans ?_, (h c).2.2.2⟩) (Cert.FfnUpRefIdeal.Value.run (F := Ideal) m' ρ')
    · rw [Cert.FfnUpRefIdeal.Read.val_main_v5_eq, (hagree c).1, (hagree c).2.1]
      exact ref5 _ _
    · rw [Cert.FfnUpRefIdeal.Read.val_main_v6_eq, (hagree c).1, (hagree c).2.2]
      exact ref6 _ _
    · rw [Cert.FfnUpRefIdeal.Read.val_main_v9_eq, (hagree c).1, (hagree c).2.1, (hagree c).2.2]
      exact ref9 _ _ _

end Cert.Proof.FfnUp

end
-- ==== Proof.Norm.lean ====
/-
  The normalisation of a row of 1024 extended reals: its mean, the reciprocal of its deviation and the normalised row,
  written with the constants that the programs hold (1024 and the normalisation's epsilon).
-/
module

public import Idealize.ShloMosaic.PureOps.Ideal
public import proofs.«01_k».proof.Proof.Finite

@[expose] public section

noncomputable section

namespace Cert.Proof.Norm

open Idealize.ShloMosaic
open scoped BigOperators

/-- A row's mean. -/
def mean (f : Fin 1024 → EReal) : EReal := Ideal.div (∑ k, f k) (Ideal.ofBits FTy.f32 1149239296#32)

/-- The reciprocal of a row's deviation. -/
def rstd (f : Fin 1024 → EReal) : EReal :=
  Ideal.rsqrt (Ideal.div (∑ k, (f k - mean f) * (f k - mean f)) (Ideal.ofBits FTy.f32 1149239296#32)
    + Ideal.ofBits FTy.f32 925353388#32)

/-- The normalised row. -/
def xhat (f : Fin 1024 → EReal) (k : Fin 1024) : EReal := (f k - mean f) * rstd f

/-- The reciprocal deviation of equal rows. -/
theorem rstd_at (f f' : Fin 1024 → EReal) (hf : ∀ k, f k = f' k) : rstd f = rstd f' := by rw [funext hf]

/-- The normalised element of equal rows. -/
theorem xhat_at (f f' : Fin 1024 → EReal) (e : EReal) (j : Fin 1024) (hf : ∀ k, f k = f' k) (he : e = f' j) :
    (e - mean f) * rstd f = xhat f' j := by rw [funext hf, he, xhat]

/-- The normalised element of equal rows, with its gain and bias. -/
theorem affine_at (f f' : Fin 1024 → EReal) (e g g' b b' : EReal) (j : Fin 1024) (hf : ∀ k, f k = f' k) (he : e = f' j)
    (hg : g = g') (hb : b = b') : (e - mean f) * rstd f * g + b = xhat f' j * g' + b' := by
  rw [xhat_at f f' e j hf he, hg, hb]

end Cert.Proof.Norm

end
-- ==== Proof.FfnDown.lean ====
/-
  The feed-forward block's last product, the residual sum and the normalisation: `r = alpha x + 0.5 (a wd)`, its
  normalised rows with gain and bias, the normalised rows alone and the reciprocal deviations. A grid point takes a block
  of whole rows, so its formula is the reference's.
-/
module

public import proofs.«01_k».proof.Defs
public import proofs.«01_k».proof.Proof.Gen.FfnDownIdeal.Value
public import proofs.«01_k».proof.Proof.Gen.FfnDownRefIdeal.Run
public import proofs.«01_k».proof.Proof.Gen.FfnDownRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt
public import proofs.«01_k».proof.Proof.Finite
public import proofs.«01_k».proof.Proof.Sums
public import proofs.«01_k».proof.Proof.Norm

@[expose] public section
noncomputable section

namespace Cert.Proof.FfnDown
open Cert.FfnDownIdeal Cert.FfnDownIdeal.Gen Idealize.ShloMosaic Idealize.ShloMosaic.TcCoe Idealize.SL.Sem
open scoped BigOperators
variable (m : (ℓ : Loc nD τ sig) → Buf (Elt Ideal) ℓ)

/-- Window 0: rows of `a`. -/
theorem index0 : ∀ t : Fin cfg0.N, win0_0.index t = ![t.val, 0] := (by decide +kernel : ∀ t : Fin grid0.N, _)
/-- Window 2: rows of `x`. -/
theorem index2 : ∀ t : Fin cfg0.N, win0_2.index t = ![t.val, 0] := (by decide +kernel : ∀ t : Fin grid0.N, _)
/-- Window 5: rows of the result. -/
theorem index5 : ∀ t : Fin cfg0.N, win0_5.index t = ![t.val, 0] := (by decide +kernel : ∀ t : Fin grid0.N, _)
/-- Window 6: rows of the rounded result. -/
theorem index6 : ∀ t : Fin cfg0.N, win0_6.index t = ![t.val, 0] := (by decide +kernel : ∀ t : Fin grid0.N, _)
/-- Window 7: rows of the normalised array. -/
theorem index7 : ∀ t : Fin cfg0.N, win0_7.index t = ![t.val, 0] := (by decide +kernel : ∀ t : Fin grid0.N, _)
/-- Window 8: rows of the reciprocal deviations. -/
theorem index8 : ∀ t : Fin cfg0.N, win0_8.index t = ![t.val, 0] := (by decide +kernel : ∀ t : Fin grid0.N, _)
/-- Window 1: the whole weight. -/
theorem index1 : ∀ t : Fin cfg0.N, win0_1.index t = ![0, 0] := (by decide +kernel : ∀ t : Fin grid0.N, _)
/-- Window 3: the gain. -/
theorem index3 : ∀ t : Fin cfg0.N, win0_3.index t = ![0, 0] := (by decide +kernel : ∀ t : Fin grid0.N, _)
/-- Window 4: the bias. -/
theorem index4 : ∀ t : Fin cfg0.N, win0_4.index t = ![0, 0] := (by decide +kernel : ∀ t : Fin grid0.N, _)

/-- A vector as an array of one row. -/
def asRow (g : S1024.Idx → EReal) (j : S1x1024.Idx) : EReal := g (ix1 (j 1))

/-- What window 3 stages is the gain. -/
theorem V_v0 (c : Dev nD) : V m c main_v0 = asRow (m (c.tc.loc main_arg3)) := by
  funext j
  unfold V asRow
  after_reads_at

/-- What window 4 stages is the bias. -/
theorem V_v1 (c : Dev nD) : V m c main_v1 = asRow (m (c.tc.loc main_arg4)) := by
  funext j
  unfold V asRow
  after_reads_at

section Values
variable (a : S8192x3072.Idx → EReal) (wd : S3072x1024.Idx → EReal) (x : S8192x1024.Idx → EReal) (g b : S1024.Idx → EReal)

/-- A row of the residual sum. -/
def row (p : Fin 8192) (k : Fin 1024) : EReal :=
  Ideal.ofBits FTy.f32 1068827891#32 * x (ix2 p k)
    + Ideal.ofBits FTy.f32 1056964608#32 * ∑ l : Fin 3072, a (ix2 p l) * wd (ix2 l k)

/-- The normalised rows. -/
def hat (i : S8192x1024.Idx) : EReal := Norm.xhat (row a wd x (i 0)) (i 1)

/-- The normalised rows with gain and bias. -/
def out (i : S8192x1024.Idx) : EReal := hat a wd x i * g (ix1 (i 1)) + b (ix1 (i 1))

/-- The reciprocal deviations. -/
def dev (i : S8192x1.Idx) : EReal := Norm.rstd (row a wd x (i 0))

/-- An element of the residual sum, from equal indices. -/
theorem row_at {i : S8192x1024.Idx} {u : Fin 3072 → S8192x3072.Idx} {v : Fin 3072 → S3072x1024.Idx} {p : Fin 8192}
    {k : Fin 1024} (hi : i = ix2 p k) (hu : ∀ l, u l = ix2 p l) (hv : ∀ l, v l = ix2 l k) :
    Ideal.ofBits FTy.f32 1068827891#32 * x i + Ideal.ofBits FTy.f32 1056964608#32 * ∑ l, a (u l) * wd (v l)
      = row a wd x p k := by
  rw [row, hi, dot_at a wd hu hv]
end Values

/-- A row of the block of point `t`, as the kernel computes it. -/
def blockRow (c : Dev nD) (t : Fin cfg0.N) (p : Fin 512) (k : Fin 1024) : EReal :=
  HAdd.hAdd (α := EReal) (β := EReal)
    (HMul.hMul (α := EReal) (β := EReal) (Ideal.ofBits FTy.f32 1068827891#32) (m (c.tc.loc main_arg2) ((win0_2.blk t).view.emb (ix2 p k))))
    (Ideal.ofBits FTy.f32 1056964608#32 * ∑ l : Fin 3072, HMul.hMul (α := EReal) (β := EReal)
      (m (c.tc.loc main_arg0) ((win0_0.blk t).view.emb (ix2 p l))) (m (c.tc.loc main_arg1) ((win0_1.blk t).view.emb (ix2 l k))))

/-- The first result's array after the run. -/
theorem arr5 (c : Dev nD) : (dats m 0 c).arrAt 5 cfg0.N = out (m (c.tc.loc main_arg0)) (m (c.tc.loc main_arg1)) (m (c.tc.loc main_arg2))
    (m (c.tc.loc main_arg3)) (m (c.tc.loc main_arg4)) := by
  refine (dats m 0 c).arrAt_eq_of_covers 5 _ (by decide +kernel) fun t hf y => ?_
  blk_simp
  rw [after0_5]; simp only [outsAt0]; unfold out0_A_5; frame_out
  unfold_payloads
  pointwise
  blk_simp [iblk]
  rw [V_main_arg0, V_main_arg1, V_main_arg2, V_v0, V_v1]
  exact Norm.affine_at (blockRow m c t (y 0)) (row (m (c.tc.loc main_arg0)) (m (c.tc.loc main_arg1)) (m (c.tc.loc main_arg2)) ((win0_5.blk t).view.emb y 0)) _ _ _ _ _ ((win0_5.blk t).view.emb y 1)
    (fun k => row_at (m (c.tc.loc main_arg0)) (m (c.tc.loc main_arg1)) (m (c.tc.loc main_arg2)) (by blk_ext [index2, index5])
      (fun l => by blk_ext [index0, index5]) (fun l => by blk_ext [index1, index5]))
    (row_at (m (c.tc.loc main_arg0)) (m (c.tc.loc main_arg1)) (m (c.tc.loc main_arg2)) (by blk_ext [index2, index5])
      (fun l => by blk_ext [index0, index5]) (fun l => by blk_ext [index1, index5]))
    (congrArg (m (c.tc.loc main_arg3)) (by blk_ext [index3, index5])) (congrArg (m (c.tc.loc main_arg4)) (by blk_ext [index4, index5]))

/-- The rounded result's array after the run. -/
theorem arr6 (c : Dev nD) : (dats m 0 c).arrAt 6 cfg0.N = out (m (c.tc.loc main_arg0)) (m (c.tc.loc main_arg1)) (m (c.tc.loc main_arg2))
    (m (c.tc.loc main_arg3)) (m (c.tc.loc main_arg4)) := by
  refine (dats m 0 c).arrAt_eq_of_covers 6 _ (by decide +kernel) fun t hf y => ?_
  blk_simp
  rw [after0_6]; simp only [outsAt0]; unfold out0_A_6; frame_out
  unfold_payloads
  pointwise
  blk_simp [iblk]
  rw [V_main_arg0, V_main_arg1, V_main_arg2, V_v0, V_v1]
  exact Norm.affine_at (blockRow m c t (y 0)) (row (m (c.tc.loc main_arg0)) (m (c.tc.loc main_arg1)) (m (c.tc.loc main_arg2)) ((win0_6.blk t).view.emb y 0)) _ _ _ _ _ ((win0_6.blk t).view.emb y 1)
    (fun k => row_at (m (c.tc.loc main_arg0)) (m (c.tc.loc main_arg1)) (m (c.tc.loc main_arg2)) (by blk_ext [index2, index6])
      (fun l => by blk_ext [index0, index6]) (fun l => by blk_ext [index1, index6]))
    (row_at (m (c.tc.loc main_arg0)) (m (c.tc.loc main_arg1)) (m (c.tc.loc main_arg2)) (by blk_ext [index2, index6])
      (fun l => by blk_ext [index0, index6]) (fun l => by blk_ext [index1, index6]))
    (congrArg (m (c.tc.loc main_arg3)) (by blk_ext [index3, index6])) (congrArg (m (c.tc.loc main_arg4)) (by blk_ext [index4, index6]))

/-- The normalised rows' array after the run. -/
theorem arr7 (c : Dev nD) : (dats m 0 c).arrAt 7 cfg0.N = hat (m (c.tc.loc main_arg0)) (m (c.tc.loc main_arg1)) (m (c.tc.loc main_arg2)) := by
  refine (dats m 0 c).arrAt_eq_of_covers 7 _ (by decide +kernel) fun t hf y => ?_
  blk_simp
  rw [after0_7]; simp only [outsAt0]; unfold out0_A_7; frame_out
  unfold_payloads
  pointwise
  blk_simp [iblk]
  rw [V_main_arg0, V_main_arg1, V_main_arg2]
  exact Norm.xhat_at (blockRow m c t (y 0)) (row (m (c.tc.loc main_arg0)) (m (c.tc.loc main_arg1)) (m (c.tc.loc main_arg2)) ((win0_7.blk t).view.emb y 0)) _ ((win0_7.blk t).view.emb y 1)
    (fun k => row_at (m (c.tc.loc main_arg0)) (m (c.tc.loc main_arg1)) (m (c.tc.loc main_arg2)) (by blk_ext [index2, index7])
      (fun l => by blk_ext [index0, index7]) (fun l => by blk_ext [index1, index7]))
    (row_at (m (c.tc.loc main_arg0)) (m (c.tc.loc main_arg1)) (m (c.tc.loc main_arg2)) (by blk_ext [index2, index7])
      (fun l => by blk_ext [index0, index7]) (fun l => by blk_ext [index1, index7]))

/-- The reciprocal deviations' array after the run. -/
theorem arr8 (c : Dev nD) : (dats m 0 c).arrAt 8 cfg0.N = dev (m (c.tc.loc main_arg0)) (m (c.tc.loc main_arg1)) (m (c.tc.loc main_arg2)) := by
  refine (dats m 0 c).arrAt_eq_of_covers 8 _ (by decide +kernel) fun t hf y => ?_
  blk_simp
  rw [after0_8]; simp only [outsAt0]; unfold out0_A_8; frame_out
  unfold_payloads
  pointwise
  blk_simp [iblk]
  rw [V_main_arg0, V_main_arg1, V_main_arg2]
  exact Norm.rstd_at (blockRow m c t (y 0)) (row (m (c.tc.loc main_arg0)) (m (c.tc.loc main_arg1)) (m (c.tc.loc main_arg2)) ((win0_8.blk t).view.emb y 0))
    (fun k => row_at (m (c.tc.loc main_arg0)) (m (c.tc.loc main_arg1)) (m (c.tc.loc main_arg2)) (by blk_ext [index2, index8])
      (fun l => by blk_ext [index0, index8]) (fun l => by blk_ext [index1, index8]))

section Reference
variable (a : S8192x3072.Idx → EReal) (wd : S3072x1024.Idx → EReal) (x : S8192x1024.Idx → EReal) (g b : S1024.Idx → EReal)
open Cert.FfnDownRefIdeal.Read

/-- The reference's residual sum. -/
theorem ref7 (p : Fin 8192) (k : Fin 1024) : val_main_v7 (F := Ideal) a wd x (ix2 p k) = row a wd x p k := by
  unfold val_main_v7 val_main_v6 val_main_v5 val_main_v4 val_main_v3 val_main_v2 val_main_v1 val_main_v0 val_main_cst val_main_cst_0
  pointwise
  rfl

/-- The reference's first result. -/
theorem ref31 : val_main_v31 (F := Ideal) a wd x g b = out a wd x g b := by
  funext i
  unfold val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_cst_1 val_main_cst_2 val_main_cst_3 val_main_cst_4 val_main_cst_5
  pointwise
  refine Norm.affine_at (fun k => val_main_v7 (F := Ideal) a wd x (ix2 (i 0) k)) (row a wd x (i 0)) _ _ _ _ _ (i 1) (ref7 a wd x (i 0)) ?_ rfl rfl
  exact (congrArg _ (eq_ix2 i)).trans (ref7 a wd x (i 0) (i 1))

/-- The reference's normalised rows. -/
theorem ref50 : val_main_v50 (F := Ideal) a wd x = hat a wd x := by
  funext i
  unfold val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_cst_6 val_main_cst_7 val_main_cst_8 val_main_cst_9 val_main_cst_10
  pointwise
  exact Norm.xhat_at (fun k => val_main_v7 (F := Ideal) a wd x (ix2 (i 0) k)) (row a wd x (i 0)) _ (i 1) (ref7 a wd x (i 0))
    ((congrArg _ (eq_ix2 i)).trans (ref7 a wd x (i 0) (i 1)))

/-- The reference's reciprocal deviations. -/
theorem ref46 : val_main_v46 (F := Ideal) a wd x = dev a wd x := by
  funext i
  unfold val_main_v46 val_main_v45 val_main_v44 val_main_v43 val_main_v42 val_main_v41 val_main_v40 val_main_v39 val_main_v38 val_main_v37 val_main_v36 val_main_v35 val_main_v34 val_main_v33 val_main_cst_6 val_main_cst_7 val_main_cst_8 val_main_cst_9 val_main_cst_10
  pointwise
  exact Norm.rstd_at (fun k => val_main_v7 (F := Ideal) a wd x (ix2 (i 0) k)) (row a wd x (i 0)) (ref7 a wd x (i 0))
end Reference

/-- The rounded result is the result. -/
theorem ref32 (a : S8192x3072.Idx → EReal) (wd : S3072x1024.Idx → EReal) (x : S8192x1024.Idx → EReal) (g b : S1024.Idx → EReal) :
    Cert.FfnDownRefIdeal.Read.val_main_v32 (F := Ideal) a wd x g b = out a wd x g b := ref31 a wd x g b

/-- The reference changes no argument and leaves no semaphore raised. -/
theorem frame_ref : Cert.quiescent_FfnDownRefIdeal := fun m ρ _ =>
  (θ_run Cert.FfnDownRefIdeal.defs _ _).mono (fun r h => ⟨fun c => (h c).2.2.2.2, sem_eq_zero_of_no_sems (by decide) r.2⟩)
    (Cert.FfnDownRefIdeal.Value.run (F := Ideal) m ρ)

/-- The kernel's four arrays are the reference's. -/
theorem algebraic : Cert.algebraic_FfnDownIdeal_FfnDownRefIdeal := by
  intro m ρ m' ρ' hpre hagree
  refine ⟨fun c => out (m (c.tc.loc main_arg0)) (m (c.tc.loc main_arg1)) (m (c.tc.loc main_arg2)) (m (c.tc.loc main_arg3)) (m (c.tc.loc main_arg4)),
    fun c => out (m (c.tc.loc main_arg0)) (m (c.tc.loc main_arg1)) (m (c.tc.loc main_arg2)) (m (c.tc.loc main_arg3)) (m (c.tc.loc main_arg4)),
    fun c => hat (m (c.tc.loc main_arg0)) (m (c.tc.loc main_arg1)) (m (c.tc.loc main_arg2)),
    fun c => dev (m (c.tc.loc main_arg0)) (m (c.tc.loc main_arg1)) (m (c.tc.loc main_arg2)), ?_, ?_⟩
  · exact (θ_run Cert.FfnDownIdeal.defs _ _).mono (fun _ h c => ⟨(h c).1.trans (arr5 m c), (h c).2.1.trans (arr6 m c),
      (h c).2.2.1.trans (arr7 m c), (h c).2.2.2.1.trans (arr8 m c), (h c).2.2.2.2⟩) (Cert.FfnDownIdeal.Value.run_blocks (F := Ideal) m ρ)
  · refine (θ_run Cert.FfnDownRefIdeal.defs _ _).mono (fun _ h c => ⟨(h c).1.trans ?_, (h c).2.1.trans ?_,
      (h c).2.2.1.trans ?_, (h c).2.2.2.1.trans ?_, (h c).2.2.2.2⟩) (Cert.FfnDownRefIdeal.Value.run (F := Ideal) m' ρ')
    all_goals obtain ⟨h0, h1, h2, h3, h4⟩ := hagree c
    · rw [Cert.FfnDownRefIdeal.Read.val_main_v31_eq, h0, h1, h2, h3, h4]
      exact ref31 _ _ _ _ _
    · rw [Cert.FfnDownRefIdeal.Read.val_main_v32_eq, h0, h1, h2, h3, h4]
      exact ref32 _ _ _ _ _
    · rw [Cert.FfnDownRefIdeal.Read.val_main_v50_eq, h0, h1, h2]
      exact ref50 _ _ _
    · rw [Cert.FfnDownRefIdeal.Read.val_main_v46_eq, h0, h1, h2]
      exact ref46 _ _ _

end Cert.Proof.FfnDown

end
-- ==== Proof.NormGrad.lean ====
/-
  The gradient of the normalisation of a row of 1024 elements. The reference differentiates the mean, the variance and
  the reciprocal deviation one after the other; the kernel uses the closed form in the normalised row. On rows of real
  numbers the two agree.
-/
module

public import proofs.«01_k».proof.Proof.Norm

@[expose] public section

noncomputable section

namespace Cert.Proof.Norm

open Idealize.ShloMosaic
open scoped BigOperators

/-- A row's variance with the epsilon added. -/
def spread (f : Fin 1024 → EReal) : EReal :=
  Ideal.div (∑ k, (f k - mean f) * (f k - mean f)) (Ideal.ofBits FTy.f32 1149239296#32)
    + Ideal.ofBits FTy.f32 925353388#32

/-- The closed form: from the cotangent `q` of the normalised row, the cotangent of the row. -/
def grad (f q : Fin 1024 → EReal) (j : Fin 1024) : EReal :=
  rstd f * (q j - Ideal.div (∑ k, q k) (Ideal.ofBits FTy.f32 1149239296#32)
    - xhat f j * Ideal.div (∑ k, q k * xhat f k) (Ideal.ofBits FTy.f32 1149239296#32))

/-- The cotangent of the variance, spread over the row's elements. -/
def slope (f q : Fin 1024 → EReal) : EReal :=
  Ideal.div ((∑ k, (f k - mean f) * q k) * (Ideal.ofBits FTy.f32 3204448256#32 * Ideal.div (rstd f) (spread f)))
    (Ideal.ofBits FTy.f32 1149239296#32)

/-- The reference's form: the direct term, the variance's and the mean's. -/
def chain (f q : Fin 1024 → EReal) (j : Fin 1024) : EReal :=
  q j * rstd f + slope f q * (Ideal.ofBits FTy.f32 1073741824#32 * (f j - mean f))
    + Ideal.div (∑ k, -(q k * rstd f) + ∑ k, -(slope f q * (Ideal.ofBits FTy.f32 1073741824#32 * (f k - mean f))))
        (Ideal.ofBits FTy.f32 1149239296#32)

/-- The closed form of equal parts. -/
theorem grad_at (f q : Fin 1024 → EReal) {q' h' : Fin 1024 → EReal} {rs e x : EReal} {j : Fin 1024} (hrs : rs = rstd f)
    (hq : ∀ k, q' k = q k) (hh : ∀ k, h' k = xhat f k) (he : e = q j) (hx : x = xhat f j) :
    rs * (e - Ideal.div (∑ k, q' k) (Ideal.ofBits FTy.f32 1149239296#32)
      - x * Ideal.div (∑ k, q' k * h' k) (Ideal.ofBits FTy.f32 1149239296#32)) = grad f q j := by
  rw [hrs, funext hq, funext hh, he, hx, grad]

/-- The f32 pattern of the row's length. -/
theorem ofBits_length : Ideal.ofBits .f32 1149239296#32 = ((1024 : ℝ) : EReal) := by
  simp [Ideal.ofBits, Ideal.ieee, -EReal.coe_mul]; norm_num
/-- The f32 pattern of minus one half. -/
theorem ofBits_neg_half : Ideal.ofBits .f32 3204448256#32 = ((-(1 / 2) : ℝ) : EReal) := by
  simp [Ideal.ofBits, Ideal.ieee, -EReal.coe_mul]; norm_num
/-- The f32 pattern of two. -/
theorem ofBits_two : Ideal.ofBits .f32 1073741824#32 = ((2 : ℝ) : EReal) := by
  simp [Ideal.ofBits, Ideal.ieee, -EReal.coe_mul]; norm_num
/-- The f32 pattern of the epsilon is a positive real number. -/
theorem ofBits_eps : ∃ e : ℝ, 0 < e ∧ Ideal.ofBits .f32 925353388#32 = (e : EReal) := by
  refine ⟨_, ?_, by simp [Ideal.ofBits, Ideal.ieee, -EReal.coe_mul]; rfl⟩
  norm_num

/-- A row of reals has a real mean. -/
theorem mean_coe (r : Fin 1024 → ℝ) : mean (fun k => (r k : EReal)) = (((∑ k, r k) / 1024 : ℝ) : EReal) := by
  rw [mean, sum_coe, ofBits_length, div_coe _ (by norm_num)]

/-- A row of reals has a real, positive spread, and its reciprocal deviation is the reciprocal of the spread's root. -/
theorem spread_coe (r : Fin 1024 → ℝ) : ∃ v : ℝ, 0 < v ∧ spread (fun k => (r k : EReal)) = (v : EReal)
    ∧ rstd (fun k => (r k : EReal)) = (((Real.sqrt v)⁻¹ : ℝ) : EReal) := by
  obtain ⟨e, he, h⟩ := ofBits_eps
  have hs : spread (fun k => (r k : EReal))
      = (((∑ k, (r k - (∑ k, r k) / 1024) * (r k - (∑ k, r k) / 1024)) / 1024 + e : ℝ) : EReal) := by
    simp only [spread, mean_coe, ← EReal.coe_sub, ← EReal.coe_mul, sum_coe]
    rw [ofBits_length, div_coe _ (by norm_num), h, ← EReal.coe_add]
  have hv : 0 < (∑ k, (r k - (∑ k, r k) / 1024) * (r k - (∑ k, r k) / 1024)) / 1024 + e := by
    have : 0 ≤ ∑ k, (r k - (∑ k, r k) / 1024) * (r k - (∑ k, r k) / 1024) :=
      Finset.sum_nonneg fun k _ => mul_self_nonneg _
    positivity
  refine ⟨_, hv, hs, ?_⟩
  change Ideal.rsqrt (spread _) = _
  rw [hs, Ideal.rsqrt_coe, if_neg hv.le.not_gt, if_neg hv.ne']

/-- The deviations from the mean add up to zero. -/
theorem sum_dev (r : Fin 1024 → ℝ) : ∑ k, (r k - (∑ k, r k) / 1024) = 0 := by
  rw [Finset.sum_sub_distrib, Finset.sum_const, Finset.card_univ, Fintype.card_fin, nsmul_eq_mul]
  push_cast
  ring

/-- On real rows the reference's form is the closed form. -/
theorem chain_eq (r q : Fin 1024 → ℝ) (j : Fin 1024) :
    chain (fun k => (r k : EReal)) (fun k => (q k : EReal)) j = grad (fun k => (r k : EReal)) (fun k => (q k : EReal)) j := by
  obtain ⟨v, hv, hs, hr⟩ := spread_coe r
  have h0 := sum_dev r
  simp only [chain, grad, slope, xhat, hs, hr, mean_coe, ofBits_length, ofBits_two, ofBits_neg_half, ← EReal.coe_sub,
    ← EReal.coe_mul, sum_coe, div_coe _ hv.ne', div_coe _ (show (1024 : ℝ) ≠ 0 by norm_num), ← EReal.coe_neg, ← EReal.coe_add]
  congr 1
  generalize (∑ k, r k) / 1024 = μ at *
  have hw : (Real.sqrt v)⁻¹ * (Real.sqrt v)⁻¹ = v⁻¹ := by rw [← mul_inv, Real.mul_self_sqrt hv.le]
  generalize (Real.sqrt v)⁻¹ = s at *
  have e1 : ∑ k, (r k - μ) * q k = ∑ k, q k * (r k - μ) := Finset.sum_congr rfl fun k _ => mul_comm _ _
  have e2 : ∑ k, q k * ((r k - μ) * s) = (∑ k, q k * (r k - μ)) * s := by
    rw [Finset.sum_mul]; exact Finset.sum_congr rfl fun k _ => by ring
  have e3 : ∑ k, -(q k * s) = -((∑ k, q k) * s) := by rw [Finset.sum_neg_distrib, Finset.sum_mul]
  rw [e1, e2, e3]
  generalize ∑ k, q k * (r k - μ) = A
  have e4 (c : ℝ) : ∑ k, -(c * (2 * (r k - μ))) = 0 := by
    rw [Finset.sum_neg_distrib, ← Finset.mul_sum, ← Finset.mul_sum, h0, mul_zero, mul_zero, neg_zero]
  rw [e4, div_eq_mul_inv s v, ← hw]
  ring

end Cert.Proof.Norm

end
-- ==== Proof.LnBwd.lean ====
/-
  The gradient of the normalisation in front of a feed-forward block, the two input products' included. The kernel forms
  the normalised rows' cotangent `alpha dx + dg wg^T + du wu^T` chip block by chip block, and from it the rows'
  cotangent in closed form; the gain's and the bias's gradients are added up over the grid. On finite arrays the rows'
  cotangent is the reference's; the other two meet it without any condition.
-/
module

public import proofs.«01_k».proof.Defs
public import proofs.«01_k».proof.Proof.Gen.LnBwdIdeal.Value
public import proofs.«01_k».proof.Proof.Gen.LnBwdRefIdeal.Run
public import proofs.«01_k».proof.Proof.Gen.LnBwdRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt
public import proofs.«01_k».proof.Proof.Finite
public import proofs.«01_k».proof.Proof.Sums
public import proofs.«01_k».proof.Proof.Norm
public import proofs.«01_k».proof.Proof.NormGrad
public import proofs.«01_k».proof.Proof.Gen.Pre_ln_bwd_finite

@[expose] public section
noncomputable section

namespace Cert.Proof.LnBwd
open Cert.LnBwdIdeal Cert.LnBwdIdeal.Gen Idealize.ShloMosaic Idealize.ShloMosaic.TcCoe Idealize.SL.Sem
open scoped BigOperators
variable (m : (ℓ : Loc nD τ sig) → Buf (Elt Ideal) ℓ)

/-- Window 0: rows of `dg`. -/
theorem index0 : ∀ t : Fin cfg0.N, win0_0.index t = ![t.val, 0] := (by decide +kernel : ∀ t : Fin grid0.N, _)
/-- Window 2: rows of `du`. -/
theorem index2 : ∀ t : Fin cfg0.N, win0_2.index t = ![t.val, 0] := (by decide +kernel : ∀ t : Fin grid0.N, _)
/-- Window 4: rows of `dx`. -/
theorem index4 : ∀ t : Fin cfg0.N, win0_4.index t = ![t.val, 0] := (by decide +kernel : ∀ t : Fin grid0.N, _)
/-- Window 5: rows of the normalised array. -/
theorem index5 : ∀ t : Fin cfg0.N, win0_5.index t = ![t.val, 0] := (by decide +kernel : ∀ t : Fin grid0.N, _)
/-- Window 6: rows of the reciprocal deviations. -/
theorem index6 : ∀ t : Fin cfg0.N, win0_6.index t = ![t.val, 0] := (by decide +kernel : ∀ t : Fin grid0.N, _)
/-- Window 8: rows of the result. -/
theorem index8 : ∀ t : Fin cfg0.N, win0_8.index t = ![t.val, 0] := (by decide +kernel : ∀ t : Fin grid0.N, _)
/-- Window 9: rows of the rounded result. -/
theorem index9 : ∀ t : Fin cfg0.N, win0_9.index t = ![t.val, 0] := (by decide +kernel : ∀ t : Fin grid0.N, _)
/-- Window 1 holds its whole array at every point. -/
theorem index1 : ∀ t : Fin cfg0.N, win0_1.index t = ![0, 0, 0] := (by decide +kernel : ∀ t : Fin grid0.N, _)
/-- Window 3 holds its whole array at every point. -/
theorem index3 : ∀ t : Fin cfg0.N, win0_3.index t = ![0, 0, 0] := (by decide +kernel : ∀ t : Fin grid0.N, _)
/-- Window 7 holds its whole array at every point. -/
theorem index7 : ∀ t : Fin cfg0.N, win0_7.index t = ![0, 0] := (by decide +kernel : ∀ t : Fin grid0.N, _)
/-- Window 10 holds its whole array at every point. -/
theorem index10 : ∀ t : Fin cfg0.N, win0_10.index t = ![0, 0] := (by decide +kernel : ∀ t : Fin grid0.N, _)
/-- Window 11 holds its whole array at every point. -/
theorem index11 : ∀ t : Fin cfg0.N, win0_11.index t = ![0, 0] := (by decide +kernel : ∀ t : Fin grid0.N, _)

/-- A weight cut into four blocks of 768 columns. -/
def cut (w : S1024x3072.Idx → EReal) (j : S4x1024x768.Idx) : EReal :=
  w (ix2 (j 1) ⟨(j 0).val * 768 + (j 2).val, by
    have h0 : (j 0).val < 4 := (j 0).isLt
    have h2 : (j 2).val < 768 := (j 2).isLt
    omega⟩)

/-- A vector as an array of one row. -/
def asRow (g : S1024.Idx → EReal) (j : S1x1024.Idx) : EReal := g (ix1 (j 1))

/-- A row of an array. -/
def rowOf (r : S8192x1024.Idx → EReal) (p : Fin 8192) (k : Fin 1024) : EReal := r (ix2 p k)

/-- The rows' reciprocal deviations. -/
def dev (r : S8192x1024.Idx → EReal) (i : S8192x1.Idx) : EReal := Norm.rstd (rowOf r (i 0))

/-- The normalised rows. -/
def hat (r : S8192x1024.Idx → EReal) (i : S8192x1024.Idx) : EReal := Norm.xhat (rowOf r (i 0)) (i 1)

/-- What window 1 stages is the first weight, cut. -/
theorem V_v19 (c : Dev nD) : V m c main_v19 = cut (m (c.tc.loc main_arg3)) := by
  funext j
  unfold V cut
  after_reads_at

/-- What window 3 stages is the second weight, cut. -/
theorem V_v21 (c : Dev nD) : V m c main_v21 = cut (m (c.tc.loc main_arg4)) := by
  funext j
  unfold V cut
  after_reads_at

/-- What window 7 stages is the gain. -/
theorem V_v22 (c : Dev nD) : V m c main_v22 = asRow (m (c.tc.loc main_arg1)) := by
  funext j
  unfold V asRow
  after_reads_at

/-- What window 6 stages is the rows' reciprocal deviations. -/
theorem V_v13 (c : Dev nD) : V m c main_v13 = dev (m (c.tc.loc main_arg0)) := by
  funext j
  unfold V
  after_reads_at
  rfl

/-- What window 5 stages is the normalised rows. -/
theorem V_v17 (c : Dev nD) : V m c main_v17 = hat (m (c.tc.loc main_arg0)) := by
  funext j
  unfold V
  after_reads_at
  exact Norm.xhat_at (rowOf (m (c.tc.loc main_arg0)) (j 0)) _ _ _ (fun k => rfl) (congrArg (m (c.tc.loc main_arg0)) (eq_ix2 j))

section Values
variable (r : S8192x1024.Idx → EReal) (g : S1024.Idx → EReal) (wg wu : S1024x3072.Idx → EReal) (dx : S8192x1024.Idx → EReal)
  (dg du : S8192x3072.Idx → EReal)

/-- A column's term of a product. -/
def term (d : S8192x3072.Idx → EReal) (w : S1024x3072.Idx → EReal) (i : S8192x1024.Idx) (k : Fin 3072) : EReal :=
  d (ix2 (i 0) k) * w (ix2 (i 1) k)

/-- The cotangent of the normalised rows with their gain. -/
def total (i : S8192x1024.Idx) : EReal :=
  ∑ k, term du wu i k + ∑ k, term dg wg i k + Ideal.ofBits FTy.f32 1068827891#32 * dx i

/-- A row of the cotangent of the normalised rows. -/
def inner (p : Fin 8192) (k : Fin 1024) : EReal := total wg wu dx dg du (ix2 p k) * g (ix1 k)

/-- The rows' cotangent. -/
def dr (i : S8192x1024.Idx) : EReal := Norm.grad (rowOf r (i 0)) (inner g wg wu dx dg du (i 0)) (i 1)
end Values

/-- A row of the first operand's block against a row of the cut weight, over the columns of chip `s`. -/
def run (d : S256x3072.Idx → EReal) (w : S4x1024x768.Idx → EReal) (y : S256x1024.Idx) (s : Fin 4) (x : Fin 768) : EReal :=
  d (ix2 (y 0) ⟨768 * s.val + x.val, by have := s.isLt; have := x.isLt; omega⟩) * w (ix3 s (y 1) x)

/-- Each run of the first pair, read off the arrays. -/
theorem run_g (c : Dev nD) (t : Fin cfg0.N) (y : S256x1024.Idx) (s : Fin 4) (x : Fin 768) :
    run (fun j => m (c.tc.loc main_arg6) ((win0_0.blk t).view.emb j)) (fun j => cut (m (c.tc.loc main_arg3)) ((win0_1.blk t).view.emb j)) y s x
      = term (m (c.tc.loc main_arg6)) (m (c.tc.loc main_arg3)) ((win0_8.blk t).view.emb y)
        ⟨768 * s.val + x.val, by have := s.isLt; have := x.isLt; omega⟩ := by
  refine mul_at (m (c.tc.loc main_arg6)) (m (c.tc.loc main_arg3)) ?_ ?_
  · blk_ext [index0, index8]
  · blk_ext [index1, index8]

/-- Each run of the second pair. -/
theorem run_u (c : Dev nD) (t : Fin cfg0.N) (y : S256x1024.Idx) (s : Fin 4) (x : Fin 768) :
    run (fun j => m (c.tc.loc main_arg7) ((win0_2.blk t).view.emb j)) (fun j => cut (m (c.tc.loc main_arg4)) ((win0_3.blk t).view.emb j)) y s x
      = term (m (c.tc.loc main_arg7)) (m (c.tc.loc main_arg4)) ((win0_8.blk t).view.emb y)
        ⟨768 * s.val + x.val, by have := s.isLt; have := x.isLt; omega⟩ := by
  refine mul_at (m (c.tc.loc main_arg7)) (m (c.tc.loc main_arg4)) ?_ ?_
  · blk_ext [index2, index8]
  · blk_ext [index3, index8]

/-- The residual's element of a block is the result's. -/
theorem emb4 (t : Fin cfg0.N) (y : S256x1024.Idx) : (win0_4.blk t).view.emb y = (win0_8.blk t).view.emb y := by
  blk_ext [index4, index8]
/-- The normalised array's element of a block is the result's. -/
theorem emb5 (t : Fin cfg0.N) (y : S256x1024.Idx) : (win0_5.blk t).view.emb y = (win0_8.blk t).view.emb y := by
  blk_ext [index5, index8]
/-- The rounded result's element of a block is the result's. -/
theorem emb9 (t : Fin cfg0.N) (y : S256x1024.Idx) : (win0_9.blk t).view.emb y = (win0_8.blk t).view.emb y := by
  blk_ext [index9, index8]

/-- The cotangent of the gained rows in the block of point `t`, as the kernel adds it up. -/
def blockDy (c : Dev nD) (t : Fin cfg0.N) (y : S256x1024.Idx) : EReal :=
  let a := run (fun j => m (c.tc.loc main_arg6) ((win0_0.blk t).view.emb j)) (fun j => cut (m (c.tc.loc main_arg3)) ((win0_1.blk t).view.emb j)) y
  let b := run (fun j => m (c.tc.loc main_arg7) ((win0_2.blk t).view.emb j)) (fun j => cut (m (c.tc.loc main_arg4)) ((win0_3.blk t).view.emb j)) y
  HMul.hMul (α := EReal) (β := EReal) (Ideal.ofBits FTy.f32 1068827891#32) (m (c.tc.loc main_arg5) ((win0_4.blk t).view.emb y))
    + ∑ x, a 0 x + ∑ x, a 1 x + ∑ x, a 2 x + ∑ x, a 3 x + ∑ x, b 0 x + ∑ x, b 1 x + ∑ x, b 2 x + ∑ x, b 3 x

/-- It is the block of the array's. -/
theorem blockDy_eq (c : Dev nD) (t : Fin cfg0.N) (y : S256x1024.Idx) :
    blockDy m c t y = total (m (c.tc.loc main_arg3)) (m (c.tc.loc main_arg4)) (m (c.tc.loc main_arg5)) (m (c.tc.loc main_arg6))
        (m (c.tc.loc main_arg7)) ((win0_8.blk t).view.emb y) := by
  have key := two_sums_by_runs (HMul.hMul (α := EReal) (β := EReal) (Ideal.ofBits FTy.f32 1068827891#32)
      (m (c.tc.loc main_arg5) ((win0_8.blk t).view.emb y)))
    (term (m (c.tc.loc main_arg6)) (m (c.tc.loc main_arg3)) ((win0_8.blk t).view.emb y))
    (term (m (c.tc.loc main_arg7)) (m (c.tc.loc main_arg4)) ((win0_8.blk t).view.emb y)) _ _ (run_g m c t y) (run_u m c t y)
  unfold total
  refine Eq.trans ?_ key
  rw [blockDy, emb4]

/-- The block's rows lie in the array's. -/
theorem emb_row (t : Fin cfg0.N) (y : S256x1024.Idx) (k : Fin 1024) :
    (win0_8.blk t).view.emb (ix2 (y 0) k) = ix2 ((win0_8.blk t).view.emb y 0) k := by blk_ext [index8]

/-- The deviations' block lies in the rows of the result's. -/
theorem dev_at (c : Dev nD) (t : Fin cfg0.N) (y : S256x1024.Idx) :
    dev (m (c.tc.loc main_arg0)) ((win0_6.blk t).view.emb (ix2 (y 0) (0 : Fin 1)))
      = Norm.rstd (rowOf (m (c.tc.loc main_arg0)) ((win0_8.blk t).view.emb y 0)) := by
  have e : (win0_6.blk t).view.emb (ix2 (y 0) (0 : Fin 1)) = ix2 ((win0_8.blk t).view.emb y 0) (0 : Fin 1) := by
    blk_ext [index6, index8]
  rw [e]
  rfl

/-- The gain's block is the gain. -/
theorem gain_at (c : Dev nD) (t : Fin cfg0.N) (k : Fin 1024) :
    asRow (m (c.tc.loc main_arg1)) ((win0_7.blk t).view.emb (ix2 (0 : Fin 1) k)) = m (c.tc.loc main_arg1) (ix1 k) :=
  congrArg (m (c.tc.loc main_arg1)) (by blk_ext [index7])

section Payloads
variable (v22 : FVec Ideal S256x1024 .f32) (v23 : Vec Ideal S256x768 .bf16) (v25 : FVec Ideal S1024x768 .bf16) (v28 : Vec Ideal S256x768 .bf16) (v29 : Vec Ideal S1x1024x768 .bf16) (v33 : Vec Ideal S256x768 .bf16) (v34 : Vec Ideal S1x1024x768 .bf16)
  (v38 : Vec Ideal S256x768 .bf16) (v39 : Vec Ideal S1x1024x768 .bf16)
  (v45 : Vec Ideal S1x1024 .f32)

/-- The cotangent of the gained rows, times the gain. -/
theorem pay11_at (y : S256x1024.Idx) :
    k0_pay11 v22 v23 v25 v28 v29 v33 v34 v38 v39 v45 y = HMul.hMul (α := EReal) (β := EReal) (k0_pay9 v22 v23 v25 v28 v29 v33 v34 v38 v39 y) (v45 (ix2 (0 : Fin 1) (y 1))) := by
  unfold k0_pay11
  pointwise

/-- Its rows' means. -/
theorem pay12_at (z : S256x1.Idx) :
    k0_pay12 v22 v23 v25 v28 v29 v33 v34 v38 v39 v45 z = Ideal.div (∑ k : Fin 1024, (k0_pay11 v22 v23 v25 v28 v29 v33 v34 v38 v39 v45 (ix2 (z 0) k) : EReal)) (Ideal.ofBits FTy.f32 1149239296#32) := by
  unfold k0_pay12
  pointwise

/-- The rows' means of its product with the normalised rows. -/
theorem pay13_at (v43 : Vec Ideal S256x1024 .f32) (z : S256x1.Idx) :
    k0_pay13 v22 v23 v25 v28 v29 v33 v34 v38 v39 v43 v45 z = Ideal.div (∑ k : Fin 1024, HMul.hMul (α := EReal) (β := EReal)
      (k0_pay11 v22 v23 v25 v28 v29 v33 v34 v38 v39 v45 (ix2 (z 0) k)) (v43 (ix2 (z 0) k))) (Ideal.ofBits FTy.f32 1149239296#32) := by
  unfold k0_pay13 k0_pay10
  pointwise
end Payloads

/-- The normalised rows are taken as they are. -/
theorem pay10_at (v43 : Vec Ideal S256x1024 .f32) (y : S256x1024.Idx) : k0_pay10 v43 y = v43 y := by
  unfold k0_pay10
  pointwise

/-- The rows' cotangent, from its parts. -/
theorem pay1_at (v44 v48 : FVec Ideal S256x1024 .f32) (v52 v57 : FVec Ideal S256x1 .f32) (v58 : Vec Ideal S256x1 .f32) (y : S256x1024.Idx) :
    k0_pay1 v44 v48 v52 v57 v58 y = HMul.hMul (α := EReal) (β := EReal) (v58 (ix2 (y 0) (0 : Fin 1)))
      (HSub.hSub (α := EReal) (β := EReal) (HSub.hSub (α := EReal) (β := EReal) (v48 y) (v52 (ix2 (y 0) (0 : Fin 1))))
        (HMul.hMul (α := EReal) (β := EReal) (v44 y) (v57 (ix2 (y 0) (0 : Fin 1))))) := by
  unfold k0_pay1
  pointwise

/-- The rounded rows' cotangent is the rows' cotangent. -/
theorem pay2_at (v44 v48 : FVec Ideal S256x1024 .f32) (v52 v57 : FVec Ideal S256x1 .f32) (v58 : Vec Ideal S256x1 .f32) (y : S256x1024.Idx) :
    k0_pay2 v44 v48 v52 v57 v58 y = k0_pay1 v44 v48 v52 v57 v58 y := by
  unfold k0_pay2
  pointwise

/-- A block's part of the gain's gradient, added to what was there. -/
theorem pay5_at (v42 v44 : FVec Ideal S256x1024 .f32) (v73 : Vec Ideal S1x1024 .f32) (y : S1x1024.Idx) :
    k0_pay5 v42 v44 v73 y = HAdd.hAdd (α := EReal) (β := EReal) (v73 y)
      (∑ x : Fin 256, HMul.hMul (α := EReal) (β := EReal) (v42 (ix2 x (y 1))) (v44 (ix2 x (y 1)))) := by
  unfold k0_pay5
  pointwise

/-- A block's part of the bias's gradient, added to what was there. -/
theorem pay6_at (v42 : FVec Ideal S256x1024 .f32) (v80 : Vec Ideal S1x1024 .f32) (y : S1x1024.Idx) :
    k0_pay6 v42 v80 y = HAdd.hAdd (α := EReal) (β := EReal) (v80 y) (∑ x : Fin 256, (v42 (ix2 x (y 1)) : EReal)) := by
  unfold k0_pay6
  pointwise

/-- A row of a block against a row of a chip's block. -/
def part (a : Vec Ideal S256x768 .bf16) (b : Vec Ideal S1x1024x768 .bf16) (y : S256x1024.Idx) (x : Fin 768) : EReal :=
  HMul.hMul (α := EReal) (β := EReal) (a (ix2 (y 0) x)) (b (ix3 (0 : Fin 1) (y 1) x))

/-- The cotangent of the gained rows over the first pair's four chip blocks. -/
theorem pay7_at (v0 : Vec Ideal S256x1024 .f32) (a0 a1 a2 a3 : Vec Ideal S256x768 .bf16) (b0 b1 b2 b3 : Vec Ideal S1x1024x768 .bf16) (y : S256x1024.Idx) :
    k0_pay7 v0 a0 b0 a1 b1 a2 b2 a3 b3 y = HMul.hMul (α := EReal) (β := EReal) (Ideal.ofBits FTy.f32 1068827891#32) (v0 y)
      + ∑ x, part a0 b0 y x + ∑ x, part a1 b1 y x + ∑ x, part a2 b2 y x + ∑ x, part a3 b3 y x := by
  unfold k0_pay7
  pointwise
  rfl

/-- The same over the second pair's, added to the first's. -/
theorem pay9_add (v0 : FVec Ideal S256x1024 .f32) (a0 a1 a2 a3 : Vec Ideal S256x768 .bf16) (b0 b1 b2 b3 : Vec Ideal S1x1024x768 .bf16) (y : S256x1024.Idx) :
    k0_pay9 v0 a0 (k0_pay8 b0) a1 b1 a2 b2 a3 b3 y = HAdd.hAdd (α := EReal) (β := EReal) (v0 y) (∑ x, part a0 b0 y x)
      + ∑ x, part a1 b1 y x + ∑ x, part a2 b2 y x + ∑ x, part a3 b3 y x := by
  unfold k0_pay9 k0_pay8
  pointwise
  rfl

/-- The loads for chip 0. -/
theorem part0 (X : Vec Ideal S256x3072 .bf16) (W : Vec Ideal S4x1024x768 .bf16) (y : S256x1024.Idx) (x : Fin 768) :
    part (View.ld X (Rect.unit ![0, 0] ![256, 768] inb_S256x3072_S256x768_0_0))
      (View.ld W (Rect.unit ![0, 0, 0] ![1, 1024, 768] inb_S4x1024x768_S1x1024x768_0_0_0)) y x = run X W y 0 x := by
  unfold part run
  pointwise

/-- The loads for chip 1. -/
theorem part1 (X : Vec Ideal S256x3072 .bf16) (W : Vec Ideal S4x1024x768 .bf16) (y : S256x1024.Idx) (x : Fin 768) :
    part (View.ld X (Rect.unit ![0, 768] ![256, 768] inb_S256x3072_S256x768_0_768))
      (View.ld W (Rect.unit ![1, 0, 0] ![1, 1024, 768] inb_S4x1024x768_S1x1024x768_1_0_0)) y x = run X W y 1 x := by
  unfold part run
  pointwise

/-- The loads for chip 2. -/
theorem part2 (X : Vec Ideal S256x3072 .bf16) (W : Vec Ideal S4x1024x768 .bf16) (y : S256x1024.Idx) (x : Fin 768) :
    part (View.ld X (Rect.unit ![0, 1536] ![256, 768] inb_S256x3072_S256x768_0_1536))
      (View.ld W (Rect.unit ![2, 0, 0] ![1, 1024, 768] inb_S4x1024x768_S1x1024x768_2_0_0)) y x = run X W y 2 x := by
  unfold part run
  pointwise

/-- The loads for chip 3. -/
theorem part3 (X : Vec Ideal S256x3072 .bf16) (W : Vec Ideal S4x1024x768 .bf16) (y : S256x1024.Idx) (x : Fin 768) :
    part (View.ld X (Rect.unit ![0, 2304] ![256, 768] inb_S256x3072_S256x768_0_2304))
      (View.ld W (Rect.unit ![3, 0, 0] ![1, 1024, 768] inb_S4x1024x768_S1x1024x768_3_0_0)) y x = run X W y 3 x := by
  unfold part run
  pointwise

/-- The loads of the first product's blocks. -/
def blockFirst (c : Dev nD) (t : Fin cfg0.N) : FVec Ideal S256x1024 .f32 :=
  k0_pay7 (iblk m c 4 t) (View.ld (iblk m c 0 t) (Rect.unit ![0, 0] ![256, 768] inb_S256x3072_S256x768_0_0))
    (View.ld (iblk m c 1 t) (Rect.unit ![0, 0, 0] ![1, 1024, 768] inb_S4x1024x768_S1x1024x768_0_0_0))
    (View.ld (iblk m c 0 t) (Rect.unit ![0, 768] ![256, 768] inb_S256x3072_S256x768_0_768))
    (View.ld (iblk m c 1 t) (Rect.unit ![1, 0, 0] ![1, 1024, 768] inb_S4x1024x768_S1x1024x768_1_0_0))
    (View.ld (iblk m c 0 t) (Rect.unit ![0, 1536] ![256, 768] inb_S256x3072_S256x768_0_1536))
    (View.ld (iblk m c 1 t) (Rect.unit ![2, 0, 0] ![1, 1024, 768] inb_S4x1024x768_S1x1024x768_2_0_0))
    (View.ld (iblk m c 0 t) (Rect.unit ![0, 2304] ![256, 768] inb_S256x3072_S256x768_0_2304))
    (View.ld (iblk m c 1 t) (Rect.unit ![3, 0, 0] ![1, 1024, 768] inb_S4x1024x768_S1x1024x768_3_0_0))

/-- The cotangent of the gained rows in the block of point `t`. -/
theorem pay9_at (c : Dev nD) (t : Fin cfg0.N) (y : S256x1024.Idx) :
    k0_pay9 (blockFirst m c t)
        (View.ld (iblk m c 2 t) (Rect.unit ![0, 0] ![256, 768] inb_S256x3072_S256x768_0_0))
        (k0_pay8 (View.ld (iblk m c 3 t) (Rect.unit ![0, 0, 0] ![1, 1024, 768] inb_S4x1024x768_S1x1024x768_0_0_0)))
        (View.ld (iblk m c 2 t) (Rect.unit ![0, 768] ![256, 768] inb_S256x3072_S256x768_0_768))
        (View.ld (iblk m c 3 t) (Rect.unit ![1, 0, 0] ![1, 1024, 768] inb_S4x1024x768_S1x1024x768_1_0_0))
        (View.ld (iblk m c 2 t) (Rect.unit ![0, 1536] ![256, 768] inb_S256x3072_S256x768_0_1536))
        (View.ld (iblk m c 3 t) (Rect.unit ![2, 0, 0] ![1, 1024, 768] inb_S4x1024x768_S1x1024x768_2_0_0))
        (View.ld (iblk m c 2 t) (Rect.unit ![0, 2304] ![256, 768] inb_S256x3072_S256x768_0_2304))
        (View.ld (iblk m c 3 t) (Rect.unit ![3, 0, 0] ![1, 1024, 768] inb_S4x1024x768_S1x1024x768_3_0_0)) y
      = total (m (c.tc.loc main_arg3)) (m (c.tc.loc main_arg4)) (m (c.tc.loc main_arg5)) (m (c.tc.loc main_arg6))
        (m (c.tc.loc main_arg7)) ((win0_8.blk t).view.emb y) := by
  rw [← blockDy_eq, pay9_add, blockFirst, pay7_at]
  simp only [part0, part1, part2, part3]
  blk_simp [iblk]
  rw [V_main_arg5, V_main_arg6, V_main_arg7, V_v19, V_v21]
  rfl

/-- The rows' cotangent in the block of point `t`. -/
theorem grad_blk (c : Dev nD) (t : Fin cfg0.N) (y : S256x1024.Idx) :
    k0_pay1 (k0_pay10 (iblk m c 5 t)) (k0_pay11 (blockFirst m c t)
        (View.ld (iblk m c 2 t) (Rect.unit ![0, 0] ![256, 768] inb_S256x3072_S256x768_0_0))
        (k0_pay8 (View.ld (iblk m c 3 t) (Rect.unit ![0, 0, 0] ![1, 1024, 768] inb_S4x1024x768_S1x1024x768_0_0_0)))
        (View.ld (iblk m c 2 t) (Rect.unit ![0, 768] ![256, 768] inb_S256x3072_S256x768_0_768))
        (View.ld (iblk m c 3 t) (Rect.unit ![1, 0, 0] ![1, 1024, 768] inb_S4x1024x768_S1x1024x768_1_0_0))
        (View.ld (iblk m c 2 t) (Rect.unit ![0, 1536] ![256, 768] inb_S256x3072_S256x768_0_1536))
        (View.ld (iblk m c 3 t) (Rect.unit ![2, 0, 0] ![1, 1024, 768] inb_S4x1024x768_S1x1024x768_2_0_0))
        (View.ld (iblk m c 2 t) (Rect.unit ![0, 2304] ![256, 768] inb_S256x3072_S256x768_0_2304))
        (View.ld (iblk m c 3 t) (Rect.unit ![3, 0, 0] ![1, 1024, 768] inb_S4x1024x768_S1x1024x768_3_0_0)) (iblk m c 7 t))
      (k0_pay12 (blockFirst m c t)
        (View.ld (iblk m c 2 t) (Rect.unit ![0, 0] ![256, 768] inb_S256x3072_S256x768_0_0))
        (k0_pay8 (View.ld (iblk m c 3 t) (Rect.unit ![0, 0, 0] ![1, 1024, 768] inb_S4x1024x768_S1x1024x768_0_0_0)))
        (View.ld (iblk m c 2 t) (Rect.unit ![0, 768] ![256, 768] inb_S256x3072_S256x768_0_768))
        (View.ld (iblk m c 3 t) (Rect.unit ![1, 0, 0] ![1, 1024, 768] inb_S4x1024x768_S1x1024x768_1_0_0))
        (View.ld (iblk m c 2 t) (Rect.unit ![0, 1536] ![256, 768] inb_S256x3072_S256x768_0_1536))
        (View.ld (iblk m c 3 t) (Rect.unit ![2, 0, 0] ![1, 1024, 768] inb_S4x1024x768_S1x1024x768_2_0_0))
        (View.ld (iblk m c 2 t) (Rect.unit ![0, 2304] ![256, 768] inb_S256x3072_S256x768_0_2304))
        (View.ld (iblk m c 3 t) (Rect.unit ![3, 0, 0] ![1, 1024, 768] inb_S4x1024x768_S1x1024x768_3_0_0)) (iblk m c 7 t))
      (k0_pay13 (blockFirst m c t)
        (View.ld (iblk m c 2 t) (Rect.unit ![0, 0] ![256, 768] inb_S256x3072_S256x768_0_0))
        (k0_pay8 (View.ld (iblk m c 3 t) (Rect.unit ![0, 0, 0] ![1, 1024, 768] inb_S4x1024x768_S1x1024x768_0_0_0)))
        (View.ld (iblk m c 2 t) (Rect.unit ![0, 768] ![256, 768] inb_S256x3072_S256x768_0_768))
        (View.ld (iblk m c 3 t) (Rect.unit ![1, 0, 0] ![1, 1024, 768] inb_S4x1024x768_S1x1024x768_1_0_0))
        (View.ld (iblk m c 2 t) (Rect.unit ![0, 1536] ![256, 768] inb_S256x3072_S256x768_0_1536))
        (View.ld (iblk m c 3 t) (Rect.unit ![2, 0, 0] ![1, 1024, 768] inb_S4x1024x768_S1x1024x768_2_0_0))
        (View.ld (iblk m c 2 t) (Rect.unit ![0, 2304] ![256, 768] inb_S256x3072_S256x768_0_2304))
        (View.ld (iblk m c 3 t) (Rect.unit ![3, 0, 0] ![1, 1024, 768] inb_S4x1024x768_S1x1024x768_3_0_0)) (iblk m c 5 t) (iblk m c 7 t)) (iblk m c 6 t) y
      = dr (m (c.tc.loc main_arg0)) (m (c.tc.loc main_arg1)) (m (c.tc.loc main_arg3)) (m (c.tc.loc main_arg4)) (m (c.tc.loc main_arg5)) (m (c.tc.loc main_arg6)) (m (c.tc.loc main_arg7)) ((win0_8.blk t).view.emb y) := by
  rw [pay1_at, pay12_at, pay13_at]
  simp only [pay11_at, pay9_at]
  have hrs : (iblk m c 6 t (ix2 (y 0) (0 : Fin 1)) : EReal) = Norm.rstd (rowOf (m (c.tc.loc main_arg0)) ((win0_8.blk t).view.emb y 0)) := by
    blk_simp [iblk]; rw [V_v13]; exact dev_at m c t y
  have hg (k : Fin 1024) : (iblk m c 7 t (ix2 (0 : Fin 1) k) : EReal) = m (c.tc.loc main_arg1) (ix1 k) := by
    blk_simp [iblk]; rw [V_v22]; exact gain_at m c t k
  have hx : (iblk m c 5 t y : EReal) = Norm.xhat (rowOf (m (c.tc.loc main_arg0)) ((win0_8.blk t).view.emb y 0)) ((win0_8.blk t).view.emb y 1) := by
    blk_simp [iblk]; rw [V_v17, emb5]; rfl
  have hh (k : Fin 1024) : (iblk m c 5 t (ix2 (y 0) k) : EReal) = Norm.xhat (rowOf (m (c.tc.loc main_arg0)) ((win0_8.blk t).view.emb y 0)) k := by
    blk_simp [iblk]; rw [V_v17, emb5, emb_row]; rfl
  have hq (k : Fin 1024) : HMul.hMul (α := EReal) (β := EReal) (total (m (c.tc.loc main_arg3)) (m (c.tc.loc main_arg4)) (m (c.tc.loc main_arg5)) (m (c.tc.loc main_arg6)) (m (c.tc.loc main_arg7)) ((win0_8.blk t).view.emb (ix2 (y 0) k))) (iblk m c 7 t (ix2 (0 : Fin 1) k))
      = inner (m (c.tc.loc main_arg1)) (m (c.tc.loc main_arg3)) (m (c.tc.loc main_arg4)) (m (c.tc.loc main_arg5)) (m (c.tc.loc main_arg6)) (m (c.tc.loc main_arg7)) ((win0_8.blk t).view.emb y 0) k := by
    rw [hg, emb_row]; rfl
  have he : HMul.hMul (α := EReal) (β := EReal) (total (m (c.tc.loc main_arg3)) (m (c.tc.loc main_arg4)) (m (c.tc.loc main_arg5)) (m (c.tc.loc main_arg6)) (m (c.tc.loc main_arg7)) ((win0_8.blk t).view.emb y)) (iblk m c 7 t (ix2 (0 : Fin 1) (y 1)))
      = inner (m (c.tc.loc main_arg1)) (m (c.tc.loc main_arg3)) (m (c.tc.loc main_arg4)) (m (c.tc.loc main_arg5)) (m (c.tc.loc main_arg6)) (m (c.tc.loc main_arg7)) ((win0_8.blk t).view.emb y 0) ((win0_8.blk t).view.emb y 1) := by
    refine (congrArg (HMul.hMul (α := EReal) (β := EReal) _) (hg (y 1))).trans ?_
    exact mul_at (total (m (c.tc.loc main_arg3)) (m (c.tc.loc main_arg4)) (m (c.tc.loc main_arg5)) (m (c.tc.loc main_arg6)) (m (c.tc.loc main_arg7))) (m (c.tc.loc main_arg1)) (eq_ix2 _) (by blk_ext [index8])
  exact Norm.grad_at _ _ hrs hq hh he ((pay10_at _ _).trans hx)

/-- The rows' cotangent after the run. -/
theorem arr8 (c : Dev nD) : (dats m 0 c).arrAt 8 cfg0.N = dr (m (c.tc.loc main_arg0)) (m (c.tc.loc main_arg1)) (m (c.tc.loc main_arg3))
      (m (c.tc.loc main_arg4)) (m (c.tc.loc main_arg5)) (m (c.tc.loc main_arg6)) (m (c.tc.loc main_arg7)) := by
  refine (dats m 0 c).arrAt_eq_of_covers 8 _ (by decide +kernel) fun t hf y => ?_
  blk_simp
  rw [after0_8]
  by_cases h0 : t.val % 32 = 0
  · rw [outsAt0_A m c t h0]; dsimp only; unfold out0_A_8; frame_out
    exact grad_blk m c t y
  · rw [outsAt0_B m c t h0]; dsimp only; unfold out0_B_8; frame_out
    exact grad_blk m c t y

/-- The rounded rows' cotangent after the run. -/
theorem arr9 (c : Dev nD) : (dats m 0 c).arrAt 9 cfg0.N = dr (m (c.tc.loc main_arg0)) (m (c.tc.loc main_arg1)) (m (c.tc.loc main_arg3))
      (m (c.tc.loc main_arg4)) (m (c.tc.loc main_arg5)) (m (c.tc.loc main_arg6)) (m (c.tc.loc main_arg7)) := by
  refine (dats m 0 c).arrAt_eq_of_covers 9 _ (by decide +kernel) fun t hf y => ?_
  blk_simp
  rw [after0_9, emb9]
  by_cases h0 : t.val % 32 = 0
  · rw [outsAt0_A m c t h0]; dsimp only; unfold out0_A_9; frame_out
    exact (pay2_at _ _ _ _ _ _).trans (grad_blk m c t y)
  · rw [outsAt0_B m c t h0]; dsimp only; unfold out0_B_9; frame_out
    exact (pay2_at _ _ _ _ _ _).trans (grad_blk m c t y)

/-- The grid's last point. -/
def lastPoint : Fin cfg0.N := ⟨31, by rw [show cfg0.N = 32 from N_0]; omega⟩

/-- The accumulators start from zero. -/
theorem pay3_at (y : S1x1024.Idx) : k0_pay3 (F := Ideal) y = (0 : EReal) := by
  unfold k0_pay3
  pointwise

/-- The accumulators start from zero. -/
theorem pay4_at (y : S1x1024.Idx) : k0_pay4 (F := Ideal) y = (0 : EReal) := by
  unfold k0_pay4
  pointwise

/-- One row's term of the gain's gradient. -/
def gainTerm (r : S8192x1024.Idx → EReal) (d : S8192x1024.Idx → EReal) (y : S1x1024.Idx) (p : Fin 8192) : EReal :=
  d (ix2 p (y 1)) * hat r (ix2 p (y 1))

/-- One row's term of the bias's gradient. -/
def biasTerm (d : S8192x1024.Idx → EReal) (y : S1x1024.Idx) (p : Fin 8192) : EReal := d (ix2 p (y 1))

/-- The row of the arrays that row `x` of the block of point `t` is. -/
def rowAt (t : Fin cfg0.N) (x : Fin 256) : Fin 8192 :=
  ⟨256 * t.val + x.val, by have := x.isLt; have ht : t.val < 32 := lt_of_lt_of_eq t.isLt (show cfg0.N = 32 from N_0); omega⟩

/-- An element of a block's row is the array's. -/
theorem emb_rowAt (t : Fin cfg0.N) (y : S1x1024.Idx) (x : Fin 256) :
    (win0_8.blk t).view.emb (ix2 x (y 1)) = ix2 (rowAt t x) (y 1) := by
  unfold rowAt
  blk_ext [index8]

/-- The gain's gradient after the body at the first point. -/
theorem point10_A (c : Dev nD) (t : Fin cfg0.N) (h0 : t.val % 32 = 0) (y : S1x1024.Idx) :
    (outsAt0 m c t.val t.isLt).2.2.1 y = HAdd.hAdd (α := EReal) (β := EReal) (0)
      (∑ x : Fin 256, gainTerm (m (c.tc.loc main_arg0)) (total (m (c.tc.loc main_arg3)) (m (c.tc.loc main_arg4)) (m (c.tc.loc main_arg5)) (m (c.tc.loc main_arg6)) (m (c.tc.loc main_arg7))) y (rowAt t x)) := by
  rw [outsAt0_A m c t h0]; dsimp only; unfold out0_A_10; frame_out
  refine (pay5_at _ _ _ _).trans ?_
  refine congrArg₂ (HAdd.hAdd (α := EReal) (β := EReal)) ?_ (sum_ext fun x => ?_)
  · exact pay3_at y
  · refine congrArg₂ (HMul.hMul (α := EReal) (β := EReal)) ((pay9_at m c t _).trans (congrArg _ (emb_rowAt t y x))) ?_
    refine (pay10_at _ _).trans ?_
    blk_simp [iblk]
    rw [V_v17, emb5, emb_rowAt]
    rfl

/-- The gain's gradient after the body at the later points. -/
theorem point10_B (c : Dev nD) (t : Fin cfg0.N) (h0 : ¬t.val % 32 = 0) (y : S1x1024.Idx) :
    (outsAt0 m c t.val t.isLt).2.2.1 y = HAdd.hAdd (α := EReal) (β := EReal) ((outsAt0 m c (t.val - 1) (Nat.lt_of_le_of_lt (Nat.sub_le _ _) t.isLt)).2.2.1 y)
      (∑ x : Fin 256, gainTerm (m (c.tc.loc main_arg0)) (total (m (c.tc.loc main_arg3)) (m (c.tc.loc main_arg4)) (m (c.tc.loc main_arg5)) (m (c.tc.loc main_arg6)) (m (c.tc.loc main_arg7))) y (rowAt t x)) := by
  rw [outsAt0_B m c t h0]; dsimp only; unfold out0_B_10; frame_out
  refine (pay5_at _ _ _ _).trans ?_
  refine congrArg₂ (HAdd.hAdd (α := EReal) (β := EReal)) ?_ (sum_ext fun x => ?_)
  · rfl
  · refine congrArg₂ (HMul.hMul (α := EReal) (β := EReal)) ((pay9_at m c t _).trans (congrArg _ (emb_rowAt t y x))) ?_
    refine (pay10_at _ _).trans ?_
    blk_simp [iblk]
    rw [V_v17, emb5, emb_rowAt]
    rfl

/-- The gain's gradient after the run. -/
theorem arr10 (c : Dev nD) : (dats m 0 c).arrAt 10 cfg0.N = fun y => ∑ p : Fin 8192, gainTerm (m (c.tc.loc main_arg0)) (total (m (c.tc.loc main_arg3)) (m (c.tc.loc main_arg4)) (m (c.tc.loc main_arg5)) (m (c.tc.loc main_arg6)) (m (c.tc.loc main_arg7))) y p := by
  refine (dats m 0 c).arrAt_eq_of_after_last 10 lastPoint (by decide +kernel) _ fun y => ?_
  blk_simp
  rw [after0_10]
  refine (Pipeline.eq_sum_fin_of_reset_step_last (fun n h => ((outsAt0 m c n h).2.2.1 y : EReal)) 32 0
    (fun t => ∑ x : Fin 256, gainTerm (m (c.tc.loc main_arg0)) (total (m (c.tc.loc main_arg3)) (m (c.tc.loc main_arg4)) (m (c.tc.loc main_arg5)) (m (c.tc.loc main_arg6)) (m (c.tc.loc main_arg7))) y (rowAt t x)) (fun t h => point10_A m c t h y) (fun t h => point10_B m c t h y) (by decide +kernel) lastPoint rfl).trans ?_
  rw [zero_add, sum_runs (p := 32) (q := 256) rfl (gainTerm (m (c.tc.loc main_arg0)) (total (m (c.tc.loc main_arg3)) (m (c.tc.loc main_arg4)) (m (c.tc.loc main_arg5)) (m (c.tc.loc main_arg6)) (m (c.tc.loc main_arg7))) y)]
  rfl

/-- The bias's gradient after the body at the first point. -/
theorem point11_A (c : Dev nD) (t : Fin cfg0.N) (h0 : t.val % 32 = 0) (y : S1x1024.Idx) :
    (outsAt0 m c t.val t.isLt).2.2.2 y = HAdd.hAdd (α := EReal) (β := EReal) (0)
      (∑ x : Fin 256, biasTerm (total (m (c.tc.loc main_arg3)) (m (c.tc.loc main_arg4)) (m (c.tc.loc main_arg5)) (m (c.tc.loc main_arg6)) (m (c.tc.loc main_arg7))) y (rowAt t x)) := by
  rw [outsAt0_A m c t h0]; dsimp only; unfold out0_A_11; frame_out
  refine (pay6_at _ _ _).trans ?_
  refine congrArg₂ (HAdd.hAdd (α := EReal) (β := EReal)) ?_ (sum_ext fun x => ?_)
  · exact pay4_at y
  · exact (pay9_at m c t _).trans (congrArg _ (emb_rowAt t y x))

/-- The bias's gradient after the body at the later points. -/
theorem point11_B (c : Dev nD) (t : Fin cfg0.N) (h0 : ¬t.val % 32 = 0) (y : S1x1024.Idx) :
    (outsAt0 m c t.val t.isLt).2.2.2 y = HAdd.hAdd (α := EReal) (β := EReal) ((outsAt0 m c (t.val - 1) (Nat.lt_of_le_of_lt (Nat.sub_le _ _) t.isLt)).2.2.2 y)
      (∑ x : Fin 256, biasTerm (total (m (c.tc.loc main_arg3)) (m (c.tc.loc main_arg4)) (m (c.tc.loc main_arg5)) (m (c.tc.loc main_arg6)) (m (c.tc.loc main_arg7))) y (rowAt t x)) := by
  rw [outsAt0_B m c t h0]; dsimp only; unfold out0_B_11; frame_out
  refine (pay6_at _ _ _).trans ?_
  refine congrArg₂ (HAdd.hAdd (α := EReal) (β := EReal)) ?_ (sum_ext fun x => ?_)
  · rfl
  · exact (pay9_at m c t _).trans (congrArg _ (emb_rowAt t y x))

/-- The bias's gradient after the run. -/
theorem arr11 (c : Dev nD) : (dats m 0 c).arrAt 11 cfg0.N = fun y => ∑ p : Fin 8192, biasTerm (total (m (c.tc.loc main_arg3)) (m (c.tc.loc main_arg4)) (m (c.tc.loc main_arg5)) (m (c.tc.loc main_arg6)) (m (c.tc.loc main_arg7))) y p := by
  refine (dats m 0 c).arrAt_eq_of_after_last 11 lastPoint (by decide +kernel) _ fun y => ?_
  blk_simp
  rw [after0_11]
  refine (Pipeline.eq_sum_fin_of_reset_step_last (fun n h => ((outsAt0 m c n h).2.2.2 y : EReal)) 32 0
    (fun t => ∑ x : Fin 256, biasTerm (total (m (c.tc.loc main_arg3)) (m (c.tc.loc main_arg4)) (m (c.tc.loc main_arg5)) (m (c.tc.loc main_arg6)) (m (c.tc.loc main_arg7))) y (rowAt t x)) (fun t h => point11_A m c t h y) (fun t h => point11_B m c t h y) (by decide +kernel) lastPoint rfl).trans ?_
  rw [zero_add, sum_runs (p := 32) (q := 256) rfl (biasTerm (total (m (c.tc.loc main_arg3)) (m (c.tc.loc main_arg4)) (m (c.tc.loc main_arg5)) (m (c.tc.loc main_arg6)) (m (c.tc.loc main_arg7))) y)]
  rfl

section Reference
open Cert.LnBwdRefIdeal.Read
variable (r : S8192x1024.Idx → EReal) (g : S1024.Idx → EReal) (wg wu : S1024x3072.Idx → EReal) (dx : S8192x1024.Idx → EReal)
  (dg du : S8192x3072.Idx → EReal)

/-- The reference's cotangent of the normalised rows with their gain. -/
theorem ref42 : val_main_v42 (F := Ideal) wg wu dx dg du = total wg wu dx dg du := by
  funext i
  simp only [val_main_v42, val_main_v41, val_main_v40, val_main_v39, val_main_v38, val_main_v37, val_main_v3, val_main_v2, val_main_v1, val_main_v0, val_main_cst_7]
  pointwise
  rfl

/-- The reference's rows' cotangent, one derivative after the other. -/
theorem ref75_chain : val_main_v75 (F := Ideal) r g wg wu dx dg du
    = fun i => Norm.chain (rowOf r (i 0)) (inner g wg wu dx dg du (i 0)) (i 1) := by
  suffices h : ∀ (p : Fin 8192) (k : Fin 1024), val_main_v75 (F := Ideal) r g wg wu dx dg du (ix2 p k)
      = Norm.chain (rowOf r p) (inner g wg wu dx dg du p) k from
    funext fun i => (congrArg (val_main_v75 (F := Ideal) r g wg wu dx dg du) (eq_ix2 i)).trans (h (i 0) (i 1))
  intro p k
  simp only [val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v50, val_main_v49, val_main_v28, val_main_v27, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1, val_main_cst_2, val_main_cst_3, val_main_cst_4, val_main_cst_5, val_main_cst_12, val_main_cst_13, val_main_cst_14, val_main_cst_15, val_main_cst_16, val_main_cst_17, val_main_cst_18, ref42]
  pointwise
  simp only [Fin.sum_univ_one]
  rfl

/-- On reals the cotangent of the gained rows is real. -/
theorem total_real (h3 : AllReal wg) (h4 : AllReal wu) (h5 : AllReal dx) (h6 : AllReal dg) (h7 : AllReal du) :
    AllReal (total wg wu dx dg du) := by
  obtain ⟨wg, rfl⟩ := h3
  obtain ⟨wu, rfl⟩ := h4
  obtain ⟨dx, rfl⟩ := h5
  obtain ⟨dg, rfl⟩ := h6
  obtain ⟨du, rfl⟩ := h7
  obtain ⟨a, ha⟩ : ∃ a : ℝ, Ideal.ofBits FTy.f32 1068827891#32 = a :=
    ⟨_, by simp [Ideal.ofBits, Ideal.ieee, -EReal.coe_mul]; rfl⟩
  refine ⟨fun i => ∑ k, du (ix2 (i 0) k) * wu (ix2 (i 1) k) + ∑ k, dg (ix2 (i 0) k) * wg (ix2 (i 1) k) + a * dx i, funext fun i => ?_⟩
  simp only [total, term, ha, ← EReal.coe_mul, sum_coe, ← EReal.coe_add]

/-- On finite arrays the reference's rows' cotangent is the closed form. -/
theorem ref75 (h0 : AllReal r) (h1 : AllReal g) (h3 : AllReal wg) (h4 : AllReal wu) (h5 : AllReal dx) (h6 : AllReal dg)
    (h7 : AllReal du) : val_main_v75 (F := Ideal) r g wg wu dx dg du = dr r g wg wu dx dg du := by
  rw [ref75_chain]
  funext i
  obtain ⟨d, hd⟩ := total_real wg wu dx dg du h3 h4 h5 h6 h7
  obtain ⟨r, rfl⟩ := h0
  obtain ⟨g, rfl⟩ := h1
  have e : inner (fun i => (g i : EReal)) wg wu dx dg du (i 0) = fun k => ((d (ix2 (i 0) k) * g (ix1 k) : ℝ) : EReal) := by
    funext k
    change total wg wu dx dg du (ix2 (i 0) k) * _ = _
    rw [hd, EReal.coe_mul]
  rw [dr, e]
  exact Norm.chain_eq (fun k => r (ix2 (i 0) k)) _ _

/-- The reference's rounded rows' cotangent is its rows' cotangent. -/
theorem ref76 : val_main_v76 (F := Ideal) r g wg wu dx dg du = val_main_v75 (F := Ideal) r g wg wu dx dg du := by
  funext i
  simp only [val_main_v76]
  pointwise

/-- The reference's gradient of the gain. -/
theorem ref77 : val_main_v77 (F := Ideal) r wg wu dx dg du = fun y => ∑ p : Fin 8192, gainTerm r (total wg wu dx dg du) y p := by
  funext i
  simp only [val_main_v77, val_main_v51, val_main_v48, val_main_v47, val_main_v46, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_10, val_main_cst_11, val_main_cst_0, val_main_cst_1, val_main_cst_2, val_main_cst_3, val_main_cst_4, val_main_cst_5, val_main_cst_12, val_main_cst_13, val_main_cst_14, val_main_cst_15, val_main_cst_16, val_main_cst_17, val_main_cst_18, ref42]
  pointwise
  simp only [Fin.sum_univ_one]
  exact sum_ext fun p => mul_comm _ _

/-- The reference's gradient of the bias. -/
theorem ref78 : val_main_v78 (F := Ideal) wg wu dx dg du = fun y => ∑ p : Fin 8192, biasTerm (total wg wu dx dg du) y p := by
  funext i
  simp only [val_main_v45, val_main_v44, val_main_v43, val_main_v78, val_main_cst_8, val_main_cst_9, ref42]
  pointwise
  simp only [Fin.sum_univ_one]
  rfl
end Reference

/-- The precondition makes every argument array an array of reals. -/
theorem finite (h : Cert.Pre_LnBwdIdeal_ln_bwd_finite m) (c : Dev nD) :
    AllReal (m (c.tc.loc main_arg0)) ∧ AllReal (m (c.tc.loc main_arg1)) ∧ AllReal (m (c.tc.loc main_arg3))
      ∧ AllReal (m (c.tc.loc main_arg4)) ∧ AllReal (m (c.tc.loc main_arg5)) ∧ AllReal (m (c.tc.loc main_arg6))
      ∧ AllReal (m (c.tc.loc main_arg7)) := by
  obtain ⟨h0, h1, h3, h4, h5, h6, h7⟩ := h c
  refine ⟨allReal_of_bits (fun i => ?_) h0, allReal_of_bits (fun i => ?_) h1, allReal_of_bits (fun i => ?_) h3,
    allReal_of_bits (fun i => ?_) h4, allReal_of_bits (fun i => ?_) h5, allReal_of_bits (fun i => ?_) h6,
    allReal_of_bits (fun i => ?_) h7⟩ <;>
  · dsimp only [Cert.Pre_ln_bwd_finite.fn]
    pointwise
    rfl

/-- The reference changes no argument and leaves no semaphore raised. -/
theorem frame_ref : Cert.quiescent_LnBwdRefIdeal := fun m ρ _ =>
  (θ_run Cert.LnBwdRefIdeal.defs _ _).mono (fun r h => ⟨fun c => (h c).2.2.2.2, sem_eq_zero_of_no_sems (by decide) r.2⟩)
    (Cert.LnBwdRefIdeal.Value.run (F := Ideal) m ρ)

/-- On finite arguments the kernel's four arrays are the reference's. -/
theorem algebraic : Cert.algebraic_LnBwdIdeal_LnBwdRefIdeal_pre_ln_bwd_finite := by
  intro m ρ m' ρ' hpre hagree
  refine ⟨_, _, _, _, (θ_run Cert.LnBwdIdeal.defs _ _).mono (fun _ h c => ⟨(h c).1.trans (arr8 m c), (h c).2.1.trans (arr9 m c),
      (h c).2.2.1.trans (arr10 m c), (h c).2.2.2.1.trans (arr11 m c), (h c).2.2.2.2⟩) (Cert.LnBwdIdeal.Value.run_blocks (F := Ideal) m ρ), ?_⟩
  refine (θ_run Cert.LnBwdRefIdeal.defs _ _).mono (fun _ h c => ⟨(h c).1.trans ?_, (h c).2.1.trans ?_, (h c).2.2.1.trans ?_,
      (h c).2.2.2.1.trans ?_, (h c).2.2.2.2⟩) (Cert.LnBwdRefIdeal.Value.run (F := Ideal) m' ρ')
  all_goals
    obtain ⟨h0, h1, h2, h3, h4, h5, h6, h7⟩ := hagree c
    obtain ⟨f0, f1, f3, f4, f5, f6, f7⟩ := finite m hpre c
  · rw [Cert.LnBwdRefIdeal.Read.val_main_v75_eq, h0, h1, h3, h4, h5, h6, h7]
    exact ref75 _ _ _ _ _ _ _ f0 f1 f3 f4 f5 f6 f7
  · rw [Cert.LnBwdRefIdeal.Read.val_main_v76_eq, h0, h1, h3, h4, h5, h6, h7]
    exact (ref76 _ _ _ _ _ _ _).trans (ref75 _ _ _ _ _ _ _ f0 f1 f3 f4 f5 f6 f7)
  · rw [Cert.LnBwdRefIdeal.Read.val_main_v77_eq, h0, h3, h4, h5, h6, h7]
    exact ref77 _ _ _ _ _ _
  · rw [Cert.LnBwdRefIdeal.Read.val_main_v78_eq, h3, h4, h5, h6, h7]
    exact ref78 _ _ _ _ _

end Cert.Proof.LnBwd

end
-- ==== Proof.InBwd.lean ====
/-
  The gradient of a layer's input through its first feed-forward block: `alpha dx + dg wg^T + du wu^T`. The kernel adds
  the products chip block by chip block; the sums meet over the extended reals without any condition.
-/
module

public import proofs.«01_k».proof.Defs
public import proofs.«01_k».proof.Proof.Gen.InBwdIdeal.Value
public import proofs.«01_k».proof.Proof.Gen.InBwdRefIdeal.Run
public import proofs.«01_k».proof.Proof.Gen.InBwdRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt
public import proofs.«01_k».proof.Proof.Finite
public import proofs.«01_k».proof.Proof.Sums

@[expose] public section
noncomputable section

namespace Cert.Proof.InBwd
open Cert.InBwdIdeal Cert.InBwdIdeal.Gen Idealize.ShloMosaic Idealize.ShloMosaic.TcCoe Idealize.SL.Sem
open scoped BigOperators
variable (m : (ℓ : Loc nD τ sig) → Buf (Elt Ideal) ℓ)

/-- Window 0, the rows of `dg`. -/
theorem index0 : ∀ t : Fin cfg0.N, win0_0.index t = ![t.val, 0] := (by decide +kernel : ∀ t : Fin grid0.N, _)
/-- Window 1 holds the whole cut weight at every point. -/
theorem index1 : ∀ t : Fin cfg0.N, win0_1.index t = ![0, 0, 0] := (by decide +kernel : ∀ t : Fin grid0.N, _)
/-- Window 2, the rows of `du`. -/
theorem index2 : ∀ t : Fin cfg0.N, win0_2.index t = ![t.val, 0] := (by decide +kernel : ∀ t : Fin grid0.N, _)
/-- Window 3 holds the whole cut weight at every point. -/
theorem index3 : ∀ t : Fin cfg0.N, win0_3.index t = ![0, 0, 0] := (by decide +kernel : ∀ t : Fin grid0.N, _)
/-- Window 4, the rows of `dx`. -/
theorem index4 : ∀ t : Fin cfg0.N, win0_4.index t = ![t.val, 0] := (by decide +kernel : ∀ t : Fin grid0.N, _)
/-- Window 5, the rows of the result. -/
theorem index5 : ∀ t : Fin cfg0.N, win0_5.index t = ![t.val, 0] := (by decide +kernel : ∀ t : Fin grid0.N, _)

/-- A weight cut into four blocks of 768 columns. -/
def cut (w : S1024x3072.Idx → EReal) (j : S4x1024x768.Idx) : EReal :=
  w (ix2 (j 1) ⟨(j 0).val * 768 + (j 2).val, by
    have h0 : (j 0).val < 4 := (j 0).isLt
    have h2 : (j 2).val < 768 := (j 2).isLt
    omega⟩)

/-- What window 1 stages is the first weight, cut. -/
theorem V_v1 (c : Dev nD) : V m c main_v1 = cut (m (c.tc.loc main_arg1)) := by
  funext j
  unfold V cut
  after_reads_at

/-- What window 3 stages is the second weight, cut. -/
theorem V_v3 (c : Dev nD) : V m c main_v3 = cut (m (c.tc.loc main_arg2)) := by
  funext j
  unfold V cut
  after_reads_at

/-- A column's term of a product. -/
def term (d : S8192x3072.Idx → EReal) (w : S1024x3072.Idx → EReal) (i : S8192x1024.Idx) (k : Fin 3072) : EReal :=
  d (ix2 (i 0) k) * w (ix2 (i 1) k)

/-- The sum that both sides compute. -/
def total (wg wu : S1024x3072.Idx → EReal) (dx : S8192x1024.Idx → EReal) (dg du : S8192x3072.Idx → EReal)
    (i : S8192x1024.Idx) : EReal :=
  ∑ k, term du wu i k + ∑ k, term dg wg i k
    + Ideal.ofBits FTy.f32 1068827891#32 * dx i

/-- A row of the first operand's block against a row of the cut weight, over the columns of chip `s`. -/
def run (d : S512x3072.Idx → EReal) (w : S4x1024x768.Idx → EReal) (y : S512x1024.Idx) (s : Fin 4) (x : Fin 768) : EReal :=
  d (ix2 (y 0) ⟨768 * s.val + x.val, by have := s.isLt; have := x.isLt; omega⟩) * w (ix3 s (y 1) x)

/-- Each run of the first pair, read off the arrays. -/
theorem run_g (c : Dev nD) (t : Fin cfg0.N) (y : S512x1024.Idx) (s : Fin 4) (x : Fin 768) :
    run (fun j => m (c.tc.loc main_arg4) ((win0_0.blk t).view.emb j)) (fun j => cut (m (c.tc.loc main_arg1)) ((win0_1.blk t).view.emb j)) y s x
      = term (m (c.tc.loc main_arg4)) (m (c.tc.loc main_arg1)) ((win0_5.blk t).view.emb y)
        ⟨768 * s.val + x.val, by have := s.isLt; have := x.isLt; omega⟩ := by
  refine mul_at (m (c.tc.loc main_arg4)) (m (c.tc.loc main_arg1)) ?_ ?_
  · blk_ext [index0, index5]
  · blk_ext [index1, index5]

/-- Each run of the second pair. -/
theorem run_u (c : Dev nD) (t : Fin cfg0.N) (y : S512x1024.Idx) (s : Fin 4) (x : Fin 768) :
    run (fun j => m (c.tc.loc main_arg5) ((win0_2.blk t).view.emb j)) (fun j => cut (m (c.tc.loc main_arg2)) ((win0_3.blk t).view.emb j)) y s x
      = term (m (c.tc.loc main_arg5)) (m (c.tc.loc main_arg2)) ((win0_5.blk t).view.emb y)
        ⟨768 * s.val + x.val, by have := s.isLt; have := x.isLt; omega⟩ := by
  refine mul_at (m (c.tc.loc main_arg5)) (m (c.tc.loc main_arg2)) ?_ ?_
  · blk_ext [index2, index5]
  · blk_ext [index3, index5]

/-- The residual's element of a block is the result's. -/
theorem emb4 (t : Fin cfg0.N) (y : S512x1024.Idx) : (win0_4.blk t).view.emb y = (win0_5.blk t).view.emb y := by
  blk_ext [index4, index5]

/-- The array after the run. -/
theorem arr5 (c : Dev nD) : (dats m 0 c).arrAt 5 cfg0.N
    = total (m (c.tc.loc main_arg1)) (m (c.tc.loc main_arg2)) (m (c.tc.loc main_arg3)) (m (c.tc.loc main_arg4))
        (m (c.tc.loc main_arg5)) := by
  refine (dats m 0 c).arrAt_eq_of_covers 5 _ (by decide +kernel) fun t hf y => ?_
  blk_simp
  rw [after0_5]; unfold out0_5; frame_out
  unfold_payloads
  pointwise
  blk_simp [iblk]
  rw [V_main_arg3, V_main_arg4, V_main_arg5, V_v1, V_v3]
  have key := two_sums_by_runs (HMul.hMul (α := EReal) (β := EReal) (Ideal.ofBits FTy.f32 1068827891#32)
      (m (c.tc.loc main_arg3) ((win0_5.blk t).view.emb y)))
    (term (m (c.tc.loc main_arg4)) (m (c.tc.loc main_arg1)) ((win0_5.blk t).view.emb y))
    (term (m (c.tc.loc main_arg5)) (m (c.tc.loc main_arg2)) ((win0_5.blk t).view.emb y)) _ _ (run_g m c t y) (run_u m c t y)
  unfold total
  rw [emb4]
  refine Eq.trans ?_ key
  unfold run
  simp only [Fin.val_zero, Nat.mul_zero, Nat.zero_add]
  rfl

/-- The reference. -/
theorem ref (wg wu : S1024x3072.Idx → EReal) (dx : S8192x1024.Idx → EReal) (dg du : S8192x3072.Idx → EReal) :
    Cert.InBwdRefIdeal.Read.val_main_v13 (F := Ideal) wg wu dx dg du = total wg wu dx dg du := by
  funext i
  rw [← Cert.InBwdRefIdeal.Read.val_main_v13_eq]
  pointwise
  rfl

/-- The reference changes no argument and leaves no semaphore raised. -/
theorem frame_ref : Cert.quiescent_InBwdRefIdeal := fun m ρ _ =>
  (θ_run Cert.InBwdRefIdeal.defs _ _).mono (fun r h => ⟨fun c => (h c).2, sem_eq_zero_of_no_sems (by decide) r.2⟩)
    (Cert.InBwdRefIdeal.Value.run (F := Ideal) m ρ)

/-- The kernel's array is the reference's. -/
theorem algebraic : Cert.algebraic_InBwdIdeal_InBwdRefIdeal := by
  intro m ρ m' ρ' hpre hagree
  refine ⟨fun c => total (m (c.tc.loc main_arg1)) (m (c.tc.loc main_arg2)) (m (c.tc.loc main_arg3)) (m (c.tc.loc main_arg4))
        (m (c.tc.loc main_arg5)), ?_, ?_⟩
  · exact (θ_run Cert.InBwdIdeal.defs _ _).mono (fun _ h c => ⟨(h c).1.trans (arr5 m c), (h c).2⟩)
      (Cert.InBwdIdeal.Value.run_blocks (F := Ideal) m ρ)
  · refine (θ_run Cert.InBwdRefIdeal.defs _ _).mono (fun _ h c => ⟨(h c).1.trans ?_, (h c).2⟩)
      (Cert.InBwdRefIdeal.Value.run (F := Ideal) m' ρ')
    obtain ⟨h0, h1, h2, h3, h4, h5⟩ := hagree c
    rw [Cert.InBwdRefIdeal.Read.val_main_v13_eq, h1, h2, h3, h4, h5]
    exact ref _ _ _ _ _

end Cert.Proof.InBwd

end
-- ==== Proof.InProj.lean ====
/-
  The input projection of the token mixers: `x w`. A grid point forms one block of the product, its whole sum at once.
-/
module

public import proofs.«01_k».proof.Defs
public import proofs.«01_k».proof.Proof.Gen.InProjIdeal.Value
public import proofs.«01_k».proof.Proof.Gen.InProjRefIdeal.Run
public import proofs.«01_k».proof.Proof.Gen.InProjRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt
public import proofs.«01_k».proof.Proof.Finite
public import proofs.«01_k».proof.Proof.Sums

@[expose] public section
noncomputable section

namespace Cert.Proof.InProj
open Cert.InProjIdeal Cert.InProjIdeal.Gen Idealize.ShloMosaic Idealize.ShloMosaic.TcCoe Idealize.SL.Sem
open scoped BigOperators
variable (m : (ℓ : Loc nD τ sig) → Buf (Elt Ideal) ℓ)

/-- Window 0, a block of rows of `x`. -/
theorem index0 : ∀ t : Fin cfg0.N, win0_0.index t = ![t.val / 3, 0] := (by decide +kernel : ∀ t : Fin grid0.N, _)
/-- Window 1, a block of columns of `w`. -/
theorem index1 : ∀ t : Fin cfg0.N, win0_1.index t = ![0, t.val % 3] := (by decide +kernel : ∀ t : Fin grid0.N, _)
/-- Window 2, a block of the product. -/
theorem index2 : ∀ t : Fin cfg0.N, win0_2.index t = ![t.val / 3, t.val % 3] := (by decide +kernel : ∀ t : Fin grid0.N, _)

variable (a : S8192x1024.Idx → EReal) (b : S1024x3072.Idx → EReal)

/-- The product at an index. -/
def out (i : S8192x3072.Idx) : EReal := ∑ k : Fin 1024, a (ix2 (i 0) k) * b (ix2 k (i 1))

/-- The array after the run. -/
theorem arr2 (c : Dev nD) : (dats m 0 c).arrAt 2 cfg0.N = out (m (c.tc.loc main_arg0)) (m (c.tc.loc main_arg1)) := by
  refine (dats m 0 c).arrAt_eq_of_covers 2 _ (by decide +kernel) fun t hf y => ?_
  blk_simp
  rw [after0_2]; simp only [outsAt0]; unfold out0_A_2; frame_out
  unfold_payloads
  pointwise
  blk_simp [iblk]
  rw [V_main_arg0, V_main_arg1, out]
  exact dot_at (m (c.tc.loc main_arg0)) (m (c.tc.loc main_arg1)) (fun k => by blk_ext [index0, index2]) (fun k => by blk_ext [index1, index2])

/-- The reference. -/
theorem ref : Cert.InProjRefIdeal.Read.val_main_v2 (F := Ideal) a b = out a b := by
  funext i
  rw [← Cert.InProjRefIdeal.Read.val_main_v2_eq]
  pointwise
  rfl

/-- The reference changes no argument and leaves no semaphore raised. -/
theorem frame_ref : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- The kernel's array is the reference's. -/
theorem algebraic : Cert.algebraic_InProjIdeal_InProjRefIdeal := by
  intro m ρ m' ρ' hpre hagree
  refine ⟨fun c => out (m (c.tc.loc main_arg0)) (m (c.tc.loc main_arg1)), ?_, ?_⟩
  · exact (θ_run Cert.InProjIdeal.defs _ _).mono (fun _ h c => ⟨(h c).1.trans (arr2 m c), (h c).2⟩)
      (Cert.InProjIdeal.Value.run_blocks (F := Ideal) m ρ)
  · refine (θ_run Cert.InProjRefIdeal.defs _ _).mono (fun _ h c => ⟨(h c).1.trans ?_, (h c).2⟩)
      (Cert.InProjRefIdeal.Value.run (F := Ideal) m' ρ')
    obtain ⟨h0, h1⟩ := hagree c
    rw [Cert.InProjRefIdeal.Read.val_main_v2_eq, h0, h1]
    exact ref _ _

end Cert.Proof.InProj

end
-- ==== Proof.InDw.lean ====
/-
  The gradient of the input projection's weight: `x^T dh`, a product over the 8192 rows. For each block of columns the
  kernel adds eight runs of 1024 rows into a scratch block.
-/
module

public import proofs.«01_k».proof.Defs
public import proofs.«01_k».proof.Proof.Gen.InDwIdeal.Value
public import proofs.«01_k».proof.Proof.Gen.InDwRefIdeal.Run
public import proofs.«01_k».proof.Proof.Gen.InDwRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt
public import proofs.«01_k».proof.Proof.Finite
public import proofs.«01_k».proof.Proof.Sums

@[expose] public section
noncomputable section

namespace Cert.Proof.InDw
open Cert.InDwIdeal Cert.InDwIdeal.Gen Idealize.ShloMosaic Idealize.ShloMosaic.TcCoe Idealize.SL.Sem
open scoped BigOperators
variable (m : (ℓ : Loc nD τ sig) → Buf (Elt Ideal) ℓ)

/-- Window 0, the rows of the first factor. -/
theorem index0 : ∀ t : Fin cfg0.N, win0_0.index t = ![t.val % 8, 0] := (by decide +kernel : ∀ t : Fin grid0.N, _)
/-- Window 1, the rows of the second. -/
theorem index1 : ∀ t : Fin cfg0.N, win0_1.index t = ![t.val % 8, t.val / 8] := (by decide +kernel : ∀ t : Fin grid0.N, _)
/-- Window 2, a block of columns of the result. -/
theorem index2 : ∀ t : Fin cfg0.N, win0_2.index t = ![0, t.val / 8] := (by decide +kernel : ∀ t : Fin grid0.N, _)

/-- What point `t` adds to the scratch block. -/
def addend (c : Dev nD) (t : Fin cfg0.N) (y : S1024x1024.Idx) : EReal :=
  ∑ k : Fin 1024, HMul.hMul (α := EReal) (β := EReal) (iblk m c 0 t (ix2 k (y 0))) (iblk m c 1 t (ix2 k (y 1)))

/-- A run's first point leaves its own addend. -/
theorem first (c : Dev nD) (t : Fin cfg0.N) (h0 : t.val % 8 = 0) (acc : Vec Ideal S1024x1024 .f32) (y : S1024x1024.Idx) :
    Value.scAt0_0 m c t.val t.isLt acc y = addend m c t y := by
  unfold Value.scAt0_0
  rw [dif_pos h0, dif_neg (by omega)]
  unfold sout0_A_0; frame_out
  unfold_payloads
  pointwise
  rfl

/-- Every later point adds its own to what the point before left. -/
theorem step (c : Dev nD) (t : Fin cfg0.N) (h0 : ¬ t.val % 8 = 0) (acc : Vec Ideal S1024x1024 .f32) (y : S1024x1024.Idx) :
    Value.scAt0_0 m c t.val t.isLt acc y = HAdd.hAdd (α := EReal) (β := EReal) (acc y) (addend m c t y) := by
  unfold Value.scAt0_0
  rw [dif_neg h0]
  by_cases h1 : t.val % 8 = 7
  · rw [dif_pos h1]
    unfold sout0_C_0; frame_out
    unfold_payloads
    pointwise
    rw [read_unread_whole]
    rfl
  · rw [dif_neg h1]
    unfold sout0_B_0; frame_out
    unfold_payloads
    pointwise
    rw [read_unread_whole]
    rfl

/-- The addend of every natural: nothing past the grid. -/
def addendN (c : Dev nD) (n : ℕ) (y : S1024x1024.Idx) : EReal := if h : n < cfg0.N then addend m c ⟨n, h⟩ y else 0

/-- At a run's last point the scratch block holds the sum of the run's addends. -/
theorem scratch (c : Dev nD) (t : Fin cfg0.N) (h1 : t.val % 8 = 7) (y : S1024x1024.Idx) :
    (outsAt0 m c t.val t.isLt).2 y = ∑ s : Fin 8, addendN m c (8 * (t.val / 8) + s.val) y := by
  rw [Value.soutsAt0_0_eq]
  rw [Pipeline.accAt_add_apply (β := EReal) _ _ (fun _ => 0) (addendN m c) (8 * (t.val / 8)) 7 ?_ ?_ (t.val % 8) (by omega) _ y]
  · rw [h1, Finset.sum_range, zero_add]
  · intro h i
    rw [zero_add, addendN, dif_pos h]
    exact first m c ⟨_, h⟩ (by show (8 * (t.val / 8)) % 8 = 0; omega) _ i
  · intro n h acc i hb hn
    rw [addendN, dif_pos h]
    exact step m c ⟨n, h⟩ (by show ¬ n % 8 = 0; omega) acc i

/-- At a run's last point the output block is the scratch block. -/
theorem stored (c : Dev nD) (t : Fin cfg0.N) (h1 : t.val % 8 = 7) (y : S1024x1024.Idx) :
    (outsAt0 m c t.val t.isLt).1 y = (outsAt0 m c t.val t.isLt).2 y := by
  rw [outsAt0_C m c t (by omega) h1]; dsimp only; unfold out0_C_2 sout0_C_0; frame_out
  unfold_payloads
  pointwise

variable (a : S8192x1024.Idx → EReal) (b : S8192x3072.Idx → EReal)

/-- A row's term of the product. -/
def term (i : S1024x3072.Idx) (k : Fin 8192) : EReal := b (ix2 k (i 1)) * a (ix2 k (i 0))

/-- The gradient at an index. -/
def out (i : S1024x3072.Idx) : EReal := ∑ k, term a b i k

/-- A run's addend, read off the arrays. -/
theorem addend_eq (c : Dev nD) (t : Fin cfg0.N) (s : Fin 8) (y : S1024x1024.Idx) :
    addendN m c (8 * (t.val / 8) + s.val) y = ∑ k : Fin 1024,
      term (m (c.tc.loc main_arg0)) (m (c.tc.loc main_arg1)) ((win0_2.blk t).view.emb y)
        ⟨1024 * s.val + k.val, by have := s.isLt; have := k.isLt; omega⟩ := by
  have ht : t.val < 24 := lt_of_lt_of_eq t.isLt (show cfg0.N = 24 from N_0)
  have hs := s.isLt
  have hb : 8 * (t.val / 8) + s.val < cfg0.N := lt_of_lt_of_eq (by omega) (show 24 = cfg0.N from N_0.symm)
  have e1 : (8 * (t.val / 8) + s.val) % 8 = s.val := by omega
  have e2 : (8 * (t.val / 8) + s.val) / 8 = t.val / 8 := by omega
  rw [addendN, dif_pos hb, addend]
  blk_simp [iblk]
  rw [V_main_arg0, V_main_arg1]
  refine (sum_ext fun k => EReal.mul_comm _ _).trans ?_
  refine dot_at (m (c.tc.loc main_arg1)) (m (c.tc.loc main_arg0)) (fun k => ?_) (fun k => ?_)
  · blk_ext [index1, index2, e1, e2]
  · blk_ext [index0, index2, e1, e2]

/-- The array after the run. -/
theorem arr2 (c : Dev nD) : (dats m 0 c).arrAt 2 cfg0.N = out (m (c.tc.loc main_arg0)) (m (c.tc.loc main_arg1)) := by
  refine (dats m 0 c).arrAt_eq_of_covers 2 _ (by decide +kernel) fun t hf y => ?_
  have h1 : t.val % 8 = 7 := (flush0_2 t).mp hf
  blk_simp
  rw [after0_2, stored m c t h1, scratch m c t h1, Finset.sum_congr rfl fun s _ => addend_eq m c t s y,
    ← sum_runs (p := 8) (q := 1024) rfl (term (m (c.tc.loc main_arg0)) (m (c.tc.loc main_arg1)) ((win0_2.blk t).view.emb y)), out]

/-- The reference. -/
theorem ref : Cert.InDwRefIdeal.Read.val_main_v5 (F := Ideal) a b = out a b := by
  funext i
  rw [← Cert.InDwRefIdeal.Read.val_main_v5_eq]
  pointwise
  rfl

/-- The reference changes no argument and leaves no semaphore raised. -/
theorem frame_ref : Cert.quiescent_InDwRefIdeal := fun m ρ _ =>
  (θ_run Cert.InDwRefIdeal.defs _ _).mono (fun r h => ⟨fun c => (h c).2, sem_eq_zero_of_no_sems (by decide) r.2⟩)
    (Cert.InDwRefIdeal.Value.run (F := Ideal) m ρ)

/-- The kernel's array is the reference's. -/
theorem algebraic : Cert.algebraic_InDwIdeal_InDwRefIdeal := by
  intro m ρ m' ρ' hpre hagree
  refine ⟨fun c => out (m (c.tc.loc main_arg0)) (m (c.tc.loc main_arg1)), ?_, ?_⟩
  · exact (θ_run Cert.InDwIdeal.defs _ _).mono (fun _ h c => ⟨(h c).1.trans (arr2 m c), (h c).2⟩)
      (Cert.InDwIdeal.Value.run_blocks (F := Ideal) m ρ)
  · refine (θ_run Cert.InDwRefIdeal.defs _ _).mono (fun _ h c => ⟨(h c).1.trans ?_, (h c).2⟩)
      (Cert.InDwRefIdeal.Value.run (F := Ideal) m' ρ')
    obtain ⟨h0, h1⟩ := hagree c
    rw [Cert.InDwRefIdeal.Read.val_main_v5_eq, h0, h1]
    exact ref _ _

end Cert.Proof.InDw

end
-- ==== Proof.Ln1Bwd.lean ====
/-
  The gradient of the normalisation in front of the token mixer, the input product's included. The kernel forms the
  normalised rows' cotangent `alpha dx + dh w^T` and from it the rows' cotangent in closed form; the gain's and the
  bias's gradients are added up over the grid. On finite arrays the rows' cotangent is the reference's; the other two
  meet it without any condition.
-/
module

public import proofs.«01_k».proof.Defs
public import proofs.«01_k».proof.Proof.Gen.Ln1BwdIdeal.Value
public import proofs.«01_k».proof.Proof.Gen.Ln1BwdRefIdeal.Run
public import proofs.«01_k».proof.Proof.Gen.Ln1BwdRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt
public import proofs.«01_k».proof.Proof.Finite
public import proofs.«01_k».proof.Proof.Sums
public import proofs.«01_k».proof.Proof.Norm
public import proofs.«01_k».proof.Proof.NormGrad
public import proofs.«01_k».proof.Proof.Gen.Pre_ln1_bwd_finite

@[expose] public section
noncomputable section

namespace Cert.Proof.Ln1Bwd
open Cert.Ln1BwdIdeal Cert.Ln1BwdIdeal.Gen Idealize.ShloMosaic Idealize.ShloMosaic.TcCoe Idealize.SL.Sem
open scoped BigOperators
variable (m : (ℓ : Loc nD τ sig) → Buf (Elt Ideal) ℓ)

/-- Window 0: rows of the product's operand. -/
theorem index0 : ∀ t : Fin cfg0.N, win0_0.index t = ![t.val, 0] := (by decide +kernel : ∀ t : Fin grid0.N, _)
/-- Window 1: the whole weight. -/
theorem index1 : ∀ t : Fin cfg0.N, win0_1.index t = ![0, 0] := (by decide +kernel : ∀ t : Fin grid0.N, _)
/-- Window 2: rows of the residual's cotangent. -/
theorem index2 : ∀ t : Fin cfg0.N, win0_2.index t = ![t.val, 0] := (by decide +kernel : ∀ t : Fin grid0.N, _)
/-- Window 3: rows of the normalised array. -/
theorem index3 : ∀ t : Fin cfg0.N, win0_3.index t = ![t.val, 0] := (by decide +kernel : ∀ t : Fin grid0.N, _)
/-- Window 4: rows of the reciprocal deviations. -/
theorem index4 : ∀ t : Fin cfg0.N, win0_4.index t = ![t.val, 0] := (by decide +kernel : ∀ t : Fin grid0.N, _)
/-- Window 5: the gain. -/
theorem index5 : ∀ t : Fin cfg0.N, win0_5.index t = ![0, 0] := (by decide +kernel : ∀ t : Fin grid0.N, _)
/-- Window 6: rows of the result. -/
theorem index6 : ∀ t : Fin cfg0.N, win0_6.index t = ![t.val, 0] := (by decide +kernel : ∀ t : Fin grid0.N, _)
/-- Window 7: rows of the rounded result. -/
theorem index7 : ∀ t : Fin cfg0.N, win0_7.index t = ![t.val, 0] := (by decide +kernel : ∀ t : Fin grid0.N, _)
/-- Window 8: the gain's gradient. -/
theorem index8 : ∀ t : Fin cfg0.N, win0_8.index t = ![0, 0] := (by decide +kernel : ∀ t : Fin grid0.N, _)
/-- Window 9: the bias's gradient. -/
theorem index9 : ∀ t : Fin cfg0.N, win0_9.index t = ![0, 0] := (by decide +kernel : ∀ t : Fin grid0.N, _)

/-- A vector as an array of one row. -/
def asRow (g : S1024.Idx → EReal) (j : S1x1024.Idx) : EReal := g (ix1 (j 1))

/-- A row of an array. -/
def rowOf (r : S8192x1024.Idx → EReal) (p : Fin 8192) (k : Fin 1024) : EReal := r (ix2 p k)

/-- The rows' reciprocal deviations. -/
def dev (r : S8192x1024.Idx → EReal) (i : S8192x1.Idx) : EReal := Norm.rstd (rowOf r (i 0))

/-- The normalised rows. -/
def hat (r : S8192x1024.Idx → EReal) (i : S8192x1024.Idx) : EReal := Norm.xhat (rowOf r (i 0)) (i 1)

/-- What window 5 stages is the gain. -/
theorem V_v18 (c : Dev nD) : V m c main_v18 = asRow (m (c.tc.loc main_arg1)) := by
  funext j
  unfold V asRow
  after_reads_at

/-- What window 4 stages is the rows' reciprocal deviations. -/
theorem V_v13 (c : Dev nD) : V m c main_v13 = dev (m (c.tc.loc main_arg0)) := by
  funext j
  unfold V
  after_reads_at
  rfl

/-- What window 3 stages is the normalised rows. -/
theorem V_v17 (c : Dev nD) : V m c main_v17 = hat (m (c.tc.loc main_arg0)) := by
  funext j
  unfold V
  after_reads_at
  exact Norm.xhat_at (rowOf (m (c.tc.loc main_arg0)) (j 0)) _ _ _ (fun k => rfl) (congrArg (m (c.tc.loc main_arg0)) (eq_ix2 j))

section Values
variable (r : S8192x1024.Idx → EReal) (g : S1024.Idx → EReal) (w : S1024x3072.Idx → EReal) (dx : S8192x1024.Idx → EReal)
  (d : S8192x3072.Idx → EReal)

/-- The cotangent of the normalised rows with their gain. -/
def total (i : S8192x1024.Idx) : EReal := Ideal.ofBits FTy.f32 1068827891#32 * dx i + ∑ k, d (ix2 (i 0) k) * w (ix2 (i 1) k)

/-- A row of the cotangent of the normalised rows. -/
def inner (p : Fin 8192) (k : Fin 1024) : EReal := total w dx d (ix2 p k) * g (ix1 k)

/-- The rows' cotangent. -/
def dr (i : S8192x1024.Idx) : EReal := Norm.grad (rowOf r (i 0)) (inner g w dx d (i 0)) (i 1)
end Values

/-- The residual's element of a block is the result's. -/
theorem emb2 (t : Fin cfg0.N) (y : S512x1024.Idx) : (win0_2.blk t).view.emb y = (win0_6.blk t).view.emb y := by
  blk_ext [index2, index6]
/-- The normalised array's element of a block is the result's. -/
theorem emb3 (t : Fin cfg0.N) (y : S512x1024.Idx) : (win0_3.blk t).view.emb y = (win0_6.blk t).view.emb y := by
  blk_ext [index3, index6]
/-- The rounded result's element of a block is the result's. -/
theorem emb7 (t : Fin cfg0.N) (y : S512x1024.Idx) : (win0_7.blk t).view.emb y = (win0_6.blk t).view.emb y := by
  blk_ext [index7, index6]

/-- The block's rows lie in the array's. -/
theorem emb_row (t : Fin cfg0.N) (y : S512x1024.Idx) (k : Fin 1024) :
    (win0_6.blk t).view.emb (ix2 (y 0) k) = ix2 ((win0_6.blk t).view.emb y 0) k := by blk_ext [index6]

/-- The deviations' block lies in the rows of the result's. -/
theorem dev_at (c : Dev nD) (t : Fin cfg0.N) (y : S512x1024.Idx) :
    dev (m (c.tc.loc main_arg0)) ((win0_4.blk t).view.emb (ix2 (y 0) (0 : Fin 1)))
      = Norm.rstd (rowOf (m (c.tc.loc main_arg0)) ((win0_6.blk t).view.emb y 0)) := by
  have e : (win0_4.blk t).view.emb (ix2 (y 0) (0 : Fin 1)) = ix2 ((win0_6.blk t).view.emb y 0) (0 : Fin 1) := by
    blk_ext [index4, index6]
  rw [e]
  rfl

/-- The gain's block is the gain. -/
theorem gain_at (c : Dev nD) (t : Fin cfg0.N) (k : Fin 1024) :
    asRow (m (c.tc.loc main_arg1)) ((win0_5.blk t).view.emb (ix2 (0 : Fin 1) k)) = m (c.tc.loc main_arg1) (ix1 k) :=
  congrArg (m (c.tc.loc main_arg1)) (by blk_ext [index5])

section Payloads
variable (v0 : Vec Ideal S512x1024 .f32) (v3 : Vec Ideal S512x3072 .bf16) (v4 : Vec Ideal S1024x3072 .bf16)
  (v7 : Vec Ideal S512x1024 .f32) (v9 : Vec Ideal S1x1024 .f32) (v22 : Vec Ideal S512x1 .f32)

/-- The cotangent of the gained rows: the residual's and the product's. -/
theorem pay5_at (y : S512x1024.Idx) : k0_pay5 v0 v3 v4 y = HAdd.hAdd (α := EReal) (β := EReal)
    (HMul.hMul (α := EReal) (β := EReal) (Ideal.ofBits FTy.f32 1068827891#32) (v0 y)) (∑ l : Fin 3072, HMul.hMul (α := EReal) (β := EReal) (v3 (ix2 (y 0) l)) (v4 (ix2 (y 1) l))) := by
  unfold k0_pay5
  pointwise

/-- The normalised rows are taken as they are. -/
theorem pay6_at (y : S512x1024.Idx) : k0_pay6 v7 y = v7 y := by
  unfold k0_pay6
  pointwise

/-- The rows' cotangent in closed form. -/
theorem pay7_at (y : S512x1024.Idx) : k0_pay7 v0 v3 v4 v7 v9 v22 y = HMul.hMul (α := EReal) (β := EReal) (v22 (ix2 (y 0) (0 : Fin 1)))
      (HSub.hSub (α := EReal) (β := EReal) (HSub.hSub (α := EReal) (β := EReal)
        (HMul.hMul (α := EReal) (β := EReal) (k0_pay5 v0 v3 v4 y) (v9 (ix2 (0 : Fin 1) (y 1))))
        (Ideal.div (∑ k : Fin 1024, HMul.hMul (α := EReal) (β := EReal) (k0_pay5 v0 v3 v4 (ix2 (y 0) k)) (v9 (ix2 (0 : Fin 1) k))) (Ideal.ofBits FTy.f32 1149239296#32)))
        (HMul.hMul (α := EReal) (β := EReal) (k0_pay6 v7 y) (Ideal.div (∑ k : Fin 1024, HMul.hMul (α := EReal) (β := EReal)
          (HMul.hMul (α := EReal) (β := EReal) (k0_pay5 v0 v3 v4 (ix2 (y 0) k)) (v9 (ix2 (0 : Fin 1) k))) (k0_pay6 v7 (ix2 (y 0) k))) (Ideal.ofBits FTy.f32 1149239296#32)))) := by
  unfold k0_pay7
  pointwise

/-- The rounded rows' cotangent is the rows' cotangent. -/
theorem pay8_at (y : S512x1024.Idx) : k0_pay8 v0 v3 v4 v7 v9 v22 y = k0_pay7 v0 v3 v4 v7 v9 v22 y := by
  unfold k0_pay8
  pointwise
end Payloads

/-- The accumulators start from zero. -/
theorem pay1_at (y : S1x1024.Idx) : k0_pay1 (F := Ideal) y = (0 : EReal) := by
  unfold k0_pay1
  pointwise

/-- The accumulators start from zero. -/
theorem pay2_at (y : S1x1024.Idx) : k0_pay2 (F := Ideal) y = (0 : EReal) := by
  unfold k0_pay2
  pointwise

/-- A block's part of the gain's gradient, added to what was there. -/
theorem pay3_at (v6 v8 : FVec Ideal S512x1024 .f32) (v37 : Vec Ideal S1x1024 .f32) (y : S1x1024.Idx) :
    k0_pay3 v6 v8 v37 y = HAdd.hAdd (α := EReal) (β := EReal) (v37 y)
      (∑ x : Fin 512, HMul.hMul (α := EReal) (β := EReal) (v6 (ix2 x (y 1))) (v8 (ix2 x (y 1)))) := by
  unfold k0_pay3
  pointwise

/-- A block's part of the bias's gradient, added to what was there. -/
theorem pay4_at (v6 : FVec Ideal S512x1024 .f32) (v44 : Vec Ideal S1x1024 .f32) (y : S1x1024.Idx) :
    k0_pay4 v6 v44 y = HAdd.hAdd (α := EReal) (β := EReal) (v44 y) (∑ x : Fin 512, (v6 (ix2 x (y 1)) : EReal)) := by
  unfold k0_pay4
  pointwise

/-- The cotangent of the gained rows in the block of point `t`. -/
theorem total_blk (c : Dev nD) (t : Fin cfg0.N) (y : S512x1024.Idx) :
    k0_pay5 (iblk m c 2 t) (iblk m c 0 t) (iblk m c 1 t) y = total (m (c.tc.loc main_arg3)) (m (c.tc.loc main_arg4)) (m (c.tc.loc main_arg5)) ((win0_6.blk t).view.emb y) := by
  rw [pay5_at]
  blk_simp [iblk]
  rw [V_main_arg3, V_main_arg4, V_main_arg5, emb2, total]
  exact congrArg (HAdd.hAdd (α := EReal) (β := EReal) _) (dot_at (m (c.tc.loc main_arg5)) (m (c.tc.loc main_arg3))
    (fun l => by blk_ext [index0, index6]) (fun l => by blk_ext [index1, index6]))

/-- The rows' cotangent in the block of point `t`. -/
theorem grad_blk (c : Dev nD) (t : Fin cfg0.N) (y : S512x1024.Idx) :
    k0_pay7 (iblk m c 2 t) (iblk m c 0 t) (iblk m c 1 t) (iblk m c 3 t) (iblk m c 5 t) (iblk m c 4 t) y
      = dr (m (c.tc.loc main_arg0)) (m (c.tc.loc main_arg1)) (m (c.tc.loc main_arg3)) (m (c.tc.loc main_arg4)) (m (c.tc.loc main_arg5)) ((win0_6.blk t).view.emb y) := by
  rw [pay7_at]
  simp only [total_blk, pay6_at]
  have hrs : (iblk m c 4 t (ix2 (y 0) (0 : Fin 1)) : EReal) = Norm.rstd (rowOf (m (c.tc.loc main_arg0)) ((win0_6.blk t).view.emb y 0)) := by
    blk_simp [iblk]; rw [V_v13]; exact dev_at m c t y
  have hg (k : Fin 1024) : (iblk m c 5 t (ix2 (0 : Fin 1) k) : EReal) = m (c.tc.loc main_arg1) (ix1 k) := by
    blk_simp [iblk]; rw [V_v18]; exact gain_at m c t k
  have hx : (iblk m c 3 t y : EReal) = Norm.xhat (rowOf (m (c.tc.loc main_arg0)) ((win0_6.blk t).view.emb y 0)) ((win0_6.blk t).view.emb y 1) := by
    blk_simp [iblk]; rw [V_v17, emb3]; rfl
  have hh (k : Fin 1024) : (iblk m c 3 t (ix2 (y 0) k) : EReal) = Norm.xhat (rowOf (m (c.tc.loc main_arg0)) ((win0_6.blk t).view.emb y 0)) k := by
    blk_simp [iblk]; rw [V_v17, emb3, emb_row]; rfl
  have hq (k : Fin 1024) : HMul.hMul (α := EReal) (β := EReal) (total (m (c.tc.loc main_arg3)) (m (c.tc.loc main_arg4)) (m (c.tc.loc main_arg5)) ((win0_6.blk t).view.emb (ix2 (y 0) k))) (iblk m c 5 t (ix2 (0 : Fin 1) k))
      = inner (m (c.tc.loc main_arg1)) (m (c.tc.loc main_arg3)) (m (c.tc.loc main_arg4)) (m (c.tc.loc main_arg5)) ((win0_6.blk t).view.emb y 0) k := by
    rw [hg, emb_row]; rfl
  have he : HMul.hMul (α := EReal) (β := EReal) (total (m (c.tc.loc main_arg3)) (m (c.tc.loc main_arg4)) (m (c.tc.loc main_arg5)) ((win0_6.blk t).view.emb y)) (iblk m c 5 t (ix2 (0 : Fin 1) (y 1)))
      = inner (m (c.tc.loc main_arg1)) (m (c.tc.loc main_arg3)) (m (c.tc.loc main_arg4)) (m (c.tc.loc main_arg5)) ((win0_6.blk t).view.emb y 0) ((win0_6.blk t).view.emb y 1) := by
    refine (congrArg (HMul.hMul (α := EReal) (β := EReal) _) (hg (y 1))).trans ?_
    exact mul_at (total (m (c.tc.loc main_arg3)) (m (c.tc.loc main_arg4)) (m (c.tc.loc main_arg5))) (m (c.tc.loc main_arg1)) (eq_ix2 _) (by blk_ext [index6])
  exact Norm.grad_at _ _ hrs hq hh he hx

/-- The rows' cotangent after the run. -/
theorem arr6 (c : Dev nD) : (dats m 0 c).arrAt 6 cfg0.N = dr (m (c.tc.loc main_arg0)) (m (c.tc.loc main_arg1)) (m (c.tc.loc main_arg3)) (m (c.tc.loc main_arg4)) (m (c.tc.loc main_arg5)) := by
  refine (dats m 0 c).arrAt_eq_of_covers 6 _ (by decide +kernel) fun t hf y => ?_
  blk_simp
  rw [after0_6]
  by_cases h0 : t.val % 16 = 0
  · rw [outsAt0_A m c t h0]; dsimp only; unfold out0_A_6; frame_out
    exact grad_blk m c t y
  · rw [outsAt0_B m c t h0]; dsimp only; unfold out0_B_6; frame_out
    exact grad_blk m c t y

/-- The rounded rows' cotangent after the run. -/
theorem arr7 (c : Dev nD) : (dats m 0 c).arrAt 7 cfg0.N = dr (m (c.tc.loc main_arg0)) (m (c.tc.loc main_arg1)) (m (c.tc.loc main_arg3)) (m (c.tc.loc main_arg4)) (m (c.tc.loc main_arg5)) := by
  refine (dats m 0 c).arrAt_eq_of_covers 7 _ (by decide +kernel) fun t hf y => ?_
  blk_simp
  rw [after0_7, emb7]
  by_cases h0 : t.val % 16 = 0
  · rw [outsAt0_A m c t h0]; dsimp only; unfold out0_A_7; frame_out
    exact (pay8_at _ _ _ _ _ _ _).trans (grad_blk m c t y)
  · rw [outsAt0_B m c t h0]; dsimp only; unfold out0_B_7; frame_out
    exact (pay8_at _ _ _ _ _ _ _).trans (grad_blk m c t y)

/-- The grid's last point. -/
def lastPoint : Fin cfg0.N := ⟨15, by rw [show cfg0.N = 16 from N_0]; omega⟩

/-- One row's term of the gain's gradient. -/
def gainTerm (r : S8192x1024.Idx → EReal) (d : S8192x1024.Idx → EReal) (y : S1x1024.Idx) (p : Fin 8192) : EReal :=
  d (ix2 p (y 1)) * hat r (ix2 p (y 1))

/-- One row's term of the bias's gradient. -/
def biasTerm (d : S8192x1024.Idx → EReal) (y : S1x1024.Idx) (p : Fin 8192) : EReal := d (ix2 p (y 1))

/-- The row of the arrays that row `x` of the block of point `t` is. -/
def rowAt (t : Fin cfg0.N) (x : Fin 512) : Fin 8192 :=
  ⟨512 * t.val + x.val, by have := x.isLt; have ht : t.val < 16 := lt_of_lt_of_eq t.isLt (show cfg0.N = 16 from N_0); omega⟩

/-- An element of a block's row is the array's. -/
theorem emb_rowAt (t : Fin cfg0.N) (y : S1x1024.Idx) (x : Fin 512) :
    (win0_6.blk t).view.emb (ix2 x (y 1)) = ix2 (rowAt t x) (y 1) := by
  unfold rowAt
  blk_ext [index6]

/-- A block's part of the gain's gradient is the sum of its rows' terms. -/
theorem gain_part (c : Dev nD) (t : Fin cfg0.N) (y : S1x1024.Idx) (v : Vec Ideal S1x1024 .f32) :
    k0_pay3 (k0_pay5 (iblk m c 2 t) (iblk m c 0 t) (iblk m c 1 t)) (k0_pay6 (iblk m c 3 t)) v y = HAdd.hAdd (α := EReal) (β := EReal) (v y)
      (∑ x : Fin 512, gainTerm (m (c.tc.loc main_arg0)) (total (m (c.tc.loc main_arg3)) (m (c.tc.loc main_arg4)) (m (c.tc.loc main_arg5))) y (rowAt t x)) := by
  refine (pay3_at _ _ _ _).trans (congrArg (HAdd.hAdd (α := EReal) (β := EReal) _) (sum_ext fun x => ?_))
  refine congrArg₂ (HMul.hMul (α := EReal) (β := EReal)) ((total_blk m c t _).trans (congrArg _ (emb_rowAt t y x))) ?_
  refine (pay6_at _ _).trans ?_
  blk_simp [iblk]
  rw [V_v17, emb3, emb_rowAt]
  rfl

/-- A block's part of the bias's gradient is the sum of its rows' terms. -/
theorem bias_part (c : Dev nD) (t : Fin cfg0.N) (y : S1x1024.Idx) (v : Vec Ideal S1x1024 .f32) :
    k0_pay4 (k0_pay5 (iblk m c 2 t) (iblk m c 0 t) (iblk m c 1 t)) v y = HAdd.hAdd (α := EReal) (β := EReal) (v y)
      (∑ x : Fin 512, biasTerm (total (m (c.tc.loc main_arg3)) (m (c.tc.loc main_arg4)) (m (c.tc.loc main_arg5))) y (rowAt t x)) :=
  (pay4_at _ _ _).trans (congrArg (HAdd.hAdd (α := EReal) (β := EReal) _)
    (sum_ext fun x => (total_blk m c t _).trans (congrArg _ (emb_rowAt t y x))))

/-- The gain's gradient after the body at the first point. -/
theorem point8_A (c : Dev nD) (t : Fin cfg0.N) (h0 : t.val % 16 = 0) (y : S1x1024.Idx) :
    (outsAt0 m c t.val t.isLt).2.2.1 y = HAdd.hAdd (α := EReal) (β := EReal) (0) (∑ x : Fin 512, gainTerm (m (c.tc.loc main_arg0)) (total (m (c.tc.loc main_arg3)) (m (c.tc.loc main_arg4)) (m (c.tc.loc main_arg5))) y (rowAt t x)) := by
  rw [outsAt0_A m c t h0]; dsimp only; unfold out0_A_8; frame_out
  refine (gain_part m c t y _).trans (congrArg (fun u : EReal => u + ∑ x : Fin 512, gainTerm (m (c.tc.loc main_arg0)) (total (m (c.tc.loc main_arg3)) (m (c.tc.loc main_arg4)) (m (c.tc.loc main_arg5))) y (rowAt t x)) ?_)
  exact pay1_at y

/-- The gain's gradient after the body at the later points. -/
theorem point8_B (c : Dev nD) (t : Fin cfg0.N) (h0 : ¬t.val % 16 = 0) (y : S1x1024.Idx) :
    (outsAt0 m c t.val t.isLt).2.2.1 y = HAdd.hAdd (α := EReal) (β := EReal) ((outsAt0 m c (t.val - 1) (Nat.lt_of_le_of_lt (Nat.sub_le _ _) t.isLt)).2.2.1 y)
      (∑ x : Fin 512, gainTerm (m (c.tc.loc main_arg0)) (total (m (c.tc.loc main_arg3)) (m (c.tc.loc main_arg4)) (m (c.tc.loc main_arg5))) y (rowAt t x)) := by
  rw [outsAt0_B m c t h0]; dsimp only; unfold out0_B_8; frame_out
  exact gain_part m c t y _

/-- The gain's gradient after the run. -/
theorem arr8 (c : Dev nD) : (dats m 0 c).arrAt 8 cfg0.N = fun y => ∑ p : Fin 8192, gainTerm (m (c.tc.loc main_arg0)) (total (m (c.tc.loc main_arg3)) (m (c.tc.loc main_arg4)) (m (c.tc.loc main_arg5))) y p := by
  refine (dats m 0 c).arrAt_eq_of_after_last 8 lastPoint (by decide +kernel) _ fun y => ?_
  blk_simp
  rw [after0_8]
  refine (Pipeline.eq_sum_fin_of_reset_step_last (fun n h => ((outsAt0 m c n h).2.2.1 y : EReal)) 16 0
    (fun t => ∑ x : Fin 512, gainTerm (m (c.tc.loc main_arg0)) (total (m (c.tc.loc main_arg3)) (m (c.tc.loc main_arg4)) (m (c.tc.loc main_arg5))) y (rowAt t x)) (fun t h => point8_A m c t h y) (fun t h => point8_B m c t h y) (by decide +kernel) lastPoint rfl).trans ?_
  rw [zero_add, sum_runs (p := 16) (q := 512) rfl (gainTerm (m (c.tc.loc main_arg0)) (total (m (c.tc.loc main_arg3)) (m (c.tc.loc main_arg4)) (m (c.tc.loc main_arg5))) y)]
  rfl

/-- The bias's gradient after the body at the first point. -/
theorem point9_A (c : Dev nD) (t : Fin cfg0.N) (h0 : t.val % 16 = 0) (y : S1x1024.Idx) :
    (outsAt0 m c t.val t.isLt).2.2.2 y = HAdd.hAdd (α := EReal) (β := EReal) (0) (∑ x : Fin 512, biasTerm (total (m (c.tc.loc main_arg3)) (m (c.tc.loc main_arg4)) (m (c.tc.loc main_arg5))) y (rowAt t x)) := by
  rw [outsAt0_A m c t h0]; dsimp only; unfold out0_A_9; frame_out
  refine (bias_part m c t y _).trans (congrArg (fun u : EReal => u + ∑ x : Fin 512, biasTerm (total (m (c.tc.loc main_arg3)) (m (c.tc.loc main_arg4)) (m (c.tc.loc main_arg5))) y (rowAt t x)) ?_)
  exact pay2_at y

/-- The bias's gradient after the body at the later points. -/
theorem point9_B (c : Dev nD) (t : Fin cfg0.N) (h0 : ¬t.val % 16 = 0) (y : S1x1024.Idx) :
    (outsAt0 m c t.val t.isLt).2.2.2 y = HAdd.hAdd (α := EReal) (β := EReal) ((outsAt0 m c (t.val - 1) (Nat.lt_of_le_of_lt (Nat.sub_le _ _) t.isLt)).2.2.2 y)
      (∑ x : Fin 512, biasTerm (total (m (c.tc.loc main_arg3)) (m (c.tc.loc main_arg4)) (m (c.tc.loc main_arg5))) y (rowAt t x)) := by
  rw [outsAt0_B m c t h0]; dsimp only; unfold out0_B_9; frame_out
  exact bias_part m c t y _

/-- The bias's gradient after the run. -/
theorem arr9 (c : Dev nD) : (dats m 0 c).arrAt 9 cfg0.N = fun y => ∑ p : Fin 8192, biasTerm (total (m (c.tc.loc main_arg3)) (m (c.tc.loc main_arg4)) (m (c.tc.loc main_arg5))) y p := by
  refine (dats m 0 c).arrAt_eq_of_after_last 9 lastPoint (by decide +kernel) _ fun y => ?_
  blk_simp
  rw [after0_9]
  refine (Pipeline.eq_sum_fin_of_reset_step_last (fun n h => ((outsAt0 m c n h).2.2.2 y : EReal)) 16 0
    (fun t => ∑ x : Fin 512, biasTerm (total (m (c.tc.loc main_arg3)) (m (c.tc.loc main_arg4)) (m (c.tc.loc main_arg5))) y (rowAt t x)) (fun t h => point9_A m c t h y) (fun t h => point9_B m c t h y) (by decide +kernel) lastPoint rfl).trans ?_
  rw [zero_add, sum_runs (p := 16) (q := 512) rfl (biasTerm (total (m (c.tc.loc main_arg3)) (m (c.tc.loc main_arg4)) (m (c.tc.loc main_arg5))) y)]
  rfl

section Reference
open Cert.Ln1BwdRefIdeal.Read
variable (r : S8192x1024.Idx → EReal) (g : S1024.Idx → EReal) (w : S1024x3072.Idx → EReal) (dx : S8192x1024.Idx → EReal)
  (d : S8192x3072.Idx → EReal)

/-- The reference's cotangent of the normalised rows with their gain. -/
theorem ref_total : val_main_v37 (F := Ideal) w dx d = total w dx d := by
  funext i
  simp only [val_main_v37, val_main_v36, val_main_v35, val_main_v34, val_main_v33, val_main_v31, val_main_cst_7]
  pointwise
  exact add_comm _ _

/-- The reference's rows' cotangent, one derivative after the other. -/
theorem ref_chain : val_main_v70 (F := Ideal) r g w dx d
    = fun i => Norm.chain (rowOf r (i 0)) (inner g w dx d (i 0)) (i 1) := by
  suffices h : ∀ (p : Fin 8192) (k : Fin 1024), val_main_v70 (F := Ideal) r g w dx d (ix2 p k)
      = Norm.chain (rowOf r p) (inner g w dx d p) k from
    funext fun i => (congrArg (val_main_v70 (F := Ideal) r g w dx d) (eq_ix2 i)).trans (h (i 0) (i 1))
  intro p k
  simp only [val_main_v41, val_main_v45, val_main_v44, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_12, val_main_cst_13, val_main_cst_14, val_main_cst_15, val_main_cst_16, val_main_cst_17, val_main_cst_18, ref_total]
  pointwise
  simp only [Fin.sum_univ_one]
  rfl

/-- On reals the cotangent of the gained rows is real. -/
theorem total_real (h3 : AllReal w) (h4 : AllReal dx) (h5 : AllReal d) : AllReal (total w dx d) := by
  obtain ⟨w, rfl⟩ := h3
  obtain ⟨dx, rfl⟩ := h4
  obtain ⟨d, rfl⟩ := h5
  obtain ⟨a, ha⟩ : ∃ a : ℝ, Ideal.ofBits FTy.f32 1068827891#32 = a :=
    ⟨_, by simp [Ideal.ofBits, Ideal.ieee, -EReal.coe_mul]; rfl⟩
  refine ⟨fun i => a * dx i + ∑ k, d (ix2 (i 0) k) * w (ix2 (i 1) k), funext fun i => ?_⟩
  simp only [total, ha, ← EReal.coe_mul, sum_coe, ← EReal.coe_add]

/-- On finite arrays the reference's rows' cotangent is the closed form. -/
theorem ref_dr (h0 : AllReal r) (h1 : AllReal g) (h3 : AllReal w) (h4 : AllReal dx) (h5 : AllReal d) :
    val_main_v70 (F := Ideal) r g w dx d = dr r g w dx d := by
  rw [ref_chain]
  funext i
  obtain ⟨e, he⟩ := total_real w dx d h3 h4 h5
  obtain ⟨r, rfl⟩ := h0
  obtain ⟨g, rfl⟩ := h1
  have q : inner (fun i => (g i : EReal)) w dx d (i 0) = fun k => ((e (ix2 (i 0) k) * g (ix1 k) : ℝ) : EReal) := by
    funext k
    change total w dx d (ix2 (i 0) k) * _ = _
    rw [he, EReal.coe_mul]
  rw [dr, q]
  exact Norm.chain_eq (fun k => r (ix2 (i 0) k)) _ _

/-- The reference's rounded rows' cotangent is its rows' cotangent. -/
theorem ref_rounded : val_main_v71 (F := Ideal) r g w dx d = val_main_v70 (F := Ideal) r g w dx d := by
  funext i
  simp only [val_main_v71]
  pointwise

/-- The reference's gradient of the gain. -/
theorem ref_gain : val_main_v72 (F := Ideal) r w dx d = fun y => ∑ p : Fin 8192, gainTerm r (total w dx d) y p := by
  funext i
  simp only [val_main_v72, val_main_v46, val_main_v43, val_main_v42, val_main_v41, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_10, val_main_cst_11, ref_total]
  pointwise
  simp only [Fin.sum_univ_one]
  exact sum_ext fun p => mul_comm _ _

/-- The reference's gradient of the bias. -/
theorem ref_bias : val_main_v73 (F := Ideal) w dx d = fun y => ∑ p : Fin 8192, biasTerm (total w dx d) y p := by
  funext i
  simp only [val_main_v73, val_main_v40, val_main_v39, val_main_v38, val_main_cst_8, val_main_cst_9, ref_total]
  pointwise
  simp only [Fin.sum_univ_one]
  rfl
end Reference

/-- The precondition makes every argument array an array of reals. -/
theorem finite (h : Cert.Pre_Ln1BwdIdeal_ln1_bwd_finite m) (c : Dev nD) :
    AllReal (m (c.tc.loc main_arg0)) ∧ AllReal (m (c.tc.loc main_arg1)) ∧ AllReal (m (c.tc.loc main_arg3))
      ∧ AllReal (m (c.tc.loc main_arg4)) ∧ AllReal (m (c.tc.loc main_arg5)) := by
  obtain ⟨h0, h1, h3, h4, h5⟩ := h c
  refine ⟨allReal_of_bits (fun i => ?_) h0, allReal_of_bits (fun i => ?_) h1, allReal_of_bits (fun i => ?_) h3,
    allReal_of_bits (fun i => ?_) h4, allReal_of_bits (fun i => ?_) h5⟩ <;>
  · dsimp only [Cert.Pre_ln1_bwd_finite.fn]
    pointwise
    rfl

/-- The reference changes no argument and leaves no semaphore raised. -/
theorem frame_ref : Cert.quiescent_Ln1BwdRefIdeal := fun m ρ _ =>
  (θ_run Cert.Ln1BwdRefIdeal.defs _ _).mono (fun r h => ⟨fun c => (h c).2.2.2.2, sem_eq_zero_of_no_sems (by decide) r.2⟩)
    (Cert.Ln1BwdRefIdeal.Value.run (F := Ideal) m ρ)

/-- On finite arguments the kernel's four arrays are the reference's. -/
theorem algebraic : Cert.algebraic_Ln1BwdIdeal_Ln1BwdRefIdeal_pre_ln1_bwd_finite := by
  intro m ρ m' ρ' hpre hagree
  refine ⟨_, _, _, _, (θ_run Cert.Ln1BwdIdeal.defs _ _).mono (fun _ h c => ⟨(h c).1.trans (arr6 m c), (h c).2.1.trans (arr7 m c),
      (h c).2.2.1.trans (arr8 m c), (h c).2.2.2.1.trans (arr9 m c), (h c).2.2.2.2⟩) (Cert.Ln1BwdIdeal.Value.run_blocks (F := Ideal) m ρ), ?_⟩
  refine (θ_run Cert.Ln1BwdRefIdeal.defs _ _).mono (fun _ h c => ⟨(h c).1.trans ?_, (h c).2.1.trans ?_, (h c).2.2.1.trans ?_,
      (h c).2.2.2.1.trans ?_, (h c).2.2.2.2⟩) (Cert.Ln1BwdRefIdeal.Value.run (F := Ideal) m' ρ')
  all_goals
    obtain ⟨h0, h1, h2, h3, h4, h5⟩ := hagree c
    obtain ⟨f0, f1, f3, f4, f5⟩ := finite m hpre c
  · rw [Cert.Ln1BwdRefIdeal.Read.val_main_v70_eq, h0, h1, h3, h4, h5]
    exact ref_dr _ _ _ _ _ f0 f1 f3 f4 f5
  · rw [Cert.Ln1BwdRefIdeal.Read.val_main_v71_eq, h0, h1, h3, h4, h5]
    exact (ref_rounded _ _ _ _ _).trans (ref_dr _ _ _ _ _ f0 f1 f3 f4 f5)
  · rw [Cert.Ln1BwdRefIdeal.Read.val_main_v72_eq, h0, h3, h4, h5]
    exact ref_gain _ _ _ _
  · rw [Cert.Ln1BwdRefIdeal.Read.val_main_v73_eq, h3, h4, h5]
    exact ref_bias _ _ _

end Cert.Proof.Ln1Bwd

end
-- ==== Proof.OutProj.lean ====
/-
  The token mixer's output product, the residual sum and the normalisation: `r = alpha x + y wo`, its normalised rows with
  gain and bias, the normalised rows alone and the reciprocal deviations. A grid point takes a block of whole rows, so its
  formula is the reference's; the kernel's factor 1.0 in front of the product drops out.
-/
module

public import proofs.«01_k».proof.Defs
public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt
public import proofs.«01_k».proof.Proof.Finite
public import proofs.«01_k».proof.Proof.Sums
public import proofs.«01_k».proof.Proof.Norm

@[expose] public section
noncomputable section

namespace Cert.Proof.OutProj
open Cert.OutProjIdeal Cert.OutProjIdeal.Gen Idealize.ShloMosaic Idealize.ShloMosaic.TcCoe Idealize.SL.Sem
open scoped BigOperators
variable (m : (ℓ : Loc nD τ sig) → Buf (Elt Ideal) ℓ)

/-- Window 0: rows of the mixed array. -/
theorem index0 : ∀ t : Fin cfg0.N, win0_0.index t = ![t.val, 0] := (by decide +kernel : ∀ t : Fin grid0.N, _)
/-- Window 2: rows of `x`. -/
theorem index2 : ∀ t : Fin cfg0.N, win0_2.index t = ![t.val, 0] := (by decide +kernel : ∀ t : Fin grid0.N, _)
/-- Window 5: rows of the result. -/
theorem index5 : ∀ t : Fin cfg0.N, win0_5.index t = ![t.val, 0] := (by decide +kernel : ∀ t : Fin grid0.N, _)
/-- Window 6: rows of the rounded result. -/
theorem index6 : ∀ t : Fin cfg0.N, win0_6.index t = ![t.val, 0] := (by decide +kernel : ∀ t : Fin grid0.N, _)
/-- Window 7: rows of the normalised array. -/
theorem index7 : ∀ t : Fin cfg0.N, win0_7.index t = ![t.val, 0] := (by decide +kernel : ∀ t : Fin grid0.N, _)
/-- Window 8: rows of the reciprocal deviations. -/
theorem index8 : ∀ t : Fin cfg0.N, win0_8.index t = ![t.val, 0] := (by decide +kernel : ∀ t : Fin grid0.N, _)
/-- Window 1: the whole weight. -/
theorem index1 : ∀ t : Fin cfg0.N, win0_1.index t = ![0, 0] := (by decide +kernel : ∀ t : Fin grid0.N, _)
/-- Window 3: the gain. -/
theorem index3 : ∀ t : Fin cfg0.N, win0_3.index t = ![0, 0] := (by decide +kernel : ∀ t : Fin grid0.N, _)
/-- Window 4: the bias. -/
theorem index4 : ∀ t : Fin cfg0.N, win0_4.index t = ![0, 0] := (by decide +kernel : ∀ t : Fin grid0.N, _)

/-- A vector as an array of one row. -/
def asRow (g : S1024.Idx → EReal) (j : S1x1024.Idx) : EReal := g (ix1 (j 1))

/-- What window 3 stages is the gain. -/
theorem V_v0 (c : Dev nD) : V m c main_v0 = asRow (m (c.tc.loc main_arg3)) := by
  funext j
  unfold V asRow
  after_reads_at

/-- What window 4 stages is the bias. -/
theorem V_v1 (c : Dev nD) : V m c main_v1 = asRow (m (c.tc.loc main_arg4)) := by
  funext j
  unfold V asRow
  after_reads_at

section Values
variable (a : S8192x1024.Idx → EReal) (wd : S1024x1024.Idx → EReal) (x : S8192x1024.Idx → EReal) (g b : S1024.Idx → EReal)

/-- A row of the residual sum. -/
def row (p : Fin 8192) (k : Fin 1024) : EReal :=
  Ideal.ofBits FTy.f32 1068827891#32 * x (ix2 p k)
    + ∑ l : Fin 1024, a (ix2 p l) * wd (ix2 l k)

/-- The normalised rows. -/
def hat (i : S8192x1024.Idx) : EReal := Norm.xhat (row a wd x (i 0)) (i 1)

/-- The normalised rows with gain and bias. -/
def out (i : S8192x1024.Idx) : EReal := hat a wd x i * g (ix1 (i 1)) + b (ix1 (i 1))

/-- The reciprocal deviations. -/
def dev (i : S8192x1.Idx) : EReal := Norm.rstd (row a wd x (i 0))

/-- An element of the residual sum, from equal indices. -/
theorem row_at {i : S8192x1024.Idx} {u : Fin 1024 → S8192x1024.Idx} {v : Fin 1024 → S1024x1024.Idx} {p : Fin 8192}
    {k : Fin 1024} (hi : i = ix2 p k) (hu : ∀ l, u l = ix2 p l) (hv : ∀ l, v l = ix2 l k) :
    Ideal.ofBits FTy.f32 1068827891#32 * x i + ∑ l, a (u l) * wd (v l)
      = row a wd x p k := by
  rw [row, hi, dot_at a wd hu hv]
end Values

/-- A row of the block of point `t`, as the kernel computes it. -/
def blockRow (c : Dev nD) (t : Fin cfg0.N) (p : Fin 512) (k : Fin 1024) : EReal :=
  HAdd.hAdd (α := EReal) (β := EReal)
    (HMul.hMul (α := EReal) (β := EReal) (Ideal.ofBits FTy.f32 1068827891#32) (m (c.tc.loc main_arg2) ((win0_2.blk t).view.emb (ix2 p k))))
    (∑ l : Fin 1024, HMul.hMul (α := EReal) (β := EReal)
      (m (c.tc.loc main_arg0) ((win0_0.blk t).view.emb (ix2 p l))) (m (c.tc.loc main_arg1) ((win0_1.blk t).view.emb (ix2 l k))))

/-- The first result's array after the run. -/
theorem arr5 (c : Dev nD) : (dats m 0 c).arrAt 5 cfg0.N = out (m (c.tc.loc main_arg0)) (m (c.tc.loc main_arg1)) (m (c.tc.loc main_arg2))
    (m (c.tc.loc main_arg3)) (m (c.tc.loc main_arg4)) := by
  refine (dats m 0 c).arrAt_eq_of_covers 5 _ (by decide +kernel) fun t hf y => ?_
  blk_simp
  rw [after0_5]; simp only [outsAt0]; unfold out0_A_5; frame_out
  unfold_payloads
  pointwise
  blk_simp [iblk]
  rw [V_main_arg0, V_main_arg1, V_main_arg2, V_v0, V_v1]
  exact Norm.affine_at (blockRow m c t (y 0)) (row (m (c.tc.loc main_arg0)) (m (c.tc.loc main_arg1)) (m (c.tc.loc main_arg2)) ((win0_5.blk t).view.emb y 0)) _ _ _ _ _ ((win0_5.blk t).view.emb y 1)
    (fun k => row_at (m (c.tc.loc main_arg0)) (m (c.tc.loc main_arg1)) (m (c.tc.loc main_arg2)) (by blk_ext [index2, index5])
      (fun l => by blk_ext [index0, index5]) (fun l => by blk_ext [index1, index5]))
    (row_at (m (c.tc.loc main_arg0)) (m (c.tc.loc main_arg1)) (m (c.tc.loc main_arg2)) (by blk_ext [index2, index5])
      (fun l => by blk_ext [index0, index5]) (fun l => by blk_ext [index1, index5]))
    (congrArg (m (c.tc.loc main_arg3)) (by blk_ext [index3, index5])) (congrArg (m (c.tc.loc main_arg4)) (by blk_ext [index4, index5]))

/-- The rounded result's array after the run. -/
theorem arr6 (c : Dev nD) : (dats m 0 c).arrAt 6 cfg0.N = out (m (c.tc.loc main_arg0)) (m (c.tc.loc main_arg1)) (m (c.tc.loc main_arg2))
    (m (c.tc.loc main_arg3)) (m (c.tc.loc main_arg4)) := by
  refine (dats m 0 c).arrAt_eq_of_covers 6 _ (by decide +kernel) fun t hf y => ?_
  blk_simp
  rw [after0_6]; simp only [outsAt0]; unfold out0_A_6; frame_out
  unfold_payloads
  pointwise
  blk_simp [iblk]
  rw [V_main_arg0, V_main_arg1, V_main_arg2, V_v0, V_v1]
  exact Norm.affine_at (blockRow m c t (y 0)) (row (m (c.tc.loc main_arg0)) (m (c.tc.loc main_arg1)) (m (c.tc.loc main_arg2)) ((win0_6.blk t).view.emb y 0)) _ _ _ _ _ ((win0_6.blk t).view.emb y 1)
    (fun k => row_at (m (c.tc.loc main_arg0)) (m (c.tc.loc main_arg1)) (m (c.tc.loc main_arg2)) (by blk_ext [index2, index6])
      (fun l => by blk_ext [index0, index6]) (fun l => by blk_ext [index1, index6]))
    (row_at (m (c.tc.loc main_arg0)) (m (c.tc.loc main_arg1)) (m (c.tc.loc main_arg2)) (by blk_ext [index2, index6])
      (fun l => by blk_ext [index0, index6]) (fun l => by blk_ext [index1, index6]))
    (congrArg (m (c.tc.loc main_arg3)) (by blk_ext [index3, index6])) (congrArg (m (c.tc.loc main_arg4)) (by blk_ext [index4, index6]))

/-- The normalised rows' array after the run. -/
theorem arr7 (c : Dev nD) : (dats m 0 c).arrAt 7 cfg0.N = hat (m (c.tc.loc main_arg0)) (m (c.tc.loc main_arg1)) (m (c.tc.loc main_arg2)) := by
  refine (dats m 0 c).arrAt_eq_of_covers 7 _ (by decide +kernel) fun t hf y => ?_
  blk_simp
  rw [after0_7]; simp only [outsAt0]; unfold out0_A_7; frame_out
  unfold_payloads
  pointwise
  blk_simp [iblk]
  rw [V_main_arg0, V_main_arg1, V_main_arg2]
  exact Norm.xhat_at (blockRow m c t (y 0)) (row (m (c.tc.loc main_arg0)) (m (c.tc.loc main_arg1)) (m (c.tc.loc main_arg2)) ((win0_7.blk t).view.emb y 0)) _ ((win0_7.blk t).view.emb y 1)
    (fun k => row_at (m (c.tc.loc main_arg0)) (m (c.tc.loc main_arg1)) (m (c.tc.loc main_arg2)) (by blk_ext [index2, index7])
      (fun l => by blk_ext [index0, index7]) (fun l => by blk_ext [index1, index7]))
    (row_at (m (c.tc.loc main_arg0)) (m (c.tc.loc main_arg1)) (m (c.tc.loc main_arg2)) (by blk_ext [index2, index7])
      (fun l => by blk_ext [index0, index7]) (fun l => by blk_ext [index1, index7]))

/-- The reciprocal deviations' array after the run. -/
theorem arr8 (c : Dev nD) : (dats m 0 c).arrAt 8 cfg0.N = dev (m (c.tc.loc main_arg0)) (m (c.tc.loc main_arg1)) (m (c.tc.loc main_arg2)) := by
  refine (dats m 0 c).arrAt_eq_of_covers 8 _ (by decide +kernel) fun t hf y => ?_
  blk_simp
  rw [after0_8]; simp only [outsAt0]; unfold out0_A_8; frame_out
  unfold_payloads
  pointwise
  blk_simp [iblk]
  rw [V_main_arg0, V_main_arg1, V_main_arg2]
  exact Norm.rstd_at (blockRow m c t (y 0)) (row (m (c.tc.loc main_arg0)) (m (c.tc.loc main_arg1)) (m (c.tc.loc main_arg2)) ((win0_8.blk t).view.emb y 0))
    (fun k => row_at (m (c.tc.loc main_arg0)) (m (c.tc.loc main_arg1)) (m (c.tc.loc main_arg2)) (by blk_ext [index2, index8])
      (fun l => by blk_ext [index0, index8]) (fun l => by blk_ext [index1, index8]))

section Reference
variable (a : S8192x1024.Idx → EReal) (wd : S1024x1024.Idx → EReal) (x : S8192x1024.Idx → EReal) (g b : S1024.Idx → EReal)
open Cert.OutProjRefIdeal.Read

/-- The reference's residual sum. -/
theorem ref5 (p : Fin 8192) (k : Fin 1024) : val_main_v5 (F := Ideal) a wd x (ix2 p k) = row a wd x p k := by
  unfold val_main_v5 val_main_v4 val_main_v3 val_main_v2 val_main_v1 val_main_v0 val_main_cst
  pointwise
  rfl

/-- The reference's first result. -/
theorem ref29 : val_main_v29 (F := Ideal) a wd x g b = out a wd x g b := by
  funext i
  unfold val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_cst_0 val_main_cst_1 val_main_cst_2 val_main_cst_3 val_main_cst_4
  pointwise
  refine Norm.affine_at (fun k => val_main_v5 (F := Ideal) a wd x (ix2 (i 0) k)) (row a wd x (i 0)) _ _ _ _ _ (i 1) (ref5 a wd x (i 0)) ?_ rfl rfl
  exact (congrArg _ (eq_ix2 i)).trans (ref5 a wd x (i 0) (i 1))

/-- The reference's normalised rows. -/
theorem ref48 : val_main_v48 (F := Ideal) a wd x = hat a wd x := by
  funext i
  unfold val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_cst_5 val_main_cst_6 val_main_cst_7 val_main_cst_8 val_main_cst_9
  pointwise
  exact Norm.xhat_at (fun k => val_main_v5 (F := Ideal) a wd x (ix2 (i 0) k)) (row a wd x (i 0)) _ (i 1) (ref5 a wd x (i 0))
    ((congrArg _ (eq_ix2 i)).trans (ref5 a wd x (i 0) (i 1)))

/-- The reference's reciprocal deviations. -/
theorem ref44 : val_main_v44 (F := Ideal) a wd x = dev a wd x := by
  funext i
  unfold val_main_v44 val_main_v43 val_main_v42 val_main_v41 val_main_v40 val_main_v39 val_main_v38 val_main_v37 val_main_v36 val_main_v35 val_main_v34 val_main_v33 val_main_v32 val_main_v31 val_main_cst_5 val_main_cst_6 val_main_cst_7 val_main_cst_8 val_main_cst_9
  pointwise
  exact Norm.rstd_at (fun k => val_main_v5 (F := Ideal) a wd x (ix2 (i 0) k)) (row a wd x (i 0)) (ref5 a wd x (i 0))
end Reference

/-- The rounded result is the result. -/
theorem ref30 (a : S8192x1024.Idx → EReal) (wd : S1024x1024.Idx → EReal) (x : S8192x1024.Idx → EReal) (g b : S1024.Idx → EReal) :
    Cert.OutProjRefIdeal.Read.val_main_v30 (F := Ideal) a wd x g b = out a wd x g b := ref29 a wd x g b

/-- The reference changes no argument and leaves no semaphore raised. -/
theorem frame_ref : Cert.quiescent_OutProjRefIdeal := fun m ρ _ =>
  (θ_run Cert.OutProjRefIdeal.defs _ _).mono (fun r h => ⟨fun c => (h c).2.2.2.2, sem_eq_zero_of_no_sems (by decide) r.2⟩)
    (Cert.OutProjRefIdeal.Value.run (F := Ideal) m ρ)

/-- The kernel's four arrays are the reference's. -/
theorem algebraic : Cert.algebraic_OutProjIdeal_OutProjRefIdeal := by
  intro m ρ m' ρ' hpre hagree
  refine ⟨fun c => out (m (c.tc.loc main_arg0)) (m (c.tc.loc main_arg1)) (m (c.tc.loc main_arg2)) (m (c.tc.loc main_arg3)) (m (c.tc.loc main_arg4)),
    fun c => out (m (c.tc.loc main_arg0)) (m (c.tc.loc main_arg1)) (m (c.tc.loc main_arg2)) (m (c.tc.loc main_arg3)) (m (c.tc.loc main_arg4)),
    fun c => hat (m (c.tc.loc main_arg0)) (m (c.tc.loc main_arg1)) (m (c.tc.loc main_arg2)),
    fun c => dev (m (c.tc.loc main_arg0)) (m (c.tc.loc main_arg1)) (m (c.tc.loc main_arg2)), ?_, ?_⟩
  · exact (θ_run Cert.OutProjIdeal.defs _ _).mono (fun _ h c => ⟨(h c).1.trans (arr5 m c), (h c).2.1.trans (arr6 m c),
      (h c).2.2.1.trans (arr7 m c), (h c).2.2.2.1.trans (arr8 m c), (h c).2.2.2.2⟩) (Cert.OutProjIdeal.Value.run_blocks (F := Ideal) m ρ)
  · refine (θ_run Cert.OutProjRefIdeal.defs _ _).mono (fun _ h c => ⟨(h c).1.trans ?_, (h c).2.1.trans ?_,
      (h c).2.2.1.trans ?_, (h c).2.2.2.1.trans ?_, (h c).2.2.2.2⟩) (Cert.OutProjRefIdeal.Value.run (F := Ideal) m' ρ')
    all_goals obtain ⟨h0, h1, h2, h3, h4⟩ := hagree c
    · rw [Cert.OutProjRefIdeal.Read.val_main_v29_eq, h0, h1, h2, h3, h4]
      exact ref29 _ _ _ _ _
    · rw [Cert.OutProjRefIdeal.Read.val_main_v30_eq, h0, h1, h2, h3, h4]
      exact ref30 _ _ _ _ _
    · rw [Cert.OutProjRefIdeal.Read.val_main_v48_eq, h0, h1, h2]
      exact ref48 _ _ _
    · rw [Cert.OutProjRefIdeal.Read.val_main_v44_eq, h0, h1, h2]
      exact ref44 _ _ _

end Cert.Proof.OutProj

end
-- ==== Proof.OutDw.lean ====
/-
  The gradient of the output projection's weight: `y^T dr`, a product over the 8192 rows. The kernel adds eight runs of
  1024 rows into a scratch block.
-/
module

public import proofs.«01_k».proof.Defs
public import proofs.«01_k».proof.Proof.Gen.OutDwIdeal.Value
public import proofs.«01_k».proof.Proof.Gen.OutDwRefIdeal.Run
public import proofs.«01_k».proof.Proof.Gen.OutDwRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt
public import proofs.«01_k».proof.Proof.Finite
public import proofs.«01_k».proof.Proof.Sums

@[expose] public section
noncomputable section

namespace Cert.Proof.OutDw
open Cert.OutDwIdeal Cert.OutDwIdeal.Gen Idealize.ShloMosaic Idealize.ShloMosaic.TcCoe Idealize.SL.Sem
open scoped BigOperators
variable (m : (ℓ : Loc nD τ sig) → Buf (Elt Ideal) ℓ)

/-- Window 0, the rows of the first factor. -/
theorem index0 : ∀ t : Fin cfg0.N, win0_0.index t = ![t.val, 0] := (by decide +kernel : ∀ t : Fin grid0.N, _)
/-- Window 1, the rows of the second. -/
theorem index1 : ∀ t : Fin cfg0.N, win0_1.index t = ![t.val, 0] := (by decide +kernel : ∀ t : Fin grid0.N, _)
/-- Window 2, the whole result. -/
theorem index2 : ∀ t : Fin cfg0.N, win0_2.index t = ![0, 0] := (by decide +kernel : ∀ t : Fin grid0.N, _)

/-- What point `t` adds to the scratch block. -/
def addend (c : Dev nD) (t : Fin cfg0.N) (y : S1024x1024.Idx) : EReal :=
  ∑ k : Fin 1024, HMul.hMul (α := EReal) (β := EReal) (iblk m c 0 t (ix2 k (y 0))) (iblk m c 1 t (ix2 k (y 1)))

/-- A run's first point leaves its own addend. -/
theorem first (c : Dev nD) (t : Fin cfg0.N) (h0 : t.val % 8 = 0) (acc : Vec Ideal S1024x1024 .f32) (y : S1024x1024.Idx) :
    Value.scAt0_0 m c t.val t.isLt acc y = addend m c t y := by
  unfold Value.scAt0_0
  rw [dif_pos h0, dif_neg (by omega)]
  unfold sout0_A_0; frame_out
  unfold_payloads
  pointwise
  rfl

/-- Every later point adds its own to what the point before left. -/
theorem step (c : Dev nD) (t : Fin cfg0.N) (h0 : ¬ t.val % 8 = 0) (acc : Vec Ideal S1024x1024 .f32) (y : S1024x1024.Idx) :
    Value.scAt0_0 m c t.val t.isLt acc y = HAdd.hAdd (α := EReal) (β := EReal) (acc y) (addend m c t y) := by
  unfold Value.scAt0_0
  rw [dif_neg h0]
  by_cases h1 : t.val % 8 = 7
  · rw [dif_pos h1]
    unfold sout0_C_0; frame_out
    unfold_payloads
    pointwise
    rw [read_unread_whole]
    rfl
  · rw [dif_neg h1]
    unfold sout0_B_0; frame_out
    unfold_payloads
    pointwise
    rw [read_unread_whole]
    rfl

/-- The addend of every natural: nothing past the grid. -/
def addendN (c : Dev nD) (n : ℕ) (y : S1024x1024.Idx) : EReal := if h : n < cfg0.N then addend m c ⟨n, h⟩ y else 0

/-- At a run's last point the scratch block holds the sum of the run's addends. -/
theorem scratch (c : Dev nD) (t : Fin cfg0.N) (h1 : t.val % 8 = 7) (y : S1024x1024.Idx) :
    (outsAt0 m c t.val t.isLt).2 y = ∑ s : Fin 8, addendN m c (8 * (t.val / 8) + s.val) y := by
  rw [Value.soutsAt0_0_eq]
  rw [Pipeline.accAt_add_apply (β := EReal) _ _ (fun _ => 0) (addendN m c) (8 * (t.val / 8)) 7 ?_ ?_ (t.val % 8) (by omega) _ y]
  · rw [h1, Finset.sum_range, zero_add]
  · intro h i
    rw [zero_add, addendN, dif_pos h]
    exact first m c ⟨_, h⟩ (by show (8 * (t.val / 8)) % 8 = 0; omega) _ i
  · intro n h acc i hb hn
    rw [addendN, dif_pos h]
    exact step m c ⟨n, h⟩ (by show ¬ n % 8 = 0; omega) acc i

/-- At a run's last point the output block is the scratch block. -/
theorem stored (c : Dev nD) (t : Fin cfg0.N) (h1 : t.val % 8 = 7) (y : S1024x1024.Idx) :
    (outsAt0 m c t.val t.isLt).1 y = (outsAt0 m c t.val t.isLt).2 y := by
  rw [outsAt0_C m c t (by omega) h1]; dsimp only; unfold out0_C_2 sout0_C_0; frame_out
  unfold_payloads
  pointwise

variable (a : S8192x1024.Idx → EReal) (b : S8192x1024.Idx → EReal)

/-- A row's term of the product. -/
def term (i : S1024x1024.Idx) (k : Fin 8192) : EReal := b (ix2 k (i 1)) * a (ix2 k (i 0))

/-- The gradient at an index. -/
def out (i : S1024x1024.Idx) : EReal := ∑ k, term a b i k

/-- A run's addend, read off the arrays. -/
theorem addend_eq (c : Dev nD) (t : Fin cfg0.N) (s : Fin 8) (y : S1024x1024.Idx) :
    addendN m c (8 * (t.val / 8) + s.val) y = ∑ k : Fin 1024,
      term (m (c.tc.loc main_arg0)) (m (c.tc.loc main_arg1)) ((win0_2.blk t).view.emb y)
        ⟨1024 * s.val + k.val, by have := s.isLt; have := k.isLt; omega⟩ := by
  have ht : t.val < 8 := lt_of_lt_of_eq t.isLt (show cfg0.N = 8 from N_0)
  have hs := s.isLt
  have hb : 8 * (t.val / 8) + s.val < cfg0.N := lt_of_lt_of_eq (by omega) (show 8 = cfg0.N from N_0.symm)
  have e1 : 8 * (t.val / 8) + s.val = s.val := by omega
  rw [addendN, dif_pos hb, addend]
  blk_simp [iblk]
  rw [V_main_arg0, V_main_arg1]
  refine (sum_ext fun k => EReal.mul_comm _ _).trans ?_
  refine dot_at (m (c.tc.loc main_arg1)) (m (c.tc.loc main_arg0)) (fun k => ?_) (fun k => ?_)
  · blk_ext [index1, index2, e1]
  · blk_ext [index0, index2, e1]

/-- The array after the run. -/
theorem arr2 (c : Dev nD) : (dats m 0 c).arrAt 2 cfg0.N = out (m (c.tc.loc main_arg0)) (m (c.tc.loc main_arg1)) := by
  refine (dats m 0 c).arrAt_eq_of_covers 2 _ (by decide +kernel) fun t hf y => ?_
  have h1 : t.val % 8 = 7 := (flush0_2 t).mp hf
  blk_simp
  rw [after0_2, stored m c t h1, scratch m c t h1, Finset.sum_congr rfl fun s _ => addend_eq m c t s y,
    ← sum_runs (p := 8) (q := 1024) rfl (term (m (c.tc.loc main_arg0)) (m (c.tc.loc main_arg1)) ((win0_2.blk t).view.emb y)), out]

/-- The reference. -/
theorem ref : Cert.OutDwRefIdeal.Read.val_main_v6 (F := Ideal) a b = out a b := by
  funext i
  rw [← Cert.OutDwRefIdeal.Read.val_main_v6_eq]
  pointwise
  rfl

/-- The reference changes no argument and leaves no semaphore raised. -/
theorem frame_ref : Cert.quiescent_OutDwRefIdeal := fun m ρ _ =>
  (θ_run Cert.OutDwRefIdeal.defs _ _).mono (fun r h => ⟨fun c => (h c).2, sem_eq_zero_of_no_sems (by decide) r.2⟩)
    (Cert.OutDwRefIdeal.Value.run (F := Ideal) m ρ)

/-- The kernel's array is the reference's. -/
theorem algebraic : Cert.algebraic_OutDwIdeal_OutDwRefIdeal := by
  intro m ρ m' ρ' hpre hagree
  refine ⟨fun c => out (m (c.tc.loc main_arg0)) (m (c.tc.loc main_arg1)), ?_, ?_⟩
  · exact (θ_run Cert.OutDwIdeal.defs _ _).mono (fun _ h c => ⟨(h c).1.trans (arr2 m c), (h c).2⟩)
      (Cert.OutDwIdeal.Value.run_blocks (F := Ideal) m ρ)
  · refine (θ_run Cert.OutDwRefIdeal.defs _ _).mono (fun _ h c => ⟨(h c).1.trans ?_, (h c).2⟩)
      (Cert.OutDwRefIdeal.Value.run (F := Ideal) m' ρ')
    obtain ⟨h0, h1⟩ := hagree c
    rw [Cert.OutDwRefIdeal.Read.val_main_v6_eq, h0, h1]
    exact ref _ _

end Cert.Proof.OutDw

end
-- ==== Proof.MixBwd.lean ====
/-
  The gradient of the token mixers' outputs: `dr w^T`. A grid point takes a block of whole rows.
-/
module

public import proofs.«01_k».proof.Defs
public import proofs.«01_k».proof.Proof.Gen.MixBwdIdeal.Value
public import proofs.«01_k».proof.Proof.Gen.MixBwdRefIdeal.Run
public import proofs.«01_k».proof.Proof.Gen.MixBwdRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt
public import proofs.«01_k».proof.Proof.Finite
public import proofs.«01_k».proof.Proof.Sums

@[expose] public section
noncomputable section

namespace Cert.Proof.MixBwd
open Cert.MixBwdIdeal Cert.MixBwdIdeal.Gen Idealize.ShloMosaic Idealize.ShloMosaic.TcCoe Idealize.SL.Sem
open scoped BigOperators
variable (m : (ℓ : Loc nD τ sig) → Buf (Elt Ideal) ℓ)

/-- Window 0, a block of rows of `dr`. -/
theorem index0 : ∀ t : Fin cfg0.N, win0_0.index t = ![t.val, 0] := (by decide +kernel : ∀ t : Fin grid0.N, _)
/-- Window 1, the whole weight. -/
theorem index1 : ∀ t : Fin cfg0.N, win0_1.index t = ![0, 0] := (by decide +kernel : ∀ t : Fin grid0.N, _)
/-- Window 2, a block of rows of the product. -/
theorem index2 : ∀ t : Fin cfg0.N, win0_2.index t = ![t.val, 0] := (by decide +kernel : ∀ t : Fin grid0.N, _)

variable (a : S8192x1024.Idx → EReal) (b : S1024x1024.Idx → EReal)

/-- The product at an index. -/
def out (i : S8192x1024.Idx) : EReal := ∑ k : Fin 1024, a (ix2 (i 0) k) * b (ix2 (i 1) k)

/-- The array after the run. -/
theorem arr2 (c : Dev nD) : (dats m 0 c).arrAt 2 cfg0.N = out (m (c.tc.loc main_arg0)) (m (c.tc.loc main_arg1)) := by
  refine (dats m 0 c).arrAt_eq_of_covers 2 _ (by decide +kernel) fun t hf y => ?_
  blk_simp
  rw [after0_2]; simp only [outsAt0]; unfold out0_A_2; frame_out
  unfold_payloads
  pointwise
  blk_simp [iblk]
  rw [V_main_arg0, V_main_arg1, out]
  exact dot_at (m (c.tc.loc main_arg0)) (m (c.tc.loc main_arg1)) (fun k => by blk_ext [index0, index2]) (fun k => by blk_ext [index1, index2])

/-- The reference. -/
theorem ref : Cert.MixBwdRefIdeal.Read.val_main_v4 (F := Ideal) a b = out a b := by
  funext i
  rw [← Cert.MixBwdRefIdeal.Read.val_main_v4_eq]
  pointwise
  rfl

/-- The reference changes no argument and leaves no semaphore raised. -/
theorem frame_ref : Cert.quiescent_MixBwdRefIdeal := fun m ρ _ =>
  (θ_run Cert.MixBwdRefIdeal.defs _ _).mono (fun r h => ⟨fun c => (h c).2, sem_eq_zero_of_no_sems (by decide) r.2⟩)
    (Cert.MixBwdRefIdeal.Value.run (F := Ideal) m ρ)

/-- The kernel's array is the reference's. -/
theorem algebraic : Cert.algebraic_MixBwdIdeal_MixBwdRefIdeal := by
  intro m ρ m' ρ' hpre hagree
  refine ⟨fun c => out (m (c.tc.loc main_arg0)) (m (c.tc.loc main_arg1)), ?_, ?_⟩
  · exact (θ_run Cert.MixBwdIdeal.defs _ _).mono (fun _ h c => ⟨(h c).1.trans (arr2 m c), (h c).2⟩)
      (Cert.MixBwdIdeal.Value.run_blocks (F := Ideal) m ρ)
  · refine (θ_run Cert.MixBwdRefIdeal.defs _ _).mono (fun _ h c => ⟨(h c).1.trans ?_, (h c).2⟩)
      (Cert.MixBwdRefIdeal.Value.run (F := Ideal) m' ρ')
    obtain ⟨h0, h1⟩ := hagree c
    rw [Cert.MixBwdRefIdeal.Read.val_main_v4_eq, h0, h1]
    exact ref _ _

end Cert.Proof.MixBwd

end
-- ==== Proof.Ple.lean ====
/-
  The per-layer embedding: the gate `s = 1 / (1 + exp(-(x wg + b)))`, the projected rows `e = p wp` and the gated residual
  `x + s e`, with its rounding. A grid point takes a block of rows and of columns with the whole contraction, so its
  formula is the reference's.
-/
module

public import proofs.«01_k».proof.Defs
public import proofs.«01_k».proof.Proof.Gen.PleIdeal.Value
public import proofs.«01_k».proof.Proof.Gen.PleRefIdeal.Run
public import proofs.«01_k».proof.Proof.Gen.PleRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt
public import proofs.«01_k».proof.Proof.Finite
public import proofs.«01_k».proof.Proof.Sums

@[expose] public section
noncomputable section

namespace Cert.Proof.Ple
open Cert.PleIdeal Cert.PleIdeal.Gen Idealize.ShloMosaic Idealize.ShloMosaic.TcCoe Idealize.SL.Sem
open scoped BigOperators
variable (m : (ℓ : Loc nD τ sig) → Buf (Elt Ideal) ℓ)

/-- Window 0: a block of `x`. -/
theorem index0 : ∀ t : Fin cfg0.N, win0_0.index t = ![t.val / 2, t.val % 2] := (by decide +kernel : ∀ t : Fin grid0.N, _)
/-- Window 1: rows of the rounded `x`. -/
theorem index1 : ∀ t : Fin cfg0.N, win0_1.index t = ![t.val / 2, 0] := (by decide +kernel : ∀ t : Fin grid0.N, _)
/-- Window 2: rows of `p`. -/
theorem index2 : ∀ t : Fin cfg0.N, win0_2.index t = ![t.val / 2, 0] := (by decide +kernel : ∀ t : Fin grid0.N, _)
/-- Window 3: columns of the gate's weight. -/
theorem index3 : ∀ t : Fin cfg0.N, win0_3.index t = ![0, t.val % 2] := (by decide +kernel : ∀ t : Fin grid0.N, _)
/-- Window 4: columns of the bias. -/
theorem index4 : ∀ t : Fin cfg0.N, win0_4.index t = ![0, t.val % 2] := (by decide +kernel : ∀ t : Fin grid0.N, _)
/-- Window 5: columns of the projection. -/
theorem index5 : ∀ t : Fin cfg0.N, win0_5.index t = ![0, t.val % 2] := (by decide +kernel : ∀ t : Fin grid0.N, _)
/-- Window 6: a block of the result. -/
theorem index6 : ∀ t : Fin cfg0.N, win0_6.index t = ![t.val / 2, t.val % 2] := (by decide +kernel : ∀ t : Fin grid0.N, _)
/-- Window 7: a block of the rounded result. -/
theorem index7 : ∀ t : Fin cfg0.N, win0_7.index t = ![t.val / 2, t.val % 2] := (by decide +kernel : ∀ t : Fin grid0.N, _)
/-- Window 8: a block of the gate. -/
theorem index8 : ∀ t : Fin cfg0.N, win0_8.index t = ![t.val / 2, t.val % 2] := (by decide +kernel : ∀ t : Fin grid0.N, _)
/-- Window 9: a block of the projected rows. -/
theorem index9 : ∀ t : Fin cfg0.N, win0_9.index t = ![t.val / 2, t.val % 2] := (by decide +kernel : ∀ t : Fin grid0.N, _)

/-- A vector as an array of one row. -/
def asRow (g : S1024.Idx → EReal) (j : S1x1024.Idx) : EReal := g (ix1 (j 1))

/-- What window 1 stages is `x`. -/
theorem V_v0 (c : Dev nD) : V m c main_v0 = m (c.tc.loc main_arg0) := by
  funext j
  unfold V
  after_reads_at

/-- What window 4 stages is the bias. -/
theorem V_v1 (c : Dev nD) : V m c main_v1 = asRow (m (c.tc.loc main_arg3)) := by
  funext j
  unfold V asRow
  after_reads_at

section Values
variable (x : S8192x1024.Idx → EReal) (p : S8192x256.Idx → EReal) (wg : S1024x1024.Idx → EReal) (b : S1024.Idx → EReal)
  (wp : S256x1024.Idx → EReal)

/-- The gate. -/
def gate (i : S8192x1024.Idx) : EReal := Ideal.logistic (∑ l : Fin 1024, x (ix2 (i 0) l) * wg (ix2 l (i 1)) + b (ix1 (i 1)))

/-- The projected rows. -/
def proj (i : S8192x1024.Idx) : EReal := ∑ l : Fin 256, p (ix2 (i 0) l) * wp (ix2 l (i 1))

/-- The gated residual. -/
def out (i : S8192x1024.Idx) : EReal := x i + gate x wg b i * proj p wp i
end Values

section Payloads
variable (v0 : Vec Ideal S512x1024 .bf16) (v2 : Vec Ideal S1024x512 .bf16) (v4 : Vec Ideal S1x512 .f32) (v9 : Vec Ideal S512x256 .bf16)
  (v10 : Vec Ideal S256x512 .bf16) (v12 : Vec Ideal S512x512 .f32) (y : S512x512.Idx)

/-- A block of the gate. -/
theorem pay1_at : k0_pay1 v0 v2 v4 y = Ideal.logistic (HAdd.hAdd (α := EReal) (β := EReal) (∑ l : Fin 1024, HMul.hMul (α := EReal) (β := EReal) (v0 (ix2 (y 0) l)) (v2 (ix2 l (y 1))))
    (v4 (ix2 (0 : Fin 1) (y 1)))) := by
  unfold k0_pay1
  pointwise

/-- A block of the projected rows. -/
theorem pay2_at : k0_pay2 v9 v10 y = ∑ l : Fin 256, HMul.hMul (α := EReal) (β := EReal) (v9 (ix2 (y 0) l)) (v10 (ix2 l (y 1))) := by
  unfold k0_pay2
  pointwise

/-- A block of the gated residual. -/
theorem pay3_at : k0_pay3 v0 v2 v4 v9 v10 v12 y = HAdd.hAdd (α := EReal) (β := EReal) (v12 y) (HMul.hMul (α := EReal) (β := EReal) (k0_pay1 v0 v2 v4 y) (k0_pay2 v9 v10 y)) := by
  unfold k0_pay3
  pointwise

/-- Its rounding is it. -/
theorem pay4_at : k0_pay4 v0 v2 v4 v9 v10 v12 y = k0_pay3 v0 v2 v4 v9 v10 v12 y := by
  unfold k0_pay4
  pointwise

/-- The rounded gate is the gate. -/
theorem pay5_at : k0_pay5 v0 v2 v4 y = k0_pay1 v0 v2 v4 y := by
  unfold k0_pay5
  pointwise

/-- The rounded projected rows are the projected rows. -/
theorem pay6_at : k0_pay6 v9 v10 y = k0_pay2 v9 v10 y := by
  unfold k0_pay6
  pointwise
end Payloads

/-- The residual's element of a block is the result's. -/
theorem emb0 (t : Fin cfg0.N) (y : S512x512.Idx) : (win0_0.blk t).view.emb y = (win0_6.blk t).view.emb y := by
  blk_ext [index0, index6]
/-- The rounded result's element of a block is the result's. -/
theorem emb7 (t : Fin cfg0.N) (y : S512x512.Idx) : (win0_7.blk t).view.emb y = (win0_6.blk t).view.emb y := by
  blk_ext [index7, index6]
/-- The gate's element of a block is the result's. -/
theorem emb8 (t : Fin cfg0.N) (y : S512x512.Idx) : (win0_8.blk t).view.emb y = (win0_6.blk t).view.emb y := by
  blk_ext [index8, index6]
/-- The projected rows' element of a block is the result's. -/
theorem emb9 (t : Fin cfg0.N) (y : S512x512.Idx) : (win0_9.blk t).view.emb y = (win0_6.blk t).view.emb y := by
  blk_ext [index9, index6]

/-- The gate in the block of point `t`. -/
theorem gate_blk (c : Dev nD) (t : Fin cfg0.N) (y : S512x512.Idx) :
    k0_pay1 (iblk m c 1 t) (iblk m c 3 t) (iblk m c 4 t) y = gate (m (c.tc.loc main_arg0)) (m (c.tc.loc main_arg2)) (m (c.tc.loc main_arg3)) ((win0_6.blk t).view.emb y) := by
  rw [pay1_at]
  blk_simp [iblk]
  rw [V_v0, V_main_arg2, V_v1, gate]
  refine congrArg Ideal.logistic (congrArg₂ (HAdd.hAdd (α := EReal) (β := EReal)) (dot_at (m (c.tc.loc main_arg0)) (m (c.tc.loc main_arg2)) (fun l => ?_) (fun l => ?_)) (congrArg (m (c.tc.loc main_arg3)) ?_))
  · blk_ext [index1, index6]
  · blk_ext [index3, index6]
  · blk_ext [index4, index6]

/-- The projected rows in the block of point `t`. -/
theorem proj_blk (c : Dev nD) (t : Fin cfg0.N) (y : S512x512.Idx) :
    k0_pay2 (iblk m c 2 t) (iblk m c 5 t) y = proj (m (c.tc.loc main_arg1)) (m (c.tc.loc main_arg4)) ((win0_6.blk t).view.emb y) := by
  rw [pay2_at]
  blk_simp [iblk]
  rw [V_main_arg1, V_main_arg4, proj]
  exact dot_at (m (c.tc.loc main_arg1)) (m (c.tc.loc main_arg4)) (fun l => by blk_ext [index2, index6]) (fun l => by blk_ext [index5, index6])

/-- The gated residual in the block of point `t`. -/
theorem out_blk (c : Dev nD) (t : Fin cfg0.N) (y : S512x512.Idx) :
    k0_pay3 (iblk m c 1 t) (iblk m c 3 t) (iblk m c 4 t) (iblk m c 2 t) (iblk m c 5 t) (iblk m c 0 t) y
      = out (m (c.tc.loc main_arg0)) (m (c.tc.loc main_arg1)) (m (c.tc.loc main_arg2)) (m (c.tc.loc main_arg3)) (m (c.tc.loc main_arg4)) ((win0_6.blk t).view.emb y) := by
  rw [pay3_at, gate_blk, proj_blk, out]
  refine congrArg (fun u : EReal => u + _) ?_
  blk_simp [iblk]
  rw [V_main_arg0, emb0]

/-- The result's array after the run. -/
theorem arr6 (c : Dev nD) : (dats m 0 c).arrAt 6 cfg0.N = out (m (c.tc.loc main_arg0)) (m (c.tc.loc main_arg1)) (m (c.tc.loc main_arg2)) (m (c.tc.loc main_arg3)) (m (c.tc.loc main_arg4)) := by
  refine (dats m 0 c).arrAt_eq_of_covers 6 _ (by decide +kernel) fun t hf y => ?_
  blk_simp
  rw [after0_6]; unfold out0_6; frame_out
  exact out_blk m c t y

/-- The rounded result's array after the run. -/
theorem arr7 (c : Dev nD) : (dats m 0 c).arrAt 7 cfg0.N = out (m (c.tc.loc main_arg0)) (m (c.tc.loc main_arg1)) (m (c.tc.loc main_arg2)) (m (c.tc.loc main_arg3)) (m (c.tc.loc main_arg4)) := by
  refine (dats m 0 c).arrAt_eq_of_covers 7 _ (by decide +kernel) fun t hf y => ?_
  blk_simp
  rw [after0_7, emb7]; unfold out0_7; frame_out
  exact (pay4_at _ _ _ _ _ _ _).trans (out_blk m c t y)

/-- The gate's array after the run. -/
theorem arr8 (c : Dev nD) : (dats m 0 c).arrAt 8 cfg0.N = gate (m (c.tc.loc main_arg0)) (m (c.tc.loc main_arg2)) (m (c.tc.loc main_arg3)) := by
  refine (dats m 0 c).arrAt_eq_of_covers 8 _ (by decide +kernel) fun t hf y => ?_
  blk_simp
  rw [after0_8, emb8]; unfold out0_8; frame_out
  exact (pay5_at _ _ _ _).trans (gate_blk m c t y)

/-- The projected rows' array after the run. -/
theorem arr9 (c : Dev nD) : (dats m 0 c).arrAt 9 cfg0.N = proj (m (c.tc.loc main_arg1)) (m (c.tc.loc main_arg4)) := by
  refine (dats m 0 c).arrAt_eq_of_covers 9 _ (by decide +kernel) fun t hf y => ?_
  blk_simp
  rw [after0_9, emb9]; unfold out0_9; frame_out
  exact (pay6_at _ _ _).trans (proj_blk m c t y)

section Reference
open Cert.PleRefIdeal.Read
variable (x : S8192x1024.Idx → EReal) (p : S8192x256.Idx → EReal) (wg : S1024x1024.Idx → EReal) (b : S1024.Idx → EReal)
  (wp : S256x1024.Idx → EReal)

/-- The reference's gate. -/
theorem ref14 : val_main_v14 (F := Ideal) x wg b = gate x wg b := by
  funext i
  simp only [val_main_v14, val_main_v13, val_main_v12, val_main_v11, val_main_v10, val_main_v9, val_main_v8, val_main_v7, val_main_v6, val_main_v5, val_main_v4, val_main_v3, val_main_v2, val_main_v1, val_main_v0, val_main_cst, val_main_cst_0]
  pointwise
  rfl

/-- The reference's projected rows. -/
theorem ref15 : val_main_v15 (F := Ideal) p wp = proj p wp := by
  funext i
  simp only [val_main_v15, val_main_v0, val_main_v2]
  pointwise
  rfl

/-- The reference's gated residual. -/
theorem ref17 : val_main_v17 (F := Ideal) x p wg b wp = out x p wg b wp := by
  funext i
  simp only [val_main_v17, val_main_v16, ref14, ref15]
  pointwise
  rfl

/-- Rounded. -/
theorem ref18 : val_main_v18 (F := Ideal) x p wg b wp = out x p wg b wp := ref17 x p wg b wp

/-- The reference's gate, rounded. -/
theorem ref19 : val_main_v19 (F := Ideal) x wg b = gate x wg b := ref14 x wg b

/-- The reference's projected rows, rounded. -/
theorem ref20 : val_main_v20 (F := Ideal) p wp = proj p wp := ref15 p wp
end Reference

/-- The reference changes no argument and leaves no semaphore raised. -/
theorem frame_ref : Cert.quiescent_PleRefIdeal := fun m ρ _ =>
  (θ_run Cert.PleRefIdeal.defs _ _).mono (fun r h => ⟨fun c => (h c).2.2.2.2, sem_eq_zero_of_no_sems (by decide) r.2⟩)
    (Cert.PleRefIdeal.Value.run (F := Ideal) m ρ)

/-- The kernel's four arrays are the reference's. -/
theorem algebraic : Cert.algebraic_PleIdeal_PleRefIdeal := by
  intro m ρ m' ρ' hpre hagree
  refine ⟨_, _, _, _, (θ_run Cert.PleIdeal.defs _ _).mono (fun _ h c => ⟨(h c).1.trans (arr6 m c), (h c).2.1.trans (arr7 m c),
      (h c).2.2.1.trans (arr8 m c), (h c).2.2.2.1.trans (arr9 m c), (h c).2.2.2.2⟩) (Cert.PleIdeal.Value.run_blocks (F := Ideal) m ρ), ?_⟩
  refine (θ_run Cert.PleRefIdeal.defs _ _).mono (fun _ h c => ⟨(h c).1.trans ?_, (h c).2.1.trans ?_, (h c).2.2.1.trans ?_,
      (h c).2.2.2.1.trans ?_, (h c).2.2.2.2⟩) (Cert.PleRefIdeal.Value.run (F := Ideal) m' ρ')
  all_goals obtain ⟨h0, h1, h2, h3, h4⟩ := hagree c
  · rw [Cert.PleRefIdeal.Read.val_main_v17_eq, h0, h1, h2, h3, h4]
    exact ref17 _ _ _ _ _
  · rw [Cert.PleRefIdeal.Read.val_main_v18_eq, h0, h1, h2, h3, h4]
    exact ref18 _ _ _ _ _
  · rw [Cert.PleRefIdeal.Read.val_main_v19_eq, h0, h2, h3]
    exact ref19 _ _ _
  · rw [Cert.PleRefIdeal.Read.val_main_v20_eq, h1, h4]
    exact ref20 _ _

end Cert.Proof.Ple

end
-- ==== Proof.GateBwd.lean ====
/-
  The gradient of the per-layer embedding's gate: from the residual's cotangent `dx`, the gate `s = 1 / (1 + exp(-(z + b)))`
  and the gated rows `e`, the cotangents of the gate's argument, `dx e s (1 - s)`, and of the rows, `s dx`, and the
  bias's gradient, which is added up over the grid. No condition is needed.
-/
module

public import proofs.«01_k».proof.Defs
public import proofs.«01_k».proof.Proof.Gen.GateBwdIdeal.Value
public import proofs.«01_k».proof.Proof.Gen.GateBwdRefIdeal.Run
public import proofs.«01_k».proof.Proof.Gen.GateBwdRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt
public import proofs.«01_k».proof.Proof.Finite
public import proofs.«01_k».proof.Proof.Sums

@[expose] public section
noncomputable section

namespace Cert.Proof.GateBwd
open Cert.GateBwdIdeal Cert.GateBwdIdeal.Gen Idealize.ShloMosaic Idealize.ShloMosaic.TcCoe Idealize.SL.Sem
open scoped BigOperators
variable (m : (ℓ : Loc nD τ sig) → Buf (Elt Ideal) ℓ)

/-- Window 0: rows of the residual's cotangent. -/
theorem index0 : ∀ t : Fin cfg0.N, win0_0.index t = ![t.val, 0] := (by decide +kernel : ∀ t : Fin grid0.N, _)
/-- Window 1: rows of the gate. -/
theorem index1 : ∀ t : Fin cfg0.N, win0_1.index t = ![t.val, 0] := (by decide +kernel : ∀ t : Fin grid0.N, _)
/-- Window 2: rows of the gated array. -/
theorem index2 : ∀ t : Fin cfg0.N, win0_2.index t = ![t.val, 0] := (by decide +kernel : ∀ t : Fin grid0.N, _)
/-- Window 3: rows of the gate's argument's cotangent. -/
theorem index3 : ∀ t : Fin cfg0.N, win0_3.index t = ![t.val, 0] := (by decide +kernel : ∀ t : Fin grid0.N, _)
/-- Window 4: rows of the gated array's cotangent. -/
theorem index4 : ∀ t : Fin cfg0.N, win0_4.index t = ![t.val, 0] := (by decide +kernel : ∀ t : Fin grid0.N, _)
/-- Window 5: the bias's gradient. -/
theorem index5 : ∀ t : Fin cfg0.N, win0_5.index t = ![0, 0] := (by decide +kernel : ∀ t : Fin grid0.N, _)

section Values
variable (z : S8192x1024.Idx → EReal) (b : S1024.Idx → EReal) (e dx : S8192x1024.Idx → EReal)

/-- The gate. -/
def gate (i : S8192x1024.Idx) : EReal :=
  Ideal.div (Ideal.ofBits FTy.f32 1065353216#32) (Ideal.ofBits FTy.f32 1065353216#32 + Ideal.exp (-(z i + b (ix1 (i 1)))))

/-- The cotangent of the gate's argument. -/
def dz (i : S8192x1024.Idx) : EReal := dx i * e i * (gate z b i * (Ideal.ofBits FTy.f32 1065353216#32 - gate z b i))

/-- The gated array's cotangent. -/
def de (i : S8192x1024.Idx) : EReal := gate z b i * dx i

/-- One row's term of the bias's gradient. -/
def biasTerm (y : S1x1024.Idx) (p : Fin 8192) : EReal := dz z b e dx (ix2 p (y 1))
end Values

/-- What window 1 stages is the gate. -/
theorem V_v9 (c : Dev nD) : V m c main_v9 = gate (m (c.tc.loc main_arg0)) (m (c.tc.loc main_arg1)) := by
  funext j
  unfold V gate
  after_reads_at

section Payloads
variable (v0 : Vec Ideal S512x1024 .f32) (v1 v4 : Vec Ideal S512x1024 .bf16)

/-- A block's part of the gate's argument's cotangent. -/
theorem pay2_at (y : S512x1024.Idx) : k0_pay2 v0 v1 v4 y = HMul.hMul (α := EReal) (β := EReal) (HMul.hMul (α := EReal) (β := EReal) (v0 y) (v4 y))
    (HMul.hMul (α := EReal) (β := EReal) (v1 y) (HSub.hSub (α := EReal) (β := EReal) (Ideal.ofBits FTy.f32 1065353216#32) (v1 y))) := by
  unfold k0_pay2 k0_pay1
  pointwise
  exact mul_assoc _ _ _

/-- Its rounding is it. -/
theorem pay3_at (y : S512x1024.Idx) : k0_pay3 v0 v1 v4 y = k0_pay2 v0 v1 v4 y := by
  unfold k0_pay3
  pointwise

/-- A block's part of the gated array's cotangent. -/
theorem pay4_at (y : S512x1024.Idx) : k0_pay4 v0 v1 y = HMul.hMul (α := EReal) (β := EReal) (v1 y) (v0 y) := by
  unfold k0_pay4 k0_pay1
  pointwise
  exact mul_comm _ _

/-- The accumulator starts from zero. -/
theorem pay5_at (y : S1x1024.Idx) : k0_pay5 (F := Ideal) y = (0 : EReal) := by
  unfold k0_pay5
  pointwise

/-- A block's part of the bias's gradient, added to what was there. -/
theorem pay6_at (v19 : Vec Ideal S1x1024 .f32) (y : S1x1024.Idx) :
    k0_pay6 v0 v1 v4 v19 y = HAdd.hAdd (α := EReal) (β := EReal) (v19 y) (∑ x : Fin 512, (k0_pay2 v0 v1 v4 (ix2 x (y 1)) : EReal)) := by
  unfold k0_pay6
  pointwise
end Payloads

/-- The residual's cotangent's element of a block is the result's. -/
theorem emb0 (t : Fin cfg0.N) (y : S512x1024.Idx) : (win0_0.blk t).view.emb y = (win0_3.blk t).view.emb y := by
  blk_ext [index0, index3]
/-- The gate's element of a block is the result's. -/
theorem emb1 (t : Fin cfg0.N) (y : S512x1024.Idx) : (win0_1.blk t).view.emb y = (win0_3.blk t).view.emb y := by
  blk_ext [index1, index3]
/-- The gated array's element of a block is the result's. -/
theorem emb2 (t : Fin cfg0.N) (y : S512x1024.Idx) : (win0_2.blk t).view.emb y = (win0_3.blk t).view.emb y := by
  blk_ext [index2, index3]
/-- The second result's element of a block is the first's. -/
theorem emb4 (t : Fin cfg0.N) (y : S512x1024.Idx) : (win0_4.blk t).view.emb y = (win0_3.blk t).view.emb y := by
  blk_ext [index4, index3]

/-- The gate's argument's cotangent in the block of point `t`. -/
theorem dz_blk (c : Dev nD) (t : Fin cfg0.N) (y : S512x1024.Idx) :
    k0_pay2 (iblk m c 0 t) (iblk m c 1 t) (iblk m c 2 t) y = dz (m (c.tc.loc main_arg0)) (m (c.tc.loc main_arg1)) (m (c.tc.loc main_arg2)) (m (c.tc.loc main_arg3)) ((win0_3.blk t).view.emb y) := by
  rw [pay2_at]
  blk_simp [iblk]
  rw [V_main_arg2, V_main_arg3, V_v9, emb0, emb1, emb2]
  rfl

/-- The gated array's cotangent in the block of point `t`. -/
theorem de_blk (c : Dev nD) (t : Fin cfg0.N) (y : S512x1024.Idx) :
    k0_pay4 (iblk m c 0 t) (iblk m c 1 t) y = de (m (c.tc.loc main_arg0)) (m (c.tc.loc main_arg1)) (m (c.tc.loc main_arg3)) ((win0_3.blk t).view.emb y) := by
  rw [pay4_at]
  blk_simp [iblk]
  rw [V_main_arg3, V_v9, emb0, emb1]
  rfl

/-- The gate's argument's cotangent after the run. -/
theorem arr3 (c : Dev nD) : (dats m 0 c).arrAt 3 cfg0.N = dz (m (c.tc.loc main_arg0)) (m (c.tc.loc main_arg1)) (m (c.tc.loc main_arg2)) (m (c.tc.loc main_arg3)) := by
  refine (dats m 0 c).arrAt_eq_of_covers 3 _ (by decide +kernel) fun t hf y => ?_
  blk_simp
  rw [after0_3]
  by_cases h0 : t.val % 16 = 0
  · rw [outsAt0_A m c t h0]; dsimp only; unfold out0_A_3; frame_out
    exact (pay3_at _ _ _ _).trans (dz_blk m c t y)
  · rw [outsAt0_B m c t h0]; dsimp only; unfold out0_B_3; frame_out
    exact (pay3_at _ _ _ _).trans (dz_blk m c t y)

/-- The gated array's cotangent after the run. -/
theorem arr4 (c : Dev nD) : (dats m 0 c).arrAt 4 cfg0.N = de (m (c.tc.loc main_arg0)) (m (c.tc.loc main_arg1)) (m (c.tc.loc main_arg3)) := by
  refine (dats m 0 c).arrAt_eq_of_covers 4 _ (by decide +kernel) fun t hf y => ?_
  blk_simp
  rw [after0_4, emb4]
  by_cases h0 : t.val % 16 = 0
  · rw [outsAt0_A m c t h0]; dsimp only; unfold out0_A_4; frame_out
    exact de_blk m c t y
  · rw [outsAt0_B m c t h0]; dsimp only; unfold out0_B_4; frame_out
    exact de_blk m c t y

/-- The grid's last point. -/
def lastPoint : Fin cfg0.N := ⟨15, by rw [show cfg0.N = 16 from N_0]; omega⟩

/-- The row of the arrays that row `x` of the block of point `t` is. -/
def rowAt (t : Fin cfg0.N) (x : Fin 512) : Fin 8192 :=
  ⟨512 * t.val + x.val, by have := x.isLt; have ht : t.val < 16 := lt_of_lt_of_eq t.isLt (show cfg0.N = 16 from N_0); omega⟩

/-- An element of a block's row is the array's. -/
theorem emb_rowAt (t : Fin cfg0.N) (y : S1x1024.Idx) (x : Fin 512) :
    (win0_3.blk t).view.emb (ix2 x (y 1)) = ix2 (rowAt t x) (y 1) := by
  unfold rowAt
  blk_ext [index3]

/-- A block's part of the bias's gradient is the sum of its rows' terms. -/
theorem bias_part (c : Dev nD) (t : Fin cfg0.N) (y : S1x1024.Idx) (v : Vec Ideal S1x1024 .f32) :
    k0_pay6 (iblk m c 0 t) (iblk m c 1 t) (iblk m c 2 t) v y = HAdd.hAdd (α := EReal) (β := EReal) (v y) (∑ x : Fin 512, biasTerm (m (c.tc.loc main_arg0)) (m (c.tc.loc main_arg1)) (m (c.tc.loc main_arg2)) (m (c.tc.loc main_arg3)) y (rowAt t x)) :=
  (pay6_at _ _ _ _ _).trans (congrArg (HAdd.hAdd (α := EReal) (β := EReal) _)
    (sum_ext fun x => (dz_blk m c t _).trans (congrArg _ (emb_rowAt t y x))))

/-- The bias's gradient after the body at the first point. -/
theorem point5_A (c : Dev nD) (t : Fin cfg0.N) (h0 : t.val % 16 = 0) (y : S1x1024.Idx) :
    (outsAt0 m c t.val t.isLt).2.2 y = HAdd.hAdd (α := EReal) (β := EReal) (0) (∑ x : Fin 512, biasTerm (m (c.tc.loc main_arg0)) (m (c.tc.loc main_arg1)) (m (c.tc.loc main_arg2)) (m (c.tc.loc main_arg3)) y (rowAt t x)) := by
  rw [outsAt0_A m c t h0]; dsimp only; unfold out0_A_5; frame_out
  refine (bias_part m c t y _).trans (congrArg (fun u : EReal => u + ∑ x : Fin 512, biasTerm (m (c.tc.loc main_arg0)) (m (c.tc.loc main_arg1)) (m (c.tc.loc main_arg2)) (m (c.tc.loc main_arg3)) y (rowAt t x)) ?_)
  exact pay5_at y

/-- The bias's gradient after the body at the later points. -/
theorem point5_B (c : Dev nD) (t : Fin cfg0.N) (h0 : ¬t.val % 16 = 0) (y : S1x1024.Idx) :
    (outsAt0 m c t.val t.isLt).2.2 y = HAdd.hAdd (α := EReal) (β := EReal) ((outsAt0 m c (t.val - 1) (Nat.lt_of_le_of_lt (Nat.sub_le _ _) t.isLt)).2.2 y)
      (∑ x : Fin 512, biasTerm (m (c.tc.loc main_arg0)) (m (c.tc.loc main_arg1)) (m (c.tc.loc main_arg2)) (m (c.tc.loc main_arg3)) y (rowAt t x)) := by
  rw [outsAt0_B m c t h0]; dsimp only; unfold out0_B_5; frame_out
  exact bias_part m c t y _

/-- The bias's gradient after the run. -/
theorem arr5 (c : Dev nD) : (dats m 0 c).arrAt 5 cfg0.N = fun y => ∑ p : Fin 8192, biasTerm (m (c.tc.loc main_arg0)) (m (c.tc.loc main_arg1)) (m (c.tc.loc main_arg2)) (m (c.tc.loc main_arg3)) y p := by
  refine (dats m 0 c).arrAt_eq_of_after_last 5 lastPoint (by decide +kernel) _ fun y => ?_
  blk_simp
  rw [after0_5]
  refine (Pipeline.eq_sum_fin_of_reset_step_last (fun n h => ((outsAt0 m c n h).2.2 y : EReal)) 16 0
    (fun t => ∑ x : Fin 512, biasTerm (m (c.tc.loc main_arg0)) (m (c.tc.loc main_arg1)) (m (c.tc.loc main_arg2)) (m (c.tc.loc main_arg3)) y (rowAt t x)) (fun t h => point5_A m c t h y) (fun t h => point5_B m c t h y) (by decide +kernel) lastPoint rfl).trans ?_
  rw [zero_add, sum_runs (p := 16) (q := 512) rfl (biasTerm (m (c.tc.loc main_arg0)) (m (c.tc.loc main_arg1)) (m (c.tc.loc main_arg2)) (m (c.tc.loc main_arg3)) y)]
  rfl

section Reference
open Cert.GateBwdRefIdeal.Read
variable (z : S8192x1024.Idx → EReal) (b : S1024.Idx → EReal) (e dx : S8192x1024.Idx → EReal)

/-- The reference's cotangent of the gate's argument. -/
theorem ref16 : val_main_v16 (F := Ideal) z b e dx = dz z b e dx := by
  funext i
  simp only [val_main_v16, val_main_v15, val_main_v12, val_main_v11, val_main_v10, val_main_v9, val_main_v8, val_main_v7, val_main_v6,
    val_main_v5, val_main_v4, val_main_v3, val_main_v2, val_main_v1, val_main_v0, val_main_cst, val_main_cst_0, val_main_cst_1]
  pointwise
  unfold dz gate
  rw [ofBits_one, EReal.coe_one]

/-- Rounded. -/
theorem ref20 : val_main_v20 (F := Ideal) z b e dx = dz z b e dx := ref16 z b e dx

/-- The reference's cotangent of the gated array. -/
theorem ref21 : val_main_v21 (F := Ideal) z b dx = de z b dx := by
  funext i
  rw [← val_main_v21_eq]
  pointwise
  unfold de gate
  rw [ofBits_one, EReal.coe_one]

/-- The reference's gradient of the bias. -/
theorem ref22 : val_main_v22 (F := Ideal) z b e dx = fun y => ∑ p : Fin 8192, biasTerm z b e dx y p := by
  funext i
  simp only [val_main_v22, val_main_v19, val_main_v18, val_main_v17, val_main_cst_2, val_main_cst_3, ref16]
  pointwise
  simp only [Fin.sum_univ_one]
  rfl
end Reference

/-- The reference changes no argument and leaves no semaphore raised. -/
theorem frame_ref : Cert.quiescent_GateBwdRefIdeal := fun m ρ _ =>
  (θ_run Cert.GateBwdRefIdeal.defs _ _).mono (fun r h => ⟨fun c => (h c).2.2.2, sem_eq_zero_of_no_sems (by decide) r.2⟩)
    (Cert.GateBwdRefIdeal.Value.run (F := Ideal) m ρ)

/-- The kernel's three arrays are the reference's. -/
theorem algebraic : Cert.algebraic_GateBwdIdeal_GateBwdRefIdeal := by
  intro m ρ m' ρ' hpre hagree
  refine ⟨_, _, _, (θ_run Cert.GateBwdIdeal.defs _ _).mono (fun _ h c => ⟨(h c).1.trans (arr3 m c), (h c).2.1.trans (arr4 m c),
      (h c).2.2.1.trans (arr5 m c), (h c).2.2.2⟩) (Cert.GateBwdIdeal.Value.run_blocks (F := Ideal) m ρ), ?_⟩
  refine (θ_run Cert.GateBwdRefIdeal.defs _ _).mono (fun _ h c => ⟨(h c).1.trans ?_, (h c).2.1.trans ?_, (h c).2.2.1.trans ?_,
      (h c).2.2.2⟩) (Cert.GateBwdRefIdeal.Value.run (F := Ideal) m' ρ')
  all_goals obtain ⟨h0, h1, h2, h3⟩ := hagree c
  · rw [Cert.GateBwdRefIdeal.Read.val_main_v20_eq, h0, h1, h2, h3]
    exact ref20 _ _ _ _
  · rw [Cert.GateBwdRefIdeal.Read.val_main_v21_eq, h0, h1, h3]
    exact ref21 _ _ _
  · rw [Cert.GateBwdRefIdeal.Read.val_main_v22_eq, h0, h1, h2, h3]
    exact ref22 _ _ _ _

end Cert.Proof.GateBwd

end
-- ==== Proof.ProjDw.lean ====
/-
  The gradient of the embedding's weight: `p^T de`, a product over the 8192 rows. The kernel adds eight runs of 1024 rows
  into a scratch block and writes its columns out in the chips' four blocks.
-/
module

public import proofs.«01_k».proof.Defs
public import proofs.«01_k».proof.Proof.Gen.ProjDwIdeal.Value
public import proofs.«01_k».proof.Proof.Gen.ProjDwRefIdeal.Run
public import proofs.«01_k».proof.Proof.Gen.ProjDwRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt
public import proofs.«01_k».proof.Proof.Finite
public import proofs.«01_k».proof.Proof.Sums

@[expose] public section
noncomputable section

namespace Cert.Proof.ProjDw
open Cert.ProjDwIdeal Cert.ProjDwIdeal.Gen Idealize.ShloMosaic Idealize.ShloMosaic.TcCoe Idealize.SL.Sem
open scoped BigOperators
variable (m : (ℓ : Loc nD τ sig) → Buf (Elt Ideal) ℓ)

/-- Window 0, the rows of the first factor. -/
theorem index0 : ∀ t : Fin cfg0.N, win0_0.index t = ![t.val, 0] := (by decide +kernel : ∀ t : Fin grid0.N, _)
/-- Window 1, the rows of the second. -/
theorem index1 : ∀ t : Fin cfg0.N, win0_1.index t = ![t.val, 0] := (by decide +kernel : ∀ t : Fin grid0.N, _)
/-- Window 2, the whole result. -/
theorem index2 : ∀ t : Fin cfg0.N, win0_2.index t = ![0, 0, 0] := (by decide +kernel : ∀ t : Fin grid0.N, _)

/-- What point `t` adds to the scratch block. -/
def addend (c : Dev nD) (t : Fin cfg0.N) (y : S256x1024.Idx) : EReal :=
  ∑ k : Fin 1024, HMul.hMul (α := EReal) (β := EReal) (iblk m c 0 t (ix2 k (y 0))) (iblk m c 1 t (ix2 k (y 1)))

/-- A run's first point leaves its own addend. -/
theorem first (c : Dev nD) (t : Fin cfg0.N) (h0 : t.val % 8 = 0) (acc : Vec Ideal S256x1024 .f32) (y : S256x1024.Idx) :
    Value.scAt0_0 m c t.val t.isLt acc y = addend m c t y := by
  unfold Value.scAt0_0
  rw [dif_pos h0, dif_neg (by omega)]
  unfold sout0_A_0; frame_out
  unfold_payloads
  pointwise
  rfl

/-- Every later point adds its own to what the point before left. -/
theorem step (c : Dev nD) (t : Fin cfg0.N) (h0 : ¬ t.val % 8 = 0) (acc : Vec Ideal S256x1024 .f32) (y : S256x1024.Idx) :
    Value.scAt0_0 m c t.val t.isLt acc y = HAdd.hAdd (α := EReal) (β := EReal) (acc y) (addend m c t y) := by
  unfold Value.scAt0_0
  rw [dif_neg h0]
  by_cases h1 : t.val % 8 = 7
  · rw [dif_pos h1]
    unfold sout0_C_0; frame_out
    unfold_payloads
    pointwise
    rw [read_unread_whole]
    rfl
  · rw [dif_neg h1]
    unfold sout0_B_0; frame_out
    unfold_payloads
    pointwise
    rw [read_unread_whole]
    rfl

/-- The addend of every natural: nothing past the grid. -/
def addendN (c : Dev nD) (n : ℕ) (y : S256x1024.Idx) : EReal := if h : n < cfg0.N then addend m c ⟨n, h⟩ y else 0

/-- At a run's last point the scratch block holds the sum of the run's addends. -/
theorem scratch (c : Dev nD) (t : Fin cfg0.N) (h1 : t.val % 8 = 7) (y : S256x1024.Idx) :
    (outsAt0 m c t.val t.isLt).2 y = ∑ s : Fin 8, addendN m c (8 * (t.val / 8) + s.val) y := by
  rw [Value.soutsAt0_0_eq]
  rw [Pipeline.accAt_add_apply (β := EReal) _ _ (fun _ => 0) (addendN m c) (8 * (t.val / 8)) 7 ?_ ?_ (t.val % 8) (by omega) _ y]
  · rw [h1, Finset.sum_range, zero_add]
  · intro h i
    rw [zero_add, addendN, dif_pos h]
    exact first m c ⟨_, h⟩ (by show (8 * (t.val / 8)) % 8 = 0; omega) _ i
  · intro n h acc i hb hn
    rw [addendN, dif_pos h]
    exact step m c ⟨n, h⟩ (by show ¬ n % 8 = 0; omega) acc i

/-- The scratch's index of a result's index: the chips' column blocks side by side. -/
def place (y : S4x256x256.Idx) : S256x1024.Idx :=
  ix2 (y 1) ⟨256 * (y 0).val + (y 2).val, by
    have h0 : (y 0).val < 4 := (y 0).isLt
    have h2 : (y 2).val < 256 := (y 2).isLt
    omega⟩

/-- Loading a box of the scratch block after one store of the whole reads the stored array. -/
theorem readback (W : Vec Ideal S256x1024 .f32) (off : Fin 2 → ℕ)
    (inb : ∀ a, off a + (![256, 256] : Fin 2 → ℕ) a ≤ S256x1024.size a)
    (z : (Rect.unit (s := S256x1024) off ![256, 256] inb).shape.Idx) (j : S256x1024.Idx)
    (h : (Rect.unit (s := S256x1024) off ![256, 256] inb).toLoadRect.idx z = j) :
    (View.whole cc0_scratch0).readCov (Val := Elt Ideal)
      [⟨Rect.unit (s := S256x1024) ![0, 0] S256x1024.size inb_S256x1024_S256x1024_0_0, W⟩]
      (Rect.unit (s := S256x1024) off ![256, 256] inb).toLoadRect z = W j := by
  refine (congrFun (View.readCov_eq_canon' _ _ _) z).trans ?_
  exact (congrFun (View.canon_cons_unit_lit' (S := S256x1024) inb_S256x1024_S256x1024_0_0 W [] (by intro a; fin_cases a <;> rfl)) _).trans
    (congrArg W h)

/-- At a run's last point the output block is the scratch block, its columns cut into four. -/
theorem placed (c : Dev nD) (t : Fin cfg0.N) (h1 : t.val % 8 = 7) (y : S4x256x256.Idx) :
    (outsAt0 m c t.val t.isLt).1 y = (outsAt0 m c t.val t.isLt).2 (place y) := by
  rw [outsAt0_C m c t (by omega) h1]; dsimp only; unfold out0_C_2 sout0_C_0; frame_out
  unfold_payloads
  canon_tiles x h
  all_goals
    pointwise
    refine (readback _ _ _ _ (place y) (by funext a; apply Fin.ext; fin_cases a <;> simp [place, Rect.toLoadRect] <;> omega)).trans ?_
    pointwise

variable (a : S8192x256.Idx → EReal) (b : S8192x1024.Idx → EReal)

/-- A row's term of the product. -/
def term (i : S4x256x256.Idx) (k : Fin 8192) : EReal :=
  b (ix2 k ⟨(i 0).val * 256 + (i 2).val, by
    have h0 : (i 0).val < 4 := (i 0).isLt
    have h2 : (i 2).val < 256 := (i 2).isLt
    omega⟩) * a (ix2 k (i 1))

/-- The gradient at an index. -/
def out (i : S4x256x256.Idx) : EReal := ∑ k, term a b i k

/-- A run's addend, read off the arrays. -/
theorem addend_eq (c : Dev nD) (t : Fin cfg0.N) (s : Fin 8) (y : S4x256x256.Idx) :
    addendN m c (8 * (t.val / 8) + s.val) (place y) = ∑ k : Fin 1024,
      term (m (c.tc.loc main_arg0)) (m (c.tc.loc main_arg1)) ((win0_2.blk t).view.emb y)
        ⟨1024 * s.val + k.val, by have := s.isLt; have := k.isLt; omega⟩ := by
  have ht : t.val < 8 := lt_of_lt_of_eq t.isLt (show cfg0.N = 8 from N_0)
  have hs := s.isLt
  have hb : 8 * (t.val / 8) + s.val < cfg0.N := lt_of_lt_of_eq (by omega) (show 8 = cfg0.N from N_0.symm)
  have e1 : 8 * (t.val / 8) + s.val = s.val := by omega
  rw [addendN, dif_pos hb, addend]
  blk_simp [iblk]
  rw [V_main_arg0, V_main_arg1]
  refine (sum_ext fun k => EReal.mul_comm _ _).trans ?_
  refine dot_at (m (c.tc.loc main_arg1)) (m (c.tc.loc main_arg0)) (fun k => ?_) (fun k => ?_)
  · blk_ext [index1, index2, e1, place]
  · blk_ext [index0, index2, e1, place]

/-- The array after the run. -/
theorem arr2 (c : Dev nD) : (dats m 0 c).arrAt 2 cfg0.N = out (m (c.tc.loc main_arg0)) (m (c.tc.loc main_arg1)) := by
  refine (dats m 0 c).arrAt_eq_of_covers 2 _ (by decide +kernel) fun t hf y => ?_
  have h1 : t.val % 8 = 7 := (flush0_2 t).mp hf
  blk_simp
  rw [after0_2, placed m c t h1, scratch m c t h1, Finset.sum_congr rfl fun s _ => addend_eq m c t s y,
    ← sum_runs (p := 8) (q := 1024) rfl (term (m (c.tc.loc main_arg0)) (m (c.tc.loc main_arg1)) ((win0_2.blk t).view.emb y)), out]

/-- The reference. -/
theorem ref : Cert.ProjDwRefIdeal.Read.val_main_v8 (F := Ideal) a b = out a b := by
  funext i
  rw [← Cert.ProjDwRefIdeal.Read.val_main_v8_eq]
  pointwise
  rfl

/-- The reference changes no argument and leaves no semaphore raised. -/
theorem frame_ref : Cert.quiescent_ProjDwRefIdeal := fun m ρ _ =>
  (θ_run Cert.ProjDwRefIdeal.defs _ _).mono (fun r h => ⟨fun c => (h c).2, sem_eq_zero_of_no_sems (by decide) r.2⟩)
    (Cert.ProjDwRefIdeal.Value.run (F := Ideal) m ρ)

/-- The kernel's array is the reference's. -/
theorem algebraic : Cert.algebraic_ProjDwIdeal_ProjDwRefIdeal := by
  intro m ρ m' ρ' hpre hagree
  refine ⟨fun c => out (m (c.tc.loc main_arg0)) (m (c.tc.loc main_arg1)), ?_, ?_⟩
  · exact (θ_run Cert.ProjDwIdeal.defs _ _).mono (fun _ h c => ⟨(h c).1.trans (arr2 m c), (h c).2⟩)
      (Cert.ProjDwIdeal.Value.run_blocks (F := Ideal) m ρ)
  · refine (θ_run Cert.ProjDwRefIdeal.defs _ _).mono (fun _ h c => ⟨(h c).1.trans ?_, (h c).2⟩)
      (Cert.ProjDwRefIdeal.Value.run (F := Ideal) m' ρ')
    obtain ⟨h0, h1⟩ := hagree c
    rw [Cert.ProjDwRefIdeal.Read.val_main_v8_eq, h0, h1]
    exact ref _ _

end Cert.Proof.ProjDw

end
-- ==== Proof.Ln3Bwd.lean ====
/-
  The gradient of the normalisation behind the feed-forward block, the gate product's included. The kernel forms the
  normalised rows' cotangent `dx + dz w^T` and from it the rows' cotangent in closed form; the gain's and the bias's
  gradients are added up over the grid. On finite arrays the rows' cotangent is the reference's; the other two meet it
  without any condition.
-/
module

public import proofs.«01_k».proof.Defs
public import proofs.«01_k».proof.Proof.Gen.Ln3BwdIdeal.Value
public import proofs.«01_k».proof.Proof.Gen.Ln3BwdRefIdeal.Run
public import proofs.«01_k».proof.Proof.Gen.Ln3BwdRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt
public import proofs.«01_k».proof.Proof.Finite
public import proofs.«01_k».proof.Proof.Sums
public import proofs.«01_k».proof.Proof.Norm
public import proofs.«01_k».proof.Proof.NormGrad
public import proofs.«01_k».proof.Proof.Gen.Pre_ln3_bwd_finite

@[expose] public section
noncomputable section

namespace Cert.Proof.Ln3Bwd
open Cert.Ln3BwdIdeal Cert.Ln3BwdIdeal.Gen Idealize.ShloMosaic Idealize.ShloMosaic.TcCoe Idealize.SL.Sem
open scoped BigOperators
variable (m : (ℓ : Loc nD τ sig) → Buf (Elt Ideal) ℓ)

/-- Window 0: rows of the product's operand. -/
theorem index0 : ∀ t : Fin cfg0.N, win0_0.index t = ![t.val, 0] := (by decide +kernel : ∀ t : Fin grid0.N, _)
/-- Window 1: the whole weight. -/
theorem index1 : ∀ t : Fin cfg0.N, win0_1.index t = ![0, 0] := (by decide +kernel : ∀ t : Fin grid0.N, _)
/-- Window 2: rows of the residual's cotangent. -/
theorem index2 : ∀ t : Fin cfg0.N, win0_2.index t = ![t.val, 0] := (by decide +kernel : ∀ t : Fin grid0.N, _)
/-- Window 3: rows of the normalised array. -/
theorem index3 : ∀ t : Fin cfg0.N, win0_3.index t = ![t.val, 0] := (by decide +kernel : ∀ t : Fin grid0.N, _)
/-- Window 4: rows of the reciprocal deviations. -/
theorem index4 : ∀ t : Fin cfg0.N, win0_4.index t = ![t.val, 0] := (by decide +kernel : ∀ t : Fin grid0.N, _)
/-- Window 5: the gain. -/
theorem index5 : ∀ t : Fin cfg0.N, win0_5.index t = ![0, 0] := (by decide +kernel : ∀ t : Fin grid0.N, _)
/-- Window 6: rows of the result. -/
theorem index6 : ∀ t : Fin cfg0.N, win0_6.index t = ![t.val, 0] := (by decide +kernel : ∀ t : Fin grid0.N, _)
/-- Window 7: rows of the rounded result. -/
theorem index7 : ∀ t : Fin cfg0.N, win0_7.index t = ![t.val, 0] := (by decide +kernel : ∀ t : Fin grid0.N, _)
/-- Window 8: the gain's gradient. -/
theorem index8 : ∀ t : Fin cfg0.N, win0_8.index t = ![0, 0] := (by decide +kernel : ∀ t : Fin grid0.N, _)
/-- Window 9: the bias's gradient. -/
theorem index9 : ∀ t : Fin cfg0.N, win0_9.index t = ![0, 0] := (by decide +kernel : ∀ t : Fin grid0.N, _)

/-- A vector as an array of one row. -/
def asRow (g : S1024.Idx → EReal) (j : S1x1024.Idx) : EReal := g (ix1 (j 1))

/-- A row of an array. -/
def rowOf (r : S8192x1024.Idx → EReal) (p : Fin 8192) (k : Fin 1024) : EReal := r (ix2 p k)

/-- The rows' reciprocal deviations. -/
def dev (r : S8192x1024.Idx → EReal) (i : S8192x1.Idx) : EReal := Norm.rstd (rowOf r (i 0))

/-- The normalised rows. -/
def hat (r : S8192x1024.Idx → EReal) (i : S8192x1024.Idx) : EReal := Norm.xhat (rowOf r (i 0)) (i 1)

/-- What window 5 stages is the gain. -/
theorem V_v18 (c : Dev nD) : V m c main_v18 = asRow (m (c.tc.loc main_arg1)) := by
  funext j
  unfold V asRow
  after_reads_at

/-- What window 4 stages is the rows' reciprocal deviations. -/
theorem V_v13 (c : Dev nD) : V m c main_v13 = dev (m (c.tc.loc main_arg0)) := by
  funext j
  unfold V
  after_reads_at
  rfl

/-- What window 3 stages is the normalised rows. -/
theorem V_v17 (c : Dev nD) : V m c main_v17 = hat (m (c.tc.loc main_arg0)) := by
  funext j
  unfold V
  after_reads_at
  exact Norm.xhat_at (rowOf (m (c.tc.loc main_arg0)) (j 0)) _ _ _ (fun k => rfl) (congrArg (m (c.tc.loc main_arg0)) (eq_ix2 j))

section Values
variable (r : S8192x1024.Idx → EReal) (g : S1024.Idx → EReal) (w : S1024x1024.Idx → EReal) (dx : S8192x1024.Idx → EReal)
  (d : S8192x1024.Idx → EReal)

/-- The cotangent of the normalised rows with their gain. -/
def total (i : S8192x1024.Idx) : EReal := dx i + ∑ k, d (ix2 (i 0) k) * w (ix2 (i 1) k)

/-- A row of the cotangent of the normalised rows. -/
def inner (p : Fin 8192) (k : Fin 1024) : EReal := total w dx d (ix2 p k) * g (ix1 k)

/-- The rows' cotangent. -/
def dr (i : S8192x1024.Idx) : EReal := Norm.grad (rowOf r (i 0)) (inner g w dx d (i 0)) (i 1)
end Values

/-- The residual's element of a block is the result's. -/
theorem emb2 (t : Fin cfg0.N) (y : S512x1024.Idx) : (win0_2.blk t).view.emb y = (win0_6.blk t).view.emb y := by
  blk_ext [index2, index6]
/-- The normalised array's element of a block is the result's. -/
theorem emb3 (t : Fin cfg0.N) (y : S512x1024.Idx) : (win0_3.blk t).view.emb y = (win0_6.blk t).view.emb y := by
  blk_ext [index3, index6]
/-- The rounded result's element of a block is the result's. -/
theorem emb7 (t : Fin cfg0.N) (y : S512x1024.Idx) : (win0_7.blk t).view.emb y = (win0_6.blk t).view.emb y := by
  blk_ext [index7, index6]

/-- The block's rows lie in the array's. -/
theorem emb_row (t : Fin cfg0.N) (y : S512x1024.Idx) (k : Fin 1024) :
    (win0_6.blk t).view.emb (ix2 (y 0) k) = ix2 ((win0_6.blk t).view.emb y 0) k := by blk_ext [index6]

/-- The deviations' block lies in the rows of the result's. -/
theorem dev_at (c : Dev nD) (t : Fin cfg0.N) (y : S512x1024.Idx) :
    dev (m (c.tc.loc main_arg0)) ((win0_4.blk t).view.emb (ix2 (y 0) (0 : Fin 1)))
      = Norm.rstd (rowOf (m (c.tc.loc main_arg0)) ((win0_6.blk t).view.emb y 0)) := by
  have e : (win0_4.blk t).view.emb (ix2 (y 0) (0 : Fin 1)) = ix2 ((win0_6.blk t).view.emb y 0) (0 : Fin 1) := by
    blk_ext [index4, index6]
  rw [e]
  rfl

/-- The gain's block is the gain. -/
theorem gain_at (c : Dev nD) (t : Fin cfg0.N) (k : Fin 1024) :
    asRow (m (c.tc.loc main_arg1)) ((win0_5.blk t).view.emb (ix2 (0 : Fin 1) k)) = m (c.tc.loc main_arg1) (ix1 k) :=
  congrArg (m (c.tc.loc main_arg1)) (by blk_ext [index5])

section Payloads
variable (v0 : Vec Ideal S512x1024 .f32) (v3 : Vec Ideal S512x1024 .bf16) (v4 : Vec Ideal S1024x1024 .bf16)
  (v7 : Vec Ideal S512x1024 .f32) (v9 : Vec Ideal S1x1024 .f32) (v22 : Vec Ideal S512x1 .f32)

/-- The cotangent of the gained rows: the residual's and the product's. -/
theorem pay5_at (y : S512x1024.Idx) : k0_pay5 v0 v3 v4 y = HAdd.hAdd (α := EReal) (β := EReal)
    (v0 y) (∑ l : Fin 1024, HMul.hMul (α := EReal) (β := EReal) (v3 (ix2 (y 0) l)) (v4 (ix2 (y 1) l))) := by
  unfold k0_pay5
  pointwise

/-- The normalised rows are taken as they are. -/
theorem pay6_at (y : S512x1024.Idx) : k0_pay6 v7 y = v7 y := by
  unfold k0_pay6
  pointwise

/-- The rows' cotangent in closed form. -/
theorem pay7_at (y : S512x1024.Idx) : k0_pay7 v0 v3 v4 v7 v9 v22 y = HMul.hMul (α := EReal) (β := EReal) (v22 (ix2 (y 0) (0 : Fin 1)))
      (HSub.hSub (α := EReal) (β := EReal) (HSub.hSub (α := EReal) (β := EReal)
        (HMul.hMul (α := EReal) (β := EReal) (k0_pay5 v0 v3 v4 y) (v9 (ix2 (0 : Fin 1) (y 1))))
        (Ideal.div (∑ k : Fin 1024, HMul.hMul (α := EReal) (β := EReal) (k0_pay5 v0 v3 v4 (ix2 (y 0) k)) (v9 (ix2 (0 : Fin 1) k))) (Ideal.ofBits FTy.f32 1149239296#32)))
        (HMul.hMul (α := EReal) (β := EReal) (k0_pay6 v7 y) (Ideal.div (∑ k : Fin 1024, HMul.hMul (α := EReal) (β := EReal)
          (HMul.hMul (α := EReal) (β := EReal) (k0_pay5 v0 v3 v4 (ix2 (y 0) k)) (v9 (ix2 (0 : Fin 1) k))) (k0_pay6 v7 (ix2 (y 0) k))) (Ideal.ofBits FTy.f32 1149239296#32)))) := by
  unfold k0_pay7
  pointwise

/-- The rounded rows' cotangent is the rows' cotangent. -/
theorem pay8_at (y : S512x1024.Idx) : k0_pay8 v0 v3 v4 v7 v9 v22 y = k0_pay7 v0 v3 v4 v7 v9 v22 y := by
  unfold k0_pay8
  pointwise
end Payloads

/-- The accumulators start from zero. -/
theorem pay1_at (y : S1x1024.Idx) : k0_pay1 (F := Ideal) y = (0 : EReal) := by
  unfold k0_pay1
  pointwise

/-- The accumulators start from zero. -/
theorem pay2_at (y : S1x1024.Idx) : k0_pay2 (F := Ideal) y = (0 : EReal) := by
  unfold k0_pay2
  pointwise

/-- A block's part of the gain's gradient, added to what was there. -/
theorem pay3_at (v6 v8 : FVec Ideal S512x1024 .f32) (v37 : Vec Ideal S1x1024 .f32) (y : S1x1024.Idx) :
    k0_pay3 v6 v8 v37 y = HAdd.hAdd (α := EReal) (β := EReal) (v37 y)
      (∑ x : Fin 512, HMul.hMul (α := EReal) (β := EReal) (v6 (ix2 x (y 1))) (v8 (ix2 x (y 1)))) := by
  unfold k0_pay3
  pointwise

/-- A block's part of the bias's gradient, added to what was there. -/
theorem pay4_at (v6 : FVec Ideal S512x1024 .f32) (v44 : Vec Ideal S1x1024 .f32) (y : S1x1024.Idx) :
    k0_pay4 v6 v44 y = HAdd.hAdd (α := EReal) (β := EReal) (v44 y) (∑ x : Fin 512, (v6 (ix2 x (y 1)) : EReal)) := by
  unfold k0_pay4
  pointwise

/-- The cotangent of the gained rows in the block of point `t`. -/
theorem total_blk (c : Dev nD) (t : Fin cfg0.N) (y : S512x1024.Idx) :
    k0_pay5 (iblk m c 2 t) (iblk m c 0 t) (iblk m c 1 t) y = total (m (c.tc.loc main_arg3)) (m (c.tc.loc main_arg4)) (m (c.tc.loc main_arg5)) ((win0_6.blk t).view.emb y) := by
  rw [pay5_at]
  blk_simp [iblk]
  rw [V_main_arg3, V_main_arg4, V_main_arg5, emb2, total]
  exact congrArg (HAdd.hAdd (α := EReal) (β := EReal) _) (dot_at (m (c.tc.loc main_arg5)) (m (c.tc.loc main_arg3))
    (fun l => by blk_ext [index0, index6]) (fun l => by blk_ext [index1, index6]))

/-- The rows' cotangent in the block of point `t`. -/
theorem grad_blk (c : Dev nD) (t : Fin cfg0.N) (y : S512x1024.Idx) :
    k0_pay7 (iblk m c 2 t) (iblk m c 0 t) (iblk m c 1 t) (iblk m c 3 t) (iblk m c 5 t) (iblk m c 4 t) y
      = dr (m (c.tc.loc main_arg0)) (m (c.tc.loc main_arg1)) (m (c.tc.loc main_arg3)) (m (c.tc.loc main_arg4)) (m (c.tc.loc main_arg5)) ((win0_6.blk t).view.emb y) := by
  rw [pay7_at]
  simp only [total_blk, pay6_at]
  have hrs : (iblk m c 4 t (ix2 (y 0) (0 : Fin 1)) : EReal) = Norm.rstd (rowOf (m (c.tc.loc main_arg0)) ((win0_6.blk t).view.emb y 0)) := by
    blk_simp [iblk]; rw [V_v13]; exact dev_at m c t y
  have hg (k : Fin 1024) : (iblk m c 5 t (ix2 (0 : Fin 1) k) : EReal) = m (c.tc.loc main_arg1) (ix1 k) := by
    blk_simp [iblk]; rw [V_v18]; exact gain_at m c t k
  have hx : (iblk m c 3 t y : EReal) = Norm.xhat (rowOf (m (c.tc.loc main_arg0)) ((win0_6.blk t).view.emb y 0)) ((win0_6.blk t).view.emb y 1) := by
    blk_simp [iblk]; rw [V_v17, emb3]; rfl
  have hh (k : Fin 1024) : (iblk m c 3 t (ix2 (y 0) k) : EReal) = Norm.xhat (rowOf (m (c.tc.loc main_arg0)) ((win0_6.blk t).view.emb y 0)) k := by
    blk_simp [iblk]; rw [V_v17, emb3, emb_row]; rfl
  have hq (k : Fin 1024) : HMul.hMul (α := EReal) (β := EReal) (total (m (c.tc.loc main_arg3)) (m (c.tc.loc main_arg4)) (m (c.tc.loc main_arg5)) ((win0_6.blk t).view.emb (ix2 (y 0) k))) (iblk m c 5 t (ix2 (0 : Fin 1) k))
      = inner (m (c.tc.loc main_arg1)) (m (c.tc.loc main_arg3)) (m (c.tc.loc main_arg4)) (m (c.tc.loc main_arg5)) ((win0_6.blk t).view.emb y 0) k := by
    rw [hg, emb_row]; rfl
  have he : HMul.hMul (α := EReal) (β := EReal) (total (m (c.tc.loc main_arg3)) (m (c.tc.loc main_arg4)) (m (c.tc.loc main_arg5)) ((win0_6.blk t).view.emb y)) (iblk m c 5 t (ix2 (0 : Fin 1) (y 1)))
      = inner (m (c.tc.loc main_arg1)) (m (c.tc.loc main_arg3)) (m (c.tc.loc main_arg4)) (m (c.tc.loc main_arg5)) ((win0_6.blk t).view.emb y 0) ((win0_6.blk t).view.emb y 1) := by
    refine (congrArg (HMul.hMul (α := EReal) (β := EReal) _) (hg (y 1))).trans ?_
    exact mul_at (total (m (c.tc.loc main_arg3)) (m (c.tc.loc main_arg4)) (m (c.tc.loc main_arg5))) (m (c.tc.loc main_arg1)) (eq_ix2 _) (by blk_ext [index6])
  exact Norm.grad_at _ _ hrs hq hh he hx

/-- The rows' cotangent after the run. -/
theorem arr6 (c : Dev nD) : (dats m 0 c).arrAt 6 cfg0.N = dr (m (c.tc.loc main_arg0)) (m (c.tc.loc main_arg1)) (m (c.tc.loc main_arg3)) (m (c.tc.loc main_arg4)) (m (c.tc.loc main_arg5)) := by
  refine (dats m 0 c).arrAt_eq_of_covers 6 _ (by decide +kernel) fun t hf y => ?_
  blk_simp
  rw [after0_6]
  by_cases h0 : t.val % 16 = 0
  · rw [outsAt0_A m c t h0]; dsimp only; unfold out0_A_6; frame_out
    exact grad_blk m c t y
  · rw [outsAt0_B m c t h0]; dsimp only; unfold out0_B_6; frame_out
    exact grad_blk m c t y

/-- The rounded rows' cotangent after the run. -/
theorem arr7 (c : Dev nD) : (dats m 0 c).arrAt 7 cfg0.N = dr (m (c.tc.loc main_arg0)) (m (c.tc.loc main_arg1)) (m (c.tc.loc main_arg3)) (m (c.tc.loc main_arg4)) (m (c.tc.loc main_arg5)) := by
  refine (dats m 0 c).arrAt_eq_of_covers 7 _ (by decide +kernel) fun t hf y => ?_
  blk_simp
  rw [after0_7, emb7]
  by_cases h0 : t.val % 16 = 0
  · rw [outsAt0_A m c t h0]; dsimp only; unfold out0_A_7; frame_out
    exact (pay8_at _ _ _ _ _ _ _).trans (grad_blk m c t y)
  · rw [outsAt0_B m c t h0]; dsimp only; unfold out0_B_7; frame_out
    exact (pay8_at _ _ _ _ _ _ _).trans (grad_blk m c t y)

/-- The grid's last point. -/
def lastPoint : Fin cfg0.N := ⟨15, by rw [show cfg0.N = 16 from N_0]; omega⟩

/-- One row's term of the gain's gradient. -/
def gainTerm (r : S8192x1024.Idx → EReal) (d : S8192x1024.Idx → EReal) (y : S1x1024.Idx) (p : Fin 8192) : EReal :=
  d (ix2 p (y 1)) * hat r (ix2 p (y 1))

/-- One row's term of the bias's gradient. -/
def biasTerm (d : S8192x1024.Idx → EReal) (y : S1x1024.Idx) (p : Fin 8192) : EReal := d (ix2 p (y 1))

/-- The row of the arrays that row `x` of the block of point `t` is. -/
def rowAt (t : Fin cfg0.N) (x : Fin 512) : Fin 8192 :=
  ⟨512 * t.val + x.val, by have := x.isLt; have ht : t.val < 16 := lt_of_lt_of_eq t.isLt (show cfg0.N = 16 from N_0); omega⟩

/-- An element of a block's row is the array's. -/
theorem emb_rowAt (t : Fin cfg0.N) (y : S1x1024.Idx) (x : Fin 512) :
    (win0_6.blk t).view.emb (ix2 x (y 1)) = ix2 (rowAt t x) (y 1) := by
  unfold rowAt
  blk_ext [index6]

/-- A block's part of the gain's gradient is the sum of its rows' terms. -/
theorem gain_part (c : Dev nD) (t : Fin cfg0.N) (y : S1x1024.Idx) (v : Vec Ideal S1x1024 .f32) :
    k0_pay3 (k0_pay5 (iblk m c 2 t) (iblk m c 0 t) (iblk m c 1 t)) (k0_pay6 (iblk m c 3 t)) v y = HAdd.hAdd (α := EReal) (β := EReal) (v y)
      (∑ x : Fin 512, gainTerm (m (c.tc.loc main_arg0)) (total (m (c.tc.loc main_arg3)) (m (c.tc.loc main_arg4)) (m (c.tc.loc main_arg5))) y (rowAt t x)) := by
  refine (pay3_at _ _ _ _).trans (congrArg (HAdd.hAdd (α := EReal) (β := EReal) _) (sum_ext fun x => ?_))
  refine congrArg₂ (HMul.hMul (α := EReal) (β := EReal)) ((total_blk m c t _).trans (congrArg _ (emb_rowAt t y x))) ?_
  refine (pay6_at _ _).trans ?_
  blk_simp [iblk]
  rw [V_v17, emb3, emb_rowAt]
  rfl

/-- A block's part of the bias's gradient is the sum of its rows' terms. -/
theorem bias_part (c : Dev nD) (t : Fin cfg0.N) (y : S1x1024.Idx) (v : Vec Ideal S1x1024 .f32) :
    k0_pay4 (k0_pay5 (iblk m c 2 t) (iblk m c 0 t) (iblk m c 1 t)) v y = HAdd.hAdd (α := EReal) (β := EReal) (v y)
      (∑ x : Fin 512, biasTerm (total (m (c.tc.loc main_arg3)) (m (c.tc.loc main_arg4)) (m (c.tc.loc main_arg5))) y (rowAt t x)) :=
  (pay4_at _ _ _).trans (congrArg (HAdd.hAdd (α := EReal) (β := EReal) _)
    (sum_ext fun x => (total_blk m c t _).trans (congrArg _ (emb_rowAt t y x))))

/-- The gain's gradient after the body at the first point. -/
theorem point8_A (c : Dev nD) (t : Fin cfg0.N) (h0 : t.val % 16 = 0) (y : S1x1024.Idx) :
    (outsAt0 m c t.val t.isLt).2.2.1 y = HAdd.hAdd (α := EReal) (β := EReal) (0) (∑ x : Fin 512, gainTerm (m (c.tc.loc main_arg0)) (total (m (c.tc.loc main_arg3)) (m (c.tc.loc main_arg4)) (m (c.tc.loc main_arg5))) y (rowAt t x)) := by
  rw [outsAt0_A m c t h0]; dsimp only; unfold out0_A_8; frame_out
  refine (gain_part m c t y _).trans (congrArg (fun u : EReal => u + ∑ x : Fin 512, gainTerm (m (c.tc.loc main_arg0)) (total (m (c.tc.loc main_arg3)) (m (c.tc.loc main_arg4)) (m (c.tc.loc main_arg5))) y (rowAt t x)) ?_)
  exact pay1_at y

/-- The gain's gradient after the body at the later points. -/
theorem point8_B (c : Dev nD) (t : Fin cfg0.N) (h0 : ¬t.val % 16 = 0) (y : S1x1024.Idx) :
    (outsAt0 m c t.val t.isLt).2.2.1 y = HAdd.hAdd (α := EReal) (β := EReal) ((outsAt0 m c (t.val - 1) (Nat.lt_of_le_of_lt (Nat.sub_le _ _) t.isLt)).2.2.1 y)
      (∑ x : Fin 512, gainTerm (m (c.tc.loc main_arg0)) (total (m (c.tc.loc main_arg3)) (m (c.tc.loc main_arg4)) (m (c.tc.loc main_arg5))) y (rowAt t x)) := by
  rw [outsAt0_B m c t h0]; dsimp only; unfold out0_B_8; frame_out
  exact gain_part m c t y _

/-- The gain's gradient after the run. -/
theorem arr8 (c : Dev nD) : (dats m 0 c).arrAt 8 cfg0.N = fun y => ∑ p : Fin 8192, gainTerm (m (c.tc.loc main_arg0)) (total (m (c.tc.loc main_arg3)) (m (c.tc.loc main_arg4)) (m (c.tc.loc main_arg5))) y p := by
  refine (dats m 0 c).arrAt_eq_of_after_last 8 lastPoint (by decide +kernel) _ fun y => ?_
  blk_simp
  rw [after0_8]
  refine (Pipeline.eq_sum_fin_of_reset_step_last (fun n h => ((outsAt0 m c n h).2.2.1 y : EReal)) 16 0
    (fun t => ∑ x : Fin 512, gainTerm (m (c.tc.loc main_arg0)) (total (m (c.tc.loc main_arg3)) (m (c.tc.loc main_arg4)) (m (c.tc.loc main_arg5))) y (rowAt t x)) (fun t h => point8_A m c t h y) (fun t h => point8_B m c t h y) (by decide +kernel) lastPoint rfl).trans ?_
  rw [zero_add, sum_runs (p := 16) (q := 512) rfl (gainTerm (m (c.tc.loc main_arg0)) (total (m (c.tc.loc main_arg3)) (m (c.tc.loc main_arg4)) (m (c.tc.loc main_arg5))) y)]
  rfl

/-- The bias's gradient after the body at the first point. -/
theorem point9_A (c : Dev nD) (t : Fin cfg0.N) (h0 : t.val % 16 = 0) (y : S1x1024.Idx) :
    (outsAt0 m c t.val t.isLt).2.2.2 y = HAdd.hAdd (α := EReal) (β := EReal) (0) (∑ x : Fin 512, biasTerm (total (m (c.tc.loc main_arg3)) (m (c.tc.loc main_arg4)) (m (c.tc.loc main_arg5))) y (rowAt t x)) := by
  rw [outsAt0_A m c t h0]; dsimp only; unfold out0_A_9; frame_out
  refine (bias_part m c t y _).trans (congrArg (fun u : EReal => u + ∑ x : Fin 512, biasTerm (total (m (c.tc.loc main_arg3)) (m (c.tc.loc main_arg4)) (m (c.tc.loc main_arg5))) y (rowAt t x)) ?_)
  exact pay2_at y

/-- The bias's gradient after the body at the later points. -/
theorem point9_B (c : Dev nD) (t : Fin cfg0.N) (h0 : ¬t.val % 16 = 0) (y : S1x1024.Idx) :
    (outsAt0 m c t.val t.isLt).2.2.2 y = HAdd.hAdd (α := EReal) (β := EReal) ((outsAt0 m c (t.val - 1) (Nat.lt_of_le_of_lt (Nat.sub_le _ _) t.isLt)).2.2.2 y)
      (∑ x : Fin 512, biasTerm (total (m (c.tc.loc main_arg3)) (m (c.tc.loc main_arg4)) (m (c.tc.loc main_arg5))) y (rowAt t x)) := by
  rw [outsAt0_B m c t h0]; dsimp only; unfold out0_B_9; frame_out
  exact bias_part m c t y _

/-- The bias's gradient after the run. -/
theorem arr9 (c : Dev nD) : (dats m 0 c).arrAt 9 cfg0.N = fun y => ∑ p : Fin 8192, biasTerm (total (m (c.tc.loc main_arg3)) (m (c.tc.loc main_arg4)) (m (c.tc.loc main_arg5))) y p := by
  refine (dats m 0 c).arrAt_eq_of_after_last 9 lastPoint (by decide +kernel) _ fun y => ?_
  blk_simp
  rw [after0_9]
  refine (Pipeline.eq_sum_fin_of_reset_step_last (fun n h => ((outsAt0 m c n h).2.2.2 y : EReal)) 16 0
    (fun t => ∑ x : Fin 512, biasTerm (total (m (c.tc.loc main_arg3)) (m (c.tc.loc main_arg4)) (m (c.tc.loc main_arg5))) y (rowAt t x)) (fun t h => point9_A m c t h y) (fun t h => point9_B m c t h y) (by decide +kernel) lastPoint rfl).trans ?_
  rw [zero_add, sum_runs (p := 16) (q := 512) rfl (biasTerm (total (m (c.tc.loc main_arg3)) (m (c.tc.loc main_arg4)) (m (c.tc.loc main_arg5))) y)]
  rfl

section Reference
open Cert.Ln3BwdRefIdeal.Read
variable (r : S8192x1024.Idx → EReal) (g : S1024.Idx → EReal) (w : S1024x1024.Idx → EReal) (dx : S8192x1024.Idx → EReal)
  (d : S8192x1024.Idx → EReal)

/-- The reference's cotangent of the normalised rows with their gain. -/
theorem ref_total : val_main_v33 (F := Ideal) w dx d = total w dx d := by
  funext i
  simp only [val_main_v33, val_main_v32, val_main_v31, val_main_v29]
  pointwise
  rfl

/-- The reference's rows' cotangent, one derivative after the other. -/
theorem ref_chain : val_main_v67 (F := Ideal) r g w dx d
    = fun i => Norm.chain (rowOf r (i 0)) (inner g w dx d (i 0)) (i 1) := by
  suffices h : ∀ (p : Fin 8192) (k : Fin 1024), val_main_v67 (F := Ideal) r g w dx d (ix2 p k)
      = Norm.chain (rowOf r p) (inner g w dx d p) k from
    funext fun i => (congrArg (val_main_v67 (F := Ideal) r g w dx d) (eq_ix2 i)).trans (h (i 0) (i 1))
  intro p k
  simp only [val_main_v34, val_main_v42, val_main_v41, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_10, val_main_cst_11, val_main_cst_12, val_main_cst_13, val_main_cst_14, val_main_cst_15, val_main_cst_16, ref_total]
  pointwise
  simp only [Fin.sum_univ_one]
  rfl

/-- On reals the cotangent of the gained rows is real. -/
theorem total_real (h3 : AllReal w) (h4 : AllReal dx) (h5 : AllReal d) : AllReal (total w dx d) := by
  obtain ⟨w, rfl⟩ := h3
  obtain ⟨dx, rfl⟩ := h4
  obtain ⟨d, rfl⟩ := h5
  refine ⟨fun i => dx i + ∑ k, d (ix2 (i 0) k) * w (ix2 (i 1) k), funext fun i => ?_⟩
  simp only [total, ← EReal.coe_mul, sum_coe, ← EReal.coe_add]

/-- On finite arrays the reference's rows' cotangent is the closed form. -/
theorem ref_dr (h0 : AllReal r) (h1 : AllReal g) (h3 : AllReal w) (h4 : AllReal dx) (h5 : AllReal d) :
    val_main_v67 (F := Ideal) r g w dx d = dr r g w dx d := by
  rw [ref_chain]
  funext i
  obtain ⟨e, he⟩ := total_real w dx d h3 h4 h5
  obtain ⟨r, rfl⟩ := h0
  obtain ⟨g, rfl⟩ := h1
  have q : inner (fun i => (g i : EReal)) w dx d (i 0) = fun k => ((e (ix2 (i 0) k) * g (ix1 k) : ℝ) : EReal) := by
    funext k
    change total w dx d (ix2 (i 0) k) * _ = _
    rw [he, EReal.coe_mul]
  rw [dr, q]
  exact Norm.chain_eq (fun k => r (ix2 (i 0) k)) _ _

/-- The reference's rounded rows' cotangent is its rows' cotangent. -/
theorem ref_rounded : val_main_v68 (F := Ideal) r g w dx d = val_main_v67 (F := Ideal) r g w dx d := by
  funext i
  simp only [val_main_v68]
  pointwise

/-- The reference's gradient of the gain. -/
theorem ref_gain : val_main_v69 (F := Ideal) r w dx d = fun y => ∑ p : Fin 8192, gainTerm r (total w dx d) y p := by
  funext i
  simp only [val_main_v69, val_main_v43, val_main_v40, val_main_v39, val_main_v38, val_main_v34, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_8, val_main_cst_9, ref_total]
  pointwise
  simp only [Fin.sum_univ_one]
  exact sum_ext fun p => mul_comm _ _

/-- The reference's gradient of the bias. -/
theorem ref_bias : val_main_v70 (F := Ideal) w dx d = fun y => ∑ p : Fin 8192, biasTerm (total w dx d) y p := by
  funext i
  simp only [val_main_v70, val_main_v37, val_main_v36, val_main_v35, val_main_cst_6, val_main_cst_7, ref_total]
  pointwise
  simp only [Fin.sum_univ_one]
  rfl
end Reference

/-- The precondition makes every argument array an array of reals. -/
theorem finite (h : Cert.Pre_Ln3BwdIdeal_ln3_bwd_finite m) (c : Dev nD) :
    AllReal (m (c.tc.loc main_arg0)) ∧ AllReal (m (c.tc.loc main_arg1)) ∧ AllReal (m (c.tc.loc main_arg3))
      ∧ AllReal (m (c.tc.loc main_arg4)) ∧ AllReal (m (c.tc.loc main_arg5)) := by
  obtain ⟨h0, h1, h3, h4, h5⟩ := h c
  refine ⟨allReal_of_bits (fun i => ?_) h0, allReal_of_bits (fun i => ?_) h1, allReal_of_bits (fun i => ?_) h3,
    allReal_of_bits (fun i => ?_) h4, allReal_of_bits (fun i => ?_) h5⟩ <;>
  · dsimp only [Cert.Pre_ln3_bwd_finite.fn]
    pointwise
    rfl

/-- The reference changes no argument and leaves no semaphore raised. -/
theorem frame_ref : Cert.quiescent_Ln3BwdRefIdeal := fun m ρ _ =>
  (θ_run Cert.Ln3BwdRefIdeal.defs _ _).mono (fun r h => ⟨fun c => (h c).2.2.2.2, sem_eq_zero_of_no_sems (by decide) r.2⟩)
    (Cert.Ln3BwdRefIdeal.Value.run (F := Ideal) m ρ)

/-- On finite arguments the kernel's four arrays are the reference's. -/
theorem algebraic : Cert.algebraic_Ln3BwdIdeal_Ln3BwdRefIdeal_pre_ln3_bwd_finite := by
  intro m ρ m' ρ' hpre hagree
  refine ⟨_, _, _, _, (θ_run Cert.Ln3BwdIdeal.defs _ _).mono (fun _ h c => ⟨(h c).1.trans (arr6 m c), (h c).2.1.trans (arr7 m c),
      (h c).2.2.1.trans (arr8 m c), (h c).2.2.2.1.trans (arr9 m c), (h c).2.2.2.2⟩) (Cert.Ln3BwdIdeal.Value.run_blocks (F := Ideal) m ρ), ?_⟩
  refine (θ_run Cert.Ln3BwdRefIdeal.defs _ _).mono (fun _ h c => ⟨(h c).1.trans ?_, (h c).2.1.trans ?_, (h c).2.2.1.trans ?_,
      (h c).2.2.2.1.trans ?_, (h c).2.2.2.2⟩) (Cert.Ln3BwdRefIdeal.Value.run (F := Ideal) m' ρ')
  all_goals
    obtain ⟨h0, h1, h2, h3, h4, h5⟩ := hagree c
    obtain ⟨f0, f1, f3, f4, f5⟩ := finite m hpre c
  · rw [Cert.Ln3BwdRefIdeal.Read.val_main_v67_eq, h0, h1, h3, h4, h5]
    exact ref_dr _ _ _ _ _ f0 f1 f3 f4 f5
  · rw [Cert.Ln3BwdRefIdeal.Read.val_main_v68_eq, h0, h1, h3, h4, h5]
    exact (ref_rounded _ _ _ _ _).trans (ref_dr _ _ _ _ _ f0 f1 f3 f4 f5)
  · refine (Cert.Ln3BwdRefIdeal.Read.val_main_v69_eq (F := Ideal) _ _ _ _).trans ?_
    rw [h0, h3, h4, h5]
    exact ref_gain _ _ _ _
  · refine (Cert.Ln3BwdRefIdeal.Read.val_main_v70_eq (F := Ideal) _ _ _).trans ?_
    rw [h3, h4, h5]
    exact ref_bias _ _ _

end Cert.Proof.Ln3Bwd

end
-- ==== Proof.Adam.lean ====
/-
  The optimiser's step on one element: the two running means, and the step's size with its weight decay. The constants are
  the step's own, as the programs print them.
-/
module

public import Idealize.ShloMosaic.Lib.Pointwise

@[expose] public section
noncomputable section

namespace Cert.Proof.Adam
open Idealize.ShloMosaic

/-- The running mean of the gradient. -/
def mean (g m : EReal) : EReal := Ideal.ofBits FTy.f32 0x3F666666#32 * m + Ideal.ofBits FTy.f32 0x3DCCCCCD#32 * g

/-- The running mean of its square. -/
def square (g v : EReal) : EReal := Ideal.ofBits FTy.f32 0x3F7FBE77#32 * v + Ideal.ofBits FTy.f32 0x3A83126F#32 * (g * g)

/-- The change of the weight. -/
def delta (w g m v : EReal) : EReal :=
  Ideal.ofBits FTy.f32 0xBA83126F#32 *
    (Ideal.div (Ideal.div (mean g m) (Ideal.ofBits FTy.f32 0x3F26BD02#32))
        (Ideal.sqrt (Ideal.div (square g v) (Ideal.ofBits FTy.f32 0x3C231ACC#32)) + Ideal.ofBits FTy.f32 0x322BCC77#32)
      + Ideal.ofBits FTy.f32 0x3C23D70A#32 * w)

end Cert.Proof.Adam

end
-- ==== Proof.AdamUp.lean ====
/-
  The optimiser's step on a share of the feed-forward block's first two weights, elementwise.
-/
module

public import proofs.«01_k».proof.Defs
public import proofs.«01_k».proof.Proof.Gen.AdamUpIdeal.Value
public import proofs.«01_k».proof.Proof.Gen.AdamUpRefIdeal.Run
public import proofs.«01_k».proof.Proof.Gen.AdamUpRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt
public import proofs.«01_k».proof.Proof.Adam

@[expose] public section
noncomputable section

namespace Cert.Proof.AdamUp
open Cert.AdamUpIdeal Cert.AdamUpIdeal.Gen Idealize.ShloMosaic Idealize.ShloMosaic.TcCoe Idealize.SL.Sem
open scoped BigOperators
variable (m : (ℓ : Loc nD τ sig) → Buf (Elt Ideal) ℓ)

/-- Window 0: rows of the weight. -/
theorem index0 : ∀ t : Fin cfg0.N, win0_0.index t = ![t.val, 0] := (by decide +kernel : ∀ t : Fin grid0.N, _)
/-- Window 1: rows of the gradient. -/
theorem index1 : ∀ t : Fin cfg0.N, win0_1.index t = ![t.val, 0] := (by decide +kernel : ∀ t : Fin grid0.N, _)
/-- Window 2: rows of the gradient's mean. -/
theorem index2 : ∀ t : Fin cfg0.N, win0_2.index t = ![t.val, 0] := (by decide +kernel : ∀ t : Fin grid0.N, _)
/-- Window 3: rows of the squares' mean. -/
theorem index3 : ∀ t : Fin cfg0.N, win0_3.index t = ![t.val, 0] := (by decide +kernel : ∀ t : Fin grid0.N, _)
/-- Window 4: rows of the change. -/
theorem index4 : ∀ t : Fin cfg0.N, win0_4.index t = ![t.val, 0] := (by decide +kernel : ∀ t : Fin grid0.N, _)
/-- Window 5: rows of the new mean. -/
theorem index5 : ∀ t : Fin cfg0.N, win0_5.index t = ![t.val, 0] := (by decide +kernel : ∀ t : Fin grid0.N, _)
/-- Window 6: rows of the new mean of squares. -/
theorem index6 : ∀ t : Fin cfg0.N, win0_6.index t = ![t.val, 0] := (by decide +kernel : ∀ t : Fin grid0.N, _)

/-- The layers' matrices one below the other. -/
def rows (a : S2x1024x704.Idx → EReal) (j : S2048x704.Idx) : EReal :=
  a (ix3 ⟨(j 0).val / 1024, by have h0 : (j 0).val < 2048 := (j 0).isLt; omega⟩
    ⟨(j 0).val % 1024, Nat.mod_lt _ (by norm_num)⟩ (j 1))

/-- What window 0 stages is the weight, row by row. -/
theorem V_v0 (c : Dev nD) : V m c main_v0 = rows (m (c.tc.loc main_arg0)) := by
  funext j
  unfold V rows
  after_reads_at

/-- What window 1 stages is the gradient, row by row. -/
theorem V_v1 (c : Dev nD) : V m c main_v1 = rows (m (c.tc.loc main_arg1)) := by
  funext j
  unfold V rows
  after_reads_at

/-- What window 2 stages is the gradient's mean, row by row. -/
theorem V_v2 (c : Dev nD) : V m c main_v2 = rows (m (c.tc.loc main_arg2)) := by
  funext j
  unfold V rows
  after_reads_at

/-- What window 3 stages is the squares' mean, row by row. -/
theorem V_v3 (c : Dev nD) : V m c main_v3 = rows (m (c.tc.loc main_arg3)) := by
  funext j
  unfold V rows
  after_reads_at

section Values
variable (w g mm vv : S2x1024x704.Idx → EReal)
/-- The change of the weight. -/
def delta (i : S2048x704.Idx) : EReal := Adam.delta (rows w i) (rows g i) (rows mm i) (rows vv i)
/-- The new mean of the gradient. -/
def mean (i : S2048x704.Idx) : EReal := Adam.mean (rows g i) (rows mm i)
/-- The new mean of its square. -/
def square (i : S2048x704.Idx) : EReal := Adam.square (rows g i) (rows vv i)
end Values

/-- The changes' array after the run. -/
theorem arr4 (c : Dev nD) : (dats m 0 c).arrAt 4 cfg0.N = delta (m (c.tc.loc main_arg0)) (m (c.tc.loc main_arg1)) (m (c.tc.loc main_arg2)) (m (c.tc.loc main_arg3)) := by
  refine (dats m 0 c).arrAt_eq_of_covers 4 _ (by decide +kernel) fun t hf y => ?_
  have h0 := congrArg (rows (m (c.tc.loc main_arg0))) (show (win0_0.blk t).view.emb y = (win0_4.blk t).view.emb y by blk_ext [index0, index4])
  have h1 := congrArg (rows (m (c.tc.loc main_arg1))) (show (win0_1.blk t).view.emb y = (win0_4.blk t).view.emb y by blk_ext [index1, index4])
  have h2 := congrArg (rows (m (c.tc.loc main_arg2))) (show (win0_2.blk t).view.emb y = (win0_4.blk t).view.emb y by blk_ext [index2, index4])
  have h3 := congrArg (rows (m (c.tc.loc main_arg3))) (show (win0_3.blk t).view.emb y = (win0_4.blk t).view.emb y by blk_ext [index3, index4])
  blk_simp
  rw [after0_4]; unfold out0_4; frame_out
  unfold_payloads
  pointwise
  blk_simp [iblk]
  rw [V_v0, V_v1, V_v2, V_v3]
  show Adam.delta (rows (m (c.tc.loc main_arg0)) ((win0_0.blk t).view.emb y)) (rows (m (c.tc.loc main_arg1)) ((win0_1.blk t).view.emb y)) (rows (m (c.tc.loc main_arg2)) ((win0_2.blk t).view.emb y)) (rows (m (c.tc.loc main_arg3)) ((win0_3.blk t).view.emb y)) = _
  rw [h0, h1, h2, h3, delta]

/-- The new means' array after the run. -/
theorem arr5 (c : Dev nD) : (dats m 0 c).arrAt 5 cfg0.N = mean (m (c.tc.loc main_arg1)) (m (c.tc.loc main_arg2)) := by
  refine (dats m 0 c).arrAt_eq_of_covers 5 _ (by decide +kernel) fun t hf y => ?_
  have h1 := congrArg (rows (m (c.tc.loc main_arg1))) (show (win0_1.blk t).view.emb y = (win0_5.blk t).view.emb y by blk_ext [index1, index5])
  have h2 := congrArg (rows (m (c.tc.loc main_arg2))) (show (win0_2.blk t).view.emb y = (win0_5.blk t).view.emb y by blk_ext [index2, index5])
  blk_simp
  rw [after0_5]; unfold out0_5; frame_out
  unfold_payloads
  pointwise
  blk_simp [iblk]
  rw [V_v1, V_v2]
  show Adam.mean (rows (m (c.tc.loc main_arg1)) ((win0_1.blk t).view.emb y)) (rows (m (c.tc.loc main_arg2)) ((win0_2.blk t).view.emb y)) = _
  rw [h1, h2, mean]

/-- The new means of squares' array after the run. -/
theorem arr6 (c : Dev nD) : (dats m 0 c).arrAt 6 cfg0.N = square (m (c.tc.loc main_arg1)) (m (c.tc.loc main_arg3)) := by
  refine (dats m 0 c).arrAt_eq_of_covers 6 _ (by decide +kernel) fun t hf y => ?_
  have h1 := congrArg (rows (m (c.tc.loc main_arg1))) (show (win0_1.blk t).view.emb y = (win0_6.blk t).view.emb y by blk_ext [index1, index6])
  have h3 := congrArg (rows (m (c.tc.loc main_arg3))) (show (win0_3.blk t).view.emb y = (win0_6.blk t).view.emb y by blk_ext [index3, index6])
  blk_simp
  rw [after0_6]; unfold out0_6; frame_out
  unfold_payloads
  pointwise
  blk_simp [iblk]
  rw [V_v1, V_v3]
  show Adam.square (rows (m (c.tc.loc main_arg1)) ((win0_1.blk t).view.emb y)) (rows (m (c.tc.loc main_arg3)) ((win0_3.blk t).view.emb y)) = _
  rw [h1, h3, square]

section Reference
variable (w g mm vv : S2x1024x704.Idx → EReal)
/-- The reference's change. -/
theorem ref_delta : Cert.AdamUpRefIdeal.Read.val_main_v24 (F := Ideal) w g mm vv = delta w g mm vv := by
  funext i
  rw [← Cert.AdamUpRefIdeal.Read.val_main_v24_eq]
  pointwise
  rfl

/-- The reference's new mean. -/
theorem ref_mean : Cert.AdamUpRefIdeal.Read.val_main_v25 (F := Ideal) g mm = mean g mm := by
  funext i
  rw [← Cert.AdamUpRefIdeal.Read.val_main_v25_eq]
  pointwise
  rfl

/-- The reference's new mean of squares. -/
theorem ref_square : Cert.AdamUpRefIdeal.Read.val_main_v26 (F := Ideal) g vv = square g vv := by
  funext i
  rw [← Cert.AdamUpRefIdeal.Read.val_main_v26_eq]
  pointwise
  rfl

end Reference

/-- The reference changes no argument and leaves no semaphore raised. -/
theorem frame_ref : Cert.quiescent_AdamUpRefIdeal := fun m ρ _ =>
  (θ_run Cert.AdamUpRefIdeal.defs _ _).mono (fun r h => ⟨fun c => (h c).2.2.2, sem_eq_zero_of_no_sems (by decide) r.2⟩)
    (Cert.AdamUpRefIdeal.Value.run (F := Ideal) m ρ)

/-- The kernel's three arrays are the reference's. -/
theorem algebraic : Cert.algebraic_AdamUpIdeal_AdamUpRefIdeal := by
  intro m ρ m' ρ' hpre hagree
  refine ⟨fun c => delta (m (c.tc.loc main_arg0)) (m (c.tc.loc main_arg1)) (m (c.tc.loc main_arg2)) (m (c.tc.loc main_arg3)),
    fun c => mean (m (c.tc.loc main_arg1)) (m (c.tc.loc main_arg2)), fun c => square (m (c.tc.loc main_arg1)) (m (c.tc.loc main_arg3)), ?_, ?_⟩
  · exact (θ_run Cert.AdamUpIdeal.defs _ _).mono (fun _ h c => ⟨(h c).1.trans (arr4 m c), (h c).2.1.trans (arr5 m c),
      (h c).2.2.1.trans (arr6 m c), (h c).2.2.2⟩) (Cert.AdamUpIdeal.Value.run_blocks (F := Ideal) m ρ)
  · refine (θ_run Cert.AdamUpRefIdeal.defs _ _).mono (fun _ h c => ⟨(h c).1.trans ?_, (h c).2.1.trans ?_,
      (h c).2.2.1.trans ?_, (h c).2.2.2⟩) (Cert.AdamUpRefIdeal.Value.run (F := Ideal) m' ρ')
    all_goals obtain ⟨h0, h1, h2, h3⟩ := hagree c
    · rw [Cert.AdamUpRefIdeal.Read.val_main_v24_eq, h0, h1, h2, h3]
      exact ref_delta _ _ _ _
    · rw [Cert.AdamUpRefIdeal.Read.val_main_v25_eq, h1, h2]
      exact ref_mean _ _
    · rw [Cert.AdamUpRefIdeal.Read.val_main_v26_eq, h1, h3]
      exact ref_square _ _

end Cert.Proof.AdamUp

end
-- ==== Proof.AdamDown.lean ====
/-
  The optimiser's step on a share of the feed-forward block's last weight, elementwise.
-/
module

public import proofs.«01_k».proof.Defs
public import proofs.«01_k».proof.Proof.Gen.AdamDownIdeal.Value
public import proofs.«01_k».proof.Proof.Gen.AdamDownRefIdeal.Run
public import proofs.«01_k».proof.Proof.Gen.AdamDownRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt
public import proofs.«01_k».proof.Proof.Adam

@[expose] public section
noncomputable section

namespace Cert.Proof.AdamDown
open Cert.AdamDownIdeal Cert.AdamDownIdeal.Gen Idealize.ShloMosaic Idealize.ShloMosaic.TcCoe Idealize.SL.Sem
open scoped BigOperators
variable (m : (ℓ : Loc nD τ sig) → Buf (Elt Ideal) ℓ)

/-- Window 0: rows of the weight. -/
theorem index0 : ∀ t : Fin cfg0.N, win0_0.index t = ![t.val, 0] := (by decide +kernel : ∀ t : Fin grid0.N, _)
/-- Window 1: rows of the gradient. -/
theorem index1 : ∀ t : Fin cfg0.N, win0_1.index t = ![t.val, 0] := (by decide +kernel : ∀ t : Fin grid0.N, _)
/-- Window 2: rows of the gradient's mean. -/
theorem index2 : ∀ t : Fin cfg0.N, win0_2.index t = ![t.val, 0] := (by decide +kernel : ∀ t : Fin grid0.N, _)
/-- Window 3: rows of the squares' mean. -/
theorem index3 : ∀ t : Fin cfg0.N, win0_3.index t = ![t.val, 0] := (by decide +kernel : ∀ t : Fin grid0.N, _)
/-- Window 4: rows of the change. -/
theorem index4 : ∀ t : Fin cfg0.N, win0_4.index t = ![t.val, 0] := (by decide +kernel : ∀ t : Fin grid0.N, _)
/-- Window 5: rows of the new mean. -/
theorem index5 : ∀ t : Fin cfg0.N, win0_5.index t = ![t.val, 0] := (by decide +kernel : ∀ t : Fin grid0.N, _)
/-- Window 6: rows of the new mean of squares. -/
theorem index6 : ∀ t : Fin cfg0.N, win0_6.index t = ![t.val, 0] := (by decide +kernel : ∀ t : Fin grid0.N, _)

/-- The layers' matrices one below the other. -/
def rows (a : S2x704x1024.Idx → EReal) (j : S1408x1024.Idx) : EReal :=
  a (ix3 ⟨(j 0).val / 704, by have h0 : (j 0).val < 1408 := (j 0).isLt; omega⟩
    ⟨(j 0).val % 704, Nat.mod_lt _ (by norm_num)⟩ (j 1))

/-- What window 0 stages is the weight, row by row. -/
theorem V_v0 (c : Dev nD) : V m c main_v0 = rows (m (c.tc.loc main_arg0)) := by
  funext j
  unfold V rows
  after_reads_at

/-- What window 1 stages is the gradient, row by row. -/
theorem V_v1 (c : Dev nD) : V m c main_v1 = rows (m (c.tc.loc main_arg1)) := by
  funext j
  unfold V rows
  after_reads_at

/-- What window 2 stages is the gradient's mean, row by row. -/
theorem V_v2 (c : Dev nD) : V m c main_v2 = rows (m (c.tc.loc main_arg2)) := by
  funext j
  unfold V rows
  after_reads_at

/-- What window 3 stages is the squares' mean, row by row. -/
theorem V_v3 (c : Dev nD) : V m c main_v3 = rows (m (c.tc.loc main_arg3)) := by
  funext j
  unfold V rows
  after_reads_at

section Values
variable (w g mm vv : S2x704x1024.Idx → EReal)
/-- The change of the weight. -/
def delta (i : S1408x1024.Idx) : EReal := Adam.delta (rows w i) (rows g i) (rows mm i) (rows vv i)
/-- The new mean of the gradient. -/
def mean (i : S1408x1024.Idx) : EReal := Adam.mean (rows g i) (rows mm i)
/-- The new mean of its square. -/
def square (i : S1408x1024.Idx) : EReal := Adam.square (rows g i) (rows vv i)
end Values

/-- The changes' array after the run. -/
theorem arr4 (c : Dev nD) : (dats m 0 c).arrAt 4 cfg0.N = delta (m (c.tc.loc main_arg0)) (m (c.tc.loc main_arg1)) (m (c.tc.loc main_arg2)) (m (c.tc.loc main_arg3)) := by
  refine (dats m 0 c).arrAt_eq_of_covers 4 _ (by decide +kernel) fun t hf y => ?_
  have h0 := congrArg (rows (m (c.tc.loc main_arg0))) (show (win0_0.blk t).view.emb y = (win0_4.blk t).view.emb y by blk_ext [index0, index4])
  have h1 := congrArg (rows (m (c.tc.loc main_arg1))) (show (win0_1.blk t).view.emb y = (win0_4.blk t).view.emb y by blk_ext [index1, index4])
  have h2 := congrArg (rows (m (c.tc.loc main_arg2))) (show (win0_2.blk t).view.emb y = (win0_4.blk t).view.emb y by blk_ext [index2, index4])
  have h3 := congrArg (rows (m (c.tc.loc main_arg3))) (show (win0_3.blk t).view.emb y = (win0_4.blk t).view.emb y by blk_ext [index3, index4])
  blk_simp
  rw [after0_4]; unfold out0_4; frame_out
  unfold_payloads
  pointwise
  blk_simp [iblk]
  rw [V_v0, V_v1, V_v2, V_v3]
  show Adam.delta (rows (m (c.tc.loc main_arg0)) ((win0_0.blk t).view.emb y)) (rows (m (c.tc.loc main_arg1)) ((win0_1.blk t).view.emb y)) (rows (m (c.tc.loc main_arg2)) ((win0_2.blk t).view.emb y)) (rows (m (c.tc.loc main_arg3)) ((win0_3.blk t).view.emb y)) = _
  rw [h0, h1, h2, h3, delta]

/-- The new means' array after the run. -/
theorem arr5 (c : Dev nD) : (dats m 0 c).arrAt 5 cfg0.N = mean (m (c.tc.loc main_arg1)) (m (c.tc.loc main_arg2)) := by
  refine (dats m 0 c).arrAt_eq_of_covers 5 _ (by decide +kernel) fun t hf y => ?_
  have h1 := congrArg (rows (m (c.tc.loc main_arg1))) (show (win0_1.blk t).view.emb y = (win0_5.blk t).view.emb y by blk_ext [index1, index5])
  have h2 := congrArg (rows (m (c.tc.loc main_arg2))) (show (win0_2.blk t).view.emb y = (win0_5.blk t).view.emb y by blk_ext [index2, index5])
  blk_simp
  rw [after0_5]; unfold out0_5; frame_out
  unfold_payloads
  pointwise
  blk_simp [iblk]
  rw [V_v1, V_v2]
  show Adam.mean (rows (m (c.tc.loc main_arg1)) ((win0_1.blk t).view.emb y)) (rows (m (c.tc.loc main_arg2)) ((win0_2.blk t).view.emb y)) = _
  rw [h1, h2, mean]

/-- The new means of squares' array after the run. -/
theorem arr6 (c : Dev nD) : (dats m 0 c).arrAt 6 cfg0.N = square (m (c.tc.loc main_arg1)) (m (c.tc.loc main_arg3)) := by
  refine (dats m 0 c).arrAt_eq_of_covers 6 _ (by decide +kernel) fun t hf y => ?_
  have h1 := congrArg (rows (m (c.tc.loc main_arg1))) (show (win0_1.blk t).view.emb y = (win0_6.blk t).view.emb y by blk_ext [index1, index6])
  have h3 := congrArg (rows (m (c.tc.loc main_arg3))) (show (win0_3.blk t).view.emb y = (win0_6.blk t).view.emb y by blk_ext [index3, index6])
  blk_simp
  rw [after0_6]; unfold out0_6; frame_out
  unfold_payloads
  pointwise
  blk_simp [iblk]
  rw [V_v1, V_v3]
  show Adam.square (rows (m (c.tc.loc main_arg1)) ((win0_1.blk t).view.emb y)) (rows (m (c.tc.loc main_arg3)) ((win0_3.blk t).view.emb y)) = _
  rw [h1, h3, square]

section Reference
variable (w g mm vv : S2x704x1024.Idx → EReal)
/-- The reference's change. -/
theorem ref_delta : Cert.AdamDownRefIdeal.Read.val_main_v24 (F := Ideal) w g mm vv = delta w g mm vv := by
  funext i
  rw [← Cert.AdamDownRefIdeal.Read.val_main_v24_eq]
  pointwise
  rfl

/-- The reference's new mean. -/
theorem ref_mean : Cert.AdamDownRefIdeal.Read.val_main_v25 (F := Ideal) g mm = mean g mm := by
  funext i
  rw [← Cert.AdamDownRefIdeal.Read.val_main_v25_eq]
  pointwise
  rfl

/-- The reference's new mean of squares. -/
theorem ref_square : Cert.AdamDownRefIdeal.Read.val_main_v26 (F := Ideal) g vv = square g vv := by
  funext i
  rw [← Cert.AdamDownRefIdeal.Read.val_main_v26_eq]
  pointwise
  rfl

end Reference

/-- The reference changes no argument and leaves no semaphore raised. -/
theorem frame_ref : Cert.quiescent_AdamDownRefIdeal := fun m ρ _ =>
  (θ_run Cert.AdamDownRefIdeal.defs _ _).mono (fun r h => ⟨fun c => (h c).2.2.2, sem_eq_zero_of_no_sems (by decide) r.2⟩)
    (Cert.AdamDownRefIdeal.Value.run (F := Ideal) m ρ)

/-- The kernel's three arrays are the reference's. -/
theorem algebraic : Cert.algebraic_AdamDownIdeal_AdamDownRefIdeal := by
  intro m ρ m' ρ' hpre hagree
  refine ⟨fun c => delta (m (c.tc.loc main_arg0)) (m (c.tc.loc main_arg1)) (m (c.tc.loc main_arg2)) (m (c.tc.loc main_arg3)),
    fun c => mean (m (c.tc.loc main_arg1)) (m (c.tc.loc main_arg2)), fun c => square (m (c.tc.loc main_arg1)) (m (c.tc.loc main_arg3)), ?_, ?_⟩
  · exact (θ_run Cert.AdamDownIdeal.defs _ _).mono (fun _ h c => ⟨(h c).1.trans (arr4 m c), (h c).2.1.trans (arr5 m c),
      (h c).2.2.1.trans (arr6 m c), (h c).2.2.2⟩) (Cert.AdamDownIdeal.Value.run_blocks (F := Ideal) m ρ)
  · refine (θ_run Cert.AdamDownRefIdeal.defs _ _).mono (fun _ h c => ⟨(h c).1.trans ?_, (h c).2.1.trans ?_,
      (h c).2.2.1.trans ?_, (h c).2.2.2⟩) (Cert.AdamDownRefIdeal.Value.run (F := Ideal) m' ρ')
    all_goals obtain ⟨h0, h1, h2, h3⟩ := hagree c
    · rw [Cert.AdamDownRefIdeal.Read.val_main_v24_eq, h0, h1, h2, h3]
      exact ref_delta _ _ _ _
    · rw [Cert.AdamDownRefIdeal.Read.val_main_v25_eq, h1, h2]
      exact ref_mean _ _
    · rw [Cert.AdamDownRefIdeal.Read.val_main_v26_eq, h1, h3]
      exact ref_square _ _

end Cert.Proof.AdamDown

end
-- ==== Proof.AdamIn.lean ====
/-
  The optimiser's step on a share of the input projection's weight, elementwise.
-/
module

public import proofs.«01_k».proof.Defs
public import proofs.«01_k».proof.Proof.Gen.AdamInIdeal.Value
public import proofs.«01_k».proof.Proof.Gen.AdamInRefIdeal.Run
public import proofs.«01_k».proof.Proof.Gen.AdamInRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt
public import proofs.«01_k».proof.Proof.Adam

@[expose] public section
noncomputable section

namespace Cert.Proof.AdamIn
open Cert.AdamInIdeal Cert.AdamInIdeal.Gen Idealize.ShloMosaic Idealize.ShloMosaic.TcCoe Idealize.SL.Sem
open scoped BigOperators
variable (m : (ℓ : Loc nD τ sig) → Buf (Elt Ideal) ℓ)

/-- Window 0: rows of the weight. -/
theorem index0 : ∀ t : Fin cfg0.N, win0_0.index t = ![t.val, 0] := (by decide +kernel : ∀ t : Fin grid0.N, _)
/-- Window 1: rows of the gradient. -/
theorem index1 : ∀ t : Fin cfg0.N, win0_1.index t = ![t.val, 0] := (by decide +kernel : ∀ t : Fin grid0.N, _)
/-- Window 2: rows of the gradient's mean. -/
theorem index2 : ∀ t : Fin cfg0.N, win0_2.index t = ![t.val, 0] := (by decide +kernel : ∀ t : Fin grid0.N, _)
/-- Window 3: rows of the squares' mean. -/
theorem index3 : ∀ t : Fin cfg0.N, win0_3.index t = ![t.val, 0] := (by decide +kernel : ∀ t : Fin grid0.N, _)
/-- Window 4: rows of the change. -/
theorem index4 : ∀ t : Fin cfg0.N, win0_4.index t = ![t.val, 0] := (by decide +kernel : ∀ t : Fin grid0.N, _)
/-- Window 5: rows of the new mean. -/
theorem index5 : ∀ t : Fin cfg0.N, win0_5.index t = ![t.val, 0] := (by decide +kernel : ∀ t : Fin grid0.N, _)
/-- Window 6: rows of the new mean of squares. -/
theorem index6 : ∀ t : Fin cfg0.N, win0_6.index t = ![t.val, 0] := (by decide +kernel : ∀ t : Fin grid0.N, _)

/-- The layers' matrices one below the other. -/
def rows (a : S2x1024x707.Idx → EReal) (j : S2048x707.Idx) : EReal :=
  a (ix3 ⟨(j 0).val / 1024, by have h0 : (j 0).val < 2048 := (j 0).isLt; omega⟩
    ⟨(j 0).val % 1024, Nat.mod_lt _ (by norm_num)⟩ (j 1))

/-- What window 0 stages is the weight, row by row. -/
theorem V_v0 (c : Dev nD) : V m c main_v0 = rows (m (c.tc.loc main_arg0)) := by
  funext j
  unfold V rows
  after_reads_at

/-- What window 1 stages is the gradient, row by row. -/
theorem V_v1 (c : Dev nD) : V m c main_v1 = rows (m (c.tc.loc main_arg1)) := by
  funext j
  unfold V rows
  after_reads_at

/-- What window 2 stages is the gradient's mean, row by row. -/
theorem V_v2 (c : Dev nD) : V m c main_v2 = rows (m (c.tc.loc main_arg2)) := by
  funext j
  unfold V rows
  after_reads_at

/-- What window 3 stages is the squares' mean, row by row. -/
theorem V_v3 (c : Dev nD) : V m c main_v3 = rows (m (c.tc.loc main_arg3)) := by
  funext j
  unfold V rows
  after_reads_at

section Values
variable (w g mm vv : S2x1024x707.Idx → EReal)
/-- The change of the weight. -/
def delta (i : S2048x707.Idx) : EReal := Adam.delta (rows w i) (rows g i) (rows mm i) (rows vv i)
/-- The new mean of the gradient. -/
def mean (i : S2048x707.Idx) : EReal := Adam.mean (rows g i) (rows mm i)
/-- The new mean of its square. -/
def square (i : S2048x707.Idx) : EReal := Adam.square (rows g i) (rows vv i)
end Values

/-- The changes' array after the run. -/
theorem arr4 (c : Dev nD) : (dats m 0 c).arrAt 4 cfg0.N = delta (m (c.tc.loc main_arg0)) (m (c.tc.loc main_arg1)) (m (c.tc.loc main_arg2)) (m (c.tc.loc main_arg3)) := by
  refine (dats m 0 c).arrAt_eq_of_covers 4 _ (by decide +kernel) fun t hf y => ?_
  have h0 := congrArg (rows (m (c.tc.loc main_arg0))) (show (win0_0.blk t).view.emb y = (win0_4.blk t).view.emb y by blk_ext [index0, index4])
  have h1 := congrArg (rows (m (c.tc.loc main_arg1))) (show (win0_1.blk t).view.emb y = (win0_4.blk t).view.emb y by blk_ext [index1, index4])
  have h2 := congrArg (rows (m (c.tc.loc main_arg2))) (show (win0_2.blk t).view.emb y = (win0_4.blk t).view.emb y by blk_ext [index2, index4])
  have h3 := congrArg (rows (m (c.tc.loc main_arg3))) (show (win0_3.blk t).view.emb y = (win0_4.blk t).view.emb y by blk_ext [index3, index4])
  blk_simp
  rw [after0_4]; unfold out0_4; frame_out
  unfold_payloads
  pointwise
  blk_simp [iblk]
  rw [V_v0, V_v1, V_v2, V_v3]
  show Adam.delta (rows (m (c.tc.loc main_arg0)) ((win0_0.blk t).view.emb y)) (rows (m (c.tc.loc main_arg1)) ((win0_1.blk t).view.emb y)) (rows (m (c.tc.loc main_arg2)) ((win0_2.blk t).view.emb y)) (rows (m (c.tc.loc main_arg3)) ((win0_3.blk t).view.emb y)) = _
  rw [h0, h1, h2, h3, delta]

/-- The new means' array after the run. -/
theorem arr5 (c : Dev nD) : (dats m 0 c).arrAt 5 cfg0.N = mean (m (c.tc.loc main_arg1)) (m (c.tc.loc main_arg2)) := by
  refine (dats m 0 c).arrAt_eq_of_covers 5 _ (by decide +kernel) fun t hf y => ?_
  have h1 := congrArg (rows (m (c.tc.loc main_arg1))) (show (win0_1.blk t).view.emb y = (win0_5.blk t).view.emb y by blk_ext [index1, index5])
  have h2 := congrArg (rows (m (c.tc.loc main_arg2))) (show (win0_2.blk t).view.emb y = (win0_5.blk t).view.emb y by blk_ext [index2, index5])
  blk_simp
  rw [after0_5]; unfold out0_5; frame_out
  unfold_payloads
  pointwise
  blk_simp [iblk]
  rw [V_v1, V_v2]
  show Adam.mean (rows (m (c.tc.loc main_arg1)) ((win0_1.blk t).view.emb y)) (rows (m (c.tc.loc main_arg2)) ((win0_2.blk t).view.emb y)) = _
  rw [h1, h2, mean]

/-- The new means of squares' array after the run. -/
theorem arr6 (c : Dev nD) : (dats m 0 c).arrAt 6 cfg0.N = square (m (c.tc.loc main_arg1)) (m (c.tc.loc main_arg3)) := by
  refine (dats m 0 c).arrAt_eq_of_covers 6 _ (by decide +kernel) fun t hf y => ?_
  have h1 := congrArg (rows (m (c.tc.loc main_arg1))) (show (win0_1.blk t).view.emb y = (win0_6.blk t).view.emb y by blk_ext [index1, index6])
  have h3 := congrArg (rows (m (c.tc.loc main_arg3))) (show (win0_3.blk t).view.emb y = (win0_6.blk t).view.emb y by blk_ext [index3, index6])
  blk_simp
  rw [after0_6]; unfold out0_6; frame_out
  unfold_payloads
  pointwise
  blk_simp [iblk]
  rw [V_v1, V_v3]
  show Adam.square (rows (m (c.tc.loc main_arg1)) ((win0_1.blk t).view.emb y)) (rows (m (c.tc.loc main_arg3)) ((win0_3.blk t).view.emb y)) = _
  rw [h1, h3, square]

section Reference
variable (w g mm vv : S2x1024x707.Idx → EReal)
/-- The reference's change. -/
theorem ref_delta : Cert.AdamInRefIdeal.Read.val_main_v24 (F := Ideal) w g mm vv = delta w g mm vv := by
  funext i
  rw [← Cert.AdamInRefIdeal.Read.val_main_v24_eq]
  pointwise
  rfl

/-- The reference's new mean. -/
theorem ref_mean : Cert.AdamInRefIdeal.Read.val_main_v25 (F := Ideal) g mm = mean g mm := by
  funext i
  rw [← Cert.AdamInRefIdeal.Read.val_main_v25_eq]
  pointwise
  rfl

/-- The reference's new mean of squares. -/
theorem ref_square : Cert.AdamInRefIdeal.Read.val_main_v26 (F := Ideal) g vv = square g vv := by
  funext i
  rw [← Cert.AdamInRefIdeal.Read.val_main_v26_eq]
  pointwise
  rfl

end Reference

/-- The reference changes no argument and leaves no semaphore raised. -/
theorem frame_ref : Cert.quiescent_AdamInRefIdeal := fun m ρ _ =>
  (θ_run Cert.AdamInRefIdeal.defs _ _).mono (fun r h => ⟨fun c => (h c).2.2.2, sem_eq_zero_of_no_sems (by decide) r.2⟩)
    (Cert.AdamInRefIdeal.Value.run (F := Ideal) m ρ)

/-- The kernel's three arrays are the reference's. -/
theorem algebraic : Cert.algebraic_AdamInIdeal_AdamInRefIdeal := by
  intro m ρ m' ρ' hpre hagree
  refine ⟨fun c => delta (m (c.tc.loc main_arg0)) (m (c.tc.loc main_arg1)) (m (c.tc.loc main_arg2)) (m (c.tc.loc main_arg3)),
    fun c => mean (m (c.tc.loc main_arg1)) (m (c.tc.loc main_arg2)), fun c => square (m (c.tc.loc main_arg1)) (m (c.tc.loc main_arg3)), ?_, ?_⟩
  · exact (θ_run Cert.AdamInIdeal.defs _ _).mono (fun _ h c => ⟨(h c).1.trans (arr4 m c), (h c).2.1.trans (arr5 m c),
      (h c).2.2.1.trans (arr6 m c), (h c).2.2.2⟩) (Cert.AdamInIdeal.Value.run_blocks (F := Ideal) m ρ)
  · refine (θ_run Cert.AdamInRefIdeal.defs _ _).mono (fun _ h c => ⟨(h c).1.trans ?_, (h c).2.1.trans ?_,
      (h c).2.2.1.trans ?_, (h c).2.2.2⟩) (Cert.AdamInRefIdeal.Value.run (F := Ideal) m' ρ')
    all_goals obtain ⟨h0, h1, h2, h3⟩ := hagree c
    · rw [Cert.AdamInRefIdeal.Read.val_main_v24_eq, h0, h1, h2, h3]
      exact ref_delta _ _ _ _
    · rw [Cert.AdamInRefIdeal.Read.val_main_v25_eq, h1, h2]
      exact ref_mean _ _
    · rw [Cert.AdamInRefIdeal.Read.val_main_v26_eq, h1, h3]
      exact ref_square _ _

end Cert.Proof.AdamIn

end
-- ==== Proof.AdamOut.lean ====
/-
  The optimiser's step on a share of the output projection's weight, elementwise.
-/
module

public import proofs.«01_k».proof.Defs
public import proofs.«01_k».proof.Proof.Gen.AdamOutIdeal.Value
public import proofs.«01_k».proof.Proof.Gen.AdamOutRefIdeal.Run
public import proofs.«01_k».proof.Proof.Gen.AdamOutRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt
public import proofs.«01_k».proof.Proof.Adam

@[expose] public section
noncomputable section

namespace Cert.Proof.AdamOut
open Cert.AdamOutIdeal Cert.AdamOutIdeal.Gen Idealize.ShloMosaic Idealize.ShloMosaic.TcCoe Idealize.SL.Sem
open scoped BigOperators
variable (m : (ℓ : Loc nD τ sig) → Buf (Elt Ideal) ℓ)

/-- Window 0: rows of the weight. -/
theorem index0 : ∀ t : Fin cfg0.N, win0_0.index t = ![t.val, 0] := (by decide +kernel : ∀ t : Fin grid0.N, _)
/-- Window 1: rows of the gradient. -/
theorem index1 : ∀ t : Fin cfg0.N, win0_1.index t = ![t.val, 0] := (by decide +kernel : ∀ t : Fin grid0.N, _)
/-- Window 2: rows of the gradient's mean. -/
theorem index2 : ∀ t : Fin cfg0.N, win0_2.index t = ![t.val, 0] := (by decide +kernel : ∀ t : Fin grid0.N, _)
/-- Window 3: rows of the squares' mean. -/
theorem index3 : ∀ t : Fin cfg0.N, win0_3.index t = ![t.val, 0] := (by decide +kernel : ∀ t : Fin grid0.N, _)
/-- Window 4: rows of the change. -/
theorem index4 : ∀ t : Fin cfg0.N, win0_4.index t = ![t.val, 0] := (by decide +kernel : ∀ t : Fin grid0.N, _)
/-- Window 5: rows of the new mean. -/
theorem index5 : ∀ t : Fin cfg0.N, win0_5.index t = ![t.val, 0] := (by decide +kernel : ∀ t : Fin grid0.N, _)
/-- Window 6: rows of the new mean of squares. -/
theorem index6 : ∀ t : Fin cfg0.N, win0_6.index t = ![t.val, 0] := (by decide +kernel : ∀ t : Fin grid0.N, _)

/-- The layers' matrices one below the other. -/
def rows (a : S2x256x1024.Idx → EReal) (j : S512x1024.Idx) : EReal :=
  a (ix3 ⟨(j 0).val / 256, by have h0 : (j 0).val < 512 := (j 0).isLt; omega⟩
    ⟨(j 0).val % 256, Nat.mod_lt _ (by norm_num)⟩ (j 1))

/-- What window 0 stages is the weight, row by row. -/
theorem V_v0 (c : Dev nD) : V m c main_v0 = rows (m (c.tc.loc main_arg0)) := by
  funext j
  unfold V rows
  after_reads_at

/-- What window 1 stages is the gradient, row by row. -/
theorem V_v1 (c : Dev nD) : V m c main_v1 = rows (m (c.tc.loc main_arg1)) := by
  funext j
  unfold V rows
  after_reads_at

/-- What window 2 stages is the gradient's mean, row by row. -/
theorem V_v2 (c : Dev nD) : V m c main_v2 = rows (m (c.tc.loc main_arg2)) := by
  funext j
  unfold V rows
  after_reads_at

/-- What window 3 stages is the squares' mean, row by row. -/
theorem V_v3 (c : Dev nD) : V m c main_v3 = rows (m (c.tc.loc main_arg3)) := by
  funext j
  unfold V rows
  after_reads_at

section Values
variable (w g mm vv : S2x256x1024.Idx → EReal)
/-- The change of the weight. -/
def delta (i : S512x1024.Idx) : EReal := Adam.delta (rows w i) (rows g i) (rows mm i) (rows vv i)
/-- The new mean of the gradient. -/
def mean (i : S512x1024.Idx) : EReal := Adam.mean (rows g i) (rows mm i)
/-- The new mean of its square. -/
def square (i : S512x1024.Idx) : EReal := Adam.square (rows g i) (rows vv i)
end Values

/-- The changes' array after the run. -/
theorem arr4 (c : Dev nD) : (dats m 0 c).arrAt 4 cfg0.N = delta (m (c.tc.loc main_arg0)) (m (c.tc.loc main_arg1)) (m (c.tc.loc main_arg2)) (m (c.tc.loc main_arg3)) := by
  refine (dats m 0 c).arrAt_eq_of_covers 4 _ (by decide +kernel) fun t hf y => ?_
  have h0 := congrArg (rows (m (c.tc.loc main_arg0))) (show (win0_0.blk t).view.emb y = (win0_4.blk t).view.emb y by blk_ext [index0, index4])
  have h1 := congrArg (rows (m (c.tc.loc main_arg1))) (show (win0_1.blk t).view.emb y = (win0_4.blk t).view.emb y by blk_ext [index1, index4])
  have h2 := congrArg (rows (m (c.tc.loc main_arg2))) (show (win0_2.blk t).view.emb y = (win0_4.blk t).view.emb y by blk_ext [index2, index4])
  have h3 := congrArg (rows (m (c.tc.loc main_arg3))) (show (win0_3.blk t).view.emb y = (win0_4.blk t).view.emb y by blk_ext [index3, index4])
  blk_simp
  rw [after0_4]; unfold out0_4; frame_out
  unfold_payloads
  pointwise
  blk_simp [iblk]
  rw [V_v0, V_v1, V_v2, V_v3]
  show Adam.delta (rows (m (c.tc.loc main_arg0)) ((win0_0.blk t).view.emb y)) (rows (m (c.tc.loc main_arg1)) ((win0_1.blk t).view.emb y)) (rows (m (c.tc.loc main_arg2)) ((win0_2.blk t).view.emb y)) (rows (m (c.tc.loc main_arg3)) ((win0_3.blk t).view.emb y)) = _
  rw [h0, h1, h2, h3, delta]

/-- The new means' array after the run. -/
theorem arr5 (c : Dev nD) : (dats m 0 c).arrAt 5 cfg0.N = mean (m (c.tc.loc main_arg1)) (m (c.tc.loc main_arg2)) := by
  refine (dats m 0 c).arrAt_eq_of_covers 5 _ (by decide +kernel) fun t hf y => ?_
  have h1 := congrArg (rows (m (c.tc.loc main_arg1))) (show (win0_1.blk t).view.emb y = (win0_5.blk t).view.emb y by blk_ext [index1, index5])
  have h2 := congrArg (rows (m (c.tc.loc main_arg2))) (show (win0_2.blk t).view.emb y = (win0_5.blk t).view.emb y by blk_ext [index2, index5])
  blk_simp
  rw [after0_5]; unfold out0_5; frame_out
  unfold_payloads
  pointwise
  blk_simp [iblk]
  rw [V_v1, V_v2]
  show Adam.mean (rows (m (c.tc.loc main_arg1)) ((win0_1.blk t).view.emb y)) (rows (m (c.tc.loc main_arg2)) ((win0_2.blk t).view.emb y)) = _
  rw [h1, h2, mean]

/-- The new means of squares' array after the run. -/
theorem arr6 (c : Dev nD) : (dats m 0 c).arrAt 6 cfg0.N = square (m (c.tc.loc main_arg1)) (m (c.tc.loc main_arg3)) := by
  refine (dats m 0 c).arrAt_eq_of_covers 6 _ (by decide +kernel) fun t hf y => ?_
  have h1 := congrArg (rows (m (c.tc.loc main_arg1))) (show (win0_1.blk t).view.emb y = (win0_6.blk t).view.emb y by blk_ext [index1, index6])
  have h3 := congrArg (rows (m (c.tc.loc main_arg3))) (show (win0_3.blk t).view.emb y = (win0_6.blk t).view.emb y by blk_ext [index3, index6])
  blk_simp
  rw [after0_6]; unfold out0_6; frame_out
  unfold_payloads
  pointwise
  blk_simp [iblk]
  rw [V_v1, V_v3]
  show Adam.square (rows (m (c.tc.loc main_arg1)) ((win0_1.blk t).view.emb y)) (rows (m (c.tc.loc main_arg3)) ((win0_3.blk t).view.emb y)) = _
  rw [h1, h3, square]

section Reference
variable (w g mm vv : S2x256x1024.Idx → EReal)
/-- The reference's change. -/
theorem ref_delta : Cert.AdamOutRefIdeal.Read.val_main_v24 (F := Ideal) w g mm vv = delta w g mm vv := by
  funext i
  rw [← Cert.AdamOutRefIdeal.Read.val_main_v24_eq]
  pointwise
  rfl

/-- The reference's new mean. -/
theorem ref_mean : Cert.AdamOutRefIdeal.Read.val_main_v25 (F := Ideal) g mm = mean g mm := by
  funext i
  rw [← Cert.AdamOutRefIdeal.Read.val_main_v25_eq]
  pointwise
  rfl

/-- The reference's new mean of squares. -/
theorem ref_square : Cert.AdamOutRefIdeal.Read.val_main_v26 (F := Ideal) g vv = square g vv := by
  funext i
  rw [← Cert.AdamOutRefIdeal.Read.val_main_v26_eq]
  pointwise
  rfl

end Reference

/-- The reference changes no argument and leaves no semaphore raised. -/
theorem frame_ref : Cert.quiescent_AdamOutRefIdeal := fun m ρ _ =>
  (θ_run Cert.AdamOutRefIdeal.defs _ _).mono (fun r h => ⟨fun c => (h c).2.2.2, sem_eq_zero_of_no_sems (by decide) r.2⟩)
    (Cert.AdamOutRefIdeal.Value.run (F := Ideal) m ρ)

/-- The kernel's three arrays are the reference's. -/
theorem algebraic : Cert.algebraic_AdamOutIdeal_AdamOutRefIdeal := by
  intro m ρ m' ρ' hpre hagree
  refine ⟨fun c => delta (m (c.tc.loc main_arg0)) (m (c.tc.loc main_arg1)) (m (c.tc.loc main_arg2)) (m (c.tc.loc main_arg3)),
    fun c => mean (m (c.tc.loc main_arg1)) (m (c.tc.loc main_arg2)), fun c => square (m (c.tc.loc main_arg1)) (m (c.tc.loc main_arg3)), ?_, ?_⟩
  · exact (θ_run Cert.AdamOutIdeal.defs _ _).mono (fun _ h c => ⟨(h c).1.trans (arr4 m c), (h c).2.1.trans (arr5 m c),
      (h c).2.2.1.trans (arr6 m c), (h c).2.2.2⟩) (Cert.AdamOutIdeal.Value.run_blocks (F := Ideal) m ρ)
  · refine (θ_run Cert.AdamOutRefIdeal.defs _ _).mono (fun _ h c => ⟨(h c).1.trans ?_, (h c).2.1.trans ?_,
      (h c).2.2.1.trans ?_, (h c).2.2.2⟩) (Cert.AdamOutRefIdeal.Value.run (F := Ideal) m' ρ')
    all_goals obtain ⟨h0, h1, h2, h3⟩ := hagree c
    · rw [Cert.AdamOutRefIdeal.Read.val_main_v24_eq, h0, h1, h2, h3]
      exact ref_delta _ _ _ _
    · rw [Cert.AdamOutRefIdeal.Read.val_main_v25_eq, h1, h2]
      exact ref_mean _ _
    · rw [Cert.AdamOutRefIdeal.Read.val_main_v26_eq, h1, h3]
      exact ref_square _ _

end Cert.Proof.AdamOut

end
-- ==== Proof.AdamProj.lean ====
/-
  The optimiser's step on a share of the embedding's weight, elementwise.
-/
module

public import proofs.«01_k».proof.Defs
public import proofs.«01_k».proof.Proof.Gen.AdamProjIdeal.Value
public import proofs.«01_k».proof.Proof.Gen.AdamProjRefIdeal.Run
public import proofs.«01_k».proof.Proof.Gen.AdamProjRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt
public import proofs.«01_k».proof.Proof.Adam

@[expose] public section
noncomputable section

namespace Cert.Proof.AdamProj
open Cert.AdamProjIdeal Cert.AdamProjIdeal.Gen Idealize.ShloMosaic Idealize.ShloMosaic.TcCoe Idealize.SL.Sem
open scoped BigOperators
variable (m : (ℓ : Loc nD τ sig) → Buf (Elt Ideal) ℓ)

/-- Window 0: rows of the weight. -/
theorem index0 : ∀ t : Fin cfg0.N, win0_0.index t = ![t.val, 0] := (by decide +kernel : ∀ t : Fin grid0.N, _)
/-- Window 1: rows of the gradient. -/
theorem index1 : ∀ t : Fin cfg0.N, win0_1.index t = ![t.val, 0] := (by decide +kernel : ∀ t : Fin grid0.N, _)
/-- Window 2: rows of the gradient's mean. -/
theorem index2 : ∀ t : Fin cfg0.N, win0_2.index t = ![t.val, 0] := (by decide +kernel : ∀ t : Fin grid0.N, _)
/-- Window 3: rows of the squares' mean. -/
theorem index3 : ∀ t : Fin cfg0.N, win0_3.index t = ![t.val, 0] := (by decide +kernel : ∀ t : Fin grid0.N, _)
/-- Window 4: rows of the change. -/
theorem index4 : ∀ t : Fin cfg0.N, win0_4.index t = ![t.val, 0] := (by decide +kernel : ∀ t : Fin grid0.N, _)
/-- Window 5: rows of the new mean. -/
theorem index5 : ∀ t : Fin cfg0.N, win0_5.index t = ![t.val, 0] := (by decide +kernel : ∀ t : Fin grid0.N, _)
/-- Window 6: rows of the new mean of squares. -/
theorem index6 : ∀ t : Fin cfg0.N, win0_6.index t = ![t.val, 0] := (by decide +kernel : ∀ t : Fin grid0.N, _)

/-- The layers' matrices one below the other. -/
def rows (a : S2x256x256.Idx → EReal) (j : S512x256.Idx) : EReal :=
  a (ix3 ⟨(j 0).val / 256, by have h0 : (j 0).val < 512 := (j 0).isLt; omega⟩
    ⟨(j 0).val % 256, Nat.mod_lt _ (by norm_num)⟩ (j 1))

/-- What window 0 stages is the weight, row by row. -/
theorem V_v0 (c : Dev nD) : V m c main_v0 = rows (m (c.tc.loc main_arg0)) := by
  funext j
  unfold V rows
  after_reads_at

/-- What window 1 stages is the gradient, row by row. -/
theorem V_v1 (c : Dev nD) : V m c main_v1 = rows (m (c.tc.loc main_arg1)) := by
  funext j
  unfold V rows
  after_reads_at

/-- What window 2 stages is the gradient's mean, row by row. -/
theorem V_v2 (c : Dev nD) : V m c main_v2 = rows (m (c.tc.loc main_arg2)) := by
  funext j
  unfold V rows
  after_reads_at

/-- What window 3 stages is the squares' mean, row by row. -/
theorem V_v3 (c : Dev nD) : V m c main_v3 = rows (m (c.tc.loc main_arg3)) := by
  funext j
  unfold V rows
  after_reads_at

section Values
variable (w g mm vv : S2x256x256.Idx → EReal)
/-- The change of the weight. -/
def delta (i : S512x256.Idx) : EReal := Adam.delta (rows w i) (rows g i) (rows mm i) (rows vv i)
/-- The new mean of the gradient. -/
def mean (i : S512x256.Idx) : EReal := Adam.mean (rows g i) (rows mm i)
/-- The new mean of its square. -/
def square (i : S512x256.Idx) : EReal := Adam.square (rows g i) (rows vv i)
end Values

/-- The changes' array after the run. -/
theorem arr4 (c : Dev nD) : (dats m 0 c).arrAt 4 cfg0.N = delta (m (c.tc.loc main_arg0)) (m (c.tc.loc main_arg1)) (m (c.tc.loc main_arg2)) (m (c.tc.loc main_arg3)) := by
  refine (dats m 0 c).arrAt_eq_of_covers 4 _ (by decide +kernel) fun t hf y => ?_
  have h0 := congrArg (rows (m (c.tc.loc main_arg0))) (show (win0_0.blk t).view.emb y = (win0_4.blk t).view.emb y by blk_ext [index0, index4])
  have h1 := congrArg (rows (m (c.tc.loc main_arg1))) (show (win0_1.blk t).view.emb y = (win0_4.blk t).view.emb y by blk_ext [index1, index4])
  have h2 := congrArg (rows (m (c.tc.loc main_arg2))) (show (win0_2.blk t).view.emb y = (win0_4.blk t).view.emb y by blk_ext [index2, index4])
  have h3 := congrArg (rows (m (c.tc.loc main_arg3))) (show (win0_3.blk t).view.emb y = (win0_4.blk t).view.emb y by blk_ext [index3, index4])
  blk_simp
  rw [after0_4]; unfold out0_4; frame_out
  unfold_payloads
  pointwise
  blk_simp [iblk]
  rw [V_v0, V_v1, V_v2, V_v3]
  show Adam.delta (rows (m (c.tc.loc main_arg0)) ((win0_0.blk t).view.emb y)) (rows (m (c.tc.loc main_arg1)) ((win0_1.blk t).view.emb y)) (rows (m (c.tc.loc main_arg2)) ((win0_2.blk t).view.emb y)) (rows (m (c.tc.loc main_arg3)) ((win0_3.blk t).view.emb y)) = _
  rw [h0, h1, h2, h3, delta]

/-- The new means' array after the run. -/
theorem arr5 (c : Dev nD) : (dats m 0 c).arrAt 5 cfg0.N = mean (m (c.tc.loc main_arg1)) (m (c.tc.loc main_arg2)) := by
  refine (dats m 0 c).arrAt_eq_of_covers 5 _ (by decide +kernel) fun t hf y => ?_
  have h1 := congrArg (rows (m (c.tc.loc main_arg1))) (show (win0_1.blk t).view.emb y = (win0_5.blk t).view.emb y by blk_ext [index1, index5])
  have h2 := congrArg (rows (m (c.tc.loc main_arg2))) (show (win0_2.blk t).view.emb y = (win0_5.blk t).view.emb y by blk_ext [index2, index5])
  blk_simp
  rw [after0_5]; unfold out0_5; frame_out
  unfold_payloads
  pointwise
  blk_simp [iblk]
  rw [V_v1, V_v2]
  show Adam.mean (rows (m (c.tc.loc main_arg1)) ((win0_1.blk t).view.emb y)) (rows (m (c.tc.loc main_arg2)) ((win0_2.blk t).view.emb y)) = _
  rw [h1, h2, mean]

/-- The new means of squares' array after the run. -/
theorem arr6 (c : Dev nD) : (dats m 0 c).arrAt 6 cfg0.N = square (m (c.tc.loc main_arg1)) (m (c.tc.loc main_arg3)) := by
  refine (dats m 0 c).arrAt_eq_of_covers 6 _ (by decide +kernel) fun t hf y => ?_
  have h1 := congrArg (rows (m (c.tc.loc main_arg1))) (show (win0_1.blk t).view.emb y = (win0_6.blk t).view.emb y by blk_ext [index1, index6])
  have h3 := congrArg (rows (m (c.tc.loc main_arg3))) (show (win0_3.blk t).view.emb y = (win0_6.blk t).view.emb y by blk_ext [index3, index6])
  blk_simp
  rw [after0_6]; unfold out0_6; frame_out
  unfold_payloads
  pointwise
  blk_simp [iblk]
  rw [V_v1, V_v3]
  show Adam.square (rows (m (c.tc.loc main_arg1)) ((win0_1.blk t).view.emb y)) (rows (m (c.tc.loc main_arg3)) ((win0_3.blk t).view.emb y)) = _
  rw [h1, h3, square]

section Reference
variable (w g mm vv : S2x256x256.Idx → EReal)
/-- The reference's change. -/
theorem ref_delta : Cert.AdamProjRefIdeal.Read.val_main_v24 (F := Ideal) w g mm vv = delta w g mm vv := by
  funext i
  rw [← Cert.AdamProjRefIdeal.Read.val_main_v24_eq]
  pointwise
  rfl

/-- The reference's new mean. -/
theorem ref_mean : Cert.AdamProjRefIdeal.Read.val_main_v25 (F := Ideal) g mm = mean g mm := by
  funext i
  rw [← Cert.AdamProjRefIdeal.Read.val_main_v25_eq]
  pointwise
  rfl

/-- The reference's new mean of squares. -/
theorem ref_square : Cert.AdamProjRefIdeal.Read.val_main_v26 (F := Ideal) g vv = square g vv := by
  funext i
  rw [← Cert.AdamProjRefIdeal.Read.val_main_v26_eq]
  pointwise
  rfl

end Reference

/-- The reference changes no argument and leaves no semaphore raised. -/
theorem frame_ref : Cert.quiescent_AdamProjRefIdeal := fun m ρ _ =>
  (θ_run Cert.AdamProjRefIdeal.defs _ _).mono (fun r h => ⟨fun c => (h c).2.2.2, sem_eq_zero_of_no_sems (by decide) r.2⟩)
    (Cert.AdamProjRefIdeal.Value.run (F := Ideal) m ρ)

/-- The kernel's three arrays are the reference's. -/
theorem algebraic : Cert.algebraic_AdamProjIdeal_AdamProjRefIdeal := by
  intro m ρ m' ρ' hpre hagree
  refine ⟨fun c => delta (m (c.tc.loc main_arg0)) (m (c.tc.loc main_arg1)) (m (c.tc.loc main_arg2)) (m (c.tc.loc main_arg3)),
    fun c => mean (m (c.tc.loc main_arg1)) (m (c.tc.loc main_arg2)), fun c => square (m (c.tc.loc main_arg1)) (m (c.tc.loc main_arg3)), ?_, ?_⟩
  · exact (θ_run Cert.AdamProjIdeal.defs _ _).mono (fun _ h c => ⟨(h c).1.trans (arr4 m c), (h c).2.1.trans (arr5 m c),
      (h c).2.2.1.trans (arr6 m c), (h c).2.2.2⟩) (Cert.AdamProjIdeal.Value.run_blocks (F := Ideal) m ρ)
  · refine (θ_run Cert.AdamProjRefIdeal.defs _ _).mono (fun _ h c => ⟨(h c).1.trans ?_, (h c).2.1.trans ?_,
      (h c).2.2.1.trans ?_, (h c).2.2.2⟩) (Cert.AdamProjRefIdeal.Value.run (F := Ideal) m' ρ')
    all_goals obtain ⟨h0, h1, h2, h3⟩ := hagree c
    · rw [Cert.AdamProjRefIdeal.Read.val_main_v24_eq, h0, h1, h2, h3]
      exact ref_delta _ _ _ _
    · rw [Cert.AdamProjRefIdeal.Read.val_main_v25_eq, h1, h2]
      exact ref_mean _ _
    · rw [Cert.AdamProjRefIdeal.Read.val_main_v26_eq, h1, h3]
      exact ref_square _ _

end Cert.Proof.AdamProj

end
-- ==== Proof.AdamSmall.lean ====
/-
  The optimiser's step on the packed small weights, elementwise.
-/
module

public import proofs.«01_k».proof.Defs
public import proofs.«01_k».proof.Proof.Gen.AdamSmallIdeal.Value
public import proofs.«01_k».proof.Proof.Gen.AdamSmallRefIdeal.Run
public import proofs.«01_k».proof.Proof.Gen.AdamSmallRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt
public import proofs.«01_k».proof.Proof.Adam

@[expose] public section
noncomputable section

namespace Cert.Proof.AdamSmall
open Cert.AdamSmallIdeal Cert.AdamSmallIdeal.Gen Idealize.ShloMosaic Idealize.ShloMosaic.TcCoe Idealize.SL.Sem
open scoped BigOperators
variable (m : (ℓ : Loc nD τ sig) → Buf (Elt Ideal) ℓ)

/-- Window 0: rows of the weight. -/
theorem index0 : ∀ t : Fin cfg0.N, win0_0.index t = ![t.val, 0] := (by decide +kernel : ∀ t : Fin grid0.N, _)
/-- Window 1: rows of the gradient. -/
theorem index1 : ∀ t : Fin cfg0.N, win0_1.index t = ![t.val, 0] := (by decide +kernel : ∀ t : Fin grid0.N, _)
/-- Window 2: rows of the gradient's mean. -/
theorem index2 : ∀ t : Fin cfg0.N, win0_2.index t = ![t.val, 0] := (by decide +kernel : ∀ t : Fin grid0.N, _)
/-- Window 3: rows of the squares' mean. -/
theorem index3 : ∀ t : Fin cfg0.N, win0_3.index t = ![t.val, 0] := (by decide +kernel : ∀ t : Fin grid0.N, _)
/-- Window 4: rows of the change. -/
theorem index4 : ∀ t : Fin cfg0.N, win0_4.index t = ![t.val, 0] := (by decide +kernel : ∀ t : Fin grid0.N, _)
/-- Window 5: rows of the new mean. -/
theorem index5 : ∀ t : Fin cfg0.N, win0_5.index t = ![t.val, 0] := (by decide +kernel : ∀ t : Fin grid0.N, _)
/-- Window 6: rows of the new mean of squares. -/
theorem index6 : ∀ t : Fin cfg0.N, win0_6.index t = ![t.val, 0] := (by decide +kernel : ∀ t : Fin grid0.N, _)

section Values
variable (w g mm vv : S736x128.Idx → EReal)
/-- The change of the weight. -/
def delta (i : S736x128.Idx) : EReal := Adam.delta (w i) (g i) (mm i) (vv i)
/-- The new mean of the gradient. -/
def mean (i : S736x128.Idx) : EReal := Adam.mean (g i) (mm i)
/-- The new mean of its square. -/
def square (i : S736x128.Idx) : EReal := Adam.square (g i) (vv i)
end Values

/-- The changes' array after the run. -/
theorem arr4 (c : Dev nD) : (dats m 0 c).arrAt 4 cfg0.N = delta (m (c.tc.loc main_arg0)) (m (c.tc.loc main_arg1)) (m (c.tc.loc main_arg2)) (m (c.tc.loc main_arg3)) := by
  refine (dats m 0 c).arrAt_eq_of_covers 4 _ (by decide +kernel) fun t hf y => ?_
  have h0 := congrArg (m (c.tc.loc main_arg0)) (show (win0_0.blk t).view.emb y = (win0_4.blk t).view.emb y by blk_ext [index0, index4])
  have h1 := congrArg (m (c.tc.loc main_arg1)) (show (win0_1.blk t).view.emb y = (win0_4.blk t).view.emb y by blk_ext [index1, index4])
  have h2 := congrArg (m (c.tc.loc main_arg2)) (show (win0_2.blk t).view.emb y = (win0_4.blk t).view.emb y by blk_ext [index2, index4])
  have h3 := congrArg (m (c.tc.loc main_arg3)) (show (win0_3.blk t).view.emb y = (win0_4.blk t).view.emb y by blk_ext [index3, index4])
  blk_simp
  rw [after0_4]; unfold out0_4; frame_out
  unfold_payloads
  pointwise
  blk_simp [iblk]
  rw [V_main_arg0, V_main_arg1, V_main_arg2, V_main_arg3]
  show Adam.delta (m (c.tc.loc main_arg0) ((win0_0.blk t).view.emb y)) (m (c.tc.loc main_arg1) ((win0_1.blk t).view.emb y)) (m (c.tc.loc main_arg2) ((win0_2.blk t).view.emb y)) (m (c.tc.loc main_arg3) ((win0_3.blk t).view.emb y)) = _
  rw [h0, h1, h2, h3, delta]

/-- The new means' array after the run. -/
theorem arr5 (c : Dev nD) : (dats m 0 c).arrAt 5 cfg0.N = mean (m (c.tc.loc main_arg1)) (m (c.tc.loc main_arg2)) := by
  refine (dats m 0 c).arrAt_eq_of_covers 5 _ (by decide +kernel) fun t hf y => ?_
  have h1 := congrArg (m (c.tc.loc main_arg1)) (show (win0_1.blk t).view.emb y = (win0_5.blk t).view.emb y by blk_ext [index1, index5])
  have h2 := congrArg (m (c.tc.loc main_arg2)) (show (win0_2.blk t).view.emb y = (win0_5.blk t).view.emb y by blk_ext [index2, index5])
  blk_simp
  rw [after0_5]; unfold out0_5; frame_out
  unfold_payloads
  pointwise
  blk_simp [iblk]
  rw [V_main_arg1, V_main_arg2]
  show Adam.mean (m (c.tc.loc main_arg1) ((win0_1.blk t).view.emb y)) (m (c.tc.loc main_arg2) ((win0_2.blk t).view.emb y)) = _
  rw [h1, h2, mean]

/-- The new means of squares' array after the run. -/
theorem arr6 (c : Dev nD) : (dats m 0 c).arrAt 6 cfg0.N = square (m (c.tc.loc main_arg1)) (m (c.tc.loc main_arg3)) := by
  refine (dats m 0 c).arrAt_eq_of_covers 6 _ (by decide +kernel) fun t hf y => ?_
  have h1 := congrArg (m (c.tc.loc main_arg1)) (show (win0_1.blk t).view.emb y = (win0_6.blk t).view.emb y by blk_ext [index1, index6])
  have h3 := congrArg (m (c.tc.loc main_arg3)) (show (win0_3.blk t).view.emb y = (win0_6.blk t).view.emb y by blk_ext [index3, index6])
  blk_simp
  rw [after0_6]; unfold out0_6; frame_out
  unfold_payloads
  pointwise
  blk_simp [iblk]
  rw [V_main_arg1, V_main_arg3]
  show Adam.square (m (c.tc.loc main_arg1) ((win0_1.blk t).view.emb y)) (m (c.tc.loc main_arg3) ((win0_3.blk t).view.emb y)) = _
  rw [h1, h3, square]

section Reference
variable (w g mm vv : S736x128.Idx → EReal)
/-- The reference's change. -/
theorem ref_delta : Cert.AdamSmallRefIdeal.Read.val_main_v23 (F := Ideal) w g mm vv = delta w g mm vv := by
  funext i
  rw [← Cert.AdamSmallRefIdeal.Read.val_main_v23_eq]
  pointwise
  rfl

/-- The reference's new mean. -/
theorem ref_mean : Cert.AdamSmallRefIdeal.Read.val_main_v4 (F := Ideal) g mm = mean g mm := by
  funext i
  rw [← Cert.AdamSmallRefIdeal.Read.val_main_v4_eq]
  pointwise
  rfl

/-- The reference's new mean of squares. -/
theorem ref_square : Cert.AdamSmallRefIdeal.Read.val_main_v10 (F := Ideal) g vv = square g vv := by
  funext i
  rw [← Cert.AdamSmallRefIdeal.Read.val_main_v10_eq]
  pointwise
  rfl

end Reference

/-- The reference changes no argument and leaves no semaphore raised. -/
theorem frame_ref : Cert.quiescent_AdamSmallRefIdeal := fun m ρ _ =>
  (θ_run Cert.AdamSmallRefIdeal.defs _ _).mono (fun r h => ⟨fun c => (h c).2.2.2, sem_eq_zero_of_no_sems (by decide) r.2⟩)
    (Cert.AdamSmallRefIdeal.Value.run (F := Ideal) m ρ)

/-- The kernel's three arrays are the reference's. -/
theorem algebraic : Cert.algebraic_AdamSmallIdeal_AdamSmallRefIdeal := by
  intro m ρ m' ρ' hpre hagree
  refine ⟨fun c => delta (m (c.tc.loc main_arg0)) (m (c.tc.loc main_arg1)) (m (c.tc.loc main_arg2)) (m (c.tc.loc main_arg3)),
    fun c => mean (m (c.tc.loc main_arg1)) (m (c.tc.loc main_arg2)), fun c => square (m (c.tc.loc main_arg1)) (m (c.tc.loc main_arg3)), ?_, ?_⟩
  · exact (θ_run Cert.AdamSmallIdeal.defs _ _).mono (fun _ h c => ⟨(h c).1.trans (arr4 m c), (h c).2.1.trans (arr5 m c),
      (h c).2.2.1.trans (arr6 m c), (h c).2.2.2⟩) (Cert.AdamSmallIdeal.Value.run_blocks (F := Ideal) m ρ)
  · refine (θ_run Cert.AdamSmallRefIdeal.defs _ _).mono (fun _ h c => ⟨(h c).1.trans ?_, (h c).2.1.trans ?_,
      (h c).2.2.1.trans ?_, (h c).2.2.2⟩) (Cert.AdamSmallRefIdeal.Value.run (F := Ideal) m' ρ')
    all_goals obtain ⟨h0, h1, h2, h3⟩ := hagree c
    · rw [Cert.AdamSmallRefIdeal.Read.val_main_v23_eq, h0, h1, h2, h3]
      exact ref_delta _ _ _ _
    · rw [Cert.AdamSmallRefIdeal.Read.val_main_v4_eq, h1, h2]
      exact ref_mean _ _
    · rw [Cert.AdamSmallRefIdeal.Read.val_main_v10_eq, h1, h3]
      exact ref_square _ _

end Cert.Proof.AdamSmall

end
-- ==== Proof.Suffix.lean ====
/-
  Sums of a column from a row on: as the host's window sum prints them, and as a kernel builds them by eight rotations.
-/
module

public import Idealize.ShloMosaic.PureOps.Ideal
public import Idealize.ShloMosaic.Lib.Pointwise
public import Idealize.ShloMosaic.Lib.KernelVsHost
public import Idealize.ShloMosaic.Lib.Routing.OpsOne

@[expose] public section

noncomputable section

namespace Cert.Proof

open Idealize.ShloMosaic Idealize.ShloMosaic.Routing
open scoped BigOperators

/-- The sum of the entries from `n` on, up to `N`. -/
def suffix (f : ℕ → EReal) (N n : ℕ) : EReal := ∑ k ∈ Finset.Ico n N, f k

/-- A left fold that adds a term at each step is the start and the sum of the terms. -/
theorem foldl_add_eq {ι : Type} (l : List ι) (s : EReal → ι → EReal) (g : ι → EReal) (h : ∀ a i, s a i = a + g i) (v : EReal) :
    l.foldl s v = v + (l.map g).sum := by
  induction l generalizing v with
  | nil => simp
  | cons a l ih => rw [List.foldl_cons, ih, h, List.map_cons, List.sum_cons, add_assoc]

/-- A column's entries, and zero beyond it. -/
def column {R C : Nat} (x : (shape2 R C).Idx → EReal) (c : Fin C) (n : ℕ) : EReal := if h : n < R then x (ix2 ⟨n, h⟩ c) else 0

/-- The host's sum over a window of the whole height that begins at a row: the column's sum from that row on. -/
theorem window_suffix {R Rm1 C : Nat} (hR : Rm1 + 1 = R) (x : (shape2 R C).Idx → EReal) (init : EReal) (hinit : init = 0)
    (h : (shape2 R C).ReduceWindows (![R, 1] : Fin 2 → Nat) ![1, 1] ![0, 0] ![Rm1, 0] (shape2 R C)) (j : Fin R) (c : Fin C) :
    Ideal.hostReduceWindowAdd ![R, 1] ![1, 1] ![0, 0] ![Rm1, 0] h x init (ix2 j c) = suffix (column x c) R j.val := by
  subst hR hinit
  have hj := j.isLt
  have hc := c.isLt
  unfold Ideal.hostReduceWindowAdd Host.reduceWindow
  refine (foldl_add_eq _ _ (fun n => column x c (j.val + n.val)) (fun a n => ?_) _).trans ?_
  · have hw0 : ((shape2 (Rm1 + 1) 1).rowMajor.symm n 0).val = n.val := by rw [symm_col]; rfl
    have hw1 : ((shape2 (Rm1 + 1) 1).rowMajor.symm n 1).val = 0 := by rw [symm_col]; rfl
    have hn : n.val < Rm1 + 1 := (n.cast (numel_col _)).isLt
    dsimp only
    congr 1
    split
    · next hin =>
      have h0 := hin 0
      change 0 ≤ j.val * 1 + ((shape2 (Rm1 + 1) 1).rowMajor.symm n 0).val
        ∧ j.val * 1 + ((shape2 (Rm1 + 1) 1).rowMajor.symm n 0).val - 0 < Rm1 + 1 at h0
      rw [hw0] at h0
      rw [column, dif_pos (by omega)]
      refine congrArg x (funext fun a => Fin.ext ?_)
      match a with
      | ⟨0, _⟩ =>
        show j.val * 1 + ((shape2 (Rm1 + 1) 1).rowMajor.symm n 0).val - 0 = j.val + n.val
        rw [hw0]; omega
      | ⟨1, _⟩ =>
        show c.val * 1 + ((shape2 (Rm1 + 1) 1).rowMajor.symm n 1).val - 0 = c.val
        rw [hw1]; omega
    · next hin =>
      rw [column, dif_neg fun hle => hin fun a => by
        match a with
        | ⟨0, _⟩ =>
          show 0 ≤ j.val * 1 + ((shape2 (Rm1 + 1) 1).rowMajor.symm n 0).val
            ∧ j.val * 1 + ((shape2 (Rm1 + 1) 1).rowMajor.symm n 0).val - 0 < Rm1 + 1
          rw [hw0]
          omega
        | ⟨1, _⟩ =>
          show 0 ≤ c.val * 1 + ((shape2 (Rm1 + 1) 1).rowMajor.symm n 1).val ∧ c.val * 1 + ((shape2 (Rm1 + 1) 1).rowMajor.symm n 1).val - 0 < C
          rw [hw1]
          omega]
  · have e : ((List.finRange (shape2 (Rm1 + 1) 1).numel).map fun n => column x c (j.val + n.val)).sum
        = ∑ n ∈ Finset.range (shape2 (Rm1 + 1) 1).numel, column x c (j.val + n) := by
      rw [← Fin.sum_univ_eq_sum_range (fun n => column x c (j.val + n)), ← List.sum_ofFn, List.ofFn_eq_map]
    rw [zero_add, e, numel_col, suffix, Finset.sum_Ico_eq_sum_range]
    exact (Finset.sum_subset (Finset.range_mono (Nat.sub_le _ _)) fun n _ hn => by
      rw [column, dif_neg]; rw [Finset.mem_range] at hn; omega).symm

/-- A block's part of a column's sum from a row on, and the sum from the block's end on. -/
theorem block_suffix (f g : ℕ → EReal) (B N q p : ℕ) (hp : p < B) (hq : q + B ≤ N) (hg : ∀ n, n < B → g n = f (q + n))
    (hg0 : ∀ n, B ≤ n → g n = 0) : ∑ k ∈ Finset.range B, g (p + k) + suffix f N (q + B) = suffix f N (q + p) := by
  have e : ∑ k ∈ Finset.range B, g (p + k) = ∑ k ∈ Finset.Ico (q + p) (q + B), f k := by
    rw [Finset.sum_Ico_eq_sum_range, show q + B - (q + p) = B - p by omega]
    refine (Finset.sum_subset (Finset.range_mono (Nat.sub_le _ _)) fun n _ hn => ?_).symm.trans
      (Finset.sum_congr rfl fun n hn => ?_)
    · rw [Finset.mem_range] at hn
      exact hg0 _ (by omega)
    · rw [Finset.mem_range] at hn
      rw [hg _ (by omega), ← add_assoc]
  rw [e, suffix, suffix, Finset.sum_Ico_consecutive _ (by omega) hq]

/-- The sum from the end on is zero. -/
theorem suffix_end (f : ℕ → EReal) (N : ℕ) : suffix f N N = 0 := by simp [suffix]

/-- Two neighbouring runs of `d` terms are a run of `d + d`. -/
theorem two_runs (f : ℕ → EReal) (d p : ℕ) :
    ∑ k ∈ Finset.range d, f (p + k) + ∑ k ∈ Finset.range d, f (p + d + k) = ∑ k ∈ Finset.range (d + d), f (p + k) := by
  rw [Finset.sum_range_add]
  simp only [add_assoc]

/-- Signed comparison of two small numbers, as words. -/
theorem slt_small {p s : ℕ} (hp : p < 256) (hs : s < 256) :
    IntOp.cmpi .slt (BitVec.ofNat 32 p) (BitVec.ofNat 32 s) = BitVec.ofBool (decide (p < s)) := by
  unfold IntOp.cmpi
  have small : ∀ n : ℕ, n < 256 → (BitVec.ofNat 32 n).toInt = n := fun n hn => by
    rw [BitVec.toInt_eq_toNat_of_lt, BitVec.toNat_ofNat, Nat.mod_eq_of_lt (by omega)]
    rw [BitVec.toNat_ofNat, Nat.mod_eq_of_lt (by omega)]; omega
  simp only [BitVec.slt, small p hp, small s hs, Int.ofNat_lt]

/-- Equality of two small numbers, as words. -/
theorem eq_small {a b : ℕ} (ha : a < 256) (hb : b < 256) :
    IntOp.cmpi .eq (BitVec.ofNat 32 a) (BitVec.ofNat 32 b) = BitVec.ofBool (decide (a = b)) := by
  unfold IntOp.cmpi
  have e : (BitVec.ofNat 32 a == BitVec.ofNat 32 b) = decide (a = b) := by
    rw [Bool.eq_iff_iff, beq_iff_eq, decide_eq_true_iff]
    refine ⟨fun h => ?_, fun h => by rw [h]⟩
    have h' := congrArg BitVec.toNat h
    rw [BitVec.toNat_ofNat, BitVec.toNat_ofNat, Nat.mod_eq_of_lt (by omega), Nat.mod_eq_of_lt (by omega)] at h'
    exact h'
  simp only [e]

end Cert.Proof

end
-- ==== Proof.Logistic.lean ====
/-
  The derivative of the softplus function as a traced program writes it, exp (x - softplus x), is the logistic function, at
  the infinities too.
-/
module

public import Idealize.ShloMosaic.PureOps.Ideal
public import Idealize.ShloMosaic.Lib.Pointwise

@[expose] public section

noncomputable section

namespace Cert.Proof

open Idealize.ShloMosaic

/-- Softplus, written so that the exponential doesn't overflow. -/
def softplus (x : EReal) : EReal := max x 0 + Ideal.log1p (Ideal.exp (-(max x (-x))))

/-- The larger of two reals, as an extended real. -/
theorem max_coe (a b : ℝ) : ((max a b : ℝ) : EReal) = max (a : EReal) (b : EReal) := EReal.coe_strictMono.monotone.map_max

/-- Softplus of a real. -/
theorem softplus_coe (r : ℝ) : softplus (r : EReal) = ((max r 0 + Real.log (1 + Real.exp (-(max r (-r)))) : ℝ) : EReal) := by
  have h : (0 : ℝ) < 1 + Real.exp (-(max r (-r))) := by positivity
  have e : Ideal.log1p (Ideal.exp (-(max (r : EReal) (-(r : EReal))))) = ((Real.log (1 + Real.exp (-(max r (-r)))) : ℝ) : EReal) := by
    rw [← EReal.coe_neg, ← max_coe, ← EReal.coe_neg]
    show Ideal.log (1 + ((Real.exp (-(max r (-r))) : ℝ) : EReal)) = _
    rw [← EReal.coe_one, ← EReal.coe_add]
    show (if 1 + Real.exp (-(max r (-r))) ≤ 0 then ⊥ else ((Real.log (1 + Real.exp (-(max r (-r)))) : ℝ) : EReal)) = _
    rw [if_neg (not_le.2 h)]
  rw [softplus, e, EReal.coe_add, max_coe, EReal.coe_zero]

/-- The real case: the derivative of softplus is the logistic function. -/
theorem exp_sub_softplus (r : ℝ) : Real.exp (r - (max r 0 + Real.log (1 + Real.exp (-(max r (-r)))))) = (1 + Real.exp (-r))⁻¹ := by
  have h : (0 : ℝ) < 1 + Real.exp (-(max r (-r))) := by positivity
  rw [← sub_sub, Real.exp_sub, Real.exp_log h]
  rcases le_total 0 r with hr | hr
  · rw [max_eq_left hr, max_eq_left (by linarith), sub_self, Real.exp_zero, one_div]
  · rw [max_eq_right hr, max_eq_right (by linarith), sub_zero, neg_neg, Real.exp_neg]
    have := Real.exp_pos r
    field_simp
    ring

/-- The logarithm's term at an infinity. -/
theorem log1p_exp_bot : Ideal.log1p (Ideal.exp ⊥) = 0 := by
  show Ideal.log (1 + (0 : EReal)) = 0
  rw [add_zero, ← EReal.coe_one]
  show (if (1 : ℝ) ≤ 0 then ⊥ else ((Real.log 1 : ℝ) : EReal)) = 0
  rw [if_neg (by norm_num), Real.log_one, EReal.coe_zero]

/-- The derivative of softplus as a traced program writes it, with the two values at plus infinity replaced by zero. -/
theorem softplus_deriv (x : EReal) :
    Ideal.exp ((if x = ⊤ then 0 else x) - (if softplus x = ⊤ then 0 else softplus x)) = Ideal.logistic x := by
  induction x with
  | bot =>
    have e : softplus ⊥ = 0 := by
      rw [softplus, EReal.neg_bot, max_eq_right bot_le, max_eq_right bot_le, EReal.neg_top, log1p_exp_bot, add_zero]
    rw [e]; simp
  | coe r =>
    rw [softplus_coe, if_neg (EReal.coe_ne_top _), if_neg (EReal.coe_ne_top _), ← EReal.coe_sub]
    show ((Real.exp _ : ℝ) : EReal) = _
    rw [exp_sub_softplus, Ideal.logistic_coe]
  | top =>
    have e : softplus ⊤ = ⊤ := by
      rw [softplus, EReal.neg_top, max_eq_left le_top, max_eq_left le_top, EReal.neg_top, log1p_exp_bot, add_zero]
    rw [e, if_pos rfl, sub_zero, Ideal.logistic_top]
    show ((Real.exp 0 : ℝ) : EReal) = 1
    simp

end Cert.Proof

end
-- ==== Proof.FoxPost.lean ====
/-
  The gradient of the attention's forget gate: the gate is the running sum of log (sigmoid (z + b)) down the rows. Its
  gradient is the cotangent's sum from a row on, times the derivative of log sigmoid, and the bias's gradient is the sum
  of it over the rows. The kernel visits the blocks of rows from the last to the first, sums a block's column by eight
  rotations, carries the sum of the later blocks, and adds up the bias's gradient. No condition is needed.
-/
module

public import proofs.«01_k».proof.Defs
public import proofs.«01_k».proof.Proof.Gen.FoxPostIdeal.Value
public import proofs.«01_k».proof.Proof.Gen.FoxPostRefIdeal.Run
public import proofs.«01_k».proof.Proof.Gen.FoxPostRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt
public import proofs.«01_k».proof.Proof.Finite
public import proofs.«01_k».proof.Proof.Sums
public import proofs.«01_k».proof.Proof.Suffix
public import proofs.«01_k».proof.Proof.Logistic

@[expose] public section
noncomputable section

namespace Cert.Proof.FoxPost
open Cert.FoxPostIdeal Cert.FoxPostIdeal.Gen Idealize.ShloMosaic Idealize.ShloMosaic.TcCoe Idealize.SL.Sem
open scoped BigOperators
variable (m : (ℓ : Loc nD τ sig) → Buf (Elt Ideal) ℓ)

/-- Window 0: rows of the cotangent, from the last block to the first. -/
theorem index0 : ∀ t : Fin cfg0.N, win0_0.index t = ![31 - t.val, 0] := (by decide +kernel : ∀ t : Fin grid0.N, _)
/-- Window 1: rows of the gate's columns. -/
theorem index1 : ∀ t : Fin cfg0.N, win0_1.index t = ![31 - t.val, 22] := (by decide +kernel : ∀ t : Fin grid0.N, _)
/-- Window 2: the bias. -/
theorem index2 : ∀ t : Fin cfg0.N, win0_2.index t = ![0, 0] := (by decide +kernel : ∀ t : Fin grid0.N, _)
/-- Window 3: rows of the result. -/
theorem index3 : ∀ t : Fin cfg0.N, win0_3.index t = ![31 - t.val, 0] := (by decide +kernel : ∀ t : Fin grid0.N, _)
/-- Window 4: the bias's gradient. -/
theorem index4 : ∀ t : Fin cfg0.N, win0_4.index t = ![0, 0] := (by decide +kernel : ∀ t : Fin grid0.N, _)

section Values
variable (dfc : S8192x128.Idx → EReal) (h : S8192x3072.Idx → EReal) (b : S1x128.Idx → EReal)

/-- The gate's column of a lane. -/
def gateCol (l : Fin 128) : Fin 3072 := ⟨2816 + l.val, by have := l.isLt; omega⟩

/-- The gradient of the gate's argument: zero past the four heads. -/
def dz (i : S8192x128.Idx) : EReal :=
  if (i 1).val < 4 then suffix (column dfc (i 1)) 8192 (i 0).val * Ideal.logistic (0 - (h (ix2 (i 0) (gateCol (i 1))) + b (ix2 0 (i 1)))) else 0

/-- One row's term of the bias's gradient. -/
def biasTerm (y : S1x128.Idx) (p : Fin 8192) : EReal := dz dfc h b (ix2 p (y 1))
end Values

section Payloads

/-- One of the eight steps: each row adds the row a distance below it, if it is in the block. -/
def step (s : BitVec 32) (x : FVec Ideal S256x128 .f32) : FVec Ideal S256x128 .f32 :=
  addf x (select (cmpi .slt (iota .tc S256x128 32 [0] iota_S256x128_d0_w32) (broadcast S256x128 s))
    (dynamicRotate 0 s none x rotates_S256x128_d0) (broadcast S256x128 (Scalar.ofBits .f32 0x00000000#32)))

/-- A step at a row. -/
theorem step_at (s : ℕ) (hs : s < 256) (x : FVec Ideal S256x128 .f32) (p : Fin 256) (l : Fin 128) :
    step (BitVec.ofNat 32 s) x (ix2 p l)
      = HAdd.hAdd (α := EReal) (β := EReal) (x (ix2 p l)) (if h : p.val < s then x (ix2 ⟨p.val + (256 - s), by omega⟩ l) else 0) := by
  have e : step (BitVec.ofNat 32 s) x (ix2 p l) = HAdd.hAdd (α := EReal) (β := EReal) (x (ix2 p l))
      (Scalar.select (IntOp.cmpi .slt (BitVec.ofNat 32 p.val) (BitVec.ofNat 32 s))
        (dynamicRotate 0 (BitVec.ofNat 32 s) none x rotates_S256x128_d0 (ix2 p l)) (0 : EReal)) := by
    unfold step
    pointwise
  rw [e, slt_small p.isLt hs, Scalar.select_decide]
  congr 1
  split
  · next h =>
    refine dynamicRotate_apply 0 _ x _ _ (ix2 ⟨p.val + (256 - s), by omega⟩ l) fun a => ?_
    match a with
    | ⟨0, _⟩ =>
      have hn : (BitVec.ofNat 32 s).toNat = s := by rw [BitVec.toNat_ofNat]; omega
      show p.val + (256 - s) = (p.val + 256 - (BitVec.ofNat 32 s).toNat % 256) % 256
      rw [hn]; omega
    | ⟨1, _⟩ => rfl
  · rfl

/-- A step doubles the length of the runs that the rows hold. -/
theorem step_runs (s d : ℕ) (hsd : s + d = 256) (hd : 0 < d) (x : FVec Ideal S256x128 .f32) (l : Fin 128) (f : ℕ → EReal) (hf : ∀ n, 256 ≤ n → f n = 0)
    (hx : ∀ p : Fin 256, x (ix2 p l) = ∑ k ∈ Finset.range d, f (p.val + k)) (p : Fin 256) :
    step (BitVec.ofNat 32 s) x (ix2 p l) = ∑ k ∈ Finset.range (d + d), f (p.val + k) := by
  rw [step_at s (by omega), ← two_runs]
  refine congrArg₂ _ (hx p) ?_
  split
  · next h => rw [hx]; simp only [show p.val + (256 - s) = p.val + d by omega]
  · exact (Finset.sum_eq_zero fun k _ => hf _ (by omega)).symm

/-- A column past its end. -/
theorem column_past (x : FVec Ideal S256x128 .f32) (l : Fin 128) (n : ℕ) (h : 256 ≤ n) : column (R := 256) x l n = 0 := dif_neg (by omega)

/-- Five steps. -/
theorem pay4_at (v : Vec Ideal S256x128 .f32) (p : Fin 256) (l : Fin 128) :
    k0_pay4 v (ix2 p l) = ∑ k ∈ Finset.range 32, column (R := 256) v l (p.val + k) := by
  have e : k0_pay4 v = step 240#32 (step 248#32 (step 252#32 (step 254#32 (step 255#32 v)))) := rfl
  have hf := column_past v l
  rw [e]
  refine step_runs 240 16 rfl (by omega) _ l _ hf (step_runs 248 8 rfl (by omega) _ l _ hf (step_runs 252 4 rfl (by omega) _ l _ hf
    (step_runs 254 2 rfl (by omega) _ l _ hf (step_runs 255 1 rfl (by omega) _ l _ hf fun q => ?_)))) p
  rw [Finset.sum_range_one, add_zero, column, dif_pos q.isLt]

/-- The last three steps and the later blocks' sum. -/
theorem pay6_at (v : Vec Ideal S256x128 .f32) (w : Vec Ideal S1x128 .f32) (p : Fin 256) (l : Fin 128) :
    k0_pay6 (iota .tc S256x128 32 [0] iota_S256x128_d0_w32) (k0_pay4 v) k0_pay5 224#32 w (ix2 p l)
      = HAdd.hAdd (α := EReal) (β := EReal) (∑ k ∈ Finset.range 256, column (R := 256) v l (p.val + k)) (w (ix2 0 l)) := by
  have e : k0_pay6 (iota .tc S256x128 32 [0] iota_S256x128_d0_w32) (k0_pay4 v) k0_pay5 224#32 w
      = addf (step 128#32 (step 192#32 (step 224#32 (k0_pay4 v)))) (broadcastTo S256x128 w broadcasts_S1x128_S256x128) := rfl
  have hf := column_past v l
  rw [e]
  pointwise
  refine congrArg₂ _ ?_ ?_
  · exact step_runs 128 128 rfl (by omega) _ l _ hf (step_runs 192 64 rfl (by omega) _ l _ hf (step_runs 224 32 rfl (by omega) _ l _ hf
      fun q => pay4_at v q l)) p
  · rfl

/-- What is carried on: the first row. -/
theorem pay7_at (v : Vec Ideal S256x128 .f32) (w : Vec Ideal S1x128 .f32) (r : Fin 8) (l : Fin 128) :
    k0_pay7 (iota .tc S256x128 32 [0] iota_S256x128_d0_w32) (k0_pay4 v) k0_pay5 224#32 w (ix2 r l)
      = k0_pay6 (iota .tc S256x128 32 [0] iota_S256x128_d0_w32) (k0_pay4 v) k0_pay5 224#32 w (ix2 0 l) := by
  unfold k0_pay7
  pointwise

/-- The gradient in a block. -/
theorem pay8_at (v : Vec Ideal S256x128 .f32) (w : Vec Ideal S1x128 .f32) (z : Vec Ideal S256x128 .f32) (b : Vec Ideal S1x128 .f32) (p : Fin 256) (l : Fin 128) :
    k0_pay8 (iota .tc S256x128 32 [0] iota_S256x128_d0_w32) (k0_pay4 v) k0_pay5 224#32 w z b (ix2 p l)
      = if l.val < 4 then HMul.hMul (α := EReal) (β := EReal)
          (k0_pay6 (iota .tc S256x128 32 [0] iota_S256x128_d0_w32) (k0_pay4 v) k0_pay5 224#32 w (ix2 p l))
          (Ideal.logistic (HSub.hSub (α := EReal) (β := EReal) 0 (HAdd.hAdd (α := EReal) (β := EReal) (z (ix2 p l)) (b (ix2 0 l))))) else 0 := by
  have e : k0_pay8 (iota .tc S256x128 32 [0] iota_S256x128_d0_w32) (k0_pay4 v) k0_pay5 224#32 w z b (ix2 p l)
      = Scalar.select (IntOp.cmpi .slt (BitVec.ofNat 32 l.val) (BitVec.ofNat 32 4)) (HMul.hMul (α := EReal) (β := EReal)
          (k0_pay6 (iota .tc S256x128 32 [0] iota_S256x128_d0_w32) (k0_pay4 v) k0_pay5 224#32 w (ix2 p l))
          (Ideal.logistic (HSub.hSub (α := EReal) (β := EReal) 0 (HAdd.hAdd (α := EReal) (β := EReal) (z (ix2 p l)) (b (ix2 0 l)))))) (0 : EReal) := by
    unfold k0_pay8
    pointwise
  rw [e, slt_small (by have := l.isLt; omega) (by omega), Scalar.select_decide]

/-- The bias's gradient with a block's part added. -/
theorem pay1_at (d : FVec Ideal S256x128 .f32) (a : Vec Ideal S1x128 .f32) (y : S1x128.Idx) :
    k0_pay1 d a y = HAdd.hAdd (α := EReal) (β := EReal) (a y) (∑ x : Fin 256, (d (ix2 x (y 1)) : EReal)) := by
  unfold k0_pay1
  pointwise
end Payloads

/-- The row of the arrays that row `x` of the block of point `t` is. -/
def rowAt (t : Fin cfg0.N) (x : Fin 256) : Fin 8192 :=
  ⟨256 * (31 - t.val) + x.val, by have := x.isLt; omega⟩

/-- The row that a point finds carried from the later blocks. -/
def incoming (c : Dev nD) (t : Fin cfg0.N) (l : Fin 128) : EReal :=
  if t.val % 32 = 0 then 0 else (outsAt0 m c (t.val - 1) (Nat.lt_of_le_of_lt (Nat.sub_le _ _) t.isLt)).2.2 (ix2 0 l)

/-- A block's column's sum from a row on, with what was carried. -/
def total (c : Dev nD) (t : Fin cfg0.N) (p : ℕ) (l : Fin 128) : EReal :=
  ∑ k ∈ Finset.range 256, column (R := 256) (iblk m c 0 t) l (p + k) + incoming m c t l

/-- The first row of the carried buffer, loaded. -/
theorem ld_row (X : Vec Ideal S8x128 .f32) (l : Fin 128) :
    View.ld X (Rect.unit (s := S8x128) ![0, 0] S1x128.size inb_S8x128_S1x128_0_0) (ix2 (0 : Fin 1) l) = X (ix2 0 l) :=
  congrArg X (funext fun a => Fin.ext (by match a with | ⟨0, _⟩ => rfl | ⟨1, _⟩ => show 0 + 1 * l.val = l.val; omega))

/-- The same, of the buffer just filled with zeros. -/
theorem readCov_row (l : Fin 128) :
    View.readCov (Val := Elt Ideal) (View.whole cc0_scratch0) [⟨Rect.unit (s := S8x128) ![0, 0] S8x128.size inb_S8x128_S8x128_0_0, k0_pay2 (F := Ideal)⟩]
        (Rect.unit (s := S8x128) ![0, 0] S1x128.size inb_S8x128_S1x128_0_0).toLoadRect (ix2 (0 : Fin 1) l) = (0 : EReal) := by
  have e := View.readCov_fill (Val := Elt Ideal) (View.whole cc0_scratch0) inb_S8x128_S8x128_0_0 (k0_pay2 (F := Ideal)) []
    (Rect.unit (s := S8x128) ![0, 0] S1x128.size inb_S8x128_S1x128_0_0) (by decide)
  refine (congrFun e (ix2 (0 : Fin 1) l)).trans ((ld_row _ l).trans ?_)
  unfold k0_pay2
  pointwise

/-- What a point leaves carried. -/
theorem carried (c : Dev nD) (t : Fin cfg0.N) (r : Fin 8) (l : Fin 128) :
    (outsAt0 m c t.val t.isLt).2.2 (ix2 r l) = total m c t 0 l := by
  unfold total incoming
  by_cases h0 : t.val % 32 = 0
  · rw [if_pos h0, outsAt0_A m c t h0]; dsimp only; unfold sout0_A_0; frame_out
    exact (pay7_at _ _ r l).trans ((pay6_at _ _ 0 l).trans (congrArg (HAdd.hAdd (α := EReal) (β := EReal) _) (readCov_row l)))
  · rw [if_neg h0, outsAt0_B m c t h0]; dsimp only; unfold sout0_B_0; frame_out
    refine (pay7_at _ _ r l).trans ((pay6_at _ _ 0 l).trans (congrArg (HAdd.hAdd (α := EReal) (β := EReal) _) ?_))
    rw [read_unread_whole, ld_row]

/-- The gradient in a block, off its blocks. -/
def dzBlk (c : Dev nD) (t : Fin cfg0.N) (p : Fin 256) (l : Fin 128) : EReal :=
  if l.val < 4 then total m c t p.val l * Ideal.logistic (HSub.hSub (α := EReal) (β := EReal) 0
    (HAdd.hAdd (α := EReal) (β := EReal) (iblk m c 1 t (ix2 p l)) (iblk m c 2 t (ix2 0 l)))) else 0

/-- What a point writes of the gradient. -/
theorem point3 (c : Dev nD) (t : Fin cfg0.N) (p : Fin 256) (l : Fin 128) :
    (outsAt0 m c t.val t.isLt).1 (ix2 p l) = dzBlk m c t p l := by
  unfold dzBlk total incoming
  by_cases h0 : t.val % 32 = 0
  · rw [if_pos h0, outsAt0_A m c t h0]; dsimp only; unfold out0_A_3; frame_out
    refine (pay8_at _ _ _ _ p l).trans ?_
    rw [pay6_at, readCov_row]
  · rw [if_neg h0, outsAt0_B m c t h0]; dsimp only; unfold out0_B_3; frame_out
    refine (pay8_at _ _ _ _ p l).trans ?_
    rw [pay6_at, read_unread_whole, ld_row]

/-- An element of a block's row of the cotangent is the array's. -/
theorem emb0 (t : Fin cfg0.N) (p : Fin 256) (l : Fin 128) : (win0_0.blk t).view.emb (ix2 p l) = ix2 (rowAt t p) l := by
  unfold rowAt
  blk_ext [index0]
/-- An element of a block's row of the gate's columns is the array's. -/
theorem emb1 (t : Fin cfg0.N) (p : Fin 256) (l : Fin 128) : (win0_1.blk t).view.emb (ix2 p l) = ix2 (rowAt t p) (gateCol l) := by
  unfold rowAt gateCol
  blk_ext [index1]
/-- An element of the bias is the array's. -/
theorem emb2 (t : Fin cfg0.N) (l : Fin 128) : (win0_2.blk t).view.emb (ix2 (0 : Fin 1) l) = ix2 0 l := by
  blk_ext [index2]
/-- An element of a block's row of the result is the array's. -/
theorem emb3 (t : Fin cfg0.N) (p : Fin 256) (l : Fin 128) : (win0_3.blk t).view.emb (ix2 p l) = ix2 (rowAt t p) l := by
  unfold rowAt
  blk_ext [index3]

/-- A block's column is the array's from the block's first row on. -/
theorem column_blk (c : Dev nD) (t : Fin cfg0.N) (l : Fin 128) (n : ℕ) (hn : n < 256) :
    column (R := 256) (iblk m c 0 t) l n = column (R := 8192) (m (c.tc.loc main_arg0)) l (256 * (31 - t.val) + n) := by
  rw [column, column, dif_pos hn, dif_pos (by omega)]
  blk_simp [iblk]
  rw [V_main_arg0, emb0]
  rfl

/-- The number of points. -/
theorem point_lt (t : Fin cfg0.N) : t.val < 32 := lt_of_lt_of_eq t.isLt (show cfg0.N = 32 from N_0)

/-- A block's sum from a row on, with the later blocks' sum. -/
theorem total_of (c : Dev nD) (t : Fin cfg0.N) (l : Fin 128) (p : ℕ) (hp : p < 256)
    (h : incoming m c t l = suffix (column (R := 8192) (m (c.tc.loc main_arg0)) l) 8192 (256 * (31 - t.val) + 256)) :
    total m c t p l = suffix (column (R := 8192) (m (c.tc.loc main_arg0)) l) 8192 (256 * (31 - t.val) + p) := by
  rw [total, h]
  exact block_suffix _ _ 256 8192 _ p hp (by omega) (fun n hn => column_blk m c t l n hn) (column_past _ l)

/-- What a point finds carried is the column's sum over the later blocks. -/
theorem incoming_eq (c : Dev nD) (l : Fin 128) : ∀ (n : ℕ) (hn : n < cfg0.N),
    incoming m c ⟨n, hn⟩ l = suffix (column (R := 8192) (m (c.tc.loc main_arg0)) l) 8192 (256 * (31 - n) + 256) := by
  intro n
  induction n with
  | zero => intro hn; rw [incoming, if_pos (Nat.zero_mod _)]; exact (suffix_end _ _).symm
  | succ n ih =>
    intro hn
    have hn' : n < cfg0.N := by omega
    have h32 := point_lt ⟨n + 1, hn⟩
    change n + 1 < 32 at h32
    rw [incoming, if_neg (by show ¬(n + 1) % 32 = 0; omega)]
    refine (carried m c ⟨n, hn'⟩ 0 l).trans ((total_of m c ⟨n, hn'⟩ l 0 (by omega) (ih hn')).trans ?_)
    show suffix _ 8192 (256 * (31 - n) + 0) = suffix _ 8192 (256 * (31 - (n + 1)) + 256)
    congr 1
    omega

/-- The gradient in a block is the gradient. -/
theorem dzBlk_eq (c : Dev nD) (t : Fin cfg0.N) (p : Fin 256) (l : Fin 128) :
    dzBlk m c t p l = dz (m (c.tc.loc main_arg0)) (m (c.tc.loc main_arg1)) (m (c.tc.loc main_arg2)) (ix2 (rowAt t p) l) := by
  have h1 : iblk m c 1 t (ix2 p l) = m (c.tc.loc main_arg1) (ix2 (rowAt t p) (gateCol l)) := by
    blk_simp [iblk]
    rw [V_main_arg1, emb1]
  have h2 : iblk m c 2 t (ix2 (0 : Fin 1) l) = m (c.tc.loc main_arg2) (ix2 0 l) := by
    blk_simp [iblk]
    rw [V_main_arg2, emb2]
  rw [dzBlk, total_of m c t l p.val p.isLt (incoming_eq m c l t.val t.isLt), h1, h2]
  rfl

/-- The gradient after the run. -/
theorem arr3 (c : Dev nD) : (dats m 0 c).arrAt 3 cfg0.N = dz (m (c.tc.loc main_arg0)) (m (c.tc.loc main_arg1)) (m (c.tc.loc main_arg2)) := by
  refine (dats m 0 c).arrAt_eq_of_covers 3 _ (by decide +kernel) fun t hf y => ?_
  blk_simp
  rw [after0_3]
  obtain ⟨p, l, rfl⟩ : ∃ (p : Fin 256) (l : Fin 128), y = ix2 p l := ⟨y 0, y 1, eq_ix2 y⟩
  rw [emb3]
  exact (point3 m c t p l).trans (dzBlk_eq m c t p l)

/-- The bias's gradient after the body at the first point. -/
theorem point4_A (c : Dev nD) (t : Fin cfg0.N) (h0 : t.val % 32 = 0) (y : S1x128.Idx) :
    (outsAt0 m c t.val t.isLt).2.1 y = HAdd.hAdd (α := EReal) (β := EReal) 0 (∑ x : Fin 256, biasTerm (m (c.tc.loc main_arg0)) (m (c.tc.loc main_arg1)) (m (c.tc.loc main_arg2)) y (rowAt t x)) := by
  have h3 := fun x : Fin 256 => (point3 m c t x (y 1)).trans (dzBlk_eq m c t x (y 1))
  rw [outsAt0_A m c t h0] at h3 ⊢; dsimp only at h3 ⊢; unfold out0_A_3 at h3; unfold out0_A_4; frame_out at h3; frame_out
  refine (pay1_at _ _ y).trans (congrArg₂ _ ?_ (sum_ext h3))
  unfold k0_pay3
  pointwise

/-- The bias's gradient after the body at the later points. -/
theorem point4_B (c : Dev nD) (t : Fin cfg0.N) (h0 : ¬t.val % 32 = 0) (y : S1x128.Idx) :
    (outsAt0 m c t.val t.isLt).2.1 y = HAdd.hAdd (α := EReal) (β := EReal) ((outsAt0 m c (t.val - 1) (Nat.lt_of_le_of_lt (Nat.sub_le _ _) t.isLt)).2.1 y)
      (∑ x : Fin 256, biasTerm (m (c.tc.loc main_arg0)) (m (c.tc.loc main_arg1)) (m (c.tc.loc main_arg2)) y (rowAt t x)) := by
  have h3 := fun x : Fin 256 => (point3 m c t x (y 1)).trans (dzBlk_eq m c t x (y 1))
  rw [outsAt0_B m c t h0] at h3 ⊢; dsimp only at h3 ⊢; unfold out0_B_3 at h3; unfold out0_B_4; frame_out at h3; frame_out
  exact (pay1_at _ _ y).trans (congrArg₂ _ rfl (sum_ext h3))

/-- The grid's last point. -/
def lastPoint : Fin cfg0.N := ⟨31, by rw [show cfg0.N = 32 from N_0]; omega⟩

/-- The bias's gradient after the run. -/
theorem arr4 (c : Dev nD) : (dats m 0 c).arrAt 4 cfg0.N = fun y => ∑ p : Fin 8192, biasTerm (m (c.tc.loc main_arg0)) (m (c.tc.loc main_arg1)) (m (c.tc.loc main_arg2)) y p := by
  refine (dats m 0 c).arrAt_eq_of_after_last 4 lastPoint (by decide +kernel) _ fun y => ?_
  blk_simp
  rw [after0_4]
  refine (Pipeline.eq_sum_fin_of_reset_step_last (fun n h => ((outsAt0 m c n h).2.1 y : EReal)) 32 0
    (fun t => ∑ x : Fin 256, biasTerm (m (c.tc.loc main_arg0)) (m (c.tc.loc main_arg1)) (m (c.tc.loc main_arg2)) y (rowAt t x)) (fun t h => point4_A m c t h y) (fun t h => point4_B m c t h y) (by decide +kernel) lastPoint rfl).trans ?_
  rw [zero_add, sum_runs (p := 32) (q := 256) rfl (biasTerm (m (c.tc.loc main_arg0)) (m (c.tc.loc main_arg1)) (m (c.tc.loc main_arg2)) y)]
  refine Fintype.sum_equiv Fin.revPerm _ _ fun t => sum_ext fun x => congrArg _ (Fin.ext ?_)
  show 256 * (31 - t.val) + x.val = 256 * (32 - (t.val + 1)) + x.val
  omega

section Reference
open Cert.FoxPostRefIdeal.Read
variable (dfc : S8192x128.Idx → EReal) (h : S8192x3072.Idx → EReal) (b : S1x128.Idx → EReal)

/-- The derivative of log sigmoid, as the reference writes it. -/
theorem ref4 (i : Cert.FoxPostRefIdeal.S8192x4.Idx) : val_main_v4_1 (F := Ideal) h b i
    = Ideal.logistic (-(val_main_v3 (F := Ideal) h b i)) := by
  rw [← softplus_deriv]
  simp only [val_main_v4_1_apply, val_main_call0_call0_v21_apply, val_main_call0_call0_v20_apply, val_main_call0_call0_v19_apply, val_main_call0_call0_v18_apply,
    val_main_call0_call0_v17_apply, val_main_call0_call0_v16_apply, val_main_call0_call0_v15_apply, val_main_call0_call0_v14_apply, val_main_call0_call0_v13_apply,
    val_main_call0_v1_0_apply, val_main_call0_call0_v11_apply, val_main_call0_call0_v10_apply, val_main_call0_call0_v9_apply, val_main_call0_call0_v8_apply,
    val_main_call0_call0_v7_apply, val_main_call0_call0_v4_apply, val_main_call0_call0_v3_apply, val_main_call0_call0_v2_apply,
    val_main_call0_call0_v1_apply, val_main_call0_call0_v0_apply, val_main_call0_v0_apply, val_main_call0_call0_cst_apply, val_main_call0_call0_cst_0_apply,
    val_main_call0_call0_cst_1_apply, val_main_call0_call0_cst_2_apply, val_main_call0_call0_cst_3_apply]
  generalize val_main_v3 (F := Ideal) h b i = x
  pointwise
  rw [ofBits_inf, if_neg (fun hn : -x ≠ -x => hn rfl)]
  rfl

/-- The window's sum is the column's sum from a row on. -/
theorem ref7 (p : Fin 8192) (l : Fin 4) : val_main_v7 (F := Ideal) dfc (ix2 p l) = suffix (column dfc ⟨l.val, by omega⟩) 8192 p.val := by
  have hinit : val_main_call2_call0_v0 (F := Ideal) (Shape.Idx.first Cert.FoxPostRefIdeal.Gen.h_S_) = (0 : EReal) := by
    rw [val_main_call2_call0_v0_apply, val_main_call2_call0_cst_apply]
    pointwise
  have hw : ∀ x : Cert.FoxPostRefIdeal.S8192x4.Idx → EReal,
      Host.reduceWindowAdd (F := Ideal) (φ := .f32) ![8192, 1] ![1, 1] ![0, 0] ![8191, 0] x (val_main_call2_call0_v0 (F := Ideal))
        Cert.FoxPostRefIdeal.Gen.reduceWindows_S8192x4_S8192x4_w8192s1p0_8191_w1s1p0_0 Cert.FoxPostRefIdeal.Gen.h_S_ (ix2 p l)
        = suffix (column x l) 8192 p.val := fun x => by
    unfold Host.reduceWindowAdd
    rw [Ideal.hostReduceWindowAdd_def]
    exact window_suffix (R := 8192) (Rm1 := 8191) (C := 4) rfl x _ hinit _ p l
  unfold val_main_v7
  rw [hw]
  congr 1
  funext n
  unfold column
  split
  · rw [val_main_v6_apply]
    exact congrArg dfc (funext fun a => Fin.ext (by match a with | ⟨0, _⟩ => rfl | ⟨1, _⟩ => rfl))
  · rfl

/-- The reference's gradient, before it is padded. -/
theorem ref8 (p : Fin 8192) (l : Fin 4) : val_main_v8 (F := Ideal) dfc h b (ix2 p l) = dz dfc h b (ix2 p ⟨l.val, by omega⟩) := by
  have hz : val_main_v3 (F := Ideal) h b (ix2 p l) = h (ix2 p (gateCol ⟨l.val, by omega⟩)) + b (ix2 0 ⟨l.val, by omega⟩) := by
    rw [val_main_v3_apply, val_main_v0_apply, val_main_v2_apply, val_main_v1_apply]
    refine congrArg₂ _ (congrArg h (funext fun a => Fin.ext ?_)) (congrArg b (funext fun a => Fin.ext ?_))
    · match a with
      | ⟨0, _⟩ => rfl
      | ⟨1, _⟩ => rfl
    · match a with
      | ⟨0, _⟩ => rfl
      | ⟨1, _⟩ => rfl
  rw [val_main_v8_apply, val_main_call3_v1_apply, val_main_call3_v0_apply, ref4, ref7, hz]
  unfold dz
  rw [if_pos (show ((ix2 p (⟨l.val, by omega⟩ : Fin 128) : S8192x128.Idx) 1).val < 4 from l.isLt), zero_sub]
  show -(-_ * _) = _
  rw [EReal.neg_mul, neg_neg]
  rfl

/-- The padding is zero. -/
theorem pad_zero : (FloatOps.sitofp (F := Ideal) .f32 (0#32 : BitVec 32) : EReal) = 0 := by
  show (((0#32 : BitVec 32).toInt : ℝ) : EReal) = 0
  simp

/-- The reference's gradient. -/
theorem ref11 : val_main_v11 (F := Ideal) dfc h b = dz dfc h b := by
  funext i
  obtain ⟨p, l, rfl⟩ : ∃ (p : Fin 8192) (l : Fin 128), i = ix2 p l := ⟨i 0, i 1, eq_ix2 i⟩
  unfold val_main_v11
  by_cases hl : l.val < 4
  · refine (pad_apply_of_inside _ _ _ _ _ _ _ _ (ix2 p ⟨l.val, hl⟩) fun a => ?_).trans (ref8 dfc h b p ⟨l.val, hl⟩)
    match a with
    | ⟨0, _⟩ => show p.val = 0 + p.val * 1; omega
    | ⟨1, _⟩ => show l.val = 0 + l.val * 1; omega
  · refine (pad_apply_of_not_inside _ _ _ _ _ _ _ _ (1 : Fin 2) fun hin => hl ?_).trans ?_
    · have h3 : (l.val - 0) / (0 + 1) < 4 := hin.2.2
      omega
    · unfold dz
      rw [if_neg (show ¬((ix2 p l : S8192x128.Idx) 1).val < 4 from hl)]
      exact pad_zero

/-- The reference's gradient of the bias. -/
theorem ref12 : val_main_v12 (F := Ideal) dfc h b = fun y => ∑ p : Fin 8192, biasTerm dfc h b y p := by
  funext i
  obtain ⟨o, l, rfl⟩ : ∃ (o : Fin 1) (l : Fin 128), i = ix2 o l := ⟨i 0, i 1, eq_ix2 i⟩
  unfold val_main_v12
  by_cases hl : l.val < 4
  · refine (pad_apply_of_inside _ _ _ _ _ _ _ _ (ix2 o ⟨l.val, hl⟩) fun a => ?_).trans ?_
    · match a with
      | ⟨0, _⟩ => show o.val = 0 + o.val * 1; omega
      | ⟨1, _⟩ => show l.val = 0 + l.val * 1; omega
    · rw [val_main_v10_apply, val_main_v9_apply, val_main_cst_apply]
      refine (congrArg₂ (HAdd.hAdd (α := EReal) (β := EReal)) (show _ = (0 : EReal) from ?_) (sum_ext fun p => ?_)).trans (zero_add _)
      · pointwise
      · refine (congrArg (val_main_v8 (F := Ideal) dfc h b) (funext fun a => Fin.ext ?_)).trans (ref8 dfc h b p ⟨l.val, hl⟩)
        match a with
        | ⟨0, _⟩ => rfl
        | ⟨1, _⟩ => show o.val * 4 + l.val = l.val; have := o.isLt; omega
  · refine (pad_apply_of_not_inside _ _ _ _ _ _ _ _ (1 : Fin 2) fun hin => hl ?_).trans ?_
    · have h3 : (l.val - 0) / (0 + 1) < 4 := hin.2.2
      omega
    · refine pad_zero.trans (Finset.sum_eq_zero fun p _ => ?_).symm
      unfold biasTerm dz
      exact if_neg hl
end Reference

/-- The reference changes no argument and leaves no semaphore raised. -/
theorem frame_ref : Cert.quiescent_FoxPostRefIdeal := fun m ρ _ =>
  (θ_run Cert.FoxPostRefIdeal.defs _ _).mono (fun r h => ⟨fun c => (h c).2.2, sem_eq_zero_of_no_sems (by decide) r.2⟩)
    (Cert.FoxPostRefIdeal.Value.run (F := Ideal) m ρ)

/-- The kernel's two arrays are the reference's. -/
theorem algebraic : Cert.algebraic_FoxPostIdeal_FoxPostRefIdeal := by
  intro m ρ m' ρ' hpre hagree
  refine ⟨_, _, (θ_run Cert.FoxPostIdeal.defs _ _).mono (fun _ h c => ⟨(h c).1.trans (arr3 m c), (h c).2.1.trans (arr4 m c),
      (h c).2.2⟩) (Cert.FoxPostIdeal.Value.run_blocks (F := Ideal) m ρ), ?_⟩
  refine (θ_run Cert.FoxPostRefIdeal.defs _ _).mono (fun _ h c => ⟨(h c).1.trans ?_, (h c).2.1.trans ?_,
      (h c).2.2⟩) (Cert.FoxPostRefIdeal.Value.run (F := Ideal) m' ρ')
  all_goals obtain ⟨h0, h1, h2⟩ := hagree c
  · rw [Cert.FoxPostRefIdeal.Read.val_main_v11_eq, h0, h1, h2]
    exact ref11 _ _ _
  · rw [Cert.FoxPostRefIdeal.Read.val_main_v12_eq, h0, h1, h2]
    exact ref12 _ _ _

end Cert.Proof.FoxPost

end
-- ==== Proof.FoxDelta.lean ====
/-
  The rows' part of the attention's gradient: for each row and head, the product of the head's cotangent and output,
  added up over the head's sixty-four columns. The kernel masks the columns of a head and sums all of them. No condition is needed.
-/
module

public import proofs.«01_k».proof.Defs
public import proofs.«01_k».proof.Proof.Gen.FoxDeltaIdeal.Value
public import proofs.«01_k».proof.Proof.Gen.FoxDeltaRefIdeal.Run
public import proofs.«01_k».proof.Proof.Gen.FoxDeltaRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt
public import proofs.«01_k».proof.Proof.Finite
public import proofs.«01_k».proof.Proof.Sums
public import proofs.«01_k».proof.Proof.Suffix

@[expose] public section
noncomputable section

namespace Cert.Proof.FoxDelta
open Cert.FoxDeltaIdeal Cert.FoxDeltaIdeal.Gen Idealize.ShloMosaic Idealize.ShloMosaic.TcCoe Idealize.SL.Sem
open scoped BigOperators
variable (m : (ℓ : Loc nD τ sig) → Buf (Elt Ideal) ℓ)

/-- Window 0: rows of the cotangent's columns of the attention. -/
theorem index0 : ∀ t : Fin cfg0.N, win0_0.index t = ![t.val, 1] := (by decide +kernel : ∀ t : Fin grid0.N, _)
/-- Window 1: rows of the output. -/
theorem index1 : ∀ t : Fin cfg0.N, win0_1.index t = ![t.val, 0] := (by decide +kernel : ∀ t : Fin grid0.N, _)
/-- Window 2: rows of the result. -/
theorem index2 : ∀ t : Fin cfg0.N, win0_2.index t = ![t.val, 0] := (by decide +kernel : ∀ t : Fin grid0.N, _)

section Values
variable (dy : S8192x1024.Idx → EReal) (o : S8192x256.Idx → EReal)

/-- The cotangent's column of a column of the attention's output. -/
def attCol (x : Fin 256) : Fin 1024 := ⟨256 + x.val, by have := x.isLt; omega⟩

/-- A head's column. -/
def headCol (l : ℕ) (hl : l < 4) (d : Fin 64) : Fin 256 := ⟨64 * l + d.val, by have := d.isLt; omega⟩

/-- The sum over a head's columns: zero past the four heads. -/
def delta (i : S8192x128.Idx) : EReal :=
  if hl : (i 1).val < 4 then ∑ d : Fin 64, dy (ix2 (i 0) (attCol (headCol _ hl d))) * o (ix2 (i 0) (headCol _ hl d)) else 0
end Values

/-- The head of a column, as the kernel computes it with words. -/
def headWord (w : BitVec 32) : BitVec 32 :=
  Scalar.select (IntOp.andi (IntOp.cmpi .ne (IntOp.subi ((IntOp.cmpi .sgt w 0#32).setWidth 32) ((IntOp.cmpi .slt w 0#32).setWidth 32))
      (Scalar.subi (Scalar.extui (Scalar.cmpi .sgt 64#32 0#32)) (Scalar.extui (Scalar.cmpi .slt 64#32 0#32))))
    (IntOp.cmpi .ne (IntOp.remsi .vector w 64#32) 0#32)) (IntOp.subi (IntOp.divsi .vector w 64#32) 1#32) (IntOp.divsi .vector w 64#32)

/-- It is the column's number divided by sixty-four. -/
theorem headWord_eq : ∀ x : Fin 256, headWord (BitVec.ofNat 32 x.val) = BitVec.ofNat 32 (x.val / 64) := by decide +kernel

/-- The heads of a block's columns. -/
theorem pay3_at (p : Fin 512) (x : Fin 256) : k0_pay3 (ix2 p x) = BitVec.ofNat 32 (x.val / 64) := by
  rw [← headWord_eq x]
  unfold k0_pay3 headWord
  pointwise

/-- A head's sum, as the kernel takes it: the other heads' columns replaced by zero. -/
def headSum (j : BitVec 32) (v : FVec Ideal S512x256 .f32) : FVec Ideal S512x1 .f32 :=
  shapeCast S512x1 (multiReduction .add [1] S512 (select (cmpi .eq k0_pay3 (broadcast S512x256 j)) v (broadcast S512x256 (Scalar.ofBits .f32 0x00000000#32)))
    0x00000000#32 reduces_S512x256_S512 (.inl rfl) rfl) shapeCasts_S512_S512x1

/-- A head's sum put in the head's lane. -/
def put (j : BitVec 32) (v : FVec Ideal S512x256 .f32) (r : FVec Ideal S512x128 .f32) : FVec Ideal S512x128 .f32 :=
  select (cmpi .eq (iota .tc S512x128 32 [1] iota_S512x128_d1_w32) (broadcast S512x128 j))
    (broadcastTo S512x128 (shapeCast S512x1 (headSum j v) shapeCasts_S512x1_S512x1) broadcasts_S512x1_S512x128) r

/-- A sum of one head's columns, the others zero. -/
theorem sum_head (f : Fin 256 → EReal) (j : ℕ) (hj : j < 4) :
    (∑ x : Fin 256, if x.val / 64 = j then f x else 0) = ∑ d : Fin 64, f (headCol j hj d) := by
  rw [sum_runs (p := 4) (q := 64) rfl, Finset.sum_eq_single (⟨j, hj⟩ : Fin 4)]
  · refine sum_ext fun d => ?_
    have := d.isLt
    rw [if_pos (by show (64 * j + d.val) / 64 = j; omega)]
    rfl
  · intro s _ hs
    refine Finset.sum_eq_zero fun d _ => if_neg fun h => hs (Fin.ext ?_)
    have := d.isLt
    change (64 * s.val + d.val) / 64 = j at h
    show s.val = j
    omega
  · exact fun h => absurd (Finset.mem_univ _) h

/-- A head's sum at a row. -/
theorem headSum_at (j : ℕ) (hj : j < 4) (v : FVec Ideal S512x256 .f32) (p : Fin 512) :
    headSum (BitVec.ofNat 32 j) v (ix2 p 0) = ∑ d : Fin 64, (v (ix2 p (headCol j hj d)) : EReal) := by
  rw [← sum_head (fun x => v (ix2 p x)) j hj]
  unfold headSum
  pointwise
  refine sum_ext fun x => ?_
  rw [pay3_at, eq_small (by have := x.isLt; omega) (by omega), Scalar.select_decide]

/-- A lane after a head's sum is put in. -/
theorem put_at (j : ℕ) (hj : j < 4) (v : FVec Ideal S512x256 .f32) (r : FVec Ideal S512x128 .f32) (p : Fin 512) (l : Fin 128) :
    put (BitVec.ofNat 32 j) v r (ix2 p l) = if l.val = j then ∑ d : Fin 64, (v (ix2 p (headCol j hj d)) : EReal) else r (ix2 p l) := by
  rw [← headSum_at j hj v p]
  have e : put (BitVec.ofNat 32 j) v r (ix2 p l)
      = Scalar.select (IntOp.cmpi .eq (BitVec.ofNat 32 l.val) (BitVec.ofNat 32 j)) (headSum (BitVec.ofNat 32 j) v (ix2 p 0)) (r (ix2 p l)) := by
    unfold put
    pointwise
  rw [e, eq_small (by have := l.isLt; omega) (by omega), Scalar.select_decide]

/-- A block of the result. -/
theorem pay_at (v0 v1 : Vec Ideal S512x256 .f32) (p : Fin 512) (l : Fin 128) :
    k0_pay1 (k0_pay2 v0 v1) k0_pay3 (iota .tc S512x128 32 [1] iota_S512x128_d1_w32) (k0_pay4 v0 v1) k0_pay5 (ix2 p l)
      = if hl : l.val < 4 then ∑ d : Fin 64, HMul.hMul (α := EReal) (β := EReal) (v0 (ix2 p (headCol _ hl d))) (v1 (ix2 p (headCol _ hl d))) else 0 := by
  have e : k0_pay1 (k0_pay2 v0 v1) k0_pay3 (iota .tc S512x128 32 [1] iota_S512x128_d1_w32) (k0_pay4 v0 v1) k0_pay5
      = put 3#32 (k0_pay2 v0 v1) (put 2#32 (k0_pay2 v0 v1) (put 1#32 (k0_pay2 v0 v1) (put 0#32 (k0_pay2 v0 v1)
          (broadcast S512x128 (Scalar.ofBits .f32 0x00000000#32))))) := rfl
  rw [e, put_at 3 (by omega), put_at 2 (by omega), put_at 1 (by omega), put_at 0 (by omega)]
  obtain ⟨l, hl⟩ := l
  dsimp only
  by_cases h4 : l < 4
  · rw [dif_pos h4]
    interval_cases l <;> rfl
  · rw [dif_neg h4, if_neg (by omega), if_neg (by omega), if_neg (by omega), if_neg (by omega)]
    pointwise

/-- The row of the arrays that row `x` of the block of point `t` is. -/
def rowAt (t : Fin cfg0.N) (x : Fin 512) : Fin 8192 :=
  ⟨512 * t.val + x.val, by have := x.isLt; have ht : t.val < 16 := lt_of_lt_of_eq t.isLt (show cfg0.N = 16 from N_0); omega⟩

/-- An element of a block of the cotangent is the array's. -/
theorem emb0 (t : Fin cfg0.N) (p : Fin 512) (x : Fin 256) : (win0_0.blk t).view.emb (ix2 p x) = ix2 (rowAt t p) (attCol x) := by
  unfold rowAt attCol
  blk_ext [index0]
/-- An element of a block of the output is the array's. -/
theorem emb1 (t : Fin cfg0.N) (p : Fin 512) (x : Fin 256) : (win0_1.blk t).view.emb (ix2 p x) = ix2 (rowAt t p) x := by
  unfold rowAt
  blk_ext [index1]
/-- An element of a block of the result is the array's. -/
theorem emb2 (t : Fin cfg0.N) (p : Fin 512) (l : Fin 128) : (win0_2.blk t).view.emb (ix2 p l) = ix2 (rowAt t p) l := by
  unfold rowAt
  blk_ext [index2]

/-- The result after the run. -/
theorem arr2 (c : Dev nD) : (dats m 0 c).arrAt 2 cfg0.N = delta (m (c.tc.loc main_arg0)) (m (c.tc.loc main_arg1)) := by
  refine (dats m 0 c).arrAt_eq_of_covers 2 _ (by decide +kernel) fun t hf y => ?_
  blk_simp
  rw [after0_2]
  obtain ⟨p, l, rfl⟩ : ∃ (p : Fin 512) (l : Fin 128), y = ix2 p l := ⟨y 0, y 1, eq_ix2 y⟩
  rw [emb2]
  unfold out0_2; frame_out
  refine (pay_at _ _ p l).trans ?_
  unfold delta
  congr 1
  funext hl
  refine sum_ext fun d => ?_
  have e0 : iblk m c 0 t (ix2 p (headCol _ hl d)) = m (c.tc.loc main_arg0) (ix2 (rowAt t p) (attCol (headCol _ hl d))) := by
    blk_simp [iblk]
    rw [V_main_arg0, emb0]
  have e1 : iblk m c 1 t (ix2 p (headCol _ hl d)) = m (c.tc.loc main_arg1) (ix2 (rowAt t p) (headCol _ hl d)) := by
    blk_simp [iblk]
    rw [V_main_arg1, emb1]
  exact congrArg₂ (HMul.hMul (α := EReal) (β := EReal)) e0 e1

section Reference
open Cert.FoxDeltaRefIdeal.Read
variable (dy : S8192x1024.Idx → EReal) (o : S8192x256.Idx → EReal)

/-- The padding is zero. -/
theorem pad_zero : (FloatOps.sitofp (F := Ideal) .f32 (0#32 : BitVec 32) : EReal) = 0 := by
  show (((0#32 : BitVec 32).toInt : ℝ) : EReal) = 0
  simp

/-- The reference's sum over a head's columns. -/
theorem ref4 (p : Fin 8192) (l : Fin 4) : val_main_v4 (F := Ideal) dy o (ix2 p l)
    = ∑ d : Fin 64, dy (ix2 p (attCol (headCol l.val l.isLt d))) * o (ix2 p (headCol l.val l.isLt d)) := by
  rw [val_main_v4_apply, val_main_cst_apply]
  refine (congrArg₂ (HAdd.hAdd (α := EReal) (β := EReal)) (show _ = (0 : EReal) from ?_) (sum_ext fun d => ?_)).trans (zero_add _)
  · pointwise
  · have hl := l.isLt
    have hd := d.isLt
    rw [val_main_v3_apply, val_main_v1_apply, val_main_v0_apply, val_main_v2_apply]
    refine congrArg₂ (HMul.hMul (α := EReal) (β := EReal)) (congrArg dy (funext fun a => Fin.ext ?_)) (congrArg o (funext fun a => Fin.ext ?_))
    · match a with
      | ⟨0, _⟩ => show ((p.val * 4 + l.val) * 64 + d.val) / 256 = p.val; omega
      | ⟨1, _⟩ => show 256 + ((p.val * 4 + l.val) * 64 + d.val) % 256 = 256 + (64 * l.val + d.val); omega
    · match a with
      | ⟨0, _⟩ => show ((p.val * 4 + l.val) * 64 + d.val) / 256 = p.val; omega
      | ⟨1, _⟩ => show ((p.val * 4 + l.val) * 64 + d.val) % 256 = 64 * l.val + d.val; omega

/-- The reference's array. -/
theorem ref5 : val_main_v5 (F := Ideal) dy o = delta dy o := by
  funext i
  obtain ⟨p, l, rfl⟩ : ∃ (p : Fin 8192) (l : Fin 128), i = ix2 p l := ⟨i 0, i 1, eq_ix2 i⟩
  unfold val_main_v5 delta
  by_cases hl : l.val < 4
  · rw [dif_pos (show ((ix2 p l : S8192x128.Idx) 1).val < 4 from hl)]
    refine (pad_apply_of_inside _ _ _ _ _ _ _ _ (ix2 p ⟨l.val, hl⟩) fun a => ?_).trans (ref4 dy o p ⟨l.val, hl⟩)
    match a with
    | ⟨0, _⟩ => show p.val = 0 + p.val * 1; omega
    | ⟨1, _⟩ => show l.val = 0 + l.val * 1; omega
  · rw [dif_neg (show ¬((ix2 p l : S8192x128.Idx) 1).val < 4 from hl)]
    refine (pad_apply_of_not_inside _ _ _ _ _ _ _ _ (1 : Fin 2) fun hin => hl ?_).trans pad_zero
    have h3 : (l.val - 0) / (0 + 1) < 4 := hin.2.2
    omega
end Reference

/-- The reference changes no argument and leaves no semaphore raised. -/
theorem frame_ref : Cert.quiescent_FoxDeltaRefIdeal := fun m ρ _ =>
  (θ_run Cert.FoxDeltaRefIdeal.defs _ _).mono (fun r h => ⟨fun c => (h c).2, sem_eq_zero_of_no_sems (by decide) r.2⟩)
    (Cert.FoxDeltaRefIdeal.Value.run (F := Ideal) m ρ)

/-- The kernel's array is the reference's. -/
theorem algebraic : Cert.algebraic_FoxDeltaIdeal_FoxDeltaRefIdeal := by
  intro m ρ m' ρ' hpre hagree
  refine ⟨_, (θ_run Cert.FoxDeltaIdeal.defs _ _).mono (fun _ h c => ⟨(h c).1.trans (arr2 m c), (h c).2⟩)
      (Cert.FoxDeltaIdeal.Value.run_blocks (F := Ideal) m ρ), ?_⟩
  refine (θ_run Cert.FoxDeltaRefIdeal.defs _ _).mono (fun _ h c => ⟨(h c).1.trans ?_, (h c).2⟩)
      (Cert.FoxDeltaRefIdeal.Value.run (F := Ideal) m' ρ')
  obtain ⟨h0, h1⟩ := hagree c
  rw [Cert.FoxDeltaRefIdeal.Read.val_main_v5_eq, h0, h1]
  exact ref5 _ _

end Cert.Proof.FoxDelta

end
-- ==== Proof.Loss.lean ====
/-
  The loss, half the sum over the rows of the mean squared error of a row, and its gradient, the error over the row's width.
  The kernel adds up the loss block by block, with the factor one half inside. No condition is needed.
-/
module

public import proofs.«01_k».proof.Defs
public import proofs.«01_k».proof.Proof.Gen.LossIdeal.Value
public import proofs.«01_k».proof.Proof.Gen.LossRefIdeal.Run
public import proofs.«01_k».proof.Proof.Gen.LossRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt
public import proofs.«01_k».proof.Proof.Finite
public import proofs.«01_k».proof.Proof.Sums

@[expose] public section
noncomputable section

namespace Cert.Proof.Loss
open Cert.LossIdeal Cert.LossIdeal.Gen Idealize.ShloMosaic Idealize.ShloMosaic.TcCoe Idealize.SL.Sem
open scoped BigOperators
variable (m : (ℓ : Loc nD τ sig) → Buf (Elt Ideal) ℓ)

/-- Window 0: rows of the output. -/
theorem index0 : ∀ t : Fin cfg0.N, win0_0.index t = ![t.val, 0] := (by decide +kernel : ∀ t : Fin grid0.N, _)
/-- Window 1: rows of the target. -/
theorem index1 : ∀ t : Fin cfg0.N, win0_1.index t = ![t.val, 0] := (by decide +kernel : ∀ t : Fin grid0.N, _)
/-- Window 2: rows of the gradient. -/
theorem index2 : ∀ t : Fin cfg0.N, win0_2.index t = ![t.val, 0] := (by decide +kernel : ∀ t : Fin grid0.N, _)
/-- Window 3: the loss. -/
theorem index3 : ∀ t : Fin cfg0.N, win0_3.index t = ![0, 0] := (by decide +kernel : ∀ t : Fin grid0.N, _)

section Values
variable (y target : S8192x1024.Idx → EReal)

/-- The gradient. -/
def grad (i : S8192x1024.Idx) : EReal := (y i - target i) * Ideal.ofBits FTy.f32 981467136#32

/-- A row's mean squared error. -/
def meanSq (p : Fin 8192) : EReal :=
  Ideal.div (∑ k : Fin 1024, (y (ix2 p k) - target (ix2 p k)) * (y (ix2 p k) - target (ix2 p k))) (Ideal.ofBits FTy.f32 1149239296#32)

/-- A row's part of the loss. -/
def rowLoss (p : Fin 8192) : EReal := Ideal.ofBits FTy.f32 1056964608#32 * meanSq y target p
end Values

section Payloads
variable (v0 v1 : Vec Ideal S512x1024 .f32)

/-- A block's gradient. -/
theorem pay2_at (i : S512x1024.Idx) : k0_pay2 v0 v1 i
    = HMul.hMul (α := EReal) (β := EReal) (HSub.hSub (α := EReal) (β := EReal) (v0 i) (v1 i)) (Ideal.ofBits FTy.f32 981467136#32) := by
  unfold k0_pay2 k0_pay1
  pointwise

/-- A row's mean squared error, in a block. -/
def blkMean (x : Fin 512) : EReal :=
  Ideal.div (∑ k : Fin 1024, HMul.hMul (α := EReal) (β := EReal) (HSub.hSub (α := EReal) (β := EReal) (v0 (ix2 x k)) (v1 (ix2 x k)))
    (HSub.hSub (α := EReal) (β := EReal) (v0 (ix2 x k)) (v1 (ix2 x k)))) (Ideal.ofBits FTy.f32 1149239296#32)

/-- The loss with a block's part added. -/
theorem pay4_at (a : Vec Ideal S1x1 .f32) (i : S1x1.Idx) : k0_pay4 v0 v1 a i
    = HAdd.hAdd (α := EReal) (β := EReal) (a i) (∑ x : Fin 512, Ideal.ofBits FTy.f32 1056964608#32 * blkMean v0 v1 x) := by
  have e : k0_pay4 v0 v1 a i = HAdd.hAdd (α := EReal) (β := EReal) (a i) (Ideal.ofBits FTy.f32 1056964608#32 * ∑ x : Fin 512, blkMean v0 v1 x) := by
    obtain ⟨o, l, rfl⟩ : ∃ (o : Fin 1) (l : Fin 1), i = ix2 o l := ⟨i 0, i 1, eq_ix2 i⟩
    obtain rfl : o = 0 := Subsingleton.elim _ _
    obtain rfl : l = 0 := Subsingleton.elim _ _
    unfold k0_pay4 k0_pay1 blkMean
    pointwise
  rw [e, ofBits_half, mul_sum_of_nonneg _ _ (by norm_num)]

/-- The loss starts from zero. -/
theorem pay3_at (i : S1x1.Idx) : k0_pay3 (F := Ideal) i = (0 : EReal) := by
  unfold k0_pay3
  pointwise
end Payloads

/-- The row of the arrays that row `x` of the block of point `t` is. -/
def rowAt (t : Fin cfg0.N) (x : Fin 512) : Fin 8192 :=
  ⟨512 * t.val + x.val, by have := x.isLt; have ht : t.val < 16 := lt_of_lt_of_eq t.isLt (show cfg0.N = 16 from N_0); omega⟩

/-- An element of a block of the output is the array's. -/
theorem emb0 (t : Fin cfg0.N) (x : Fin 512) (k : Fin 1024) : (win0_0.blk t).view.emb (ix2 x k) = ix2 (rowAt t x) k := by
  unfold rowAt
  blk_ext [index0]
/-- An element of a block of the target is the array's. -/
theorem emb1 (t : Fin cfg0.N) (x : Fin 512) (k : Fin 1024) : (win0_1.blk t).view.emb (ix2 x k) = ix2 (rowAt t x) k := by
  unfold rowAt
  blk_ext [index1]
/-- An element of a block of the gradient is the array's. -/
theorem emb2 (t : Fin cfg0.N) (x : Fin 512) (k : Fin 1024) : (win0_2.blk t).view.emb (ix2 x k) = ix2 (rowAt t x) k := by
  unfold rowAt
  blk_ext [index2]

/-- The output in a block. -/
theorem blk0 (c : Dev nD) (t : Fin cfg0.N) (x : Fin 512) (k : Fin 1024) : iblk m c 0 t (ix2 x k) = m (c.tc.loc main_arg0) (ix2 (rowAt t x) k) := by
  blk_simp [iblk]
  rw [V_main_arg0, emb0]
/-- The target in a block. -/
theorem blk1 (c : Dev nD) (t : Fin cfg0.N) (x : Fin 512) (k : Fin 1024) : iblk m c 1 t (ix2 x k) = m (c.tc.loc main_arg1) (ix2 (rowAt t x) k) := by
  blk_simp [iblk]
  rw [V_main_arg1, emb1]

/-- The gradient in a block. -/
theorem grad_blk (c : Dev nD) (t : Fin cfg0.N) (x : Fin 512) (k : Fin 1024) :
    k0_pay2 (iblk m c 0 t) (iblk m c 1 t) (ix2 x k) = grad (m (c.tc.loc main_arg0)) (m (c.tc.loc main_arg1)) (ix2 (rowAt t x) k) := by
  rw [pay2_at, blk0, blk1, grad]

/-- The gradient after the run. -/
theorem arr2 (c : Dev nD) : (dats m 0 c).arrAt 2 cfg0.N = grad (m (c.tc.loc main_arg0)) (m (c.tc.loc main_arg1)) := by
  refine (dats m 0 c).arrAt_eq_of_covers 2 _ (by decide +kernel) fun t hf y => ?_
  blk_simp
  rw [after0_2]
  obtain ⟨x, k, rfl⟩ : ∃ (x : Fin 512) (k : Fin 1024), y = ix2 x k := ⟨y 0, y 1, eq_ix2 y⟩
  rw [emb2]
  by_cases h0 : t.val % 16 = 0
  · rw [outsAt0_A m c t h0]; dsimp only; unfold out0_A_2; frame_out
    exact grad_blk m c t x k
  · rw [outsAt0_B m c t h0]; dsimp only; unfold out0_B_2; frame_out
    exact grad_blk m c t x k

/-- The loss with a block's rows added. -/
theorem loss_part (c : Dev nD) (t : Fin cfg0.N) (y : S1x1.Idx) (a : Vec Ideal S1x1 .f32) :
    k0_pay4 (iblk m c 0 t) (iblk m c 1 t) a y = HAdd.hAdd (α := EReal) (β := EReal) (a y) (∑ x : Fin 512, rowLoss (m (c.tc.loc main_arg0)) (m (c.tc.loc main_arg1)) (rowAt t x)) := by
  refine (pay4_at _ _ _ _).trans (congrArg (HAdd.hAdd (α := EReal) (β := EReal) _) (sum_ext fun x => ?_))
  unfold rowLoss meanSq blkMean
  simp only [blk0, blk1]

/-- The loss after the body at the first point. -/
theorem point3_A (c : Dev nD) (t : Fin cfg0.N) (h0 : t.val % 16 = 0) (y : S1x1.Idx) :
    (outsAt0 m c t.val t.isLt).2 y = HAdd.hAdd (α := EReal) (β := EReal) (0) (∑ x : Fin 512, rowLoss (m (c.tc.loc main_arg0)) (m (c.tc.loc main_arg1)) (rowAt t x)) := by
  rw [outsAt0_A m c t h0]; dsimp only; unfold out0_A_3; frame_out
  refine (loss_part m c t y _).trans (congrArg (fun u : EReal => u + ∑ x : Fin 512, rowLoss (m (c.tc.loc main_arg0)) (m (c.tc.loc main_arg1)) (rowAt t x)) ?_)
  exact pay3_at y

/-- The loss after the body at the later points. -/
theorem point3_B (c : Dev nD) (t : Fin cfg0.N) (h0 : ¬t.val % 16 = 0) (y : S1x1.Idx) :
    (outsAt0 m c t.val t.isLt).2 y = HAdd.hAdd (α := EReal) (β := EReal) ((outsAt0 m c (t.val - 1) (Nat.lt_of_le_of_lt (Nat.sub_le _ _) t.isLt)).2 y)
      (∑ x : Fin 512, rowLoss (m (c.tc.loc main_arg0)) (m (c.tc.loc main_arg1)) (rowAt t x)) := by
  rw [outsAt0_B m c t h0]; dsimp only; unfold out0_B_3; frame_out
  exact loss_part m c t y _

/-- The grid's last point. -/
def lastPoint : Fin cfg0.N := ⟨15, by rw [show cfg0.N = 16 from N_0]; omega⟩

/-- The loss after the run. -/
theorem arr3 (c : Dev nD) : (dats m 0 c).arrAt 3 cfg0.N = fun _ => ∑ p : Fin 8192, rowLoss (m (c.tc.loc main_arg0)) (m (c.tc.loc main_arg1)) p := by
  refine (dats m 0 c).arrAt_eq_of_after_last 3 lastPoint (by decide +kernel) _ fun y => ?_
  blk_simp
  rw [after0_3]
  refine (Pipeline.eq_sum_fin_of_reset_step_last (fun n h => ((outsAt0 m c n h).2 y : EReal)) 16 0
    (fun t => ∑ x : Fin 512, rowLoss (m (c.tc.loc main_arg0)) (m (c.tc.loc main_arg1)) (rowAt t x)) (fun t h => point3_A m c t h y) (fun t h => point3_B m c t h y) (by decide +kernel) lastPoint rfl).trans ?_
  rw [zero_add, sum_runs (p := 16) (q := 512) rfl (rowLoss (m (c.tc.loc main_arg0)) (m (c.tc.loc main_arg1)))]
  rfl

section Reference
open Cert.LossRefIdeal.Read
variable (y target : S8192x1024.Idx → EReal)

/-- Two, as a constant. -/
theorem ofBits_two : Ideal.ofBits .f32 0x40000000#32 = ((2 : ℝ) : EReal) := by
  simp [Ideal.ofBits, Ideal.ieee, -EReal.coe_mul]; norm_num
/-- The row's width. -/
theorem ofBits_width : Ideal.ofBits .f32 0x44800000#32 = ((1024 : ℝ) : EReal) := by
  simp [Ideal.ofBits, Ideal.ieee, -EReal.coe_mul]; norm_num
/-- Its reciprocal. -/
theorem ofBits_inv : Ideal.ofBits .f32 0x3A800000#32 = ((1 / 1024 : ℝ) : EReal) := by
  simp [Ideal.ofBits, Ideal.ieee, -EReal.coe_mul]; norm_num

/-- The reference's gradient. -/
theorem ref14 : val_main_v14 (F := Ideal) y target = grad y target := by
  funext i
  simp only [val_main_v14, val_main_v13, val_main_v12, val_main_v11, val_main_v10, val_main_v9, val_main_v3, val_main_v2, val_main_v0,
    val_main_cst, val_main_cst_4, val_main_cst_5, val_main_cst_6]
  pointwise
  unfold grad
  rw [ofBits_half, ofBits_two, ofBits_width, ofBits_inv]
  refine (congrArg (fun u : EReal => u * (((2 : ℝ) : EReal) * (y i - target i))) (Cert.Proof.div_coe (1 / 2) (b := 1024) (by norm_num))).trans ?_
  refine (mul_assoc _ _ _).symm.trans ?_
  rw [← EReal.coe_mul, mul_comm]
  exact congrArg (fun r : ℝ => (y i - target i) * (r : EReal)) (by norm_num)

/-- The reference's loss. -/
theorem ref15 : val_main_v15 (F := Ideal) y target = fun _ => ∑ p : Fin 8192, rowLoss y target p := by
  funext i
  unfold rowLoss
  rw [ofBits_half, ← mul_sum_of_nonneg _ _ (by norm_num), ← ofBits_half]
  simp only [val_main_v15, val_main_v8, val_main_v7, val_main_v6, val_main_v5, val_main_v4, val_main_v1, val_main_v0,
    val_main_cst_0, val_main_cst_1, val_main_cst_2, val_main_cst_3]
  pointwise
  exact congrArg (HMul.hMul (α := EReal) (β := EReal) _) (sum_ext fun p => rfl)
end Reference

/-- The reference changes no argument and leaves no semaphore raised. -/
theorem frame_ref : Cert.quiescent_LossRefIdeal := fun m ρ _ =>
  (θ_run Cert.LossRefIdeal.defs _ _).mono (fun r h => ⟨fun c => (h c).2.2, sem_eq_zero_of_no_sems (by decide) r.2⟩)
    (Cert.LossRefIdeal.Value.run (F := Ideal) m ρ)

/-- The kernel's gradient and loss are the reference's. -/
theorem algebraic : Cert.algebraic_LossIdeal_LossRefIdeal := by
  intro m ρ m' ρ' hpre hagree
  refine ⟨_, _, (θ_run Cert.LossIdeal.defs _ _).mono (fun _ h c => ⟨(h c).1.trans (arr2 m c), (h c).2.1.trans (arr3 m c), (h c).2.2⟩)
      (Cert.LossIdeal.Value.run_blocks (F := Ideal) m ρ), ?_⟩
  refine (θ_run Cert.LossRefIdeal.defs _ _).mono (fun _ h c => ⟨(h c).1.trans ?_, (h c).2.1.trans ?_, (h c).2.2⟩)
      (Cert.LossRefIdeal.Value.run (F := Ideal) m' ρ')
  all_goals obtain ⟨h0, h1⟩ := hagree c
  · rw [Cert.LossRefIdeal.Read.val_main_v14_eq, h0, h1]
    exact ref14 _ _
  · rw [Cert.LossRefIdeal.Read.val_main_v15_eq, h0, h1]
    exact ref15 _ _

end Cert.Proof.Loss

end
-- ==== Proof.SumCoresUp.lean ====
/-
  The sum of the gradients of the feed-forward block's first two weights and of the mixers' input weight on a chip's two cores, share by share. No condition is needed.
-/
module

public import proofs.«01_k».proof.Defs
public import proofs.«01_k».proof.Proof.Gen.SumCoresUpIdeal.Value
public import proofs.«01_k».proof.Proof.Gen.SumCoresUpRefIdeal.Run
public import proofs.«01_k».proof.Proof.Gen.SumCoresUpRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt

@[expose] public section
noncomputable section

namespace Cert.Proof.SumCoresUp
open Cert.SumCoresUpIdeal Cert.SumCoresUpIdeal.Gen Idealize.ShloMosaic Idealize.ShloMosaic.TcCoe Idealize.SL.Sem
open scoped BigOperators
variable (m : (ℓ : Loc nD τ sig) → Buf (Elt Ideal) ℓ)

/-- Window 0: rows of the core's own gradient. -/
theorem index0 : ∀ t : Fin cfg0.N, win0_0.index t = ![t.val, 0] := (by decide +kernel : ∀ t : Fin grid0.N, _)
/-- Window 1: rows of the other core's. -/
theorem index1 : ∀ t : Fin cfg0.N, win0_1.index t = ![t.val, 0] := (by decide +kernel : ∀ t : Fin grid0.N, _)
/-- Window 2: rows of the sum. -/
theorem index2 : ∀ t : Fin cfg0.N, win0_2.index t = ![t.val, 0] := (by decide +kernel : ∀ t : Fin grid0.N, _)

/-- The shares one below the other. -/
def rows (a : S4x1024x768.Idx → EReal) (j : S4096x768.Idx) : EReal :=
  a (ix3 ⟨(j 0).val / 1024, by have h0 : (j 0).val < 4096 := (j 0).isLt; omega⟩
    ⟨(j 0).val % 1024, Nat.mod_lt _ (by norm_num)⟩ (j 1))

/-- What window 0 stages is the core's own gradient, row by row. -/
theorem V_v0 (c : Dev nD) : V m c main_v0 = rows (m (c.tc.loc main_arg0)) := by
  funext j
  unfold V rows
  after_reads_at

/-- What window 1 stages is the other core's, row by row. -/
theorem V_v1 (c : Dev nD) : V m c main_v1 = rows (m (c.tc.loc main_arg1)) := by
  funext j
  unfold V rows
  after_reads_at

/-- The sum. -/
def total (a b : S4x1024x768.Idx → EReal) (j : S4096x768.Idx) : EReal := rows a j + rows b j

/-- The sum after the run. -/
theorem arr2 (c : Dev nD) : (dats m 0 c).arrAt 2 cfg0.N = total (m (c.tc.loc main_arg0)) (m (c.tc.loc main_arg1)) := by
  refine (dats m 0 c).arrAt_eq_of_covers 2 _ (by decide +kernel) fun t hf y => ?_
  have h0 := congrArg (rows (m (c.tc.loc main_arg0))) (show (win0_0.blk t).view.emb y = (win0_2.blk t).view.emb y by blk_ext [index0, index2])
  have h1 := congrArg (rows (m (c.tc.loc main_arg1))) (show (win0_1.blk t).view.emb y = (win0_2.blk t).view.emb y by blk_ext [index1, index2])
  blk_simp
  rw [after0_2]; unfold out0_2; frame_out
  unfold_payloads
  pointwise
  blk_simp [iblk]
  rw [V_v0, V_v1]
  show (rows (m (c.tc.loc main_arg0)) ((win0_0.blk t).view.emb y) + rows (m (c.tc.loc main_arg1)) ((win0_1.blk t).view.emb y) : EReal) = _
  rw [h0, h1, total]

/-- The reference's sum. -/
theorem ref (a b : S4x1024x768.Idx → EReal) : Cert.SumCoresUpRefIdeal.Read.val_main_v4 (F := Ideal) a b = total a b := by
  funext i
  rw [← Cert.SumCoresUpRefIdeal.Read.val_main_v4_eq]
  pointwise
  rfl

/-- The reference changes no argument and leaves no semaphore raised. -/
theorem frame_ref : Cert.quiescent_SumCoresUpRefIdeal := fun m ρ _ =>
  (θ_run Cert.SumCoresUpRefIdeal.defs _ _).mono (fun r h => ⟨fun c => (h c).2, sem_eq_zero_of_no_sems (by decide) r.2⟩)
    (Cert.SumCoresUpRefIdeal.Value.run (F := Ideal) m ρ)

/-- The kernel's sum is the reference's. -/
theorem algebraic : Cert.algebraic_SumCoresUpIdeal_SumCoresUpRefIdeal := by
  intro m ρ m' ρ' hpre hagree
  refine ⟨_, (θ_run Cert.SumCoresUpIdeal.defs _ _).mono (fun _ h c => ⟨(h c).1.trans (arr2 m c), (h c).2⟩)
      (Cert.SumCoresUpIdeal.Value.run_blocks (F := Ideal) m ρ), ?_⟩
  refine (θ_run Cert.SumCoresUpRefIdeal.defs _ _).mono (fun _ h c => ⟨(h c).1.trans ?_, (h c).2⟩)
      (Cert.SumCoresUpRefIdeal.Value.run (F := Ideal) m' ρ')
  obtain ⟨h0, h1⟩ := hagree c
  rw [Cert.SumCoresUpRefIdeal.Read.val_main_v4_eq, h0, h1]
  exact ref _ _

end Cert.Proof.SumCoresUp

end
-- ==== Proof.SumChipsUp.lean ====
/-
  The sum of the four chips' gradients of the feed-forward block's first two weights and of the mixers' input weight, for a chip's share. No condition is needed.
-/
module

public import proofs.«01_k».proof.Defs
public import proofs.«01_k».proof.Proof.Gen.SumChipsUpIdeal.Value
public import proofs.«01_k».proof.Proof.Gen.SumChipsUpRefIdeal.Run
public import proofs.«01_k».proof.Proof.Gen.SumChipsUpRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt
public import proofs.«01_k».proof.Proof.Sums

@[expose] public section
noncomputable section

namespace Cert.Proof.SumChipsUp
open Cert.SumChipsUpIdeal Cert.SumChipsUpIdeal.Gen Idealize.ShloMosaic Idealize.ShloMosaic.TcCoe Idealize.SL.Sem
open scoped BigOperators
variable (m : (ℓ : Loc nD τ sig) → Buf (Elt Ideal) ℓ)

/-- Window 0: rows of all the parts. -/
theorem index0 : ∀ t : Fin cfg0.N, win0_0.index t = ![0, t.val, 0] := (by decide +kernel : ∀ t : Fin grid0.N, _)
/-- Window 1: rows of the sum. -/
theorem index1 : ∀ t : Fin cfg0.N, win0_1.index t = ![t.val, 0] := (by decide +kernel : ∀ t : Fin grid0.N, _)

/-- The sum of the parts. -/
def total (g : S4x1024x768.Idx → EReal) (i : S1024x768.Idx) : EReal := ∑ s : Fin 4, g (ix3 s (i 0) (i 1))

/-- The row of the arrays that row `x` of the block of point `t` is. -/
def rowAt (t : Fin cfg0.N) (x : Fin 1024) : Fin 1024 :=
  ⟨1024 * t.val + x.val, by have := x.isLt; have ht : t.val < 1 := lt_of_lt_of_eq t.isLt (show cfg0.N = 1 from N_0); omega⟩

/-- An element of a block of the parts is the array's. -/
theorem emb0 (t : Fin cfg0.N) (s : Fin 4) (x : Fin 1024) (k : Fin 768) : (win0_0.blk t).view.emb (ix3 s x k) = ix3 s (rowAt t x) k := by
  unfold rowAt
  blk_ext [index0]
/-- An element of a block of the sum is the array's. -/
theorem emb1 (t : Fin cfg0.N) (x : Fin 1024) (k : Fin 768) : (win0_1.blk t).view.emb (ix2 x k) = ix2 (rowAt t x) k := by
  unfold rowAt
  blk_ext [index1]

/-- The parts in a block. -/
theorem blk0 (c : Dev nD) (t : Fin cfg0.N) (s : Fin 4) (x : Fin 1024) (k : Fin 768) :
    iblk m c 0 t (ix3 s x k) = m (c.tc.loc main_arg0) (ix3 s (rowAt t x) k) := by
  blk_simp [iblk]
  rw [V_main_arg0, emb0]

/-- One part of a block, loaded. -/
theorem ld_part (X : Vec Ideal S4x1024x768 .bf16) (s : Fin 4) (h : ∀ a, ![s.val, 0, 0] a + S1x1024x768.size a ≤ S4x1024x768.size a) (x : Fin 1024) (k : Fin 768) :
    View.ld X (Rect.unit (s := S4x1024x768) ![s.val, 0, 0] S1x1024x768.size h) (ix3 (0 : Fin 1) x k) = X (ix3 s x k) :=
  congrArg X (funext fun a => Fin.ext (by
    match a with
    | ⟨0, _⟩ => rfl
    | ⟨1, _⟩ => show 0 + 1 * x.val = x.val; omega
    | ⟨2, _⟩ => show 0 + 1 * k.val = k.val; omega))

/-- A block of the sum. -/
theorem pay_at (v0 v1 v2 v3 : Vec Ideal S1x1024x768 .bf16) (x : Fin 1024) (k : Fin 768) :
    k0_pay1 v0 v1 v2 v3 (ix2 x k) = HAdd.hAdd (α := EReal) (β := EReal) (HAdd.hAdd (α := EReal) (β := EReal) (HAdd.hAdd (α := EReal) (β := EReal) (v0 (ix3 (0 : Fin 1) x k)) (v1 (ix3 (0 : Fin 1) x k))) (v2 (ix3 (0 : Fin 1) x k))) (v3 (ix3 (0 : Fin 1) x k)) := by
  unfold k0_pay1
  pointwise

/-- The sum after the run. -/
theorem arr1 (c : Dev nD) : (dats m 0 c).arrAt 1 cfg0.N = total (m (c.tc.loc main_arg0)) := by
  refine (dats m 0 c).arrAt_eq_of_covers 1 _ (by decide +kernel) fun t hf y => ?_
  blk_simp
  rw [after0_1]
  obtain ⟨x, k, rfl⟩ : ∃ (x : Fin 1024) (k : Fin 768), y = ix2 x k := ⟨y 0, y 1, eq_ix2 y⟩
  rw [emb1]
  unfold out0_1; frame_out
  refine (pay_at _ _ _ _ x k).trans ?_
  unfold total
  rw [Fin.sum_univ_four]
  exact (congrArg₂ (HAdd.hAdd (α := EReal) (β := EReal)) (congrArg₂ (HAdd.hAdd (α := EReal) (β := EReal)) (congrArg₂ (HAdd.hAdd (α := EReal) (β := EReal)) ((ld_part _ 0 _ x k).trans (blk0 m c t 0 x k))
    ((ld_part _ 1 _ x k).trans (blk0 m c t 1 x k)))
    ((ld_part _ 2 _ x k).trans (blk0 m c t 2 x k)))
    ((ld_part _ 3 _ x k).trans (blk0 m c t 3 x k)))

/-- The reference's sum. -/
theorem ref (g : S4x1024x768.Idx → EReal) : Cert.SumChipsUpRefIdeal.Read.val_main_v1 (F := Ideal) g = total g := by
  funext i
  unfold total
  rw [← Cert.SumChipsUpRefIdeal.Read.val_main_v1_eq]
  pointwise

/-- The reference changes no argument and leaves no semaphore raised. -/
theorem frame_ref : Cert.quiescent_SumChipsUpRefIdeal := fun m ρ _ =>
  (θ_run Cert.SumChipsUpRefIdeal.defs _ _).mono (fun r h => ⟨fun c => (h c).2, sem_eq_zero_of_no_sems (by decide) r.2⟩)
    (Cert.SumChipsUpRefIdeal.Value.run (F := Ideal) m ρ)

/-- The kernel's sum is the reference's. -/
theorem algebraic : Cert.algebraic_SumChipsUpIdeal_SumChipsUpRefIdeal := by
  intro m ρ m' ρ' hpre hagree
  refine ⟨_, (θ_run Cert.SumChipsUpIdeal.defs _ _).mono (fun _ h c => ⟨(h c).1.trans (arr1 m c), (h c).2⟩)
      (Cert.SumChipsUpIdeal.Value.run_blocks (F := Ideal) m ρ), ?_⟩
  refine (θ_run Cert.SumChipsUpRefIdeal.defs _ _).mono (fun _ h c => ⟨(h c).1.trans ?_, (h c).2⟩)
      (Cert.SumChipsUpRefIdeal.Value.run (F := Ideal) m' ρ')
  have h0 := hagree c
  rw [Cert.SumChipsUpRefIdeal.Read.val_main_v1_eq, h0]
  exact ref _

end Cert.Proof.SumChipsUp

end
-- ==== Proof.SumCoresDown.lean ====
/-
  The sum of the gradients of the feed-forward block's last weight on a chip's two cores, share by share. No condition is needed.
-/
module

public import proofs.«01_k».proof.Defs
public import proofs.«01_k».proof.Proof.Gen.SumCoresDownIdeal.Value
public import proofs.«01_k».proof.Proof.Gen.SumCoresDownRefIdeal.Run
public import proofs.«01_k».proof.Proof.Gen.SumCoresDownRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt

@[expose] public section
noncomputable section

namespace Cert.Proof.SumCoresDown
open Cert.SumCoresDownIdeal Cert.SumCoresDownIdeal.Gen Idealize.ShloMosaic Idealize.ShloMosaic.TcCoe Idealize.SL.Sem
open scoped BigOperators
variable (m : (ℓ : Loc nD τ sig) → Buf (Elt Ideal) ℓ)

/-- Window 0: rows of the core's own gradient. -/
theorem index0 : ∀ t : Fin cfg0.N, win0_0.index t = ![t.val, 0] := (by decide +kernel : ∀ t : Fin grid0.N, _)
/-- Window 1: rows of the other core's. -/
theorem index1 : ∀ t : Fin cfg0.N, win0_1.index t = ![t.val, 0] := (by decide +kernel : ∀ t : Fin grid0.N, _)
/-- Window 2: rows of the sum. -/
theorem index2 : ∀ t : Fin cfg0.N, win0_2.index t = ![t.val, 0] := (by decide +kernel : ∀ t : Fin grid0.N, _)

/-- The shares one below the other. -/
def rows (a : S4x768x1024.Idx → EReal) (j : S3072x1024.Idx) : EReal :=
  a (ix3 ⟨(j 0).val / 768, by have h0 : (j 0).val < 3072 := (j 0).isLt; omega⟩
    ⟨(j 0).val % 768, Nat.mod_lt _ (by norm_num)⟩ (j 1))

/-- What window 0 stages is the core's own gradient, row by row. -/
theorem V_v0 (c : Dev nD) : V m c main_v0 = rows (m (c.tc.loc main_arg0)) := by
  funext j
  unfold V rows
  after_reads_at

/-- What window 1 stages is the other core's, row by row. -/
theorem V_v1 (c : Dev nD) : V m c main_v1 = rows (m (c.tc.loc main_arg1)) := by
  funext j
  unfold V rows
  after_reads_at

/-- The sum. -/
def total (a b : S4x768x1024.Idx → EReal) (j : S3072x1024.Idx) : EReal := rows a j + rows b j

/-- The sum after the run. -/
theorem arr2 (c : Dev nD) : (dats m 0 c).arrAt 2 cfg0.N = total (m (c.tc.loc main_arg0)) (m (c.tc.loc main_arg1)) := by
  refine (dats m 0 c).arrAt_eq_of_covers 2 _ (by decide +kernel) fun t hf y => ?_
  have h0 := congrArg (rows (m (c.tc.loc main_arg0))) (show (win0_0.blk t).view.emb y = (win0_2.blk t).view.emb y by blk_ext [index0, index2])
  have h1 := congrArg (rows (m (c.tc.loc main_arg1))) (show (win0_1.blk t).view.emb y = (win0_2.blk t).view.emb y by blk_ext [index1, index2])
  blk_simp
  rw [after0_2]; unfold out0_2; frame_out
  unfold_payloads
  pointwise
  blk_simp [iblk]
  rw [V_v0, V_v1]
  show (rows (m (c.tc.loc main_arg0)) ((win0_0.blk t).view.emb y) + rows (m (c.tc.loc main_arg1)) ((win0_1.blk t).view.emb y) : EReal) = _
  rw [h0, h1, total]

/-- The reference's sum. -/
theorem ref (a b : S4x768x1024.Idx → EReal) : Cert.SumCoresDownRefIdeal.Read.val_main_v4 (F := Ideal) a b = total a b := by
  funext i
  rw [← Cert.SumCoresDownRefIdeal.Read.val_main_v4_eq]
  pointwise
  rfl

/-- The reference changes no argument and leaves no semaphore raised. -/
theorem frame_ref : Cert.quiescent_SumCoresDownRefIdeal := fun m ρ _ =>
  (θ_run Cert.SumCoresDownRefIdeal.defs _ _).mono (fun r h => ⟨fun c => (h c).2, sem_eq_zero_of_no_sems (by decide) r.2⟩)
    (Cert.SumCoresDownRefIdeal.Value.run (F := Ideal) m ρ)

/-- The kernel's sum is the reference's. -/
theorem algebraic : Cert.algebraic_SumCoresDownIdeal_SumCoresDownRefIdeal := by
  intro m ρ m' ρ' hpre hagree
  refine ⟨_, (θ_run Cert.SumCoresDownIdeal.defs _ _).mono (fun _ h c => ⟨(h c).1.trans (arr2 m c), (h c).2⟩)
      (Cert.SumCoresDownIdeal.Value.run_blocks (F := Ideal) m ρ), ?_⟩
  refine (θ_run Cert.SumCoresDownRefIdeal.defs _ _).mono (fun _ h c => ⟨(h c).1.trans ?_, (h c).2⟩)
      (Cert.SumCoresDownRefIdeal.Value.run (F := Ideal) m' ρ')
  obtain ⟨h0, h1⟩ := hagree c
  rw [Cert.SumCoresDownRefIdeal.Read.val_main_v4_eq, h0, h1]
  exact ref _ _

end Cert.Proof.SumCoresDown

end
-- ==== Proof.SumChipsDown.lean ====
/-
  The sum of the four chips' gradients of the feed-forward block's last weight, for a chip's share. No condition is needed.
-/
module

public import proofs.«01_k».proof.Defs
public import proofs.«01_k».proof.Proof.Gen.SumChipsDownIdeal.Value
public import proofs.«01_k».proof.Proof.Gen.SumChipsDownRefIdeal.Run
public import proofs.«01_k».proof.Proof.Gen.SumChipsDownRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt
public import proofs.«01_k».proof.Proof.Sums

@[expose] public section
noncomputable section

namespace Cert.Proof.SumChipsDown
open Cert.SumChipsDownIdeal Cert.SumChipsDownIdeal.Gen Idealize.ShloMosaic Idealize.ShloMosaic.TcCoe Idealize.SL.Sem
open scoped BigOperators
variable (m : (ℓ : Loc nD τ sig) → Buf (Elt Ideal) ℓ)

/-- Window 0: rows of all the parts. -/
theorem index0 : ∀ t : Fin cfg0.N, win0_0.index t = ![0, t.val, 0] := (by decide +kernel : ∀ t : Fin grid0.N, _)
/-- Window 1: rows of the sum. -/
theorem index1 : ∀ t : Fin cfg0.N, win0_1.index t = ![t.val, 0] := (by decide +kernel : ∀ t : Fin grid0.N, _)

/-- The sum of the parts. -/
def total (g : S4x768x1024.Idx → EReal) (i : S768x1024.Idx) : EReal := ∑ s : Fin 4, g (ix3 s (i 0) (i 1))

/-- The row of the arrays that row `x` of the block of point `t` is. -/
def rowAt (t : Fin cfg0.N) (x : Fin 256) : Fin 768 :=
  ⟨256 * t.val + x.val, by have := x.isLt; have ht : t.val < 3 := lt_of_lt_of_eq t.isLt (show cfg0.N = 3 from N_0); omega⟩

/-- An element of a block of the parts is the array's. -/
theorem emb0 (t : Fin cfg0.N) (s : Fin 4) (x : Fin 256) (k : Fin 1024) : (win0_0.blk t).view.emb (ix3 s x k) = ix3 s (rowAt t x) k := by
  unfold rowAt
  blk_ext [index0]
/-- An element of a block of the sum is the array's. -/
theorem emb1 (t : Fin cfg0.N) (x : Fin 256) (k : Fin 1024) : (win0_1.blk t).view.emb (ix2 x k) = ix2 (rowAt t x) k := by
  unfold rowAt
  blk_ext [index1]

/-- The parts in a block. -/
theorem blk0 (c : Dev nD) (t : Fin cfg0.N) (s : Fin 4) (x : Fin 256) (k : Fin 1024) :
    iblk m c 0 t (ix3 s x k) = m (c.tc.loc main_arg0) (ix3 s (rowAt t x) k) := by
  blk_simp [iblk]
  rw [V_main_arg0, emb0]

/-- One part of a block, loaded. -/
theorem ld_part (X : Vec Ideal S4x256x1024 .bf16) (s : Fin 4) (h : ∀ a, ![s.val, 0, 0] a + S1x256x1024.size a ≤ S4x256x1024.size a) (x : Fin 256) (k : Fin 1024) :
    View.ld X (Rect.unit (s := S4x256x1024) ![s.val, 0, 0] S1x256x1024.size h) (ix3 (0 : Fin 1) x k) = X (ix3 s x k) :=
  congrArg X (funext fun a => Fin.ext (by
    match a with
    | ⟨0, _⟩ => rfl
    | ⟨1, _⟩ => show 0 + 1 * x.val = x.val; omega
    | ⟨2, _⟩ => show 0 + 1 * k.val = k.val; omega))

/-- A block of the sum. -/
theorem pay_at (v0 v1 v2 v3 : Vec Ideal S1x256x1024 .bf16) (x : Fin 256) (k : Fin 1024) :
    k0_pay1 v0 v1 v2 v3 (ix2 x k) = HAdd.hAdd (α := EReal) (β := EReal) (HAdd.hAdd (α := EReal) (β := EReal) (HAdd.hAdd (α := EReal) (β := EReal) (v0 (ix3 (0 : Fin 1) x k)) (v1 (ix3 (0 : Fin 1) x k))) (v2 (ix3 (0 : Fin 1) x k))) (v3 (ix3 (0 : Fin 1) x k)) := by
  unfold k0_pay1
  pointwise

/-- The sum after the run. -/
theorem arr1 (c : Dev nD) : (dats m 0 c).arrAt 1 cfg0.N = total (m (c.tc.loc main_arg0)) := by
  refine (dats m 0 c).arrAt_eq_of_covers 1 _ (by decide +kernel) fun t hf y => ?_
  blk_simp
  rw [after0_1]
  obtain ⟨x, k, rfl⟩ : ∃ (x : Fin 256) (k : Fin 1024), y = ix2 x k := ⟨y 0, y 1, eq_ix2 y⟩
  rw [emb1]
  unfold out0_1; frame_out
  refine (pay_at _ _ _ _ x k).trans ?_
  unfold total
  rw [Fin.sum_univ_four]
  exact (congrArg₂ (HAdd.hAdd (α := EReal) (β := EReal)) (congrArg₂ (HAdd.hAdd (α := EReal) (β := EReal)) (congrArg₂ (HAdd.hAdd (α := EReal) (β := EReal)) ((ld_part _ 0 _ x k).trans (blk0 m c t 0 x k))
    ((ld_part _ 1 _ x k).trans (blk0 m c t 1 x k)))
    ((ld_part _ 2 _ x k).trans (blk0 m c t 2 x k)))
    ((ld_part _ 3 _ x k).trans (blk0 m c t 3 x k)))

/-- The reference's sum. -/
theorem ref (g : S4x768x1024.Idx → EReal) : Cert.SumChipsDownRefIdeal.Read.val_main_v1 (F := Ideal) g = total g := by
  funext i
  unfold total
  rw [← Cert.SumChipsDownRefIdeal.Read.val_main_v1_eq]
  pointwise

/-- The reference changes no argument and leaves no semaphore raised. -/
theorem frame_ref : Cert.quiescent_SumChipsDownRefIdeal := fun m ρ _ =>
  (θ_run Cert.SumChipsDownRefIdeal.defs _ _).mono (fun r h => ⟨fun c => (h c).2, sem_eq_zero_of_no_sems (by decide) r.2⟩)
    (Cert.SumChipsDownRefIdeal.Value.run (F := Ideal) m ρ)

/-- The kernel's sum is the reference's. -/
theorem algebraic : Cert.algebraic_SumChipsDownIdeal_SumChipsDownRefIdeal := by
  intro m ρ m' ρ' hpre hagree
  refine ⟨_, (θ_run Cert.SumChipsDownIdeal.defs _ _).mono (fun _ h c => ⟨(h c).1.trans (arr1 m c), (h c).2⟩)
      (Cert.SumChipsDownIdeal.Value.run_blocks (F := Ideal) m ρ), ?_⟩
  refine (θ_run Cert.SumChipsDownRefIdeal.defs _ _).mono (fun _ h c => ⟨(h c).1.trans ?_, (h c).2⟩)
      (Cert.SumChipsDownRefIdeal.Value.run (F := Ideal) m' ρ')
  have h0 := hagree c
  rw [Cert.SumChipsDownRefIdeal.Read.val_main_v1_eq, h0]
  exact ref _

end Cert.Proof.SumChipsDown

end
-- ==== Proof.SumCoresOut.lean ====
/-
  The sum of the gradients of the mixers' output weight and of the gate's weight on a chip's two cores, share by share. No condition is needed.
-/
module

public import proofs.«01_k».proof.Defs
public import proofs.«01_k».proof.Proof.Gen.SumCoresOutIdeal.Value
public import proofs.«01_k».proof.Proof.Gen.SumCoresOutRefIdeal.Run
public import proofs.«01_k».proof.Proof.Gen.SumCoresOutRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt

@[expose] public section
noncomputable section

namespace Cert.Proof.SumCoresOut
open Cert.SumCoresOutIdeal Cert.SumCoresOutIdeal.Gen Idealize.ShloMosaic Idealize.ShloMosaic.TcCoe Idealize.SL.Sem
open scoped BigOperators
variable (m : (ℓ : Loc nD τ sig) → Buf (Elt Ideal) ℓ)

/-- Window 0: rows of the core's own gradient. -/
theorem index0 : ∀ t : Fin cfg0.N, win0_0.index t = ![t.val, 0] := (by decide +kernel : ∀ t : Fin grid0.N, _)
/-- Window 1: rows of the other core's. -/
theorem index1 : ∀ t : Fin cfg0.N, win0_1.index t = ![t.val, 0] := (by decide +kernel : ∀ t : Fin grid0.N, _)
/-- Window 2: rows of the sum. -/
theorem index2 : ∀ t : Fin cfg0.N, win0_2.index t = ![t.val, 0] := (by decide +kernel : ∀ t : Fin grid0.N, _)

/-- The shares one below the other. -/
def rows (a : S4x256x1024.Idx → EReal) (j : S1024x1024.Idx) : EReal :=
  a (ix3 ⟨(j 0).val / 256, by have h0 : (j 0).val < 1024 := (j 0).isLt; omega⟩
    ⟨(j 0).val % 256, Nat.mod_lt _ (by norm_num)⟩ (j 1))

/-- What window 0 stages is the core's own gradient, row by row. -/
theorem V_v0 (c : Dev nD) : V m c main_v0 = rows (m (c.tc.loc main_arg0)) := by
  funext j
  unfold V rows
  after_reads_at

/-- What window 1 stages is the other core's, row by row. -/
theorem V_v1 (c : Dev nD) : V m c main_v1 = rows (m (c.tc.loc main_arg1)) := by
  funext j
  unfold V rows
  after_reads_at

/-- The sum. -/
def total (a b : S4x256x1024.Idx → EReal) (j : S1024x1024.Idx) : EReal := rows a j + rows b j

/-- The sum after the run. -/
theorem arr2 (c : Dev nD) : (dats m 0 c).arrAt 2 cfg0.N = total (m (c.tc.loc main_arg0)) (m (c.tc.loc main_arg1)) := by
  refine (dats m 0 c).arrAt_eq_of_covers 2 _ (by decide +kernel) fun t hf y => ?_
  have h0 := congrArg (rows (m (c.tc.loc main_arg0))) (show (win0_0.blk t).view.emb y = (win0_2.blk t).view.emb y by blk_ext [index0, index2])
  have h1 := congrArg (rows (m (c.tc.loc main_arg1))) (show (win0_1.blk t).view.emb y = (win0_2.blk t).view.emb y by blk_ext [index1, index2])
  blk_simp
  rw [after0_2]; unfold out0_2; frame_out
  unfold_payloads
  pointwise
  blk_simp [iblk]
  rw [V_v0, V_v1]
  show (rows (m (c.tc.loc main_arg0)) ((win0_0.blk t).view.emb y) + rows (m (c.tc.loc main_arg1)) ((win0_1.blk t).view.emb y) : EReal) = _
  rw [h0, h1, total]

/-- The reference's sum. -/
theorem ref (a b : S4x256x1024.Idx → EReal) : Cert.SumCoresOutRefIdeal.Read.val_main_v4 (F := Ideal) a b = total a b := by
  funext i
  rw [← Cert.SumCoresOutRefIdeal.Read.val_main_v4_eq]
  pointwise
  rfl

/-- The reference changes no argument and leaves no semaphore raised. -/
theorem frame_ref : Cert.quiescent_SumCoresOutRefIdeal := fun m ρ _ =>
  (θ_run Cert.SumCoresOutRefIdeal.defs _ _).mono (fun r h => ⟨fun c => (h c).2, sem_eq_zero_of_no_sems (by decide) r.2⟩)
    (Cert.SumCoresOutRefIdeal.Value.run (F := Ideal) m ρ)

/-- The kernel's sum is the reference's. -/
theorem algebraic : Cert.algebraic_SumCoresOutIdeal_SumCoresOutRefIdeal := by
  intro m ρ m' ρ' hpre hagree
  refine ⟨_, (θ_run Cert.SumCoresOutIdeal.defs _ _).mono (fun _ h c => ⟨(h c).1.trans (arr2 m c), (h c).2⟩)
      (Cert.SumCoresOutIdeal.Value.run_blocks (F := Ideal) m ρ), ?_⟩
  refine (θ_run Cert.SumCoresOutRefIdeal.defs _ _).mono (fun _ h c => ⟨(h c).1.trans ?_, (h c).2⟩)
      (Cert.SumCoresOutRefIdeal.Value.run (F := Ideal) m' ρ')
  obtain ⟨h0, h1⟩ := hagree c
  rw [Cert.SumCoresOutRefIdeal.Read.val_main_v4_eq, h0, h1]
  exact ref _ _

end Cert.Proof.SumCoresOut

end
-- ==== Proof.SumChipsOut.lean ====
/-
  The sum of the four chips' gradients of the mixers' output weight and of the gate's weight, for a chip's share. No condition is needed.
-/
module

public import proofs.«01_k».proof.Defs
public import proofs.«01_k».proof.Proof.Gen.SumChipsOutIdeal.Value
public import proofs.«01_k».proof.Proof.Gen.SumChipsOutRefIdeal.Run
public import proofs.«01_k».proof.Proof.Gen.SumChipsOutRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt
public import proofs.«01_k».proof.Proof.Sums

@[expose] public section
noncomputable section

namespace Cert.Proof.SumChipsOut
open Cert.SumChipsOutIdeal Cert.SumChipsOutIdeal.Gen Idealize.ShloMosaic Idealize.ShloMosaic.TcCoe Idealize.SL.Sem
open scoped BigOperators
variable (m : (ℓ : Loc nD τ sig) → Buf (Elt Ideal) ℓ)

/-- Window 0: rows of all the parts. -/
theorem index0 : ∀ t : Fin cfg0.N, win0_0.index t = ![0, t.val, 0] := (by decide +kernel : ∀ t : Fin grid0.N, _)
/-- Window 1: rows of the sum. -/
theorem index1 : ∀ t : Fin cfg0.N, win0_1.index t = ![t.val, 0] := (by decide +kernel : ∀ t : Fin grid0.N, _)

/-- The sum of the parts. -/
def total (g : S4x256x1024.Idx → EReal) (i : S256x1024.Idx) : EReal := ∑ s : Fin 4, g (ix3 s (i 0) (i 1))

/-- The row of the arrays that row `x` of the block of point `t` is. -/
def rowAt (t : Fin cfg0.N) (x : Fin 256) : Fin 256 :=
  ⟨256 * t.val + x.val, by have := x.isLt; have ht : t.val < 1 := lt_of_lt_of_eq t.isLt (show cfg0.N = 1 from N_0); omega⟩

/-- An element of a block of the parts is the array's. -/
theorem emb0 (t : Fin cfg0.N) (s : Fin 4) (x : Fin 256) (k : Fin 1024) : (win0_0.blk t).view.emb (ix3 s x k) = ix3 s (rowAt t x) k := by
  unfold rowAt
  blk_ext [index0]
/-- An element of a block of the sum is the array's. -/
theorem emb1 (t : Fin cfg0.N) (x : Fin 256) (k : Fin 1024) : (win0_1.blk t).view.emb (ix2 x k) = ix2 (rowAt t x) k := by
  unfold rowAt
  blk_ext [index1]

/-- The parts in a block. -/
theorem blk0 (c : Dev nD) (t : Fin cfg0.N) (s : Fin 4) (x : Fin 256) (k : Fin 1024) :
    iblk m c 0 t (ix3 s x k) = m (c.tc.loc main_arg0) (ix3 s (rowAt t x) k) := by
  blk_simp [iblk]
  rw [V_main_arg0, emb0]

/-- One part of a block, loaded. -/
theorem ld_part (X : Vec Ideal S4x256x1024 .bf16) (s : Fin 4) (h : ∀ a, ![s.val, 0, 0] a + S1x256x1024.size a ≤ S4x256x1024.size a) (x : Fin 256) (k : Fin 1024) :
    View.ld X (Rect.unit (s := S4x256x1024) ![s.val, 0, 0] S1x256x1024.size h) (ix3 (0 : Fin 1) x k) = X (ix3 s x k) :=
  congrArg X (funext fun a => Fin.ext (by
    match a with
    | ⟨0, _⟩ => rfl
    | ⟨1, _⟩ => show 0 + 1 * x.val = x.val; omega
    | ⟨2, _⟩ => show 0 + 1 * k.val = k.val; omega))

/-- A block of the sum. -/
theorem pay_at (v0 v1 v2 v3 : Vec Ideal S1x256x1024 .bf16) (x : Fin 256) (k : Fin 1024) :
    k0_pay1 v0 v1 v2 v3 (ix2 x k) = HAdd.hAdd (α := EReal) (β := EReal) (HAdd.hAdd (α := EReal) (β := EReal) (HAdd.hAdd (α := EReal) (β := EReal) (v0 (ix3 (0 : Fin 1) x k)) (v1 (ix3 (0 : Fin 1) x k))) (v2 (ix3 (0 : Fin 1) x k))) (v3 (ix3 (0 : Fin 1) x k)) := by
  unfold k0_pay1
  pointwise

/-- The sum after the run. -/
theorem arr1 (c : Dev nD) : (dats m 0 c).arrAt 1 cfg0.N = total (m (c.tc.loc main_arg0)) := by
  refine (dats m 0 c).arrAt_eq_of_covers 1 _ (by decide +kernel) fun t hf y => ?_
  blk_simp
  rw [after0_1]
  obtain ⟨x, k, rfl⟩ : ∃ (x : Fin 256) (k : Fin 1024), y = ix2 x k := ⟨y 0, y 1, eq_ix2 y⟩
  rw [emb1]
  unfold out0_1; frame_out
  refine (pay_at _ _ _ _ x k).trans ?_
  unfold total
  rw [Fin.sum_univ_four]
  exact (congrArg₂ (HAdd.hAdd (α := EReal) (β := EReal)) (congrArg₂ (HAdd.hAdd (α := EReal) (β := EReal)) (congrArg₂ (HAdd.hAdd (α := EReal) (β := EReal)) ((ld_part _ 0 _ x k).trans (blk0 m c t 0 x k))
    ((ld_part _ 1 _ x k).trans (blk0 m c t 1 x k)))
    ((ld_part _ 2 _ x k).trans (blk0 m c t 2 x k)))
    ((ld_part _ 3 _ x k).trans (blk0 m c t 3 x k)))

/-- The reference's sum. -/
theorem ref (g : S4x256x1024.Idx → EReal) : Cert.SumChipsOutRefIdeal.Read.val_main_v1 (F := Ideal) g = total g := by
  funext i
  unfold total
  rw [← Cert.SumChipsOutRefIdeal.Read.val_main_v1_eq]
  pointwise

/-- The reference changes no argument and leaves no semaphore raised. -/
theorem frame_ref : Cert.quiescent_SumChipsOutRefIdeal := fun m ρ _ =>
  (θ_run Cert.SumChipsOutRefIdeal.defs _ _).mono (fun r h => ⟨fun c => (h c).2, sem_eq_zero_of_no_sems (by decide) r.2⟩)
    (Cert.SumChipsOutRefIdeal.Value.run (F := Ideal) m ρ)

/-- The kernel's sum is the reference's. -/
theorem algebraic : Cert.algebraic_SumChipsOutIdeal_SumChipsOutRefIdeal := by
  intro m ρ m' ρ' hpre hagree
  refine ⟨_, (θ_run Cert.SumChipsOutIdeal.defs _ _).mono (fun _ h c => ⟨(h c).1.trans (arr1 m c), (h c).2⟩)
      (Cert.SumChipsOutIdeal.Value.run_blocks (F := Ideal) m ρ), ?_⟩
  refine (θ_run Cert.SumChipsOutRefIdeal.defs _ _).mono (fun _ h c => ⟨(h c).1.trans ?_, (h c).2⟩)
      (Cert.SumChipsOutRefIdeal.Value.run (F := Ideal) m' ρ')
  have h0 := hagree c
  rw [Cert.SumChipsOutRefIdeal.Read.val_main_v1_eq, h0]
  exact ref _

end Cert.Proof.SumChipsOut

end
-- ==== Proof.SumCoresProj.lean ====
/-
  The sum of the gradients of the embedding's projection on a chip's two cores, share by share. No condition is needed.
-/
module

public import proofs.«01_k».proof.Defs
public import proofs.«01_k».proof.Proof.Gen.SumCoresProjIdeal.Value
public import proofs.«01_k».proof.Proof.Gen.SumCoresProjRefIdeal.Run
public import proofs.«01_k».proof.Proof.Gen.SumCoresProjRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt

@[expose] public section
noncomputable section

namespace Cert.Proof.SumCoresProj
open Cert.SumCoresProjIdeal Cert.SumCoresProjIdeal.Gen Idealize.ShloMosaic Idealize.ShloMosaic.TcCoe Idealize.SL.Sem
open scoped BigOperators
variable (m : (ℓ : Loc nD τ sig) → Buf (Elt Ideal) ℓ)

/-- Window 0: rows of the core's own gradient. -/
theorem index0 : ∀ t : Fin cfg0.N, win0_0.index t = ![t.val, 0] := (by decide +kernel : ∀ t : Fin grid0.N, _)
/-- Window 1: rows of the other core's. -/
theorem index1 : ∀ t : Fin cfg0.N, win0_1.index t = ![t.val, 0] := (by decide +kernel : ∀ t : Fin grid0.N, _)
/-- Window 2: rows of the sum. -/
theorem index2 : ∀ t : Fin cfg0.N, win0_2.index t = ![t.val, 0] := (by decide +kernel : ∀ t : Fin grid0.N, _)

/-- The shares one below the other. -/
def rows (a : S4x256x256.Idx → EReal) (j : S1024x256.Idx) : EReal :=
  a (ix3 ⟨(j 0).val / 256, by have h0 : (j 0).val < 1024 := (j 0).isLt; omega⟩
    ⟨(j 0).val % 256, Nat.mod_lt _ (by norm_num)⟩ (j 1))

/-- What window 0 stages is the core's own gradient, row by row. -/
theorem V_v0 (c : Dev nD) : V m c main_v0 = rows (m (c.tc.loc main_arg0)) := by
  funext j
  unfold V rows
  after_reads_at

/-- What window 1 stages is the other core's, row by row. -/
theorem V_v1 (c : Dev nD) : V m c main_v1 = rows (m (c.tc.loc main_arg1)) := by
  funext j
  unfold V rows
  after_reads_at

/-- The sum. -/
def total (a b : S4x256x256.Idx → EReal) (j : S1024x256.Idx) : EReal := rows a j + rows b j

/-- The sum after the run. -/
theorem arr2 (c : Dev nD) : (dats m 0 c).arrAt 2 cfg0.N = total (m (c.tc.loc main_arg0)) (m (c.tc.loc main_arg1)) := by
  refine (dats m 0 c).arrAt_eq_of_covers 2 _ (by decide +kernel) fun t hf y => ?_
  have h0 := congrArg (rows (m (c.tc.loc main_arg0))) (show (win0_0.blk t).view.emb y = (win0_2.blk t).view.emb y by blk_ext [index0, index2])
  have h1 := congrArg (rows (m (c.tc.loc main_arg1))) (show (win0_1.blk t).view.emb y = (win0_2.blk t).view.emb y by blk_ext [index1, index2])
  blk_simp
  rw [after0_2]; unfold out0_2; frame_out
  unfold_payloads
  pointwise
  blk_simp [iblk]
  rw [V_v0, V_v1]
  show (rows (m (c.tc.loc main_arg0)) ((win0_0.blk t).view.emb y) + rows (m (c.tc.loc main_arg1)) ((win0_1.blk t).view.emb y) : EReal) = _
  rw [h0, h1, total]

/-- The reference's sum. -/
theorem ref (a b : S4x256x256.Idx → EReal) : Cert.SumCoresProjRefIdeal.Read.val_main_v4 (F := Ideal) a b = total a b := by
  funext i
  rw [← Cert.SumCoresProjRefIdeal.Read.val_main_v4_eq]
  pointwise
  rfl

/-- The reference changes no argument and leaves no semaphore raised. -/
theorem frame_ref : Cert.quiescent_SumCoresProjRefIdeal := fun m ρ _ =>
  (θ_run Cert.SumCoresProjRefIdeal.defs _ _).mono (fun r h => ⟨fun c => (h c).2, sem_eq_zero_of_no_sems (by decide) r.2⟩)
    (Cert.SumCoresProjRefIdeal.Value.run (F := Ideal) m ρ)

/-- The kernel's sum is the reference's. -/
theorem algebraic : Cert.algebraic_SumCoresProjIdeal_SumCoresProjRefIdeal := by
  intro m ρ m' ρ' hpre hagree
  refine ⟨_, (θ_run Cert.SumCoresProjIdeal.defs _ _).mono (fun _ h c => ⟨(h c).1.trans (arr2 m c), (h c).2⟩)
      (Cert.SumCoresProjIdeal.Value.run_blocks (F := Ideal) m ρ), ?_⟩
  refine (θ_run Cert.SumCoresProjRefIdeal.defs _ _).mono (fun _ h c => ⟨(h c).1.trans ?_, (h c).2⟩)
      (Cert.SumCoresProjRefIdeal.Value.run (F := Ideal) m' ρ')
  obtain ⟨h0, h1⟩ := hagree c
  rw [Cert.SumCoresProjRefIdeal.Read.val_main_v4_eq, h0, h1]
  exact ref _ _

end Cert.Proof.SumCoresProj

end
-- ==== Proof.SumChipsProj.lean ====
/-
  The sum of the four chips' gradients of the embedding's projection, for a chip's share. No condition is needed.
-/
module

public import proofs.«01_k».proof.Defs
public import proofs.«01_k».proof.Proof.Gen.SumChipsProjIdeal.Value
public import proofs.«01_k».proof.Proof.Gen.SumChipsProjRefIdeal.Run
public import proofs.«01_k».proof.Proof.Gen.SumChipsProjRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt
public import proofs.«01_k».proof.Proof.Sums

@[expose] public section
noncomputable section

namespace Cert.Proof.SumChipsProj
open Cert.SumChipsProjIdeal Cert.SumChipsProjIdeal.Gen Idealize.ShloMosaic Idealize.ShloMosaic.TcCoe Idealize.SL.Sem
open scoped BigOperators
variable (m : (ℓ : Loc nD τ sig) → Buf (Elt Ideal) ℓ)

/-- Window 0: rows of all the parts. -/
theorem index0 : ∀ t : Fin cfg0.N, win0_0.index t = ![0, t.val, 0] := (by decide +kernel : ∀ t : Fin grid0.N, _)
/-- Window 1: rows of the sum. -/
theorem index1 : ∀ t : Fin cfg0.N, win0_1.index t = ![t.val, 0] := (by decide +kernel : ∀ t : Fin grid0.N, _)

/-- The sum of the parts. -/
def total (g : S4x256x256.Idx → EReal) (i : S256x256.Idx) : EReal := ∑ s : Fin 4, g (ix3 s (i 0) (i 1))

/-- The row of the arrays that row `x` of the block of point `t` is. -/
def rowAt (t : Fin cfg0.N) (x : Fin 256) : Fin 256 :=
  ⟨256 * t.val + x.val, by have := x.isLt; have ht : t.val < 1 := lt_of_lt_of_eq t.isLt (show cfg0.N = 1 from N_0); omega⟩

/-- An element of a block of the parts is the array's. -/
theorem emb0 (t : Fin cfg0.N) (s : Fin 4) (x : Fin 256) (k : Fin 256) : (win0_0.blk t).view.emb (ix3 s x k) = ix3 s (rowAt t x) k := by
  unfold rowAt
  blk_ext [index0]
/-- An element of a block of the sum is the array's. -/
theorem emb1 (t : Fin cfg0.N) (x : Fin 256) (k : Fin 256) : (win0_1.blk t).view.emb (ix2 x k) = ix2 (rowAt t x) k := by
  unfold rowAt
  blk_ext [index1]

/-- The parts in a block. -/
theorem blk0 (c : Dev nD) (t : Fin cfg0.N) (s : Fin 4) (x : Fin 256) (k : Fin 256) :
    iblk m c 0 t (ix3 s x k) = m (c.tc.loc main_arg0) (ix3 s (rowAt t x) k) := by
  blk_simp [iblk]
  rw [V_main_arg0, emb0]

/-- One part of a block, loaded. -/
theorem ld_part (X : Vec Ideal S4x256x256 .bf16) (s : Fin 4) (h : ∀ a, ![s.val, 0, 0] a + S1x256x256.size a ≤ S4x256x256.size a) (x : Fin 256) (k : Fin 256) :
    View.ld X (Rect.unit (s := S4x256x256) ![s.val, 0, 0] S1x256x256.size h) (ix3 (0 : Fin 1) x k) = X (ix3 s x k) :=
  congrArg X (funext fun a => Fin.ext (by
    match a with
    | ⟨0, _⟩ => rfl
    | ⟨1, _⟩ => show 0 + 1 * x.val = x.val; omega
    | ⟨2, _⟩ => show 0 + 1 * k.val = k.val; omega))

/-- A block of the sum. -/
theorem pay_at (v0 v1 v2 v3 : Vec Ideal S1x256x256 .bf16) (x : Fin 256) (k : Fin 256) :
    k0_pay1 v0 v1 v2 v3 (ix2 x k) = HAdd.hAdd (α := EReal) (β := EReal) (HAdd.hAdd (α := EReal) (β := EReal) (HAdd.hAdd (α := EReal) (β := EReal) (v0 (ix3 (0 : Fin 1) x k)) (v1 (ix3 (0 : Fin 1) x k))) (v2 (ix3 (0 : Fin 1) x k))) (v3 (ix3 (0 : Fin 1) x k)) := by
  unfold k0_pay1
  pointwise

/-- The sum after the run. -/
theorem arr1 (c : Dev nD) : (dats m 0 c).arrAt 1 cfg0.N = total (m (c.tc.loc main_arg0)) := by
  refine (dats m 0 c).arrAt_eq_of_covers 1 _ (by decide +kernel) fun t hf y => ?_
  blk_simp
  rw [after0_1]
  obtain ⟨x, k, rfl⟩ : ∃ (x : Fin 256) (k : Fin 256), y = ix2 x k := ⟨y 0, y 1, eq_ix2 y⟩
  rw [emb1]
  unfold out0_1; frame_out
  refine (pay_at _ _ _ _ x k).trans ?_
  unfold total
  rw [Fin.sum_univ_four]
  exact (congrArg₂ (HAdd.hAdd (α := EReal) (β := EReal)) (congrArg₂ (HAdd.hAdd (α := EReal) (β := EReal)) (congrArg₂ (HAdd.hAdd (α := EReal) (β := EReal)) ((ld_part _ 0 _ x k).trans (blk0 m c t 0 x k))
    ((ld_part _ 1 _ x k).trans (blk0 m c t 1 x k)))
    ((ld_part _ 2 _ x k).trans (blk0 m c t 2 x k)))
    ((ld_part _ 3 _ x k).trans (blk0 m c t 3 x k)))

/-- The reference's sum. -/
theorem ref (g : S4x256x256.Idx → EReal) : Cert.SumChipsProjRefIdeal.Read.val_main_v1 (F := Ideal) g = total g := by
  funext i
  unfold total
  rw [← Cert.SumChipsProjRefIdeal.Read.val_main_v1_eq]
  pointwise

/-- The reference changes no argument and leaves no semaphore raised. -/
theorem frame_ref : Cert.quiescent_SumChipsProjRefIdeal := fun m ρ _ =>
  (θ_run Cert.SumChipsProjRefIdeal.defs _ _).mono (fun r h => ⟨fun c => (h c).2, sem_eq_zero_of_no_sems (by decide) r.2⟩)
    (Cert.SumChipsProjRefIdeal.Value.run (F := Ideal) m ρ)

/-- The kernel's sum is the reference's. -/
theorem algebraic : Cert.algebraic_SumChipsProjIdeal_SumChipsProjRefIdeal := by
  intro m ρ m' ρ' hpre hagree
  refine ⟨_, (θ_run Cert.SumChipsProjIdeal.defs _ _).mono (fun _ h c => ⟨(h c).1.trans (arr1 m c), (h c).2⟩)
      (Cert.SumChipsProjIdeal.Value.run_blocks (F := Ideal) m ρ), ?_⟩
  refine (θ_run Cert.SumChipsProjRefIdeal.defs _ _).mono (fun _ h c => ⟨(h c).1.trans ?_, (h c).2⟩)
      (Cert.SumChipsProjRefIdeal.Value.run (F := Ideal) m' ρ')
  have h0 := hagree c
  rw [Cert.SumChipsProjRefIdeal.Read.val_main_v1_eq, h0]
  exact ref _

end Cert.Proof.SumChipsProj

end
-- ==== Proof.SumDevices.lean ====
/-
  The sum of the eight devices' gradients of the small weights, packed into rows of 128. No condition is needed.
-/
module

public import proofs.«01_k».proof.Defs
public import proofs.«01_k».proof.Proof.Gen.SumDevicesIdeal.Value
public import proofs.«01_k».proof.Proof.Gen.SumDevicesRefIdeal.Run
public import proofs.«01_k».proof.Proof.Gen.SumDevicesRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt
public import proofs.«01_k».proof.Proof.Sums

@[expose] public section
noncomputable section

namespace Cert.Proof.SumDevices
open Cert.SumDevicesIdeal Cert.SumDevicesIdeal.Gen Idealize.ShloMosaic Idealize.ShloMosaic.TcCoe Idealize.SL.Sem
open scoped BigOperators
variable (m : (ℓ : Loc nD τ sig) → Buf (Elt Ideal) ℓ)

/-- Window 0: rows of all the parts. -/
theorem index0 : ∀ t : Fin cfg0.N, win0_0.index t = ![0, t.val, 0] := (by decide +kernel : ∀ t : Fin grid0.N, _)
/-- Window 1: rows of the sum. -/
theorem index1 : ∀ t : Fin cfg0.N, win0_1.index t = ![t.val, 0] := (by decide +kernel : ∀ t : Fin grid0.N, _)

/-- The sum of the parts. -/
def total (g : S8x792x128.Idx → EReal) (i : S792x128.Idx) : EReal := ∑ s : Fin 8, g (ix3 s (i 0) (i 1))

/-- The row of the arrays that row `x` of the block of point `t` is. -/
def rowAt (t : Fin cfg0.N) (x : Fin 8) : Fin 792 :=
  ⟨8 * t.val + x.val, by have := x.isLt; have ht : t.val < 99 := lt_of_lt_of_eq t.isLt (show cfg0.N = 99 from N_0); omega⟩

/-- An element of a block of the parts is the array's. -/
theorem emb0 (t : Fin cfg0.N) (s : Fin 8) (x : Fin 8) (k : Fin 128) : (win0_0.blk t).view.emb (ix3 s x k) = ix3 s (rowAt t x) k := by
  unfold rowAt
  blk_ext [index0]
/-- An element of a block of the sum is the array's. -/
theorem emb1 (t : Fin cfg0.N) (x : Fin 8) (k : Fin 128) : (win0_1.blk t).view.emb (ix2 x k) = ix2 (rowAt t x) k := by
  unfold rowAt
  blk_ext [index1]

/-- The parts in a block. -/
theorem blk0 (c : Dev nD) (t : Fin cfg0.N) (s : Fin 8) (x : Fin 8) (k : Fin 128) :
    iblk m c 0 t (ix3 s x k) = m (c.tc.loc main_arg0) (ix3 s (rowAt t x) k) := by
  blk_simp [iblk]
  rw [V_main_arg0, emb0]

/-- One part of a block, loaded. -/
theorem ld_part (X : Vec Ideal S8x8x128 .f32) (s : Fin 8) (h : ∀ a, ![s.val, 0, 0] a + S1x8x128.size a ≤ S8x8x128.size a) (x : Fin 8) (k : Fin 128) :
    View.ld X (Rect.unit (s := S8x8x128) ![s.val, 0, 0] S1x8x128.size h) (ix3 (0 : Fin 1) x k) = X (ix3 s x k) :=
  congrArg X (funext fun a => Fin.ext (by
    match a with
    | ⟨0, _⟩ => rfl
    | ⟨1, _⟩ => show 0 + 1 * x.val = x.val; omega
    | ⟨2, _⟩ => show 0 + 1 * k.val = k.val; omega))

/-- A block of the sum. -/
theorem pay_at (v0 v1 v2 v3 v4 v5 v6 v7 : Vec Ideal S1x8x128 .f32) (x : Fin 8) (k : Fin 128) :
    k0_pay1 v0 v1 v2 v3 v4 v5 v6 v7 (ix2 x k) = HAdd.hAdd (α := EReal) (β := EReal) (HAdd.hAdd (α := EReal) (β := EReal) (HAdd.hAdd (α := EReal) (β := EReal) (HAdd.hAdd (α := EReal) (β := EReal) (HAdd.hAdd (α := EReal) (β := EReal) (HAdd.hAdd (α := EReal) (β := EReal) (HAdd.hAdd (α := EReal) (β := EReal) (v0 (ix3 (0 : Fin 1) x k)) (v1 (ix3 (0 : Fin 1) x k))) (v2 (ix3 (0 : Fin 1) x k))) (v3 (ix3 (0 : Fin 1) x k))) (v4 (ix3 (0 : Fin 1) x k))) (v5 (ix3 (0 : Fin 1) x k))) (v6 (ix3 (0 : Fin 1) x k))) (v7 (ix3 (0 : Fin 1) x k)) := by
  unfold k0_pay1
  pointwise

/-- The sum after the run. -/
theorem arr1 (c : Dev nD) : (dats m 0 c).arrAt 1 cfg0.N = total (m (c.tc.loc main_arg0)) := by
  refine (dats m 0 c).arrAt_eq_of_covers 1 _ (by decide +kernel) fun t hf y => ?_
  blk_simp
  rw [after0_1]
  obtain ⟨x, k, rfl⟩ : ∃ (x : Fin 8) (k : Fin 128), y = ix2 x k := ⟨y 0, y 1, eq_ix2 y⟩
  rw [emb1]
  unfold out0_1; frame_out
  refine (pay_at _ _ _ _ _ _ _ _ x k).trans ?_
  unfold total
  rw [Fin.sum_univ_eight]
  exact (congrArg₂ (HAdd.hAdd (α := EReal) (β := EReal)) (congrArg₂ (HAdd.hAdd (α := EReal) (β := EReal)) (congrArg₂ (HAdd.hAdd (α := EReal) (β := EReal)) (congrArg₂ (HAdd.hAdd (α := EReal) (β := EReal)) (congrArg₂ (HAdd.hAdd (α := EReal) (β := EReal)) (congrArg₂ (HAdd.hAdd (α := EReal) (β := EReal)) (congrArg₂ (HAdd.hAdd (α := EReal) (β := EReal)) ((ld_part _ 0 _ x k).trans (blk0 m c t 0 x k))
    ((ld_part _ 1 _ x k).trans (blk0 m c t 1 x k)))
    ((ld_part _ 2 _ x k).trans (blk0 m c t 2 x k)))
    ((ld_part _ 3 _ x k).trans (blk0 m c t 3 x k)))
    ((ld_part _ 4 _ x k).trans (blk0 m c t 4 x k)))
    ((ld_part _ 5 _ x k).trans (blk0 m c t 5 x k)))
    ((ld_part _ 6 _ x k).trans (blk0 m c t 6 x k)))
    ((ld_part _ 7 _ x k).trans (blk0 m c t 7 x k)))

/-- The reference's sum. -/
theorem ref (g : S8x792x128.Idx → EReal) : Cert.SumDevicesRefIdeal.Read.val_main_v0 (F := Ideal) g = total g := by
  funext i
  unfold total
  rw [← Cert.SumDevicesRefIdeal.Read.val_main_v0_eq]
  pointwise

/-- The reference changes no argument and leaves no semaphore raised. -/
theorem frame_ref : Cert.quiescent_SumDevicesRefIdeal := fun m ρ _ =>
  (θ_run Cert.SumDevicesRefIdeal.defs _ _).mono (fun r h => ⟨fun c => (h c).2, sem_eq_zero_of_no_sems (by decide) r.2⟩)
    (Cert.SumDevicesRefIdeal.Value.run (F := Ideal) m ρ)

/-- The kernel's sum is the reference's. -/
theorem algebraic : Cert.algebraic_SumDevicesIdeal_SumDevicesRefIdeal := by
  intro m ρ m' ρ' hpre hagree
  refine ⟨_, (θ_run Cert.SumDevicesIdeal.defs _ _).mono (fun _ h c => ⟨(h c).1.trans (arr1 m c), (h c).2⟩)
      (Cert.SumDevicesIdeal.Value.run_blocks (F := Ideal) m ρ), ?_⟩
  refine (θ_run Cert.SumDevicesRefIdeal.defs _ _).mono (fun _ h c => ⟨(h c).1.trans ?_, (h c).2⟩)
      (Cert.SumDevicesRefIdeal.Value.run (F := Ideal) m' ρ')
  have h0 := hagree c
  rw [Cert.SumDevicesRefIdeal.Read.val_main_v0_eq, h0]
  exact ref _

end Cert.Proof.SumDevices

end
-- ==== Proof.Assemble.lean ====
/-
  The gradient of the mixers' input projection's columns, put together from the parts' gradients. No condition is needed.
-/
module

public import proofs.«01_k».proof.Defs
public import proofs.«01_k».proof.Proof.Gen.AssembleIdeal.Value
public import proofs.«01_k».proof.Proof.Gen.AssembleRefIdeal.Run
public import proofs.«01_k».proof.Proof.Gen.AssembleRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Claim
public import Idealize.ShloMosaic.Lib.StableHlo.ReadAt

@[expose] public section
noncomputable section

namespace Cert.Proof.Assemble
open Cert.AssembleIdeal Cert.AssembleIdeal.Gen Idealize.ShloMosaic Idealize.ShloMosaic.TcCoe Idealize.SL.Sem
open scoped BigOperators
variable (m : (ℓ : Loc nD τ sig) → Buf (Elt Ideal) ℓ)

/-- Window 0: rows of part 0. -/
theorem index0 : ∀ t : Fin cfg0.N, win0_0.index t = ![t.val, 0] := (by decide +kernel : ∀ t : Fin grid0.N, _)
/-- Window 1: rows of part 1. -/
theorem index1 : ∀ t : Fin cfg0.N, win0_1.index t = ![t.val, 0] := (by decide +kernel : ∀ t : Fin grid0.N, _)
/-- Window 2: rows of part 2. -/
theorem index2 : ∀ t : Fin cfg0.N, win0_2.index t = ![t.val, 0] := (by decide +kernel : ∀ t : Fin grid0.N, _)
/-- Window 3: rows of part 3. -/
theorem index3 : ∀ t : Fin cfg0.N, win0_3.index t = ![t.val, 0] := (by decide +kernel : ∀ t : Fin grid0.N, _)
/-- Window 4: rows of part 4. -/
theorem index4 : ∀ t : Fin cfg0.N, win0_4.index t = ![t.val, 0] := (by decide +kernel : ∀ t : Fin grid0.N, _)
/-- Window 5: rows of part 5. -/
theorem index5 : ∀ t : Fin cfg0.N, win0_5.index t = ![t.val, 0] := (by decide +kernel : ∀ t : Fin grid0.N, _)
/-- Window 6: rows of part 6. -/
theorem index6 : ∀ t : Fin cfg0.N, win0_6.index t = ![t.val, 0] := (by decide +kernel : ∀ t : Fin grid0.N, _)
/-- Window 7: rows of part 7. -/
theorem index7 : ∀ t : Fin cfg0.N, win0_7.index t = ![t.val, 0] := (by decide +kernel : ∀ t : Fin grid0.N, _)
/-- Window 8: rows of the gradient. -/
theorem index8 : ∀ t : Fin cfg0.N, win0_8.index t = ![t.val, 0] := (by decide +kernel : ∀ t : Fin grid0.N, _)

/-- A rectangle of whole rows, read over the pieces stored after it. -/
theorem canon_cols {off w : ℕ} (h : ∀ a, ![0, off] a + ![512, w] a ≤ S512x3072.size a)
    (p : (⟨2, ![512, w]⟩ : Shape).Idx → EReal) (L : List (View.Piece (Elt Ideal) S512x3072 .bf16)) (r : Fin 512) (j : Fin 3072) :
    View.canon (⟨Rect.unit (s := S512x3072) ![0, off] ![512, w] h, p⟩ :: L) (ix2 r j)
      = if hj : off ≤ j.val ∧ j.val < off + w then p (ix2 r ⟨j.val - off, by omega⟩) else View.canon L (ix2 r j) := by
  by_cases hj : off ≤ j.val ∧ j.val < off + w
  · rw [dif_pos hj]
    have e : (ix2 r j : S512x3072.Idx) = (Rect.unit (s := S512x3072) ![0, off] ![512, w] h).emb (ix2 r ⟨j.val - off, by omega⟩) :=
      funext fun a => Fin.ext (by
        match a with
        | ⟨0, _⟩ => show r.val = 0 + 1 * r.val; omega
        | ⟨1, _⟩ => show j.val = off + 1 * (j.val - off); omega)
    rw [e]
    exact View.canon_cons_emb _ _ _ _
  · rw [dif_neg hj]
    refine View.canon_cons_of_not_mem _ _ fun hm => hj ?_
    rw [Rect.mem_set_unit] at hm
    have := hm 1
    exact this

/-- The parts, side by side, and zeros after them. -/
def cols {n : ℕ} (x0 : (⟨2, ![n, 1024]⟩ : Shape).Idx → EReal) (x1 : (⟨2, ![n, 512]⟩ : Shape).Idx → EReal) (x2 : (⟨2, ![n, 256]⟩ : Shape).Idx → EReal) (x3 : (⟨2, ![n, 256]⟩ : Shape).Idx → EReal) (x4 : (⟨2, ![n, 256]⟩ : Shape).Idx → EReal) (x5 : (⟨2, ![n, 256]⟩ : Shape).Idx → EReal) (x6 : (⟨2, ![n, 256]⟩ : Shape).Idx → EReal) (x7 : (⟨2, ![n, 128]⟩ : Shape).Idx → EReal)
    (r : Fin n) (j : Fin 3072) : EReal :=
  if h0 : j.val < 1024 then x0 (ix2 r ⟨j.val - 0, by omega⟩)
  else if h1 : j.val < 1536 then x1 (ix2 r ⟨j.val - 1024, by omega⟩)
  else if h2 : j.val < 1792 then x2 (ix2 r ⟨j.val - 1536, by omega⟩)
  else if h3 : j.val < 2048 then x3 (ix2 r ⟨j.val - 1792, by omega⟩)
  else if h4 : j.val < 2304 then x4 (ix2 r ⟨j.val - 2048, by omega⟩)
  else if h5 : j.val < 2560 then x5 (ix2 r ⟨j.val - 2304, by omega⟩)
  else if h6 : j.val < 2816 then x6 (ix2 r ⟨j.val - 2560, by omega⟩)
  else if h7 : j.val < 2944 then x7 (ix2 r ⟨j.val - 2816, by omega⟩)
  else 0

/-- The part that is stored unrounded and the zeros. -/
theorem pay2_at (x : Vec Ideal S512x256 .f32) (i : S512x256.Idx) : k0_pay2 x i = x i := by
  unfold k0_pay2
  pointwise
/-- The last part. -/
theorem pay3_at (x : Vec Ideal S512x128 .f32) (i : S512x128.Idx) : k0_pay3 x i = x i := by
  unfold k0_pay3
  pointwise
/-- The zeros. -/
theorem pay1_at (i : S512x128.Idx) : k0_pay1 (F := Ideal) i = (0 : EReal) := by
  unfold k0_pay1
  pointwise

/-- What a block of the gradient holds. -/
theorem out_at (c : Dev nD) (t : Fin cfg0.N) (r : Fin 512) (j : Fin 3072) :
    outsAt0 m c t (ix2 r j) = cols (iblk m c 0 t) (iblk m c 1 t) (iblk m c 2 t) (iblk m c 3 t) (iblk m c 4 t) (iblk m c 5 t) (iblk m c 6 t) (iblk m c 7 t) r j := by
  unfold outsAt0 out0_A_8
  frame_out
  have hj := j.isLt
  repeat rw [canon_cols]
  simp only [pay1_at, pay2_at, pay3_at]
  unfold cols
  by_cases l0 : j.val < 1024
  · refine Eq.trans ?_ (dif_pos l0).symm
    repeat refine (dif_neg (by omega)).trans ?_
    exact (dif_pos (by omega)).trans rfl
  refine Eq.trans ?_ (dif_neg l0).symm
  by_cases l1 : j.val < 1536
  · refine Eq.trans ?_ (dif_pos l1).symm
    repeat refine (dif_neg (by omega)).trans ?_
    exact (dif_pos (by omega)).trans rfl
  refine Eq.trans ?_ (dif_neg l1).symm
  by_cases l2 : j.val < 1792
  · refine Eq.trans ?_ (dif_pos l2).symm
    repeat refine (dif_neg (by omega)).trans ?_
    exact (dif_pos (by omega)).trans rfl
  refine Eq.trans ?_ (dif_neg l2).symm
  by_cases l3 : j.val < 2048
  · refine Eq.trans ?_ (dif_pos l3).symm
    repeat refine (dif_neg (by omega)).trans ?_
    exact (dif_pos (by omega)).trans rfl
  refine Eq.trans ?_ (dif_neg l3).symm
  by_cases l4 : j.val < 2304
  · refine Eq.trans ?_ (dif_pos l4).symm
    repeat refine (dif_neg (by omega)).trans ?_
    exact (dif_pos (by omega)).trans rfl
  refine Eq.trans ?_ (dif_neg l4).symm
  by_cases l5 : j.val < 2560
  · refine Eq.trans ?_ (dif_pos l5).symm
    repeat refine (dif_neg (by omega)).trans ?_
    exact (dif_pos (by omega)).trans rfl
  refine Eq.trans ?_ (dif_neg l5).symm
  by_cases l6 : j.val < 2816
  · refine Eq.trans ?_ (dif_pos l6).symm
    repeat refine (dif_neg (by omega)).trans ?_
    exact (dif_pos (by omega)).trans rfl
  refine Eq.trans ?_ (dif_neg l6).symm
  by_cases l7 : j.val < 2944
  · refine Eq.trans ?_ (dif_pos l7).symm
    repeat refine (dif_neg (by omega)).trans ?_
    exact (dif_pos (by omega)).trans rfl
  refine Eq.trans ?_ (dif_neg l7).symm
  exact dif_pos (by omega)

/-- The row of the arrays that row `x` of the block of point `t` is. -/
def rowAt (t : Fin cfg0.N) (x : Fin 512) : Fin 8192 :=
  ⟨512 * t.val + x.val, by have := x.isLt; have ht : t.val < 16 := lt_of_lt_of_eq t.isLt (show cfg0.N = 16 from N_0); omega⟩

/-- What window 4 stages is the transpose of the attention's queries' gradient. -/
theorem V_v0 (c : Dev nD) (r : Fin 8192) (k : Fin 256) : V m c main_v0 (ix2 r k) = m (c.tc.loc main_arg4) (ix2 k r) := by
  unfold V
  after_reads_at

/-- What window 7 stages is the sum of the two gradients of the narrow columns. -/
theorem V_v1 (c : Dev nD) (i : S8192x128.Idx) : V m c main_v1 i
    = HAdd.hAdd (α := EReal) (β := EReal) (m (c.tc.loc main_arg7) i) (m (c.tc.loc main_arg8) i) := by
  unfold V
  after_reads_at

/-- An element of a block of window 0 is the array's. -/
theorem emb0 (t : Fin cfg0.N) (x : Fin 512) (k : Fin 1024) : (win0_0.blk t).view.emb (ix2 x k) = ix2 (rowAt t x) k := by
  unfold rowAt
  blk_ext [index0]

/-- An element of a block of window 1 is the array's. -/
theorem emb1 (t : Fin cfg0.N) (x : Fin 512) (k : Fin 512) : (win0_1.blk t).view.emb (ix2 x k) = ix2 (rowAt t x) k := by
  unfold rowAt
  blk_ext [index1]

/-- An element of a block of window 2 is the array's. -/
theorem emb2 (t : Fin cfg0.N) (x : Fin 512) (k : Fin 256) : (win0_2.blk t).view.emb (ix2 x k) = ix2 (rowAt t x) k := by
  unfold rowAt
  blk_ext [index2]

/-- An element of a block of window 3 is the array's. -/
theorem emb3 (t : Fin cfg0.N) (x : Fin 512) (k : Fin 256) : (win0_3.blk t).view.emb (ix2 x k) = ix2 (rowAt t x) k := by
  unfold rowAt
  blk_ext [index3]

/-- An element of a block of window 4 is the array's. -/
theorem emb4 (t : Fin cfg0.N) (x : Fin 512) (k : Fin 256) : (win0_4.blk t).view.emb (ix2 x k) = ix2 (rowAt t x) k := by
  unfold rowAt
  blk_ext [index4]

/-- An element of a block of window 5 is the array's. -/
theorem emb5 (t : Fin cfg0.N) (x : Fin 512) (k : Fin 256) : (win0_5.blk t).view.emb (ix2 x k) = ix2 (rowAt t x) k := by
  unfold rowAt
  blk_ext [index5]

/-- An element of a block of window 6 is the array's. -/
theorem emb6 (t : Fin cfg0.N) (x : Fin 512) (k : Fin 256) : (win0_6.blk t).view.emb (ix2 x k) = ix2 (rowAt t x) k := by
  unfold rowAt
  blk_ext [index6]

/-- An element of a block of window 7 is the array's. -/
theorem emb7 (t : Fin cfg0.N) (x : Fin 512) (k : Fin 128) : (win0_7.blk t).view.emb (ix2 x k) = ix2 (rowAt t x) k := by
  unfold rowAt
  blk_ext [index7]

/-- An element of a block of window 8 is the array's. -/
theorem emb8 (t : Fin cfg0.N) (x : Fin 512) (k : Fin 3072) : (win0_8.blk t).view.emb (ix2 x k) = ix2 (rowAt t x) k := by
  unfold rowAt
  blk_ext [index8]

/-- Part 0 in a block. -/
theorem blk0 (c : Dev nD) (t : Fin cfg0.N) (x : Fin 512) (k : Fin 1024) : iblk m c 0 t (ix2 x k) = m (c.tc.loc main_arg0) (ix2 (rowAt t x) k) := by
  blk_simp [iblk]
  rw [V_main_arg0, emb0]

/-- Part 1 in a block. -/
theorem blk1 (c : Dev nD) (t : Fin cfg0.N) (x : Fin 512) (k : Fin 512) : iblk m c 1 t (ix2 x k) = m (c.tc.loc main_arg1) (ix2 (rowAt t x) k) := by
  blk_simp [iblk]
  rw [V_main_arg1, emb1]

/-- Part 2 in a block. -/
theorem blk2 (c : Dev nD) (t : Fin cfg0.N) (x : Fin 512) (k : Fin 256) : iblk m c 2 t (ix2 x k) = m (c.tc.loc main_arg2) (ix2 (rowAt t x) k) := by
  blk_simp [iblk]
  rw [V_main_arg2, emb2]

/-- Part 3 in a block. -/
theorem blk3 (c : Dev nD) (t : Fin cfg0.N) (x : Fin 512) (k : Fin 256) : iblk m c 3 t (ix2 x k) = m (c.tc.loc main_arg3) (ix2 (rowAt t x) k) := by
  blk_simp [iblk]
  rw [V_main_arg3, emb3]

/-- Part 4 in a block. -/
theorem blk4 (c : Dev nD) (t : Fin cfg0.N) (x : Fin 512) (k : Fin 256) : iblk m c 4 t (ix2 x k) = m (c.tc.loc main_arg4) (ix2 k (rowAt t x)) := by
  blk_simp [iblk]
  rw [emb4, V_v0]

/-- Part 5 in a block. -/
theorem blk5 (c : Dev nD) (t : Fin cfg0.N) (x : Fin 512) (k : Fin 256) : iblk m c 5 t (ix2 x k) = m (c.tc.loc main_arg5) (ix2 (rowAt t x) k) := by
  blk_simp [iblk]
  rw [V_main_arg5, emb5]

/-- Part 6 in a block. -/
theorem blk6 (c : Dev nD) (t : Fin cfg0.N) (x : Fin 512) (k : Fin 256) : iblk m c 6 t (ix2 x k) = m (c.tc.loc main_arg6) (ix2 (rowAt t x) k) := by
  blk_simp [iblk]
  rw [V_main_arg6, emb6]

/-- Part 7 in a block. -/
theorem blk7 (c : Dev nD) (t : Fin cfg0.N) (x : Fin 512) (k : Fin 128) : iblk m c 7 t (ix2 x k) = HAdd.hAdd (α := EReal) (β := EReal) (m (c.tc.loc main_arg7) (ix2 (rowAt t x) k)) (m (c.tc.loc main_arg8) (ix2 (rowAt t x) k)) := by
  blk_simp [iblk]
  rw [emb7, V_v1]

/-- The gradient of the columns. -/
def grad (a0 : S8192x1024.Idx → EReal) (a1 : S8192x512.Idx → EReal) (a2 a3 : S8192x256.Idx → EReal) (a4 : S256x8192.Idx → EReal)
  (a5 a6 : S8192x256.Idx → EReal) (a7 a8 : S8192x128.Idx → EReal) (i : S8192x3072.Idx) : EReal :=
  cols a0 a1 a2 a3 (fun j => a4 (ix2 (j 1) (j 0))) a5 a6 (fun j => a7 j + a8 j) (i 0) (i 1)

/-- The gradient after the run. -/
theorem arr8 (c : Dev nD) : (dats m 0 c).arrAt 8 cfg0.N = grad (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8)) := by
  refine (dats m 0 c).arrAt_eq_of_covers 8 _ (by decide +kernel) fun t hf y => ?_
  blk_simp
  rw [after0_8]
  obtain ⟨x, k, rfl⟩ : ∃ (x : Fin 512) (k : Fin 3072), y = ix2 x k := ⟨y 0, y 1, eq_ix2 y⟩
  rw [emb8]
  refine (out_at m c t x k).trans ?_
  unfold grad cols
  simp only [blk0, blk1, blk2, blk3, blk4, blk5, blk6, blk7]
  rfl

/-- The reference's gradient. -/
theorem ref10 (a0 : S8192x1024.Idx → EReal) (a1 : S8192x512.Idx → EReal) (a2 a3 : S8192x256.Idx → EReal) (a4 : S256x8192.Idx → EReal)
  (a5 a6 : S8192x256.Idx → EReal) (a7 a8 : S8192x128.Idx → EReal) :
    Cert.AssembleRefIdeal.Read.val_main_v10 (F := Ideal) a0 a1 a2 a3 a4 a5 a6 a7 a8 = grad a0 a1 a2 a3 a4 a5 a6 a7 a8 := by
  funext i
  obtain ⟨r, j, rfl⟩ : ∃ (r : Fin 8192) (j : Fin 3072), i = ix2 r j := ⟨i 0, i 1, eq_ix2 i⟩
  rw [← Cert.AssembleRefIdeal.Read.val_main_v10_eq]
  pointwise
  have e : (FloatOps.sitofp (F := Ideal) FTy.f32 0#32 : EReal) = 0 := by
    show (((0#32 : BitVec 32).toInt : ℝ) : EReal) = 0
    simp
  have hj := j.isLt
  show _ = cols a0 a1 a2 a3 (fun j => a4 (ix2 (j 1) (j 0))) a5 a6 (fun j => a7 j + a8 j) r j
  unfold cols
  simp only [Nat.sub_sub, Nat.reduceAdd]
  by_cases l : j.val < 2944
  · rw [dif_pos l]
    repeat' refine dite_congr (propext ⟨fun _ => by omega, fun _ => by omega⟩) (fun _ => rfl) fun _ => ?_
    rw [dif_pos (by omega)]
  · rw [dif_neg l]
    refine e.trans ?_
    repeat rw [dif_neg (by omega)]

/-- The reference changes no argument and leaves no semaphore raised. -/
theorem frame_ref : Cert.quiescent_AssembleRefIdeal := fun m ρ _ =>
  (θ_run Cert.AssembleRefIdeal.defs _ _).mono (fun r h => ⟨fun c => (h c).2, sem_eq_zero_of_no_sems (by decide) r.2⟩)
    (Cert.AssembleRefIdeal.Value.run (F := Ideal) m ρ)

/-- The kernel's gradient is the reference's. -/
theorem algebraic : Cert.algebraic_AssembleIdeal_AssembleRefIdeal := by
  intro m ρ m' ρ' hpre hagree
  refine ⟨_, (θ_run Cert.AssembleIdeal.defs _ _).mono (fun _ h c => ⟨(h c).1.trans (arr8 m c), (h c).2⟩)
      (Cert.AssembleIdeal.Value.run_blocks (F := Ideal) m ρ), ?_⟩
  refine (θ_run Cert.AssembleRefIdeal.defs _ _).mono (fun _ h c => ⟨(h c).1.trans ?_, (h c).2⟩)
      (Cert.AssembleRefIdeal.Value.run (F := Ideal) m' ρ')
  obtain ⟨h0, h1, h2, h3, h4, h5, h6, h7, h8⟩ := hagree c
  rw [Cert.AssembleRefIdeal.Read.val_main_v10_eq, h0, h1, h2, h3, h4, h5, h6, h7, h8]
  exact ref10 _ _ _ _ _ _ _ _ _

end Cert.Proof.Assemble

end
-- ==== Proof.lean ====
/- The certificate: the claims of each call, put together from the modules beside this file. -/
module

public import proofs.«01_k».proof.Defs
public import proofs.«01_k».proof.Proof.Gen.FfnAct
public import proofs.«01_k».proof.Proof.Gen.FfnAct.Skeleton
public import proofs.«01_k».proof.Proof.Gen.FfnAct.Launch
public import proofs.«01_k».proof.Proof.Gen.FfnAct.Points
public import proofs.«01_k».proof.Proof.Gen.FfnAct.Frame
public import proofs.«01_k».proof.Proof.Gen.FfnActIdeal
public import proofs.«01_k».proof.Proof.Gen.FfnActIdeal.Skeleton
public import proofs.«01_k».proof.Proof.Gen.FfnActIdeal.Launch
public import proofs.«01_k».proof.Proof.Gen.FfnActIdeal.Points
public import proofs.«01_k».proof.Proof.Gen.FfnActIdeal.Frame
public import proofs.«01_k».proof.Proof.Gen.FfnActIdeal.Value
public import proofs.«01_k».proof.Proof.Gen.FfnActRefIdeal
public import proofs.«01_k».proof.Proof.Gen.FfnActRefIdeal.Run
public import proofs.«01_k».proof.Proof.Gen.FfnActRefIdeal.Read
public import proofs.«01_k».proof.Proof.Gen.FfnDwd
public import proofs.«01_k».proof.Proof.Gen.FfnDwd.Skeleton
public import proofs.«01_k».proof.Proof.Gen.FfnDwd.Launch
public import proofs.«01_k».proof.Proof.Gen.FfnDwd.Points
public import proofs.«01_k».proof.Proof.Gen.FfnDwd.Frame
public import proofs.«01_k».proof.Proof.Gen.FfnDwdIdeal
public import proofs.«01_k».proof.Proof.Gen.FfnDwdIdeal.Skeleton
public import proofs.«01_k».proof.Proof.Gen.FfnDwdIdeal.Launch
public import proofs.«01_k».proof.Proof.Gen.FfnDwdIdeal.Points
public import proofs.«01_k».proof.Proof.Gen.FfnDwdIdeal.Frame
public import proofs.«01_k».proof.Proof.Gen.FfnDwdIdeal.Value
public import proofs.«01_k».proof.Proof.Gen.FfnDwdRefIdeal
public import proofs.«01_k».proof.Proof.Gen.FfnDwdRefIdeal.Run
public import proofs.«01_k».proof.Proof.Gen.FfnDwdRefIdeal.Read
public import proofs.«01_k».proof.Proof.Gen.FfnDwg
public import proofs.«01_k».proof.Proof.Gen.FfnDwg.Skeleton
public import proofs.«01_k».proof.Proof.Gen.FfnDwg.Launch
public import proofs.«01_k».proof.Proof.Gen.FfnDwg.Points
public import proofs.«01_k».proof.Proof.Gen.FfnDwg.Frame
public import proofs.«01_k».proof.Proof.Gen.FfnDwgIdeal
public import proofs.«01_k».proof.Proof.Gen.FfnDwgIdeal.Skeleton
public import proofs.«01_k».proof.Proof.Gen.FfnDwgIdeal.Launch
public import proofs.«01_k».proof.Proof.Gen.FfnDwgIdeal.Points
public import proofs.«01_k».proof.Proof.Gen.FfnDwgIdeal.Frame
public import proofs.«01_k».proof.Proof.Gen.FfnDwgIdeal.Value
public import proofs.«01_k».proof.Proof.Gen.FfnDwgRefIdeal
public import proofs.«01_k».proof.Proof.Gen.FfnDwgRefIdeal.Run
public import proofs.«01_k».proof.Proof.Gen.FfnDwgRefIdeal.Read
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.Gen.FfnUpRefIdeal.Read
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.FfnDownRefIdeal.Read
public import proofs.«01_k».proof.Proof.Gen.LnBwd
public import proofs.«01_k».proof.Proof.Gen.LnBwd.Skeleton
public import proofs.«01_k».proof.Proof.Gen.LnBwd.Launch
public import proofs.«01_k».proof.Proof.Gen.LnBwd.Points
public import proofs.«01_k».proof.Proof.Gen.LnBwd.Frame
public import proofs.«01_k».proof.Proof.Gen.LnBwdIdeal
public import proofs.«01_k».proof.Proof.Gen.LnBwdIdeal.Skeleton
public import proofs.«01_k».proof.Proof.Gen.LnBwdIdeal.Launch
public import proofs.«01_k».proof.Proof.Gen.LnBwdIdeal.Points
public import proofs.«01_k».proof.Proof.Gen.LnBwdIdeal.Frame
public import proofs.«01_k».proof.Proof.Gen.LnBwdIdeal.Value
public import proofs.«01_k».proof.Proof.Gen.LnBwdRefIdeal
public import proofs.«01_k».proof.Proof.Gen.LnBwdRefIdeal.Run
public import proofs.«01_k».proof.Proof.Gen.LnBwdRefIdeal.Read
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwd.Frame
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InBwdIdeal.Value
public import proofs.«01_k».proof.Proof.Gen.InBwdRefIdeal
public import proofs.«01_k».proof.Proof.Gen.InBwdRefIdeal.Run
public import proofs.«01_k».proof.Proof.Gen.InBwdRefIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.InDw
public import proofs.«01_k».proof.Proof.Gen.InDw.Skeleton
public import proofs.«01_k».proof.Proof.Gen.InDw.Launch
public import proofs.«01_k».proof.Proof.Gen.InDw.Points
public import proofs.«01_k».proof.Proof.Gen.InDw.Frame
public import proofs.«01_k».proof.Proof.Gen.InDwIdeal
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.InDwIdeal.Value
public import proofs.«01_k».proof.Proof.Gen.InDwRefIdeal
public import proofs.«01_k».proof.Proof.Gen.InDwRefIdeal.Run
public import proofs.«01_k».proof.Proof.Gen.InDwRefIdeal.Read
public import proofs.«01_k».proof.Proof.Gen.Ln1Bwd
public import proofs.«01_k».proof.Proof.Gen.Ln1Bwd.Skeleton
public import proofs.«01_k».proof.Proof.Gen.Ln1Bwd.Launch
public import proofs.«01_k».proof.Proof.Gen.Ln1Bwd.Points
public import proofs.«01_k».proof.Proof.Gen.Ln1Bwd.Frame
public import proofs.«01_k».proof.Proof.Gen.Ln1BwdIdeal
public import proofs.«01_k».proof.Proof.Gen.Ln1BwdIdeal.Skeleton
public import proofs.«01_k».proof.Proof.Gen.Ln1BwdIdeal.Launch
public import proofs.«01_k».proof.Proof.Gen.Ln1BwdIdeal.Points
public import proofs.«01_k».proof.Proof.Gen.Ln1BwdIdeal.Frame
public import proofs.«01_k».proof.Proof.Gen.Ln1BwdIdeal.Value
public import proofs.«01_k».proof.Proof.Gen.Ln1BwdRefIdeal
public import proofs.«01_k».proof.Proof.Gen.Ln1BwdRefIdeal.Run
public import proofs.«01_k».proof.Proof.Gen.Ln1BwdRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.OutDwRefIdeal.Read
public import proofs.«01_k».proof.Proof.Gen.MixBwd
public import proofs.«01_k».proof.Proof.Gen.MixBwd.Skeleton
public import proofs.«01_k».proof.Proof.Gen.MixBwd.Launch
public import proofs.«01_k».proof.Proof.Gen.MixBwd.Points
public import proofs.«01_k».proof.Proof.Gen.MixBwd.Frame
public import proofs.«01_k».proof.Proof.Gen.MixBwdIdeal
public import proofs.«01_k».proof.Proof.Gen.MixBwdIdeal.Skeleton
public import proofs.«01_k».proof.Proof.Gen.MixBwdIdeal.Launch
public import proofs.«01_k».proof.Proof.Gen.MixBwdIdeal.Points
public import proofs.«01_k».proof.Proof.Gen.MixBwdIdeal.Frame
public import proofs.«01_k».proof.Proof.Gen.MixBwdIdeal.Value
public import proofs.«01_k».proof.Proof.Gen.MixBwdRefIdeal
public import proofs.«01_k».proof.Proof.Gen.MixBwdRefIdeal.Run
public import proofs.«01_k».proof.Proof.Gen.MixBwdRefIdeal.Read
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleIdeal.Value
public import proofs.«01_k».proof.Proof.Gen.PleRefIdeal
public import proofs.«01_k».proof.Proof.Gen.PleRefIdeal.Run
public import proofs.«01_k».proof.Proof.Gen.PleRefIdeal.Read
public import proofs.«01_k».proof.Proof.Gen.GateBwd
public import proofs.«01_k».proof.Proof.Gen.GateBwd.Skeleton
public import proofs.«01_k».proof.Proof.Gen.GateBwd.Launch
public import proofs.«01_k».proof.Proof.Gen.GateBwd.Points
public import proofs.«01_k».proof.Proof.Gen.GateBwd.Frame
public import proofs.«01_k».proof.Proof.Gen.GateBwdIdeal
public import proofs.«01_k».proof.Proof.Gen.GateBwdIdeal.Skeleton
public import proofs.«01_k».proof.Proof.Gen.GateBwdIdeal.Launch
public import proofs.«01_k».proof.Proof.Gen.GateBwdIdeal.Points
public import proofs.«01_k».proof.Proof.Gen.GateBwdIdeal.Frame
public import proofs.«01_k».proof.Proof.Gen.GateBwdIdeal.Value
public import proofs.«01_k».proof.Proof.Gen.GateBwdRefIdeal
public import proofs.«01_k».proof.Proof.Gen.GateBwdRefIdeal.Run
public import proofs.«01_k».proof.Proof.Gen.GateBwdRefIdeal.Read
public import proofs.«01_k».proof.Proof.Gen.ProjDw
public import proofs.«01_k».proof.Proof.Gen.ProjDw.Skeleton
public import proofs.«01_k».proof.Proof.Gen.ProjDw.Launch
public import proofs.«01_k».proof.Proof.Gen.ProjDw.Points
public import proofs.«01_k».proof.Proof.Gen.ProjDw.Frame
public import proofs.«01_k».proof.Proof.Gen.ProjDwIdeal
public import proofs.«01_k».proof.Proof.Gen.ProjDwIdeal.Skeleton
public import proofs.«01_k».proof.Proof.Gen.ProjDwIdeal.Launch
public import proofs.«01_k».proof.Proof.Gen.ProjDwIdeal.Points
public import proofs.«01_k».proof.Proof.Gen.ProjDwIdeal.Frame
public import proofs.«01_k».proof.Proof.Gen.ProjDwIdeal.Value
public import proofs.«01_k».proof.Proof.Gen.ProjDwRefIdeal
public import proofs.«01_k».proof.Proof.Gen.ProjDwRefIdeal.Run
public import proofs.«01_k».proof.Proof.Gen.ProjDwRefIdeal.Read
public import proofs.«01_k».proof.Proof.Gen.Ln3Bwd
public import proofs.«01_k».proof.Proof.Gen.Ln3Bwd.Skeleton
public import proofs.«01_k».proof.Proof.Gen.Ln3Bwd.Launch
public import proofs.«01_k».proof.Proof.Gen.Ln3Bwd.Points
public import proofs.«01_k».proof.Proof.Gen.Ln3Bwd.Frame
public import proofs.«01_k».proof.Proof.Gen.Ln3BwdIdeal
public import proofs.«01_k».proof.Proof.Gen.Ln3BwdIdeal.Skeleton
public import proofs.«01_k».proof.Proof.Gen.Ln3BwdIdeal.Launch
public import proofs.«01_k».proof.Proof.Gen.Ln3BwdIdeal.Points
public import proofs.«01_k».proof.Proof.Gen.Ln3BwdIdeal.Frame
public import proofs.«01_k».proof.Proof.Gen.Ln3BwdIdeal.Value
public import proofs.«01_k».proof.Proof.Gen.Ln3BwdRefIdeal
public import proofs.«01_k».proof.Proof.Gen.Ln3BwdRefIdeal.Run
public import proofs.«01_k».proof.Proof.Gen.Ln3BwdRefIdeal.Read
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpIdeal.Value
public import proofs.«01_k».proof.Proof.Gen.AdamUpRefIdeal
public import proofs.«01_k».proof.Proof.Gen.AdamUpRefIdeal.Run
public import proofs.«01_k».proof.Proof.Gen.AdamUpRefIdeal.Read
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamDownRefIdeal.Read
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Gen.AdamProj
public import proofs.«01_k».proof.Proof.Gen.AdamProj.Skeleton
public import proofs.«01_k».proof.Proof.Gen.AdamProj.Launch
public import proofs.«01_k».proof.Proof.Gen.AdamProj.Points
public import proofs.«01_k».proof.Proof.Gen.AdamProj.Frame
public import proofs.«01_k».proof.Proof.Gen.AdamProjIdeal
public import proofs.«01_k».proof.Proof.Gen.AdamProjIdeal.Skeleton
public import proofs.«01_k».proof.Proof.Gen.AdamProjIdeal.Launch
public import proofs.«01_k».proof.Proof.Gen.AdamProjIdeal.Points
public import proofs.«01_k».proof.Proof.Gen.AdamProjIdeal.Frame
public import proofs.«01_k».proof.Proof.Gen.AdamProjIdeal.Value
public import proofs.«01_k».proof.Proof.Gen.AdamProjRefIdeal
public import proofs.«01_k».proof.Proof.Gen.AdamProjRefIdeal.Run
public import proofs.«01_k».proof.Proof.Gen.AdamProjRefIdeal.Read
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.Gen.FoxPost
public import proofs.«01_k».proof.Proof.Gen.FoxPost.Skeleton
public import proofs.«01_k».proof.Proof.Gen.FoxPost.Launch
public import proofs.«01_k».proof.Proof.Gen.FoxPost.Points
public import proofs.«01_k».proof.Proof.Gen.FoxPost.Frame
public import proofs.«01_k».proof.Proof.Gen.FoxPostIdeal
public import proofs.«01_k».proof.Proof.Gen.FoxPostIdeal.Skeleton
public import proofs.«01_k».proof.Proof.Gen.FoxPostIdeal.Launch
public import proofs.«01_k».proof.Proof.Gen.FoxPostIdeal.Points
public import proofs.«01_k».proof.Proof.Gen.FoxPostIdeal.Frame
public import proofs.«01_k».proof.Proof.Gen.FoxPostIdeal.Value
public import proofs.«01_k».proof.Proof.Gen.FoxPostRefIdeal
public import proofs.«01_k».proof.Proof.Gen.FoxPostRefIdeal.Run
public import proofs.«01_k».proof.Proof.Gen.FoxPostRefIdeal.Read
public import proofs.«01_k».proof.Proof.Gen.FoxDelta
public import proofs.«01_k».proof.Proof.Gen.FoxDelta.Skeleton
public import proofs.«01_k».proof.Proof.Gen.FoxDelta.Launch
public import proofs.«01_k».proof.Proof.Gen.FoxDelta.Points
public import proofs.«01_k».proof.Proof.Gen.FoxDelta.Frame
public import proofs.«01_k».proof.Proof.Gen.FoxDeltaIdeal
public import proofs.«01_k».proof.Proof.Gen.FoxDeltaIdeal.Skeleton
public import proofs.«01_k».proof.Proof.Gen.FoxDeltaIdeal.Launch
public import proofs.«01_k».proof.Proof.Gen.FoxDeltaIdeal.Points
public import proofs.«01_k».proof.Proof.Gen.FoxDeltaIdeal.Frame
public import proofs.«01_k».proof.Proof.Gen.FoxDeltaIdeal.Value
public import proofs.«01_k».proof.Proof.Gen.FoxDeltaRefIdeal
public import proofs.«01_k».proof.Proof.Gen.FoxDeltaRefIdeal.Run
public import proofs.«01_k».proof.Proof.Gen.FoxDeltaRefIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.SumCoresUp
public import proofs.«01_k».proof.Proof.Gen.SumCoresUp.Skeleton
public import proofs.«01_k».proof.Proof.Gen.SumCoresUp.Launch
public import proofs.«01_k».proof.Proof.Gen.SumCoresUp.Points
public import proofs.«01_k».proof.Proof.Gen.SumCoresUp.Frame
public import proofs.«01_k».proof.Proof.Gen.SumCoresUpIdeal
public import proofs.«01_k».proof.Proof.Gen.SumCoresUpIdeal.Skeleton
public import proofs.«01_k».proof.Proof.Gen.SumCoresUpIdeal.Launch
public import proofs.«01_k».proof.Proof.Gen.SumCoresUpIdeal.Points
public import proofs.«01_k».proof.Proof.Gen.SumCoresUpIdeal.Frame
public import proofs.«01_k».proof.Proof.Gen.SumCoresUpIdeal.Value
public import proofs.«01_k».proof.Proof.Gen.SumCoresUpRefIdeal
public import proofs.«01_k».proof.Proof.Gen.SumCoresUpRefIdeal.Run
public import proofs.«01_k».proof.Proof.Gen.SumCoresUpRefIdeal.Read
public import proofs.«01_k».proof.Proof.Gen.SumChipsUp
public import proofs.«01_k».proof.Proof.Gen.SumChipsUp.Skeleton
public import proofs.«01_k».proof.Proof.Gen.SumChipsUp.Launch
public import proofs.«01_k».proof.Proof.Gen.SumChipsUp.Points
public import proofs.«01_k».proof.Proof.Gen.SumChipsUp.Frame
public import proofs.«01_k».proof.Proof.Gen.SumChipsUpIdeal
public import proofs.«01_k».proof.Proof.Gen.SumChipsUpIdeal.Skeleton
public import proofs.«01_k».proof.Proof.Gen.SumChipsUpIdeal.Launch
public import proofs.«01_k».proof.Proof.Gen.SumChipsUpIdeal.Points
public import proofs.«01_k».proof.Proof.Gen.SumChipsUpIdeal.Frame
public import proofs.«01_k».proof.Proof.Gen.SumChipsUpIdeal.Value
public import proofs.«01_k».proof.Proof.Gen.SumChipsUpRefIdeal
public import proofs.«01_k».proof.Proof.Gen.SumChipsUpRefIdeal.Run
public import proofs.«01_k».proof.Proof.Gen.SumChipsUpRefIdeal.Read
public import proofs.«01_k».proof.Proof.Gen.SumCoresDown
public import proofs.«01_k».proof.Proof.Gen.SumCoresDown.Skeleton
public import proofs.«01_k».proof.Proof.Gen.SumCoresDown.Launch
public import proofs.«01_k».proof.Proof.Gen.SumCoresDown.Points
public import proofs.«01_k».proof.Proof.Gen.SumCoresDown.Frame
public import proofs.«01_k».proof.Proof.Gen.SumCoresDownIdeal
public import proofs.«01_k».proof.Proof.Gen.SumCoresDownIdeal.Skeleton
public import proofs.«01_k».proof.Proof.Gen.SumCoresDownIdeal.Launch
public import proofs.«01_k».proof.Proof.Gen.SumCoresDownIdeal.Points
public import proofs.«01_k».proof.Proof.Gen.SumCoresDownIdeal.Frame
public import proofs.«01_k».proof.Proof.Gen.SumCoresDownIdeal.Value
public import proofs.«01_k».proof.Proof.Gen.SumCoresDownRefIdeal
public import proofs.«01_k».proof.Proof.Gen.SumCoresDownRefIdeal.Run
public import proofs.«01_k».proof.Proof.Gen.SumCoresDownRefIdeal.Read
public import proofs.«01_k».proof.Proof.Gen.SumChipsDown
public import proofs.«01_k».proof.Proof.Gen.SumChipsDown.Skeleton
public import proofs.«01_k».proof.Proof.Gen.SumChipsDown.Launch
public import proofs.«01_k».proof.Proof.Gen.SumChipsDown.Points
public import proofs.«01_k».proof.Proof.Gen.SumChipsDown.Frame
public import proofs.«01_k».proof.Proof.Gen.SumChipsDownIdeal
public import proofs.«01_k».proof.Proof.Gen.SumChipsDownIdeal.Skeleton
public import proofs.«01_k».proof.Proof.Gen.SumChipsDownIdeal.Launch
public import proofs.«01_k».proof.Proof.Gen.SumChipsDownIdeal.Points
public import proofs.«01_k».proof.Proof.Gen.SumChipsDownIdeal.Frame
public import proofs.«01_k».proof.Proof.Gen.SumChipsDownIdeal.Value
public import proofs.«01_k».proof.Proof.Gen.SumChipsDownRefIdeal
public import proofs.«01_k».proof.Proof.Gen.SumChipsDownRefIdeal.Run
public import proofs.«01_k».proof.Proof.Gen.SumChipsDownRefIdeal.Read
public import proofs.«01_k».proof.Proof.Gen.SumCoresOut
public import proofs.«01_k».proof.Proof.Gen.SumCoresOut.Skeleton
public import proofs.«01_k».proof.Proof.Gen.SumCoresOut.Launch
public import proofs.«01_k».proof.Proof.Gen.SumCoresOut.Points
public import proofs.«01_k».proof.Proof.Gen.SumCoresOut.Frame
public import proofs.«01_k».proof.Proof.Gen.SumCoresOutIdeal
public import proofs.«01_k».proof.Proof.Gen.SumCoresOutIdeal.Skeleton
public import proofs.«01_k».proof.Proof.Gen.SumCoresOutIdeal.Launch
public import proofs.«01_k».proof.Proof.Gen.SumCoresOutIdeal.Points
public import proofs.«01_k».proof.Proof.Gen.SumCoresOutIdeal.Frame
public import proofs.«01_k».proof.Proof.Gen.SumCoresOutIdeal.Value
public import proofs.«01_k».proof.Proof.Gen.SumCoresOutRefIdeal
public import proofs.«01_k».proof.Proof.Gen.SumCoresOutRefIdeal.Run
public import proofs.«01_k».proof.Proof.Gen.SumCoresOutRefIdeal.Read
public import proofs.«01_k».proof.Proof.Gen.SumChipsOut
public import proofs.«01_k».proof.Proof.Gen.SumChipsOut.Skeleton
public import proofs.«01_k».proof.Proof.Gen.SumChipsOut.Launch
public import proofs.«01_k».proof.Proof.Gen.SumChipsOut.Points
public import proofs.«01_k».proof.Proof.Gen.SumChipsOut.Frame
public import proofs.«01_k».proof.Proof.Gen.SumChipsOutIdeal
public import proofs.«01_k».proof.Proof.Gen.SumChipsOutIdeal.Skeleton
public import proofs.«01_k».proof.Proof.Gen.SumChipsOutIdeal.Launch
public import proofs.«01_k».proof.Proof.Gen.SumChipsOutIdeal.Points
public import proofs.«01_k».proof.Proof.Gen.SumChipsOutIdeal.Frame
public import proofs.«01_k».proof.Proof.Gen.SumChipsOutIdeal.Value
public import proofs.«01_k».proof.Proof.Gen.SumChipsOutRefIdeal
public import proofs.«01_k».proof.Proof.Gen.SumChipsOutRefIdeal.Run
public import proofs.«01_k».proof.Proof.Gen.SumChipsOutRefIdeal.Read
public import proofs.«01_k».proof.Proof.Gen.SumCoresProj
public import proofs.«01_k».proof.Proof.Gen.SumCoresProj.Skeleton
public import proofs.«01_k».proof.Proof.Gen.SumCoresProj.Launch
public import proofs.«01_k».proof.Proof.Gen.SumCoresProj.Points
public import proofs.«01_k».proof.Proof.Gen.SumCoresProj.Frame
public import proofs.«01_k».proof.Proof.Gen.SumCoresProjIdeal
public import proofs.«01_k».proof.Proof.Gen.SumCoresProjIdeal.Skeleton
public import proofs.«01_k».proof.Proof.Gen.SumCoresProjIdeal.Launch
public import proofs.«01_k».proof.Proof.Gen.SumCoresProjIdeal.Points
public import proofs.«01_k».proof.Proof.Gen.SumCoresProjIdeal.Frame
public import proofs.«01_k».proof.Proof.Gen.SumCoresProjIdeal.Value
public import proofs.«01_k».proof.Proof.Gen.SumCoresProjRefIdeal
public import proofs.«01_k».proof.Proof.Gen.SumCoresProjRefIdeal.Run
public import proofs.«01_k».proof.Proof.Gen.SumCoresProjRefIdeal.Read
public import proofs.«01_k».proof.Proof.Gen.SumChipsProj
public import proofs.«01_k».proof.Proof.Gen.SumChipsProj.Skeleton
public import proofs.«01_k».proof.Proof.Gen.SumChipsProj.Launch
public import proofs.«01_k».proof.Proof.Gen.SumChipsProj.Points
public import proofs.«01_k».proof.Proof.Gen.SumChipsProj.Frame
public import proofs.«01_k».proof.Proof.Gen.SumChipsProjIdeal
public import proofs.«01_k».proof.Proof.Gen.SumChipsProjIdeal.Skeleton
public import proofs.«01_k».proof.Proof.Gen.SumChipsProjIdeal.Launch
public import proofs.«01_k».proof.Proof.Gen.SumChipsProjIdeal.Points
public import proofs.«01_k».proof.Proof.Gen.SumChipsProjIdeal.Frame
public import proofs.«01_k».proof.Proof.Gen.SumChipsProjIdeal.Value
public import proofs.«01_k».proof.Proof.Gen.SumChipsProjRefIdeal
public import proofs.«01_k».proof.Proof.Gen.SumChipsProjRefIdeal.Run
public import proofs.«01_k».proof.Proof.Gen.SumChipsProjRefIdeal.Read
public import proofs.«01_k».proof.Proof.Gen.SumDevices
public import proofs.«01_k».proof.Proof.Gen.SumDevices.Skeleton
public import proofs.«01_k».proof.Proof.Gen.SumDevices.Launch
public import proofs.«01_k».proof.Proof.Gen.SumDevices.Points
public import proofs.«01_k».proof.Proof.Gen.SumDevices.Frame
public import proofs.«01_k».proof.Proof.Gen.SumDevicesIdeal
public import proofs.«01_k».proof.Proof.Gen.SumDevicesIdeal.Skeleton
public import proofs.«01_k».proof.Proof.Gen.SumDevicesIdeal.Launch
public import proofs.«01_k».proof.Proof.Gen.SumDevicesIdeal.Points
public import proofs.«01_k».proof.Proof.Gen.SumDevicesIdeal.Frame
public import proofs.«01_k».proof.Proof.Gen.SumDevicesIdeal.Value
public import proofs.«01_k».proof.Proof.Gen.SumDevicesRefIdeal
public import proofs.«01_k».proof.Proof.Gen.SumDevicesRefIdeal.Run
public import proofs.«01_k».proof.Proof.Gen.SumDevicesRefIdeal.Read
public import proofs.«01_k».proof.Proof.Gen.Assemble
public import proofs.«01_k».proof.Proof.Gen.Assemble.Skeleton
public import proofs.«01_k».proof.Proof.Gen.Assemble.Launch
public import proofs.«01_k».proof.Proof.Gen.Assemble.Points
public import proofs.«01_k».proof.Proof.Gen.Assemble.Frame
public import proofs.«01_k».proof.Proof.Gen.AssembleIdeal
public import proofs.«01_k».proof.Proof.Gen.AssembleIdeal.Skeleton
public import proofs.«01_k».proof.Proof.Gen.AssembleIdeal.Launch
public import proofs.«01_k».proof.Proof.Gen.AssembleIdeal.Points
public import proofs.«01_k».proof.Proof.Gen.AssembleIdeal.Frame
public import proofs.«01_k».proof.Proof.Gen.AssembleIdeal.Value
public import proofs.«01_k».proof.Proof.Gen.AssembleRefIdeal
public import proofs.«01_k».proof.Proof.Gen.AssembleRefIdeal.Run
public import proofs.«01_k».proof.Proof.Gen.AssembleRefIdeal.Read
public import proofs.«01_k».proof.Proof.Gen.Pre_ffn_act_finite
public import proofs.«01_k».proof.Proof.Gen.Pre_ln_bwd_finite
public import proofs.«01_k».proof.Proof.Gen.Pre_ln1_bwd_finite
public import proofs.«01_k».proof.Proof.Gen.Pre_ln3_bwd_finite
public import proofs.«01_k».proof.Proof.FfnAct
public import proofs.«01_k».proof.Proof.FfnDwd
public import proofs.«01_k».proof.Proof.FfnDwg
public import proofs.«01_k».proof.Proof.FfnUp
public import proofs.«01_k».proof.Proof.FfnDown
public import proofs.«01_k».proof.Proof.LnBwd
public import proofs.«01_k».proof.Proof.InBwd
public import proofs.«01_k».proof.Proof.InProj
public import proofs.«01_k».proof.Proof.InDw
public import proofs.«01_k».proof.Proof.Ln1Bwd
public import proofs.«01_k».proof.Proof.OutProj
public import proofs.«01_k».proof.Proof.OutDw
public import proofs.«01_k».proof.Proof.MixBwd
public import proofs.«01_k».proof.Proof.Ple
public import proofs.«01_k».proof.Proof.GateBwd
public import proofs.«01_k».proof.Proof.ProjDw
public import proofs.«01_k».proof.Proof.Ln3Bwd
public import proofs.«01_k».proof.Proof.AdamUp
public import proofs.«01_k».proof.Proof.AdamDown
public import proofs.«01_k».proof.Proof.AdamIn
public import proofs.«01_k».proof.Proof.AdamOut
public import proofs.«01_k».proof.Proof.AdamProj
public import proofs.«01_k».proof.Proof.AdamSmall
public import proofs.«01_k».proof.Proof.FoxPost
public import proofs.«01_k».proof.Proof.FoxDelta
public import proofs.«01_k».proof.Proof.Loss
public import proofs.«01_k».proof.Proof.SumCoresUp
public import proofs.«01_k».proof.Proof.SumChipsUp
public import proofs.«01_k».proof.Proof.SumCoresDown
public import proofs.«01_k».proof.Proof.SumChipsDown
public import proofs.«01_k».proof.Proof.SumCoresOut
public import proofs.«01_k».proof.Proof.SumChipsOut
public import proofs.«01_k».proof.Proof.SumCoresProj
public import proofs.«01_k».proof.Proof.SumChipsProj
public import proofs.«01_k».proof.Proof.SumDevices
public import proofs.«01_k».proof.Proof.Assemble
public import Idealize.ShloMosaic.Adequacy
public import Idealize.ShloMosaic.Init

@[expose] public section

noncomputable section

namespace Cert.Proof

open Idealize.ShloMosaic Idealize.SL.Sem

/-- All claims: the side conditions, the frames, then for each call that idealisation preserves it and its values. -/
theorem claim : Cert.Claim := ⟨
  Cert.FfnAct.Gen.facts, Cert.FfnActIdeal.Gen.facts, Cert.FfnActRefIdeal.Gen.facts,
  Cert.FfnDwd.Gen.facts, Cert.FfnDwdIdeal.Gen.facts, Cert.FfnDwdRefIdeal.Gen.facts,
  Cert.FfnDwg.Gen.facts, Cert.FfnDwgIdeal.Gen.facts, Cert.FfnDwgRefIdeal.Gen.facts,
  Cert.FfnUp.Gen.facts, Cert.FfnUpIdeal.Gen.facts, Cert.FfnUpRefIdeal.Gen.facts,
  Cert.FfnDown.Gen.facts, Cert.FfnDownIdeal.Gen.facts, Cert.FfnDownRefIdeal.Gen.facts,
  Cert.LnBwd.Gen.facts, Cert.LnBwdIdeal.Gen.facts, Cert.LnBwdRefIdeal.Gen.facts,
  Cert.InBwd.Gen.facts, Cert.InBwdIdeal.Gen.facts, Cert.InBwdRefIdeal.Gen.facts,
  Cert.InProj.Gen.facts, Cert.InProjIdeal.Gen.facts, Cert.InProjRefIdeal.Gen.facts,
  Cert.InDw.Gen.facts, Cert.InDwIdeal.Gen.facts, Cert.InDwRefIdeal.Gen.facts,
  Cert.Ln1Bwd.Gen.facts, Cert.Ln1BwdIdeal.Gen.facts, Cert.Ln1BwdRefIdeal.Gen.facts,
  Cert.OutProj.Gen.facts, Cert.OutProjIdeal.Gen.facts, Cert.OutProjRefIdeal.Gen.facts,
  Cert.OutDw.Gen.facts, Cert.OutDwIdeal.Gen.facts, Cert.OutDwRefIdeal.Gen.facts,
  Cert.MixBwd.Gen.facts, Cert.MixBwdIdeal.Gen.facts, Cert.MixBwdRefIdeal.Gen.facts,
  Cert.Ple.Gen.facts, Cert.PleIdeal.Gen.facts, Cert.PleRefIdeal.Gen.facts,
  Cert.GateBwd.Gen.facts, Cert.GateBwdIdeal.Gen.facts, Cert.GateBwdRefIdeal.Gen.facts,
  Cert.ProjDw.Gen.facts, Cert.ProjDwIdeal.Gen.facts, Cert.ProjDwRefIdeal.Gen.facts,
  Cert.Ln3Bwd.Gen.facts, Cert.Ln3BwdIdeal.Gen.facts, Cert.Ln3BwdRefIdeal.Gen.facts,
  Cert.AdamUp.Gen.facts, Cert.AdamUpIdeal.Gen.facts, Cert.AdamUpRefIdeal.Gen.facts,
  Cert.AdamDown.Gen.facts, Cert.AdamDownIdeal.Gen.facts, Cert.AdamDownRefIdeal.Gen.facts,
  Cert.AdamIn.Gen.facts, Cert.AdamInIdeal.Gen.facts, Cert.AdamInRefIdeal.Gen.facts,
  Cert.AdamOut.Gen.facts, Cert.AdamOutIdeal.Gen.facts, Cert.AdamOutRefIdeal.Gen.facts,
  Cert.AdamProj.Gen.facts, Cert.AdamProjIdeal.Gen.facts, Cert.AdamProjRefIdeal.Gen.facts,
  Cert.AdamSmall.Gen.facts, Cert.AdamSmallIdeal.Gen.facts, Cert.AdamSmallRefIdeal.Gen.facts,
  Cert.FoxPost.Gen.facts, Cert.FoxPostIdeal.Gen.facts, Cert.FoxPostRefIdeal.Gen.facts,
  Cert.FoxDelta.Gen.facts, Cert.FoxDeltaIdeal.Gen.facts, Cert.FoxDeltaRefIdeal.Gen.facts,
  Cert.Loss.Gen.facts, Cert.LossIdeal.Gen.facts, Cert.LossRefIdeal.Gen.facts,
  Cert.SumCoresUp.Gen.facts, Cert.SumCoresUpIdeal.Gen.facts, Cert.SumCoresUpRefIdeal.Gen.facts,
  Cert.SumChipsUp.Gen.facts, Cert.SumChipsUpIdeal.Gen.facts, Cert.SumChipsUpRefIdeal.Gen.facts,
  Cert.SumCoresDown.Gen.facts, Cert.SumCoresDownIdeal.Gen.facts, Cert.SumCoresDownRefIdeal.Gen.facts,
  Cert.SumChipsDown.Gen.facts, Cert.SumChipsDownIdeal.Gen.facts, Cert.SumChipsDownRefIdeal.Gen.facts,
  Cert.SumCoresOut.Gen.facts, Cert.SumCoresOutIdeal.Gen.facts, Cert.SumCoresOutRefIdeal.Gen.facts,
  Cert.SumChipsOut.Gen.facts, Cert.SumChipsOutIdeal.Gen.facts, Cert.SumChipsOutRefIdeal.Gen.facts,
  Cert.SumCoresProj.Gen.facts, Cert.SumCoresProjIdeal.Gen.facts, Cert.SumCoresProjRefIdeal.Gen.facts,
  Cert.SumChipsProj.Gen.facts, Cert.SumChipsProjIdeal.Gen.facts, Cert.SumChipsProjRefIdeal.Gen.facts,
  Cert.SumDevices.Gen.facts, Cert.SumDevicesIdeal.Gen.facts, Cert.SumDevicesRefIdeal.Gen.facts,
  Cert.Assemble.Gen.facts, Cert.AssembleIdeal.Gen.facts, Cert.AssembleRefIdeal.Gen.facts,
  Cert.Pre_ffn_act_finite.Gen.facts,
  Cert.Pre_ln_bwd_finite.Gen.facts,
  Cert.Pre_ln1_bwd_finite.Gen.facts,
  Cert.Pre_ln3_bwd_finite.Gen.facts,
  fun m ρ _ => Cert.FfnAct.Gen.frame m ρ,
  fun m ρ _ => Cert.FfnActIdeal.Gen.frame m ρ,
  fun m ρ _ => Cert.FfnActIdeal.Gen.frame m ρ,
  FfnAct.frame_ref,
  fun m ρ _ => FfnAct.frame_ref m ρ trivial,
  fun m ρ _ => Cert.FfnDwd.Gen.frame m ρ,
  fun m ρ _ => Cert.FfnDwdIdeal.Gen.frame m ρ,
  FfnDwd.frame_ref,
  fun m ρ _ => Cert.FfnDwg.Gen.frame m ρ,
  fun m ρ _ => Cert.FfnDwgIdeal.Gen.frame m ρ,
  FfnDwg.frame_ref,
  fun m ρ _ => Cert.FfnUp.Gen.frame m ρ,
  fun m ρ _ => Cert.FfnUpIdeal.Gen.frame m ρ,
  FfnUp.frame_ref,
  fun m ρ _ => Cert.FfnDown.Gen.frame m ρ,
  fun m ρ _ => Cert.FfnDownIdeal.Gen.frame m ρ,
  FfnDown.frame_ref,
  fun m ρ _ => Cert.LnBwd.Gen.frame m ρ,
  fun m ρ _ => Cert.LnBwdIdeal.Gen.frame m ρ,
  fun m ρ _ => Cert.LnBwdIdeal.Gen.frame m ρ,
  LnBwd.frame_ref,
  fun m ρ _ => LnBwd.frame_ref m ρ trivial,
  fun m ρ _ => Cert.InBwd.Gen.frame m ρ,
  fun m ρ _ => Cert.InBwdIdeal.Gen.frame m ρ,
  InBwd.frame_ref,
  fun m ρ _ => Cert.InProj.Gen.frame m ρ,
  fun m ρ _ => Cert.InProjIdeal.Gen.frame m ρ,
  InProj.frame_ref,
  fun m ρ _ => Cert.InDw.Gen.frame m ρ,
  fun m ρ _ => Cert.InDwIdeal.Gen.frame m ρ,
  InDw.frame_ref,
  fun m ρ _ => Cert.Ln1Bwd.Gen.frame m ρ,
  fun m ρ _ => Cert.Ln1BwdIdeal.Gen.frame m ρ,
  fun m ρ _ => Cert.Ln1BwdIdeal.Gen.frame m ρ,
  Ln1Bwd.frame_ref,
  fun m ρ _ => Ln1Bwd.frame_ref m ρ trivial,
  fun m ρ _ => Cert.OutProj.Gen.frame m ρ,
  fun m ρ _ => Cert.OutProjIdeal.Gen.frame m ρ,
  OutProj.frame_ref,
  fun m ρ _ => Cert.OutDw.Gen.frame m ρ,
  fun m ρ _ => Cert.OutDwIdeal.Gen.frame m ρ,
  OutDw.frame_ref,
  fun m ρ _ => Cert.MixBwd.Gen.frame m ρ,
  fun m ρ _ => Cert.MixBwdIdeal.Gen.frame m ρ,
  MixBwd.frame_ref,
  fun m ρ _ => Cert.Ple.Gen.frame m ρ,
  fun m ρ _ => Cert.PleIdeal.Gen.frame m ρ,
  Ple.frame_ref,
  fun m ρ _ => Cert.GateBwd.Gen.frame m ρ,
  fun m ρ _ => Cert.GateBwdIdeal.Gen.frame m ρ,
  GateBwd.frame_ref,
  fun m ρ _ => Cert.ProjDw.Gen.frame m ρ,
  fun m ρ _ => Cert.ProjDwIdeal.Gen.frame m ρ,
  ProjDw.frame_ref,
  fun m ρ _ => Cert.Ln3Bwd.Gen.frame m ρ,
  fun m ρ _ => Cert.Ln3BwdIdeal.Gen.frame m ρ,
  fun m ρ _ => Cert.Ln3BwdIdeal.Gen.frame m ρ,
  Ln3Bwd.frame_ref,
  fun m ρ _ => Ln3Bwd.frame_ref m ρ trivial,
  fun m ρ _ => Cert.AdamUp.Gen.frame m ρ,
  fun m ρ _ => Cert.AdamUpIdeal.Gen.frame m ρ,
  AdamUp.frame_ref,
  fun m ρ _ => Cert.AdamDown.Gen.frame m ρ,
  fun m ρ _ => Cert.AdamDownIdeal.Gen.frame m ρ,
  AdamDown.frame_ref,
  fun m ρ _ => Cert.AdamIn.Gen.frame m ρ,
  fun m ρ _ => Cert.AdamInIdeal.Gen.frame m ρ,
  AdamIn.frame_ref,
  fun m ρ _ => Cert.AdamOut.Gen.frame m ρ,
  fun m ρ _ => Cert.AdamOutIdeal.Gen.frame m ρ,
  AdamOut.frame_ref,
  fun m ρ _ => Cert.AdamProj.Gen.frame m ρ,
  fun m ρ _ => Cert.AdamProjIdeal.Gen.frame m ρ,
  AdamProj.frame_ref,
  fun m ρ _ => Cert.AdamSmall.Gen.frame m ρ,
  fun m ρ _ => Cert.AdamSmallIdeal.Gen.frame m ρ,
  AdamSmall.frame_ref,
  fun m ρ _ => Cert.FoxPost.Gen.frame m ρ,
  fun m ρ _ => Cert.FoxPostIdeal.Gen.frame m ρ,
  FoxPost.frame_ref,
  fun m ρ _ => Cert.FoxDelta.Gen.frame m ρ,
  fun m ρ _ => Cert.FoxDeltaIdeal.Gen.frame m ρ,
  FoxDelta.frame_ref,
  fun m ρ _ => Cert.Loss.Gen.frame m ρ,
  fun m ρ _ => Cert.LossIdeal.Gen.frame m ρ,
  Loss.frame_ref,
  fun m ρ _ => Cert.SumCoresUp.Gen.frame m ρ,
  fun m ρ _ => Cert.SumCoresUpIdeal.Gen.frame m ρ,
  SumCoresUp.frame_ref,
  fun m ρ _ => Cert.SumChipsUp.Gen.frame m ρ,
  fun m ρ _ => Cert.SumChipsUpIdeal.Gen.frame m ρ,
  SumChipsUp.frame_ref,
  fun m ρ _ => Cert.SumCoresDown.Gen.frame m ρ,
  fun m ρ _ => Cert.SumCoresDownIdeal.Gen.frame m ρ,
  SumCoresDown.frame_ref,
  fun m ρ _ => Cert.SumChipsDown.Gen.frame m ρ,
  fun m ρ _ => Cert.SumChipsDownIdeal.Gen.frame m ρ,
  SumChipsDown.frame_ref,
  fun m ρ _ => Cert.SumCoresOut.Gen.frame m ρ,
  fun m ρ _ => Cert.SumCoresOutIdeal.Gen.frame m ρ,
  SumCoresOut.frame_ref,
  fun m ρ _ => Cert.SumChipsOut.Gen.frame m ρ,
  fun m ρ _ => Cert.SumChipsOutIdeal.Gen.frame m ρ,
  SumChipsOut.frame_ref,
  fun m ρ _ => Cert.SumCoresProj.Gen.frame m ρ,
  fun m ρ _ => Cert.SumCoresProjIdeal.Gen.frame m ρ,
  SumCoresProj.frame_ref,
  fun m ρ _ => Cert.SumChipsProj.Gen.frame m ρ,
  fun m ρ _ => Cert.SumChipsProjIdeal.Gen.frame m ρ,
  SumChipsProj.frame_ref,
  fun m ρ _ => Cert.SumDevices.Gen.frame m ρ,
  fun m ρ _ => Cert.SumDevicesIdeal.Gen.frame m ρ,
  SumDevices.frame_ref,
  fun m ρ _ => Cert.Assemble.Gen.frame m ρ,
  fun m ρ _ => Cert.AssembleIdeal.Gen.frame m ρ,
  Assemble.frame_ref,
  trivial, FfnAct.algebraic,
  trivial, FfnDwd.algebraic,
  trivial, FfnDwg.algebraic,
  trivial, FfnUp.algebraic,
  trivial, FfnDown.algebraic,
  trivial, LnBwd.algebraic,
  trivial, InBwd.algebraic,
  trivial, InProj.algebraic,
  trivial, InDw.algebraic,
  trivial, Ln1Bwd.algebraic,
  trivial, OutProj.algebraic,
  trivial, OutDw.algebraic,
  trivial, MixBwd.algebraic,
  trivial, Ple.algebraic,
  trivial, GateBwd.algebraic,
  trivial, ProjDw.algebraic,
  trivial, Ln3Bwd.algebraic,
  trivial, AdamUp.algebraic,
  trivial, AdamDown.algebraic,
  trivial, AdamIn.algebraic,
  trivial, AdamOut.algebraic,
  trivial, AdamProj.algebraic,
  trivial, AdamSmall.algebraic,
  trivial, FoxPost.algebraic,
  trivial, FoxDelta.algebraic,
  trivial, Loss.algebraic,
  trivial, SumCoresUp.algebraic,
  trivial, SumChipsUp.algebraic,
  trivial, SumCoresDown.algebraic,
  trivial, SumChipsDown.algebraic,
  trivial, SumCoresOut.algebraic,
  trivial, SumChipsOut.algebraic,
  trivial, SumCoresProj.algebraic,
  trivial, SumChipsProj.algebraic,
  trivial, SumDevices.algebraic,
  trivial, Assemble.algebraic⟩

end Cert.Proof

end
